-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38)
      ∧ r.2.mem ((c.tc : Thread Cert.Kernel11.nD Cert.Kernel11.τ).loc Cert.Kernel11.main_arg39) = m ((c.tc : Thread Cert.Kernel11.nD Cert.Kernel11.τ).loc Cert.Kernel11.main_arg39)
      ∧ r.2.mem ((c.tc : Thread Cert.Kernel11.nD Cert.Kernel11.τ).loc Cert.Kernel11.main_arg40) = m ((c.tc : Thread Cert.Kernel11.nD Cert.Kernel11.τ).loc Cert.Kernel11.main_arg40)
      ∧ r.2.mem ((c.tc : Thread Cert.Kernel11.nD Cert.Kernel11.τ).loc Cert.Kernel11.main_arg41) = m ((c.tc : Thread Cert.Kernel11.nD Cert.Kernel11.τ).loc Cert.Kernel11.main_arg41)
      ∧ r.2.mem ((c.tc : Thread Cert.Kernel11.nD Cert.Kernel11.τ).loc Cert.Kernel11.main_arg42) = m ((c.tc : Thread Cert.Kernel11.nD Cert.Kernel11.τ).loc Cert.Kernel11.main_arg42)
      ∧ r.2.mem ((c.tc : Thread Cert.Kernel11.nD Cert.Kernel11.τ).loc Cert.Kernel11.main_arg43) = m ((c.tc : Thread Cert.Kernel11.nD Cert.Kernel11.τ).loc Cert.Kernel11.main_arg43)
      ∧ r.2.mem ((c.tc : Thread Cert.Kernel11.nD Cert.Kernel11.τ).loc Cert.Kernel11.main_arg44) = m ((c.tc : Thread Cert.Kernel11.nD Cert.Kernel11.τ).loc Cert.Kernel11.main_arg44)
      ∧ r.2.mem ((c.tc : Thread Cert.Kernel11.nD Cert.Kernel11.τ).loc Cert.Kernel11.main_arg45) = m ((c.tc : Thread Cert.Kernel11.nD Cert.Kernel11.τ).loc Cert.Kernel11.main_arg45)
      ∧ r.2.mem ((c.tc : Thread Cert.Kernel11.nD Cert.Kernel11.τ).loc Cert.Kernel11.main_arg46) = m ((c.tc : Thread Cert.Kernel11.nD Cert.Kernel11.τ).loc Cert.Kernel11.main_arg46)
      ∧ r.2.mem ((c.tc : Thread Cert.Kernel11.nD Cert.Kernel11.τ).loc Cert.Kernel11.main_arg47) = m ((c.tc : Thread Cert.Kernel11.nD Cert.Kernel11.τ).loc Cert.Kernel11.main_arg47)
      ∧ r.2.mem ((c.tc : Thread Cert.Kernel11.nD Cert.Kernel11.τ).loc Cert.Kernel11.main_arg48) = m ((c.tc : Thread Cert.Kernel11.nD Cert.Kernel11.τ).loc Cert.Kernel11.main_arg48)
      ∧ r.2.mem ((c.tc : Thread Cert.Kernel11.nD Cert.Kernel11.τ).loc Cert.Kernel11.main_arg49) = m ((c.tc : Thread Cert.Kernel11.nD Cert.Kernel11.τ).loc Cert.Kernel11.main_arg49)
      ∧ r.2.mem ((c.tc : Thread Cert.Kernel11.nD Cert.Kernel11.τ).loc Cert.Kernel11.main_arg50) = m ((c.tc : Thread Cert.Kernel11.nD Cert.Kernel11.τ).loc Cert.Kernel11.main_arg50)
      ∧ r.2.mem ((c.tc : Thread Cert.Kernel11.nD Cert.Kernel11.τ).loc Cert.Kernel11.main_arg51) = m ((c.tc : Thread Cert.Kernel11.nD Cert.Kernel11.τ).loc Cert.Kernel11.main_arg51)
      ∧ r.2.mem ((c.tc : Thread Cert.Kernel11.nD Cert.Kernel11.τ).loc Cert.Kernel11.main_arg52) = m ((c.tc : Thread Cert.Kernel11.nD Cert.Kernel11.τ).loc Cert.Kernel11.main_arg52)
      ∧ r.2.mem ((c.tc : Thread Cert.Kernel11.nD Cert.Kernel11.τ).loc Cert.Kernel11.main_arg53) = m ((c.tc : Thread Cert.Kernel11.nD Cert.Kernel11.τ).loc Cert.Kernel11.main_arg53)
      ∧ r.2.mem ((c.tc : Thread Cert.Kernel11.nD Cert.Kernel11.τ).loc Cert.Kernel11.main_arg54) = m ((c.tc : Thread Cert.Kernel11.nD Cert.Kernel11.τ).loc Cert.Kernel11.main_arg54)
      ∧ r.2.mem ((c.tc : Thread Cert.Kernel11.nD Cert.Kernel11.τ).loc Cert.Kernel11.main_arg55) = m ((c.tc : Thread Cert.Kernel11.nD Cert.Kernel11.τ).loc Cert.Kernel11.main_arg55)
      ∧ r.2.mem ((c.tc : Thread Cert.Kernel11.nD Cert.Kernel11.τ).loc Cert.Kernel11.main_arg56) = m ((c.tc : Thread Cert.Kernel11.nD Cert.Kernel11.τ).loc Cert.Kernel11.main_arg56)
      ∧ r.2.mem ((c.tc : Thread Cert.Kernel11.nD Cert.Kernel11.τ).loc Cert.Kernel11.main_arg57) = m ((c.tc : Thread Cert.Kernel11.nD Cert.Kernel11.τ).loc Cert.Kernel11.main_arg57)
      ∧ r.2.mem ((c.tc : Thread Cert.Kernel11.nD Cert.Kernel11.τ).loc Cert.Kernel11.main_arg58) = m ((c.tc : Thread Cert.Kernel11.nD Cert.Kernel11.τ).loc Cert.Kernel11.main_arg58)
      ∧ r.2.mem ((c.tc : Thread Cert.Kernel11.nD Cert.Kernel11.τ).loc Cert.Kernel11.main_arg59) = m ((c.tc : Thread Cert.Kernel11.nD Cert.Kernel11.τ).loc Cert.Kernel11.main_arg59))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
      ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
      ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
      ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
      ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
      ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
      ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
      ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
      ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
      ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
      ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
      ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
      ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
      ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
      ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
      ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
      ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51)
      ∧ r.2.mem ((c.tc : Thread Cert.Kernel11Ideal.nD Cert.Kernel11Ideal.τ).loc Cert.Kernel11Ideal.main_arg52) = m ((c.tc : Thread Cert.Kernel11Ideal.nD Cert.Kernel11Ideal.τ).loc Cert.Kernel11Ideal.main_arg52)
      ∧ r.2.mem ((c.tc : Thread Cert.Kernel11Ideal.nD Cert.Kernel11Ideal.τ).loc Cert.Kernel11Ideal.main_arg53) = m ((c.tc : Thread Cert.Kernel11Ideal.nD Cert.Kernel11Ideal.τ).loc Cert.Kernel11Ideal.main_arg53)
      ∧ r.2.mem ((c.tc : Thread Cert.Kernel11Ideal.nD Cert.Kernel11Ideal.τ).loc Cert.Kernel11Ideal.main_arg54) = m ((c.tc : Thread Cert.Kernel11Ideal.nD Cert.Kernel11Ideal.τ).loc Cert.Kernel11Ideal.main_arg54)
      ∧ r.2.mem ((c.tc : Thread Cert.Kernel11Ideal.nD Cert.Kernel11Ideal.τ).loc Cert.Kernel11Ideal.main_arg55) = m ((c.tc : Thread Cert.Kernel11Ideal.nD Cert.Kernel11Ideal.τ).loc Cert.Kernel11Ideal.main_arg55)
      ∧ r.2.mem ((c.tc : Thread Cert.Kernel11Ideal.nD Cert.Kernel11Ideal.τ).loc Cert.Kernel11Ideal.main_arg56) = m ((c.tc : Thread Cert.Kernel11Ideal.nD Cert.Kernel11Ideal.τ).loc Cert.Kernel11Ideal.main_arg56)
      ∧ r.2.mem ((c.tc : Thread Cert.Kernel11Ideal.nD Cert.Kernel11Ideal.τ).loc Cert.Kernel11Ideal.main_arg57) = m ((c.tc : Thread Cert.Kernel11Ideal.nD Cert.Kernel11Ideal.τ).loc Cert.Kernel11Ideal.main_arg57)
      ∧ r.2.mem ((c.tc : Thread Cert.Kernel11Ideal.nD Cert.Kernel11Ideal.τ).loc Cert.Kernel11Ideal.main_arg58) = m ((c.tc : Thread Cert.Kernel11Ideal.nD Cert.Kernel11Ideal.τ).loc Cert.Kernel11Ideal.main_arg58)
      ∧ r.2.mem ((c.tc : Thread Cert.Kernel11Ideal.nD Cert.Kernel11Ideal.τ).loc Cert.Kernel11Ideal.main_arg59) = m ((c.tc : Thread Cert.Kernel11Ideal.nD Cert.Kernel11Ideal.τ).loc Cert.Kernel11Ideal.main_arg59))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35)
      ∧ r.2.mem ((c.tc : Thread Cert.Reference11Ideal.nD Cert.Reference11Ideal.τ).loc Cert.Reference11Ideal.main_arg36) = m ((c.tc : Thread Cert.Reference11Ideal.nD Cert.Reference11Ideal.τ).loc Cert.Reference11Ideal.main_arg36)
      ∧ r.2.mem ((c.tc : Thread Cert.Reference11Ideal.nD Cert.Reference11Ideal.τ).loc Cert.Reference11Ideal.main_arg37) = m ((c.tc : Thread Cert.Reference11Ideal.nD Cert.Reference11Ideal.τ).loc Cert.Reference11Ideal.main_arg37)
      ∧ r.2.mem ((c.tc : Thread Cert.Reference11Ideal.nD Cert.Reference11Ideal.τ).loc Cert.Reference11Ideal.main_arg38) = m ((c.tc : Thread Cert.Reference11Ideal.nD Cert.Reference11Ideal.τ).loc Cert.Reference11Ideal.main_arg38)
      ∧ r.2.mem ((c.tc : Thread Cert.Reference11Ideal.nD Cert.Reference11Ideal.τ).loc Cert.Reference11Ideal.main_arg39) = m ((c.tc : Thread Cert.Reference11Ideal.nD Cert.Reference11Ideal.τ).loc Cert.Reference11Ideal.main_arg39)
      ∧ r.2.mem ((c.tc : Thread Cert.Reference11Ideal.nD Cert.Reference11Ideal.τ).loc Cert.Reference11Ideal.main_arg40) = m ((c.tc : Thread Cert.Reference11Ideal.nD Cert.Reference11Ideal.τ).loc Cert.Reference11Ideal.main_arg40)
      ∧ r.2.mem ((c.tc : Thread Cert.Reference11Ideal.nD Cert.Reference11Ideal.τ).loc Cert.Reference11Ideal.main_arg41) = m ((c.tc : Thread Cert.Reference11Ideal.nD Cert.Reference11Ideal.τ).loc Cert.Reference11Ideal.main_arg41)
      ∧ r.2.mem ((c.tc : Thread Cert.Reference11Ideal.nD Cert.Reference11Ideal.τ).loc Cert.Reference11Ideal.main_arg42) = m ((c.tc : Thread Cert.Reference11Ideal.nD Cert.Reference11Ideal.τ).loc Cert.Reference11Ideal.main_arg42)
      ∧ r.2.mem ((c.tc : Thread Cert.Reference11Ideal.nD Cert.Reference11Ideal.τ).loc Cert.Reference11Ideal.main_arg43) = m ((c.tc : Thread Cert.Reference11Ideal.nD Cert.Reference11Ideal.τ).loc Cert.Reference11Ideal.main_arg43)
      ∧ r.2.mem ((c.tc : Thread Cert.Reference11Ideal.nD Cert.Reference11Ideal.τ).loc Cert.Reference11Ideal.main_arg44) = m ((c.tc : Thread Cert.Reference11Ideal.nD Cert.Reference11Ideal.τ).loc Cert.Reference11Ideal.main_arg44)
      ∧ r.2.mem ((c.tc : Thread Cert.Reference11Ideal.nD Cert.Reference11Ideal.τ).loc Cert.Reference11Ideal.main_arg45) = m ((c.tc : Thread Cert.Reference11Ideal.nD Cert.Reference11Ideal.τ).loc Cert.Reference11Ideal.main_arg45)
      ∧ r.2.mem ((c.tc : Thread Cert.Reference11Ideal.nD Cert.Reference11Ideal.τ).loc Cert.Reference11Ideal.main_arg46) = m ((c.tc : Thread Cert.Reference11Ideal.nD Cert.Reference11Ideal.τ).loc Cert.Reference11Ideal.main_arg46)
      ∧ r.2.mem ((c.tc : Thread Cert.Reference11Ideal.nD Cert.Reference11Ideal.τ).loc Cert.Reference11Ideal.main_arg47) = m ((c.tc : Thread Cert.Reference11Ideal.nD Cert.Reference11Ideal.τ).loc Cert.Reference11Ideal.main_arg47)
      ∧ r.2.mem ((c.tc : Thread Cert.Reference11Ideal.nD Cert.Reference11Ideal.τ).loc Cert.Reference11Ideal.main_arg48) = m ((c.tc : Thread Cert.Reference11Ideal.nD Cert.Reference11Ideal.τ).loc Cert.Reference11Ideal.main_arg48)
      ∧ r.2.mem ((c.tc : Thread Cert.Reference11Ideal.nD Cert.Reference11Ideal.τ).loc Cert.Reference11Ideal.main_arg49) = m ((c.tc : Thread Cert.Reference11Ideal.nD Cert.Reference11Ideal.τ).loc Cert.Reference11Ideal.main_arg49)
      ∧ r.2.mem ((c.tc : Thread Cert.Reference11Ideal.nD Cert.Reference11Ideal.τ).loc Cert.Reference11Ideal.main_arg50) = m ((c.tc : Thread Cert.Reference11Ideal.nD Cert.Reference11Ideal.τ).loc Cert.Reference11Ideal.main_arg50)
      ∧ r.2.mem ((c.tc : Thread Cert.Reference11Ideal.nD Cert.Reference11Ideal.τ).loc Cert.Reference11Ideal.main_arg51) = m ((c.tc : Thread Cert.Reference11Ideal.nD Cert.Reference11Ideal.τ).loc Cert.Reference11Ideal.main_arg51)
      ∧ r.2.mem ((c.tc : Thread Cert.Reference11Ideal.nD Cert.Reference11Ideal.τ).loc Cert.Reference11Ideal.main_arg52) = m ((c.tc : Thread Cert.Reference11Ideal.nD Cert.Reference11Ideal.τ).loc Cert.Reference11Ideal.main_arg52)
      ∧ r.2.mem ((c.tc : Thread Cert.Reference11Ideal.nD Cert.Reference11Ideal.τ).loc Cert.Reference11Ideal.main_arg53) = m ((c.tc : Thread Cert.Reference11Ideal.nD Cert.Reference11Ideal.τ).loc Cert.Reference11Ideal.main_arg53)
      ∧ r.2.mem ((c.tc : Thread Cert.Reference11Ideal.nD Cert.Reference11Ideal.τ).loc Cert.Reference11Ideal.main_arg54) = m ((c.tc : Thread Cert.Reference11Ideal.nD Cert.Reference11Ideal.τ).loc Cert.Reference11Ideal.main_arg54)
      ∧ r.2.mem ((c.tc : Thread Cert.Reference11Ideal.nD Cert.Reference11Ideal.τ).loc Cert.Reference11Ideal.main_arg55) = m ((c.tc : Thread Cert.Reference11Ideal.nD Cert.Reference11Ideal.τ).loc Cert.Reference11Ideal.main_arg55)
      ∧ r.2.mem ((c.tc : Thread Cert.Reference11Ideal.nD Cert.Reference11Ideal.τ).loc Cert.Reference11Ideal.main_arg56) = m ((c.tc : Thread Cert.Reference11Ideal.nD Cert.Reference11Ideal.τ).loc Cert.Reference11Ideal.main_arg56)
      ∧ r.2.mem ((c.tc : Thread Cert.Reference11Ideal.nD Cert.Reference11Ideal.τ).loc Cert.Reference11Ideal.main_arg57) = m ((c.tc : Thread Cert.Reference11Ideal.nD Cert.Reference11Ideal.τ).loc Cert.Reference11Ideal.main_arg57)
      ∧ r.2.mem ((c.tc : Thread Cert.Reference11Ideal.nD Cert.Reference11Ideal.τ).loc Cert.Reference11Ideal.main_arg58) = m ((c.tc : Thread Cert.Reference11Ideal.nD Cert.Reference11Ideal.τ).loc Cert.Reference11Ideal.main_arg58)
      ∧ r.2.mem ((c.tc : Thread Cert.Reference11Ideal.nD Cert.Reference11Ideal.τ).loc Cert.Reference11Ideal.main_arg59) = m ((c.tc : Thread Cert.Reference11Ideal.nD Cert.Reference11Ideal.τ).loc Cert.Reference11Ideal.main_arg59))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v91_0)) (v2 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v91_0) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)
      ∧ m' ((c.tc : Thread Cert.Reference11Ideal.nD Cert.Reference11Ideal.τ).loc Cert.Reference11Ideal.main_arg36) = m ((c.tc : Thread Cert.Kernel11Ideal.nD Cert.Kernel11Ideal.τ).loc Cert.Kernel11Ideal.main_arg36)
      ∧ m' ((c.tc : Thread Cert.Reference11Ideal.nD Cert.Reference11Ideal.τ).loc Cert.Reference11Ideal.main_arg37) = m ((c.tc : Thread Cert.Kernel11Ideal.nD Cert.Kernel11Ideal.τ).loc Cert.Kernel11Ideal.main_arg37)
      ∧ m' ((c.tc : Thread Cert.Reference11Ideal.nD Cert.Reference11Ideal.τ).loc Cert.Reference11Ideal.main_arg38) = m ((c.tc : Thread Cert.Kernel11Ideal.nD Cert.Kernel11Ideal.τ).loc Cert.Kernel11Ideal.main_arg38)
      ∧ m' ((c.tc : Thread Cert.Reference11Ideal.nD Cert.Reference11Ideal.τ).loc Cert.Reference11Ideal.main_arg39) = m ((c.tc : Thread Cert.Kernel11Ideal.nD Cert.Kernel11Ideal.τ).loc Cert.Kernel11Ideal.main_arg39)
      ∧ m' ((c.tc : Thread Cert.Reference11Ideal.nD Cert.Reference11Ideal.τ).loc Cert.Reference11Ideal.main_arg40) = m ((c.tc : Thread Cert.Kernel11Ideal.nD Cert.Kernel11Ideal.τ).loc Cert.Kernel11Ideal.main_arg40)
      ∧ m' ((c.tc : Thread Cert.Reference11Ideal.nD Cert.Reference11Ideal.τ).loc Cert.Reference11Ideal.main_arg41) = m ((c.tc : Thread Cert.Kernel11Ideal.nD Cert.Kernel11Ideal.τ).loc Cert.Kernel11Ideal.main_arg41)
      ∧ m' ((c.tc : Thread Cert.Reference11Ideal.nD Cert.Reference11Ideal.τ).loc Cert.Reference11Ideal.main_arg42) = m ((c.tc : Thread Cert.Kernel11Ideal.nD Cert.Kernel11Ideal.τ).loc Cert.Kernel11Ideal.main_arg42)
      ∧ m' ((c.tc : Thread Cert.Reference11Ideal.nD Cert.Reference11Ideal.τ).loc Cert.Reference11Ideal.main_arg43) = m ((c.tc : Thread Cert.Kernel11Ideal.nD Cert.Kernel11Ideal.τ).loc Cert.Kernel11Ideal.main_arg43)
      ∧ m' ((c.tc : Thread Cert.Reference11Ideal.nD Cert.Reference11Ideal.τ).loc Cert.Reference11Ideal.main_arg44) = m ((c.tc : Thread Cert.Kernel11Ideal.nD Cert.Kernel11Ideal.τ).loc Cert.Kernel11Ideal.main_arg44)
      ∧ m' ((c.tc : Thread Cert.Reference11Ideal.nD Cert.Reference11Ideal.τ).loc Cert.Reference11Ideal.main_arg45) = m ((c.tc : Thread Cert.Kernel11Ideal.nD Cert.Kernel11Ideal.τ).loc Cert.Kernel11Ideal.main_arg45)
      ∧ m' ((c.tc : Thread Cert.Reference11Ideal.nD Cert.Reference11Ideal.τ).loc Cert.Reference11Ideal.main_arg46) = m ((c.tc : Thread Cert.Kernel11Ideal.nD Cert.Kernel11Ideal.τ).loc Cert.Kernel11Ideal.main_arg46)
      ∧ m' ((c.tc : Thread Cert.Reference11Ideal.nD Cert.Reference11Ideal.τ).loc Cert.Reference11Ideal.main_arg47) = m ((c.tc : Thread Cert.Kernel11Ideal.nD Cert.Kernel11Ideal.τ).loc Cert.Kernel11Ideal.main_arg47)
      ∧ m' ((c.tc : Thread Cert.Reference11Ideal.nD Cert.Reference11Ideal.τ).loc Cert.Reference11Ideal.main_arg48) = m ((c.tc : Thread Cert.Kernel11Ideal.nD Cert.Kernel11Ideal.τ).loc Cert.Kernel11Ideal.main_arg48)
      ∧ m' ((c.tc : Thread Cert.Reference11Ideal.nD Cert.Reference11Ideal.τ).loc Cert.Reference11Ideal.main_arg49) = m ((c.tc : Thread Cert.Kernel11Ideal.nD Cert.Kernel11Ideal.τ).loc Cert.Kernel11Ideal.main_arg49)
      ∧ m' ((c.tc : Thread Cert.Reference11Ideal.nD Cert.Reference11Ideal.τ).loc Cert.Reference11Ideal.main_arg50) = m ((c.tc : Thread Cert.Kernel11Ideal.nD Cert.Kernel11Ideal.τ).loc Cert.Kernel11Ideal.main_arg50)
      ∧ m' ((c.tc : Thread Cert.Reference11Ideal.nD Cert.Reference11Ideal.τ).loc Cert.Reference11Ideal.main_arg51) = m ((c.tc : Thread Cert.Kernel11Ideal.nD Cert.Kernel11Ideal.τ).loc Cert.Kernel11Ideal.main_arg51)
      ∧ m' ((c.tc : Thread Cert.Reference11Ideal.nD Cert.Reference11Ideal.τ).loc Cert.Reference11Ideal.main_arg52) = m ((c.tc : Thread Cert.Kernel11Ideal.nD Cert.Kernel11Ideal.τ).loc Cert.Kernel11Ideal.main_arg52)
      ∧ m' ((c.tc : Thread Cert.Reference11Ideal.nD Cert.Reference11Ideal.τ).loc Cert.Reference11Ideal.main_arg53) = m ((c.tc : Thread Cert.Kernel11Ideal.nD Cert.Kernel11Ideal.τ).loc Cert.Kernel11Ideal.main_arg53)
      ∧ m' ((c.tc : Thread Cert.Reference11Ideal.nD Cert.Reference11Ideal.τ).loc Cert.Reference11Ideal.main_arg54) = m ((c.tc : Thread Cert.Kernel11Ideal.nD Cert.Kernel11Ideal.τ).loc Cert.Kernel11Ideal.main_arg54)
      ∧ m' ((c.tc : Thread Cert.Reference11Ideal.nD Cert.Reference11Ideal.τ).loc Cert.Reference11Ideal.main_arg55) = m ((c.tc : Thread Cert.Kernel11Ideal.nD Cert.Kernel11Ideal.τ).loc Cert.Kernel11Ideal.main_arg55)
      ∧ m' ((c.tc : Thread Cert.Reference11Ideal.nD Cert.Reference11Ideal.τ).loc Cert.Reference11Ideal.main_arg56) = m ((c.tc : Thread Cert.Kernel11Ideal.nD Cert.Kernel11Ideal.τ).loc Cert.Kernel11Ideal.main_arg56)
      ∧ m' ((c.tc : Thread Cert.Reference11Ideal.nD Cert.Reference11Ideal.τ).loc Cert.Reference11Ideal.main_arg57) = m ((c.tc : Thread Cert.Kernel11Ideal.nD Cert.Kernel11Ideal.τ).loc Cert.Kernel11Ideal.main_arg57)
      ∧ m' ((c.tc : Thread Cert.Reference11Ideal.nD Cert.Reference11Ideal.τ).loc Cert.Reference11Ideal.main_arg58) = m ((c.tc : Thread Cert.Kernel11Ideal.nD Cert.Kernel11Ideal.τ).loc Cert.Kernel11Ideal.main_arg58)
      ∧ m' ((c.tc : Thread Cert.Reference11Ideal.nD Cert.Reference11Ideal.τ).loc Cert.Reference11Ideal.main_arg59) = m ((c.tc : Thread Cert.Kernel11Ideal.nD Cert.Kernel11Ideal.τ).loc Cert.Kernel11Ideal.main_arg59)) →
    ∃ (v0 : (c : Dev Cert.Kernel11Ideal.nD) → Buf (Elt Ideal) ((c.tc : Thread Cert.Kernel11Ideal.nD Cert.Kernel11Ideal.τ).loc Cert.Kernel11Ideal.main_v71)) (v1 : (c : Dev Cert.Kernel11Ideal.nD) → Buf (Elt Ideal) ((c.tc : Thread Cert.Kernel11Ideal.nD Cert.Kernel11Ideal.τ).loc Cert.Kernel11Ideal.main_v73)) (v2 : (c : Dev Cert.Kernel11Ideal.nD) → Buf (Elt Ideal) ((c.tc : Thread Cert.Kernel11Ideal.nD Cert.Kernel11Ideal.τ).loc Cert.Kernel11Ideal.main_v75)) (v3 : (c : Dev Cert.Kernel11Ideal.nD) → Buf (Elt Ideal) ((c.tc : Thread Cert.Kernel11Ideal.nD Cert.Kernel11Ideal.τ).loc Cert.Kernel11Ideal.main_v77)) (v4 : (c : Dev Cert.Kernel11Ideal.nD) → Buf (Elt Ideal) ((c.tc : Thread Cert.Kernel11Ideal.nD Cert.Kernel11Ideal.τ).loc Cert.Kernel11Ideal.main_v79)) (v5 : (c : Dev Cert.Kernel11Ideal.nD) → Buf (Elt Ideal) ((c.tc : Thread Cert.Kernel11Ideal.nD Cert.Kernel11Ideal.τ).loc Cert.Kernel11Ideal.main_v81)) (v6 : (c : Dev Cert.Kernel11Ideal.nD) → Buf (Elt Ideal) ((c.tc : Thread Cert.Kernel11Ideal.nD Cert.Kernel11Ideal.τ).loc Cert.Kernel11Ideal.main_v83)) (v7 : (c : Dev Cert.Kernel11Ideal.nD) → Buf (Elt Ideal) ((c.tc : Thread Cert.Kernel11Ideal.nD Cert.Kernel11Ideal.τ).loc Cert.Kernel11Ideal.main_v85)) (v8 : (c : Dev Cert.Kernel11Ideal.nD) → Buf (Elt Ideal) ((c.tc : Thread Cert.Kernel11Ideal.nD Cert.Kernel11Ideal.τ).loc Cert.Kernel11Ideal.main_v87)) (v9 : (c : Dev Cert.Kernel11Ideal.nD) → Buf (Elt Ideal) ((c.tc : Thread Cert.Kernel11Ideal.nD Cert.Kernel11Ideal.τ).loc Cert.Kernel11Ideal.main_v89)) (v10 : (c : Dev Cert.Kernel11Ideal.nD) → Buf (Elt Ideal) ((c.tc : Thread Cert.Kernel11Ideal.nD Cert.Kernel11Ideal.τ).loc Cert.Kernel11Ideal.main_v91)) (v11 : (c : Dev Cert.Kernel11Ideal.nD) → Buf (Elt Ideal) ((c.tc : Thread Cert.Kernel11Ideal.nD Cert.Kernel11Ideal.τ).loc Cert.Kernel11Ideal.main_v93)) (v12 : (c : Dev Cert.Kernel11Ideal.nD) → Buf (Elt Ideal) ((c.tc : Thread Cert.Kernel11Ideal.nD Cert.Kernel11Ideal.τ).loc Cert.Kernel11Ideal.main_v95)) (v13 : (c : Dev Cert.Kernel11Ideal.nD) → Buf (Elt Ideal) ((c.tc : Thread Cert.Kernel11Ideal.nD Cert.Kernel11Ideal.τ).loc Cert.Kernel11Ideal.main_v97)) (v14 : (c : Dev Cert.Kernel11Ideal.nD) → Buf (Elt Ideal) ((c.tc : Thread Cert.Kernel11Ideal.nD Cert.Kernel11Ideal.τ).loc Cert.Kernel11Ideal.main_v98)) (v15 : (c : Dev Cert.Kernel11Ideal.nD) → Buf (Elt Ideal) ((c.tc : Thread Cert.Kernel11Ideal.nD Cert.Kernel11Ideal.τ).loc Cert.Kernel11Ideal.main_v101)) (v16 : (c : Dev Cert.Kernel11Ideal.nD) → Buf (Elt Ideal) ((c.tc : Thread Cert.Kernel11Ideal.nD Cert.Kernel11Ideal.τ).loc Cert.Kernel11Ideal.main_v103)) (v17 : (c : Dev Cert.Kernel11Ideal.nD) → Buf (Elt Ideal) ((c.tc : Thread Cert.Kernel11Ideal.nD Cert.Kernel11Ideal.τ).loc Cert.Kernel11Ideal.main_v105)) (v18 : (c : Dev Cert.Kernel11Ideal.nD) → Buf (Elt Ideal) ((c.tc : Thread Cert.Kernel11Ideal.nD Cert.Kernel11Ideal.τ).loc Cert.Kernel11Ideal.main_v107)) (v19 : (c : Dev Cert.Kernel11Ideal.nD) → Buf (Elt Ideal) ((c.tc : Thread Cert.Kernel11Ideal.nD Cert.Kernel11Ideal.τ).loc Cert.Kernel11Ideal.main_v109)) (v20 : (c : Dev Cert.Kernel11Ideal.nD) → Buf (Elt Ideal) ((c.tc : Thread Cert.Kernel11Ideal.nD Cert.Kernel11Ideal.τ).loc Cert.Kernel11Ideal.main_v111)) (v21 : (c : Dev Cert.Kernel11Ideal.nD) → Buf (Elt Ideal) ((c.tc : Thread Cert.Kernel11Ideal.nD Cert.Kernel11Ideal.τ).loc Cert.Kernel11Ideal.main_v113)) (v22 : (c : Dev Cert.Kernel11Ideal.nD) → Buf (Elt Ideal) ((c.tc : Thread Cert.Kernel11Ideal.nD Cert.Kernel11Ideal.τ).loc Cert.Kernel11Ideal.main_v115)) (v23 : (c : Dev Cert.Kernel11Ideal.nD) → Buf (Elt Ideal) ((c.tc : Thread Cert.Kernel11Ideal.nD Cert.Kernel11Ideal.τ).loc Cert.Kernel11Ideal.main_v117)) (v24 : (c : Dev Cert.Kernel11Ideal.nD) → Buf (Elt Ideal) ((c.tc : Thread Cert.Kernel11Ideal.nD Cert.Kernel11Ideal.τ).loc Cert.Kernel11Ideal.main_v119)) (v25 : (c : Dev Cert.Kernel11Ideal.nD) → Buf (Elt Ideal) ((c.tc : Thread Cert.Kernel11Ideal.nD Cert.Kernel11Ideal.τ).loc Cert.Kernel11Ideal.main_v121)) (v26 : (c : Dev Cert.Kernel11Ideal.nD) → Buf (Elt Ideal) ((c.tc : Thread Cert.Kernel11Ideal.nD Cert.Kernel11Ideal.τ).loc Cert.Kernel11Ideal.main_v123)) (v27 : (c : Dev Cert.Kernel11Ideal.nD) → Buf (Elt Ideal) ((c.tc : Thread Cert.Kernel11Ideal.nD Cert.Kernel11Ideal.τ).loc Cert.Kernel11Ideal.main_v125)) (v28 : (c : Dev Cert.Kernel11Ideal.nD) → Buf (Elt Ideal) ((c.tc : Thread Cert.Kernel11Ideal.nD Cert.Kernel11Ideal.τ).loc Cert.Kernel11Ideal.main_v127)) (v29 : (c : Dev Cert.Kernel11Ideal.nD) → Buf (Elt Ideal) ((c.tc : Thread Cert.Kernel11Ideal.nD Cert.Kernel11Ideal.τ).loc Cert.Kernel11Ideal.main_v128)) (v30 : (c : Dev Cert.Kernel11Ideal.nD) → Buf (Elt Ideal) ((c.tc : Thread Cert.Kernel11Ideal.nD Cert.Kernel11Ideal.τ).loc Cert.Kernel11Ideal.main_v131)) (v31 : (c : Dev Cert.Kernel11Ideal.nD) → Buf (Elt Ideal) ((c.tc : Thread Cert.Kernel11Ideal.nD Cert.Kernel11Ideal.τ).loc Cert.Kernel11Ideal.main_v133)) (v32 : (c : Dev Cert.Kernel11Ideal.nD) → Buf (Elt Ideal) ((c.tc : Thread Cert.Kernel11Ideal.nD Cert.Kernel11Ideal.τ).loc Cert.Kernel11Ideal.main_v135)) (v33 : (c : Dev Cert.Kernel11Ideal.nD) → Buf (Elt Ideal) ((c.tc : Thread Cert.Kernel11Ideal.nD Cert.Kernel11Ideal.τ).loc Cert.Kernel11Ideal.main_v137)) (v34 : (c : Dev Cert.Kernel11Ideal.nD) → Buf (Elt Ideal) ((c.tc : Thread Cert.Kernel11Ideal.nD Cert.Kernel11Ideal.τ).loc Cert.Kernel11Ideal.main_v139)) (v35 : (c : Dev Cert.Kernel11Ideal.nD) → Buf (Elt Ideal) ((c.tc : Thread Cert.Kernel11Ideal.nD Cert.Kernel11Ideal.τ).loc Cert.Kernel11Ideal.main_v141)) (v36 : (c : Dev Cert.Kernel11Ideal.nD) → Buf (Elt Ideal) ((c.tc : Thread Cert.Kernel11Ideal.nD Cert.Kernel11Ideal.τ).loc Cert.Kernel11Ideal.main_v143)) (v37 : (c : Dev Cert.Kernel11Ideal.nD) → Buf (Elt Ideal) ((c.tc : Thread Cert.Kernel11Ideal.nD Cert.Kernel11Ideal.τ).loc Cert.Kernel11Ideal.main_v145)) (v38 : (c : Dev Cert.Kernel11Ideal.nD) → Buf (Elt Ideal) ((c.tc : Thread Cert.Kernel11Ideal.nD Cert.Kernel11Ideal.τ).loc Cert.Kernel11Ideal.main_v147)) (v39 : (c : Dev Cert.Kernel11Ideal.nD) → Buf (Elt Ideal) ((c.tc : Thread Cert.Kernel11Ideal.nD Cert.Kernel11Ideal.τ).loc Cert.Kernel11Ideal.main_v149)) (v40 : (c : Dev Cert.Kernel11Ideal.nD) → Buf (Elt Ideal) ((c.tc : Thread Cert.Kernel11Ideal.nD Cert.Kernel11Ideal.τ).loc Cert.Kernel11Ideal.main_v151)) (v41 : (c : Dev Cert.Kernel11Ideal.nD) → Buf (Elt Ideal) ((c.tc : Thread Cert.Kernel11Ideal.nD Cert.Kernel11Ideal.τ).loc Cert.Kernel11Ideal.main_v153)) (v42 : (c : Dev Cert.Kernel11Ideal.nD) → Buf (Elt Ideal) ((c.tc : Thread Cert.Kernel11Ideal.nD Cert.Kernel11Ideal.τ).loc Cert.Kernel11Ideal.main_v155)) (v43 : (c : Dev Cert.Kernel11Ideal.nD) → Buf (Elt Ideal) ((c.tc : Thread Cert.Kernel11Ideal.nD Cert.Kernel11Ideal.τ).loc Cert.Kernel11Ideal.main_v157)) (v44 : (c : Dev Cert.Kernel11Ideal.nD) → Buf (Elt Ideal) ((c.tc : Thread Cert.Kernel11Ideal.nD Cert.Kernel11Ideal.τ).loc Cert.Kernel11Ideal.main_v158)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v71) = v0 c
          ∧ r.2.mem ((c.tc : Thread Cert.Kernel11Ideal.nD Cert.Kernel11Ideal.τ).loc Cert.Kernel11Ideal.main_v73) = v1 c
          ∧ r.2.mem ((c.tc : Thread Cert.Kernel11Ideal.nD Cert.Kernel11Ideal.τ).loc Cert.Kernel11Ideal.main_v75) = v2 c
          ∧ r.2.mem ((c.tc : Thread Cert.Kernel11Ideal.nD Cert.Kernel11Ideal.τ).loc Cert.Kernel11Ideal.main_v77) = v3 c
          ∧ r.2.mem ((c.tc : Thread Cert.Kernel11Ideal.nD Cert.Kernel11Ideal.τ).loc Cert.Kernel11Ideal.main_v79) = v4 c
          ∧ r.2.mem ((c.tc : Thread Cert.Kernel11Ideal.nD Cert.Kernel11Ideal.τ).loc Cert.Kernel11Ideal.main_v81) = v5 c
          ∧ r.2.mem ((c.tc : Thread Cert.Kernel11Ideal.nD Cert.Kernel11Ideal.τ).loc Cert.Kernel11Ideal.main_v83) = v6 c
          ∧ r.2.mem ((c.tc : Thread Cert.Kernel11Ideal.nD Cert.Kernel11Ideal.τ).loc Cert.Kernel11Ideal.main_v85) = v7 c
          ∧ r.2.mem ((c.tc : Thread Cert.Kernel11Ideal.nD Cert.Kernel11Ideal.τ).loc Cert.Kernel11Ideal.main_v87) = v8 c
          ∧ r.2.mem ((c.tc : Thread Cert.Kernel11Ideal.nD Cert.Kernel11Ideal.τ).loc Cert.Kernel11Ideal.main_v89) = v9 c
          ∧ r.2.mem ((c.tc : Thread Cert.Kernel11Ideal.nD Cert.Kernel11Ideal.τ).loc Cert.Kernel11Ideal.main_v91) = v10 c
          ∧ r.2.mem ((c.tc : Thread Cert.Kernel11Ideal.nD Cert.Kernel11Ideal.τ).loc Cert.Kernel11Ideal.main_v93) = v11 c
          ∧ r.2.mem ((c.tc : Thread Cert.Kernel11Ideal.nD Cert.Kernel11Ideal.τ).loc Cert.Kernel11Ideal.main_v95) = v12 c
          ∧ r.2.mem ((c.tc : Thread Cert.Kernel11Ideal.nD Cert.Kernel11Ideal.τ).loc Cert.Kernel11Ideal.main_v97) = v13 c
          ∧ r.2.mem ((c.tc : Thread Cert.Kernel11Ideal.nD Cert.Kernel11Ideal.τ).loc Cert.Kernel11Ideal.main_v98) = v14 c
          ∧ r.2.mem ((c.tc : Thread Cert.Kernel11Ideal.nD Cert.Kernel11Ideal.τ).loc Cert.Kernel11Ideal.main_v101) = v15 c
          ∧ r.2.mem ((c.tc : Thread Cert.Kernel11Ideal.nD Cert.Kernel11Ideal.τ).loc Cert.Kernel11Ideal.main_v103) = v16 c
          ∧ r.2.mem ((c.tc : Thread Cert.Kernel11Ideal.nD Cert.Kernel11Ideal.τ).loc Cert.Kernel11Ideal.main_v105) = v17 c
          ∧ r.2.mem ((c.tc : Thread Cert.Kernel11Ideal.nD Cert.Kernel11Ideal.τ).loc Cert.Kernel11Ideal.main_v107) = v18 c
          ∧ r.2.mem ((c.tc : Thread Cert.Kernel11Ideal.nD Cert.Kernel11Ideal.τ).loc Cert.Kernel11Ideal.main_v109) = v19 c
          ∧ r.2.mem ((c.tc : Thread Cert.Kernel11Ideal.nD Cert.Kernel11Ideal.τ).loc Cert.Kernel11Ideal.main_v111) = v20 c
          ∧ r.2.mem ((c.tc : Thread Cert.Kernel11Ideal.nD Cert.Kernel11Ideal.τ).loc Cert.Kernel11Ideal.main_v113) = v21 c
          ∧ r.2.mem ((c.tc : Thread Cert.Kernel11Ideal.nD Cert.Kernel11Ideal.τ).loc Cert.Kernel11Ideal.main_v115) = v22 c
          ∧ r.2.mem ((c.tc : Thread Cert.Kernel11Ideal.nD Cert.Kernel11Ideal.τ).loc Cert.Kernel11Ideal.main_v117) = v23 c
          ∧ r.2.mem ((c.tc : Thread Cert.Kernel11Ideal.nD Cert.Kernel11Ideal.τ).loc Cert.Kernel11Ideal.main_v119) = v24 c
          ∧ r.2.mem ((c.tc : Thread Cert.Kernel11Ideal.nD Cert.Kernel11Ideal.τ).loc Cert.Kernel11Ideal.main_v121) = v25 c
          ∧ r.2.mem ((c.tc : Thread Cert.Kernel11Ideal.nD Cert.Kernel11Ideal.τ).loc Cert.Kernel11Ideal.main_v123) = v26 c
          ∧ r.2.mem ((c.tc : Thread Cert.Kernel11Ideal.nD Cert.Kernel11Ideal.τ).loc Cert.Kernel11Ideal.main_v125) = v27 c
          ∧ r.2.mem ((c.tc : Thread Cert.Kernel11Ideal.nD Cert.Kernel11Ideal.τ).loc Cert.Kernel11Ideal.main_v127) = v28 c
          ∧ r.2.mem ((c.tc : Thread Cert.Kernel11Ideal.nD Cert.Kernel11Ideal.τ).loc Cert.Kernel11Ideal.main_v128) = v29 c
          ∧ r.2.mem ((c.tc : Thread Cert.Kernel11Ideal.nD Cert.Kernel11Ideal.τ).loc Cert.Kernel11Ideal.main_v131) = v30 c
          ∧ r.2.mem ((c.tc : Thread Cert.Kernel11Ideal.nD Cert.Kernel11Ideal.τ).loc Cert.Kernel11Ideal.main_v133) = v31 c
          ∧ r.2.mem ((c.tc : Thread Cert.Kernel11Ideal.nD Cert.Kernel11Ideal.τ).loc Cert.Kernel11Ideal.main_v135) = v32 c
          ∧ r.2.mem ((c.tc : Thread Cert.Kernel11Ideal.nD Cert.Kernel11Ideal.τ).loc Cert.Kernel11Ideal.main_v137) = v33 c
          ∧ r.2.mem ((c.tc : Thread Cert.Kernel11Ideal.nD Cert.Kernel11Ideal.τ).loc Cert.Kernel11Ideal.main_v139) = v34 c
          ∧ r.2.mem ((c.tc : Thread Cert.Kernel11Ideal.nD Cert.Kernel11Ideal.τ).loc Cert.Kernel11Ideal.main_v141) = v35 c
          ∧ r.2.mem ((c.tc : Thread Cert.Kernel11Ideal.nD Cert.Kernel11Ideal.τ).loc Cert.Kernel11Ideal.main_v143) = v36 c
          ∧ r.2.mem ((c.tc : Thread Cert.Kernel11Ideal.nD Cert.Kernel11Ideal.τ).loc Cert.Kernel11Ideal.main_v145) = v37 c
          ∧ r.2.mem ((c.tc : Thread Cert.Kernel11Ideal.nD Cert.Kernel11Ideal.τ).loc Cert.Kernel11Ideal.main_v147) = v38 c
          ∧ r.2.mem ((c.tc : Thread Cert.Kernel11Ideal.nD Cert.Kernel11Ideal.τ).loc Cert.Kernel11Ideal.main_v149) = v39 c
          ∧ r.2.mem ((c.tc : Thread Cert.Kernel11Ideal.nD Cert.Kernel11Ideal.τ).loc Cert.Kernel11Ideal.main_v151) = v40 c
          ∧ r.2.mem ((c.tc : Thread Cert.Kernel11Ideal.nD Cert.Kernel11Ideal.τ).loc Cert.Kernel11Ideal.main_v153) = v41 c
          ∧ r.2.mem ((c.tc : Thread Cert.Kernel11Ideal.nD Cert.Kernel11Ideal.τ).loc Cert.Kernel11Ideal.main_v155) = v42 c
          ∧ r.2.mem ((c.tc : Thread Cert.Kernel11Ideal.nD Cert.Kernel11Ideal.τ).loc Cert.Kernel11Ideal.main_v157) = v43 c
          ∧ r.2.mem ((c.tc : Thread Cert.Kernel11Ideal.nD Cert.Kernel11Ideal.τ).loc Cert.Kernel11Ideal.main_v158) = v44 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
          ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
          ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
          ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
          ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
          ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
          ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
          ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
          ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
          ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
          ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
          ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
          ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
          ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
          ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
          ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
          ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51)
          ∧ r.2.mem ((c.tc : Thread Cert.Kernel11Ideal.nD Cert.Kernel11Ideal.τ).loc Cert.Kernel11Ideal.main_arg52) = m ((c.tc : Thread Cert.Kernel11Ideal.nD Cert.Kernel11Ideal.τ).loc Cert.Kernel11Ideal.main_arg52)
          ∧ r.2.mem ((c.tc : Thread Cert.Kernel11Ideal.nD Cert.Kernel11Ideal.τ).loc Cert.Kernel11Ideal.main_arg53) = m ((c.tc : Thread Cert.Kernel11Ideal.nD Cert.Kernel11Ideal.τ).loc Cert.Kernel11Ideal.main_arg53)
          ∧ r.2.mem ((c.tc : Thread Cert.Kernel11Ideal.nD Cert.Kernel11Ideal.τ).loc Cert.Kernel11Ideal.main_arg54) = m ((c.tc : Thread Cert.Kernel11Ideal.nD Cert.Kernel11Ideal.τ).loc Cert.Kernel11Ideal.main_arg54)
          ∧ r.2.mem ((c.tc : Thread Cert.Kernel11Ideal.nD Cert.Kernel11Ideal.τ).loc Cert.Kernel11Ideal.main_arg55) = m ((c.tc : Thread Cert.Kernel11Ideal.nD Cert.Kernel11Ideal.τ).loc Cert.Kernel11Ideal.main_arg55)
          ∧ r.2.mem ((c.tc : Thread Cert.Kernel11Ideal.nD Cert.Kernel11Ideal.τ).loc Cert.Kernel11Ideal.main_arg56) = m ((c.tc : Thread Cert.Kernel11Ideal.nD Cert.Kernel11Ideal.τ).loc Cert.Kernel11Ideal.main_arg56)
          ∧ r.2.mem ((c.tc : Thread Cert.Kernel11Ideal.nD Cert.Kernel11Ideal.τ).loc Cert.Kernel11Ideal.main_arg57) = m ((c.tc : Thread Cert.Kernel11Ideal.nD Cert.Kernel11Ideal.τ).loc Cert.Kernel11Ideal.main_arg57)
          ∧ r.2.mem ((c.tc : Thread Cert.Kernel11Ideal.nD Cert.Kernel11Ideal.τ).loc Cert.Kernel11Ideal.main_arg58) = m ((c.tc : Thread Cert.Kernel11Ideal.nD Cert.Kernel11Ideal.τ).loc Cert.Kernel11Ideal.main_arg58)
          ∧ r.2.mem ((c.tc : Thread Cert.Kernel11Ideal.nD Cert.Kernel11Ideal.τ).loc Cert.Kernel11Ideal.main_arg59) = m ((c.tc : Thread Cert.Kernel11Ideal.nD Cert.Kernel11Ideal.τ).loc Cert.Kernel11Ideal.main_arg59))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v95) = v3 c
          ∧ r.2.mem ((c.tc : Thread Cert.Reference11Ideal.nD Cert.Reference11Ideal.τ).loc Cert.Reference11Ideal.main_v119) = v4 c
          ∧ r.2.mem ((c.tc : Thread Cert.Reference11Ideal.nD Cert.Reference11Ideal.τ).loc Cert.Reference11Ideal.main_v143) = v5 c
          ∧ r.2.mem ((c.tc : Thread Cert.Reference11Ideal.nD Cert.Reference11Ideal.τ).loc Cert.Reference11Ideal.main_v167) = v6 c
          ∧ r.2.mem ((c.tc : Thread Cert.Reference11Ideal.nD Cert.Reference11Ideal.τ).loc Cert.Reference11Ideal.main_v191) = v7 c
          ∧ r.2.mem ((c.tc : Thread Cert.Reference11Ideal.nD Cert.Reference11Ideal.τ).loc Cert.Reference11Ideal.main_v215) = v8 c
          ∧ r.2.mem ((c.tc : Thread Cert.Reference11Ideal.nD Cert.Reference11Ideal.τ).loc Cert.Reference11Ideal.main_v239) = v9 c
          ∧ r.2.mem ((c.tc : Thread Cert.Reference11Ideal.nD Cert.Reference11Ideal.τ).loc Cert.Reference11Ideal.main_v263) = v10 c
          ∧ r.2.mem ((c.tc : Thread Cert.Reference11Ideal.nD Cert.Reference11Ideal.τ).loc Cert.Reference11Ideal.main_v287) = v11 c
          ∧ r.2.mem ((c.tc : Thread Cert.Reference11Ideal.nD Cert.Reference11Ideal.τ).loc Cert.Reference11Ideal.main_v311) = v12 c
          ∧ r.2.mem ((c.tc : Thread Cert.Reference11Ideal.nD Cert.Reference11Ideal.τ).loc Cert.Reference11Ideal.main_v335) = v13 c
          ∧ r.2.mem ((c.tc : Thread Cert.Reference11Ideal.nD Cert.Reference11Ideal.τ).loc Cert.Reference11Ideal.main_v359) = v14 c
          ∧ r.2.mem ((c.tc : Thread Cert.Reference11Ideal.nD Cert.Reference11Ideal.τ).loc Cert.Reference11Ideal.main_v4) = v15 c
          ∧ r.2.mem ((c.tc : Thread Cert.Reference11Ideal.nD Cert.Reference11Ideal.τ).loc Cert.Reference11Ideal.main_v28) = v16 c
          ∧ r.2.mem ((c.tc : Thread Cert.Reference11Ideal.nD Cert.Reference11Ideal.τ).loc Cert.Reference11Ideal.main_v52) = v17 c
          ∧ r.2.mem ((c.tc : Thread Cert.Reference11Ideal.nD Cert.Reference11Ideal.τ).loc Cert.Reference11Ideal.main_v76) = v18 c
          ∧ r.2.mem ((c.tc : Thread Cert.Reference11Ideal.nD Cert.Reference11Ideal.τ).loc Cert.Reference11Ideal.main_v100) = v19 c
          ∧ r.2.mem ((c.tc : Thread Cert.Reference11Ideal.nD Cert.Reference11Ideal.τ).loc Cert.Reference11Ideal.main_v124) = v20 c
          ∧ r.2.mem ((c.tc : Thread Cert.Reference11Ideal.nD Cert.Reference11Ideal.τ).loc Cert.Reference11Ideal.main_v148) = v21 c
          ∧ r.2.mem ((c.tc : Thread Cert.Reference11Ideal.nD Cert.Reference11Ideal.τ).loc Cert.Reference11Ideal.main_v172) = v22 c
          ∧ r.2.mem ((c.tc : Thread Cert.Reference11Ideal.nD Cert.Reference11Ideal.τ).loc Cert.Reference11Ideal.main_v196) = v23 c
          ∧ r.2.mem ((c.tc : Thread Cert.Reference11Ideal.nD Cert.Reference11Ideal.τ).loc Cert.Reference11Ideal.main_v220) = v24 c
          ∧ r.2.mem ((c.tc : Thread Cert.Reference11Ideal.nD Cert.Reference11Ideal.τ).loc Cert.Reference11Ideal.main_v244) = v25 c
          ∧ r.2.mem ((c.tc : Thread Cert.Reference11Ideal.nD Cert.Reference11Ideal.τ).loc Cert.Reference11Ideal.main_v268) = v26 c
          ∧ r.2.mem ((c.tc : Thread Cert.Reference11Ideal.nD Cert.Reference11Ideal.τ).loc Cert.Reference11Ideal.main_v292) = v27 c
          ∧ r.2.mem ((c.tc : Thread Cert.Reference11Ideal.nD Cert.Reference11Ideal.τ).loc Cert.Reference11Ideal.main_v316) = v28 c
          ∧ r.2.mem ((c.tc : Thread Cert.Reference11Ideal.nD Cert.Reference11Ideal.τ).loc Cert.Reference11Ideal.main_v340) = v29 c
          ∧ r.2.mem ((c.tc : Thread Cert.Reference11Ideal.nD Cert.Reference11Ideal.τ).loc Cert.Reference11Ideal.main_v10) = v30 c
          ∧ r.2.mem ((c.tc : Thread Cert.Reference11Ideal.nD Cert.Reference11Ideal.τ).loc Cert.Reference11Ideal.main_v34) = v31 c
          ∧ r.2.mem ((c.tc : Thread Cert.Reference11Ideal.nD Cert.Reference11Ideal.τ).loc Cert.Reference11Ideal.main_v58) = v32 c
          ∧ r.2.mem ((c.tc : Thread Cert.Reference11Ideal.nD Cert.Reference11Ideal.τ).loc Cert.Reference11Ideal.main_v82) = v33 c
          ∧ r.2.mem ((c.tc : Thread Cert.Reference11Ideal.nD Cert.Reference11Ideal.τ).loc Cert.Reference11Ideal.main_v106) = v34 c
          ∧ r.2.mem ((c.tc : Thread Cert.Reference11Ideal.nD Cert.Reference11Ideal.τ).loc Cert.Reference11Ideal.main_v130) = v35 c
          ∧ r.2.mem ((c.tc : Thread Cert.Reference11Ideal.nD Cert.Reference11Ideal.τ).loc Cert.Reference11Ideal.main_v154) = v36 c
          ∧ r.2.mem ((c.tc : Thread Cert.Reference11Ideal.nD Cert.Reference11Ideal.τ).loc Cert.Reference11Ideal.main_v178) = v37 c
          ∧ r.2.mem ((c.tc : Thread Cert.Reference11Ideal.nD Cert.Reference11Ideal.τ).loc Cert.Reference11Ideal.main_v202) = v38 c
          ∧ r.2.mem ((c.tc : Thread Cert.Reference11Ideal.nD Cert.Reference11Ideal.τ).loc Cert.Reference11Ideal.main_v226) = v39 c
          ∧ r.2.mem ((c.tc : Thread Cert.Reference11Ideal.nD Cert.Reference11Ideal.τ).loc Cert.Reference11Ideal.main_v250) = v40 c
          ∧ r.2.mem ((c.tc : Thread Cert.Reference11Ideal.nD Cert.Reference11Ideal.τ).loc Cert.Reference11Ideal.main_v274) = v41 c
          ∧ r.2.mem ((c.tc : Thread Cert.Reference11Ideal.nD Cert.Reference11Ideal.τ).loc Cert.Reference11Ideal.main_v298) = v42 c
          ∧ r.2.mem ((c.tc : Thread Cert.Reference11Ideal.nD Cert.Reference11Ideal.τ).loc Cert.Reference11Ideal.main_v322) = v43 c
          ∧ r.2.mem ((c.tc : Thread Cert.Reference11Ideal.nD Cert.Reference11Ideal.τ).loc Cert.Reference11Ideal.main_v346) = v44 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35)
          ∧ r.2.mem ((c.tc : Thread Cert.Reference11Ideal.nD Cert.Reference11Ideal.τ).loc Cert.Reference11Ideal.main_arg36) = m' ((c.tc : Thread Cert.Reference11Ideal.nD Cert.Reference11Ideal.τ).loc Cert.Reference11Ideal.main_arg36)
          ∧ r.2.mem ((c.tc : Thread Cert.Reference11Ideal.nD Cert.Reference11Ideal.τ).loc Cert.Reference11Ideal.main_arg37) = m' ((c.tc : Thread Cert.Reference11Ideal.nD Cert.Reference11Ideal.τ).loc Cert.Reference11Ideal.main_arg37)
          ∧ r.2.mem ((c.tc : Thread Cert.Reference11Ideal.nD Cert.Reference11Ideal.τ).loc Cert.Reference11Ideal.main_arg38) = m' ((c.tc : Thread Cert.Reference11Ideal.nD Cert.Reference11Ideal.τ).loc Cert.Reference11Ideal.main_arg38)
          ∧ r.2.mem ((c.tc : Thread Cert.Reference11Ideal.nD Cert.Reference11Ideal.τ).loc Cert.Reference11Ideal.main_arg39) = m' ((c.tc : Thread Cert.Reference11Ideal.nD Cert.Reference11Ideal.τ).loc Cert.Reference11Ideal.main_arg39)
          ∧ r.2.mem ((c.tc : Thread Cert.Reference11Ideal.nD Cert.Reference11Ideal.τ).loc Cert.Reference11Ideal.main_arg40) = m' ((c.tc : Thread Cert.Reference11Ideal.nD Cert.Reference11Ideal.τ).loc Cert.Reference11Ideal.main_arg40)
          ∧ r.2.mem ((c.tc : Thread Cert.Reference11Ideal.nD Cert.Reference11Ideal.τ).loc Cert.Reference11Ideal.main_arg41) = m' ((c.tc : Thread Cert.Reference11Ideal.nD Cert.Reference11Ideal.τ).loc Cert.Reference11Ideal.main_arg41)
          ∧ r.2.mem ((c.tc : Thread Cert.Reference11Ideal.nD Cert.Reference11Ideal.τ).loc Cert.Reference11Ideal.main_arg42) = m' ((c.tc : Thread Cert.Reference11Ideal.nD Cert.Reference11Ideal.τ).loc Cert.Reference11Ideal.main_arg42)
          ∧ r.2.mem ((c.tc : Thread Cert.Reference11Ideal.nD Cert.Reference11Ideal.τ).loc Cert.Reference11Ideal.main_arg43) = m' ((c.tc : Thread Cert.Reference11Ideal.nD Cert.Reference11Ideal.τ).loc Cert.Reference11Ideal.main_arg43)
          ∧ r.2.mem ((c.tc : Thread Cert.Reference11Ideal.nD Cert.Reference11Ideal.τ).loc Cert.Reference11Ideal.main_arg44) = m' ((c.tc : Thread Cert.Reference11Ideal.nD Cert.Reference11Ideal.τ).loc Cert.Reference11Ideal.main_arg44)
          ∧ r.2.mem ((c.tc : Thread Cert.Reference11Ideal.nD Cert.Reference11Ideal.τ).loc Cert.Reference11Ideal.main_arg45) = m' ((c.tc : Thread Cert.Reference11Ideal.nD Cert.Reference11Ideal.τ).loc Cert.Reference11Ideal.main_arg45)
          ∧ r.2.mem ((c.tc : Thread Cert.Reference11Ideal.nD Cert.Reference11Ideal.τ).loc Cert.Reference11Ideal.main_arg46) = m' ((c.tc : Thread Cert.Reference11Ideal.nD Cert.Reference11Ideal.τ).loc Cert.Reference11Ideal.main_arg46)
          ∧ r.2.mem ((c.tc : Thread Cert.Reference11Ideal.nD Cert.Reference11Ideal.τ).loc Cert.Reference11Ideal.main_arg47) = m' ((c.tc : Thread Cert.Reference11Ideal.nD Cert.Reference11Ideal.τ).loc Cert.Reference11Ideal.main_arg47)
          ∧ r.2.mem ((c.tc : Thread Cert.Reference11Ideal.nD Cert.Reference11Ideal.τ).loc Cert.Reference11Ideal.main_arg48) = m' ((c.tc : Thread Cert.Reference11Ideal.nD Cert.Reference11Ideal.τ).loc Cert.Reference11Ideal.main_arg48)
          ∧ r.2.mem ((c.tc : Thread Cert.Reference11Ideal.nD Cert.Reference11Ideal.τ).loc Cert.Reference11Ideal.main_arg49) = m' ((c.tc : Thread Cert.Reference11Ideal.nD Cert.Reference11Ideal.τ).loc Cert.Reference11Ideal.main_arg49)
          ∧ r.2.mem ((c.tc : Thread Cert.Reference11Ideal.nD Cert.Reference11Ideal.τ).loc Cert.Reference11Ideal.main_arg50) = m' ((c.tc : Thread Cert.Reference11Ideal.nD Cert.Reference11Ideal.τ).loc Cert.Reference11Ideal.main_arg50)
          ∧ r.2.mem ((c.tc : Thread Cert.Reference11Ideal.nD Cert.Reference11Ideal.τ).loc Cert.Reference11Ideal.main_arg51) = m' ((c.tc : Thread Cert.Reference11Ideal.nD Cert.Reference11Ideal.τ).loc Cert.Reference11Ideal.main_arg51)
          ∧ r.2.mem ((c.tc : Thread Cert.Reference11Ideal.nD Cert.Reference11Ideal.τ).loc Cert.Reference11Ideal.main_arg52) = m' ((c.tc : Thread Cert.Reference11Ideal.nD Cert.Reference11Ideal.τ).loc Cert.Reference11Ideal.main_arg52)
          ∧ r.2.mem ((c.tc : Thread Cert.Reference11Ideal.nD Cert.Reference11Ideal.τ).loc Cert.Reference11Ideal.main_arg53) = m' ((c.tc : Thread Cert.Reference11Ideal.nD Cert.Reference11Ideal.τ).loc Cert.Reference11Ideal.main_arg53)
          ∧ r.2.mem ((c.tc : Thread Cert.Reference11Ideal.nD Cert.Reference11Ideal.τ).loc Cert.Reference11Ideal.main_arg54) = m' ((c.tc : Thread Cert.Reference11Ideal.nD Cert.Reference11Ideal.τ).loc Cert.Reference11Ideal.main_arg54)
          ∧ r.2.mem ((c.tc : Thread Cert.Reference11Ideal.nD Cert.Reference11Ideal.τ).loc Cert.Reference11Ideal.main_arg55) = m' ((c.tc : Thread Cert.Reference11Ideal.nD Cert.Reference11Ideal.τ).loc Cert.Reference11Ideal.main_arg55)
          ∧ r.2.mem ((c.tc : Thread Cert.Reference11Ideal.nD Cert.Reference11Ideal.τ).loc Cert.Reference11Ideal.main_arg56) = m' ((c.tc : Thread Cert.Reference11Ideal.nD Cert.Reference11Ideal.τ).loc Cert.Reference11Ideal.main_arg56)
          ∧ r.2.mem ((c.tc : Thread Cert.Reference11Ideal.nD Cert.Reference11Ideal.τ).loc Cert.Reference11Ideal.main_arg57) = m' ((c.tc : Thread Cert.Reference11Ideal.nD Cert.Reference11Ideal.τ).loc Cert.Reference11Ideal.main_arg57)
          ∧ r.2.mem ((c.tc : Thread Cert.Reference11Ideal.nD Cert.Reference11Ideal.τ).loc Cert.Reference11Ideal.main_arg58) = m' ((c.tc : Thread Cert.Reference11Ideal.nD Cert.Reference11Ideal.τ).loc Cert.Reference11Ideal.main_arg58)
          ∧ r.2.mem ((c.tc : Thread Cert.Reference11Ideal.nD Cert.Reference11Ideal.τ).loc Cert.Reference11Ideal.main_arg59) = m' ((c.tc : Thread Cert.Reference11Ideal.nD Cert.Reference11Ideal.τ).loc Cert.Reference11Ideal.main_arg59))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v32) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S2048x1 : Shape := ⟨2, ![2048, 1]⟩
abbrev S2048x16 : Shape := ⟨2, ![2048, 16]⟩
abbrev S2x8192x2048 : Shape := ⟨3, ![2, 8192, 2048]⟩
abbrev S_ : Shape := ⟨0, ![]⟩

class Facts : Prop where
  bcast_S_S2048x1 : S_.BroadcastsInDim S2048x1 (![] : Fin 0 → Fin S2048x1.rank)
  bitsLt_bf16_f32 : FTy.bits .bf16 < FTy.bits .f32
  bcast_S_S2x8192x2048 : S_.BroadcastsInDim S2x8192x2048 (![] : Fin 0 → Fin S2x8192x2048.rank)

variable [Facts]

def fn {F : FTy → Type} [FloatOps F] (main_arg0 : FVec F S2048x1 .f32) (main_arg1 : FVec F S2048x1 .f32) (main_arg2 : FVec F S2048x1 .f32) (main_arg3 : FVec F S2048x16 .f32) (main_arg4 : FVec F S2048x16 .f32) (main_arg5 : FVec F S2x8192x2048 .bf16) (main_arg6 : FVec F S2x8192x2048 .bf16) : IVec S2048x1 1 × IVec S2048x1 1 × IVec S2048x1 1 × IVec S2x8192x2048 1 × IVec S2x8192x2048 1 :=
  let main_v0 : FVec F S2048x1 .f32 := Host.absf main_arg0
  let main_cst : FVec F S_ .f32 := constant S_ .f32 0x7F800000#32
  let main_v1 : FVec F S2048x1 .f32 := broadcastInDim S2048x1 ![] bcast_S_S2048x1 main_cst
  let main_v2 : IVec S2048x1 1 := cmpf .olt main_v0 main_v1
  let main_v3 : FVec F S2048x1 .f32 := Host.absf main_arg1
  let main_cst_0 : FVec F S_ .f32 := constant S_ .f32 0x7F800000#32
  let main_v4 : FVec F S2048x1 .f32 := broadcastInDim S2048x1 ![] bcast_S_S2048x1 main_cst_0
  let main_v5 : IVec S2048x1 1 := cmpf .olt main_v3 main_v4
  let main_v6 : FVec F S2048x1 .f32 := Host.absf main_arg2
  let main_cst_1 : FVec F S_ .f32 := constant S_ .f32 0x7F800000#32
  let main_v7 : FVec F S2048x1 .f32 := broadcastInDim S2048x1 ![] bcast_S_S2048x1 main_cst_1
  let main_v8 : IVec S2048x1 1 := cmpf .olt main_v6 main_v7
  let main_v9 : FVec F S2x8192x2048 .f32 := (extf .f32 · bitsLt_bf16_f32) main_arg5
  let main_v10 : FVec F S2x8192x2048 .f32 := Host.absf main_v9
  let main_cst_2 : FVec F S_ .f32 := constant S_ .f32 0x7F800000#32
  let main_v11 : FVec F S2x8192x2048 .f32 := broadcastInDim S2x8192x2048 ![] bcast_S_S2x8192x2048 main_cst_2
  let main_v12 : IVec S2x8192x2048 1 := cmpf .olt main_v10 main_v11
  let main_v13 : FVec F S2x8192x2048 .f32 := (extf .f32 · bitsLt_bf16_f32) main_arg6
  let main_v14 : FVec F S2x8192x2048 .f32 := Host.absf main_v13
  let main_cst_3 : FVec F S_ .f32 := constant S_ .f32 0x7F800000#32
  let main_v15 : FVec F S2x8192x2048 .f32 := broadcastInDim S2x8192x2048 ![] bcast_S_S2x8192x2048 main_cst_3
  let main_v16 : IVec S2x8192x2048 1 := cmpf .olt main_v14 main_v15
  (main_v2, main_v5, main_v8, main_v12, main_v16)
-- ==== Pre_finite12.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) (main_arg3 : FVec F S8192x1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite2.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S4x1024x1408 : S_.BroadcastsInDim S4x1024x1408 (![] : Fin 0 → Fin S4x1024x1408.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S4x1024x1408 .bf16) (main_arg3 : FVec F S2816x1024 .bf16) (main_arg4 : FVec F S8192x1024 .bf16) : IVec S8192x1024 1 × IVec S1024 1 × IVec S4x1024x1408 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x1408 .f32 := (extf .f32 · bitsLt_bf16_f32) main_arg2
  let main_v7 : FVec F S4x1024x1408 .f32 := Host.absf main_v6
  let main_cst_1 : FVec F S_ .f32 := constant S_ .f32 0x7F800000#32
  let main_v8 : FVec F S4x1024x1408 .f32 := broadcastInDim S4x1024x1408 ![] bcast_S_S4x1024x1408 main_cst_1
  let main_v9 : IVec S4x1024x1408 1 := cmpf .olt main_v7 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S8192x1024 .f32 := (extf .f32 · bitsLt_bf16_f32) main_arg4
  let main_v15 : FVec F S8192x1024 .f32 := Host.absf main_v14
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  (main_v2, main_v5, main_v9, main_v13, main_v17)
-- ==== Kernel.lean ====
abbrev S2048x1 : Shape := ⟨2, ![2048, 1]⟩
abbrev S2048x16 : Shape := ⟨2, ![2048, 16]⟩
abbrev S2x8192x2048 : Shape := ⟨3, ![2, 8192, 2048]⟩
abbrev S2048x8 : Shape := ⟨2, ![2048, 8]⟩
abbrev S8x2048 : Shape := ⟨2, ![8, 2048]⟩
abbrev S8 : Shape := ⟨1, ![8]⟩
abbrev S8x1 : Shape := ⟨2, ![8, 1]⟩
abbrev S_ : Shape := ⟨0, ![]⟩
abbrev S1x2048 : Shape := ⟨2, ![1, 2048]⟩
abbrev S2048 : Shape := ⟨1, ![2048]⟩
abbrev S1x8x2048 : Shape := ⟨3, ![1, 8, 2048]⟩
abbrev S8x8x2048 : Shape := ⟨3, ![8, 8, 2048]⟩
abbrev S8x8x128 : Shape := ⟨3, ![8, 8, 128]⟩
abbrev S2x4096x128 : Shape := ⟨3, ![2, 4096, 128]⟩
abbrev S1x8x128 : Shape := ⟨3, ![1, 8, 128]⟩
abbrev S8x128 : Shape := ⟨2, ![8, 128]⟩
abbrev S1x128 : Shape := ⟨2, ![1, 128]⟩
abbrev S1x16x128 : Shape := ⟨3, ![1, 16, 128]⟩
abbrev S16x128 : Shape := ⟨2, ![16, 128]⟩
abbrev S2x8x2048 : Shape := ⟨3, ![2, 8, 2048]⟩
abbrev S2x8x128 : Shape := ⟨3, ![2, 8, 128]⟩
abbrev S2x2048 : Shape := ⟨2, ![2, 2048]⟩

abbrev nBuf : Space → Nat
  | .hbm => 171
  | .vmem => 25
  | .smem => 0
  | _ => 0

abbrev hbmTy0_0 (i : Nat) : BufTy := match i % 128 with
  | 0 => ⟨S2048x1, .f32⟩
  | 1 => ⟨S2048x1, .f32⟩
  | 2 => ⟨S2048x1, .f32⟩
  | 3 => ⟨S2048x16, .f32⟩
  | 4 => ⟨S2048x16, .f32⟩
  | 5 => ⟨S2x8192x2048, .bf16⟩
  | 6 => ⟨S2x8192x2048, .bf16⟩
  | 7 => ⟨S2048x8, .f32⟩
  | 8 => ⟨S2048x8, .f32⟩
  | 9 => ⟨S2048x16, .f32⟩
  | 10 => ⟨S2048x16, .f32⟩
  | 11 => ⟨S8x2048, .f32⟩
  | 12 => ⟨S8x2048, .f32⟩
  | 13 => ⟨S8, .i32⟩
  | 14 => ⟨S8x1, .i32⟩
  | 15 => ⟨S_, .i32⟩
  | 16 => ⟨S8x1, .i32⟩
  | 17 => ⟨S8x1, .i1⟩
  | 18 => ⟨S1x2048, .f32⟩
  | 19 => ⟨S2048, .f32⟩
  | 20 => ⟨S1x2048, .f32⟩
  | 21 => ⟨S_, .f32⟩
  | 22 => ⟨S_, .f32⟩
  | 23 => ⟨S8x2048, .i1⟩
  | 24 => ⟨S8x2048, .f32⟩
  | 25 => ⟨S8x2048, .f32⟩
  | 26 => ⟨S8x2048, .f32⟩
  | 27 => ⟨S1x2048, .f32⟩
  | 28 => ⟨S2048, .f32⟩
  | 29 => ⟨S1x2048, .f32⟩
  | 30 => ⟨S_, .f32⟩
  | 31 => ⟨S_, .f32⟩
  | 32 => ⟨S8x2048, .i1⟩
  | 33 => ⟨S8x2048, .f32⟩
  | 34 => ⟨S8x2048, .f32⟩
  | 35 => ⟨S8x2048, .f32⟩
  | 36 => ⟨S_, .i32⟩
  | 37 => ⟨S8x1, .i32⟩
  | 38 => ⟨S8x1, .i1⟩
  | 39 => ⟨S1x2048, .f32⟩
  | 40 => ⟨S2048, .f32⟩
  | 41 => ⟨S1x2048, .f32⟩
  | 42 => ⟨S_, .f32⟩
  | 43 => ⟨S_, .f32⟩
  | 44 => ⟨S8x2048, .i1⟩
  | 45 => ⟨S8x2048, .f32⟩
  | 46 => ⟨S8x2048, .f32⟩
  | 47 => ⟨S8x2048, .f32⟩
  | 48 => ⟨S1x2048, .f32⟩
  | 49 => ⟨S2048, .f32⟩
  | 50 => ⟨S1x2048, .f32⟩
  | 51 => ⟨S_, .f32⟩
  | 52 => ⟨S_, .f32⟩
  | 53 => ⟨S8x2048, .i1⟩
  | 54 => ⟨S8x2048, .f32⟩
  | 55 => ⟨S8x2048, .f32⟩
  | 56 => ⟨S8x2048, .f32⟩
  | 57 => ⟨S_, .i32⟩
  | 58 => ⟨S8x1, .i32⟩
  | 59 => ⟨S8x1, .i1⟩
  | 60 => ⟨S1x2048, .f32⟩
  | 61 => ⟨S2048, .f32⟩
  | 62 => ⟨S1x2048, .f32⟩
  | 63 => ⟨S_, .f32⟩
  | 64 => ⟨S_, .f32⟩
  | 65 => ⟨S8x2048, .i1⟩
  | 66 => ⟨S8x2048, .f32⟩
  | 67 => ⟨S8x2048, .f32⟩
  | 68 => ⟨S8x2048, .f32⟩
  | 69 => ⟨S1x2048, .f32⟩
  | 70 => ⟨S2048, .f32⟩
  | 71 => ⟨S1x2048, .f32⟩
  | 72 => ⟨S_, .f32⟩
  | 73 => ⟨S_, .f32⟩
  | 74 => ⟨S8x2048, .i1⟩
  | 75 => ⟨S8x2048, .f32⟩
  | 76 => ⟨S8x2048, .f32⟩
  | 77 => ⟨S8x2048, .f32⟩
  | 78 => ⟨S1x8x2048, .f32⟩
  | 79 => ⟨S1x8x2048, .f32⟩
  | 80 => ⟨S1x8x2048, .f32⟩
  | 81 => ⟨S1x8x2048, .f32⟩
  | 82 => ⟨S1x8x2048, .f32⟩
  | 83 => ⟨S1x8x2048, .f32⟩
  | 84 => ⟨S1x8x2048, .f32⟩
  | 85 => ⟨S1x8x2048, .f32⟩
  | 86 => ⟨S8x8x2048, .f32⟩
  | 87 => ⟨S2x8192x2048, .bf16⟩
  | 88 => ⟨S8x2048, .f32⟩
  | 89 => ⟨S8x2048, .f32⟩
  | 90 => ⟨S8x2048, .f32⟩
  | 91 => ⟨S8, .i32⟩
  | 92 => ⟨S8x1, .i32⟩
  | 93 => ⟨S_, .i32⟩
  | 94 => ⟨S8x1, .i32⟩
  | 95 => ⟨S8x1, .i1⟩
  | 96 => ⟨S1x2048, .f32⟩
  | 97 => ⟨S2048, .f32⟩
  | 98 => ⟨S1x2048, .f32⟩
  | 99 => ⟨S_, .f32⟩
  | 100 => ⟨S_, .f32⟩
  | 101 => ⟨S8x2048, .i1⟩
  | 102 => ⟨S8x2048, .f32⟩
  | 103 => ⟨S8x2048, .f32⟩
  | 104 => ⟨S8x2048, .f32⟩
  | 105 => ⟨S1x2048, .f32⟩
  | 106 => ⟨S2048, .f32⟩
  | 107 => ⟨S1x2048, .f32⟩
  | 108 => ⟨S_, .f32⟩
  | 109 => ⟨S_, .f32⟩
  | 110 => ⟨S8x2048, .i1⟩
  | 111 => ⟨S8x2048, .f32⟩
  | 112 => ⟨S8x2048, .f32⟩
  | 113 => ⟨S8x2048, .f32⟩
  | 114 => ⟨S_, .i32⟩
  | 115 => ⟨S8x1, .i32⟩
  | 116 => ⟨S8x1, .i1⟩
  | 117 => ⟨S1x2048, .f32⟩
  | 118 => ⟨S2048, .f32⟩
  | 119 => ⟨S1x2048, .f32⟩
  | 120 => ⟨S_, .f32⟩
  | 121 => ⟨S_, .f32⟩
  | 122 => ⟨S8x2048, .i1⟩
  | 123 => ⟨S8x2048, .f32⟩
  | 124 => ⟨S8x2048, .f32⟩
  | 125 => ⟨S8x2048, .f32⟩
  | 126 => ⟨S1x2048, .f32⟩
  | 127 => ⟨S2048, .f32⟩
  | _ => ⟨S2048x1, .f32⟩

abbrev hbmTy0_1 (i : Nat) : BufTy := match i % 128 with
  | 0 => ⟨S1x2048, .f32⟩
  | 1 => ⟨S_, .f32⟩
  | 2 => ⟨S_, .f32⟩
  | 3 => ⟨S8x2048, .i1⟩
  | 4 => ⟨S8x2048, .f32⟩
  | 5 => ⟨S8x2048, .f32⟩
  | 6 => ⟨S8x2048, .f32⟩
  | 7 => ⟨S_, .i32⟩
  | 8 => ⟨S8x1, .i32⟩
  | 9 => ⟨S8x1, .i1⟩
  | 10 => ⟨S1x2048, .f32⟩
  | 11 => ⟨S2048, .f32⟩
  | 12 => ⟨S1x2048, .f32⟩
  | 13 => ⟨S_, .f32⟩
  | 14 => ⟨S_, .f32⟩
  | 15 => ⟨S8x2048, .i1⟩
  | 16 => ⟨S8x2048, .f32⟩
  | 17 => ⟨S8x2048, .f32⟩
  | 18 => ⟨S8x2048, .f32⟩
  | 19 => ⟨S1x2048, .f32⟩
  | 20 => ⟨S2048, .f32⟩
  | 21 => ⟨S1x2048, .f32⟩
  | 22 => ⟨S_, .f32⟩
  | 23 => ⟨S_, .f32⟩
  | 24 => ⟨S8x2048, .i1⟩
  | 25 => ⟨S8x2048, .f32⟩
  | 26 => ⟨S8x2048, .f32⟩
  | 27 => ⟨S8x2048, .f32⟩
  | 28 => ⟨S8x2048, .f32⟩
  | 29 => ⟨S8x2048, .f32⟩
  | 30 => ⟨S1x8x2048, .f32⟩
  | 31 => ⟨S1x8x2048, .f32⟩
  | 32 => ⟨S1x8x2048, .f32⟩
  | 33 => ⟨S1x8x2048, .f32⟩
  | 34 => ⟨S1x8x2048, .f32⟩
  | 35 => ⟨S1x8x2048, .f32⟩
  | 36 => ⟨S1x8x2048, .f32⟩
  | 37 => ⟨S1x8x2048, .f32⟩
  | 38 => ⟨S8x8x2048, .f32⟩
  | 39 => ⟨S2x8192x2048, .bf16⟩
  | 40 => ⟨S2x8x2048, .f32⟩
  | 41 => ⟨S_, .f32⟩
  | 42 => ⟨S2x2048, .f32⟩
  | _ => ⟨S2048x1, .f32⟩

abbrev hbmTy (i : Nat) : BufTy := match i / 128 with
  | 0 => hbmTy0_0 i
  | 1 => hbmTy0_1 i
  | _ => ⟨S2048x1, .f32⟩

abbrev bufTy : (tb : Table) → Fin (tcTables nBuf tb) → BufTy
  | .hbm, ⟨i, _⟩ => hbmTy i
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x8, .f32⟩
  | .local _ .vmem, ⟨6, _⟩ => ⟨S2048x8, .f32⟩
  | .local _ .vmem, ⟨7, _⟩ => ⟨S2048x16, .f32⟩
  | .local _ .vmem, ⟨8, _⟩ => ⟨S2048x16, .f32⟩
  | .local _ .vmem, ⟨9, _⟩ => ⟨S8x8x128, .f32⟩
  | .local _ .vmem, ⟨10, _⟩ => ⟨S8x8x128, .f32⟩
  | .local _ .vmem, ⟨11, _⟩ => ⟨S2x4096x128, .bf16⟩
  | .local _ .vmem, ⟨12, _⟩ => ⟨S2x4096x128, .bf16⟩
  | .local _ .vmem, ⟨13, _⟩ => ⟨S2x4096x128, .bf16⟩
  | .local _ .vmem, ⟨14, _⟩ => ⟨S2x4096x128, .bf16⟩
  | .local _ .vmem, ⟨15, _⟩ => ⟨S8x8x128, .f32⟩
  | .local _ .vmem, ⟨16, _⟩ => ⟨S8x8x128, .f32⟩
  | .local _ .vmem, ⟨17, _⟩ => ⟨S2x4096x128, .bf16⟩
  | .local _ .vmem, ⟨18, _⟩ => ⟨S2x4096x128, .bf16⟩
  | .local _ .vmem, ⟨19, _⟩ => ⟨S2x4096x128, .bf16⟩
  | .local _ .vmem, ⟨20, _⟩ => ⟨S2x4096x128, .bf16⟩
  | .local _ .vmem, ⟨21, _⟩ => ⟨S2x4096x128, .bf16⟩
  | .local _ .vmem, ⟨22, _⟩ => ⟨S2x4096x128, .bf16⟩
  | .local _ .vmem, ⟨23, _⟩ => ⟨S2x8x128, .f32⟩
  | .local _ .vmem, ⟨24, _⟩ => ⟨S2x8x128, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_7 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_8 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_9 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_v59 : Ref sig .tc := ⟨.hbm, 113, rfl⟩
abbrev main_c_10 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_11 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_12 : Ref sig .tc := ⟨.hbm, 129, rfl⟩
abbrev main_call9_v0 : Ref sig .tc := ⟨.hbm, 130, rfl⟩
abbrev main_call9_v1 : Ref sig .tc := ⟨.hbm, 131, rfl⟩
abbrev main_call9_v2 : Ref sig .tc := ⟨.hbm, 132, rfl⟩
abbrev main_call9_v3 : Ref sig .tc := ⟨.hbm, 133, rfl⟩
abbrev main_v69 : Ref sig .tc := ⟨.hbm, 134, rfl⟩
abbrev main_c_13 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_14 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_call10_v3 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_15 : Ref sig .tc := ⟨.hbm, 150, rfl⟩
abbrev main_call11_v0 : Ref sig .tc := ⟨.hbm, 151, rfl⟩
abbrev main_call11_v1 : Ref sig .tc := ⟨.hbm, 152, rfl⟩
abbrev main_call11_v2 : Ref sig .tc := ⟨.hbm, 153, rfl⟩
abbrev main_call11_v3 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91_0 : Ref sig .tc := ⟨.hbm, 167, rfl⟩
abbrev main_v91_1 : Ref sig .tc := ⟨.hbm, 168, rfl⟩
abbrev main_cst_16 : Ref sig .tc := ⟨.hbm, 169, rfl⟩
abbrev main_v92 : Ref sig .tc := ⟨.hbm, 170, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![16, 2], ![false, false]⟩

@[reducible] def k1_t1_loop : Scf.Loop 32 :=
  let c0_i32 : BitVec 32 := 0#32
  let c128_i32 : BitVec 32 := 128#32
  let v23 : BitVec 32 := Scalar.addi c0_i32 c128_i32
  let c1_i32 : BitVec 32 := 1#32
  ⟨c0_i32, v23, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c2_i32 : BitVec 32 := 2#32
  let v25 : BitVec 32 := Scalar.muli arg5 c2_i32
  let c0_i32_17 : BitVec 32 := 0#32
  let v26 : BitVec 32 := Scalar.addi v25 c0_i32_17
  let c16_i32 : BitVec 32 := 16#32
  let v27 : BitVec 32 := Scalar.muli v26 c16_i32
  v27
def k1_off1 (k1_t1 : Fin k1_t1_loop.trips) (c0_i32_17 : BitVec 32) : Fin 3 → Nat :=
  let c0_18 : Index := 0#32
  let c0_i32 : BitVec 32 := 0#32
  let c1_i32 : BitVec 32 := 1#32
  let arg5 : BitVec 32 := Scf.iv c0_i32 c1_i32 k1_t1
  let c2_i32 : BitVec 32 := 2#32
  let v25 : BitVec 32 := Scalar.muli arg5 c2_i32
  let v26 : BitVec 32 := Scalar.addi v25 c0_i32_17
  let c16_i32 : BitVec 32 := 16#32
  let v27 : BitVec 32 := Scalar.muli v26 c16_i32
  let v28 : BitVec 32 := v27
  let v29 : Index := Scalar.indexCast v28
  let c0_19 : Index := 0#32
  ![0, v29.toNat, 0]
def k1_off2 (k1_t1 : Fin k1_t1_loop.trips) (c0_i32_17 : BitVec 32) : Fin 3 → Nat :=
  let c1_20 : Index := 1#32
  let c0_i32 : BitVec 32 := 0#32
  let c1_i32 : BitVec 32 := 1#32
  let arg5 : BitVec 32 := Scf.iv c0_i32 c1_i32 k1_t1
  let c2_i32 : BitVec 32 := 2#32
  let v25 : BitVec 32 := Scalar.muli arg5 c2_i32
  let v26 : BitVec 32 := Scalar.addi v25 c0_i32_17
  let c16_i32 : BitVec 32 := 16#32
  let v27 : BitVec 32 := Scalar.muli v26 c16_i32
  let v28 : BitVec 32 := v27
  let v33 : Index := Scalar.indexCast v28
  let c0_21 : Index := 0#32
  ![1, v33.toNat, 0]
def k1_mult2 (k1_t1 : Fin k1_t1_loop.trips) : BitVec 32 :=
  let c0_i32 : BitVec 32 := 0#32
  let c1_i32 : BitVec 32 := 1#32
  let arg5 : BitVec 32 := Scf.iv c0_i32 c1_i32 k1_t1
  let c2_i32_33 : BitVec 32 := 2#32
  let v101 : BitVec 32 := Scalar.muli arg5 c2_i32_33
  let c1_i32_34 : BitVec 32 := 1#32
  let v102 : BitVec 32 := Scalar.addi v101 c1_i32_34
  let c16_i32_35 : BitVec 32 := 16#32
  let v103 : BitVec 32 := Scalar.muli v102 c16_i32_35
  v103
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S8x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 2], ![false, false]⟩

@[reducible] def k2_t1_loop : Scf.Loop 32 :=
  let c0_i32 : BitVec 32 := 0#32
  let c128_i32 : BitVec 32 := 128#32
  let v24 : BitVec 32 := Scalar.addi c0_i32 c128_i32
  let c1_i32 : BitVec 32 := 1#32
  ⟨c0_i32, v24, c1_i32⟩
def k2_mult1 (k2_t1 : Fin k2_t1_loop.trips) : BitVec 32 :=
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let c0_i32_31 : BitVec 32 := 0#32
  let v42 : BitVec 32 := Scalar.addi v41 c0_i32_31
  let v43 : BitVec 32 := Scalar.subi c255_i32 v42
  let c16_i32 : BitVec 32 := 16#32
  let v44 : BitVec 32 := Scalar.muli v43 c16_i32
  v44
def k2_off1 (k2_t1 : Fin k2_t1_loop.trips) (c0_i32_31 : BitVec 32) : Fin 3 → Nat :=
  let c0_32 : Index := 0#32
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let v42 : BitVec 32 := Scalar.addi v41 c0_i32_31
  let v43 : BitVec 32 := Scalar.subi c255_i32 v42
  let c16_i32 : BitVec 32 := 16#32
  let v44 : BitVec 32 := Scalar.muli v43 c16_i32
  let v45 : BitVec 32 := v44
  let v46 : Index := Scalar.indexCast v45
  let c0_33 : Index := 0#32
  ![0, v46.toNat, 0]
def k2_off2 (k2_t1 : Fin k2_t1_loop.trips) (c0_i32_31 : BitVec 32) : Fin 3 → Nat :=
  let c1_34 : Index := 1#32
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let v42 : BitVec 32 := Scalar.addi v41 c0_i32_31
  let v43 : BitVec 32 := Scalar.subi c255_i32 v42
  let c16_i32 : BitVec 32 := 16#32
  let v44 : BitVec 32 := Scalar.muli v43 c16_i32
  let v45 : BitVec 32 := v44
  let v50 : Index := Scalar.indexCast v45
  let c0_35 : Index := 0#32
  ![1, v50.toNat, 0]
def k2_mult2 (k2_t1 : Fin k2_t1_loop.trips) : BitVec 32 :=
  let c255_i32_47 : BitVec 32 := 255#32
  let c0_i32 : BitVec 32 := 0#32
  let c1_i32 : BitVec 32 := 1#32
  let arg7 : BitVec 32 := Scf.iv c0_i32 c1_i32 k2_t1
  let c2_i32_45 : BitVec 32 := 2#32
  let v118 : BitVec 32 := Scalar.muli arg7 c2_i32_45
  let c1_i32_46 : BitVec 32 := 1#32
  let v119 : BitVec 32 := Scalar.addi v118 c1_i32_46
  let v120 : BitVec 32 := Scalar.subi c255_i32_47 v119
  let c16_i32_48 : BitVec 32 := 16#32
  let v121 : BitVec 32 := Scalar.muli v120 c16_i32_48
  v121
def k2_mult3 (k2_t1 : Fin k2_t1_loop.trips) : BitVec 32 :=
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let c0_i32_31 : BitVec 32 := 0#32
  let v42 : BitVec 32 := Scalar.addi v41 c0_i32_31
  let v43 : BitVec 32 := Scalar.subi c255_i32 v42
  let c1_i32_69 : BitVec 32 := 1#32
  let v251 : BitVec 32 := Scalar.subi v43 c1_i32_69
  let c0_i32_70 : BitVec 32 := 0#32
  let v252 : BitVec 32 := Scalar.maxsi v251 c0_i32_70
  let c16_i32_71 : BitVec 32 := 16#32
  let v253 : BitVec 32 := Scalar.muli v252 c16_i32_71
  v253
def k2_off3 (k2_t1 : Fin k2_t1_loop.trips) (c0_i32_31 : BitVec 32) : Fin 3 → Nat :=
  let c0_77 : Index := 0#32
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let v42 : BitVec 32 := Scalar.addi v41 c0_i32_31
  let v43 : BitVec 32 := Scalar.subi c255_i32 v42
  let c1_i32_69 : BitVec 32 := 1#32
  let v251 : BitVec 32 := Scalar.subi v43 c1_i32_69
  let c0_i32_70 : BitVec 32 := 0#32
  let v252 : BitVec 32 := Scalar.maxsi v251 c0_i32_70
  let c16_i32_71 : BitVec 32 := 16#32
  let v253 : BitVec 32 := Scalar.muli v252 c16_i32_71
  let v254 : BitVec 32 := v253
  let v264 : Index := Scalar.indexCast v254
  let c0_78 : Index := 0#32
  ![0, v264.toNat, 0]
def k2_off4 (k2_t1 : Fin k2_t1_loop.trips) (c0_i32_31 : BitVec 32) : Fin 3 → Nat :=
  let c1_80 : Index := 1#32
  let c255_i32 : BitVec 32 := 255#32
  let c0_i32 : BitVec 32 := 0#32
  let c1_i32 : BitVec 32 := 1#32
  let arg7 : BitVec 32 := Scf.iv c0_i32 c1_i32 k2_t1
  let c2_i32 : BitVec 32 := 2#32
  let v41 : BitVec 32 := Scalar.muli arg7 c2_i32
  let v42 : BitVec 32 := Scalar.addi v41 c0_i32_31
  let v43 : BitVec 32 := Scalar.subi c255_i32 v42
  let c1_i32_69 : BitVec 32 := 1#32
  let v251 : BitVec 32 := Scalar.subi v43 c1_i32_69
  let c0_i32_70 : BitVec 32 := 0#32
  let v252 : BitVec 32 := Scalar.maxsi v251 c0_i32_70
  let c16_i32_71 : BitVec 32 := 16#32
  let v253 : BitVec 32 := Scalar.muli v252 c16_i32_71
  let v254 : BitVec 32 := v253
  let v273 : Index := Scalar.indexCast v254
  let c0_81 : Index := 0#32
  ![1, v273.toNat, 0]
def k2_mult4 (k2_t1 : Fin k2_t1_loop.trips) : BitVec 32 :=
  let c255_i32_47 : BitVec 32 := 255#32
  let c0_i32 : BitVec 32 := 0#32
  let c1_i32 : BitVec 32 := 1#32
  let arg7 : BitVec 32 := Scf.iv c0_i32 c1_i32 k2_t1
  let c2_i32_45 : BitVec 32 := 2#32
  let v118 : BitVec 32 := Scalar.muli arg7 c2_i32_45
  let c1_i32_46 : BitVec 32 := 1#32
  let v119 : BitVec 32 := Scalar.addi v118 c1_i32_46
  let v120 : BitVec 32 := Scalar.subi c255_i32_47 v119
  let c1_i32_91 : BitVec 32 := 1#32
  let v360 : BitVec 32 := Scalar.subi v120 c1_i32_91
  let c0_i32_92 : BitVec 32 := 0#32
  let v361 : BitVec 32 := Scalar.maxsi v360 c0_i32_92
  let c16_i32_93 : BitVec 32 := 16#32
  let v362 : BitVec 32 := Scalar.muli v361 c16_i32_93
  v362
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S8x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2x4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2x4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]
-- ==== ReferenceIdeal.lean ====
abbrev S2048x1 : Shape := ⟨2, ![2048, 1]⟩
abbrev S2048x16 : Shape := ⟨2, ![2048, 16]⟩
abbrev S2x8192x2048 : Shape := ⟨3, ![2, 8192, 2048]⟩
abbrev S2048 : Shape := ⟨1, ![2048]⟩
abbrev S2x2x4096x2048 : Shape := ⟨4, ![2, 2, 4096, 2048]⟩
abbrev S4096x2x2x2048 : Shape := ⟨4, ![4096, 2, 2, 2048]⟩
abbrev S_ : Shape := ⟨0, ![]⟩
abbrev S2x2048 : Shape := ⟨2, ![2, 2048]⟩
abbrev S1x2048 : Shape := ⟨2, ![1, 2048]⟩
abbrev S4096x2x2048 : Shape := ⟨3, ![4096, 2, 2048]⟩
abbrev S1x2x2x2048 : Shape := ⟨4, ![1, 2, 2, 2048]⟩
abbrev S2x2x2048 : Shape := ⟨3, ![2, 2, 2048]⟩
abbrev S1x2x2048 : Shape := ⟨3, ![1, 2, 2048]⟩

abbrev nBuf : Space → Nat
  | .hbm => 204
  | .vmem => 0
  | .smem => 0
  | _ => 0

abbrev hbmTy0_0 (i : Nat) : BufTy := match i % 128 with
  | 0 => ⟨S2048x1, .f32⟩
  | 1 => ⟨S2048x1, .f32⟩
  | 2 => ⟨S2048x1, .f32⟩
  | 3 => ⟨S2048x16, .f32⟩
  | 4 => ⟨S2048x16, .f32⟩
  | 5 => ⟨S2x8192x2048, .bf16⟩
  | 6 => ⟨S2x8192x2048, .bf16⟩
  | 7 => ⟨S2048x1, .f32⟩
  | 8 => ⟨S2048x1, .f32⟩
  | 9 => ⟨S2048x1, .f32⟩
  | 10 => ⟨S2048x1, .f32⟩
  | 11 => ⟨S2048x1, .f32⟩
  | 12 => ⟨S2048x1, .f32⟩
  | 13 => ⟨S2048, .f32⟩
  | 14 => ⟨S2048x1, .f32⟩
  | 15 => ⟨S2048x1, .f32⟩
  | 16 => ⟨S2048x1, .f32⟩
  | 17 => ⟨S2048, .f32⟩
  | 18 => ⟨S2x8192x2048, .f32⟩
  | 19 => ⟨S2x2x4096x2048, .f32⟩
  | 20 => ⟨S4096x2x2x2048, .f32⟩
  | 21 => ⟨S_, .f32⟩
  | 22 => ⟨S2x2048, .f32⟩
  | 23 => ⟨S1x2048, .f32⟩
  | 24 => ⟨S1x2048, .f32⟩
  | 25 => ⟨S1x2048, .f32⟩
  | 26 => ⟨S1x2048, .f32⟩
  | 27 => ⟨S_, .f32⟩
  | 28 => ⟨S4096x2x2x2048, .f32⟩
  | 29 => ⟨S_, .f32⟩
  | 30 => ⟨S4096x2x2048, .f32⟩
  | 31 => ⟨S_, .f32⟩
  | 32 => ⟨S4096x2x2048, .f32⟩
  | 33 => ⟨S_, .i32⟩
  | 34 => ⟨S4096x2x2x2048, .f32⟩
  | 35 => ⟨S1x2048, .f32⟩
  | 36 => ⟨S1x2048, .f32⟩
  | 37 => ⟨S1x2048, .f32⟩
  | 38 => ⟨S1x2048, .f32⟩
  | 39 => ⟨S_, .i32⟩
  | 40 => ⟨S2x2048, .f32⟩
  | 41 => ⟨S2x2048, .f32⟩
  | 42 => ⟨S4096x2x2x2048, .f32⟩
  | 43 => ⟨S4096x2x2048, .f32⟩
  | 44 => ⟨S4096x2x2048, .f32⟩
  | 45 => ⟨S_, .i32⟩
  | 46 => ⟨S_, .i1⟩
  | 47 => ⟨S_, .i32⟩
  | 48 => ⟨S_, .i32⟩
  | 49 => ⟨S_, .i32⟩
  | 50 => ⟨S1x2x2x2048, .f32⟩
  | 51 => ⟨S2x2x2048, .f32⟩
  | 52 => ⟨S2x2048, .f32⟩
  | 53 => ⟨S2x2048, .f32⟩
  | 54 => ⟨S2x2048, .f32⟩
  | 55 => ⟨S2x2048, .f32⟩
  | 56 => ⟨S2x2048, .f32⟩
  | 57 => ⟨S1x2x2048, .f32⟩
  | 58 => ⟨S2x2048, .f32⟩
  | 59 => ⟨S2x2048, .f32⟩
  | 60 => ⟨S2x2048, .f32⟩
  | 61 => ⟨S2x2048, .f32⟩
  | 62 => ⟨S2x2048, .f32⟩
  | 63 => ⟨S2x2048, .f32⟩
  | 64 => ⟨S2x2048, .f32⟩
  | 65 => ⟨S1x2x2048, .f32⟩
  | 66 => ⟨S2x2048, .f32⟩
  | 67 => ⟨S2x2048, .f32⟩
  | 68 => ⟨S1x2x2048, .f32⟩
  | 69 => ⟨S1x2x2048, .f32⟩
  | 70 => ⟨S2x2x2048, .f32⟩
  | 71 => ⟨S1x2x2x2048, .f32⟩
  | 72 => ⟨S_, .i32⟩
  | 73 => ⟨S_, .i32⟩
  | 74 => ⟨S_, .i32⟩
  | 75 => ⟨S4096x2x2x2048, .f32⟩
  | 76 => ⟨S1x2x2048, .f32⟩
  | 77 => ⟨S_, .i32⟩
  | 78 => ⟨S_, .i32⟩
  | 79 => ⟨S4096x2x2048, .f32⟩
  | 80 => ⟨S1x2x2048, .f32⟩
  | 81 => ⟨S_, .i32⟩
  | 82 => ⟨S_, .i32⟩
  | 83 => ⟨S4096x2x2048, .f32⟩
  | 84 => ⟨S_, .i32⟩
  | 85 => ⟨S_, .i32⟩
  | 86 => ⟨S2x2x4096x2048, .f32⟩
  | 87 => ⟨S2x8192x2048, .f32⟩
  | 88 => ⟨S2x8192x2048, .f32⟩
  | 89 => ⟨S_, .f32⟩
  | 90 => ⟨S2x2048, .f32⟩
  | 91 => ⟨S_, .f32⟩
  | 92 => ⟨S2x2048, .f32⟩
  | 93 => ⟨S2x2x4096x2048, .f32⟩
  | 94 => ⟨S4096x2x2x2048, .f32⟩
  | 95 => ⟨S_, .f32⟩
  | 96 => ⟨S2x2048, .f32⟩
  | 97 => ⟨S_, .f32⟩
  | 98 => ⟨S2x2048, .f32⟩
  | 99 => ⟨S_, .f32⟩
  | 100 => ⟨S2048, .f32⟩
  | 101 => ⟨S_, .f32⟩
  | 102 => ⟨S2048, .f32⟩
  | 103 => ⟨S_, .f32⟩
  | 104 => ⟨S4096x2x2x2048, .f32⟩
  | 105 => ⟨S_, .i32⟩
  | 106 => ⟨S4096x2x2x2048, .f32⟩
  | 107 => ⟨S4096x2x2048, .f32⟩
  | 108 => ⟨S4096x2x2048, .f32⟩
  | 109 => ⟨S1x2048, .f32⟩
  | 110 => ⟨S1x2048, .f32⟩
  | 111 => ⟨S1x2048, .f32⟩
  | 112 => ⟨S1x2048, .f32⟩
  | 113 => ⟨S_, .i32⟩
  | 114 => ⟨S2048, .f32⟩
  | 115 => ⟨S2048, .f32⟩
  | 116 => ⟨S2x2048, .f32⟩
  | 117 => ⟨S2x2048, .f32⟩
  | 118 => ⟨S4096x2x2x2048, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S2048x1, .f32⟩

abbrev hbmTy0_1 (i : Nat) : BufTy := match i % 128 with
  | 0 => ⟨S1x2x2x2048, .f32⟩
  | 1 => ⟨S2x2x2048, .f32⟩
  | 2 => ⟨S_, .i32⟩
  | 3 => ⟨S_, .i32⟩
  | 4 => ⟨S1x2x2048, .f32⟩
  | 5 => ⟨S2x2048, .f32⟩
  | 6 => ⟨S_, .i32⟩
  | 7 => ⟨S_, .i32⟩
  | 8 => ⟨S1x2x2048, .f32⟩
  | 9 => ⟨S2x2048, .f32⟩
  | 10 => ⟨S1x2x2048, .f32⟩
  | 11 => ⟨S2x2048, .f32⟩
  | 12 => ⟨S1x2x2048, .f32⟩
  | 13 => ⟨S2x2048, .f32⟩
  | 14 => ⟨S2x2048, .f32⟩
  | 15 => ⟨S2x2048, .f32⟩
  | 16 => ⟨S1x2x2048, .f32⟩
  | 17 => ⟨S_, .f32⟩
  | 18 => ⟨S2x2x2048, .f32⟩
  | 19 => ⟨S2x2048, .f32⟩
  | 20 => ⟨S2x2048, .f32⟩
  | 21 => ⟨S2x2048, .f32⟩
  | 22 => ⟨S_, .f32⟩
  | 23 => ⟨S2048, .f32⟩
  | 24 => ⟨S1x2048, .f32⟩
  | 25 => ⟨S_, .f32⟩
  | 26 => ⟨S2048, .f32⟩
  | 27 => ⟨S2048, .f32⟩
  | 28 => ⟨S2x2048, .f32⟩
  | 29 => ⟨S2x2048, .f32⟩
  | 30 => ⟨S2x2048, .f32⟩
  | 31 => ⟨S_, .f32⟩
  | 32 => ⟨S2048, .f32⟩
  | 33 => ⟨S1x2048, .f32⟩
  | 34 => ⟨S_, .f32⟩
  | 35 => ⟨S2048, .f32⟩
  | 36 => ⟨S2048, .f32⟩
  | 37 => ⟨S1x2x2048, .f32⟩
  | 38 => ⟨S_, .f32⟩
  | 39 => ⟨S2x2x2048, .f32⟩
  | 40 => ⟨S2x2x2048, .f32⟩
  | 41 => ⟨S2x2048, .f32⟩
  | 42 => ⟨S2x2048, .f32⟩
  | 43 => ⟨S2x2048, .f32⟩
  | 44 => ⟨S2x2048, .f32⟩
  | 45 => ⟨S2x2048, .f32⟩
  | 46 => ⟨S_, .f32⟩
  | 47 => ⟨S2048, .f32⟩
  | 48 => ⟨S1x2048, .f32⟩
  | 49 => ⟨S_, .f32⟩
  | 50 => ⟨S2048, .f32⟩
  | 51 => ⟨S2048, .f32⟩
  | 52 => ⟨S2x2048, .f32⟩
  | 53 => ⟨S2x2048, .f32⟩
  | 54 => ⟨S2x2048, .f32⟩
  | 55 => ⟨S2x2048, .f32⟩
  | 56 => ⟨S_, .f32⟩
  | 57 => ⟨S2048, .f32⟩
  | 58 => ⟨S1x2048, .f32⟩
  | 59 => ⟨S_, .f32⟩
  | 60 => ⟨S2048, .f32⟩
  | 61 => ⟨S2048, .f32⟩
  | 62 => ⟨S1x2x2x2048, .f32⟩
  | 63 => ⟨S_, .i32⟩
  | 64 => ⟨S_, .i32⟩
  | 65 => ⟨S_, .i32⟩
  | 66 => ⟨S4096x2x2x2048, .f32⟩
  | 67 => ⟨S_, .i32⟩
  | 68 => ⟨S_, .i32⟩
  | 69 => ⟨S2x2x4096x2048, .f32⟩
  | 70 => ⟨S2x8192x2048, .f32⟩
  | 71 => ⟨S2x8192x2048, .bf16⟩
  | 72 => ⟨S2x8192x2048, .bf16⟩
  | 73 => ⟨S1x2048, .f32⟩
  | 74 => ⟨S1x2048, .f32⟩
  | 75 => ⟨S2x2048, .f32⟩
  | _ => ⟨S2048x1, .f32⟩

abbrev hbmTy (i : Nat) : BufTy := match i / 128 with
  | 0 => hbmTy0_0 i
  | 1 => hbmTy0_1 i
  | _ => ⟨S2048x1, .f32⟩

abbrev bufTy : (tb : Table) → Fin (tcTables nBuf tb) → BufTy
  | .hbm, ⟨i, _⟩ => hbmTy i
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_c : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev main_v22_7 : Ref sig .tc := ⟨.hbm, 41, rfl⟩
abbrev main_v22_8 : Ref sig .tc := ⟨.hbm, 42, rfl⟩
abbrev main_v22_9 : Ref sig .tc := ⟨.hbm, 43, rfl⟩
abbrev main_v22_10 : Ref sig .tc := ⟨.hbm, 44, rfl⟩
abbrev main_while0c_c_21 : Ref sig .tc := ⟨.hbm, 45, rfl⟩
abbrev main_while0c_v43 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_v0 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_v50 : Ref sig .tc := ⟨.hbm, 58, rfl⟩
abbrev main_while0b_v51 : Ref sig .tc := ⟨.hbm, 59, rfl⟩
abbrev main_while0b_v52 : Ref sig .tc := ⟨.hbm, 60, rfl⟩
abbrev main_while0b_v53 : Ref sig .tc := ⟨.hbm, 61, rfl⟩
abbrev main_while0b_v54 : Ref sig .tc := ⟨.hbm, 62, rfl⟩
abbrev main_while0b_v55 : Ref sig .tc := ⟨.hbm, 63, rfl⟩
abbrev main_while0b_v56 : Ref sig .tc := ⟨.hbm, 64, rfl⟩
abbrev main_while0b_v57 : Ref sig .tc := ⟨.hbm, 65, rfl⟩
abbrev main_while0b_v58 : Ref sig .tc := ⟨.hbm, 66, rfl⟩
abbrev main_while0b_v59 : Ref sig .tc := ⟨.hbm, 67, rfl⟩
abbrev main_while0b_v60 : Ref sig .tc := ⟨.hbm, 68, rfl⟩
abbrev main_while0b_v61 : Ref sig .tc := ⟨.hbm, 69, rfl⟩
abbrev main_while0b_v62 : Ref sig .tc := ⟨.hbm, 70, rfl⟩
abbrev main_while0b_call1_v0 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_c_1 : Ref sig .tc := ⟨.hbm, 74, rfl⟩
abbrev main_while0b_v63 : Ref sig .tc := ⟨.hbm, 75, rfl⟩
abbrev main_while0b_call2_v0 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_v64 : Ref sig .tc := ⟨.hbm, 79, rfl⟩
abbrev main_while0b_call3_v0 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_v65 : Ref sig .tc := ⟨.hbm, 83, rfl⟩
abbrev main_while0b_c_21 : Ref sig .tc := ⟨.hbm, 84, rfl⟩
abbrev main_while0b_v66 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_3 : Ref sig .tc := ⟨.hbm, 89, rfl⟩
abbrev main_v26 : Ref sig .tc := ⟨.hbm, 90, rfl⟩
abbrev main_cst_4 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_5 : Ref sig .tc := ⟨.hbm, 95, rfl⟩
abbrev main_v30 : Ref sig .tc := ⟨.hbm, 96, rfl⟩
abbrev main_cst_6 : Ref sig .tc := ⟨.hbm, 97, rfl⟩
abbrev main_v31 : Ref sig .tc := ⟨.hbm, 98, rfl⟩
abbrev main_cst_7 : Ref sig .tc := ⟨.hbm, 99, rfl⟩
abbrev main_v32 : Ref sig .tc := ⟨.hbm, 100, rfl⟩
abbrev main_cst_8 : Ref sig .tc := ⟨.hbm, 101, rfl⟩
abbrev main_v33 : Ref sig .tc := ⟨.hbm, 102, rfl⟩
abbrev main_cst_9 : Ref sig .tc := ⟨.hbm, 103, rfl⟩
abbrev main_v34 : Ref sig .tc := ⟨.hbm, 104, rfl⟩
abbrev main_c_10 : Ref sig .tc := ⟨.hbm, 105, rfl⟩
abbrev main_v35_0 : Ref sig .tc := ⟨.hbm, 106, rfl⟩
abbrev main_v35_1 : Ref sig .tc := ⟨.hbm, 107, rfl⟩
abbrev main_v35_2 : Ref sig .tc := ⟨.hbm, 108, rfl⟩
abbrev main_v35_3 : Ref sig .tc := ⟨.hbm, 109, rfl⟩
abbrev main_v35_4 : Ref sig .tc := ⟨.hbm, 110, rfl⟩
abbrev main_v35_5 : Ref sig .tc := ⟨.hbm, 111, rfl⟩
abbrev main_v35_6 : Ref sig .tc := ⟨.hbm, 112, rfl⟩
abbrev main_v35_7 : Ref sig .tc := ⟨.hbm, 113, rfl⟩
abbrev main_v35_8 : Ref sig .tc := ⟨.hbm, 114, rfl⟩
abbrev main_v35_9 : Ref sig .tc := ⟨.hbm, 115, rfl⟩
abbrev main_v35_10 : Ref sig .tc := ⟨.hbm, 116, rfl⟩
abbrev main_v35_11 : Ref sig .tc := ⟨.hbm, 117, rfl⟩
abbrev main_v35_12 : Ref sig .tc := ⟨.hbm, 118, rfl⟩
abbrev main_while1c_c_23 : Ref sig .tc := ⟨.hbm, 119, rfl⟩
abbrev main_while1c_v43 : Ref sig .tc := ⟨.hbm, 120, rfl⟩
abbrev main_while1b_c_23 : Ref sig .tc := ⟨.hbm, 121, rfl⟩
abbrev main_while1b_v43 : Ref sig .tc := ⟨.hbm, 122, rfl⟩
abbrev main_while1b_c_24 : Ref sig .tc := ⟨.hbm, 123, rfl⟩
abbrev main_while1b_v44 : Ref sig .tc := ⟨.hbm, 124, rfl⟩
abbrev main_while1b_call4_c : Ref sig .tc := ⟨.hbm, 125, rfl⟩
abbrev main_while1b_call4_c_0 : Ref sig .tc := ⟨.hbm, 126, rfl⟩
abbrev main_while1b_call4_c_1 : Ref sig .tc := ⟨.hbm, 127, rfl⟩
abbrev main_while1b_call4_v0 : Ref sig .tc := ⟨.hbm, 128, rfl⟩
abbrev main_while1b_v45 : Ref sig .tc := ⟨.hbm, 129, rfl⟩
abbrev main_while1b_call5_c : Ref sig .tc := ⟨.hbm, 130, rfl⟩
abbrev main_while1b_call5_c_0 : Ref sig .tc := ⟨.hbm, 131, rfl⟩
abbrev main_while1b_call5_v0 : Ref sig .tc := ⟨.hbm, 132, rfl⟩
abbrev main_while1b_v46 : Ref sig .tc := ⟨.hbm, 133, rfl⟩
abbrev main_while1b_call6_c : Ref sig .tc := ⟨.hbm, 134, rfl⟩
abbrev main_while1b_call6_c_0 : Ref sig .tc := ⟨.hbm, 135, rfl⟩
abbrev main_while1b_call6_v0 : Ref sig .tc := ⟨.hbm, 136, rfl⟩
abbrev main_while1b_v47 : Ref sig .tc := ⟨.hbm, 137, rfl⟩
abbrev main_while1b_v48 : Ref sig .tc := ⟨.hbm, 138, rfl⟩
abbrev main_while1b_v49 : Ref sig .tc := ⟨.hbm, 139, rfl⟩
abbrev main_while1b_v50 : Ref sig .tc := ⟨.hbm, 140, rfl⟩
abbrev main_while1b_v51 : Ref sig .tc := ⟨.hbm, 141, rfl⟩
abbrev main_while1b_v52 : Ref sig .tc := ⟨.hbm, 142, rfl⟩
abbrev main_while1b_v53 : Ref sig .tc := ⟨.hbm, 143, rfl⟩
abbrev main_while1b_v54 : Ref sig .tc := ⟨.hbm, 144, rfl⟩
abbrev main_while1b_cst_25 : Ref sig .tc := ⟨.hbm, 145, rfl⟩
abbrev main_while1b_v55 : Ref sig .tc := ⟨.hbm, 146, rfl⟩
abbrev main_while1b_v56 : Ref sig .tc := ⟨.hbm, 147, rfl⟩
abbrev main_while1b_v57 : Ref sig .tc := ⟨.hbm, 148, rfl⟩
abbrev main_while1b_v58 : Ref sig .tc := ⟨.hbm, 149, rfl⟩
abbrev main_while1b_cst_26 : Ref sig .tc := ⟨.hbm, 150, rfl⟩
abbrev main_while1b_v59 : Ref sig .tc := ⟨.hbm, 151, rfl⟩
abbrev main_while1b_v60 : Ref sig .tc := ⟨.hbm, 152, rfl⟩
abbrev main_while1b_cst_27 : Ref sig .tc := ⟨.hbm, 153, rfl⟩
abbrev main_while1b_v61 : Ref sig .tc := ⟨.hbm, 154, rfl⟩
abbrev main_while1b_v62 : Ref sig .tc := ⟨.hbm, 155, rfl⟩
abbrev main_while1b_v63 : Ref sig .tc := ⟨.hbm, 156, rfl⟩
abbrev main_while1b_v64 : Ref sig .tc := ⟨.hbm, 157, rfl⟩
abbrev main_while1b_v65 : Ref sig .tc := ⟨.hbm, 158, rfl⟩
abbrev main_while1b_cst_28 : Ref sig .tc := ⟨.hbm, 159, rfl⟩
abbrev main_while1b_v66 : Ref sig .tc := ⟨.hbm, 160, rfl⟩
abbrev main_while1b_v67 : Ref sig .tc := ⟨.hbm, 161, rfl⟩
abbrev main_while1b_cst_29 : Ref sig .tc := ⟨.hbm, 162, rfl⟩
abbrev main_while1b_v68 : Ref sig .tc := ⟨.hbm, 163, rfl⟩
abbrev main_while1b_v69 : Ref sig .tc := ⟨.hbm, 164, rfl⟩
abbrev main_while1b_v70 : Ref sig .tc := ⟨.hbm, 165, rfl⟩
abbrev main_while1b_cst_30 : Ref sig .tc := ⟨.hbm, 166, rfl⟩
abbrev main_while1b_v71 : Ref sig .tc := ⟨.hbm, 167, rfl⟩
abbrev main_while1b_v72 : Ref sig .tc := ⟨.hbm, 168, rfl⟩
abbrev main_while1b_v73 : Ref sig .tc := ⟨.hbm, 169, rfl⟩
abbrev main_while1b_v74 : Ref sig .tc := ⟨.hbm, 170, rfl⟩
abbrev main_while1b_v75 : Ref sig .tc := ⟨.hbm, 171, rfl⟩
abbrev main_while1b_v76 : Ref sig .tc := ⟨.hbm, 172, rfl⟩
abbrev main_while1b_v77 : Ref sig .tc := ⟨.hbm, 173, rfl⟩
abbrev main_while1b_cst_31 : Ref sig .tc := ⟨.hbm, 174, rfl⟩
abbrev main_while1b_v78 : Ref sig .tc := ⟨.hbm, 175, rfl⟩
abbrev main_while1b_v79 : Ref sig .tc := ⟨.hbm, 176, rfl⟩
abbrev main_while1b_cst_32 : Ref sig .tc := ⟨.hbm, 177, rfl⟩
abbrev main_while1b_v80 : Ref sig .tc := ⟨.hbm, 178, rfl⟩
abbrev main_while1b_v81 : Ref sig .tc := ⟨.hbm, 179, rfl⟩
abbrev main_while1b_v82 : Ref sig .tc := ⟨.hbm, 180, rfl⟩
abbrev main_while1b_v83 : Ref sig .tc := ⟨.hbm, 181, rfl⟩
abbrev main_while1b_v84 : Ref sig .tc := ⟨.hbm, 182, rfl⟩
abbrev main_while1b_v85 : Ref sig .tc := ⟨.hbm, 183, rfl⟩
abbrev main_while1b_cst_33 : Ref sig .tc := ⟨.hbm, 184, rfl⟩
abbrev main_while1b_v86 : Ref sig .tc := ⟨.hbm, 185, rfl⟩
abbrev main_while1b_v87 : Ref sig .tc := ⟨.hbm, 186, rfl⟩
abbrev main_while1b_cst_34 : Ref sig .tc := ⟨.hbm, 187, rfl⟩
abbrev main_while1b_v88 : Ref sig .tc := ⟨.hbm, 188, rfl⟩
abbrev main_while1b_v89 : Ref sig .tc := ⟨.hbm, 189, rfl⟩
abbrev main_while1b_call7_v0 : Ref sig .tc := ⟨.hbm, 190, rfl⟩
abbrev main_while1b_call7_c : Ref sig .tc := ⟨.hbm, 191, rfl⟩
abbrev main_while1b_call7_c_0 : Ref sig .tc := ⟨.hbm, 192, rfl⟩
abbrev main_while1b_call7_c_1 : Ref sig .tc := ⟨.hbm, 193, rfl⟩
abbrev main_while1b_v90 : Ref sig .tc := ⟨.hbm, 194, rfl⟩
abbrev main_while1b_c_35 : Ref sig .tc := ⟨.hbm, 195, rfl⟩
abbrev main_while1b_v91 : Ref sig .tc := ⟨.hbm, 196, rfl⟩
abbrev main_v36 : Ref sig .tc := ⟨.hbm, 197, rfl⟩
abbrev main_v37 : Ref sig .tc := ⟨.hbm, 198, rfl⟩
abbrev main_v38 : Ref sig .tc := ⟨.hbm, 199, rfl⟩
abbrev main_v39 : Ref sig .tc := ⟨.hbm, 200, rfl⟩
abbrev main_v40 : Ref sig .tc := ⟨.hbm, 201, rfl⟩
abbrev main_v41 : Ref sig .tc := ⟨.hbm, 202, rfl⟩
abbrev main_v42 : Ref sig .tc := ⟨.hbm, 203, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x2816 : Shape := ⟨2, ![8192, 2816]⟩
abbrev S1x1024x1408 : Shape := ⟨3, ![1, 1024, 1408]⟩
abbrev S512x1408 : Shape := ⟨2, ![512, 1408]⟩
abbrev S1024x1408 : Shape := ⟨2, ![1024, 1408]⟩
abbrev S512x2816 : Shape := ⟨2, ![512, 2816]⟩
abbrev S1024x2816 : Shape := ⟨2, ![1024, 2816]⟩
abbrev S8192x5632 : Shape := ⟨2, ![8192, 5632]⟩

abbrev nBuf : Space → Nat
  | .hbm => 13
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S2816x1024, .bf16⟩
  | .hbm, ⟨4, _⟩ => ⟨S8192x1024, .bf16⟩
  | .hbm, ⟨5, _⟩ => ⟨S1x1024, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .hbm, ⟨10, _⟩ => ⟨S8192x1024, .f32⟩
  | .hbm, ⟨11, _⟩ => ⟨S1024x2816, .bf16⟩
  | .hbm, ⟨12, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x2816, .bf16⟩
  | .local _ .vmem, ⟨18, _⟩ => ⟨S512x2816, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1024x1408, .bf16⟩
  | .local _ .vmem, ⟨27, _⟩ => ⟨S1024x1408, .bf16⟩
  | .local _ .vmem, ⟨28, _⟩ => ⟨S512x1408, .bf16⟩
  | .local _ .vmem, ⟨29, _⟩ => ⟨S512x1408, .bf16⟩
  | .local _ .vmem, ⟨30, _⟩ => ⟨S512x1408, .bf16⟩
  | .local _ .vmem, ⟨31, _⟩ => ⟨S512x1408, .bf16⟩
  | .local _ .vmem, ⟨32, _⟩ => ⟨S512x2816, .bf16⟩
  | .local _ .vmem, ⟨33, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x2816 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference2Ideal.lean ====
abbrev S8192x1024 : Shape := ⟨2, ![8192, 1024]⟩
abbrev S1024 : Shape := ⟨1, ![1024]⟩
abbrev S4x1024x1408 : Shape := ⟨3, ![4, 1024, 1408]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S8192x2x2x1408 : Shape := ⟨4, ![8192, 2, 2, 1408]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S2816x1024, .bf16⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S4x1024x1408, .f32⟩
  | .hbm, ⟨22, _⟩ => ⟨S1024x4x1408, .f32⟩
  | .hbm, ⟨23, _⟩ => ⟨S1024x5632, .f32⟩
  | .hbm, ⟨24, _⟩ => ⟨S8192x5632, .f32⟩
  | .hbm, ⟨25, _⟩ => ⟨S2816x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x5632, .f32⟩
  | .hbm, ⟨59, _⟩ => ⟨S8192x2x2x1408, .f32⟩
  | .hbm, ⟨60, _⟩ => ⟨S8192x2x2x1408, .f32⟩
  | .hbm, ⟨61, _⟩ => ⟨S8192x5632, .f32⟩
  | .hbm, ⟨62, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 38
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024 : Shape := ⟨1, ![1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S2816x1024 : Shape := ⟨2, ![2816, 1024]⟩
abbrev S8192x2816 : Shape := ⟨2, ![8192, 2816]⟩
abbrev S1024x2816 : Shape := ⟨2, ![1024, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S_, .f32⟩
  | .hbm, ⟨25, _⟩ => ⟨S2816x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1024x2816, .f32⟩
  | .hbm, ⟨47, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg0.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S4x1024x1408 : Shape := ⟨3, ![4, 1024, 1408]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x2x2x1408 : Shape := ⟨4, ![8192, 2, 2, 1408]⟩
abbrev S5632x1024 : Shape := ⟨2, ![5632, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .bf16⟩
  | .hbm, ⟨3, _⟩ => ⟨S_, .f32⟩
  | .hbm, ⟨4, _⟩ => ⟨S4x1024x1408, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S8192x5632, .f32⟩
  | .hbm, ⟨25, _⟩ => ⟨S8192x2x2x1408, .f32⟩
  | .hbm, ⟨26, _⟩ => ⟨S8192x2x2x1408, .f32⟩
  | .hbm, ⟨27, _⟩ => ⟨S8192x5632, .f32⟩
  | .hbm, ⟨28, _⟩ => ⟨S5632x1024, .f32⟩
  | .hbm, ⟨29, _⟩ => ⟨S1024x5632, .f32⟩
  | .hbm, ⟨30, _⟩ => ⟨S1024x4x1408, .f32⟩
  | .hbm, ⟨31, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel5.lean ====
abbrev S4x1024x1408 : Shape := ⟨3, ![4, 1024, 1408]⟩
abbrev S8192x5632 : Shape := ⟨2, ![8192, 5632]⟩
abbrev S4x1408x1024 : Shape := ⟨3, ![4, 1408, 1024]⟩
abbrev S8192x1024 : Shape := ⟨2, ![8192, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x1024x1408, .bf16⟩
  | .hbm, ⟨1, _⟩ => ⟨S8192x5632, .bf16⟩
  | .hbm, ⟨2, _⟩ => ⟨S4x1408x1024, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg2 c2_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg2 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, c0_i32_11.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x1024x1408 : Shape := ⟨3, ![4, 1024, 1408]⟩
abbrev S8192x5632 : Shape := ⟨2, ![8192, 5632]⟩
abbrev S_ : Shape := ⟨0, ![]⟩
abbrev S8192x1024 : Shape := ⟨2, ![8192, 1024]⟩
abbrev S1024x4x1408 : Shape := ⟨3, ![1024, 4, 1408]⟩
abbrev S1024x5632 : Shape := ⟨2, ![1024, 5632]⟩
abbrev S8192x2x2x1408 : Shape := ⟨4, ![8192, 2, 2, 1408]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S8192x5632, .bf16⟩
  | .hbm, ⟨2, _⟩ => ⟨S_, .f32⟩
  | .hbm, ⟨3, _⟩ => ⟨S8192x1024, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S8192x2x2x1408, .f32⟩
  | .hbm, ⟨10, _⟩ => ⟨S8192x2x2x1408, .f32⟩
  | .hbm, ⟨11, _⟩ => ⟨S8192x5632, .f32⟩
  | .hbm, ⟨12, _⟩ => ⟨S8192x1024, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S4x128x512 : Shape := ⟨3, ![4, 128, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S4x128x512 : Shape := ⟨3, ![4, 128, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S_, .f32⟩
  | .hbm, ⟨5, _⟩ => ⟨S4x128x512, .f32⟩
  | .hbm, ⟨6, _⟩ => ⟨S4x128x512, .f32⟩
  | .hbm, ⟨7, _⟩ => ⟨S_, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S_, .f32⟩
  | .hbm, ⟨12, _⟩ => ⟨S4x128x512, .f32⟩
  | .hbm, ⟨13, _⟩ => ⟨S4x128x512, .f32⟩
  | .hbm, ⟨14, _⟩ => ⟨S4x128x512, .f32⟩
  | .hbm, ⟨15, _⟩ => ⟨S_, .f32⟩
  | .hbm, ⟨16, _⟩ => ⟨S4x128x512, .f32⟩
  | .hbm, ⟨17, _⟩ => ⟨S4x128x512, .f32⟩
  | .hbm, ⟨18, _⟩ => ⟨S4x128x512, .f32⟩
  | .hbm, ⟨19, _⟩ => ⟨S_, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S4x128x512, .f32⟩
  | .hbm, ⟨26, _⟩ => ⟨S_, .f32⟩
  | .hbm, ⟨27, _⟩ => ⟨S4x128x512, .f32⟩
  | .hbm, ⟨28, _⟩ => ⟨S4x128x512, .f32⟩
  | .hbm, ⟨29, _⟩ => ⟨S4x128x512, .f32⟩
  | .hbm, ⟨30, _⟩ => ⟨S_, .f32⟩
  | .hbm, ⟨31, _⟩ => ⟨S4x128x512, .f32⟩
  | .hbm, ⟨32, _⟩ => ⟨S4x128x512, .f32⟩
  | .hbm, ⟨33, _⟩ => ⟨S4x128x512, .f32⟩
  | .hbm, ⟨34, _⟩ => ⟨S_, .f32⟩
  | .hbm, ⟨35, _⟩ => ⟨S4x128x512, .f32⟩
  | .hbm, ⟨36, _⟩ => ⟨S4x128x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S4x256x256 : Shape := ⟨3, ![4, 256, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S4x256x256 : Shape := ⟨3, ![4, 256, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S4x1024 : Shape := ⟨2, ![4, 1024]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x4x128x128 : Shape := ⟨4, ![4, 4, 128, 128]⟩
abbrev S1024 : Shape := ⟨1, ![1024]⟩
abbrev S4096 : Shape := ⟨1, ![4096]⟩
abbrev S8192 : Shape := ⟨1, ![8192]⟩
abbrev S128 : Shape := ⟨1, ![128]⟩
abbrev S131072 : Shape := ⟨1, ![131072]⟩
abbrev S2048 : Shape := ⟨1, ![2048]⟩
abbrev S262144 : Shape := ⟨1, ![262144]⟩
abbrev S824448 : Shape := ⟨1, ![824448]⟩
abbrev S_ : Shape := ⟨0, ![]⟩
abbrev S825344 : Shape := ⟨1, ![825344]⟩
abbrev S6448x128 : Shape := ⟨2, ![6448, 128]⟩
abbrev S496x128 : Shape := ⟨2, ![496, 128]⟩

abbrev nBuf : Space → Nat
  | .hbm => 229
  | .vmem => 14
  | .smem => 0
  | _ => 0

abbrev hbmTy0_0 (i : Nat) : BufTy := match i % 128 with
  | 0 => ⟨S4x1024, .f32⟩
  | 1 => ⟨S4x1024, .f32⟩
  | 2 => ⟨S4x32x64, .f32⟩
  | 3 => ⟨S4x32x64, .f32⟩
  | 4 => ⟨S4x32, .f32⟩
  | 5 => ⟨S4x32x64x16, .f32⟩
  | 6 => ⟨S4x32x64x16, .f32⟩
  | 7 => ⟨S4x32x16x64, .f32⟩
  | 8 => ⟨S4x32x16x64, .f32⟩
  | 9 => ⟨S4x512, .f32⟩
  | 10 => ⟨S4x4x128x128, .f32⟩
  | 11 => ⟨S4x512, .f32⟩
  | 12 => ⟨S4x1024, .f32⟩
  | 13 => ⟨S4x1024, .f32⟩
  | 14 => ⟨S1024, .f32⟩
  | 15 => ⟨S4x1024, .f32⟩
  | 16 => ⟨S4x1024, .f32⟩
  | 17 => ⟨S4x32x64, .f32⟩
  | 18 => ⟨S4x32x64, .f32⟩
  | 19 => ⟨S4x32, .f32⟩
  | 20 => ⟨S4x32x64x16, .f32⟩
  | 21 => ⟨S4x32x64x16, .f32⟩
  | 22 => ⟨S4x32x16x64, .f32⟩
  | 23 => ⟨S4x32x16x64, .f32⟩
  | 24 => ⟨S4x512, .f32⟩
  | 25 => ⟨S4x4x128x128, .f32⟩
  | 26 => ⟨S4x512, .f32⟩
  | 27 => ⟨S4x1024, .f32⟩
  | 28 => ⟨S4x1024, .f32⟩
  | 29 => ⟨S1024, .f32⟩
  | 30 => ⟨S4x1024, .f32⟩
  | 31 => ⟨S4x1024, .f32⟩
  | 32 => ⟨S4x32x64, .f32⟩
  | 33 => ⟨S4x32x64, .f32⟩
  | 34 => ⟨S4x32, .f32⟩
  | 35 => ⟨S4x32x64x16, .f32⟩
  | 36 => ⟨S4x32x64x16, .f32⟩
  | 37 => ⟨S4x32x16x64, .f32⟩
  | 38 => ⟨S4x32x16x64, .f32⟩
  | 39 => ⟨S4x512, .f32⟩
  | 40 => ⟨S4x4x128x128, .f32⟩
  | 41 => ⟨S4x512, .f32⟩
  | 42 => ⟨S4x1024, .f32⟩
  | 43 => ⟨S4x1024, .f32⟩
  | 44 => ⟨S1024, .f32⟩
  | 45 => ⟨S4x1024, .f32⟩
  | 46 => ⟨S4x1024, .f32⟩
  | 47 => ⟨S4x32x64, .f32⟩
  | 48 => ⟨S4x32x64, .f32⟩
  | 49 => ⟨S4x32, .f32⟩
  | 50 => ⟨S4x32x64x16, .f32⟩
  | 51 => ⟨S4x32x64x16, .f32⟩
  | 52 => ⟨S4x32x16x64, .f32⟩
  | 53 => ⟨S4x32x16x64, .f32⟩
  | 54 => ⟨S4x512, .f32⟩
  | 55 => ⟨S4x4x128x128, .f32⟩
  | 56 => ⟨S4x512, .f32⟩
  | 57 => ⟨S4x1024, .f32⟩
  | 58 => ⟨S4x1024, .f32⟩
  | 59 => ⟨S1024, .f32⟩
  | 60 => ⟨S4096, .f32⟩
  | 61 => ⟨S4096, .f32⟩
  | 62 => ⟨S8192, .f32⟩
  | 63 => ⟨S8192, .f32⟩
  | 64 => ⟨S128, .f32⟩
  | 65 => ⟨S131072, .f32⟩
  | 66 => ⟨S131072, .f32⟩
  | 67 => ⟨S131072, .f32⟩
  | 68 => ⟨S131072, .f32⟩
  | 69 => ⟨S2048, .f32⟩
  | 70 => ⟨S262144, .f32⟩
  | 71 => ⟨S2048, .f32⟩
  | 72 => ⟨S4096, .f32⟩
  | 73 => ⟨S4096, .f32⟩
  | 74 => ⟨S824448, .f32⟩
  | 75 => ⟨S_, .i32⟩
  | 76 => ⟨S_, .f32⟩
  | 77 => ⟨S825344, .f32⟩
  | 78 => ⟨S6448x128, .f32⟩
  | 79 => ⟨S4096, .f32⟩
  | 80 => ⟨S4096, .f32⟩
  | 81 => ⟨S8192, .f32⟩
  | 82 => ⟨S8192, .f32⟩
  | 83 => ⟨S128, .f32⟩
  | 84 => ⟨S131072, .f32⟩
  | 85 => ⟨S131072, .f32⟩
  | 86 => ⟨S131072, .f32⟩
  | 87 => ⟨S131072, .f32⟩
  | 88 => ⟨S2048, .f32⟩
  | 89 => ⟨S262144, .f32⟩
  | 90 => ⟨S2048, .f32⟩
  | 91 => ⟨S4096, .f32⟩
  | 92 => ⟨S4096, .f32⟩
  | 93 => ⟨S824448, .f32⟩
  | 94 => ⟨S_, .i32⟩
  | 95 => ⟨S_, .f32⟩
  | 96 => ⟨S825344, .f32⟩
  | 97 => ⟨S6448x128, .f32⟩
  | 98 => ⟨S4096, .f32⟩
  | 99 => ⟨S4096, .f32⟩
  | 100 => ⟨S8192, .f32⟩
  | 101 => ⟨S8192, .f32⟩
  | 102 => ⟨S128, .f32⟩
  | 103 => ⟨S131072, .f32⟩
  | 104 => ⟨S131072, .f32⟩
  | 105 => ⟨S131072, .f32⟩
  | 106 => ⟨S131072, .f32⟩
  | 107 => ⟨S2048, .f32⟩
  | 108 => ⟨S262144, .f32⟩
  | 109 => ⟨S2048, .f32⟩
  | 110 => ⟨S4096, .f32⟩
  | 111 => ⟨S4096, .f32⟩
  | 112 => ⟨S824448, .f32⟩
  | 113 => ⟨S_, .i32⟩
  | 114 => ⟨S_, .f32⟩
  | 115 => ⟨S825344, .f32⟩
  | 116 => ⟨S6448x128, .f32⟩
  | 117 => ⟨S4096, .f32⟩
  | 118 => ⟨S4096, .f32⟩
  | 119 => ⟨S8192, .f32⟩
  | 120 => ⟨S8192, .f32⟩
  | 121 => ⟨S128, .f32⟩
  | 122 => ⟨S131072, .f32⟩
  | 123 => ⟨S131072, .f32⟩
  | 124 => ⟨S131072, .f32⟩
  | 125 => ⟨S131072, .f32⟩
  | 126 => ⟨S2048, .f32⟩
  | 127 => ⟨S262144, .f32⟩
  | _ => ⟨S4x1024, .f32⟩

abbrev hbmTy0_1 (i : Nat) : BufTy := match i % 128 with
  | 0 => ⟨S2048, .f32⟩
  | 1 => ⟨S4096, .f32⟩
  | 2 => ⟨S4096, .f32⟩
  | 3 => ⟨S824448, .f32⟩
  | 4 => ⟨S_, .i32⟩
  | 5 => ⟨S_, .f32⟩
  | 6 => ⟨S825344, .f32⟩
  | 7 => ⟨S6448x128, .f32⟩
  | 8 => ⟨S6448x128, .f32⟩
  | 9 => ⟨S6448x128, .f32⟩
  | 10 => ⟨S6448x128, .f32⟩
  | 11 => ⟨S825344, .f32⟩
  | 12 => ⟨S4096, .f32⟩
  | 13 => ⟨S4x1024, .f32⟩
  | 14 => ⟨S4096, .f32⟩
  | 15 => ⟨S4x1024, .f32⟩
  | 16 => ⟨S8192, .f32⟩
  | 17 => ⟨S4x32x64, .f32⟩
  | 18 => ⟨S8192, .f32⟩
  | 19 => ⟨S4x32x64, .f32⟩
  | 20 => ⟨S128, .f32⟩
  | 21 => ⟨S4x32, .f32⟩
  | 22 => ⟨S131072, .f32⟩
  | 23 => ⟨S4x32x64x16, .f32⟩
  | 24 => ⟨S131072, .f32⟩
  | 25 => ⟨S4x32x64x16, .f32⟩
  | 26 => ⟨S131072, .f32⟩
  | 27 => ⟨S4x32x16x64, .f32⟩
  | 28 => ⟨S131072, .f32⟩
  | 29 => ⟨S4x32x16x64, .f32⟩
  | 30 => ⟨S2048, .f32⟩
  | 31 => ⟨S4x512, .f32⟩
  | 32 => ⟨S262144, .f32⟩
  | 33 => ⟨S4x4x128x128, .f32⟩
  | 34 => ⟨S2048, .f32⟩
  | 35 => ⟨S4x512, .f32⟩
  | 36 => ⟨S4096, .f32⟩
  | 37 => ⟨S4x1024, .f32⟩
  | 38 => ⟨S4096, .f32⟩
  | 39 => ⟨S4x1024, .f32⟩
  | 40 => ⟨S1024, .f32⟩
  | 41 => ⟨S825344, .f32⟩
  | 42 => ⟨S4096, .f32⟩
  | 43 => ⟨S4x1024, .f32⟩
  | 44 => ⟨S4096, .f32⟩
  | 45 => ⟨S4x1024, .f32⟩
  | 46 => ⟨S8192, .f32⟩
  | 47 => ⟨S4x32x64, .f32⟩
  | 48 => ⟨S8192, .f32⟩
  | 49 => ⟨S4x32x64, .f32⟩
  | 50 => ⟨S128, .f32⟩
  | 51 => ⟨S4x32, .f32⟩
  | 52 => ⟨S131072, .f32⟩
  | 53 => ⟨S4x32x64x16, .f32⟩
  | 54 => ⟨S131072, .f32⟩
  | 55 => ⟨S4x32x64x16, .f32⟩
  | 56 => ⟨S131072, .f32⟩
  | 57 => ⟨S4x32x16x64, .f32⟩
  | 58 => ⟨S131072, .f32⟩
  | 59 => ⟨S4x32x16x64, .f32⟩
  | 60 => ⟨S2048, .f32⟩
  | 61 => ⟨S4x512, .f32⟩
  | 62 => ⟨S262144, .f32⟩
  | 63 => ⟨S4x4x128x128, .f32⟩
  | 64 => ⟨S2048, .f32⟩
  | 65 => ⟨S4x512, .f32⟩
  | 66 => ⟨S4096, .f32⟩
  | 67 => ⟨S4x1024, .f32⟩
  | 68 => ⟨S4096, .f32⟩
  | 69 => ⟨S4x1024, .f32⟩
  | 70 => ⟨S1024, .f32⟩
  | 71 => ⟨S825344, .f32⟩
  | 72 => ⟨S4096, .f32⟩
  | 73 => ⟨S4x1024, .f32⟩
  | 74 => ⟨S4096, .f32⟩
  | 75 => ⟨S4x1024, .f32⟩
  | 76 => ⟨S8192, .f32⟩
  | 77 => ⟨S4x32x64, .f32⟩
  | 78 => ⟨S8192, .f32⟩
  | 79 => ⟨S4x32x64, .f32⟩
  | 80 => ⟨S128, .f32⟩
  | 81 => ⟨S4x32, .f32⟩
  | 82 => ⟨S131072, .f32⟩
  | 83 => ⟨S4x32x64x16, .f32⟩
  | 84 => ⟨S131072, .f32⟩
  | 85 => ⟨S4x32x64x16, .f32⟩
  | 86 => ⟨S131072, .f32⟩
  | 87 => ⟨S4x32x16x64, .f32⟩
  | 88 => ⟨S131072, .f32⟩
  | 89 => ⟨S4x32x16x64, .f32⟩
  | 90 => ⟨S2048, .f32⟩
  | 91 => ⟨S4x512, .f32⟩
  | 92 => ⟨S262144, .f32⟩
  | 93 => ⟨S4x4x128x128, .f32⟩
  | 94 => ⟨S2048, .f32⟩
  | 95 => ⟨S4x512, .f32⟩
  | 96 => ⟨S4096, .f32⟩
  | 97 => ⟨S4x1024, .f32⟩
  | 98 => ⟨S4096, .f32⟩
  | 99 => ⟨S4x1024, .f32⟩
  | 100 => ⟨S1024, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S496x128, .f32⟩
  | .local _ .vmem, ⟨1, _⟩ => ⟨S496x128, .f32⟩
  | .local _ .vmem, ⟨2, _⟩ => ⟨S496x128, .f32⟩
  | .local _ .vmem, ⟨3, _⟩ => ⟨S496x128, .f32⟩
  | .local _ .vmem, ⟨4, _⟩ => ⟨S496x128, .f32⟩
  | .local _ .vmem, ⟨5, _⟩ => ⟨S496x128, .f32⟩
  | .local _ .vmem, ⟨6, _⟩ => ⟨S496x128, .f32⟩
  | .local _ .vmem, ⟨7, _⟩ => ⟨S496x128, .f32⟩
  | .local _ .vmem, ⟨8, _⟩ => ⟨S496x128, .f32⟩
  | .local _ .vmem, ⟨9, _⟩ => ⟨S496x128, .f32⟩
  | .local _ .vmem, ⟨10, _⟩ => ⟨S496x128, .f32⟩
  | .local _ .vmem, ⟨11, _⟩ => ⟨S496x128, .f32⟩
  | .local _ .vmem, ⟨12, _⟩ => ⟨S496x128, .f32⟩
  | .local _ .vmem, ⟨13, _⟩ => ⟨S496x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_c : Ref sig .tc := ⟨.hbm, 75, rfl⟩
abbrev main_call0_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_c_0 : Ref sig .tc := ⟨.hbm, 94, rfl⟩
abbrev main_call1_v0 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_c_1 : Ref sig .tc := ⟨.hbm, 113, rfl⟩
abbrev main_call2_v0 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_c_2 : Ref sig .tc := ⟨.hbm, 132, rfl⟩
abbrev main_call3_v0 : Ref sig .tc := ⟨.hbm, 133, rfl⟩
abbrev main_v66 : Ref sig .tc := ⟨.hbm, 134, rfl⟩
abbrev main_v67 : Ref sig .tc := ⟨.hbm, 135, rfl⟩
abbrev main_v68_0 : Ref sig .tc := ⟨.hbm, 136, rfl⟩
abbrev main_v68_1 : Ref sig .tc := ⟨.hbm, 137, rfl⟩
abbrev main_v68_2 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S496x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S496x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S496x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S496x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S496x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S496x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S496x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4x1024 : Shape := ⟨2, ![4, 1024]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x4x128x128 : Shape := ⟨4, ![4, 4, 128, 128]⟩
abbrev S1024 : Shape := ⟨1, ![1024]⟩
abbrev S_ : Shape := ⟨0, ![]⟩

abbrev nBuf : Space → Nat
  | .hbm => 555
  | .vmem => 0
  | .smem => 0
  | _ => 0

abbrev hbmTy0_0 (i : Nat) : BufTy := match i % 128 with
  | 0 => ⟨S4x1024, .f32⟩
  | 1 => ⟨S4x1024, .f32⟩
  | 2 => ⟨S4x32x64, .f32⟩
  | 3 => ⟨S4x32x64, .f32⟩
  | 4 => ⟨S4x32, .f32⟩
  | 5 => ⟨S4x32x64x16, .f32⟩
  | 6 => ⟨S4x32x64x16, .f32⟩
  | 7 => ⟨S4x32x16x64, .f32⟩
  | 8 => ⟨S4x32x16x64, .f32⟩
  | 9 => ⟨S4x512, .f32⟩
  | 10 => ⟨S4x4x128x128, .f32⟩
  | 11 => ⟨S4x512, .f32⟩
  | 12 => ⟨S4x1024, .f32⟩
  | 13 => ⟨S4x1024, .f32⟩
  | 14 => ⟨S1024, .f32⟩
  | 15 => ⟨S4x1024, .f32⟩
  | 16 => ⟨S4x1024, .f32⟩
  | 17 => ⟨S4x32x64, .f32⟩
  | 18 => ⟨S4x32x64, .f32⟩
  | 19 => ⟨S4x32, .f32⟩
  | 20 => ⟨S4x32x64x16, .f32⟩
  | 21 => ⟨S4x32x64x16, .f32⟩
  | 22 => ⟨S4x32x16x64, .f32⟩
  | 23 => ⟨S4x32x16x64, .f32⟩
  | 24 => ⟨S4x512, .f32⟩
  | 25 => ⟨S4x4x128x128, .f32⟩
  | 26 => ⟨S4x512, .f32⟩
  | 27 => ⟨S4x1024, .f32⟩
  | 28 => ⟨S4x1024, .f32⟩
  | 29 => ⟨S1024, .f32⟩
  | 30 => ⟨S4x1024, .f32⟩
  | 31 => ⟨S4x1024, .f32⟩
  | 32 => ⟨S4x32x64, .f32⟩
  | 33 => ⟨S4x32x64, .f32⟩
  | 34 => ⟨S4x32, .f32⟩
  | 35 => ⟨S4x32x64x16, .f32⟩
  | 36 => ⟨S4x32x64x16, .f32⟩
  | 37 => ⟨S4x32x16x64, .f32⟩
  | 38 => ⟨S4x32x16x64, .f32⟩
  | 39 => ⟨S4x512, .f32⟩
  | 40 => ⟨S4x4x128x128, .f32⟩
  | 41 => ⟨S4x512, .f32⟩
  | 42 => ⟨S4x1024, .f32⟩
  | 43 => ⟨S4x1024, .f32⟩
  | 44 => ⟨S1024, .f32⟩
  | 45 => ⟨S4x1024, .f32⟩
  | 46 => ⟨S4x1024, .f32⟩
  | 47 => ⟨S4x32x64, .f32⟩
  | 48 => ⟨S4x32x64, .f32⟩
  | 49 => ⟨S4x32, .f32⟩
  | 50 => ⟨S4x32x64x16, .f32⟩
  | 51 => ⟨S4x32x64x16, .f32⟩
  | 52 => ⟨S4x32x16x64, .f32⟩
  | 53 => ⟨S4x32x16x64, .f32⟩
  | 54 => ⟨S4x512, .f32⟩
  | 55 => ⟨S4x4x128x128, .f32⟩
  | 56 => ⟨S4x512, .f32⟩
  | 57 => ⟨S4x1024, .f32⟩
  | 58 => ⟨S4x1024, .f32⟩
  | 59 => ⟨S1024, .f32⟩
  | 60 => ⟨S_, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S_, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S4x1024, .f32⟩
  | 119 => ⟨S_, .f32⟩
  | 120 => ⟨S4x1024, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S_, .f32⟩
  | 127 => ⟨S4x32x64, .f32⟩
  | _ => ⟨S4x1024, .f32⟩

abbrev hbmTy0_1 (i : Nat) : BufTy := match i % 128 with
  | 0 => ⟨S4x32x64, .f32⟩
  | 1 => ⟨S_, .f32⟩
  | 2 => ⟨S4x32x64, .f32⟩
  | 3 => ⟨S4x32x64, .f32⟩
  | 4 => ⟨S4x32x64, .f32⟩
  | 5 => ⟨S_, .f32⟩
  | 6 => ⟨S4x32x64, .f32⟩
  | 7 => ⟨S4x32x64, .f32⟩
  | 8 => ⟨S4x32x64, .f32⟩
  | 9 => ⟨S_, .f32⟩
  | 10 => ⟨S4x32x64, .f32⟩
  | 11 => ⟨S4x32x64, .f32⟩
  | 12 => ⟨S4x32x64, .f32⟩
  | 13 => ⟨S_, .f32⟩
  | 14 => ⟨S4x32x64, .f32⟩
  | 15 => ⟨S4x32x64, .f32⟩
  | 16 => ⟨S_, .f32⟩
  | 17 => ⟨S4x32x64, .f32⟩
  | 18 => ⟨S4x32x64, .f32⟩
  | 19 => ⟨S4x32x64, .f32⟩
  | 20 => ⟨S_, .f32⟩
  | 21 => ⟨S4x32x64, .f32⟩
  | 22 => ⟨S4x32x64, .f32⟩
  | 23 => ⟨S4x32x64, .f32⟩
  | 24 => ⟨S_, .f32⟩
  | 25 => ⟨S4x32x64, .f32⟩
  | 26 => ⟨S4x32x64, .f32⟩
  | 27 => ⟨S4x32x64, .f32⟩
  | 28 => ⟨S_, .f32⟩
  | 29 => ⟨S4x32x64, .f32⟩
  | 30 => ⟨S4x32x64, .f32⟩
  | 31 => ⟨S_, .f32⟩
  | 32 => ⟨S4x32x64, .f32⟩
  | 33 => ⟨S4x32x64, .f32⟩
  | 34 => ⟨S_, .f32⟩
  | 35 => ⟨S4x32x64, .f32⟩
  | 36 => ⟨S4x32x64, .f32⟩
  | 37 => ⟨S4x32x64, .f32⟩
  | 38 => ⟨S_, .f32⟩
  | 39 => ⟨S4x32x64, .f32⟩
  | 40 => ⟨S4x32x64, .f32⟩
  | 41 => ⟨S4x32x64, .f32⟩
  | 42 => ⟨S_, .f32⟩
  | 43 => ⟨S4x32x64, .f32⟩
  | 44 => ⟨S4x32x64, .f32⟩
  | 45 => ⟨S4x32x64, .f32⟩
  | 46 => ⟨S_, .f32⟩
  | 47 => ⟨S4x32x64, .f32⟩
  | 48 => ⟨S4x32x64, .f32⟩
  | 49 => ⟨S_, .f32⟩
  | 50 => ⟨S4x32x64, .f32⟩
  | 51 => ⟨S4x32x64, .f32⟩
  | 52 => ⟨S4x32x64, .f32⟩
  | 53 => ⟨S_, .f32⟩
  | 54 => ⟨S4x32x64, .f32⟩
  | 55 => ⟨S4x32x64, .f32⟩
  | 56 => ⟨S4x32x64, .f32⟩
  | 57 => ⟨S_, .f32⟩
  | 58 => ⟨S4x32x64, .f32⟩
  | 59 => ⟨S4x32x64, .f32⟩
  | 60 => ⟨S4x32x64, .f32⟩
  | 61 => ⟨S_, .f32⟩
  | 62 => ⟨S4x32x64, .f32⟩
  | 63 => ⟨S4x32x64, .f32⟩
  | 64 => ⟨S_, .f32⟩
  | 65 => ⟨S4x32, .f32⟩
  | 66 => ⟨S4x32, .f32⟩
  | 67 => ⟨S_, .f32⟩
  | 68 => ⟨S4x32, .f32⟩
  | 69 => ⟨S4x32, .f32⟩
  | 70 => ⟨S4x32, .f32⟩
  | 71 => ⟨S_, .f32⟩
  | 72 => ⟨S4x32, .f32⟩
  | 73 => ⟨S4x32, .f32⟩
  | 74 => ⟨S4x32, .f32⟩
  | 75 => ⟨S_, .f32⟩
  | 76 => ⟨S4x32, .f32⟩
  | 77 => ⟨S4x32, .f32⟩
  | 78 => ⟨S4x32, .f32⟩
  | 79 => ⟨S_, .f32⟩
  | 80 => ⟨S4x32, .f32⟩
  | 81 => ⟨S4x32, .f32⟩
  | 82 => ⟨S_, .f32⟩
  | 83 => ⟨S4x32, .f32⟩
  | 84 => ⟨S4x32, .f32⟩
  | 85 => ⟨S4x32, .f32⟩
  | 86 => ⟨S_, .f32⟩
  | 87 => ⟨S4x32, .f32⟩
  | 88 => ⟨S4x32, .f32⟩
  | 89 => ⟨S4x32, .f32⟩
  | 90 => ⟨S_, .f32⟩
  | 91 => ⟨S4x32, .f32⟩
  | 92 => ⟨S4x32, .f32⟩
  | 93 => ⟨S4x32, .f32⟩
  | 94 => ⟨S_, .f32⟩
  | 95 => ⟨S4x32, .f32⟩
  | 96 => ⟨S4x32, .f32⟩
  | 97 => ⟨S_, .f32⟩
  | 98 => ⟨S4x32x64x16, .f32⟩
  | 99 => ⟨S4x32x64x16, .f32⟩
  | 100 => ⟨S_, .f32⟩
  | 101 => ⟨S4x32x64x16, .f32⟩
  | 102 => ⟨S4x32x64x16, .f32⟩
  | 103 => ⟨S4x32x64x16, .f32⟩
  | 104 => ⟨S_, .f32⟩
  | 105 => ⟨S4x32x64x16, .f32⟩
  | 106 => ⟨S4x32x64x16, .f32⟩
  | 107 => ⟨S4x32x64x16, .f32⟩
  | 108 => ⟨S_, .f32⟩
  | 109 => ⟨S4x32x64x16, .f32⟩
  | 110 => ⟨S4x32x64x16, .f32⟩
  | 111 => ⟨S4x32x64x16, .f32⟩
  | 112 => ⟨S_, .f32⟩
  | 113 => ⟨S4x32x64x16, .f32⟩
  | 114 => ⟨S4x32x64x16, .f32⟩
  | 115 => ⟨S_, .f32⟩
  | 116 => ⟨S4x32x64x16, .f32⟩
  | 117 => ⟨S4x32x64x16, .f32⟩
  | 118 => ⟨S4x32x64x16, .f32⟩
  | 119 => ⟨S_, .f32⟩
  | 120 => ⟨S4x32x64x16, .f32⟩
  | 121 => ⟨S4x32x64x16, .f32⟩
  | 122 => ⟨S4x32x64x16, .f32⟩
  | 123 => ⟨S_, .f32⟩
  | 124 => ⟨S4x32x64x16, .f32⟩
  | 125 => ⟨S4x32x64x16, .f32⟩
  | 126 => ⟨S4x32x64x16, .f32⟩
  | 127 => ⟨S_, .f32⟩
  | _ => ⟨S4x1024, .f32⟩

abbrev hbmTy0_2 (i : Nat) : BufTy := match i % 128 with
  | 0 => ⟨S4x32x64x16, .f32⟩
  | 1 => ⟨S4x32x64x16, .f32⟩
  | 2 => ⟨S_, .f32⟩
  | 3 => ⟨S4x32x64x16, .f32⟩
  | 4 => ⟨S4x32x64x16, .f32⟩
  | 5 => ⟨S_, .f32⟩
  | 6 => ⟨S4x32x64x16, .f32⟩
  | 7 => ⟨S4x32x64x16, .f32⟩
  | 8 => ⟨S4x32x64x16, .f32⟩
  | 9 => ⟨S_, .f32⟩
  | 10 => ⟨S4x32x64x16, .f32⟩
  | 11 => ⟨S4x32x64x16, .f32⟩
  | 12 => ⟨S4x32x64x16, .f32⟩
  | 13 => ⟨S_, .f32⟩
  | 14 => ⟨S4x32x64x16, .f32⟩
  | 15 => ⟨S4x32x64x16, .f32⟩
  | 16 => ⟨S4x32x64x16, .f32⟩
  | 17 => ⟨S_, .f32⟩
  | 18 => ⟨S4x32x64x16, .f32⟩
  | 19 => ⟨S4x32x64x16, .f32⟩
  | 20 => ⟨S_, .f32⟩
  | 21 => ⟨S4x32x64x16, .f32⟩
  | 22 => ⟨S4x32x64x16, .f32⟩
  | 23 => ⟨S4x32x64x16, .f32⟩
  | 24 => ⟨S_, .f32⟩
  | 25 => ⟨S4x32x64x16, .f32⟩
  | 26 => ⟨S4x32x64x16, .f32⟩
  | 27 => ⟨S4x32x64x16, .f32⟩
  | 28 => ⟨S_, .f32⟩
  | 29 => ⟨S4x32x64x16, .f32⟩
  | 30 => ⟨S4x32x64x16, .f32⟩
  | 31 => ⟨S4x32x64x16, .f32⟩
  | 32 => ⟨S_, .f32⟩
  | 33 => ⟨S4x32x64x16, .f32⟩
  | 34 => ⟨S4x32x64x16, .f32⟩
  | 35 => ⟨S_, .f32⟩
  | 36 => ⟨S4x32x16x64, .f32⟩
  | 37 => ⟨S4x32x16x64, .f32⟩
  | 38 => ⟨S_, .f32⟩
  | 39 => ⟨S4x32x16x64, .f32⟩
  | 40 => ⟨S4x32x16x64, .f32⟩
  | 41 => ⟨S4x32x16x64, .f32⟩
  | 42 => ⟨S_, .f32⟩
  | 43 => ⟨S4x32x16x64, .f32⟩
  | 44 => ⟨S4x32x16x64, .f32⟩
  | 45 => ⟨S4x32x16x64, .f32⟩
  | 46 => ⟨S_, .f32⟩
  | 47 => ⟨S4x32x16x64, .f32⟩
  | 48 => ⟨S4x32x16x64, .f32⟩
  | 49 => ⟨S4x32x16x64, .f32⟩
  | 50 => ⟨S_, .f32⟩
  | 51 => ⟨S4x32x16x64, .f32⟩
  | 52 => ⟨S4x32x16x64, .f32⟩
  | 53 => ⟨S_, .f32⟩
  | 54 => ⟨S4x32x16x64, .f32⟩
  | 55 => ⟨S4x32x16x64, .f32⟩
  | 56 => ⟨S4x32x16x64, .f32⟩
  | 57 => ⟨S_, .f32⟩
  | 58 => ⟨S4x32x16x64, .f32⟩
  | 59 => ⟨S4x32x16x64, .f32⟩
  | 60 => ⟨S4x32x16x64, .f32⟩
  | 61 => ⟨S_, .f32⟩
  | 62 => ⟨S4x32x16x64, .f32⟩
  | 63 => ⟨S4x32x16x64, .f32⟩
  | 64 => ⟨S4x32x16x64, .f32⟩
  | 65 => ⟨S_, .f32⟩
  | 66 => ⟨S4x32x16x64, .f32⟩
  | 67 => ⟨S4x32x16x64, .f32⟩
  | 68 => ⟨S_, .f32⟩
  | 69 => ⟨S4x32x16x64, .f32⟩
  | 70 => ⟨S4x32x16x64, .f32⟩
  | 71 => ⟨S_, .f32⟩
  | 72 => ⟨S4x32x16x64, .f32⟩
  | 73 => ⟨S4x32x16x64, .f32⟩
  | 74 => ⟨S4x32x16x64, .f32⟩
  | 75 => ⟨S_, .f32⟩
  | 76 => ⟨S4x32x16x64, .f32⟩
  | 77 => ⟨S4x32x16x64, .f32⟩
  | 78 => ⟨S4x32x16x64, .f32⟩
  | 79 => ⟨S_, .f32⟩
  | 80 => ⟨S4x32x16x64, .f32⟩
  | 81 => ⟨S4x32x16x64, .f32⟩
  | 82 => ⟨S4x32x16x64, .f32⟩
  | 83 => ⟨S_, .f32⟩
  | 84 => ⟨S4x32x16x64, .f32⟩
  | 85 => ⟨S4x32x16x64, .f32⟩
  | 86 => ⟨S_, .f32⟩
  | 87 => ⟨S4x32x16x64, .f32⟩
  | 88 => ⟨S4x32x16x64, .f32⟩
  | 89 => ⟨S4x32x16x64, .f32⟩
  | 90 => ⟨S_, .f32⟩
  | 91 => ⟨S4x32x16x64, .f32⟩
  | 92 => ⟨S4x32x16x64, .f32⟩
  | 93 => ⟨S4x32x16x64, .f32⟩
  | 94 => ⟨S_, .f32⟩
  | 95 => ⟨S4x32x16x64, .f32⟩
  | 96 => ⟨S4x32x16x64, .f32⟩
  | 97 => ⟨S4x32x16x64, .f32⟩
  | 98 => ⟨S_, .f32⟩
  | 99 => ⟨S4x32x16x64, .f32⟩
  | 100 => ⟨S4x32x16x64, .f32⟩
  | 101 => ⟨S_, .f32⟩
  | 102 => ⟨S4x512, .f32⟩
  | 103 => ⟨S4x512, .f32⟩
  | 104 => ⟨S_, .f32⟩
  | 105 => ⟨S4x512, .f32⟩
  | 106 => ⟨S4x512, .f32⟩
  | 107 => ⟨S4x512, .f32⟩
  | 108 => ⟨S_, .f32⟩
  | 109 => ⟨S4x512, .f32⟩
  | 110 => ⟨S4x512, .f32⟩
  | 111 => ⟨S4x512, .f32⟩
  | 112 => ⟨S_, .f32⟩
  | 113 => ⟨S4x512, .f32⟩
  | 114 => ⟨S4x512, .f32⟩
  | 115 => ⟨S4x512, .f32⟩
  | 116 => ⟨S_, .f32⟩
  | 117 => ⟨S4x512, .f32⟩
  | 118 => ⟨S4x512, .f32⟩
  | 119 => ⟨S_, .f32⟩
  | 120 => ⟨S4x512, .f32⟩
  | 121 => ⟨S4x512, .f32⟩
  | 122 => ⟨S4x512, .f32⟩
  | 123 => ⟨S_, .f32⟩
  | 124 => ⟨S4x512, .f32⟩
  | 125 => ⟨S4x512, .f32⟩
  | 126 => ⟨S4x512, .f32⟩
  | 127 => ⟨S_, .f32⟩
  | _ => ⟨S4x1024, .f32⟩

abbrev hbmTy0_3 (i : Nat) : BufTy := match i % 128 with
  | 0 => ⟨S4x512, .f32⟩
  | 1 => ⟨S4x512, .f32⟩
  | 2 => ⟨S4x512, .f32⟩
  | 3 => ⟨S_, .f32⟩
  | 4 => ⟨S4x512, .f32⟩
  | 5 => ⟨S4x512, .f32⟩
  | 6 => ⟨S_, .f32⟩
  | 7 => ⟨S4x4x128x128, .f32⟩
  | 8 => ⟨S4x4x128x128, .f32⟩
  | 9 => ⟨S_, .f32⟩
  | 10 => ⟨S4x4x128x128, .f32⟩
  | 11 => ⟨S4x4x128x128, .f32⟩
  | 12 => ⟨S4x4x128x128, .f32⟩
  | 13 => ⟨S_, .f32⟩
  | 14 => ⟨S4x4x128x128, .f32⟩
  | 15 => ⟨S4x4x128x128, .f32⟩
  | 16 => ⟨S4x4x128x128, .f32⟩
  | 17 => ⟨S_, .f32⟩
  | 18 => ⟨S4x4x128x128, .f32⟩
  | 19 => ⟨S4x4x128x128, .f32⟩
  | 20 => ⟨S4x4x128x128, .f32⟩
  | 21 => ⟨S_, .f32⟩
  | 22 => ⟨S4x4x128x128, .f32⟩
  | 23 => ⟨S4x4x128x128, .f32⟩
  | 24 => ⟨S_, .f32⟩
  | 25 => ⟨S4x4x128x128, .f32⟩
  | 26 => ⟨S4x4x128x128, .f32⟩
  | 27 => ⟨S4x4x128x128, .f32⟩
  | 28 => ⟨S_, .f32⟩
  | 29 => ⟨S4x4x128x128, .f32⟩
  | 30 => ⟨S4x4x128x128, .f32⟩
  | 31 => ⟨S4x4x128x128, .f32⟩
  | 32 => ⟨S_, .f32⟩
  | 33 => ⟨S4x4x128x128, .f32⟩
  | 34 => ⟨S4x4x128x128, .f32⟩
  | 35 => ⟨S4x4x128x128, .f32⟩
  | 36 => ⟨S_, .f32⟩
  | 37 => ⟨S4x4x128x128, .f32⟩
  | 38 => ⟨S4x4x128x128, .f32⟩
  | 39 => ⟨S_, .f32⟩
  | 40 => ⟨S4x512, .f32⟩
  | 41 => ⟨S4x512, .f32⟩
  | 42 => ⟨S_, .f32⟩
  | 43 => ⟨S4x512, .f32⟩
  | 44 => ⟨S4x512, .f32⟩
  | 45 => ⟨S4x512, .f32⟩
  | 46 => ⟨S_, .f32⟩
  | 47 => ⟨S4x512, .f32⟩
  | 48 => ⟨S4x512, .f32⟩
  | 49 => ⟨S4x512, .f32⟩
  | 50 => ⟨S_, .f32⟩
  | 51 => ⟨S4x512, .f32⟩
  | 52 => ⟨S4x512, .f32⟩
  | 53 => ⟨S4x512, .f32⟩
  | 54 => ⟨S_, .f32⟩
  | 55 => ⟨S4x512, .f32⟩
  | 56 => ⟨S4x512, .f32⟩
  | 57 => ⟨S_, .f32⟩
  | 58 => ⟨S4x512, .f32⟩
  | 59 => ⟨S4x512, .f32⟩
  | 60 => ⟨S4x512, .f32⟩
  | 61 => ⟨S_, .f32⟩
  | 62 => ⟨S4x512, .f32⟩
  | 63 => ⟨S4x512, .f32⟩
  | 64 => ⟨S4x512, .f32⟩
  | 65 => ⟨S_, .f32⟩
  | 66 => ⟨S4x512, .f32⟩
  | 67 => ⟨S4x512, .f32⟩
  | 68 => ⟨S4x512, .f32⟩
  | 69 => ⟨S_, .f32⟩
  | 70 => ⟨S4x512, .f32⟩
  | 71 => ⟨S4x512, .f32⟩
  | 72 => ⟨S_, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x1024, .f32⟩

abbrev hbmTy0_4 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S_, .f32⟩
  | 41 => ⟨S1024, .f32⟩
  | 42 => ⟨S1024, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩
abbrev main_cst_71 : Ref sig .tc := ⟨.hbm, 324, rfl⟩
abbrev main_v192 : Ref sig .tc := ⟨.hbm, 325, rfl⟩
abbrev main_v193 : Ref sig .tc := ⟨.hbm, 326, rfl⟩
abbrev main_cst_72 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_cst_73 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_74 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_75 : Ref sig .tc := ⟨.hbm, 339, rfl⟩
abbrev main_v203 : Ref sig .tc := ⟨.hbm, 340, rfl⟩
abbrev main_v204 : Ref sig .tc := ⟨.hbm, 341, rfl⟩
abbrev main_cst_76 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_cst_77 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_cst_78 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_79 : Ref sig .tc := ⟨.hbm, 354, rfl⟩
abbrev main_v214 : Ref sig .tc := ⟨.hbm, 355, rfl⟩
abbrev main_v215 : Ref sig .tc := ⟨.hbm, 356, rfl⟩
abbrev main_cst_80 : Ref sig .tc := ⟨.hbm, 357, rfl⟩
abbrev main_v216 : Ref sig .tc := ⟨.hbm, 358, rfl⟩
abbrev main_v217 : Ref sig .tc := ⟨.hbm, 359, rfl⟩
abbrev main_cst_81 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_82 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_cst_83 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_84 : Ref sig .tc := ⟨.hbm, 372, rfl⟩
abbrev main_v227 : Ref sig .tc := ⟨.hbm, 373, rfl⟩
abbrev main_v228 : Ref sig .tc := ⟨.hbm, 374, rfl⟩
abbrev main_cst_85 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_cst_86 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_cst_87 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_88 : Ref sig .tc := ⟨.hbm, 387, rfl⟩
abbrev main_v238 : Ref sig .tc := ⟨.hbm, 388, rfl⟩
abbrev main_v239 : Ref sig .tc := ⟨.hbm, 389, rfl⟩
abbrev main_cst_89 : Ref sig .tc := ⟨.hbm, 390, rfl⟩
abbrev main_v240 : Ref sig .tc := ⟨.hbm, 391, rfl⟩
abbrev main_v241 : Ref sig .tc := ⟨.hbm, 392, rfl⟩
abbrev main_cst_90 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_cst_91 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_cst_92 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_93 : Ref sig .tc := ⟨.hbm, 405, rfl⟩
abbrev main_v251 : Ref sig .tc := ⟨.hbm, 406, rfl⟩
abbrev main_v252 : Ref sig .tc := ⟨.hbm, 407, rfl⟩
abbrev main_cst_94 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_cst_95 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_96 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_97 : Ref sig .tc := ⟨.hbm, 420, rfl⟩
abbrev main_v262 : Ref sig .tc := ⟨.hbm, 421, rfl⟩
abbrev main_v263 : Ref sig .tc := ⟨.hbm, 422, rfl⟩
abbrev main_cst_98 : Ref sig .tc := ⟨.hbm, 423, rfl⟩
abbrev main_v264 : Ref sig .tc := ⟨.hbm, 424, rfl⟩
abbrev main_v265 : Ref sig .tc := ⟨.hbm, 425, rfl⟩
abbrev main_cst_99 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_cst_100 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_cst_101 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_cst_102 : Ref sig .tc := ⟨.hbm, 438, rfl⟩
abbrev main_v275 : Ref sig .tc := ⟨.hbm, 439, rfl⟩
abbrev main_v276 : Ref sig .tc := ⟨.hbm, 440, rfl⟩
abbrev main_cst_103 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_cst_104 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_cst_105 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_cst_106 : Ref sig .tc := ⟨.hbm, 453, rfl⟩
abbrev main_v286 : Ref sig .tc := ⟨.hbm, 454, rfl⟩
abbrev main_v287 : Ref sig .tc := ⟨.hbm, 455, rfl⟩
abbrev main_cst_107 : Ref sig .tc := ⟨.hbm, 456, rfl⟩
abbrev main_v288 : Ref sig .tc := ⟨.hbm, 457, rfl⟩
abbrev main_v289 : Ref sig .tc := ⟨.hbm, 458, rfl⟩
abbrev main_cst_108 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_cst_109 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_cst_110 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_cst_111 : Ref sig .tc := ⟨.hbm, 471, rfl⟩
abbrev main_v299 : Ref sig .tc := ⟨.hbm, 472, rfl⟩
abbrev main_v300 : Ref sig .tc := ⟨.hbm, 473, rfl⟩
abbrev main_cst_112 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_cst_113 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_114 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_115 : Ref sig .tc := ⟨.hbm, 486, rfl⟩
abbrev main_v310 : Ref sig .tc := ⟨.hbm, 487, rfl⟩
abbrev main_v311 : Ref sig .tc := ⟨.hbm, 488, rfl⟩
abbrev main_cst_116 : Ref sig .tc := ⟨.hbm, 489, rfl⟩
abbrev main_v312 : Ref sig .tc := ⟨.hbm, 490, rfl⟩
abbrev main_v313 : Ref sig .tc := ⟨.hbm, 491, rfl⟩
abbrev main_cst_117 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_cst_118 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_cst_119 : Ref sig .tc := ⟨.hbm, 500, rfl⟩
abbrev main_v320 : Ref sig .tc := ⟨.hbm, 501, rfl⟩
abbrev main_v321 : Ref sig .tc := ⟨.hbm, 502, rfl⟩
abbrev main_v322 : Ref sig .tc := ⟨.hbm, 503, rfl⟩
abbrev main_cst_120 : Ref sig .tc := ⟨.hbm, 504, rfl⟩
abbrev main_v323 : Ref sig .tc := ⟨.hbm, 505, rfl⟩
abbrev main_v324 : Ref sig .tc := ⟨.hbm, 506, rfl⟩
abbrev main_cst_121 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_cst_122 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_cst_123 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_cst_124 : Ref sig .tc := ⟨.hbm, 519, rfl⟩
abbrev main_v334 : Ref sig .tc := ⟨.hbm, 520, rfl⟩
abbrev main_v335 : Ref sig .tc := ⟨.hbm, 521, rfl⟩
abbrev main_cst_125 : Ref sig .tc := ⟨.hbm, 522, rfl⟩
abbrev main_v336 : Ref sig .tc := ⟨.hbm, 523, rfl⟩
abbrev main_v337 : Ref sig .tc := ⟨.hbm, 524, rfl⟩
abbrev main_cst_126 : Ref sig .tc := ⟨.hbm, 525, rfl⟩
abbrev main_v338 : Ref sig .tc := ⟨.hbm, 526, rfl⟩
abbrev main_v339 : Ref sig .tc := ⟨.hbm, 527, rfl⟩
abbrev main_v340 : Ref sig .tc := ⟨.hbm, 528, rfl⟩
abbrev main_cst_127 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_cst_128 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_cst_129 : Ref sig .tc := ⟨.hbm, 537, rfl⟩
abbrev main_v347 : Ref sig .tc := ⟨.hbm, 538, rfl⟩
abbrev main_v348 : Ref sig .tc := ⟨.hbm, 539, rfl⟩
abbrev main_cst_130 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_131 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_132 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_cst_133 : Ref sig .tc := ⟨.hbm, 552, rfl⟩
abbrev main_v358 : Ref sig .tc := ⟨.hbm, 553, rfl⟩
abbrev main_v359 : Ref sig .tc := ⟨.hbm, 554, rfl⟩

abbrev nD : Nat := 1
abbrev τ : Topo := Topo.v7x

variable {F : FTy → Type} [FloatOps F]
-- ==== Kernel12.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.KernelRun.lean ====
module

public import proofs.«01_k».proof.Proof.Gen.KernelIdeal.Frame

/-! The kernel program's run, with every buffer named.

The generated frame says that the arguments end unchanged. The same launch says more: when the program ends, every
buffer it allocates holds the contents that the fold through its host operations and its three kernel calls leaves. -/

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, with every buffer that is not scratch at the last boundary's contents. -/
theorem ends_at : θ_run defs (onTc (τ := τ) (main (F := F))) ⟨m, fun _ => 0, ρ⟩ (fun r =>
      ∀ (c : Dev nD) (b : Ref sig .tc), (Proc.devRef .tc b : DevRef τ sig).isScoped = false →
        r.2.mem ((c.tc : Thread nD τ).loc b) = W30 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      iterate 30 refine ⟨fun _ => .rfl, ?_⟩
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h _ c b hb => h c _ (mem_uc b (by simp [hb])))

end Cert.KernelIdeal.Own

end
-- ==== Proof.Cx.lean ====
/-
  Planes of complex numbers. The kernels keep a complex array as two arrays of reals, its real and its imaginary parts.
  `RE z` and `IM z` are those two arrays, as arrays of extended reals, of an array `z` of complex numbers; the lemmas say that
  the operations on pairs of planes are the operations on complex arrays.
-/
module

public import Idealize.ShloMosaic.Lib.ValueIdx
public import Mathlib.Data.Complex.Basic

@[expose] public section

noncomputable section

namespace Cert.Cx

open Idealize.ShloMosaic

variable {s t : Shape} {φ ψ : FTy}

/-- The real parts of a complex array. -/
def RE (z : s.Idx → ℂ) : s.Idx → EReal := fun i => ((z i).re : EReal)

/-- The imaginary parts of a complex array. -/
def IM (z : s.Idx → ℂ) : s.Idx → EReal := fun i => ((z i).im : EReal)

/-- The real part of `l + c·y`, as the kernels compute it. -/
theorem cmul_re (l c y : s.Idx → ℂ) :
    subf (F := Ideal) (φ := φ) (addf (RE l : FVec Ideal s φ) (mulf (RE c) (RE y))) (mulf (IM c) (IM y)) = (RE (l + c * y) : FVec Ideal s φ) := by
  funext i
  simp only [ValueIdx.subf_apply, ValueIdx.addf_apply, ValueIdx.mulf_apply, RE, IM, Pi.add_apply, Pi.mul_apply,
    Complex.add_re, Complex.mul_re]
  rw [← EReal.coe_mul, ← EReal.coe_mul, ← EReal.coe_add, ← EReal.coe_sub, add_sub_assoc]

/-- The imaginary part of `l + c·y`, as the kernels compute it. -/
theorem cmul_im (l c y : s.Idx → ℂ) :
    addf (F := Ideal) (φ := φ) (addf (IM l : FVec Ideal s φ) (mulf (RE c) (IM y))) (mulf (IM c) (RE y)) = (IM (l + c * y) : FVec Ideal s φ) := by
  funext i
  simp only [ValueIdx.addf_apply, ValueIdx.mulf_apply, RE, IM, Pi.add_apply, Pi.mul_apply,
    Complex.add_im, Complex.mul_im]
  rw [← EReal.coe_mul, ← EReal.coe_mul, ← EReal.coe_add, ← EReal.coe_add, add_assoc]

theorem slice_re (off : Fin s.rank → Nat) (x : s.Idx → ℂ) (h : s.Slices off t) :
    extractStridedSlice t off (RE x) h = RE (extractStridedSlice t off x h) := rfl
theorem slice_im (off : Fin s.rank → Nat) (x : s.Idx → ℂ) (h : s.Slices off t) :
    extractStridedSlice t off (IM x) h = IM (extractStridedSlice t off x h) := rfl
theorem cast_re (x : s.Idx → ℂ) (h : s.ShapeCasts t) : shapeCast t (RE x) h = RE (shapeCast t x h) := rfl
theorem cast_im (x : s.Idx → ℂ) (h : s.ShapeCasts t) : shapeCast t (IM x) h = IM (shapeCast t x h) := rfl
theorem bcast_re (x : s.Idx → ℂ) (h : s.Broadcasts t) : broadcastTo t (RE x) h = RE (broadcastTo t x h) := rfl
theorem bcast_im (x : s.Idx → ℂ) (h : s.Broadcasts t) : broadcastTo t (IM x) h = IM (broadcastTo t x h) := rfl
theorem rot_re (a : Fin s.rank) (n : BitVec 32) (st : Option (Nat × Fin s.rank)) (x : s.Idx → ℂ) (h : s.Rotates a st) :
    dynamicRotate a n st (RE x) h = RE (dynamicRotate a n st x h) := rfl
theorem rot_im (a : Fin s.rank) (n : BitVec 32) (st : Option (Nat × Fin s.rank)) (x : s.Idx → ℂ) (h : s.Rotates a st) :
    dynamicRotate a n st (IM x) h = IM (dynamicRotate a n st x h) := rfl
theorem trunc_re (x : s.Idx → ℂ) (h : ψ.bits < φ.bits) : truncf (F := Ideal) ψ (RE x : FVec Ideal s φ) h = (RE x : FVec Ideal s ψ) := rfl
theorem trunc_im (x : s.Idx → ℂ) (h : ψ.bits < φ.bits) : truncf (F := Ideal) ψ (IM x : FVec Ideal s φ) h = (IM x : FVec Ideal s ψ) := rfl
theorem ext_re (x : s.Idx → ℂ) (h : φ.bits < ψ.bits) : extf (F := Ideal) ψ (RE x : FVec Ideal s φ) h = (RE x : FVec Ideal s ψ) := rfl
theorem ext_im (x : s.Idx → ℂ) (h : φ.bits < ψ.bits) : extf (F := Ideal) ψ (IM x : FVec Ideal s φ) h = (IM x : FVec Ideal s ψ) := rfl

/-- The array of two planes, real and imaginary, of a function of a row and a lane. -/
def planes {n m : ℕ} (U : ℕ → ℕ → ℂ) : (⟨3, ![2, n, m]⟩ : Shape).Idx → EReal := fun i =>
  if (i 0).val = 0 then ((U (i 1).val (i 2).val).re : EReal) else ((U (i 1).val (i 2).val).im : EReal)

end Cert.Cx
end
-- ==== Proof.ScanMath.lean ====
/-
  The linear recurrence and its tiles of eight rows. `st lam u` is the recurrence `s 0 = 0`, `s (t+1) = lam · s t + u t`.
  A tile of eight inputs is scanned in three steps, each adding a multiple of the row one, two or four places before; the
  result of row `r` and the multiple `lam^(r+1)` of the state before the tile make up the state after row `r`.
-/
module

public import Mathlib.Data.Complex.Basic
public import Mathlib.Tactic.Ring
public import Mathlib.Tactic.FinCases
public import Mathlib.Algebra.BigOperators.Intervals
public import Mathlib.Algebra.BigOperators.Ring.Finset

@[expose] public section

noncomputable section

namespace Cert.ScanMath

/-- The recurrence: the state before input `t`. -/
def st (lam : ℂ) (u : ℕ → ℂ) : ℕ → ℂ
  | 0 => 0
  | t + 1 => lam * st lam u t + u t

theorem st_zero (lam : ℂ) (u : ℕ → ℂ) : st lam u 0 = 0 := rfl
theorem st_succ (lam : ℂ) (u : ℕ → ℂ) (t : ℕ) : st lam u (t + 1) = lam * st lam u t + u t := rfl

/-- Eight steps of the recurrence, written out. -/
theorem st_row (lam : ℂ) (u : ℕ → ℂ) (q : ℕ) (r : ℕ) :
    st lam u (q + r) = lam ^ r * st lam u q + ∑ k ∈ Finset.range r, lam ^ (r - 1 - k) * u (q + k) := by
  induction r with
  | zero => simp
  | succ r ih =>
    rw [← Nat.add_assoc, st_succ, ih, Finset.sum_range_succ, mul_add, Finset.mul_sum, pow_succ]
    have : ∀ k ∈ Finset.range r, lam * (lam ^ (r - 1 - k) * u (q + k)) = lam ^ (r + 1 - 1 - k) * u (q + k) := by
      intro k hk
      have hk := Finset.mem_range.1 hk
      rw [← mul_assoc, ← pow_succ', show r - 1 - k + 1 = r + 1 - 1 - k by omega]
    rw [Finset.sum_congr rfl this]
    simp
    ring

/-- One step of a tile's scan: each row adds `c` times the row `d` places before (cyclically). -/
def hop (d : ℕ) (c : Fin 8 → ℂ) (x : Fin 8 → ℂ) : Fin 8 → ℂ :=
  fun r => x r + c r * x ⟨(r.val + 8 - d % 8) % 8, Nat.mod_lt _ (by norm_num)⟩

/-- The masked multiples of a forward step. -/
def maskF (m : ℂ) (d : ℕ) : Fin 8 → ℂ := fun r => if d ≤ r.val then m else 0
/-- The masked multiples of a step from the last row to the first. -/
def maskR (m : ℂ) (d : ℕ) : Fin 8 → ℂ := fun r => if r.val + d < 8 then m else 0

/-- A tile of a forward scan. -/
theorem tile_fwd (lam : ℂ) (u : ℕ → ℂ) (q : ℕ) (r : Fin 8) :
    hop 4 (maskF (lam ^ 4) 4) (hop 2 (maskF (lam ^ 2) 2) (hop 1 (maskF lam 1) fun r => u (q + r.val))) r
      + lam ^ (r.val + 1) * st lam u q = st lam u (q + (r.val + 1)) := by
  rw [st_row]
  fin_cases r <;> simp [hop, maskF, Finset.sum_range_succ] <;> ring

/-- A tile of a scan from the last row to the first. -/
theorem tile_rev (lam : ℂ) (u : ℕ → ℂ) (q : ℕ) (r : Fin 8) :
    hop 4 (maskR (lam ^ 4) 4) (hop 6 (maskR (lam ^ 2) 2) (hop 7 (maskR lam 1) fun r => u (q + (7 - r.val)))) r
      + lam ^ (8 - r.val) * st lam u q = st lam u (q + (8 - r.val)) := by
  rw [st_row]
  fin_cases r <;> simp [hop, maskR, Finset.sum_range_succ] <;> ring

end Cert.ScanMath
end
-- ==== Proof.ScanFwd.lean ====
/-
  The forward scan's loop body over complex planes: what one trip of the loop does to a pair of 16-row blocks, as a statement
  about complex arrays.
-/
module

public import proofs.«01_k».proof.Proof.KernelRun
public import Idealize.ShloMosaic.Lib.Pipeline.Value
public import proofs.«01_k».proof.Proof.Cx
public import proofs.«01_k».proof.Proof.ScanMath

@[expose] public section

set_option maxRecDepth 16384

noncomputable section

namespace Cert.KernelIdeal.Own

open Cert.KernelIdeal Cert.KernelIdeal.Gen
open Idealize.ShloMosaic Idealize.ShloMosaic.TcCoe Cert.Cx

/-- A complex array over one tile: eight rows of 128 lanes. -/
abbrev P := S8x128.Idx → ℂ

/-- A tile with its rows rotated. -/
def rot (d : BitVec 32) (x : P) : P := dynamicRotate 0 d none x rotates_S8x128_d0

/-- The three steps of a tile's scan. -/
def tile (d1 d2 d3 : BitVec 32) (c1 c2 c3 x : P) : P :=
  (x + c1 * rot d1 x + c2 * rot d2 (x + c1 * rot d1 x))
    + c3 * rot d3 (x + c1 * rot d1 x + c2 * rot d2 (x + c1 * rot d1 x))

/-- The first eight rows of a block of sixteen. -/
def lo (x : S1x16x128.Idx → ℂ) : P :=
  extractStridedSlice S8x128 ![0, 0] (shapeCast S16x128 x shapeCasts_S1x16x128_S16x128) slices_S16x128_o0_0_S8x128
/-- The last eight rows of a block of sixteen. -/
def hi (x : S1x16x128.Idx → ℂ) : P :=
  extractStridedSlice S8x128 ![8, 0] (shapeCast S16x128 x shapeCasts_S1x16x128_S16x128) slices_S16x128_o8_0_S8x128
/-- Row `r` of a tile in every row. -/
def last (x : P) : P :=
  broadcastTo S8x128 (shapeCast S1x128 (extractStridedSlice S1x128 ![7, 0] x slices_S8x128_o7_0_S1x128) shapeCasts_S1x128_S1x128)
    broadcasts_S1x128_S8x128

/-- The masked multiples of the three steps, and the powers that carry a state into a tile; row by row, for the multiplier
    `lam j` of lane `j`. -/
def m1F (lam : ℕ → ℂ) : P := fun i => ScanMath.maskF (lam (i 1).val) 1 (i 0)
def m2F (lam : ℕ → ℂ) : P := fun i => ScanMath.maskF (lam (i 1).val ^ 2) 2 (i 0)
def m4F (lam : ℕ → ℂ) : P := fun i => ScanMath.maskF (lam (i 1).val ^ 4) 4 (i 0)
def pwF (lam : ℕ → ℂ) : P := fun i => lam (i 1).val ^ ((i 0).val + 1)

/-- A rotation, read at a row. -/
theorem rot_apply (d : BitVec 32) (x : P) (r : Fin 8) (j : Fin 128) :
    rot d x (ValueIdx.ix2 r j) = x (ValueIdx.ix2 ⟨(r.val + 8 - d.toNat % 8) % 8, Nat.mod_lt _ (by norm_num)⟩ j) := by
  unfold rot dynamicRotate
  dsimp only
  congr 1
  funext b
  match b with
  | ⟨0, _⟩ => rfl
  | ⟨1, _⟩ => rfl

/-- A tile's three steps, row by row. -/
theorem tile_hop (d1 d2 d3 : BitVec 32) (c1 c2 c3 x : P) (r : Fin 8) (j : Fin 128) :
    tile d1 d2 d3 c1 c2 c3 x (ValueIdx.ix2 r j)
      = ScanMath.hop d3.toNat (fun r => c3 (ValueIdx.ix2 r j)) (ScanMath.hop d2.toNat (fun r => c2 (ValueIdx.ix2 r j))
          (ScanMath.hop d1.toNat (fun r => c1 (ValueIdx.ix2 r j)) fun r => x (ValueIdx.ix2 r j))) r := by
  unfold tile ScanMath.hop
  simp only [Pi.add_apply, Pi.mul_apply, rot_apply]

/-- A forward tile and the state before it make up the states after each of its rows. -/
theorem tile_row (lam : ℕ → ℂ) (U : ℕ → ℕ → ℂ) (a : ℕ) (i : S8x128.Idx) :
    tile 1#32 2#32 4#32 (m1F lam) (m2F lam) (m4F lam) (fun i => U (a + (i 0).val) (i 1).val) i
      + pwF lam i * ScanMath.st (lam (i 1).val) (fun t => U t (i 1).val) a
      = ScanMath.st (lam (i 1).val) (fun t => U t (i 1).val) (a + ((i 0).val + 1)) := by
  obtain ⟨r, j, rfl⟩ : ∃ (r : Fin 8) (j : Fin 128), i = ValueIdx.ix2 r j := ⟨i 0, i 1, ValueIdx.eq_ix2 i⟩
  have h := ScanMath.tile_fwd (lam j.val) (fun t => U t j.val) a r
  rw [tile_hop]
  exact h

/-- A row in every row. -/
theorem last_apply (x : P) (i : S8x128.Idx) : last x i = x (ValueIdx.ix2 (7 : Fin 8) (i 1)) := by
  unfold last
  rw [shapeCast_self]
  unfold broadcastTo extractStridedSlice
  congr 1
  funext b
  match b with
  | ⟨0, _⟩ => rfl
  | ⟨1, _⟩ => exact Fin.ext (Nat.zero_add _)

/-- The first and the last sixteen rows that a trip reads are these two blocks of planes; the four tiles of the trip are their halves. -/
structure Loads (arg3 : Memref sig .tc .vmem S2x4096x128 .bf16) (X : BufTy.Contents (Elt Ideal) arg3.view.ty) (k : Fin k1_t1_loop.trips)
    (x y : S1x16x128.Idx → ℂ) : Prop where
  re0 : View.readAt (Elt Ideal) arg3.view (Rect.unit (s := S2x4096x128) (k1_off1 k 0#32) S1x16x128.size (k1_off1_inb k 0)).toLoadRect X = RE x
  im0 : View.readAt (Elt Ideal) arg3.view (Rect.unit (s := S2x4096x128) (k1_off2 k 0#32) S1x16x128.size (k1_off2_inb k 0)).toLoadRect X = IM x
  re1 : View.readAt (Elt Ideal) arg3.view (Rect.unit (s := S2x4096x128) (k1_off1 k 1#32) S1x16x128.size (k1_off1_inb k 1)).toLoadRect X = RE y
  im1 : View.readAt (Elt Ideal) arg3.view (Rect.unit (s := S2x4096x128) (k1_off2 k 1#32) S1x16x128.size (k1_off2_inb k 1)).toLoadRect X = IM y

/-- Two tiles, one above the other. -/
def cat {α : Type} (x y : S8x128.Idx → α) : S16x128.Idx → α := fun i =>
  if h : (i 0).val < 8 then x (ValueIdx.ix2 ⟨(i 0).val, h⟩ (i 1))
  else y (ValueIdx.ix2 ⟨(i 0).val - 8, by have h2 : (i 0).val < 16 := (i 0).isLt; omega⟩ (i 1))

/-- The concatenation of two tiles puts one above the other. -/
theorem concat_eq {α : Type} (x y : S8x128.Idx → α) :
    concatenate S16x128 0 [⟨S8x128, x⟩, ⟨S8x128, y⟩] concatenates_S8x128_S8x128_S16x128_d0 = cat x y := by
  funext i
  unfold cat
  split
  · rename_i h
    refine concatenate_pair_apply_left (0 : Fin S16x128.rank) x y _ i rfl _ fun b => ?_
    match b with
    | ⟨0, _⟩ => rfl
    | ⟨1, _⟩ => rfl
  · rename_i h
    refine concatenate_pair_apply_right (0 : Fin S16x128.rank) x y _ i rfl rfl _ (fun b hb => ?_) ?_
    · match b, hb with
      | ⟨0, _⟩, hb => exact absurd rfl hb
      | ⟨1, _⟩, _ => rfl
    · exact Nat.sub_add_cancel (Nat.le_of_not_lt h)

/-- Two tiles, stored as a block of sixteen rows. -/
def pair (x y : P) : S1x16x128.Idx → ℂ := shapeCast S1x16x128 (cat x y) shapeCasts_S16x128_S1x16x128

/-- The state after a tile: the tile's last row and the multiple of the state before. -/
def nxt (p t C : P) : P := last t + last p * C

theorem cat_re (x y : P) : cat (RE x) (RE y) = RE (cat x y) := by
  funext i; unfold RE cat; split <;> rfl
theorem cat_im (x y : P) : cat (IM x) (IM y) = IM (cat x y) := by
  funext i; unfold IM cat; split <;> rfl

section Trip
variable (𝒱 : Variants) (c : Dev nD) (bd : Option 𝒱.V) (i : grid1.Coords) (arg2 : Memref sig .tc .vmem S8x8x128 .f32) (harg2 : arg2.IsWhole)
  (arg3 : Memref sig .tc .vmem S2x4096x128 .bf16) (harg3 : arg3.IsWhole) (arg4 : Memref sig .tc .vmem S2x4096x128 .bf16) (harg4 : arg4.IsWhole)
  (v0 v2 v4 v6 v8 v10 v12 v14 : Vec Ideal S1x8x128 .f32) (X : BufTy.Contents (Elt Ideal) arg3.view.ty) (k : Fin k1_t1_loop.trips)
  (c1 c2 c3 p C : P) (x y : S1x16x128.Idx → ℂ)

/-- What a trip carries on. -/
theorem trip_carry (h1 : k1_pay1 v0 = RE c1) (h2 : k1_pay2 v2 = IM c1) (h3 : k1_pay3 v4 = RE c2) (h4 : k1_pay4 v6 = IM c2)
    (h5 : k1_pay5 v8 = RE c3) (h6 : k1_pay6 v10 = IM c3) (h7 : k1_pay7 v12 = RE p) (h8 : k1_pay8 v14 = IM p) (hX : Loads arg3 X k x y) :
    tripR_k1_t1 (F := Ideal) 𝒱 c bd i arg2 harg2 arg3 harg3 arg4 harg4 v0 v2 v4 v6 v8 v10 v12 v14 X k (RE C, IM C)
      = (let T := tile 1#32 2#32 4#32 c1 c2 c3
         let C4 := nxt p (T (hi y)) (nxt p (T (lo y)) (nxt p (T (hi x)) (nxt p (T (lo x)) C)))
         (RE C4, IM C4)) := by
  unfold tripR_k1_t1 trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, hX.re0, hX.im0, hX.re1, hX.im1, h1, h2, h3, h4, h5, h6, h7, h8]
  simp only [k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, h7, h8, ext_re, ext_im, trunc_re, trunc_im, cast_re, cast_im, slice_re, slice_im, bcast_re, bcast_im, rot_re, rot_im, cmul_re, cmul_im]
  rfl

/-- What a trip stores. -/
theorem trip_store (h1 : k1_pay1 v0 = RE c1) (h2 : k1_pay2 v2 = IM c1) (h3 : k1_pay3 v4 = RE c2) (h4 : k1_pay4 v6 = IM c2)
    (h5 : k1_pay5 v8 = RE c3) (h6 : k1_pay6 v10 = IM c3) (h7 : k1_pay7 v12 = RE p) (h8 : k1_pay8 v14 = IM p) (hX : Loads arg3 X k x y) :
    tripL_k1_t1 (F := Ideal) 𝒱 c bd i arg2 harg2 arg3 harg3 arg4 harg4 v0 v2 v4 v6 v8 v10 v12 v14 X k (RE C, IM C)
      = (let T := tile 1#32 2#32 4#32 c1 c2 c3
         let C1 := nxt p (T (lo x)) C
         let C2 := nxt p (T (hi x)) C1
         let C3 := nxt p (T (lo y)) C2
         let A := pair (T (lo x) + p * C) (T (hi x) + p * C1)
         let B := pair (T (lo y) + p * C2) (T (hi y) + p * C3)
         [⟨Rect.unit (s := S2x4096x128) (k1_off2 k 1#32) S1x16x128.size (k1_off2_inb k 1), IM B⟩,
          ⟨Rect.unit (s := S2x4096x128) (k1_off1 k 1#32) S1x16x128.size (k1_off1_inb k 1), RE B⟩,
          ⟨Rect.unit (s := S2x4096x128) (k1_off2 k 0#32) S1x16x128.size (k1_off2_inb k 0), IM A⟩,
          ⟨Rect.unit (s := S2x4096x128) (k1_off1 k 0#32) S1x16x128.size (k1_off1_inb k 0), RE A⟩]) := by
  unfold tripL_k1_t1 trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, hX.re0, hX.im0, hX.re1, hX.im1, h1, h2, h3, h4, h5, h6, h7, h8]
  simp only [k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, h7, h8, ext_re, ext_im, trunc_re, trunc_im, cast_re, cast_im, slice_re, slice_im, bcast_re, bcast_im, rot_re, rot_im, cmul_re, cmul_im, concat_eq, cat_re, cat_im]
  rfl

end Trip

end Cert.KernelIdeal.Own
end
-- ==== Proof.ScanRev.lean ====
/-
  The reverse scan's loop body over complex planes: what one trip of the loop does to a pair of 16-row blocks, and to the sums
  that make the gradient of the multiplier.
-/
module

public import proofs.«01_k».proof.Proof.ScanFwd

@[expose] public section

set_option maxRecDepth 16384

noncomputable section

namespace Cert.Cx

open Idealize.ShloMosaic

variable {s : Shape} {φ : FTy}

/-- The complex conjugates of an array. -/
def conj (x : s.Idx → ℂ) : s.Idx → ℂ := fun i => (starRingEnd ℂ) (x i)

theorem add_re (x y : s.Idx → ℂ) : addf (F := Ideal) (φ := φ) (RE x : FVec Ideal s φ) (RE y) = (RE (x + y) : FVec Ideal s φ) := by
  funext i
  simp only [ValueIdx.addf_apply, RE, Pi.add_apply, Complex.add_re, EReal.coe_add]
theorem add_im (x y : s.Idx → ℂ) : addf (F := Ideal) (φ := φ) (IM x : FVec Ideal s φ) (IM y) = (IM (x + y) : FVec Ideal s φ) := by
  funext i
  simp only [ValueIdx.addf_apply, IM, Pi.add_apply, Complex.add_im, EReal.coe_add]

/-- The real part of `conj s · a`, as the reverse scan computes it. -/
theorem conj_re (a x : s.Idx → ℂ) :
    addf (F := Ideal) (φ := φ) (mulf (RE a : FVec Ideal s φ) (RE x)) (mulf (IM a) (IM x)) = (RE (conj x * a) : FVec Ideal s φ) := by
  funext i
  simp only [ValueIdx.addf_apply, ValueIdx.mulf_apply, RE, IM, conj, Pi.mul_apply, Complex.mul_re, Complex.conj_re, Complex.conj_im]
  rw [← EReal.coe_mul, ← EReal.coe_mul, ← EReal.coe_add]
  congr 1
  ring

/-- The imaginary part of `conj s · a`, as the reverse scan computes it. -/
theorem conj_im (a x : s.Idx → ℂ) :
    subf (F := Ideal) (φ := φ) (mulf (IM a : FVec Ideal s φ) (RE x)) (mulf (RE a) (IM x)) = (IM (conj x * a) : FVec Ideal s φ) := by
  funext i
  simp only [ValueIdx.subf_apply, ValueIdx.mulf_apply, RE, IM, conj, Pi.mul_apply, Complex.mul_im, Complex.conj_re, Complex.conj_im]
  rw [← EReal.coe_mul, ← EReal.coe_mul, ← EReal.coe_sub]
  congr 1
  ring

theorem select_re (m : IVec s 1) (x y : s.Idx → ℂ) : select m (RE x) (RE y) = RE (select m x y) := by
  funext i; unfold RE select; dsimp only; unfold Scalar.select; split <;> rfl
theorem select_im (m : IVec s 1) (x y : s.Idx → ℂ) : select m (IM x) (IM y) = IM (select m x y) := by
  funext i; unfold IM select; dsimp only; unfold Scalar.select; split <;> rfl

theorem zero_re : (broadcast s (Scalar.ofBits .f32 0x00000000#32) : FVec Ideal s .f32) = RE 0 := by
  funext i; simp [broadcast, RE, Scalar.ofBits, FloatOps.ofBits, Ideal.ofBits, Ideal.ieee]
theorem zero_im : (broadcast s (Scalar.ofBits .f32 0x00000000#32) : FVec Ideal s .f32) = IM 0 := by
  funext i; simp [broadcast, IM, Scalar.ofBits, FloatOps.ofBits, Ideal.ofBits, Ideal.ieee]

/-- An array, or nothing where the bit is zero. -/
theorem pick0_re (b : BitVec 1) (x : s.Idx → ℂ) :
    Scalar.select b (RE x) (broadcast s (Scalar.ofBits .f32 0x00000000#32) : FVec Ideal s .f32) = RE (Scalar.select b x 0) := by
  rw [zero_re]; unfold Scalar.select; split <;> rfl
theorem pick0_im (b : BitVec 1) (x : s.Idx → ℂ) :
    Scalar.select b (IM x) (broadcast s (Scalar.ofBits .f32 0x00000000#32) : FVec Ideal s .f32) = IM (Scalar.select b x 0) := by
  rw [zero_im]; unfold Scalar.select; split <;> rfl

end Cert.Cx

namespace Cert.KernelIdeal.Own

open Cert.KernelIdeal Cert.KernelIdeal.Gen
open Idealize.ShloMosaic Idealize.ShloMosaic.TcCoe Cert.Cx

/-- A complex array over two tiles: sixteen rows of 128 lanes. -/
abbrev P16 := S16x128.Idx → ℂ

/-- Row 0 of a tile in every row. -/
def first (x : P) : P :=
  broadcastTo S8x128 (shapeCast S1x128 (extractStridedSlice S1x128 ![0, 0] x slices_S8x128_o0_0_S1x128) shapeCasts_S1x128_S1x128)
    broadcasts_S1x128_S8x128

/-- The masked multiples of the three steps of a reverse tile, and the powers that carry a state into it. -/
def m1R (lam : ℕ → ℂ) : P := fun i => ScanMath.maskR (lam (i 1).val) 1 (i 0)
def m2R (lam : ℕ → ℂ) : P := fun i => ScanMath.maskR (lam (i 1).val ^ 2) 2 (i 0)
def m4R (lam : ℕ → ℂ) : P := fun i => ScanMath.maskR (lam (i 1).val ^ 4) 4 (i 0)
def pwR (lam : ℕ → ℂ) : P := fun i => lam (i 1).val ^ (8 - (i 0).val)

/-- A reverse tile and the state after it make up the states of each of its rows. -/
theorem tile_rowR (lam : ℕ → ℂ) (U : ℕ → ℕ → ℂ) (a : ℕ) (i : S8x128.Idx) :
    tile 7#32 6#32 4#32 (m1R lam) (m2R lam) (m4R lam) (fun i => U (a + (7 - (i 0).val)) (i 1).val) i
      + pwR lam i * ScanMath.st (lam (i 1).val) (fun t => U t (i 1).val) a
      = ScanMath.st (lam (i 1).val) (fun t => U t (i 1).val) (a + (8 - (i 0).val)) := by
  obtain ⟨r, j, rfl⟩ : ∃ (r : Fin 8) (j : Fin 128), i = ValueIdx.ix2 r j := ⟨i 0, i 1, ValueIdx.eq_ix2 i⟩
  have h := ScanMath.tile_rev (lam j.val) (fun t => U t j.val) a r
  rw [tile_hop]
  exact h

/-- A row in every row. -/
theorem first_apply (x : P) (i : S8x128.Idx) : first x i = x (ValueIdx.ix2 (0 : Fin 8) (i 1)) := by
  unfold first
  rw [shapeCast_self]
  unfold broadcastTo extractStridedSlice
  congr 1
  funext b
  match b with
  | ⟨0, _⟩ => rfl
  | ⟨1, _⟩ => exact Fin.ext (Nat.zero_add _)

/-- The state after a reverse tile: the tile's first row and the multiple of the state before. -/
def nxtR (p t C : P) : P := first t + first p * C

/-- The row numbers of a block of sixteen rows. -/
abbrev rowNo : IVec S16x128 32 := iota .tc S16x128 32 [0] iota_S16x128_d0_w32

/-- Whether a block of sixteen rows is preceded by another, for the block that half `u` of trip `k` works on. -/
def more (k : Fin k2_t1_loop.trips) (u : BitVec 32) : BitVec 1 :=
  Scalar.cmpi .sgt (Scalar.subi 255#32 (Scalar.addi (Scalar.muli (Scf.iv 0#32 1#32 k) 2#32) u)) 0#32

/-- The first half's block is never the first of all. -/
theorem more_first : ∀ k : Fin k2_t1_loop.trips, more k 0#32 = 1#1 := by decide +kernel

/-- The rows one before those of the block `s`: its own rows moved down by one and, above them, the last row of the block before, or
    nothing. -/
def before (b : BitVec 1) (s sp : S1x16x128.Idx → ℂ) : P16 :=
  select (cmpi .eq rowNo (broadcast S16x128 0#32))
    (Scalar.select b
      (broadcastTo S16x128 (shapeCast S1x128 (extractStridedSlice S1x128 ![15, 0] (shapeCast S16x128 sp shapeCasts_S1x16x128_S16x128)
        slices_S16x128_o15_0_S1x128) shapeCasts_S1x128_S1x128) broadcasts_S1x128_S16x128) 0)
    (dynamicRotate 0 1#32 none (shapeCast S16x128 s shapeCasts_S1x16x128_S16x128) rotates_S16x128_d0)

/-- The sum `e` with the two halves of `z` added. -/
def add16 (e : P) (z : P16) : P :=
  e + extractStridedSlice S8x128 ![0, 0] z slices_S16x128_o0_0_S8x128 + extractStridedSlice S8x128 ![8, 0] z slices_S16x128_o8_0_S8x128

/-- The two blocks of sixteen rows that a trip reads of the scan's input. -/
structure LoadsX (arg3 : Memref sig .tc .vmem S2x4096x128 .bf16) (X : BufTy.Contents (Elt Ideal) arg3.view.ty) (k : Fin k2_t1_loop.trips)
    (x y : S1x16x128.Idx → ℂ) : Prop where
  re0 : View.readAt (Elt Ideal) arg3.view (Rect.unit (s := S2x4096x128) (k2_off1 k 0#32) S1x16x128.size (k2_off1_inb k 0)).toLoadRect X = RE x
  im0 : View.readAt (Elt Ideal) arg3.view (Rect.unit (s := S2x4096x128) (k2_off2 k 0#32) S1x16x128.size (k2_off2_inb k 0)).toLoadRect X = IM x
  re1 : View.readAt (Elt Ideal) arg3.view (Rect.unit (s := S2x4096x128) (k2_off1 k 1#32) S1x16x128.size (k2_off1_inb k 1)).toLoadRect X = RE y
  im1 : View.readAt (Elt Ideal) arg3.view (Rect.unit (s := S2x4096x128) (k2_off2 k 1#32) S1x16x128.size (k2_off2_inb k 1)).toLoadRect X = IM y

/-- The blocks that a trip reads of the saved states, each with the block before it. -/
structure LoadsS (arg4 : Memref sig .tc .vmem S2x4096x128 .bf16) (Y : BufTy.Contents (Elt Ideal) arg4.view.ty) (k : Fin k2_t1_loop.trips)
    (s sp w wp : S1x16x128.Idx → ℂ) : Prop where
  re0 : View.readAt (Elt Ideal) arg4.view (Rect.unit (s := S2x4096x128) (k2_off1 k 0#32) S1x16x128.size (k2_off1_inb k 0)).toLoadRect Y = RE s
  im0 : View.readAt (Elt Ideal) arg4.view (Rect.unit (s := S2x4096x128) (k2_off2 k 0#32) S1x16x128.size (k2_off2_inb k 0)).toLoadRect Y = IM s
  re1 : View.readAt (Elt Ideal) arg4.view (Rect.unit (s := S2x4096x128) (k2_off1 k 1#32) S1x16x128.size (k2_off1_inb k 1)).toLoadRect Y = RE w
  im1 : View.readAt (Elt Ideal) arg4.view (Rect.unit (s := S2x4096x128) (k2_off2 k 1#32) S1x16x128.size (k2_off2_inb k 1)).toLoadRect Y = IM w
  pre0 : View.readAt (Elt Ideal) arg4.view (Rect.unit (s := S2x4096x128) (k2_off3 k 0#32) S1x16x128.size (k2_off3_inb k 0)).toLoadRect Y = RE sp
  pim0 : View.readAt (Elt Ideal) arg4.view (Rect.unit (s := S2x4096x128) (k2_off4 k 0#32) S1x16x128.size (k2_off4_inb k 0)).toLoadRect Y = IM sp
  pre1 : View.readAt (Elt Ideal) arg4.view (Rect.unit (s := S2x4096x128) (k2_off3 k 1#32) S1x16x128.size (k2_off3_inb k 1)).toLoadRect Y = RE wp
  pim1 : View.readAt (Elt Ideal) arg4.view (Rect.unit (s := S2x4096x128) (k2_off4 k 1#32) S1x16x128.size (k2_off4_inb k 1)).toLoadRect Y = IM wp

/-- The two sums of a trip's first half, with the products of its sixteen rows added. -/
theorem acc0 (E : P) (A : P16) (s sp : S1x16x128.Idx → ℂ) (n : BitVec 32) (hn : Scalar.cmpi .sgt n 0#32 = 1#1) :
    k2_pay81 (F := Ideal) rowNo (RE E) (RE A) (IM A) 1#1 (k2_pay75 (RE s)) (k2_pay76 (IM s)) (k2_pay77 n (RE sp)) (k2_pay78 (IM sp))
        (FloatOps.ofBits FTy.f32 0#32) = RE (add16 E (conj (before 1#1 s sp) * A))
    ∧ k2_pay82 (F := Ideal) rowNo (IM E) (RE A) (IM A) 1#1 (k2_pay75 (RE s)) (k2_pay76 (IM s)) (k2_pay77 n (RE sp)) (k2_pay78 (IM sp))
        (FloatOps.ofBits FTy.f32 0#32) = IM (add16 E (conj (before 1#1 s sp) * A)) := by
  have hz : (FloatOps.ofBits FTy.f32 0#32 : Ideal .f32) = Scalar.ofBits .f32 0x00000000#32 := rfl
  rw [hz]
  constructor
  all_goals
    simp only [k2_pay75, k2_pay76, k2_pay77, k2_pay78, k2_pay79, k2_pay80, k2_pay81, k2_pay82, k2_pay96, k2_pay97, k2_pay98, k2_pay110, k2_pay111, k2_pay112, k2_pay113, hn, ext_re, ext_im, trunc_re, trunc_im, cast_re, cast_im, slice_re, slice_im, bcast_re, bcast_im, rot_re, rot_im, cmul_re, cmul_im, concat_eq, cat_re, cat_im, pick0_re, pick0_im, select_re, select_im, conj_re, conj_im, add_re, add_im]
    rfl

/-- The two sums of a trip's second half. -/
theorem acc1 (E : P) (A : P16) (s sp : S1x16x128.Idx → ℂ) (b : BitVec 1) :
    k2_pay112 (F := Ideal) (RE E) (RE A) (IM A) b (k2_pay96 (RE s)) (k2_pay97 (IM s)) (k2_pay98 (RE sp)) (IM sp)
        = RE (add16 E (conj (before b s sp) * A))
    ∧ k2_pay113 (F := Ideal) (IM E) (RE A) (IM A) b (k2_pay96 (RE s)) (k2_pay97 (IM s)) (k2_pay98 (RE sp)) (IM sp)
        = IM (add16 E (conj (before b s sp) * A)) := by
  constructor
  all_goals
    simp only [k2_pay75, k2_pay76, k2_pay77, k2_pay78, k2_pay79, k2_pay80, k2_pay81, k2_pay82, k2_pay96, k2_pay97, k2_pay98, k2_pay110, k2_pay111, k2_pay112, k2_pay113, ext_re, ext_im, trunc_re, trunc_im, cast_re, cast_im, slice_re, slice_im, bcast_re, bcast_im, rot_re, rot_im, cmul_re, cmul_im, concat_eq, cat_re, cat_im, pick0_re, pick0_im, select_re, select_im, conj_re, conj_im, add_re, add_im]
    rfl

section Trip
variable (𝒱 : Variants) (c : Dev nD) (bd : Option 𝒱.V) (i : grid2.Coords) (arg2 : Memref sig .tc .vmem S8x8x128 .f32) (harg2 : arg2.IsWhole)
  (arg3 : Memref sig .tc .vmem S2x4096x128 .bf16) (harg3 : arg3.IsWhole) (arg4 : Memref sig .tc .vmem S2x4096x128 .bf16) (harg4 : arg4.IsWhole)
  (arg5 : Memref sig .tc .vmem S2x4096x128 .bf16) (harg5 : arg5.IsWhole) (arg6 : Memref sig .tc .vmem S2x8x128 .f32) (harg6 : arg6.IsWhole)
  (v0 v2 v4 v6 v8 v10 v12 v14 : Vec Ideal S1x8x128 .f32) (X : BufTy.Contents (Elt Ideal) arg3.view.ty) (Y : BufTy.Contents (Elt Ideal) arg4.view.ty)
  (k : Fin k2_t1_loop.trips) (c1 c2 c3 p C E : P) (x y s sp w wp : S1x16x128.Idx → ℂ)

/-- What a trip carries on. -/
theorem trip_carryR (h1 : k2_pay99 v0 = RE c1) (h2 : k2_pay100 v2 = IM c1) (h3 : k2_pay101 v4 = RE c2) (h4 : k2_pay102 v6 = IM c2)
    (h5 : k2_pay103 v8 = RE c3) (h6 : k2_pay104 v10 = IM c3) (h7 : k2_pay105 v12 = RE p) (h8 : k2_pay106 v14 = IM p)
    (hX : LoadsX arg3 X k x y) (hS : LoadsS arg4 Y k s sp w wp) :
    tripR_k2_t1 (F := Ideal) 𝒱 c bd i arg2 harg2 arg3 harg3 arg4 harg4 arg5 harg5 arg6 harg6 v0 v2 v4 v6 v8 v10 v12 v14 rowNo X Y k (RE C, IM C, RE E, IM E)
      = (let T := tile 7#32 6#32 4#32 c1 c2 c3
         let C1 := nxtR p (T (hi x)) C
         let C2 := nxtR p (T (lo x)) C1
         let C3 := nxtR p (T (hi y)) C2
         let C4 := nxtR p (T (lo y)) C3
         let E1 := add16 E (conj (before 1#1 s sp) * cat (T (lo x) + p * C1) (T (hi x) + p * C))
         let E2 := add16 E1 (conj (before (more k 1#32) w wp) * cat (T (lo y) + p * C3) (T (hi y) + p * C2))
         (RE C4, IM C4, RE E2, IM E2)) := by
  unfold tripR_k2_t1 trip_k2_t1
  dsimp only
  simp only [trip_k2_t1.sl.r, trip_k2_t1.sl.r_1, trip_k2_t1.sl.r_2, trip_k2_t1.sl.r_3, trip_k2_t1.sl.r_4, trip_k2_t1.sl.r_5, trip_k2_t1.sl.r_6, trip_k2_t1.sl.r_7, trip_k2_t1.sl.r_8, trip_k2_t1.sl.r_9, trip_k2_t1.sl.r_10, trip_k2_t1.sl.r_11, trip_k2_t1.sl.r_12, trip_k2_t1.sl.r_13, trip_k2_t1.sl.r_14, trip_k2_t1.sl.r_15, trip_k2_t1.sl.r_16, trip_k2_t1.sl.r_17, trip_k2_t1.sl.r_18, trip_k2_t1.sl.r_19, trip_k2_t1.sl.r_20, trip_k2_t1.sl.r_21, trip_k2_t1.sl.r_22, trip_k2_t1.sl.r_23, trip_k2_t1.sl.r_24, trip_k2_t1.sl.r_25, trip_k2_t1.sl.r_26, trip_k2_t1.sl.r_27, trip_k2_t1.sl.r_28, trip_k2_t1.sl.r_29, trip_k2_t1.sl.r_30, trip_k2_t1.sl.r_31, trip_k2_t1.sl.r_32, trip_k2_t1.sl.r_33, trip_k2_t1.sl.r_34, trip_k2_t1.sl.r_35, trip_k2_t1.sl.r_36, trip_k2_t1.sl.r_37, trip_k2_t1.sl.r_38, trip_k2_t1.sl.r_39, trip_k2_t1.sl.r_40, trip_k2_t1.sl.r_41, trip_k2_t1.sl.r_42, trip_k2_t1.sl.v364, trip_k2_t1.sl.v43, trip_k2_t1.sl.v42, trip_k2_t1.sl.v41, trip_k2_t1.sl.v119, trip_k2_t1.sl.v120, trip_k2_t1.sl.arg7, trip_k2_t1.sl.cst_82, hX.re0, hX.im0, hX.re1, hX.im1, hS.re0, hS.im0, hS.re1, hS.im1, hS.pre0, hS.pim0, hS.pre1, hS.pim1, h1, h2, h3, h4, h5, h6, h7, h8]
  simp only [k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay83, k2_pay84, k2_pay85, k2_pay86, k2_pay87, k2_pay88, k2_pay89, k2_pay90, k2_pay91, k2_pay92, k2_pay93, k2_pay94, k2_pay95, k2_pay108, k2_pay109, h7, h8, ext_re, ext_im, trunc_re, trunc_im, cast_re, cast_im, slice_re, slice_im, bcast_re, bcast_im, rot_re, rot_im, cmul_re, cmul_im, concat_eq, cat_re, cat_im, pick0_re, pick0_im, select_re, select_im, conj_re, conj_im, add_re, add_im]
  simp only [(acc0 _ _ _ _ _ (more_first k)).1, (acc0 _ _ _ _ _ (more_first k)).2, (acc1 _ _ _ _ _).1, (acc1 _ _ _ _ _).2]
  rfl

/-- What a trip stores. -/
theorem trip_storeR (h1 : k2_pay99 v0 = RE c1) (h2 : k2_pay100 v2 = IM c1) (h3 : k2_pay101 v4 = RE c2) (h4 : k2_pay102 v6 = IM c2)
    (h5 : k2_pay103 v8 = RE c3) (h6 : k2_pay104 v10 = IM c3) (h7 : k2_pay105 v12 = RE p) (h8 : k2_pay106 v14 = IM p)
    (hX : LoadsX arg3 X k x y) (hS : LoadsS arg4 Y k s sp w wp) :
    tripL_k2_t1 (F := Ideal) 𝒱 c bd i arg2 harg2 arg3 harg3 arg4 harg4 arg5 harg5 arg6 harg6 v0 v2 v4 v6 v8 v10 v12 v14 rowNo X Y k (RE C, IM C, RE E, IM E)
      = (let T := tile 7#32 6#32 4#32 c1 c2 c3
         let C1 := nxtR p (T (hi x)) C
         let C2 := nxtR p (T (lo x)) C1
         let C3 := nxtR p (T (hi y)) C2
         let A := pair (T (lo x) + p * C1) (T (hi x) + p * C)
         let B := pair (T (lo y) + p * C3) (T (hi y) + p * C2)
         [⟨Rect.unit (s := S2x4096x128) (k2_off2 k 1#32) S1x16x128.size (k2_off2_inb k 1), IM B⟩,
          ⟨Rect.unit (s := S2x4096x128) (k2_off1 k 1#32) S1x16x128.size (k2_off1_inb k 1), RE B⟩,
          ⟨Rect.unit (s := S2x4096x128) (k2_off2 k 0#32) S1x16x128.size (k2_off2_inb k 0), IM A⟩,
          ⟨Rect.unit (s := S2x4096x128) (k2_off1 k 0#32) S1x16x128.size (k2_off1_inb k 0), RE A⟩]) := by
  unfold tripL_k2_t1 trip_k2_t1
  dsimp only
  simp only [trip_k2_t1.sl.r, trip_k2_t1.sl.r_1, trip_k2_t1.sl.r_2, trip_k2_t1.sl.r_3, trip_k2_t1.sl.r_4, trip_k2_t1.sl.r_5, trip_k2_t1.sl.r_6, trip_k2_t1.sl.r_7, trip_k2_t1.sl.r_8, trip_k2_t1.sl.r_9, trip_k2_t1.sl.r_10, trip_k2_t1.sl.r_11, trip_k2_t1.sl.r_12, trip_k2_t1.sl.r_13, trip_k2_t1.sl.r_14, trip_k2_t1.sl.r_15, trip_k2_t1.sl.r_16, trip_k2_t1.sl.r_17, trip_k2_t1.sl.r_18, trip_k2_t1.sl.r_19, trip_k2_t1.sl.r_20, trip_k2_t1.sl.r_21, trip_k2_t1.sl.r_22, trip_k2_t1.sl.r_23, trip_k2_t1.sl.r_24, trip_k2_t1.sl.r_25, trip_k2_t1.sl.r_26, trip_k2_t1.sl.r_27, trip_k2_t1.sl.r_28, trip_k2_t1.sl.r_29, trip_k2_t1.sl.r_30, trip_k2_t1.sl.r_31, trip_k2_t1.sl.r_32, trip_k2_t1.sl.r_33, trip_k2_t1.sl.r_34, trip_k2_t1.sl.r_35, trip_k2_t1.sl.r_36, trip_k2_t1.sl.r_37, trip_k2_t1.sl.r_38, trip_k2_t1.sl.r_39, trip_k2_t1.sl.r_40, trip_k2_t1.sl.r_41, trip_k2_t1.sl.r_42, trip_k2_t1.sl.v364, trip_k2_t1.sl.v43, trip_k2_t1.sl.v42, trip_k2_t1.sl.v41, trip_k2_t1.sl.v119, trip_k2_t1.sl.v120, trip_k2_t1.sl.arg7, trip_k2_t1.sl.cst_82, hX.re0, hX.im0, hX.re1, hX.im1, hS.re0, hS.im0, hS.re1, hS.im1, hS.pre0, hS.pim0, hS.pre1, hS.pim1, h1, h2, h3, h4, h5, h6, h7, h8]
  simp only [k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay83, k2_pay84, k2_pay85, k2_pay86, k2_pay87, k2_pay88, k2_pay89, k2_pay90, k2_pay91, k2_pay92, k2_pay93, k2_pay94, k2_pay95, k2_pay108, k2_pay109, h7, h8, ext_re, ext_im, trunc_re, trunc_im, cast_re, cast_im, slice_re, slice_im, bcast_re, bcast_im, rot_re, rot_im, cmul_re, cmul_im, concat_eq, cat_re, cat_im, pick0_re, pick0_im, select_re, select_im, conj_re, conj_im, add_re, add_im]
  rfl

end Trip

end Cert.KernelIdeal.Own
end
-- ==== Proof.ScanFwdBlock.lean ====
/-
  What the forward scan's kernel leaves in a block of 128 lanes: with the block of inputs read as complex planes `U`, and the
  coefficient block read as the masked powers of the lanes' multipliers `lam`, row `t` of lane `j` is the state of the recurrence
  after input `t`.
-/
module

public import proofs.«01_k».proof.Proof.ScanFwd
public import Idealize.ShloMosaic.Lib.ValueLayout
public import Idealize.ShloMosaic.Lib.Pipeline.CanonAppend

@[expose] public section

set_option maxRecDepth 16384

noncomputable section

namespace Cert.KernelIdeal.Own

open Cert.KernelIdeal Cert.KernelIdeal.Gen
open Idealize.ShloMosaic Idealize.ShloMosaic.TcCoe Cert.Cx

theorem trips1 : k1_t1_loop.trips = 128 := by decide +kernel

theorem off1_0 : ∀ k : Fin k1_t1_loop.trips, k1_off1 k 0#32 = ![0, 32 * k.val, 0] := by decide +kernel
theorem off1_1 : ∀ k : Fin k1_t1_loop.trips, k1_off1 k 1#32 = ![0, 32 * k.val + 16, 0] := by decide +kernel
theorem off2_0 : ∀ k : Fin k1_t1_loop.trips, k1_off2 k 0#32 = ![1, 32 * k.val, 0] := by decide +kernel
theorem off2_1 : ∀ k : Fin k1_t1_loop.trips, k1_off2 k 1#32 = ![1, 32 * k.val + 16, 0] := by decide +kernel

/-- Rows of sixteen, from row `a`. -/
def rows (U : ℕ → ℕ → ℂ) (a : ℕ) : S1x16x128.Idx → ℂ := fun i => U (a + (i 1).val) (i 2).val

theorem planes_re (U : ℕ → ℕ → ℂ) {off : Fin S2x4096x128.rank → ℕ} (a : ℕ) (h : off = ![0, a, 0]) (inb) (x : S1x16x128.Idx) :
    planes (n := 4096) (m := 128) U ((Rect.unit (s := S2x4096x128) off S1x16x128.size inb).emb x) = RE (rows U a) x := by
  subst h
  have h0 : (x 0).val = 0 := Nat.lt_one_iff.1 (x 0).isLt
  have e0 : ((Rect.unit (s := S2x4096x128) ![0, a, 0] S1x16x128.size inb).emb x 0).val = 0 := by
    show 0 + 1 * (x 0).val = 0; rw [h0]
  have e1 : ((Rect.unit (s := S2x4096x128) ![0, a, 0] S1x16x128.size inb).emb x 1).val = a + (x 1).val := by
    show a + 1 * (x 1).val = _; rw [Nat.one_mul]
  have e2 : ((Rect.unit (s := S2x4096x128) ![0, a, 0] S1x16x128.size inb).emb x 2).val = (x 2).val := by
    show 0 + 1 * (x 2).val = _; rw [Nat.one_mul, Nat.zero_add]
  unfold planes RE rows
  rw [e0, e1, e2]
  exact if_pos rfl
theorem planes_im (U : ℕ → ℕ → ℂ) {off : Fin S2x4096x128.rank → ℕ} (a : ℕ) (h : off = ![1, a, 0]) (inb) (x : S1x16x128.Idx) :
    planes (n := 4096) (m := 128) U ((Rect.unit (s := S2x4096x128) off S1x16x128.size inb).emb x) = IM (rows U a) x := by
  subst h
  have h0 : (x 0).val = 0 := Nat.lt_one_iff.1 (x 0).isLt
  have e0 : ((Rect.unit (s := S2x4096x128) ![1, a, 0] S1x16x128.size inb).emb x 0).val = 1 := by
    show 1 + 1 * (x 0).val = 1; rw [h0]
  have e1 : ((Rect.unit (s := S2x4096x128) ![1, a, 0] S1x16x128.size inb).emb x 1).val = a + (x 1).val := by
    show a + 1 * (x 1).val = _; rw [Nat.one_mul]
  have e2 : ((Rect.unit (s := S2x4096x128) ![1, a, 0] S1x16x128.size inb).emb x 2).val = (x 2).val := by
    show 0 + 1 * (x 2).val = _; rw [Nat.one_mul, Nat.zero_add]
  unfold planes IM rows
  rw [e0, e1, e2]
  exact if_neg one_ne_zero

theorem readAt_re (U : ℕ → ℕ → ℂ) (v : Memref sig .tc .vmem S2x4096x128 .bf16) (X : BufTy.Contents (Elt Ideal) v.view.ty)
    (hX : v.view.read (Elt Ideal) X = planes U) {off : Fin S2x4096x128.rank → ℕ} (a : ℕ) (h : off = ![0, a, 0]) (inb) :
    View.readAt (Elt Ideal) v.view (Rect.unit (s := S2x4096x128) off S1x16x128.size inb).toLoadRect X = RE (rows U a) := by
  rw [View.readAt_eq_ld, hX]
  funext x
  exact planes_re U a h inb x
theorem readAt_im (U : ℕ → ℕ → ℂ) (v : Memref sig .tc .vmem S2x4096x128 .bf16) (X : BufTy.Contents (Elt Ideal) v.view.ty)
    (hX : v.view.read (Elt Ideal) X = planes U) {off : Fin S2x4096x128.rank → ℕ} (a : ℕ) (h : off = ![1, a, 0]) (inb) :
    View.readAt (Elt Ideal) v.view (Rect.unit (s := S2x4096x128) off S1x16x128.size inb).toLoadRect X = IM (rows U a) := by
  rw [View.readAt_eq_ld, hX]
  funext x
  exact planes_im U a h inb x

theorem loads1 (U : ℕ → ℕ → ℂ) (v : Memref sig .tc .vmem S2x4096x128 .bf16) (X : BufTy.Contents (Elt Ideal) v.view.ty)
    (hX : v.view.read (Elt Ideal) X = planes U) (k : Fin k1_t1_loop.trips) :
    Loads v X k (rows U (32 * k.val)) (rows U (32 * k.val + 16)) :=
  ⟨readAt_re U v X hX _ (off1_0 k) _, readAt_im U v X hX _ (off2_0 k) _, readAt_re U v X hX _ (off1_1 k) _, readAt_im U v X hX _ (off2_1 k) _⟩

theorem lo_rows (U : ℕ → ℕ → ℂ) (a : ℕ) : lo (rows U a) = fun i => U (a + (i 0).val) (i 1).val := by
  funext i
  obtain ⟨r, j, rfl⟩ : ∃ (r : Fin 8) (j : Fin 128), i = ValueIdx.ix2 r j := ⟨i 0, i 1, ValueIdx.eq_ix2 i⟩
  unfold lo
  refine (ValueIdx.slice2_axis0_apply 0 _ _ r j (⟨r.val, by omega⟩ : Fin 16) (Nat.zero_add _).symm).trans ?_
  exact ValueIdx.shapeCast_1ab_ab_apply _ _ _ _
theorem hi_rows (U : ℕ → ℕ → ℂ) (a : ℕ) : hi (rows U a) = fun i => U (a + 8 + (i 0).val) (i 1).val := by
  funext i
  obtain ⟨r, j, rfl⟩ : ∃ (r : Fin 8) (j : Fin 128), i = ValueIdx.ix2 r j := ⟨i 0, i 1, ValueIdx.eq_ix2 i⟩
  unfold hi
  refine (ValueIdx.slice2_axis0_apply 8 _ _ r j (⟨8 + r.val, by omega⟩ : Fin 16) rfl).trans ?_
  refine (ValueIdx.shapeCast_1ab_ab_apply _ _ _ _).trans ?_
  show U (a + (8 + r.val)) j.val = U (a + 8 + r.val) j.val
  rw [Nat.add_assoc]

/-- Two tiles of consecutive rows are a block of rows. -/
theorem pair_rows (S : ℕ → ℕ → ℂ) (a : ℕ) (x y : P) (hx : x = fun i => S (a + (i 0).val) (i 1).val)
    (hy : y = fun i => S (a + 8 + (i 0).val) (i 1).val) : pair x y = rows S a := by
  subst hx hy
  funext i
  obtain ⟨u, r, j, rfl⟩ : ∃ (u : Fin 1) (r : Fin 16) (j : Fin 128), i = ValueIdx.ix3 u r j := ⟨i 0, i 1, i 2, ValueIdx.eq_ix3 i⟩
  unfold pair
  refine (ValueIdx.shapeCast_ab_1ab_apply _ _ _ _ _).trans ?_
  unfold cat
  split
  · rfl
  · rename_i h
    have h : ¬ r.val < 8 := h
    show S (a + 8 + (r.val - 8)) j.val = S (a + r.val) j.val
    congr 1
    omega

/-- The state after input `t`, of lane `j`. -/
def stF (lam : ℕ → ℂ) (U : ℕ → ℕ → ℂ) (t j : ℕ) : ℂ := ScanMath.st (lam j) (fun t => U t j) t

/-- The state before row `a`, in every row. -/
def carF (lam : ℕ → ℂ) (U : ℕ → ℕ → ℂ) (a : ℕ) : P := fun i => stF lam U a (i 1).val

theorem tileF (lam : ℕ → ℂ) (U : ℕ → ℕ → ℂ) (a : ℕ) :
    tile 1#32 2#32 4#32 (m1F lam) (m2F lam) (m4F lam) (fun i => U (a + (i 0).val) (i 1).val) + pwF lam * carF lam U a
      = fun i => stF lam U (a + (i 0).val + 1) (i 1).val :=
  funext fun i => tile_row lam U a i

theorem nxtF (lam : ℕ → ℂ) (U : ℕ → ℕ → ℂ) (a : ℕ) :
    nxt (pwF lam) (tile 1#32 2#32 4#32 (m1F lam) (m2F lam) (m4F lam) (fun i => U (a + (i 0).val) (i 1).val)) (carF lam U a)
      = carF lam U (a + 8) := by
  funext i
  have h := congrFun (tileF lam U a) (ValueIdx.ix2 (7 : Fin 8) (i 1))
  unfold nxt
  rw [Pi.add_apply, Pi.mul_apply, last_apply, last_apply]
  exact h

section Loop
variable (𝒱 : Variants) (c : Dev nD) (bd : Option 𝒱.V) (i : grid1.Coords) (arg2 : Memref sig .tc .vmem S8x8x128 .f32) (harg2 : arg2.IsWhole)
  (arg3 : Memref sig .tc .vmem S2x4096x128 .bf16) (harg3 : arg3.IsWhole) (arg4 : Memref sig .tc .vmem S2x4096x128 .bf16) (harg4 : arg4.IsWhole)
  (v0 v2 v4 v6 v8 v10 v12 v14 : Vec Ideal S1x8x128 .f32) (X : BufTy.Contents (Elt Ideal) arg3.view.ty)
  (lam : ℕ → ℂ) (U : ℕ → ℕ → ℂ)

/-- Before trip `k` the loop carries the state before row `32 k`, and every store made is a block of the states. -/
theorem loopF (h1 : k1_pay1 v0 = RE (m1F lam)) (h2 : k1_pay2 v2 = IM (m1F lam)) (h3 : k1_pay3 v4 = RE (m2F lam)) (h4 : k1_pay4 v6 = IM (m2F lam))
    (h5 : k1_pay5 v8 = RE (m4F lam)) (h6 : k1_pay6 v10 = IM (m4F lam)) (h7 : k1_pay7 v12 = RE (pwF lam)) (h8 : k1_pay8 v14 = IM (pwF lam))
    (hX : arg3.view.read (Elt Ideal) X = planes U) :
    ∀ k ≤ 128,
    (st_k1_t1 (F := Ideal) 𝒱 c bd i arg2 harg2 arg3 harg3 arg4 harg4 v0 v2 v4 v6 v8 v10 v12 v14 X (k1_pay9, k1_pay9) k).1
        = (RE (carF lam U (32 * k)), IM (carF lam U (32 * k)))
      ∧ ∀ p ∈ (st_k1_t1 (F := Ideal) 𝒱 c bd i arg2 harg2 arg3 harg3 arg4 harg4 v0 v2 v4 v6 v8 v10 v12 v14 X (k1_pay9, k1_pay9) k).2,
          ∀ x, p.2 x = planes (n := 4096) (m := 128) (fun t => stF lam U (t + 1)) (p.1.emb x) := by
  intro k
  induction k with
  | zero =>
    intro _
    refine ⟨?_, by intro p hp; exact absurd hp List.not_mem_nil⟩
    rw [st_k1_t1_zero]
    refine Prod.ext ?_ ?_ <;> funext i
    · show Ideal.ofBits .f32 0x00000000#32 = ((0 : ℝ) : EReal)
      simp [Ideal.ofBits, Ideal.ieee]
    · show Ideal.ofBits .f32 0x00000000#32 = ((0 : ℝ) : EReal)
      simp [Ideal.ofBits, Ideal.ieee]
  | succ k ih =>
    intro hk
    obtain ⟨ihc, ihp⟩ := ih (Nat.le_of_succ_le hk)
    have hk' : k < k1_t1_loop.trips := by rw [trips1]; exact hk
    have hL := loads1 U arg3 X hX ⟨k, hk'⟩
    rw [st_k1_t1_succ 𝒱 c bd i arg2 harg2 arg3 harg3 arg4 harg4 v0 v2 v4 v6 v8 v10 v12 v14 X (k1_pay9, k1_pay9) ⟨k, hk'⟩]
    dsimp only
    rw [ihc, trip_carry 𝒱 c bd i arg2 harg2 arg3 harg3 arg4 harg4 v0 v2 v4 v6 v8 v10 v12 v14 X ⟨k, hk'⟩ _ _ _ _ _ _ _ h1 h2 h3 h4 h5 h6 h7 h8 hL,
      trip_store 𝒱 c bd i arg2 harg2 arg3 harg3 arg4 harg4 v0 v2 v4 v6 v8 v10 v12 v14 X ⟨k, hk'⟩ _ _ _ _ _ _ _ h1 h2 h3 h4 h5 h6 h7 h8 hL]
    dsimp only
    rw [lo_rows, lo_rows, hi_rows, hi_rows, nxtF, nxtF, nxtF, nxtF]
    have hA := pair_rows (fun t => stF lam U (t + 1)) (32 * k) _ _ (tileF lam U (32 * k)) (tileF lam U (32 * k + 8))
    have hB := pair_rows (fun t => stF lam U (t + 1)) (32 * k + 16) _ _ (tileF lam U (32 * k + 16)) (tileF lam U (32 * k + 16 + 8))
    refine ⟨by rw [show 32 * k + 16 + 8 + 8 = 32 * (k + 1) by omega], ?_⟩
    intro p hp x
    rcases List.mem_append.1 hp with hp | hp
    · simp only [List.mem_cons, List.not_mem_nil, or_false] at hp
      rcases hp with rfl | rfl | rfl | rfl
      · exact (congrFun (congrArg IM hB) x).trans (planes_im _ _ (off2_1 ⟨k, hk'⟩) (k1_off2_inb ⟨k, hk'⟩ 1) x).symm
      · exact (congrFun (congrArg RE hB) x).trans (planes_re _ _ (off1_1 ⟨k, hk'⟩) (k1_off1_inb ⟨k, hk'⟩ 1) x).symm
      · exact (congrFun (congrArg IM hA) x).trans (planes_im _ _ (off2_0 ⟨k, hk'⟩) (k1_off2_inb ⟨k, hk'⟩ 0) x).symm
      · exact (congrFun (congrArg RE hA) x).trans (planes_re _ _ (off1_0 ⟨k, hk'⟩) (k1_off1_inb ⟨k, hk'⟩ 0) x).symm
    · exact ihp p hp x

end Loop

/-- The planes of the coefficient block: three pairs of masked multiples and the pair of powers. -/
structure CoefF (lam : ℕ → ℂ) (x0 : Vec Ideal S8x8x128 .f32) : Prop where
  a0 : ∀ (r : Fin 8) (j : Fin 128), x0 (ValueIdx.ix3 0 r j) = RE (m1F lam) (ValueIdx.ix2 r j)
  a1 : ∀ (r : Fin 8) (j : Fin 128), x0 (ValueIdx.ix3 1 r j) = IM (m1F lam) (ValueIdx.ix2 r j)
  a2 : ∀ (r : Fin 8) (j : Fin 128), x0 (ValueIdx.ix3 2 r j) = RE (m2F lam) (ValueIdx.ix2 r j)
  a3 : ∀ (r : Fin 8) (j : Fin 128), x0 (ValueIdx.ix3 3 r j) = IM (m2F lam) (ValueIdx.ix2 r j)
  a4 : ∀ (r : Fin 8) (j : Fin 128), x0 (ValueIdx.ix3 4 r j) = RE (m4F lam) (ValueIdx.ix2 r j)
  a5 : ∀ (r : Fin 8) (j : Fin 128), x0 (ValueIdx.ix3 5 r j) = IM (m4F lam) (ValueIdx.ix2 r j)
  a6 : ∀ (r : Fin 8) (j : Fin 128), x0 (ValueIdx.ix3 6 r j) = RE (pwF lam) (ValueIdx.ix2 r j)
  a7 : ∀ (r : Fin 8) (j : Fin 128), x0 (ValueIdx.ix3 7 r j) = IM (pwF lam) (ValueIdx.ix2 r j)

/-- A plane of the coefficient block, loaded and read as a tile. -/
theorem plane_cast (x0 : Vec Ideal S8x8x128 .f32) (q : Fin 8) (f : S8x128.Idx → EReal)
    (h : ∀ (r : Fin 8) (j : Fin 128), x0 (ValueIdx.ix3 q r j) = f (ValueIdx.ix2 r j))
    (off : Fin S8x8x128.rank → ℕ) (hoff : off = ![q.val, 0, 0]) (inb) (hc : S1x8x128.ShapeCasts S8x128) :
    shapeCast S8x128 (View.ld (Val := Elt Ideal) (e' := .f32) x0 (Rect.unit (s := S8x8x128) off S1x8x128.size inb)) hc = f := by
  subst hoff
  funext i
  obtain ⟨r, j, rfl⟩ : ∃ (r : Fin 8) (j : Fin 128), i = ValueIdx.ix2 r j := ⟨i 0, i 1, ValueIdx.eq_ix2 i⟩
  refine (ValueIdx.shapeCast_1ab_ab_apply _ _ _ _).trans ?_
  rw [← h]
  show x0 _ = x0 _
  congr 1
  funext b
  apply Fin.ext
  match b with
  | ⟨0, _⟩ => show q.val + 1 * 0 = q.val; rfl
  | ⟨1, _⟩ => show 0 + 1 * r.val = r.val; omega
  | ⟨2, _⟩ => show 0 + 1 * j.val = j.val; omega

/-- The block the kernel leaves: the states. -/
theorem blockF (c : Dev nD) (i : grid1.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (x0 : Vec Ideal S8x8x128 .f32) (x1 : Vec Ideal S2x4096x128 .bf16) (lam : ℕ → ℂ) (U : ℕ → ℕ → ℂ)
    (h0 : CoefF lam x0) (h1 : x1 = planes U) :
    out1_A_2 (F := Ideal) c i arg2 harg2 arg3 harg3 arg4 harg4 x0 x1 = planes (fun t => stF lam U (t + 1)) := by
  unfold out1_A_2
  rw [View.read_writes_eq_canon _ _ _ (cover1_A_2 c i arg2 harg2 arg3 harg3 arg4 harg4 x0 x1)]
  funext y
  have hc := cover1_A_2 c i arg2 harg2 arg3 harg3 arg4 harg4 x0 x1 y
  rw [← List.append_nil (kernelRun1_A c i arg2 harg2 arg3 harg3 arg4 harg4 x0 x1).1]
  refine View.canon_append_of_pieces _ [] _ ?_ y hc
  unfold kernelRun1_A
  dsimp only
  sl_unfold_words
  refine (loopF _ c _ i arg2 harg2 arg3 harg3 arg4 harg4 _ _ _ _ _ _ _ _ _ lam U ?_ ?_ ?_ ?_ ?_ ?_ ?_ ?_ ?_ 128 le_rfl).2
  · rw [View.readAt_eq_ld, harg2.read_unread]; exact plane_cast x0 0 _ h0.a0 _ rfl _ _
  · rw [View.readAt_eq_ld, harg2.read_unread]; exact plane_cast x0 1 _ h0.a1 _ rfl _ _
  · rw [View.readAt_eq_ld, harg2.read_unread]; exact plane_cast x0 2 _ h0.a2 _ rfl _ _
  · rw [View.readAt_eq_ld, harg2.read_unread]; exact plane_cast x0 3 _ h0.a3 _ rfl _ _
  · rw [View.readAt_eq_ld, harg2.read_unread]; exact plane_cast x0 4 _ h0.a4 _ rfl _ _
  · rw [View.readAt_eq_ld, harg2.read_unread]; exact plane_cast x0 5 _ h0.a5 _ rfl _ _
  · rw [View.readAt_eq_ld, harg2.read_unread]; exact plane_cast x0 6 _ h0.a6 _ rfl _ _
  · rw [View.readAt_eq_ld, harg2.read_unread]; exact plane_cast x0 7 _ h0.a7 _ rfl _ _
  · rw [harg3.read_unread]; exact h1

end Cert.KernelIdeal.Own
end
-- ==== Proof.ScanRevBlock.lean ====
/-
  What the reverse scan's kernel leaves in a block of 128 lanes of one sequence: with the block of inputs read as complex planes `G`,
  the saved states as planes `Z`, and the coefficient block read as the masked powers of the lanes' multipliers `mu`, row `t` of
  lane `j` is the state of the recurrence run from the last row down, and the sums carried along are those of the products of each
  such state with the conjugate of the saved state one row before.
-/
module

public import proofs.«01_k».proof.Proof.ScanRev
public import proofs.«01_k».proof.Proof.ScanFwdBlock

@[expose] public section

set_option maxRecDepth 16384

noncomputable section

namespace Cert.KernelIdeal.Own

open Cert.KernelIdeal Cert.KernelIdeal.Gen
open Idealize.ShloMosaic Idealize.ShloMosaic.TcCoe Cert.Cx

theorem trips2 : k2_t1_loop.trips = 128 := by decide +kernel

theorem off1R_0 : ∀ k : Fin k2_t1_loop.trips, k2_off1 k 0#32 = ![0, 4080 - 32 * k.val, 0] := by decide +kernel
theorem off1R_1 : ∀ k : Fin k2_t1_loop.trips, k2_off1 k 1#32 = ![0, 4064 - 32 * k.val, 0] := by decide +kernel
theorem off2R_0 : ∀ k : Fin k2_t1_loop.trips, k2_off2 k 0#32 = ![1, 4080 - 32 * k.val, 0] := by decide +kernel
theorem off2R_1 : ∀ k : Fin k2_t1_loop.trips, k2_off2 k 1#32 = ![1, 4064 - 32 * k.val, 0] := by decide +kernel
theorem off3R_0 : ∀ k : Fin k2_t1_loop.trips, k2_off3 k 0#32 = ![0, 4064 - 32 * k.val, 0] := by decide +kernel
theorem off3R_1 : ∀ k : Fin k2_t1_loop.trips, k2_off3 k 1#32 = ![0, 4048 - 32 * k.val, 0] := by decide +kernel
theorem off4R_0 : ∀ k : Fin k2_t1_loop.trips, k2_off4 k 0#32 = ![1, 4064 - 32 * k.val, 0] := by decide +kernel
theorem off4R_1 : ∀ k : Fin k2_t1_loop.trips, k2_off4 k 1#32 = ![1, 4048 - 32 * k.val, 0] := by decide +kernel
theorem more_second : ∀ k : Fin k2_t1_loop.trips, more k 1#32 = if k.val = 127 then 0#1 else 1#1 := by decide +kernel

theorem loadsX (U : ℕ → ℕ → ℂ) (v : Memref sig .tc .vmem S2x4096x128 .bf16) (X : BufTy.Contents (Elt Ideal) v.view.ty)
    (hX : v.view.read (Elt Ideal) X = planes U) (k : Fin k2_t1_loop.trips) :
    LoadsX v X k (rows U (4080 - 32 * k.val)) (rows U (4064 - 32 * k.val)) :=
  ⟨readAt_re U v X hX _ (off1R_0 k) _, readAt_im U v X hX _ (off2R_0 k) _, readAt_re U v X hX _ (off1R_1 k) _, readAt_im U v X hX _ (off2R_1 k) _⟩
theorem loadsS (U : ℕ → ℕ → ℂ) (v : Memref sig .tc .vmem S2x4096x128 .bf16) (X : BufTy.Contents (Elt Ideal) v.view.ty)
    (hX : v.view.read (Elt Ideal) X = planes U) (k : Fin k2_t1_loop.trips) :
    LoadsS v X k (rows U (4080 - 32 * k.val)) (rows U (4064 - 32 * k.val)) (rows U (4064 - 32 * k.val)) (rows U (4048 - 32 * k.val)) :=
  ⟨readAt_re U v X hX _ (off1R_0 k) _, readAt_im U v X hX _ (off2R_0 k) _, readAt_re U v X hX _ (off1R_1 k) _, readAt_im U v X hX _ (off2R_1 k) _,
   readAt_re U v X hX _ (off3R_0 k) _, readAt_im U v X hX _ (off4R_0 k) _, readAt_re U v X hX _ (off3R_1 k) _, readAt_im U v X hX _ (off4R_1 k) _⟩

/-- The states of the recurrence run from the last row down: before row `4095 - n` comes that of row `4096 - n`. -/
def stR (mu : ℕ → ℂ) (G : ℕ → ℕ → ℂ) (n j : ℕ) : ℂ := ScanMath.st (mu j) (fun t => G (4095 - t) j) n
/-- That of row `t`. -/
def adj (mu : ℕ → ℂ) (G : ℕ → ℕ → ℂ) (t j : ℕ) : ℂ := stR mu G (4096 - t) j
/-- The saved state one row before. -/
def prev (Z : ℕ → ℕ → ℂ) (t j : ℕ) : ℂ := if t = 0 then 0 else Z (t - 1) j
/-- The state that a tile starts from, in every row. -/
def carR (mu : ℕ → ℂ) (G : ℕ → ℕ → ℂ) (a : ℕ) : P := fun i => stR mu G a (i 1).val
/-- One product of the gradient of the multiplier. -/
def prd (mu : ℕ → ℂ) (G Z : ℕ → ℕ → ℂ) (t j : ℕ) : ℂ := (starRingEnd ℂ) (prev Z t j) * adj mu G t j
/-- The sum of the products of the last `m` tiles, row by row. -/
def dsum (mu : ℕ → ℂ) (G Z : ℕ → ℕ → ℂ) (m : ℕ) : P := fun i => ∑ n ∈ Finset.range m, prd mu G Z (4088 - 8 * n + (i 0).val) (i 1).val

theorem tileR (mu : ℕ → ℂ) (G : ℕ → ℕ → ℂ) (a b : ℕ) (h : a + b + 8 = 4096) :
    tile 7#32 6#32 4#32 (m1R mu) (m2R mu) (m4R mu) (fun i => G (b + (i 0).val) (i 1).val) + pwR mu * carR mu G a
      = fun i => adj mu G (b + (i 0).val) (i 1).val := by
  funext i
  have hi : (i 0).val < 8 := (i 0).isLt
  have e := tile_rowR mu (fun t j => G (4095 - t) j) a i
  have e1 : (fun i : S8x128.Idx => G (4095 - (a + (7 - (i 0).val))) (i 1).val) = fun i => G (b + (i 0).val) (i 1).val := by
    funext i
    have hi : (i 0).val < 8 := (i 0).isLt
    rw [show 4095 - (a + (7 - (i 0).val)) = b + (i 0).val by omega]
  rw [e1] at e
  refine e.trans ?_
  unfold adj stR
  rw [show a + (8 - (i 0).val) = 4096 - (b + (i 0).val) by omega]

theorem nxtR_eq (mu : ℕ → ℂ) (G : ℕ → ℕ → ℂ) (a b : ℕ) (h : a + b + 8 = 4096) :
    nxtR (pwR mu) (tile 7#32 6#32 4#32 (m1R mu) (m2R mu) (m4R mu) (fun i => G (b + (i 0).val) (i 1).val)) (carR mu G a)
      = carR mu G (a + 8) := by
  funext i
  have e := congrFun (tileR mu G a b h) (ValueIdx.ix2 (0 : Fin 8) (i 1))
  unfold nxtR
  rw [Pi.add_apply, Pi.mul_apply, first_apply, first_apply]
  refine e.trans ?_
  show stR mu G (4096 - (b + 0)) (i 1).val = stR mu G (a + 8) (i 1).val
  rw [show 4096 - (b + 0) = a + 8 by omega]

/-- Two tiles of consecutive rows, one above the other. -/
theorem cat_rows (S : ℕ → ℕ → ℂ) (a : ℕ) (x y : P) (hx : x = fun i => S (a + (i 0).val) (i 1).val)
    (hy : y = fun i => S (a + 8 + (i 0).val) (i 1).val) : cat x y = fun i => S (a + (i 0).val) (i 1).val := by
  subst hx hy
  funext i
  unfold cat
  split
  · rfl
  · rename_i h
    show S (a + 8 + ((i 0).val - 8)) (i 1).val = S (a + (i 0).val) (i 1).val
    congr 1
    omega

theorem rowNo_zero (r : Fin 16) (j : Fin 128) :
    (cmpi .eq rowNo (broadcast S16x128 0#32)) (ValueIdx.ix2 r j) = if r.val = 0 then 1#1 else 0#1 := by
  show Scalar.cmpi .eq (rowNo (ValueIdx.ix2 r j)) 0#32 = _
  rw [show rowNo (ValueIdx.ix2 r j) = BitVec.ofNat 32 r.val from iota_single_apply .tc S16x128 32 0 _ _]
  revert r
  decide

/-- The rows one before a block's. -/
theorem before_rows (Z : ℕ → ℕ → ℂ) (a a' : ℕ) (b : BitVec 1) (h : (b = 1#1 ∧ a = a' + 16) ∨ (b = 0#1 ∧ a = 0)) :
    before b (rows Z a) (rows Z a') = fun i => prev Z (a + (i 0).val) (i 1).val := by
  funext i
  obtain ⟨r, j, rfl⟩ : ∃ (r : Fin 16) (j : Fin 128), i = ValueIdx.ix2 r j := ⟨i 0, i 1, ValueIdx.eq_ix2 i⟩
  show _ = prev Z (a + r.val) j.val
  unfold before
  show Scalar.select ((cmpi .eq rowNo (broadcast S16x128 0#32)) (ValueIdx.ix2 r j)) _ _ = _
  rw [rowNo_zero]
  by_cases hr : r.val = 0
  · rw [if_pos hr, hr]
    rw [ValueIdx.select_one]
    rcases h with ⟨rfl, rfl⟩ | ⟨rfl, rfl⟩
    · rw [ValueIdx.select_one, shapeCast_self]
      have e : prev Z (a' + 16 + 0) j.val = Z (a' + 15) j.val := by unfold prev; rw [if_neg (by omega)]; rfl
      rw [e]
      refine Eq.trans ?_ (ValueIdx.shapeCast_1ab_ab_apply (rows Z a') shapeCasts_S1x16x128_S16x128 (15 : Fin 16) j)
      unfold broadcastTo extractStridedSlice
      congr 1
      funext b
      match b with
      | ⟨0, _⟩ => rfl
      | ⟨1, _⟩ => exact Fin.ext (Nat.zero_add _)
    · rw [ValueIdx.select_zero]
      unfold prev
      rfl
  · rw [if_neg hr]
    rw [ValueIdx.select_zero]
    have e : prev Z (a + r.val) j.val = Z (a + (r.val - 1)) j.val := by
      unfold prev; rw [if_neg (by omega), Nat.add_sub_assoc (by omega)]
    rw [e]
    refine Eq.trans ?_ (ValueIdx.shapeCast_1ab_ab_apply (rows Z a) shapeCasts_S1x16x128_S16x128 (⟨r.val - 1, by omega⟩ : Fin 16) j)
    unfold dynamicRotate
    dsimp only
    congr 1
    funext b
    match b with
    | ⟨0, _⟩ =>
      apply Fin.ext
      show (r.val + 16 - 1) % 16 = r.val - 1
      have := r.isLt
      omega
    | ⟨1, _⟩ => rfl

theorem add16_rows (e : P) (S : ℕ → ℕ → ℂ) (a : ℕ) (i : S8x128.Idx) :
    add16 e (fun i => S (a + (i 0).val) (i 1).val) i = e i + S (a + (i 0).val) (i 1).val + S (a + 8 + (i 0).val) (i 1).val := by
  obtain ⟨r, j, rfl⟩ : ∃ (r : Fin 8) (j : Fin 128), i = ValueIdx.ix2 r j := ⟨i 0, i 1, ValueIdx.eq_ix2 i⟩
  unfold add16
  rw [Pi.add_apply, Pi.add_apply, ValueIdx.slice2_axis0_apply 0 _ _ r j (⟨r.val, by omega⟩ : Fin 16) (Nat.zero_add _).symm,
    ValueIdx.slice2_axis0_apply 8 _ _ r j (⟨8 + r.val, by omega⟩ : Fin 16) rfl]
  show _ + S (a + r.val) j.val + S (a + (8 + r.val)) j.val = _ + S (a + r.val) j.val + S (a + 8 + r.val) j.val
  rw [Nat.add_assoc a 8]

/-- Two more tiles' products. -/
theorem dsum_add (mu : ℕ → ℂ) (G Z : ℕ → ℕ → ℂ) (m a : ℕ) (h : a + 8 * m + 16 = 4096) :
    add16 (dsum mu G Z m) (fun i => prd mu G Z (a + (i 0).val) (i 1).val) = dsum mu G Z (m + 2) := by
  funext i
  rw [add16_rows (dsum mu G Z m) (prd mu G Z)]
  unfold dsum
  rw [Finset.sum_range_succ, Finset.sum_range_succ, show 4088 - 8 * m = a + 8 by omega, show 4088 - 8 * (m + 1) = a by omega]
  ring

section Loop
variable (𝒱 : Variants) (c : Dev nD) (bd : Option 𝒱.V) (i : grid2.Coords) (arg2 : Memref sig .tc .vmem S8x8x128 .f32) (harg2 : arg2.IsWhole)
  (arg3 : Memref sig .tc .vmem S2x4096x128 .bf16) (harg3 : arg3.IsWhole) (arg4 : Memref sig .tc .vmem S2x4096x128 .bf16) (harg4 : arg4.IsWhole)
  (arg5 : Memref sig .tc .vmem S2x4096x128 .bf16) (harg5 : arg5.IsWhole) (arg6 : Memref sig .tc .vmem S2x8x128 .f32) (harg6 : arg6.IsWhole)
  (v0 v2 v4 v6 v8 v10 v12 v14 : Vec Ideal S1x8x128 .f32) (X : BufTy.Contents (Elt Ideal) arg3.view.ty) (Y : BufTy.Contents (Elt Ideal) arg4.view.ty)
  (mu : ℕ → ℂ) (G Z : ℕ → ℕ → ℂ)

/-- Before trip `k` the loop carries the state of row `4096 - 32 k` and the products' sums over the rows from there on, and every
    store made is a block of the states. -/
theorem loopR (h1 : k2_pay99 v0 = RE (m1R mu)) (h2 : k2_pay100 v2 = IM (m1R mu)) (h3 : k2_pay101 v4 = RE (m2R mu)) (h4 : k2_pay102 v6 = IM (m2R mu))
    (h5 : k2_pay103 v8 = RE (m4R mu)) (h6 : k2_pay104 v10 = IM (m4R mu)) (h7 : k2_pay105 v12 = RE (pwR mu)) (h8 : k2_pay106 v14 = IM (pwR mu))
    (hX : arg3.view.read (Elt Ideal) X = planes G) (hY : arg4.view.read (Elt Ideal) Y = planes Z) :
    ∀ k ≤ 128,
    (st_k2_t1 (F := Ideal) 𝒱 c bd i arg2 harg2 arg3 harg3 arg4 harg4 arg5 harg5 arg6 harg6 v0 v2 v4 v6 v8 v10 v12 v14 rowNo X Y (k2_pay107, k2_pay107, k2_pay107, k2_pay107) k).1
        = (RE (carR mu G (32 * k)), IM (carR mu G (32 * k)), RE (dsum mu G Z (4 * k)), IM (dsum mu G Z (4 * k)))
      ∧ ∀ p ∈ (st_k2_t1 (F := Ideal) 𝒱 c bd i arg2 harg2 arg3 harg3 arg4 harg4 arg5 harg5 arg6 harg6 v0 v2 v4 v6 v8 v10 v12 v14 rowNo X Y (k2_pay107, k2_pay107, k2_pay107, k2_pay107) k).2,
          ∀ x, p.2 x = planes (n := 4096) (m := 128) (adj mu G) (p.1.emb x) := by
  intro k
  induction k with
  | zero =>
    intro _
    refine ⟨?_, by intro p hp; exact absurd hp List.not_mem_nil⟩
    rw [st_k2_t1_zero]
    have e0 : (k2_pay107 : FVec Ideal S8x128 .f32) = RE 0 := zero_re
    have e1 : (k2_pay107 : FVec Ideal S8x128 .f32) = IM 0 := zero_im
    refine Prod.ext e0 (Prod.ext e1 (Prod.ext e0 e1))
  | succ k ih =>
    intro hk
    obtain ⟨ihc, ihp⟩ := ih (Nat.le_of_succ_le hk)
    have hk' : k < k2_t1_loop.trips := by rw [trips2]; exact hk
    have hLX := loadsX G arg3 X hX ⟨k, hk'⟩
    have hLS := loadsS Z arg4 Y hY ⟨k, hk'⟩
    rw [st_k2_t1_succ 𝒱 c bd i arg2 harg2 arg3 harg3 arg4 harg4 arg5 harg5 arg6 harg6 v0 v2 v4 v6 v8 v10 v12 v14 rowNo X Y (k2_pay107, k2_pay107, k2_pay107, k2_pay107) ⟨k, hk'⟩]
    dsimp only
    rw [ihc, trip_carryR 𝒱 c bd i arg2 harg2 arg3 harg3 arg4 harg4 arg5 harg5 arg6 harg6 v0 v2 v4 v6 v8 v10 v12 v14 X Y ⟨k, hk'⟩ _ _ _ _ _ _ _ _ _ _ _ _ h1 h2 h3 h4 h5 h6 h7 h8 hLX hLS,
      trip_storeR 𝒱 c bd i arg2 harg2 arg3 harg3 arg4 harg4 arg5 harg5 arg6 harg6 v0 v2 v4 v6 v8 v10 v12 v14 X Y ⟨k, hk'⟩ _ _ _ _ _ _ _ _ _ _ _ _ h1 h2 h3 h4 h5 h6 h7 h8 hLX hLS]
    dsimp only
    rw [lo_rows, lo_rows, hi_rows, hi_rows]
    have a1 : 32 * k + (4080 - 32 * k + 8) + 8 = 4096 := by omega
    have a2 : (32 * k + 8) + (4080 - 32 * k) + 8 = 4096 := by omega
    have a3 : (32 * k + 8 + 8) + (4064 - 32 * k + 8) + 8 = 4096 := by omega
    have a4 : (32 * k + 8 + 8 + 8) + (4064 - 32 * k) + 8 = 4096 := by omega
    rw [nxtR_eq mu G _ _ a1, nxtR_eq mu G _ _ a2, nxtR_eq mu G _ _ a3, nxtR_eq mu G _ _ a4]
    have hA := pair_rows (adj mu G) (4080 - 32 * k) _ _ (tileR mu G _ _ a2) (tileR mu G _ _ a1)
    have hB := pair_rows (adj mu G) (4064 - 32 * k) _ _ (tileR mu G _ _ a4) (tileR mu G _ _ a3)
    have cA := cat_rows (adj mu G) (4080 - 32 * k) _ _ (tileR mu G _ _ a2) (tileR mu G _ _ a1)
    have cB := cat_rows (adj mu G) (4064 - 32 * k) _ _ (tileR mu G _ _ a4) (tileR mu G _ _ a3)
    have bA := before_rows Z (4080 - 32 * k) (4064 - 32 * k) 1#1 (Or.inl ⟨rfl, by omega⟩)
    have bB := before_rows Z (4064 - 32 * k) (4048 - 32 * k) (more ⟨k, hk'⟩ 1#32) (by
      rw [more_second]
      by_cases h : k = 127
      · exact Or.inr ⟨if_pos h, by omega⟩
      · exact Or.inl ⟨if_neg h, by omega⟩)
    rw [cA, cB, bA, bB]
    have dA := dsum_add mu G Z (4 * k) (4080 - 32 * k) (by omega)
    have dB := dsum_add mu G Z (4 * k + 2) (4064 - 32 * k) (by omega)
    have dAB : add16 (add16 (dsum mu G Z (4 * k)) (conj (fun i => prev Z (4080 - 32 * k + (i 0).val) (i 1).val) * fun i => adj mu G (4080 - 32 * k + (i 0).val) (i 1).val))
        (conj (fun i => prev Z (4064 - 32 * k + (i 0).val) (i 1).val) * fun i => adj mu G (4064 - 32 * k + (i 0).val) (i 1).val)
        = dsum mu G Z (4 * (k + 1)) := (congrArg (fun e => add16 e _) dA).trans dB
    rw [dAB]
    refine ⟨by rw [show 32 * k + 8 + 8 + 8 + 8 = 32 * (k + 1) by omega], ?_⟩
    intro p hp x
    rcases List.mem_append.1 hp with hp | hp
    · simp only [List.mem_cons, List.not_mem_nil, or_false] at hp
      rcases hp with rfl | rfl | rfl | rfl
      · exact (congrFun (congrArg IM hB) x).trans (planes_im _ _ (off2R_1 ⟨k, hk'⟩) (k2_off2_inb ⟨k, hk'⟩ 1) x).symm
      · exact (congrFun (congrArg RE hB) x).trans (planes_re _ _ (off1R_1 ⟨k, hk'⟩) (k2_off1_inb ⟨k, hk'⟩ 1) x).symm
      · exact (congrFun (congrArg IM hA) x).trans (planes_im _ _ (off2R_0 ⟨k, hk'⟩) (k2_off2_inb ⟨k, hk'⟩ 0) x).symm
      · exact (congrFun (congrArg RE hA) x).trans (planes_re _ _ (off1R_0 ⟨k, hk'⟩) (k2_off1_inb ⟨k, hk'⟩ 0) x).symm
    · exact ihp p hp x

end Loop

end Cert.KernelIdeal.Own
end
-- ==== Proof.ScanRevOut.lean ====
/-
  The blocks that the reverse scan's kernel leaves at a point of its grid: the states, and the running sums for the gradient of the
  multiplier, which a block of lanes starts from nothing at its first sequence and goes on with at the next.
-/
module

public import proofs.«01_k».proof.Proof.ScanRevBlock
public import Idealize.ShloMosaic.Lib.Pipeline.ReadBack

@[expose] public section

set_option maxRecDepth 16384

noncomputable section

namespace Cert.KernelIdeal.Own

open Cert.KernelIdeal Cert.KernelIdeal.Gen
open Idealize.ShloMosaic Idealize.ShloMosaic.TcCoe Cert.Cx

/-- The planes of the reverse scan's coefficient block: three pairs of masked multiples and the pair of powers. -/
structure CoefR (mu : ℕ → ℂ) (x0 : Vec Ideal S8x8x128 .f32) : Prop where
  a0 : ∀ (r : Fin 8) (j : Fin 128), x0 (ValueIdx.ix3 0 r j) = RE (m1R mu) (ValueIdx.ix2 r j)
  a1 : ∀ (r : Fin 8) (j : Fin 128), x0 (ValueIdx.ix3 1 r j) = IM (m1R mu) (ValueIdx.ix2 r j)
  a2 : ∀ (r : Fin 8) (j : Fin 128), x0 (ValueIdx.ix3 2 r j) = RE (m2R mu) (ValueIdx.ix2 r j)
  a3 : ∀ (r : Fin 8) (j : Fin 128), x0 (ValueIdx.ix3 3 r j) = IM (m2R mu) (ValueIdx.ix2 r j)
  a4 : ∀ (r : Fin 8) (j : Fin 128), x0 (ValueIdx.ix3 4 r j) = RE (m4R mu) (ValueIdx.ix2 r j)
  a5 : ∀ (r : Fin 8) (j : Fin 128), x0 (ValueIdx.ix3 5 r j) = IM (m4R mu) (ValueIdx.ix2 r j)
  a6 : ∀ (r : Fin 8) (j : Fin 128), x0 (ValueIdx.ix3 6 r j) = RE (pwR mu) (ValueIdx.ix2 r j)
  a7 : ∀ (r : Fin 8) (j : Fin 128), x0 (ValueIdx.ix3 7 r j) = IM (pwR mu) (ValueIdx.ix2 r j)

/-- The products' sum over a sequence, in row `r` of the eight running sums. -/
def dS (mu : ℕ → ℂ) (G Z : ℕ → ℕ → ℂ) (r j : ℕ) : ℂ := ∑ n ∈ Finset.range 512, prd mu G Z (4088 - 8 * n + r) j

/-- The loop's end, at the loads of a point's blocks. -/
theorem loopR_at (c : Dev nD) (i : grid2.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (arg5 : Memref sig .tc .vmem S2x4096x128 .bf16) (harg5 : arg5.IsWhole) (arg6 : Memref sig .tc .vmem S2x8x128 .f32) (harg6 : arg6.IsWhole)
    (x0 : Vec Ideal S8x8x128 .f32) (x1 x2 : Vec Ideal S2x4096x128 .bf16) (mu : ℕ → ℂ) (G Z : ℕ → ℕ → ℂ)
    (h0 : CoefR mu x0) (h1 : x1 = planes G) (h2 : x2 = planes Z) :
    let s := st_k2_t1 (F := Ideal) Variants.none c none i arg2 harg2 arg3 harg3 arg4 harg4 arg5 harg5 arg6 harg6
      (View.readAt (Elt Ideal) arg2.view (Rect.unit (s := S8x8x128) ![0, 0, 0] S1x8x128.size inb_S8x8x128_S1x8x128_0_0_0).toLoadRect (harg2.unread x0)) (View.readAt (Elt Ideal) arg2.view (Rect.unit (s := S8x8x128) ![1, 0, 0] S1x8x128.size inb_S8x8x128_S1x8x128_1_0_0).toLoadRect (harg2.unread x0)) (View.readAt (Elt Ideal) arg2.view (Rect.unit (s := S8x8x128) ![2, 0, 0] S1x8x128.size inb_S8x8x128_S1x8x128_2_0_0).toLoadRect (harg2.unread x0)) (View.readAt (Elt Ideal) arg2.view (Rect.unit (s := S8x8x128) ![3, 0, 0] S1x8x128.size inb_S8x8x128_S1x8x128_3_0_0).toLoadRect (harg2.unread x0)) (View.readAt (Elt Ideal) arg2.view (Rect.unit (s := S8x8x128) ![4, 0, 0] S1x8x128.size inb_S8x8x128_S1x8x128_4_0_0).toLoadRect (harg2.unread x0)) (View.readAt (Elt Ideal) arg2.view (Rect.unit (s := S8x8x128) ![5, 0, 0] S1x8x128.size inb_S8x8x128_S1x8x128_5_0_0).toLoadRect (harg2.unread x0)) (View.readAt (Elt Ideal) arg2.view (Rect.unit (s := S8x8x128) ![6, 0, 0] S1x8x128.size inb_S8x8x128_S1x8x128_6_0_0).toLoadRect (harg2.unread x0)) (View.readAt (Elt Ideal) arg2.view (Rect.unit (s := S8x8x128) ![7, 0, 0] S1x8x128.size inb_S8x8x128_S1x8x128_7_0_0).toLoadRect (harg2.unread x0))
      rowNo (harg3.unread x1) (harg4.unread x2) (k2_pay107, k2_pay107, k2_pay107, k2_pay107) 128
    s.1.2.2.1 = RE (fun i : S8x128.Idx => dS mu G Z (i 0).val (i 1).val) ∧ s.1.2.2.2 = IM (fun i : S8x128.Idx => dS mu G Z (i 0).val (i 1).val)
      ∧ ∀ p ∈ s.2, ∀ x, p.2 x = planes (n := 4096) (m := 128) (adj mu G) (p.1.emb x) := by
  have hl := loopR Variants.none c none i arg2 harg2 arg3 harg3 arg4 harg4 arg5 harg5 arg6 harg6
      (View.readAt (Elt Ideal) arg2.view (Rect.unit (s := S8x8x128) ![0, 0, 0] S1x8x128.size inb_S8x8x128_S1x8x128_0_0_0).toLoadRect (harg2.unread x0)) (View.readAt (Elt Ideal) arg2.view (Rect.unit (s := S8x8x128) ![1, 0, 0] S1x8x128.size inb_S8x8x128_S1x8x128_1_0_0).toLoadRect (harg2.unread x0)) (View.readAt (Elt Ideal) arg2.view (Rect.unit (s := S8x8x128) ![2, 0, 0] S1x8x128.size inb_S8x8x128_S1x8x128_2_0_0).toLoadRect (harg2.unread x0)) (View.readAt (Elt Ideal) arg2.view (Rect.unit (s := S8x8x128) ![3, 0, 0] S1x8x128.size inb_S8x8x128_S1x8x128_3_0_0).toLoadRect (harg2.unread x0)) (View.readAt (Elt Ideal) arg2.view (Rect.unit (s := S8x8x128) ![4, 0, 0] S1x8x128.size inb_S8x8x128_S1x8x128_4_0_0).toLoadRect (harg2.unread x0)) (View.readAt (Elt Ideal) arg2.view (Rect.unit (s := S8x8x128) ![5, 0, 0] S1x8x128.size inb_S8x8x128_S1x8x128_5_0_0).toLoadRect (harg2.unread x0)) (View.readAt (Elt Ideal) arg2.view (Rect.unit (s := S8x8x128) ![6, 0, 0] S1x8x128.size inb_S8x8x128_S1x8x128_6_0_0).toLoadRect (harg2.unread x0)) (View.readAt (Elt Ideal) arg2.view (Rect.unit (s := S8x8x128) ![7, 0, 0] S1x8x128.size inb_S8x8x128_S1x8x128_7_0_0).toLoadRect (harg2.unread x0))
      (harg3.unread x1) (harg4.unread x2) mu G Z ?_ ?_ ?_ ?_ ?_ ?_ ?_ ?_ ?_ ?_ 128 le_rfl
  · exact ⟨congrArg (fun z => z.2.2.1) hl.1, congrArg (fun z => z.2.2.2) hl.1, hl.2⟩
  · rw [View.readAt_eq_ld, harg2.read_unread]; exact plane_cast x0 0 _ h0.a0 _ rfl _ _
  · rw [View.readAt_eq_ld, harg2.read_unread]; exact plane_cast x0 1 _ h0.a1 _ rfl _ _
  · rw [View.readAt_eq_ld, harg2.read_unread]; exact plane_cast x0 2 _ h0.a2 _ rfl _ _
  · rw [View.readAt_eq_ld, harg2.read_unread]; exact plane_cast x0 3 _ h0.a3 _ rfl _ _
  · rw [View.readAt_eq_ld, harg2.read_unread]; exact plane_cast x0 4 _ h0.a4 _ rfl _ _
  · rw [View.readAt_eq_ld, harg2.read_unread]; exact plane_cast x0 5 _ h0.a5 _ rfl _ _
  · rw [View.readAt_eq_ld, harg2.read_unread]; exact plane_cast x0 6 _ h0.a6 _ rfl _ _
  · rw [View.readAt_eq_ld, harg2.read_unread]; exact plane_cast x0 7 _ h0.a7 _ rfl _ _
  · rw [harg3.read_unread]; exact h1
  · rw [harg4.read_unread]; exact h2

theorem sum_re (S D : ℕ → ℕ → ℂ) (v : Vec Ideal S1x8x128 .f32) {off : Fin S2x8x128.rank → ℕ} (hoff : off = ![0, 0, 0])
    (inb : ∀ a, off a + (![1, 8, 128] : Fin S2x8x128.rank → ℕ) a ≤ S2x8x128.size a)
    (hv : v = fun x => planes (n := 8) (m := 128) D ((Rect.unit (s := S2x8x128) off ![1, 8, 128] inb).emb x)) (x : S1x8x128.Idx) :
    k2_pay2 (F := Ideal) (RE fun i : S8x128.Idx => S (i 0).val (i 1).val) v x
      = planes (n := 8) (m := 128) (fun r j => D r j + S r j) ((Rect.unit (s := S2x8x128) off ![1, 8, 128] inb).emb x) := by
  subst hoff hv
  obtain ⟨u, r, j, rfl⟩ : ∃ (u : Fin 1) (r : Fin 8) (j : Fin 128), x = ValueIdx.ix3 u r j := ⟨x 0, x 1, x 2, ValueIdx.eq_ix3 x⟩
  obtain rfl : u = 0 := Subsingleton.elim _ _
  have e (T : ℕ → ℕ → ℂ) : planes (n := 8) (m := 128) T ((Rect.unit (s := S2x8x128) ![0, 0, 0] ![1, 8, 128] inb).emb (ValueIdx.ix3 (0 : Fin 1) r j)) = ((T r.val j.val).re : EReal) := by
    have e0 : ((Rect.unit (s := S2x8x128) ![0, 0, 0] ![1, 8, 128] inb).emb (ValueIdx.ix3 (0 : Fin 1) r j) 0).val = 0 := rfl
    have e1 : ((Rect.unit (s := S2x8x128) ![0, 0, 0] ![1, 8, 128] inb).emb (ValueIdx.ix3 (0 : Fin 1) r j) 1).val = r.val := by
      show 0 + 1 * r.val = _; rw [Nat.one_mul, Nat.zero_add]
    have e2 : ((Rect.unit (s := S2x8x128) ![0, 0, 0] ![1, 8, 128] inb).emb (ValueIdx.ix3 (0 : Fin 1) r j) 2).val = j.val := by
      show 0 + 1 * j.val = _; rw [Nat.one_mul, Nat.zero_add]
    unfold planes
    rw [e0, e1, e2]
    exact if_pos rfl
  rw [e]
  unfold k2_pay2
  refine (ValueIdx.shapeCast_ab_1ab_apply _ _ _ _ _).trans ?_
  rw [ValueIdx.addf_apply, ValueIdx.shapeCast_1ab_ab_apply]
  refine (congrArg (· + _) (e D)).trans ?_
  rw [Complex.add_re, EReal.coe_add]
  rfl

theorem sum_im (S D : ℕ → ℕ → ℂ) (v : Vec Ideal S1x8x128 .f32) {off : Fin S2x8x128.rank → ℕ} (hoff : off = ![1, 0, 0])
    (inb : ∀ a, off a + (![1, 8, 128] : Fin S2x8x128.rank → ℕ) a ≤ S2x8x128.size a)
    (hv : v = fun x => planes (n := 8) (m := 128) D ((Rect.unit (s := S2x8x128) off ![1, 8, 128] inb).emb x)) (x : S1x8x128.Idx) :
    k2_pay3 (F := Ideal) (IM fun i : S8x128.Idx => S (i 0).val (i 1).val) v x
      = planes (n := 8) (m := 128) (fun r j => D r j + S r j) ((Rect.unit (s := S2x8x128) off ![1, 8, 128] inb).emb x) := by
  subst hoff hv
  obtain ⟨u, r, j, rfl⟩ : ∃ (u : Fin 1) (r : Fin 8) (j : Fin 128), x = ValueIdx.ix3 u r j := ⟨x 0, x 1, x 2, ValueIdx.eq_ix3 x⟩
  obtain rfl : u = 0 := Subsingleton.elim _ _
  have e (T : ℕ → ℕ → ℂ) : planes (n := 8) (m := 128) T ((Rect.unit (s := S2x8x128) ![1, 0, 0] ![1, 8, 128] inb).emb (ValueIdx.ix3 (0 : Fin 1) r j)) = ((T r.val j.val).im : EReal) := by
    have e0 : ((Rect.unit (s := S2x8x128) ![1, 0, 0] ![1, 8, 128] inb).emb (ValueIdx.ix3 (0 : Fin 1) r j) 0).val = 1 := rfl
    have e1 : ((Rect.unit (s := S2x8x128) ![1, 0, 0] ![1, 8, 128] inb).emb (ValueIdx.ix3 (0 : Fin 1) r j) 1).val = r.val := by
      show 0 + 1 * r.val = _; rw [Nat.one_mul, Nat.zero_add]
    have e2 : ((Rect.unit (s := S2x8x128) ![1, 0, 0] ![1, 8, 128] inb).emb (ValueIdx.ix3 (0 : Fin 1) r j) 2).val = j.val := by
      show 0 + 1 * j.val = _; rw [Nat.one_mul, Nat.zero_add]
    unfold planes
    rw [e0, e1, e2]
    exact if_neg one_ne_zero
  rw [e]
  unfold k2_pay3
  refine (ValueIdx.shapeCast_ab_1ab_apply _ _ _ _ _).trans ?_
  rw [ValueIdx.addf_apply, ValueIdx.shapeCast_1ab_ab_apply]
  refine (congrArg (· + _) (e D)).trans ?_
  rw [Complex.add_im, EReal.coe_add]
  rfl

theorem pay2_planes (S D : ℕ → ℕ → ℂ) (v : Vec Ideal S1x8x128 .f32)
    (hv : v = fun x => planes (n := 8) (m := 128) D ((Rect.unit (s := S2x8x128) ![0, 0, 0] ![1, 8, 128] inb_S2x8x128_S1x8x128_0_0_0).emb x)) (x : S1x8x128.Idx) :
    k2_pay2 (F := Ideal) (RE fun i : S8x128.Idx => S (i 0).val (i 1).val) v x
      = planes (n := 8) (m := 128) (fun r j => D r j + S r j) ((Rect.unit (s := S2x8x128) ![0, 0, 0] ![1, 8, 128] inb_S2x8x128_S1x8x128_0_0_0).emb x) :=
  sum_re S D v rfl _ hv x
theorem pay3_planes (S D : ℕ → ℕ → ℂ) (v : Vec Ideal S1x8x128 .f32)
    (hv : v = fun x => planes (n := 8) (m := 128) D ((Rect.unit (s := S2x8x128) ![1, 0, 0] ![1, 8, 128] inb_S2x8x128_S1x8x128_1_0_0).emb x)) (x : S1x8x128.Idx) :
    k2_pay3 (F := Ideal) (IM fun i : S8x128.Idx => S (i 0).val (i 1).val) v x
      = planes (n := 8) (m := 128) (fun r j => D r j + S r j) ((Rect.unit (s := S2x8x128) ![1, 0, 0] ![1, 8, 128] inb_S2x8x128_S1x8x128_1_0_0).emb x) :=
  sum_im S D v rfl _ hv x

/-- The two planes make up the block. -/
theorem two_planes (y : S2x8x128.Idx) (w0 w1 : S1x8x128.Idx → Elt Ideal .f32) :
    ∃ p ∈ ([⟨Rect.unit (s := S2x8x128) ![1, 0, 0] ![1, 8, 128] inb_S2x8x128_S1x8x128_1_0_0, w1⟩,
      ⟨Rect.unit (s := S2x8x128) ![0, 0, 0] ![1, 8, 128] inb_S2x8x128_S1x8x128_0_0_0, w0⟩] : List (View.Piece (Elt Ideal) S2x8x128 .f32)), y ∈ p.1.set := by
  exact View.cover_of_tiledBy _ ![1, 8, 128] (by sl_kernel_rfl) y

theorem zero_planes : (k2_pay1 : FVec Ideal S2x8x128 .f32) = planes (n := 8) (m := 128) (fun _ _ => 0) := by
  funext i
  unfold planes
  show Ideal.ofBits .f32 0x00000000#32 = if _ then ((0 : ℝ) : EReal) else ((0 : ℝ) : EReal)
  rw [ite_self]
  simp [Ideal.ofBits, Ideal.ieee]

/-- The block of states, at a point of the grid that starts a block of lanes. -/
theorem blockR_A3 (c : Dev nD) (i : grid2.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (arg5 : Memref sig .tc .vmem S2x4096x128 .bf16) (harg5 : arg5.IsWhole) (arg6 : Memref sig .tc .vmem S2x8x128 .f32) (harg6 : arg6.IsWhole)
    (hc0 : cond2_0 i) (x0 : Vec Ideal S8x8x128 .f32) (x1 x2 : Vec Ideal S2x4096x128 .bf16) (mu : ℕ → ℂ) (G Z : ℕ → ℕ → ℂ)
    (h0 : CoefR mu x0) (h1 : x1 = planes G) (h2 : x2 = planes Z) :
    out2_A_3 (F := Ideal) c i arg2 harg2 arg3 harg3 arg4 harg4 arg5 harg5 arg6 harg6 hc0 x0 x1 x2 = planes (adj mu G) := by
  unfold out2_A_3
  rw [View.read_writes_eq_canon _ _ _ (cover2_A_3 c i arg2 harg2 arg3 harg3 arg4 harg4 arg5 harg5 arg6 harg6 hc0 x0 x1 x2)]
  funext y
  have hc := cover2_A_3 c i arg2 harg2 arg3 harg3 arg4 harg4 arg5 harg5 arg6 harg6 hc0 x0 x1 x2 y
  rw [← List.append_nil (kernelRun2_A c i arg2 harg2 arg3 harg3 arg4 harg4 arg5 harg5 arg6 harg6 hc0 x0 x1 x2).1]
  refine View.canon_append_of_pieces _ [] _ ?_ y hc
  unfold kernelRun2_A
  dsimp only
  sl_unfold_words
  exact (loopR_at c i arg2 harg2 arg3 harg3 arg4 harg4 arg5 harg5 arg6 harg6 x0 x1 x2 mu G Z h0 h1 h2).2.2

/-- The block of states, at a point of the grid that goes on with a block of lanes. -/
theorem blockR_B3 (c : Dev nD) (i : grid2.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (arg5 : Memref sig .tc .vmem S2x4096x128 .bf16) (harg5 : arg5.IsWhole) (arg6 : Memref sig .tc .vmem S2x8x128 .f32) (harg6 : arg6.IsWhole)
    (hc0 : ¬cond2_0 i) (x0 : Vec Ideal S8x8x128 .f32) (x1 x2 : Vec Ideal S2x4096x128 .bf16) (x4 : Vec Ideal S2x8x128 .f32) (mu : ℕ → ℂ) (G Z : ℕ → ℕ → ℂ)
    (h0 : CoefR mu x0) (h1 : x1 = planes G) (h2 : x2 = planes Z) :
    out2_B_3 (F := Ideal) c i arg2 harg2 arg3 harg3 arg4 harg4 arg5 harg5 arg6 harg6 hc0 x0 x1 x2 x4 = planes (adj mu G) := by
  unfold out2_B_3
  rw [View.read_writes_eq_canon _ _ _ (cover2_B_3 c i arg2 harg2 arg3 harg3 arg4 harg4 arg5 harg5 arg6 harg6 hc0 x0 x1 x2 x4)]
  funext y
  have hc := cover2_B_3 c i arg2 harg2 arg3 harg3 arg4 harg4 arg5 harg5 arg6 harg6 hc0 x0 x1 x2 x4 y
  rw [← List.append_nil (kernelRun2_B c i arg2 harg2 arg3 harg3 arg4 harg4 arg5 harg5 arg6 harg6 hc0 x0 x1 x2 x4).1]
  refine View.canon_append_of_pieces _ [] _ ?_ y hc
  unfold kernelRun2_B
  dsimp only
  sl_unfold_words
  exact (loopR_at c i arg2 harg2 arg3 harg3 arg4 harg4 arg5 harg5 arg6 harg6 x0 x1 x2 mu G Z h0 h1 h2).2.2

/-- The block of sums, at a point of the grid that starts a block of lanes. -/
theorem blockR_A4 (c : Dev nD) (i : grid2.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (arg5 : Memref sig .tc .vmem S2x4096x128 .bf16) (harg5 : arg5.IsWhole) (arg6 : Memref sig .tc .vmem S2x8x128 .f32) (harg6 : arg6.IsWhole)
    (hc0 : cond2_0 i) (x0 : Vec Ideal S8x8x128 .f32) (x1 x2 : Vec Ideal S2x4096x128 .bf16) (mu : ℕ → ℂ) (G Z : ℕ → ℕ → ℂ)
    (h0 : CoefR mu x0) (h1 : x1 = planes G) (h2 : x2 = planes Z) :
    out2_A_4 (F := Ideal) c i arg2 harg2 arg3 harg3 arg4 harg4 arg5 harg5 arg6 harg6 hc0 x0 x1 x2 = planes (fun r j => (fun _ _ => (0 : ℂ)) r j + dS mu G Z r j) := by
  have hl := loopR_at c i arg2 harg2 arg3 harg3 arg4 harg4 arg5 harg5 arg6 harg6 x0 x1 x2 mu G Z h0 h1 h2
  unfold out2_A_4
  rw [View.read_writes_eq_canon _ _ _ (cover2_A_4 c i arg2 harg2 arg3 harg3 arg4 harg4 arg5 harg5 arg6 harg6 hc0 x0 x1 x2)]
  unfold kernelRun2_A
  dsimp only
  sl_unfold_words
  funext y
  refine View.canon_append_of_pieces _ [_] [_, _] ?_ y ?_
  · intro p hp x
    simp only [List.mem_cons, List.not_mem_nil, or_false] at hp
    rcases hp with rfl | rfl
    · refine (congrFun (congrArg (fun z => k2_pay3 z _) hl.2.1) x).trans (pay3_planes (dS mu G Z) (fun _ _ => (0 : ℂ)) _ ?_ x)
      refine (View.readCov_skip _ _ _ _ _ (by decide)).trans ((View.readCov_fill _ _ _ _ _ (by decide)).trans ?_); rw [zero_planes]; rfl
    · refine (congrFun (congrArg (fun z => k2_pay2 z _) hl.1) x).trans (pay2_planes (dS mu G Z) (fun _ _ => (0 : ℂ)) _ ?_ x)
      refine (View.readCov_fill _ _ _ _ _ (by decide)).trans ?_; rw [zero_planes]; rfl
  · exact two_planes y _ _

/-- The block of sums, at a point of the grid that goes on with a block of lanes. -/
theorem blockR_B4 (c : Dev nD) (i : grid2.Coords) (arg2 : Memref sig .tc .vmem S8x8x128 .f32) (harg2 : arg2.IsWhole)
    (arg3 : Memref sig .tc .vmem S2x4096x128 .bf16) (harg3 : arg3.IsWhole) (arg4 : Memref sig .tc .vmem S2x4096x128 .bf16) (harg4 : arg4.IsWhole)
    (arg5 : Memref sig .tc .vmem S2x4096x128 .bf16) (harg5 : arg5.IsWhole) (arg6 : Memref sig .tc .vmem S2x8x128 .f32) (harg6 : arg6.IsWhole)
    (hc0 : ¬cond2_0 i) (x0 : Vec Ideal S8x8x128 .f32) (x1 x2 : Vec Ideal S2x4096x128 .bf16) (x4 : Vec Ideal S2x8x128 .f32) (D : ℕ → ℕ → ℂ) (mu : ℕ → ℂ) (G Z : ℕ → ℕ → ℂ)
    (h0 : CoefR mu x0) (h1 : x1 = planes G) (h2 : x2 = planes Z) (h4 : x4 = planes D) :
    out2_B_4 (F := Ideal) c i arg2 harg2 arg3 harg3 arg4 harg4 arg5 harg5 arg6 harg6 hc0 x0 x1 x2 x4 = planes (fun r j => D r j + dS mu G Z r j) := by
  have hl := loopR_at c i arg2 harg2 arg3 harg3 arg4 harg4 arg5 harg5 arg6 harg6 x0 x1 x2 mu G Z h0 h1 h2
  unfold out2_B_4
  rw [View.read_writes_eq_canon _ _ _ (cover2_B_4 c i arg2 harg2 arg3 harg3 arg4 harg4 arg5 harg5 arg6 harg6 hc0 x0 x1 x2 x4)]
  unfold kernelRun2_B
  dsimp only
  sl_unfold_words
  funext y
  refine View.canon_append_of_pieces _ [] [_, _] ?_ y ?_
  · intro p hp x
    simp only [List.mem_cons, List.not_mem_nil, or_false] at hp
    rcases hp with rfl | rfl
    · refine (congrFun (congrArg (fun z => k2_pay3 z _) hl.2.1) x).trans (pay3_planes (dS mu G Z) D _ ?_ x)
      rw [View.readAt_eq_ld, harg6.read_unread, h4]; rfl
    · refine (congrFun (congrArg (fun z => k2_pay2 z _) hl.1) x).trans (pay2_planes (dS mu G Z) D _ ?_ x)
      rw [View.readAt_eq_ld, harg6.read_unread, h4]; rfl
  · exact two_planes y _ _

end Cert.KernelIdeal.Own
end
-- ==== Proof.ScanArr.lean ====
/-
  The arrays that the two scans leave. A point of either grid has a block of 128 lanes and one of the two sequences of 4096 rows; the
  blocks cover the arrays, so each array is known from its blocks.
-/
module

public import proofs.«01_k».proof.Proof.ScanRevOut
public import proofs.«01_k».proof.Proof.Gen.KernelIdeal.Frame
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.SL.Sem Cert.Cx
open Idealize.ShloMosaic.Pipeline (Dat)

/-- A coefficient array: real and imaginary planes of three tables of multiples and a table of powers, by row and lane. -/
structure Coefs {m : ℕ} (M1 M2 M4 PW : Fin 8 → ℕ → ℂ) (x : (⟨3, ![8, 8, m]⟩ : Shape).Idx → EReal) : Prop where
  a0 : ∀ (r : Fin 8) (j : Fin m), x (ValueIdx.ix3 0 r j) = ((M1 r j).re : EReal)
  a1 : ∀ (r : Fin 8) (j : Fin m), x (ValueIdx.ix3 1 r j) = ((M1 r j).im : EReal)
  a2 : ∀ (r : Fin 8) (j : Fin m), x (ValueIdx.ix3 2 r j) = ((M2 r j).re : EReal)
  a3 : ∀ (r : Fin 8) (j : Fin m), x (ValueIdx.ix3 3 r j) = ((M2 r j).im : EReal)
  a4 : ∀ (r : Fin 8) (j : Fin m), x (ValueIdx.ix3 4 r j) = ((M4 r j).re : EReal)
  a5 : ∀ (r : Fin 8) (j : Fin m), x (ValueIdx.ix3 5 r j) = ((M4 r j).im : EReal)
  a6 : ∀ (r : Fin 8) (j : Fin m), x (ValueIdx.ix3 6 r j) = ((PW r j).re : EReal)
  a7 : ∀ (r : Fin 8) (j : Fin m), x (ValueIdx.ix3 7 r j) = ((PW r j).im : EReal)

/-- A block of 128 lanes of a coefficient array is the coefficient array of those lanes. -/
theorem Coefs.lanes {M1 M2 M4 PW : Fin 8 → ℕ → ℂ} {x : S8x8x2048.Idx → EReal} (h : Coefs (m := 2048) M1 M2 M4 PW x)
    (o : ℕ) (ho : o + 128 ≤ 2048) (y : S8x8x128.Idx → EReal)
    (hy : ∀ (q r : Fin 8) (j : Fin 128), y (ValueIdx.ix3 q r j) = x (ValueIdx.ix3 q r ⟨o + j.val, by omega⟩)) :
    Coefs (m := 128) (fun r j => M1 r (o + j)) (fun r j => M2 r (o + j)) (fun r j => M4 r (o + j)) (fun r j => PW r (o + j)) y where
  a0 r j := (hy 0 r j).trans (h.a0 r _)
  a1 r j := (hy 1 r j).trans (h.a1 r _)
  a2 r j := (hy 2 r j).trans (h.a2 r _)
  a3 r j := (hy 3 r j).trans (h.a3 r _)
  a4 r j := (hy 4 r j).trans (h.a4 r _)
  a5 r j := (hy 5 r j).trans (h.a5 r _)
  a6 r j := (hy 6 r j).trans (h.a6 r _)
  a7 r j := (hy 7 r j).trans (h.a7 r _)

/-- The forward scan's coefficient array of the multipliers `lam`. -/
def CF {m : ℕ} (lam : ℕ → ℂ) (x : (⟨3, ![8, 8, m]⟩ : Shape).Idx → EReal) : Prop :=
  Coefs (fun r j => ScanMath.maskF (lam j) 1 r) (fun r j => ScanMath.maskF (lam j ^ 2) 2 r)
    (fun r j => ScanMath.maskF (lam j ^ 4) 4 r) (fun r j => lam j ^ (r.val + 1)) x

/-- The reverse scan's coefficient array of the multipliers `mu`. -/
def CR {m : ℕ} (mu : ℕ → ℂ) (x : (⟨3, ![8, 8, m]⟩ : Shape).Idx → EReal) : Prop :=
  Coefs (fun r j => ScanMath.maskR (mu j) 1 r) (fun r j => ScanMath.maskR (mu j ^ 2) 2 r)
    (fun r j => ScanMath.maskR (mu j ^ 4) 4 r) (fun r j => mu j ^ (8 - r.val)) x

theorem CF.block {lam : ℕ → ℂ} {x : Vec Ideal S8x8x128 .f32} (h : CF lam x) : CoefF lam x where
  a0 r j := h.a0 r j
  a1 r j := h.a1 r j
  a2 r j := h.a2 r j
  a3 r j := h.a3 r j
  a4 r j := h.a4 r j
  a5 r j := h.a5 r j
  a6 r j := h.a6 r j
  a7 r j := h.a7 r j

theorem CR.block {mu : ℕ → ℂ} {x : Vec Ideal S8x8x128 .f32} (h : CR mu x) : CoefR mu x where
  a0 r j := h.a0 r j
  a1 r j := h.a1 r j
  a2 r j := h.a2 r j
  a3 r j := h.a3 r j
  a4 r j := h.a4 r j
  a5 r j := h.a5 r j
  a6 r j := h.a6 r j
  a7 r j := h.a7 r j

/-- The states of both sequences, at row `R` and lane `J`. -/
def stW (lam : ℕ → ℂ) (U : ℕ → ℕ → ℂ) (R J : ℕ) : ℂ :=
  ScanMath.st (lam J) (fun t => U (4096 * (R / 4096) + t) J) (R % 4096 + 1)

/-- The reverse states of both sequences. -/
def adW (mu : ℕ → ℂ) (G : ℕ → ℕ → ℂ) (R J : ℕ) : ℂ :=
  ScanMath.st (mu J) (fun t => G (4096 * (R / 4096) + (4095 - t)) J) (4096 - R % 4096)

/-- Sequence `b`. -/
def seqOf (b : ℕ) (U : ℕ → ℕ → ℂ) : ℕ → ℕ → ℂ := fun r j => U (4096 * b + r) j

/-- Sequence `b`, lanes from `o`. -/
def part (o b : ℕ) (U : ℕ → ℕ → ℂ) : ℕ → ℕ → ℂ := fun r j => U (4096 * b + r) (o + j)

/-- The running sums over both sequences, in row `r` of the eight. -/
def dW (mu : ℕ → ℂ) (G Z : ℕ → ℕ → ℂ) (r J : ℕ) : ℂ :=
  0 + dS mu (seqOf 0 G) (seqOf 0 Z) r J + dS mu (seqOf 1 G) (seqOf 1 Z) r J

theorem planes_congr {n m n' m' : ℕ} (U U' : ℕ → ℕ → ℂ) (i : (⟨3, ![2, n, m]⟩ : Shape).Idx) (y : (⟨3, ![2, n', m']⟩ : Shape).Idx)
    (h0 : (i 0).val = (y 0).val) (h : U (i 1).val (i 2).val = U' (y 1).val (y 2).val) : planes U i = planes U' y := by
  unfold planes
  rw [h0, h]

variable (V : (c : Dev nD) → (b : Ref sig .tc) → Buf (Elt Ideal) ((c : Thread nD τ).loc b))

/-! ## The forward scan -/

theorem ix1_0 : ∀ t : Fin cfg1.N, win1_0.index t = ![0, 0, t.val / 2] := (by decide +kernel : ∀ t : Fin grid1.N, _)
theorem ix1_1 : ∀ t : Fin cfg1.N, win1_1.index t = ![0, t.val % 2, t.val / 2] := (by decide +kernel : ∀ t : Fin grid1.N, _)
theorem ix1_2 : ∀ t : Fin cfg1.N, win1_2.index t = ![0, t.val % 2, t.val / 2] := (by decide +kernel : ∀ t : Fin grid1.N, _)

theorem coef1 (c : Dev nD) (t : Fin cfg1.N) (lam : ℕ → ℂ) (h : CF (m := 2048) lam (V c (Pipeline.arrRef spec1 0))) :
    CoefF (fun j => lam (128 * (t.val / 2) + j)) (iblk1 V c 0 t) := by
  have ht : t.val < 32 := t.isLt.trans_eq N_1
  refine CF.block (Coefs.lanes h (128 * (t.val / 2)) (by omega) _ fun q r j => ?_)
  blk_simp [iblk1]
  refine congrArg (V c main_v43) ?_
  blk_ext [ix1_0]
  show t.val / 2 * 128 + j.val = 128 * (t.val / 2) + j.val
  omega

theorem in1 (c : Dev nD) (t : Fin cfg1.N) (U : ℕ → ℕ → ℂ) (h : V c (Pipeline.arrRef spec1 1) = planes (n := 8192) (m := 2048) U) :
    (iblk1 V c 1 t : Vec Ideal S2x4096x128 .bf16) = planes (n := 4096) (m := 128) (part (128 * (t.val / 2)) (t.val % 2) U) := by
  funext y
  blk_simp [iblk1]
  refine (congrFun h _).trans (planes_congr _ _ _ _ ?_ ?_)
  · blk_simp [ix1_1]
  · blk_simp [ix1_1]
    unfold part
    congr 1 <;> omega

theorem arr1 (c : Dev nD) (lam : ℕ → ℂ) (U : ℕ → ℕ → ℂ) (h0 : CF (m := 2048) lam (V c (Pipeline.arrRef spec1 0)))
    (h1 : V c (Pipeline.arrRef spec1 1) = planes (n := 8192) (m := 2048) U) :
    (dat1 V c).arrAt 2 cfg1.N = planes (n := 8192) (m := 2048) (stW lam U) := by
  refine (dat1 V c).arrAt_eq_of_covers 2 _ (by decide +kernel) fun t hf y => ?_
  rw [after1_2]
  unfold outsAt1
  rw [blockF _ _ _ _ _ _ _ _ _ _ _ _ (coef1 V c t lam h0) (in1 V c t U h1)]
  blk_simp
  have hy : (y 1).val < 4096 := (y 1).isLt
  refine planes_congr _ _ _ _ ?_ ?_
  · blk_simp [ix1_2]
  · blk_simp [ix1_2]
    unfold stF stW part
    dsimp only
    rw [show (t.val % 2 * 4096 + (y 1).val) / 4096 = t.val % 2 by omega, show (t.val % 2 * 4096 + (y 1).val) % 4096 = (y 1).val by omega,
      show t.val / 2 * 128 + (y 2).val = 128 * (t.val / 2) + (y 2).val by omega]

/-! ## The reverse scan -/

theorem ix2_0 : ∀ t : Fin cfg2.N, win2_0.index t = ![0, 0, t.val / 2] := (by decide +kernel : ∀ t : Fin grid2.N, _)
theorem ix2_1 : ∀ t : Fin cfg2.N, win2_1.index t = ![0, t.val % 2, t.val / 2] := (by decide +kernel : ∀ t : Fin grid2.N, _)
theorem ix2_2 : ∀ t : Fin cfg2.N, win2_2.index t = ![0, t.val % 2, t.val / 2] := (by decide +kernel : ∀ t : Fin grid2.N, _)
theorem ix2_3 : ∀ t : Fin cfg2.N, win2_3.index t = ![0, t.val % 2, t.val / 2] := (by decide +kernel : ∀ t : Fin grid2.N, _)
theorem ix2_4 : ∀ t : Fin cfg2.N, win2_4.index t = ![0, 0, t.val / 2] := (by decide +kernel : ∀ t : Fin grid2.N, _)

theorem coef2 (c : Dev nD) (t : Fin cfg2.N) (mu : ℕ → ℂ) (h : CR (m := 2048) mu (V c (Pipeline.arrRef spec2 0))) :
    CoefR (fun j => mu (128 * (t.val / 2) + j)) (iblk2 V c 0 t) := by
  have ht : t.val < 32 := t.isLt.trans_eq N_2
  refine CR.block (Coefs.lanes h (128 * (t.val / 2)) (by omega) _ fun q r j => ?_)
  blk_simp [iblk2]
  refine congrArg (V c (Pipeline.arrRef spec2 0)) ?_
  blk_ext [ix2_0]
  show t.val / 2 * 128 + j.val = 128 * (t.val / 2) + j.val
  omega

theorem in2_1 (c : Dev nD) (t : Fin cfg2.N) (U : ℕ → ℕ → ℂ) (h : V c (Pipeline.arrRef spec2 1) = planes (n := 8192) (m := 2048) U) :
    (iblk2 V c 1 t : Vec Ideal S2x4096x128 .bf16) = planes (n := 4096) (m := 128) (part (128 * (t.val / 2)) (t.val % 2) U) := by
  funext y
  blk_simp [iblk2]
  refine (congrFun h _).trans (planes_congr _ _ _ _ ?_ ?_)
  · blk_simp [ix2_1]
  · blk_simp [ix2_1]
    unfold part
    congr 1 <;> omega

theorem in2_2 (c : Dev nD) (t : Fin cfg2.N) (U : ℕ → ℕ → ℂ) (h : V c (Pipeline.arrRef spec2 2) = planes (n := 8192) (m := 2048) U) :
    (iblk2 V c 2 t : Vec Ideal S2x4096x128 .bf16) = planes (n := 4096) (m := 128) (part (128 * (t.val / 2)) (t.val % 2) U) := by
  funext y
  blk_simp [iblk2]
  refine (congrFun h _).trans (planes_congr _ _ _ _ ?_ ?_)
  · blk_simp [ix2_2]
  · blk_simp [ix2_2]
    unfold part
    congr 1 <;> omega

section Reverse
variable (c : Dev nD) (mu : ℕ → ℂ) (G Z : ℕ → ℕ → ℂ) (h0 : CR (m := 2048) mu (V c (Pipeline.arrRef spec2 0)))
  (h1 : V c (Pipeline.arrRef spec2 1) = planes (n := 8192) (m := 2048) G)
  (h2 : V c (Pipeline.arrRef spec2 2) = planes (n := 8192) (m := 2048) Z)
include h0 h1 h2

/-- The states that a point leaves. -/
theorem outs2_3 (t : Fin cfg2.N) : (outsAt2 V c t.val t.isLt).1
    = planes (adj (fun j => mu (128 * (t.val / 2) + j)) (part (128 * (t.val / 2)) (t.val % 2) G)) := by
  by_cases h : t.val % 2 = 0
  · rw [outsAt2_A V c t h]
    exact blockR_A3 _ _ _ _ _ _ _ _ _ _ _ _ _ _ _ _ _ _ _ (coef2 V c t mu h0) (in2_1 V c t G h1) (in2_2 V c t Z h2)
  · rw [outsAt2_B V c t h]
    exact blockR_B3 _ _ _ _ _ _ _ _ _ _ _ _ _ _ _ _ _ _ _ _ (coef2 V c t mu h0) (in2_1 V c t G h1) (in2_2 V c t Z h2)

theorem arr2_3 : (dat2 V c).arrAt 3 cfg2.N = planes (n := 8192) (m := 2048) (adW mu G) := by
  refine (dat2 V c).arrAt_eq_of_covers 3 _ (by decide +kernel) fun t hf y => ?_
  rw [after2_3, outs2_3 V c mu G Z h0 h1 h2 t]
  blk_simp
  have hy : (y 1).val < 4096 := (y 1).isLt
  refine planes_congr _ _ _ _ ?_ ?_
  · blk_simp [ix2_3]
  · blk_simp [ix2_3]
    unfold adj stR adW part
    dsimp only
    rw [show (t.val % 2 * 4096 + (y 1).val) / 4096 = t.val % 2 by omega, show (t.val % 2 * 4096 + (y 1).val) % 4096 = (y 1).val by omega,
      show t.val / 2 * 128 + (y 2).val = 128 * (t.val / 2) + (y 2).val by omega]

/-- The sums that the first sequence's point leaves. -/
theorem outs2_4A (n : ℕ) (hn : n < cfg2.N) (h : n % 2 = 0) : (outsAt2 V c n hn).2
    = planes (fun r j => (fun _ _ => (0 : ℂ)) r j + dS (fun j => mu (128 * (n / 2) + j)) (part (128 * (n / 2)) (n % 2) G)
      (part (128 * (n / 2)) (n % 2) Z) r j) := by
  refine (congrArg Prod.snd (outsAt2_A V c ⟨n, hn⟩ h)).trans ?_
  dsimp only
  rw [blockR_A4 c _ _ _ _ _ _ _ _ _ _ _ _ (iblk2 V c 0 ⟨n, hn⟩) (iblk2 V c 1 ⟨n, hn⟩) (iblk2 V c 2 ⟨n, hn⟩) _ _ _
    (coef2 V c ⟨n, hn⟩ mu h0) (in2_1 V c ⟨n, hn⟩ G h1) (in2_2 V c ⟨n, hn⟩ Z h2)]

/-- The sums that the second sequence's point leaves. -/
theorem outs2_4B (t : Fin cfg2.N) (h : t.val % 2 = 1) : (outsAt2 V c t.val t.isLt).2
    = planes (fun r j => (fun _ _ => (0 : ℂ)) r j + dS (fun j => mu (128 * (t.val / 2) + j)) (part (128 * (t.val / 2)) 0 G)
      (part (128 * (t.val / 2)) 0 Z) r j + dS (fun j => mu (128 * (t.val / 2) + j)) (part (128 * (t.val / 2)) 1 G)
      (part (128 * (t.val / 2)) 1 Z) r j) := by
  have hp := outs2_4A V c mu G Z h0 h1 h2 (t.val - 1) (Nat.lt_of_le_of_lt (Nat.sub_le _ _) t.isLt) (by omega)
  rw [show (t.val - 1) / 2 = t.val / 2 by omega, show (t.val - 1) % 2 = 0 by omega] at hp
  have h1' := in2_1 V c t G h1
  have h2' := in2_2 V c t Z h2
  rw [h] at h1' h2'
  refine (congrArg Prod.snd (outsAt2_B V c t (by omega))).trans ?_
  dsimp only
  rw [blockR_B4 c _ _ _ _ _ _ _ _ _ _ _ _ (iblk2 V c 0 t) (iblk2 V c 1 t) (iblk2 V c 2 t) _ _ _ _ _ (coef2 V c t mu h0) h1' h2' hp]

theorem arr2_4 : (dat2 V c).arrAt 4 cfg2.N = planes (n := 8) (m := 2048) (dW mu G Z) := by
  refine (dat2 V c).arrAt_eq_of_covers 4 _ (by decide +kernel) fun t hf y => ?_
  have h : t.val % 2 = 1 := (flush2_4 t).mp hf
  rw [after2_4, outs2_4B V c mu G Z h0 h1 h2 t h]
  blk_simp
  refine planes_congr _ _ _ _ ?_ ?_
  · blk_simp [ix2_4]
  · blk_simp [ix2_4]
    rw [show t.val / 2 * 128 + (y 2).val = 128 * (t.val / 2) + (y 2).val by omega]
    rfl

end Reverse

end Cert.KernelIdeal.Own
end
-- ==== Proof.HostCoef.lean ====
/-
  The coefficient arrays that the host forms from the tables of powers: for either direction the masked multiples of the steps of one, two
  and four rows, and the powers themselves, in the order of the direction.
-/
module

public import proofs.«01_k».proof.Proof.ScanArr
public import Idealize.ShloMosaic.Lib.StableHlo.ReadAt

@[expose] public section

set_option maxRecDepth 16384

noncomputable section

namespace Cert.KernelIdeal.Own

open Cert.KernelIdeal Cert.KernelIdeal.Gen
open Idealize.ShloMosaic Idealize.ShloMosaic.TcCoe Idealize.SL.Sem Cert.Cx

/-- A mask of the rows from `n` on. -/
theorem sel_ge (n : ℕ) (hn : n < 8) (r : Fin 8) (x z : EReal) :
    Scalar.select (IntOp.cmpi CmpIPredicate.sge (BitVec.ofNat 32 r.val) (BitVec.ofNat 32 n)) x z = if n ≤ r.val then x else z := by
  obtain ⟨r, hr⟩ := r
  interval_cases r <;> interval_cases n <;> rfl

/-- A mask of the rows before `n`. -/
theorem sel_lt (n : ℕ) (hn : n < 8) (r : Fin 8) (x z : EReal) :
    Scalar.select (IntOp.cmpi CmpIPredicate.slt (BitVec.ofNat 32 r.val) (BitVec.ofNat 32 n)) x z = if r.val < n then x else z := by
  obtain ⟨r, hr⟩ := r
  interval_cases r <;> interval_cases n <;> rfl

theorem zero_const (i) : (id (constant (F := Ideal) S_ FTy.f32 0#32) i : EReal) = 0 := by
  simp [constant, Ideal.ofBits, Ideal.ieee]

theorem maskF_re (z : ℂ) (d : ℕ) (r : Fin 8) : ((ScanMath.maskF z d r).re : EReal) = if d ≤ r.val then (z.re : EReal) else 0 := by
  unfold ScanMath.maskF
  split <;> simp
theorem maskF_im (z : ℂ) (d : ℕ) (r : Fin 8) : ((ScanMath.maskF z d r).im : EReal) = if d ≤ r.val then (z.im : EReal) else 0 := by
  unfold ScanMath.maskF
  split <;> simp
theorem maskR_re (z : ℂ) (d n : ℕ) (h : n = 8 - d) (hd : d ≤ 8) (r : Fin 8) :
    ((ScanMath.maskR z d r).re : EReal) = if r.val < n then (z.re : EReal) else 0 := by
  unfold ScanMath.maskR
  by_cases h1 : r.val < n
  · rw [if_pos h1, if_pos (by omega)]
  · rw [if_neg h1, if_neg (by omega)]
    simp
theorem maskR_im (z : ℂ) (d n : ℕ) (h : n = 8 - d) (hd : d ≤ 8) (r : Fin 8) :
    ((ScanMath.maskR z d r).im : EReal) = if r.val < n then (z.im : EReal) else 0 := by
  unfold ScanMath.maskR
  by_cases h1 : r.val < n
  · rw [if_pos h1, if_pos (by omega)]
  · rw [if_neg h1, if_neg (by omega)]
    simp

variable (m : (ℓ : Loc nD τ sig) → Buf (Elt Ideal) ℓ) (ρ : Dev nD → PrngReg) (c : Dev nD) (lam : ℕ → ℂ)

section Forward
variable (hre : ∀ (j : Fin 2048) (r : Fin 8), (W1 m ρ c (Proc.devRef .tc main_v0_0) : Vec Ideal S2048x8 .f32) (ValueIdx.ix2 j r) = ((lam j ^ (r.val + 1)).re : EReal))
  (him : ∀ (j : Fin 2048) (r : Fin 8), (W1 m ρ c (Proc.devRef .tc main_v0_1) : Vec Ideal S2048x8 .f32) (ValueIdx.ix2 j r) = ((lam j ^ (r.val + 1)).im : EReal))
include hre him

theorem coefF_arr : CF (m := 2048) lam (V14 m ρ c (Pipeline.arrRef spec1 0)) := by
  refine ⟨fun r j => ?_, fun r j => ?_, fun r j => ?_, fun r j => ?_, fun r j => ?_, fun r j => ?_, fun r j => ?_, fun r j => ?_⟩
  · show (W14 m ρ c (Proc.devRef .tc main_v43) : Vec Ideal S8x8x2048 .f32) (ValueIdx.ix3 0 r j) = _
    after_reads_at
    try rw [StableHlo.unary_result']
    try after_reads_at
    refine (sel_ge 1 (by norm_num) r _ _).trans ?_
    rw [maskF_re, zero_const]
    exact if_congr Iff.rfl ((hre j 0).trans (by simp)) rfl
  · show (W14 m ρ c (Proc.devRef .tc main_v43) : Vec Ideal S8x8x2048 .f32) (ValueIdx.ix3 1 r j) = _
    after_reads_at
    try rw [StableHlo.unary_result']
    try after_reads_at
    refine (sel_ge 1 (by norm_num) r _ _).trans ?_
    rw [maskF_im, zero_const]
    exact if_congr Iff.rfl ((him j 0).trans (by simp)) rfl
  · show (W14 m ρ c (Proc.devRef .tc main_v43) : Vec Ideal S8x8x2048 .f32) (ValueIdx.ix3 2 r j) = _
    after_reads_at
    try rw [StableHlo.unary_result']
    try after_reads_at
    refine (sel_ge 2 (by norm_num) r _ _).trans ?_
    rw [maskF_re, zero_const]
    exact if_congr Iff.rfl ((hre j 1).trans (by norm_num)) rfl
  · show (W14 m ρ c (Proc.devRef .tc main_v43) : Vec Ideal S8x8x2048 .f32) (ValueIdx.ix3 3 r j) = _
    after_reads_at
    try rw [StableHlo.unary_result']
    try after_reads_at
    refine (sel_ge 2 (by norm_num) r _ _).trans ?_
    rw [maskF_im, zero_const]
    exact if_congr Iff.rfl ((him j 1).trans (by norm_num)) rfl
  · show (W14 m ρ c (Proc.devRef .tc main_v43) : Vec Ideal S8x8x2048 .f32) (ValueIdx.ix3 4 r j) = _
    after_reads_at
    try rw [StableHlo.unary_result']
    try after_reads_at
    refine (sel_ge 4 (by norm_num) r _ _).trans ?_
    rw [maskF_re, zero_const]
    exact if_congr Iff.rfl ((hre j 3).trans (by norm_num)) rfl
  · show (W14 m ρ c (Proc.devRef .tc main_v43) : Vec Ideal S8x8x2048 .f32) (ValueIdx.ix3 5 r j) = _
    after_reads_at
    try rw [StableHlo.unary_result']
    try after_reads_at
    refine (sel_ge 4 (by norm_num) r _ _).trans ?_
    rw [maskF_im, zero_const]
    exact if_congr Iff.rfl ((him j 3).trans (by norm_num)) rfl
  · show (W14 m ρ c (Proc.devRef .tc main_v43) : Vec Ideal S8x8x2048 .f32) (ValueIdx.ix3 6 r j) = _
    after_reads_at
    try rw [StableHlo.unary_result']
    try after_reads_at
    exact hre j r
  · show (W14 m ρ c (Proc.devRef .tc main_v43) : Vec Ideal S8x8x2048 .f32) (ValueIdx.ix3 7 r j) = _
    after_reads_at
    try rw [StableHlo.unary_result']
    try after_reads_at
    exact him j r

end Forward

theorem cj_re (z : ℂ) (n : ℕ) (w : ℂ) (h : w = (starRingEnd ℂ) z ^ n) : (z ^ n).re = w.re := by
  rw [h, ← map_pow, Complex.conj_re]
theorem cj_im (z : ℂ) (n : ℕ) (w : ℂ) (h : w = (starRingEnd ℂ) z ^ n) : -(z ^ n).im = w.im := by
  rw [h, ← map_pow, Complex.conj_im]

section Backward
variable (hre : ∀ (j : Fin 2048) (r : Fin 8), (W15 m ρ c (Proc.devRef .tc main_v0_0) : Vec Ideal S2048x8 .f32) (ValueIdx.ix2 j r) = ((lam j ^ (r.val + 1)).re : EReal))
  (him : ∀ (j : Fin 2048) (r : Fin 8), (W15 m ρ c (Proc.devRef .tc main_v0_1) : Vec Ideal S2048x8 .f32) (ValueIdx.ix2 j r) = ((lam j ^ (r.val + 1)).im : EReal))
include hre him

theorem coefR_arr : CR (m := 2048) (fun j => (starRingEnd ℂ) (lam j)) (V28 m ρ c (Pipeline.arrRef spec2 0)) := by
  refine ⟨fun r j => ?_, fun r j => ?_, fun r j => ?_, fun r j => ?_, fun r j => ?_, fun r j => ?_, fun r j => ?_, fun r j => ?_⟩
  · show (W28 m ρ c (Proc.devRef .tc main_v90) : Vec Ideal S8x8x2048 .f32) (ValueIdx.ix3 0 r j) = _
    after_reads_at
    try rw [StableHlo.unary_result']
    try after_reads_at
    refine (sel_lt 7 (by norm_num) r _ _).trans ?_
    rw [maskR_re _ _ 7 (by norm_num) (by norm_num), zero_const]
    refine if_congr Iff.rfl ((hre j 0).trans (congrArg _ ?_)) rfl
    exact cj_re (lam j) 1 _ (pow_one _).symm
  · show (W28 m ρ c (Proc.devRef .tc main_v90) : Vec Ideal S8x8x2048 .f32) (ValueIdx.ix3 1 r j) = _
    after_reads_at
    try rw [StableHlo.unary_result']
    try after_reads_at
    refine (sel_lt 7 (by norm_num) r _ _).trans ?_
    rw [maskR_im _ _ 7 (by norm_num) (by norm_num), zero_const]
    refine if_congr Iff.rfl ((congrArg (fun x : EReal => -x) (him j 0)).trans ((EReal.coe_neg _).symm.trans (congrArg _ ?_))) rfl
    exact cj_im (lam j) 1 _ (pow_one _).symm
  · show (W28 m ρ c (Proc.devRef .tc main_v90) : Vec Ideal S8x8x2048 .f32) (ValueIdx.ix3 2 r j) = _
    after_reads_at
    try rw [StableHlo.unary_result']
    try after_reads_at
    refine (sel_lt 6 (by norm_num) r _ _).trans ?_
    rw [maskR_re _ _ 6 (by norm_num) (by norm_num), zero_const]
    refine if_congr Iff.rfl ((hre j 1).trans (congrArg _ ?_)) rfl
    exact cj_re (lam j) 2 _ rfl
  · show (W28 m ρ c (Proc.devRef .tc main_v90) : Vec Ideal S8x8x2048 .f32) (ValueIdx.ix3 3 r j) = _
    after_reads_at
    try rw [StableHlo.unary_result']
    try after_reads_at
    refine (sel_lt 6 (by norm_num) r _ _).trans ?_
    rw [maskR_im _ _ 6 (by norm_num) (by norm_num), zero_const]
    refine if_congr Iff.rfl ((congrArg (fun x : EReal => -x) (him j 1)).trans ((EReal.coe_neg _).symm.trans (congrArg _ ?_))) rfl
    exact cj_im (lam j) 2 _ rfl
  · show (W28 m ρ c (Proc.devRef .tc main_v90) : Vec Ideal S8x8x2048 .f32) (ValueIdx.ix3 4 r j) = _
    after_reads_at
    try rw [StableHlo.unary_result']
    try after_reads_at
    refine (sel_lt 4 (by norm_num) r _ _).trans ?_
    rw [maskR_re _ _ 4 (by norm_num) (by norm_num), zero_const]
    refine if_congr Iff.rfl ((hre j 3).trans (congrArg _ ?_)) rfl
    exact cj_re (lam j) 4 _ rfl
  · show (W28 m ρ c (Proc.devRef .tc main_v90) : Vec Ideal S8x8x2048 .f32) (ValueIdx.ix3 5 r j) = _
    after_reads_at
    try rw [StableHlo.unary_result']
    try after_reads_at
    refine (sel_lt 4 (by norm_num) r _ _).trans ?_
    rw [maskR_im _ _ 4 (by norm_num) (by norm_num), zero_const]
    refine if_congr Iff.rfl ((congrArg (fun x : EReal => -x) (him j 3)).trans ((EReal.coe_neg _).symm.trans (congrArg _ ?_))) rfl
    exact cj_im (lam j) 4 _ rfl
  · show (W28 m ρ c (Proc.devRef .tc main_v90) : Vec Ideal S8x8x2048 .f32) (ValueIdx.ix3 6 r j) = _
    after_reads_at
    try rw [StableHlo.unary_result']
    try after_reads_at
    refine (hre j (Fin.rev r)).trans (congrArg _ ?_)
    rw [show (Fin.rev r).val + 1 = 8 - r.val by rw [Fin.val_rev]; omega]
    exact cj_re (lam j) (8 - r.val) _ rfl
  · show (W28 m ρ c (Proc.devRef .tc main_v90) : Vec Ideal S8x8x2048 .f32) (ValueIdx.ix3 7 r j) = _
    after_reads_at
    try rw [StableHlo.unary_result']
    try after_reads_at
    refine (congrArg (fun x : EReal => -x) (him j (Fin.rev r))).trans ((EReal.coe_neg _).symm.trans (congrArg _ ?_))
    rw [show (Fin.rev r).val + 1 = 8 - r.val by rw [Fin.val_rev]; omega]
    exact cj_im (lam j) (8 - r.val) _ rfl

end Backward

/-- The tables of powers are still there after the forward scan. -/
theorem W15_table (b : Ref sig .tc) (h : b = main_v0_0 ∨ b = main_v0_1) :
    W15 m ρ c (Proc.devRef .tc b) = W1 m ρ c (Proc.devRef .tc b) := by
  rcases h with rfl | rfl
  · rw [W15_of_ne m ρ c main_v0_0 (by decide)]
    after_reads_simp
  · rw [W15_of_ne m ρ c main_v0_1 (by decide)]
    after_reads_simp

end Cert.KernelIdeal.Own
end
-- ==== Proof.Prep.lean ====
/-
  The tables of powers that the preparing kernel leaves: the complex multiplier of a lane, from the three real parameters of the lane, and
  its first eight powers, each from the one before by a complex multiplication, each put into its own column.
-/
module

public import proofs.«01_k».proof.Proof.Cx
public import proofs.«01_k».proof.Proof.Gen.KernelIdeal.Frame
public import Idealize.ShloMosaic.Lib.Pipeline.ValueKit
public import Idealize.ShloMosaic.Lib.ValueLayout

@[expose] public section

set_option maxRecDepth 16384

noncomputable section

namespace Cert.Cx

open Idealize.ShloMosaic

variable {s : Shape} {φ : FTy}

/-- The multiplier of a lane: `exp ((a + b i) · exp d)`, by its real and imaginary part. -/
def lamb (a b d : ℝ) : ℂ :=
  ⟨Real.exp (a * Real.exp d) * Real.cos (b * Real.exp d), Real.exp (a * Real.exp d) * Real.sin (b * Real.exp d)⟩

/-- The real part of a product, as the kernel computes it. -/
theorem mul_re (x y : s.Idx → ℂ) :
    subf (F := Ideal) (φ := φ) (mulf (RE x) (RE y)) (mulf (IM x) (IM y)) = (RE (x * y) : FVec Ideal s φ) := by
  funext i
  simp only [ValueIdx.subf_apply, ValueIdx.mulf_apply, RE, IM, Pi.mul_apply, Complex.mul_re]
  rw [← EReal.coe_mul, ← EReal.coe_mul, ← EReal.coe_sub]

/-- The imaginary part of a product, as the kernel computes it. -/
theorem mul_im (x y : s.Idx → ℂ) :
    addf (F := Ideal) (φ := φ) (mulf (RE x) (IM y)) (mulf (IM x) (RE y)) = (IM (x * y) : FVec Ideal s φ) := by
  funext i
  simp only [ValueIdx.addf_apply, ValueIdx.mulf_apply, RE, IM, Pi.mul_apply, Complex.mul_im]
  rw [← EReal.coe_mul, ← EReal.coe_mul, ← EReal.coe_add]

end Cert.Cx

namespace Cert.KernelIdeal.Own

open Cert.KernelIdeal Cert.KernelIdeal.Gen
open Idealize.ShloMosaic Idealize.ShloMosaic.TcCoe Cert.Cx

/-- A column put into column `n` of a table. -/
theorem put_apply (n : ℕ) (hn : n < 8) (x : S2048x1.Idx → EReal) (rest : S2048x8.Idx → EReal) (hi hc hb) (j : Fin 2048) (r : Fin 8) :
    select (cmpi .eq (iota .tc S2048x8 32 [1] hi) (broadcast S2048x8 (BitVec.ofNat 32 n))) (broadcastTo S2048x8 (shapeCast S2048x1 x hc) hb) rest
      (ValueIdx.ix2 j r) = if r.val = n then x (ValueIdx.ix2 j 0) else rest (ValueIdx.ix2 j r) := by
  have hb' : broadcastTo S2048x8 (shapeCast S2048x1 x hc) hb (ValueIdx.ix2 j r) = x (ValueIdx.ix2 j 0) := by
    rw [shapeCast_self]
    refine broadcastTo_apply x hb (ValueIdx.ix2 j r) (ValueIdx.ix2 j 0) fun a => ?_
    match a with
    | ⟨0, _⟩ => rfl
    | ⟨1, _⟩ => rfl
  have hm : cmpi .eq (iota .tc S2048x8 32 [1] hi) (broadcast S2048x8 (BitVec.ofNat 32 n)) (ValueIdx.ix2 j r)
      = if r.val = n then 1#1 else 0#1 := by
    unfold cmpi
    rw [iota_single_apply]
    show Scalar.cmpi .eq (BitVec.ofNat 32 r.val) (BitVec.ofNat 32 n) = _
    obtain ⟨r, hr⟩ := r
    interval_cases r <;> interval_cases n <;> rfl
  rw [ValueIdx.select_apply, hm, hb']
  split <;> rfl

theorem hz0 : (![0, 0] : Fin 2 → Nat) = fun _ => 0 := funext fun a => by fin_cases a <;> rfl

section Powers
variable (x0 x1 x2 : Vec Ideal S2048x1 .f32) (x3 x4 : Vec Ideal S2048x16 .f32) (lam : S2048x1.Idx → ℂ)
  (hr : k0_pay5 x0 x1 x2 = RE lam) (hi : k0_pay6 x0 x1 x2 = IM lam)
include hr hi

/-- The table of real parts. -/
theorem table_re (j : Fin 2048) (r : Fin 8) :
    out0_5 x0 x1 x2 x3 x4 (ValueIdx.ix2 j r) = ((lam (ValueIdx.ix2 j 0) ^ (r.val + 1)).re : EReal) := by
  unfold_out out0_5
  rw [View.canon_unit_zero hz0]
  simp only [View.ld_unit_zero (S := S2048x1) hz0, r0_0]
  unfold k0_pay1 k0_pay32 k0_pay34 k0_pay35 k0_pay28 k0_pay30 k0_pay31 k0_pay26 k0_pay24 k0_pay25 k0_pay22 k0_pay23 k0_pay20 k0_pay21 k0_pay18 k0_pay19 k0_pay16 k0_pay17 k0_pay15 k0_pay13 k0_pay14
  simp only [hr, hi, mul_re, mul_im]
  simp only [put_apply 0 (by norm_num), put_apply 1 (by norm_num), put_apply 2 (by norm_num), put_apply 3 (by norm_num),
    put_apply 4 (by norm_num), put_apply 5 (by norm_num), put_apply 6 (by norm_num), put_apply 7 (by norm_num), RE, IM, Pi.mul_apply]
  obtain ⟨r, h⟩ := r
  interval_cases r <;> simp [pow_succ]

/-- The table of imaginary parts. -/
theorem table_im (j : Fin 2048) (r : Fin 8) :
    out0_6 x0 x1 x2 x3 x4 (ValueIdx.ix2 j r) = ((lam (ValueIdx.ix2 j 0) ^ (r.val + 1)).im : EReal) := by
  unfold_out out0_6
  rw [View.canon_unit_zero hz0]
  simp only [View.ld_unit_zero (S := S2048x1) hz0, r0_0]
  unfold k0_pay2 k0_pay33 k0_pay29 k0_pay27 k0_pay24 k0_pay25 k0_pay22 k0_pay23 k0_pay20 k0_pay21 k0_pay18 k0_pay19 k0_pay16 k0_pay17 k0_pay15 k0_pay13 k0_pay14
  simp only [hr, hi, mul_re, mul_im]
  simp only [put_apply 0 (by norm_num), put_apply 1 (by norm_num), put_apply 2 (by norm_num), put_apply 3 (by norm_num),
    put_apply 4 (by norm_num), put_apply 5 (by norm_num), put_apply 6 (by norm_num), put_apply 7 (by norm_num), RE, IM, Pi.mul_apply]
  obtain ⟨r, h⟩ := r
  interval_cases r <;> simp [pow_succ]

end Powers

end Cert.KernelIdeal.Own
end
-- ==== Proof.KernelValue.lean ====
/-
  What the kernel's program ends with, as complex numbers: the states, the reverse states, and the gradient of the multipliers.
-/
module

public import proofs.«01_k».proof.Proof.HostCoef
public import proofs.«01_k».proof.Proof.Prep

@[expose] public section

set_option maxRecDepth 16384

noncomputable section

namespace Cert.KernelIdeal.Own

open Cert.KernelIdeal Cert.KernelIdeal.Gen
open Idealize.ShloMosaic Idealize.ShloMosaic.TcCoe Idealize.SL.Sem Cert.Cx

variable (m : (ℓ : Loc nD τ sig) → Buf (Elt Ideal) ℓ) (ρ : Dev nD → PrngReg) (c : Dev nD)

/-- A column of real numbers. -/
def col (A : ℕ → ℝ) : S2048x1.Idx → EReal := fun i => (A (i 0).val : EReal)

theorem pay5_of (A B D : ℕ → ℝ) :
    k0_pay5 (F := Ideal) (col A) (col B) (col D) = RE (fun i => lamb (A (i 0).val) (B (i 0).val) (D (i 0).val)) := by
  funext i
  simp only [k0_pay5, k0_pay4, k0_pay3, col, RE, lamb, exp, cos, mulf]
  change Ideal.exp (((A (i 0).val : ℝ) : EReal) * ((Real.exp (D (i 0).val) : ℝ) : EReal)) * Ideal.cos (((B (i 0).val : ℝ) : EReal) * ((Real.exp (D (i 0).val) : ℝ) : EReal)) = _
  rw [← EReal.coe_mul, ← EReal.coe_mul, Ideal.exp_coe, Ideal.cos_coe, ← EReal.coe_mul]

theorem pay6_of (A B D : ℕ → ℝ) :
    k0_pay6 (F := Ideal) (col A) (col B) (col D) = IM (fun i => lamb (A (i 0).val) (B (i 0).val) (D (i 0).val)) := by
  funext i
  simp only [k0_pay6, k0_pay4, k0_pay3, col, IM, lamb, exp, sin, mulf]
  change Ideal.exp (((A (i 0).val : ℝ) : EReal) * ((Real.exp (D (i 0).val) : ℝ) : EReal)) * Ideal.sin (((B (i 0).val : ℝ) : EReal) * ((Real.exp (D (i 0).val) : ℝ) : EReal)) = _
  rw [← EReal.coe_mul, ← EReal.coe_mul, Ideal.exp_coe, Ideal.sin_coe, ← EReal.coe_mul]

theorem ix0_0 : ∀ t : Fin cfg0.N, win0_0.index t = ![0, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_5 : ∀ t : Fin cfg0.N, win0_5.index t = ![0, 0] := (by decide +kernel : ∀ t : Fin grid0.N, _)
theorem ix0_6 : ∀ t : Fin cfg0.N, win0_6.index t = ![0, 0] := (by decide +kernel : ∀ t : Fin grid0.N, _)

section Values
variable (A B D : ℕ → ℝ) (U G : ℕ → ℕ → ℂ)
  (ha : m ((c : Thread nD τ).loc main_arg0) = col A) (hb : m ((c : Thread nD τ).loc main_arg1) = col B)
  (hd : m ((c : Thread nD τ).loc main_arg2) = col D)
  (hu : m ((c : Thread nD τ).loc main_arg5) = planes (n := 8192) (m := 2048) U)
  (hg : m ((c : Thread nD τ).loc main_arg6) = planes (n := 8192) (m := 2048) G)

/-- The multiplier of a lane. -/
def lamOf (A B D : ℕ → ℝ) (j : ℕ) : ℂ := lamb (A j) (B j) (D j)

include ha in
theorem in0_0 (t : Fin cfg0.N) : (iblk0 (V0 m ρ) c 0 t : Vec Ideal S2048x1 .f32) = col A := by
  funext y
  blk_simp [iblk0]
  refine (congrFun ((W0_args m ρ c main_arg0 (by decide)).trans ha) _).trans ?_
  unfold col
  blk_simp [ix0_0]

include hb in
theorem in0_1 (t : Fin cfg0.N) : (iblk0 (V0 m ρ) c 1 t : Vec Ideal S2048x1 .f32) = col B := by
  funext y
  blk_simp [iblk0]
  refine (congrFun ((W0_args m ρ c main_arg1 (by decide)).trans hb) _).trans ?_
  unfold col
  blk_simp [ix0_1]

include hd in
theorem in0_2 (t : Fin cfg0.N) : (iblk0 (V0 m ρ) c 2 t : Vec Ideal S2048x1 .f32) = col D := by
  funext y
  blk_simp [iblk0]
  refine (congrFun ((W0_args m ρ c main_arg2 (by decide)).trans hd) _).trans ?_
  unfold col
  blk_simp [ix0_2]

include ha hb hd in
theorem W1_re (j : Fin 2048) (r : Fin 8) :
    (W1 m ρ c (Proc.devRef .tc main_v0_0) : Vec Ideal S2048x8 .f32) (ValueIdx.ix2 j r) = ((lamOf A B D j ^ (r.val + 1)).re : EReal) := by
  have h : W1 m ρ c (Proc.devRef .tc main_v0_0) = fun i => (((lamOf A B D (i 0).val) ^ ((i 1).val + 1)).re : EReal) := by
    refine (W1_arr m ρ c 5).trans ?_
    refine (dat0 (V0 m ρ) c).arrAt_eq_of_covers 5 _ (by decide +kernel) fun t hf y => ?_
    rw [after0_5, in0_0 m ρ c A ha t, in0_1 m ρ c B hb t, in0_2 m ρ c D hd t]
    blk_simp [ix0_5]
    obtain ⟨j, r, rfl⟩ : ∃ j r, y = ValueIdx.ix2 j r := ⟨_, _, ValueIdx.eq_ix2 y⟩
    exact table_re _ _ _ _ _ _ (pay5_of A B D) (pay6_of A B D) j r
  rw [h]
  rfl

include ha hb hd in
theorem W1_im (j : Fin 2048) (r : Fin 8) :
    (W1 m ρ c (Proc.devRef .tc main_v0_1) : Vec Ideal S2048x8 .f32) (ValueIdx.ix2 j r) = ((lamOf A B D j ^ (r.val + 1)).im : EReal) := by
  have h : W1 m ρ c (Proc.devRef .tc main_v0_1) = fun i => (((lamOf A B D (i 0).val) ^ ((i 1).val + 1)).im : EReal) := by
    refine (W1_arr m ρ c 6).trans ?_
    refine (dat0 (V0 m ρ) c).arrAt_eq_of_covers 6 _ (by decide +kernel) fun t hf y => ?_
    rw [after0_6, in0_0 m ρ c A ha t, in0_1 m ρ c B hb t, in0_2 m ρ c D hd t]
    blk_simp [ix0_6]
    obtain ⟨j, r, rfl⟩ : ∃ j r, y = ValueIdx.ix2 j r := ⟨_, _, ValueIdx.eq_ix2 y⟩
    exact table_im _ _ _ _ _ _ (pay5_of A B D) (pay6_of A B D) j r
  rw [h]
  rfl

end Values
end Cert.KernelIdeal.Own
end
-- ==== Proof.KernelResult.lean ====
/-
  What the kernel's program ends with, as complex numbers: the states, the reverse states, and the gradient of the multipliers.
-/
module

public import proofs.«01_k».proof.Proof.KernelValue
public import proofs.«01_k».proof.Proof.KernelRun

@[expose] public section

set_option maxRecDepth 16384

noncomputable section

namespace Cert.KernelIdeal.Own

open Cert.KernelIdeal Cert.KernelIdeal.Gen
open Idealize.ShloMosaic Idealize.ShloMosaic.TcCoe Idealize.SL.Sem Cert.Cx

/-- The gradient of a multiplier: over both sequences and all places, the conjugate of the state before times the reverse
state. -/
def dlW (mu : ℕ → ℂ) (G Z : ℕ → ℕ → ℂ) (J : ℕ) : ℂ :=
  (∑ t ∈ Finset.range 4096, prd mu (seqOf 0 G) (seqOf 0 Z) t J) + ∑ t ∈ Finset.range 4096, prd mu (seqOf 1 G) (seqOf 1 Z) t J

/-- A sum over all places, by residue and from the last to the first. -/
theorem sum_residues (f : ℕ → ℂ) :
    (∑ r : Fin 8, ∑ n ∈ Finset.range 512, f (4088 - 8 * n + r.val)) = ∑ t ∈ Finset.range 4096, f t := by
  have h : ∀ k, (∑ n ∈ Finset.range k, ∑ r : Fin 8, f (8 * n + r.val)) = ∑ t ∈ Finset.range (8 * k), f t := by
    intro k
    induction k with
    | zero => simp
    | succ k ih =>
      rw [Finset.sum_range_succ, ih, Nat.mul_succ, Finset.sum_range_add, Finset.sum_range (n := 8)]
  rw [Finset.sum_comm, ← h 512, ← Finset.sum_range_reflect]
  refine Finset.sum_congr rfl fun n hn => Finset.sum_congr rfl fun r _ => ?_
  have := Finset.mem_range.1 hn
  congr 1
  omega

theorem sum_dW (mu : ℕ → ℂ) (G Z : ℕ → ℕ → ℂ) (J : ℕ) : (∑ r : Fin 8, dW mu G Z r.val J) = dlW mu G Z J := by
  unfold dW dlW dS
  rw [← sum_residues, ← sum_residues, ← Finset.sum_add_distrib]
  exact Finset.sum_congr rfl fun r _ => by rw [zero_add]

theorem coe_sum {n : ℕ} (f : Fin n → ℝ) : ((∑ r, f r : ℝ) : EReal) = ∑ r, (f r : EReal) := by
  classical
  refine Finset.induction_on (Finset.univ : Finset (Fin n)) (by simp) fun a s ha ih => ?_
  rw [Finset.sum_insert ha, Finset.sum_insert ha, EReal.coe_add, ih]

theorem re_coe_sum {n : ℕ} (f : Fin n → ℂ) : ((∑ r, f r).re : EReal) = ∑ r, ((f r).re : EReal) := by
  rw [Complex.re_sum]
  exact coe_sum _
theorem im_coe_sum {n : ℕ} (f : Fin n → ℂ) : ((∑ r, f r).im : EReal) = ∑ r, ((f r).im : EReal) := by
  rw [Complex.im_sum]
  exact coe_sum _

/-- The sum over the eight rows. -/
def rowSum (x : S2x8x2048.Idx → EReal) (i : S2x2048.Idx) : EReal := ∑ r : Fin 8, x (ValueIdx.ix3 (i 0) r (i 1))

/-- Two rows: the real and the imaginary parts. -/
def planes2 (U : ℕ → ℂ) : S2x2048.Idx → EReal :=
  fun i => if (i 0).val = 0 then ((U (i 1).val).re : EReal) else ((U (i 1).val).im : EReal)

theorem rowSum_dW (mu : ℕ → ℂ) (G Z : ℕ → ℕ → ℂ) (i : S2x2048.Idx) :
    rowSum (planes (n := 8) (m := 2048) (dW mu G Z)) i = planes2 (dlW mu G Z) i := by
  unfold rowSum planes2
  rw [← sum_dW]
  by_cases h0 : (i 0).val = 0
  · rw [if_pos h0, re_coe_sum]
    exact Finset.sum_congr rfl fun r _ => if_pos h0
  · rw [if_neg h0, im_coe_sum]
    exact Finset.sum_congr rfl fun r _ => if_neg h0

variable (m : (ℓ : Loc nD τ sig) → Buf (Elt Ideal) ℓ) (ρ : Dev nD → PrngReg) (c : Dev nD)

section Values
variable (A B D : ℕ → ℝ) (U G : ℕ → ℕ → ℂ)
  (ha : m ((c : Thread nD τ).loc main_arg0) = col A) (hb : m ((c : Thread nD τ).loc main_arg1) = col B)
  (hd : m ((c : Thread nD τ).loc main_arg2) = col D)
  (hu : m ((c : Thread nD τ).loc main_arg5) = planes (n := 8192) (m := 2048) U)
  (hg : m ((c : Thread nD τ).loc main_arg6) = planes (n := 8192) (m := 2048) G)

/-- The conjugate multiplier of a lane. -/
def muOf (A B D : ℕ → ℝ) (j : ℕ) : ℂ := (starRingEnd ℂ) (lamOf A B D j)

include ha hb hd hu in
theorem W15_v44 : W15 m ρ c (Proc.devRef .tc main_v44) = planes (n := 8192) (m := 2048) (stW (lamOf A B D) U) := by
  refine (W15_arr m ρ c 2).trans ?_
  exact arr1 (V14 m ρ) c (lamOf A B D) U
    (coefF_arr m ρ c (lamOf A B D) (W1_re m ρ c A B D ha hb hd) (W1_im m ρ c A B D ha hb hd))
    ((W14_args m ρ c main_arg5 (by decide)).trans hu)

theorem W28_v44 : W28 m ρ c (Proc.devRef .tc main_v44) = W15 m ρ c (Proc.devRef .tc main_v44) := by
  after_reads_simp

include ha hb hd in
theorem coef2_arr : CR (muOf A B D) (V28 m ρ c (Pipeline.arrRef spec2 0)) :=
  coefR_arr m ρ c (lamOf A B D)
    (fun j r => (congrFun (W15_table m ρ c main_v0_0 (.inl rfl)) _).trans (W1_re m ρ c A B D ha hb hd j r))
    (fun j r => (congrFun (W15_table m ρ c main_v0_1 (.inr rfl)) _).trans (W1_im m ρ c A B D ha hb hd j r))

include ha hb hd hu in
/-- The states. -/
theorem end_v44 : W30 m ρ c (Proc.devRef .tc main_v44) = planes (n := 8192) (m := 2048) (stW (lamOf A B D) U) := by
  refine (W30_of m ρ c main_v44 (by decide)).trans ((W29_of m ρ c main_v44 (by decide)).trans ?_)
  exact (W28_v44 m ρ c).trans (W15_v44 m ρ c A B D U ha hb hd hu)

include ha hb hd hu hg in
/-- The reverse states. -/
theorem end_v91_0 : W30 m ρ c (Proc.devRef .tc main_v91_0) = planes (n := 8192) (m := 2048) (adW (muOf A B D) G) := by
  refine (W30_of m ρ c main_v91_0 (by decide)).trans ((W29_arr m ρ c 3).trans ?_)
  exact arr2_3 (V28 m ρ) c (muOf A B D) G (stW (lamOf A B D) U) (coef2_arr m ρ c A B D ha hb hd)
    ((W28_args m ρ c main_arg6 (by decide)).trans hg) ((W28_v44 m ρ c).trans (W15_v44 m ρ c A B D U ha hb hd hu))

include ha hb hd hu hg in
theorem W29_v91_1 : W29 m ρ c (Proc.devRef .tc main_v91_1) = planes (n := 8) (m := 2048) (dW (muOf A B D) G (stW (lamOf A B D) U)) := by
  refine (W29_arr m ρ c 4).trans ?_
  exact arr2_4 (V28 m ρ) c (muOf A B D) G (stW (lamOf A B D) U) (coef2_arr m ρ c A B D ha hb hd)
    ((W28_args m ρ c main_arg6 (by decide)).trans hg) ((W28_v44 m ρ c).trans (W15_v44 m ρ c A B D U ha hb hd hu))

include ha hb hd hu hg in
/-- The gradient of the multipliers. -/
theorem end_v92 : W30 m ρ c (Proc.devRef .tc main_v92) = planes2 (dlW (muOf A B D) G (stW (lamOf A B D) U)) := by
  refine funext fun (i : S2x2048.Idx) => ?_
  have h : W30 m ρ c (Proc.devRef .tc main_v92) i = rowSum (W29 m ρ c (Proc.devRef .tc main_v91_1)) i := by
    after_reads_at
    rfl
  refine h.trans ?_
  rw [W29_v91_1 m ρ c A B D U G ha hb hd hu hg]
  exact rowSum_dW _ _ _ i

end Values
end Cert.KernelIdeal.Own
end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference's operations, listed.

The reference is a stretch of operations, a loop over the tokens that runs the recurrence, a second stretch, a loop
over the tokens in reverse that runs its adjoint, and a last stretch. This module lists the operations of each piece
and shows that the program's text is these lists in order. -/

@[expose] public section

set_option maxRecDepth 16384

noncomputable section

namespace Cert.ReferenceIdeal.Own

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 38 host operations of the main program, in order. -/
abbrev top0 : List (HloOp τ sig (Elt F)) :=
  [ StableHlo.unary main_arg2 main_v0 (Host.exp : (⟨S2048x1, .f32⟩ : BufTy).Contents (Elt F) → (⟨S2048x1, .f32⟩ : BufTy).Contents (Elt F)),
    StableHlo.binary main_arg0 main_v0 main_v1 (mulf : (⟨S2048x1, .f32⟩ : BufTy).Contents (Elt F) → (⟨S2048x1, .f32⟩ : BufTy).Contents (Elt F) → (⟨S2048x1, .f32⟩ : BufTy).Contents (Elt F)),
    StableHlo.unary main_v1 main_v2 (Host.exp : (⟨S2048x1, .f32⟩ : BufTy).Contents (Elt F) → (⟨S2048x1, .f32⟩ : BufTy).Contents (Elt F)),
    StableHlo.binary main_arg1 main_v0 main_v3 (mulf : (⟨S2048x1, .f32⟩ : BufTy).Contents (Elt F) → (⟨S2048x1, .f32⟩ : BufTy).Contents (Elt F) → (⟨S2048x1, .f32⟩ : BufTy).Contents (Elt F)),
    StableHlo.unary main_v3 main_v4 (Host.cos : (⟨S2048x1, .f32⟩ : BufTy).Contents (Elt F) → (⟨S2048x1, .f32⟩ : BufTy).Contents (Elt F)),
    StableHlo.binary main_v2 main_v4 main_v5 (mulf : (⟨S2048x1, .f32⟩ : BufTy).Contents (Elt F) → (⟨S2048x1, .f32⟩ : BufTy).Contents (Elt F) → (⟨S2048x1, .f32⟩ : BufTy).Contents (Elt F)),
    StableHlo.reshape main_v5 main_v6 (rfl : (.f32 : EltTy) = .f32) shapeCasts_S2048x1_S2048,
    StableHlo.binary main_arg1 main_v0 main_v7 (mulf : (⟨S2048x1, .f32⟩ : BufTy).Contents (Elt F) → (⟨S2048x1, .f32⟩ : BufTy).Contents (Elt F) → (⟨S2048x1, .f32⟩ : BufTy).Contents (Elt F)),
    StableHlo.unary main_v7 main_v8 (Host.sin : (⟨S2048x1, .f32⟩ : BufTy).Contents (Elt F) → (⟨S2048x1, .f32⟩ : BufTy).Contents (Elt F)),
    StableHlo.binary main_v2 main_v8 main_v9 (mulf : (⟨S2048x1, .f32⟩ : BufTy).Contents (Elt F) → (⟨S2048x1, .f32⟩ : BufTy).Contents (Elt F) → (⟨S2048x1, .f32⟩ : BufTy).Contents (Elt F)),
    StableHlo.reshape main_v9 main_v10 (rfl : (.f32 : EltTy) = .f32) shapeCasts_S2048x1_S2048,
    StableHlo.unary main_arg5 main_v11 ((extf .f32 · bitsLt_bf16_f32) : (⟨S2x8192x2048, .bf16⟩ : BufTy).Contents (Elt F) → (⟨S2x8192x2048, .f32⟩ : BufTy).Contents (Elt F)),
    StableHlo.reshape main_v11 main_v12 (rfl : (.f32 : EltTy) = .f32) shapeCasts_S2x8192x2048_S2x2x4096x2048,
    StableHlo.unary main_v12 main_v13 ((transpose S4096x2x2x2048 [2, 0, 1, 3] · transposes_S2x2x4096x2048_S4096x2x2x2048_2_0_1_3) : (⟨S2x2x4096x2048, .f32⟩ : BufTy).Contents (Elt F) → (⟨S4096x2x2x2048, .f32⟩ : BufTy).Contents (Elt F)),
    StableHlo.nullary main_cst (constant S_ .f32 0x00000000#32),
    StableHlo.unary main_cst main_v14 (broadcastInDim S2x2048 ![] bcast_S_S2x2048 : (⟨S_, .f32⟩ : BufTy).Contents (Elt F) → (⟨S2x2048, .f32⟩ : BufTy).Contents (Elt F)),
    StableHlo.unary main_v6 main_v15 (broadcastInDim S1x2048 ![1] bcast_S2048_S1x2048_1 : (⟨S2048, .f32⟩ : BufTy).Contents (Elt F) → (⟨S1x2048, .f32⟩ : BufTy).Contents (Elt F)),
    StableHlo.unary main_v10 main_v16 (broadcastInDim S1x2048 ![1] bcast_S2048_S1x2048_1 : (⟨S2048, .f32⟩ : BufTy).Contents (Elt F) → (⟨S1x2048, .f32⟩ : BufTy).Contents (Elt F)),
    StableHlo.unary main_v6 main_v17 (broadcastInDim S1x2048 ![1] bcast_S2048_S1x2048_1 : (⟨S2048, .f32⟩ : BufTy).Contents (Elt F) → (⟨S1x2048, .f32⟩ : BufTy).Contents (Elt F)),
    StableHlo.unary main_v10 main_v18 (broadcastInDim S1x2048 ![1] bcast_S2048_S1x2048_1 : (⟨S2048, .f32⟩ : BufTy).Contents (Elt F) → (⟨S1x2048, .f32⟩ : BufTy).Contents (Elt F)),
    StableHlo.nullary main_cst_0 (constant S_ .f32 0x00000000#32),
    StableHlo.unary main_cst_0 main_v19 (broadcastInDim S4096x2x2x2048 ![] bcast_S_S4096x2x2x2048 : (⟨S_, .f32⟩ : BufTy).Contents (Elt F) → (⟨S4096x2x2x2048, .f32⟩ : BufTy).Contents (Elt F)),
    StableHlo.nullary main_cst_1 (constant S_ .f32 0x00000000#32),
    StableHlo.unary main_cst_1 main_v20 (broadcastInDim S4096x2x2048 ![] bcast_S_S4096x2x2048 : (⟨S_, .f32⟩ : BufTy).Contents (Elt F) → (⟨S4096x2x2048, .f32⟩ : BufTy).Contents (Elt F)),
    StableHlo.nullary main_cst_2 (constant S_ .f32 0x00000000#32),
    StableHlo.unary main_cst_2 main_v21 (broadcastInDim S4096x2x2048 ![] bcast_S_S4096x2x2048 : (⟨S_, .f32⟩ : BufTy).Contents (Elt F) → (⟨S4096x2x2048, .f32⟩ : BufTy).Contents (Elt F)),
    StableHlo.nullary main_c (constantI S_ 32 0#32),
    StableHlo.unary main_v13 main_v22_0 id,
    StableHlo.unary main_v15 main_v22_1 id,
    StableHlo.unary main_v16 main_v22_2 id,
    StableHlo.unary main_v17 main_v22_3 id,
    StableHlo.unary main_v18 main_v22_4 id,
    StableHlo.unary main_c main_v22_5 id,
    StableHlo.unary main_v14 main_v22_6 id,
    StableHlo.unary main_v14 main_v22_7 id,
    StableHlo.unary main_v19 main_v22_8 id,
    StableHlo.unary main_v20 main_v22_9 id,
    StableHlo.unary main_v21 main_v22_10 id ]
theorem top0_sub : (top0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.binary_bufs_sub .., StableHlo.unary_bufs_sub .., StableHlo.binary_bufs_sub .., StableHlo.reshape_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem top0_fresh : (top0 : List (HloOp τ sig (Elt F))).Forall fun op => op.fresh = ∅ :=
  StableHlo.forall_fresh_of_map rfl
/-- The buffers that `top0` writes. -/
abbrev top0_W : List (Ref sig .tc) := [main_v0, main_v1, main_v2, main_v3, main_v4, main_v5, main_v6, main_v7, main_v8, main_v9, main_v10, main_v11, main_v12, main_v13, main_cst, main_v14, main_v15, main_v16, main_v17, main_v18, main_cst_0, main_v19, main_cst_1, main_v20, main_cst_2, main_v21, main_c, main_v22_0, main_v22_1, main_v22_2, main_v22_3, main_v22_4, main_v22_5, main_v22_6, main_v22_7, main_v22_8, main_v22_9, main_v22_10]
theorem top0_writes : (top0 : List (HloOp τ sig (Elt F))).Forall fun op => op.writes ⊆ (top0_W.map (Proc.devRef (τ := τ) .tc)).toFinset :=
  StableHlo.forall_writes_sub_of_map rfl

/-- 21 host operations of the main program, in order. -/
abbrev top1 : List (HloOp τ sig (Elt F)) :=
  [ StableHlo.unary main_v22_8 main_v23 ((transpose S2x2x4096x2048 [1, 2, 0, 3] · transposes_S4096x2x2x2048_S2x2x4096x2048_1_2_0_3) : (⟨S4096x2x2x2048, .f32⟩ : BufTy).Contents (Elt F) → (⟨S2x2x4096x2048, .f32⟩ : BufTy).Contents (Elt F)),
    StableHlo.reshape main_v23 main_v24 (rfl : (.f32 : EltTy) = .f32) shapeCasts_S2x2x4096x2048_S2x8192x2048,
    StableHlo.unary main_arg6 main_v25 ((extf .f32 · bitsLt_bf16_f32) : (⟨S2x8192x2048, .bf16⟩ : BufTy).Contents (Elt F) → (⟨S2x8192x2048, .f32⟩ : BufTy).Contents (Elt F)),
    StableHlo.nullary main_cst_3 (constant S_ .f32 0x00000000#32),
    StableHlo.unary main_cst_3 main_v26 (broadcastInDim S2x2048 ![] bcast_S_S2x2048 : (⟨S_, .f32⟩ : BufTy).Contents (Elt F) → (⟨S2x2048, .f32⟩ : BufTy).Contents (Elt F)),
    StableHlo.nullary main_cst_4 (constant S_ .f32 0x00000000#32),
    StableHlo.unary main_cst_4 main_v27 (broadcastInDim S2x2048 ![] bcast_S_S2x2048 : (⟨S_, .f32⟩ : BufTy).Contents (Elt F) → (⟨S2x2048, .f32⟩ : BufTy).Contents (Elt F)),
    StableHlo.reshape main_v25 main_v28 (rfl : (.f32 : EltTy) = .f32) shapeCasts_S2x8192x2048_S2x2x4096x2048,
    StableHlo.unary main_v28 main_v29 ((transpose S4096x2x2x2048 [2, 0, 1, 3] · transposes_S2x2x4096x2048_S4096x2x2x2048_2_0_1_3) : (⟨S2x2x4096x2048, .f32⟩ : BufTy).Contents (Elt F) → (⟨S4096x2x2x2048, .f32⟩ : BufTy).Contents (Elt F)),
    StableHlo.nullary main_cst_5 (constant S_ .f32 0x00000000#32),
    StableHlo.unary main_cst_5 main_v30 (broadcastInDim S2x2048 ![] bcast_S_S2x2048 : (⟨S_, .f32⟩ : BufTy).Contents (Elt F) → (⟨S2x2048, .f32⟩ : BufTy).Contents (Elt F)),
    StableHlo.nullary main_cst_6 (constant S_ .f32 0x00000000#32),
    StableHlo.unary main_cst_6 main_v31 (broadcastInDim S2x2048 ![] bcast_S_S2x2048 : (⟨S_, .f32⟩ : BufTy).Contents (Elt F) → (⟨S2x2048, .f32⟩ : BufTy).Contents (Elt F)),
    StableHlo.nullary main_cst_7 (constant S_ .f32 0x00000000#32),
    StableHlo.unary main_cst_7 main_v32 (broadcastInDim S2048 ![] bcast_S_S2048 : (⟨S_, .f32⟩ : BufTy).Contents (Elt F) → (⟨S2048, .f32⟩ : BufTy).Contents (Elt F)),
    StableHlo.nullary main_cst_8 (constant S_ .f32 0x00000000#32),
    StableHlo.unary main_cst_8 main_v33 (broadcastInDim S2048 ![] bcast_S_S2048 : (⟨S_, .f32⟩ : BufTy).Contents (Elt F) → (⟨S2048, .f32⟩ : BufTy).Contents (Elt F)),
    StableHlo.nullary main_cst_9 (constant S_ .f32 0x00000000#32),
    StableHlo.unary main_cst_9 main_v34 (broadcastInDim S4096x2x2x2048 ![] bcast_S_S4096x2x2x2048 : (⟨S_, .f32⟩ : BufTy).Contents (Elt F) → (⟨S4096x2x2x2048, .f32⟩ : BufTy).Contents (Elt F)),
    StableHlo.nullary main_c_10 (constantI S_ 32 0#32),
    StableHlo.unary main_v29 main_v35_0 id ]
theorem top1_sub : (top1 : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩
theorem top1_fresh : (top1 : List (HloOp τ sig (Elt F))).Forall fun op => op.fresh = ∅ :=
  StableHlo.forall_fresh_of_map rfl
/-- The buffers that `top1` writes. -/
abbrev top1_W : List (Ref sig .tc) := [main_v23, main_v24, main_v25, main_cst_3, main_v26, main_cst_4, main_v27, main_v28, main_v29, main_cst_5, main_v30, main_cst_6, main_v31, main_cst_7, main_v32, main_cst_8, main_v33, main_cst_9, main_v34, main_c_10, main_v35_0]
theorem top1_writes : (top1 : List (HloOp τ sig (Elt F))).Forall fun op => op.writes ⊆ (top1_W.map (Proc.devRef (τ := τ) .tc)).toFinset :=
  StableHlo.forall_writes_sub_of_map rfl

/-- 12 host operations of the main program, in order. -/
abbrev top2 : List (HloOp τ sig (Elt F)) :=
  [ StableHlo.unary main_v22_9 main_v35_1 id,
    StableHlo.unary main_v22_10 main_v35_2 id,
    StableHlo.unary main_v15 main_v35_3 id,
    StableHlo.unary main_v16 main_v35_4 id,
    StableHlo.unary main_v17 main_v35_5 id,
    StableHlo.unary main_v18 main_v35_6 id,
    StableHlo.unary main_c_10 main_v35_7 id,
    StableHlo.unary main_v32 main_v35_8 id,
    StableHlo.unary main_v33 main_v35_9 id,
    StableHlo.unary main_v30 main_v35_10 id,
    StableHlo.unary main_v31 main_v35_11 id,
    StableHlo.unary main_v34 main_v35_12 id ]
theorem top2_sub : (top2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem top2_fresh : (top2 : List (HloOp τ sig (Elt F))).Forall fun op => op.fresh = ∅ :=
  StableHlo.forall_fresh_of_map rfl
/-- The buffers that `top2` writes. -/
abbrev top2_W : List (Ref sig .tc) := [main_v35_1, main_v35_2, main_v35_3, main_v35_4, main_v35_5, main_v35_6, main_v35_7, main_v35_8, main_v35_9, main_v35_10, main_v35_11, main_v35_12]
theorem top2_writes : (top2 : List (HloOp τ sig (Elt F))).Forall fun op => op.writes ⊆ (top2_W.map (Proc.devRef (τ := τ) .tc)).toFinset :=
  StableHlo.forall_writes_sub_of_map rfl

/-- 7 host operations of the main program, in order. -/
abbrev top3 : List (HloOp τ sig (Elt F)) :=
  [ StableHlo.unary main_v35_12 main_v36 ((transpose S2x2x4096x2048 [1, 2, 0, 3] · transposes_S4096x2x2x2048_S2x2x4096x2048_1_2_0_3) : (⟨S4096x2x2x2048, .f32⟩ : BufTy).Contents (Elt F) → (⟨S2x2x4096x2048, .f32⟩ : BufTy).Contents (Elt F)),
    StableHlo.reshape main_v36 main_v37 (rfl : (.f32 : EltTy) = .f32) shapeCasts_S2x2x4096x2048_S2x8192x2048,
    StableHlo.unary main_v24 main_v38 ((truncf .bf16 · bitsLt_bf16_f32) : (⟨S2x8192x2048, .f32⟩ : BufTy).Contents (Elt F) → (⟨S2x8192x2048, .bf16⟩ : BufTy).Contents (Elt F)),
    StableHlo.unary main_v37 main_v39 ((truncf .bf16 · bitsLt_bf16_f32) : (⟨S2x8192x2048, .f32⟩ : BufTy).Contents (Elt F) → (⟨S2x8192x2048, .bf16⟩ : BufTy).Contents (Elt F)),
    StableHlo.unary main_v35_8 main_v40 (broadcastInDim S1x2048 ![1] bcast_S2048_S1x2048_1 : (⟨S2048, .f32⟩ : BufTy).Contents (Elt F) → (⟨S1x2048, .f32⟩ : BufTy).Contents (Elt F)),
    StableHlo.unary main_v35_9 main_v41 (broadcastInDim S1x2048 ![1] bcast_S2048_S1x2048_1 : (⟨S2048, .f32⟩ : BufTy).Contents (Elt F) → (⟨S1x2048, .f32⟩ : BufTy).Contents (Elt F)),
    StableHlo.binary main_v40 main_v41 main_v42 ((fun a b => concatenate S2x2048 0 [⟨S1x2048, a⟩, ⟨S1x2048, b⟩] concatenates_S1x2048_S1x2048_S2x2048_d0) : (⟨S1x2048, .f32⟩ : BufTy).Contents (Elt F) → (⟨S1x2048, .f32⟩ : BufTy).Contents (Elt F) → (⟨S2x2048, .f32⟩ : BufTy).Contents (Elt F)) ]
theorem top3_sub : (top3 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub ..⟩
theorem top3_fresh : (top3 : List (HloOp τ sig (Elt F))).Forall fun op => op.fresh = ∅ :=
  StableHlo.forall_fresh_of_map rfl
/-- The buffers that `top3` writes. -/
abbrev top3_W : List (Ref sig .tc) := [main_v36, main_v37, main_v38, main_v39, main_v40, main_v41, main_v42]
theorem top3_writes : (top3 : List (HloOp τ sig (Elt F))).Forall fun op => op.writes ⊆ (top3_W.map (Proc.devRef (τ := τ) .tc)).toFinset :=
  StableHlo.forall_writes_sub_of_map rfl

/-- 5 host operations of the first loop's body, in order. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v22_0 : StableHlo.TRef sig ⟨S4096x2x2x2048, .f32⟩) ![(.of main_v22_5 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x2x2x2048, .f32⟩) (fun x i => Host.dynamicSlice S1x2x2x2048 x (fun k => (i k (Shape.Idx.first h_S_)).toInt) sliceFits_S4096x2x2x2048_S1x2x2x2048),
    StableHlo.TRef.reshape (.of main_while0b_call0_v0 : StableHlo.TRef sig ⟨S1x2x2x2048, .f32⟩) (.of main_while0b_v43 : StableHlo.TRef sig ⟨S2x2x2048, .f32⟩) (rfl : (.f32 : EltTy) = .f32) shapeCasts_S1x2x2x2048_S2x2x2048 ]
theorem fwd0_sub : (fwd0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd0_fresh : (fwd0 : List (HloOp τ sig (Elt F))).Forall fun op => op.fresh = ∅ :=
  StableHlo.forall_fresh_of_map rfl
/-- The buffers that `fwd0` writes. -/
abbrev fwd0_W : List (Ref sig .tc) := [main_while0b_call0_c, main_while0b_call0_c_0, main_while0b_call0_c_1, main_while0b_call0_v0, main_while0b_v43]
theorem fwd0_writes : (fwd0 : List (HloOp τ sig (Elt F))).Forall fun op => op.writes ⊆ (fwd0_W.map (Proc.devRef (τ := τ) .tc)).toFinset :=
  StableHlo.forall_writes_sub_of_map rfl

/-- 19 host operations of the first loop's body, in order. -/
abbrev fwd1 : List (HloOp τ sig (Elt F)) :=
  [ StableHlo.unary main_v22_1 main_while0b_v44 (broadcastInDim S2x2048 ![0, 1] bcast_S1x2048_S2x2048_0_1 : (⟨S1x2048, .f32⟩ : BufTy).Contents (Elt F) → (⟨S2x2048, .f32⟩ : BufTy).Contents (Elt F)),
    StableHlo.binary main_while0b_v44 main_v22_6 main_while0b_v45 (mulf : (⟨S2x2048, .f32⟩ : BufTy).Contents (Elt F) → (⟨S2x2048, .f32⟩ : BufTy).Contents (Elt F) → (⟨S2x2048, .f32⟩ : BufTy).Contents (Elt F)),
    StableHlo.unary main_v22_2 main_while0b_v46 (broadcastInDim S2x2048 ![0, 1] bcast_S1x2048_S2x2048_0_1 : (⟨S1x2048, .f32⟩ : BufTy).Contents (Elt F) → (⟨S2x2048, .f32⟩ : BufTy).Contents (Elt F)),
    StableHlo.binary main_while0b_v46 main_v22_7 main_while0b_v47 (mulf : (⟨S2x2048, .f32⟩ : BufTy).Contents (Elt F) → (⟨S2x2048, .f32⟩ : BufTy).Contents (Elt F) → (⟨S2x2048, .f32⟩ : BufTy).Contents (Elt F)),
    StableHlo.binary main_while0b_v45 main_while0b_v47 main_while0b_v48 (subf : (⟨S2x2048, .f32⟩ : BufTy).Contents (Elt F) → (⟨S2x2048, .f32⟩ : BufTy).Contents (Elt F) → (⟨S2x2048, .f32⟩ : BufTy).Contents (Elt F)),
    StableHlo.unary main_while0b_v43 main_while0b_v49 ((extractStridedSlice S1x2x2048 ![0, 0, 0] · slices_S2x2x2048_S1x2x2048_0_0_0) : (⟨S2x2x2048, .f32⟩ : BufTy).Contents (Elt F) → (⟨S1x2x2048, .f32⟩ : BufTy).Contents (Elt F)),
    StableHlo.reshape main_while0b_v49 main_while0b_v50 (rfl : (.f32 : EltTy) = .f32) shapeCasts_S1x2x2048_S2x2048,
    StableHlo.binary main_while0b_v48 main_while0b_v50 main_while0b_v51 (addf : (⟨S2x2048, .f32⟩ : BufTy).Contents (Elt F) → (⟨S2x2048, .f32⟩ : BufTy).Contents (Elt F) → (⟨S2x2048, .f32⟩ : BufTy).Contents (Elt F)),
    StableHlo.unary main_v22_3 main_while0b_v52 (broadcastInDim S2x2048 ![0, 1] bcast_S1x2048_S2x2048_0_1 : (⟨S1x2048, .f32⟩ : BufTy).Contents (Elt F) → (⟨S2x2048, .f32⟩ : BufTy).Contents (Elt F)),
    StableHlo.binary main_while0b_v52 main_v22_7 main_while0b_v53 (mulf : (⟨S2x2048, .f32⟩ : BufTy).Contents (Elt F) → (⟨S2x2048, .f32⟩ : BufTy).Contents (Elt F) → (⟨S2x2048, .f32⟩ : BufTy).Contents (Elt F)),
    StableHlo.unary main_v22_4 main_while0b_v54 (broadcastInDim S2x2048 ![0, 1] bcast_S1x2048_S2x2048_0_1 : (⟨S1x2048, .f32⟩ : BufTy).Contents (Elt F) → (⟨S2x2048, .f32⟩ : BufTy).Contents (Elt F)),
    StableHlo.binary main_while0b_v54 main_v22_6 main_while0b_v55 (mulf : (⟨S2x2048, .f32⟩ : BufTy).Contents (Elt F) → (⟨S2x2048, .f32⟩ : BufTy).Contents (Elt F) → (⟨S2x2048, .f32⟩ : BufTy).Contents (Elt F)),
    StableHlo.binary main_while0b_v53 main_while0b_v55 main_while0b_v56 (addf : (⟨S2x2048, .f32⟩ : BufTy).Contents (Elt F) → (⟨S2x2048, .f32⟩ : BufTy).Contents (Elt F) → (⟨S2x2048, .f32⟩ : BufTy).Contents (Elt F)),
    StableHlo.unary main_while0b_v43 main_while0b_v57 ((extractStridedSlice S1x2x2048 ![1, 0, 0] · slices_S2x2x2048_S1x2x2048_1_0_0) : (⟨S2x2x2048, .f32⟩ : BufTy).Contents (Elt F) → (⟨S1x2x2048, .f32⟩ : BufTy).Contents (Elt F)),
    StableHlo.reshape main_while0b_v57 main_while0b_v58 (rfl : (.f32 : EltTy) = .f32) shapeCasts_S1x2x2048_S2x2048,
    StableHlo.binary main_while0b_v56 main_while0b_v58 main_while0b_v59 (addf : (⟨S2x2048, .f32⟩ : BufTy).Contents (Elt F) → (⟨S2x2048, .f32⟩ : BufTy).Contents (Elt F) → (⟨S2x2048, .f32⟩ : BufTy).Contents (Elt F)),
    StableHlo.unary main_while0b_v51 main_while0b_v60 (broadcastInDim S1x2x2048 ![1, 2] bcast_S2x2048_S1x2x2048_1_2 : (⟨S2x2048, .f32⟩ : BufTy).Contents (Elt F) → (⟨S1x2x2048, .f32⟩ : BufTy).Contents (Elt F)),
    StableHlo.unary main_while0b_v59 main_while0b_v61 (broadcastInDim S1x2x2048 ![1, 2] bcast_S2x2048_S1x2x2048_1_2 : (⟨S2x2048, .f32⟩ : BufTy).Contents (Elt F) → (⟨S1x2x2048, .f32⟩ : BufTy).Contents (Elt F)),
    StableHlo.binary main_while0b_v60 main_while0b_v61 main_while0b_v62 ((fun a b => concatenate S2x2x2048 0 [⟨S1x2x2048, a⟩, ⟨S1x2x2048, b⟩] concatenates_S1x2x2048_S1x2x2048_S2x2x2048_d0) : (⟨S1x2x2048, .f32⟩ : BufTy).Contents (Elt F) → (⟨S1x2x2048, .f32⟩ : BufTy).Contents (Elt F) → (⟨S2x2x2048, .f32⟩ : BufTy).Contents (Elt F)) ]
theorem fwd1_sub : (fwd1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.unary_bufs_sub .., StableHlo.binary_bufs_sub ..⟩
theorem fwd1_fresh : (fwd1 : List (HloOp τ sig (Elt F))).Forall fun op => op.fresh = ∅ :=
  StableHlo.forall_fresh_of_map rfl
/-- The buffers that `fwd1` writes. -/
abbrev fwd1_W : List (Ref sig .tc) := [main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62]
theorem fwd1_writes : (fwd1 : List (HloOp τ sig (Elt F))).Forall fun op => op.writes ⊆ (fwd1_W.map (Proc.devRef (τ := τ) .tc)).toFinset :=
  StableHlo.forall_writes_sub_of_map rfl

/-- 5 host operations of the first loop's body, in order. -/
abbrev fwd2 : List (HloOp τ sig (Elt F)) :=
  [ StableHlo.TRef.unary (.of main_while0b_v62 : StableHlo.TRef sig ⟨S2x2x2048, .f32⟩) (.of main_while0b_call1_v0 : StableHlo.TRef sig ⟨S1x2x2x2048, .f32⟩) (broadcastInDim S1x2x2x2048 ![1, 2, 3] bcast_S2x2x2048_S1x2x2x2048_1_2_3),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.binaryIndexed (.of main_v22_8 : StableHlo.TRef sig ⟨S4096x2x2x2048, .f32⟩) (.of main_while0b_call1_v0 : StableHlo.TRef sig ⟨S1x2x2x2048, .f32⟩) ![(.of main_v22_5 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_v63 : StableHlo.TRef sig ⟨S4096x2x2x2048, .f32⟩) (fun x u i => Host.dynamicUpdateSlice x u (fun k => (i k (Shape.Idx.first h_S_)).toInt) updateFits_S4096x2x2x2048_S1x2x2x2048) ]
theorem fwd2_sub : (fwd2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd2_fresh : (fwd2 : List (HloOp τ sig (Elt F))).Forall fun op => op.fresh = ∅ :=
  StableHlo.forall_fresh_of_map rfl
/-- The buffers that `fwd2` writes. -/
abbrev fwd2_W : List (Ref sig .tc) := [main_while0b_call1_v0, main_while0b_call1_c, main_while0b_call1_c_0, main_while0b_call1_c_1, main_while0b_v63]
theorem fwd2_writes : (fwd2 : List (HloOp τ sig (Elt F))).Forall fun op => op.writes ⊆ (fwd2_W.map (Proc.devRef (τ := τ) .tc)).toFinset :=
  StableHlo.forall_writes_sub_of_map rfl

/-- 4 host operations of the first loop's body, in order. -/
abbrev fwd3 : List (HloOp τ sig (Elt F)) :=
  [ StableHlo.TRef.unary (.of main_v22_6 : StableHlo.TRef sig ⟨S2x2048, .f32⟩) (.of main_while0b_call2_v0 : StableHlo.TRef sig ⟨S1x2x2048, .f32⟩) (broadcastInDim S1x2x2048 ![1, 2] bcast_S2x2048_S1x2x2048_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v22_9 : StableHlo.TRef sig ⟨S4096x2x2048, .f32⟩) (.of main_while0b_call2_v0 : StableHlo.TRef sig ⟨S1x2x2048, .f32⟩) ![(.of main_v22_5 : StableHlo.TRef sig ⟨S_, .i32⟩), (.of main_while0b_call2_c : StableHlo.TRef sig ⟨S_, .i32⟩), (.of main_while0b_call2_c_0 : StableHlo.TRef sig ⟨S_, .i32⟩)] (.of main_while0b_v64 : StableHlo.TRef sig ⟨S4096x2x2048, .f32⟩) (fun x u i => Host.dynamicUpdateSlice x u (fun k => (i k (Shape.Idx.first h_S_)).toInt) updateFits_S4096x2x2048_S1x2x2048) ]
theorem fwd3_sub : (fwd3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fwd3_fresh : (fwd3 : List (HloOp τ sig (Elt F))).Forall fun op => op.fresh = ∅ :=
  StableHlo.forall_fresh_of_map rfl
/-- The buffers that `fwd3` writes. -/
abbrev fwd3_W : List (Ref sig .tc) := [main_while0b_call2_v0, main_while0b_call2_c, main_while0b_call2_c_0, main_while0b_v64]
theorem fwd3_writes : (fwd3 : List (HloOp τ sig (Elt F))).Forall fun op => op.writes ⊆ (fwd3_W.map (Proc.devRef (τ := τ) .tc)).toFinset :=
  StableHlo.forall_writes_sub_of_map rfl

/-- 4 host operations of the first loop's body, in order. -/
abbrev fwd4 : List (HloOp τ sig (Elt F)) :=
  [ StableHlo.TRef.unary (.of main_v22_7 : StableHlo.TRef sig ⟨S2x2048, .f32⟩) (.of main_while0b_call3_v0 : StableHlo.TRef sig ⟨S1x2x2048, .f32⟩) (broadcastInDim S1x2x2048 ![1, 2] bcast_S2x2048_S1x2x2048_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v22_10 : StableHlo.TRef sig ⟨S4096x2x2048, .f32⟩) (.of main_while0b_call3_v0 : StableHlo.TRef sig ⟨S1x2x2048, .f32⟩) ![(.of main_v22_5 : StableHlo.TRef sig ⟨S_, .i32⟩), (.of main_while0b_call3_c : StableHlo.TRef sig ⟨S_, .i32⟩), (.of main_while0b_call3_c_0 : StableHlo.TRef sig ⟨S_, .i32⟩)] (.of main_while0b_v65 : StableHlo.TRef sig ⟨S4096x2x2048, .f32⟩) (fun x u i => Host.dynamicUpdateSlice x u (fun k => (i k (Shape.Idx.first h_S_)).toInt) updateFits_S4096x2x2048_S1x2x2048) ]
theorem fwd4_sub : (fwd4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fwd4_fresh : (fwd4 : List (HloOp τ sig (Elt F))).Forall fun op => op.fresh = ∅ :=
  StableHlo.forall_fresh_of_map rfl
/-- The buffers that `fwd4` writes. -/
abbrev fwd4_W : List (Ref sig .tc) := [main_while0b_call3_v0, main_while0b_call3_c, main_while0b_call3_c_0, main_while0b_v65]
theorem fwd4_writes : (fwd4 : List (HloOp τ sig (Elt F))).Forall fun op => op.writes ⊆ (fwd4_W.map (Proc.devRef (τ := τ) .tc)).toFinset :=
  StableHlo.forall_writes_sub_of_map rfl

/-- 8 host operations of the first loop's body, in order. -/
abbrev fwd5 : List (HloOp τ sig (Elt F)) :=
  [ StableHlo.nullary main_while0b_c_21 (constantI S_ 32 1#32),
    StableHlo.binary main_v22_5 main_while0b_c_21 main_while0b_v66 (addi : (⟨S_, .i32⟩ : BufTy).Contents (Elt F) → (⟨S_, .i32⟩ : BufTy).Contents (Elt F) → (⟨S_, .i32⟩ : BufTy).Contents (Elt F)),
    StableHlo.unary main_while0b_v66 main_v22_5 id,
    StableHlo.unary main_while0b_v51 main_v22_6 id,
    StableHlo.unary main_while0b_v59 main_v22_7 id,
    StableHlo.unary main_while0b_v63 main_v22_8 id,
    StableHlo.unary main_while0b_v64 main_v22_9 id,
    StableHlo.unary main_while0b_v65 main_v22_10 id ]
theorem fwd5_sub : (fwd5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem fwd5_fresh : (fwd5 : List (HloOp τ sig (Elt F))).Forall fun op => op.fresh = ∅ :=
  StableHlo.forall_fresh_of_map rfl
/-- The buffers that `fwd5` writes. -/
abbrev fwd5_W : List (Ref sig .tc) := [main_while0b_c_21, main_while0b_v66, main_v22_5, main_v22_6, main_v22_7, main_v22_8, main_v22_9, main_v22_10]
theorem fwd5_writes : (fwd5 : List (HloOp τ sig (Elt F))).Forall fun op => op.writes ⊆ (fwd5_W.map (Proc.devRef (τ := τ) .tc)).toFinset :=
  StableHlo.forall_writes_sub_of_map rfl

/-- 4 host operations of the second loop's body, in order. -/
abbrev bwd0 : List (HloOp τ sig (Elt F)) :=
  [ StableHlo.nullary main_while1b_c_23 (constantI S_ 32 4096#32),
    StableHlo.binary main_while1b_c_23 main_v35_7 main_while1b_v43 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v43 main_while1b_c_24 main_while1b_v44 (subi : (⟨S_, .i32⟩ : BufTy).Contents (Elt F) → (⟨S_, .i32⟩ : BufTy).Contents (Elt F) → (⟨S_, .i32⟩ : BufTy).Contents (Elt F)) ]
theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwd0_fresh : (bwd0 : List (HloOp τ sig (Elt F))).Forall fun op => op.fresh = ∅ :=
  StableHlo.forall_fresh_of_map rfl
/-- The buffers that `bwd0` writes. -/
abbrev bwd0_W : List (Ref sig .tc) := [main_while1b_c_23, main_while1b_v43, main_while1b_c_24, main_while1b_v44]
theorem bwd0_writes : (bwd0 : List (HloOp τ sig (Elt F))).Forall fun op => op.writes ⊆ (bwd0_W.map (Proc.devRef (τ := τ) .tc)).toFinset :=
  StableHlo.forall_writes_sub_of_map rfl

/-- 5 host operations of the second loop's body, in order. -/
abbrev bwd1 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.unaryIndexed (.of main_v35_0 : StableHlo.TRef sig ⟨S4096x2x2x2048, .f32⟩) ![(.of main_while1b_v44 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩)] (.of main_while1b_call4_v0 : StableHlo.TRef sig ⟨S1x2x2x2048, .f32⟩) (fun x i => Host.dynamicSlice S1x2x2x2048 x (fun k => (i k (Shape.Idx.first h_S_)).toInt) sliceFits_S4096x2x2x2048_S1x2x2x2048),
    StableHlo.TRef.reshape (.of main_while1b_call4_v0 : StableHlo.TRef sig ⟨S1x2x2x2048, .f32⟩) (.of main_while1b_v45 : StableHlo.TRef sig ⟨S2x2x2048, .f32⟩) (rfl : (.f32 : EltTy) = .f32) shapeCasts_S1x2x2x2048_S2x2x2048 ]
theorem bwd1_sub : (bwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd1_fresh : (bwd1 : List (HloOp τ sig (Elt F))).Forall fun op => op.fresh = ∅ :=
  StableHlo.forall_fresh_of_map rfl
/-- The buffers that `bwd1` writes. -/
abbrev bwd1_W : List (Ref sig .tc) := [main_while1b_call4_c, main_while1b_call4_c_0, main_while1b_call4_c_1, main_while1b_call4_v0, main_while1b_v45]
theorem bwd1_writes : (bwd1 : List (HloOp τ sig (Elt F))).Forall fun op => op.writes ⊆ (bwd1_W.map (Proc.devRef (τ := τ) .tc)).toFinset :=
  StableHlo.forall_writes_sub_of_map rfl

/-- 4 host operations of the second loop's body, in order. -/
abbrev bwd2 : List (HloOp τ sig (Elt F)) :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.unaryIndexed (.of main_v35_1 : StableHlo.TRef sig ⟨S4096x2x2048, .f32⟩) ![(.of main_while1b_v44 : StableHlo.TRef sig ⟨S_, .i32⟩), (.of main_while1b_call5_c : StableHlo.TRef sig ⟨S_, .i32⟩), (.of main_while1b_call5_c_0 : StableHlo.TRef sig ⟨S_, .i32⟩)] (.of main_while1b_call5_v0 : StableHlo.TRef sig ⟨S1x2x2048, .f32⟩) (fun x i => Host.dynamicSlice S1x2x2048 x (fun k => (i k (Shape.Idx.first h_S_)).toInt) sliceFits_S4096x2x2048_S1x2x2048),
    StableHlo.TRef.reshape (.of main_while1b_call5_v0 : StableHlo.TRef sig ⟨S1x2x2048, .f32⟩) (.of main_while1b_v46 : StableHlo.TRef sig ⟨S2x2048, .f32⟩) (rfl : (.f32 : EltTy) = .f32) shapeCasts_S1x2x2048_S2x2048 ]
theorem bwd2_sub : (bwd2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwd2_fresh : (bwd2 : List (HloOp τ sig (Elt F))).Forall fun op => op.fresh = ∅ :=
  StableHlo.forall_fresh_of_map rfl
/-- The buffers that `bwd2` writes. -/
abbrev bwd2_W : List (Ref sig .tc) := [main_while1b_call5_c, main_while1b_call5_c_0, main_while1b_call5_v0, main_while1b_v46]
theorem bwd2_writes : (bwd2 : List (HloOp τ sig (Elt F))).Forall fun op => op.writes ⊆ (bwd2_W.map (Proc.devRef (τ := τ) .tc)).toFinset :=
  StableHlo.forall_writes_sub_of_map rfl

/-- 4 host operations of the second loop's body, in order. -/
abbrev bwd3 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v35_2 : StableHlo.TRef sig ⟨S4096x2x2048, .f32⟩) ![(.of main_while1b_v44 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x2x2048, .f32⟩) (fun x i => Host.dynamicSlice S1x2x2048 x (fun k => (i k (Shape.Idx.first h_S_)).toInt) sliceFits_S4096x2x2048_S1x2x2048),
    StableHlo.TRef.reshape (.of main_while1b_call6_v0 : StableHlo.TRef sig ⟨S1x2x2048, .f32⟩) (.of main_while1b_v47 : StableHlo.TRef sig ⟨S2x2048, .f32⟩) (rfl : (.f32 : EltTy) = .f32) shapeCasts_S1x2x2048_S2x2048 ]
theorem bwd3_sub : (bwd3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwd3_fresh : (bwd3 : List (HloOp τ sig (Elt F))).Forall fun op => op.fresh = ∅ :=
  StableHlo.forall_fresh_of_map rfl
/-- The buffers that `bwd3` writes. -/
abbrev bwd3_W : List (Ref sig .tc) := [main_while1b_call6_c, main_while1b_call6_c_0, main_while1b_call6_v0, main_while1b_v47]
theorem bwd3_writes : (bwd3 : List (HloOp τ sig (Elt F))).Forall fun op => op.writes ⊆ (bwd3_W.map (Proc.devRef (τ := τ) .tc)).toFinset :=
  StableHlo.forall_writes_sub_of_map rfl

/-- 52 host operations of the second loop's body, in order. -/
abbrev bwd4 : List (HloOp τ sig (Elt F)) :=
  [ StableHlo.unary main_while1b_v45 main_while1b_v48 ((extractStridedSlice S1x2x2048 ![0, 0, 0] · slices_S2x2x2048_S1x2x2048_0_0_0) : (⟨S2x2x2048, .f32⟩ : BufTy).Contents (Elt F) → (⟨S1x2x2048, .f32⟩ : BufTy).Contents (Elt F)),
    StableHlo.reshape main_while1b_v48 main_while1b_v49 (rfl : (.f32 : EltTy) = .f32) shapeCasts_S1x2x2048_S2x2048,
    StableHlo.unary main_while1b_v45 main_while1b_v50 ((extractStridedSlice S1x2x2048 ![1, 0, 0] · slices_S2x2x2048_S1x2x2048_1_0_0) : (⟨S2x2x2048, .f32⟩ : BufTy).Contents (Elt F) → (⟨S1x2x2048, .f32⟩ : BufTy).Contents (Elt F)),
    StableHlo.reshape main_while1b_v50 main_while1b_v51 (rfl : (.f32 : EltTy) = .f32) shapeCasts_S1x2x2048_S2x2048,
    StableHlo.binary main_v35_10 main_while1b_v49 main_while1b_v52 (addf : (⟨S2x2048, .f32⟩ : BufTy).Contents (Elt F) → (⟨S2x2048, .f32⟩ : BufTy).Contents (Elt F) → (⟨S2x2048, .f32⟩ : BufTy).Contents (Elt F)),
    StableHlo.binary main_v35_11 main_while1b_v51 main_while1b_v53 (addf : (⟨S2x2048, .f32⟩ : BufTy).Contents (Elt F) → (⟨S2x2048, .f32⟩ : BufTy).Contents (Elt F) → (⟨S2x2048, .f32⟩ : BufTy).Contents (Elt F)),
    StableHlo.unary main_while1b_v53 main_while1b_v54 (broadcastInDim S1x2x2048 ![1, 2] bcast_S2x2048_S1x2x2048_1_2 : (⟨S2x2048, .f32⟩ : BufTy).Contents (Elt F) → (⟨S1x2x2048, .f32⟩ : BufTy).Contents (Elt F)),
    StableHlo.nullary main_while1b_cst_25 (constant S_ .f32 0x00000000#32),
    StableHlo.binary main_while1b_v54 main_while1b_cst_25 main_while1b_v55 ((fun x v => pad S2x2x2048 ![1, 0, 0] ![0, 0, 0] ![0, 0, 0] x v pads_S1x2x2048_S2x2x2048_100_000_000 h_S_) : (⟨S1x2x2048, .f32⟩ : BufTy).Contents (Elt F) → (⟨S_, .f32⟩ : BufTy).Contents (Elt F) → (⟨S2x2x2048, .f32⟩ : BufTy).Contents (Elt F)),
    StableHlo.unary main_v35_6 main_while1b_v56 (broadcastInDim S2x2048 ![0, 1] bcast_S1x2048_S2x2048_0_1 : (⟨S1x2048, .f32⟩ : BufTy).Contents (Elt F) → (⟨S2x2048, .f32⟩ : BufTy).Contents (Elt F)),
    StableHlo.binary main_while1b_v56 main_while1b_v53 main_while1b_v57 (mulf : (⟨S2x2048, .f32⟩ : BufTy).Contents (Elt F) → (⟨S2x2048, .f32⟩ : BufTy).Contents (Elt F) → (⟨S2x2048, .f32⟩ : BufTy).Contents (Elt F)),
    StableHlo.binary main_while1b_v53 main_while1b_v46 main_while1b_v58 (mulf : (⟨S2x2048, .f32⟩ : BufTy).Contents (Elt F) → (⟨S2x2048, .f32⟩ : BufTy).Contents (Elt F) → (⟨S2x2048, .f32⟩ : BufTy).Contents (Elt F)),
    StableHlo.nullary main_while1b_cst_26 (constant S_ .f32 0x00000000#32),
    StableHlo.binary main_while1b_v58 main_while1b_cst_26 main_while1b_v59 ((fun x v => Host.reduceAdd x v reducesTo_S2x2048_S2048_d0 h_S_) : (⟨S2x2048, .f32⟩ : BufTy).Contents (Elt F) → (⟨S_, .f32⟩ : BufTy).Contents (Elt F) → (⟨S2048, .f32⟩ : BufTy).Contents (Elt F)),
    StableHlo.reshape main_while1b_v59 main_while1b_v60 (rfl : (.f32 : EltTy) = .f32) shapeCasts_S2048_S1x2048,
    StableHlo.nullary main_while1b_cst_27 (constant S_ .f32 0x00000000#32),
    StableHlo.binary main_while1b_v60 main_while1b_cst_27 main_while1b_v61 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    StableHlo.binary main_v35_9 main_while1b_v61 main_while1b_v62 (addf : (⟨S2048, .f32⟩ : BufTy).Contents (Elt F) → (⟨S2048, .f32⟩ : BufTy).Contents (Elt F) → (⟨S2048, .f32⟩ : BufTy).Contents (Elt F)),
    StableHlo.unary main_v35_5 main_while1b_v63 (broadcastInDim S2x2048 ![0, 1] bcast_S1x2048_S2x2048_0_1 : (⟨S1x2048, .f32⟩ : BufTy).Contents (Elt F) → (⟨S2x2048, .f32⟩ : BufTy).Contents (Elt F)),
    StableHlo.binary main_while1b_v63 main_while1b_v53 main_while1b_v64 (mulf : (⟨S2x2048, .f32⟩ : BufTy).Contents (Elt F) → (⟨S2x2048, .f32⟩ : BufTy).Contents (Elt F) → (⟨S2x2048, .f32⟩ : BufTy).Contents (Elt F)),
    StableHlo.binary main_while1b_v53 main_while1b_v47 main_while1b_v65 (mulf : (⟨S2x2048, .f32⟩ : BufTy).Contents (Elt F) → (⟨S2x2048, .f32⟩ : BufTy).Contents (Elt F) → (⟨S2x2048, .f32⟩ : BufTy).Contents (Elt F)),
    StableHlo.nullary main_while1b_cst_28 (constant S_ .f32 0x00000000#32),
    StableHlo.binary main_while1b_v65 main_while1b_cst_28 main_while1b_v66 ((fun x v => Host.reduceAdd x v reducesTo_S2x2048_S2048_d0 h_S_) : (⟨S2x2048, .f32⟩ : BufTy).Contents (Elt F) → (⟨S_, .f32⟩ : BufTy).Contents (Elt F) → (⟨S2048, .f32⟩ : BufTy).Contents (Elt F)),
    StableHlo.reshape main_while1b_v66 main_while1b_v67 (rfl : (.f32 : EltTy) = .f32) shapeCasts_S2048_S1x2048,
    StableHlo.nullary main_while1b_cst_29 (constant S_ .f32 0x00000000#32),
    StableHlo.binary main_while1b_v67 main_while1b_cst_29 main_while1b_v68 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    StableHlo.binary main_v35_8 main_while1b_v68 main_while1b_v69 (addf : (⟨S2048, .f32⟩ : BufTy).Contents (Elt F) → (⟨S2048, .f32⟩ : BufTy).Contents (Elt F) → (⟨S2048, .f32⟩ : BufTy).Contents (Elt F)),
    StableHlo.unary main_while1b_v52 main_while1b_v70 (broadcastInDim S1x2x2048 ![1, 2] bcast_S2x2048_S1x2x2048_1_2 : (⟨S2x2048, .f32⟩ : BufTy).Contents (Elt F) → (⟨S1x2x2048, .f32⟩ : BufTy).Contents (Elt F)),
    StableHlo.nullary main_while1b_cst_30 (constant S_ .f32 0x00000000#32),
    StableHlo.binary main_while1b_v70 main_while1b_cst_30 main_while1b_v71 ((fun x v => pad S2x2x2048 ![0, 0, 0] ![1, 0, 0] ![0, 0, 0] x v pads_S1x2x2048_S2x2x2048_010_000_000 h_S_) : (⟨S1x2x2048, .f32⟩ : BufTy).Contents (Elt F) → (⟨S_, .f32⟩ : BufTy).Contents (Elt F) → (⟨S2x2x2048, .f32⟩ : BufTy).Contents (Elt F)),
    StableHlo.binary main_while1b_v55 main_while1b_v71 main_while1b_v72 (addf : (⟨S2x2x2048, .f32⟩ : BufTy).Contents (Elt F) → (⟨S2x2x2048, .f32⟩ : BufTy).Contents (Elt F) → (⟨S2x2x2048, .f32⟩ : BufTy).Contents (Elt F)),
    StableHlo.unary main_while1b_v52 main_while1b_v73 (Host.negf : (⟨S2x2048, .f32⟩ : BufTy).Contents (Elt F) → (⟨S2x2048, .f32⟩ : BufTy).Contents (Elt F)),
    StableHlo.unary main_v35_4 main_while1b_v74 (broadcastInDim S2x2048 ![0, 1] bcast_S1x2048_S2x2048_0_1 : (⟨S1x2048, .f32⟩ : BufTy).Contents (Elt F) → (⟨S2x2048, .f32⟩ : BufTy).Contents (Elt F)),
    StableHlo.binary main_while1b_v74 main_while1b_v73 main_while1b_v75 (mulf : (⟨S2x2048, .f32⟩ : BufTy).Contents (Elt F) → (⟨S2x2048, .f32⟩ : BufTy).Contents (Elt F) → (⟨S2x2048, .f32⟩ : BufTy).Contents (Elt F)),
    StableHlo.binary main_while1b_v64 main_while1b_v75 main_while1b_v76 (addf : (⟨S2x2048, .f32⟩ : BufTy).Contents (Elt F) → (⟨S2x2048, .f32⟩ : BufTy).Contents (Elt F) → (⟨S2x2048, .f32⟩ : BufTy).Contents (Elt F)),
    StableHlo.binary main_while1b_v73 main_while1b_v47 main_while1b_v77 (mulf : (⟨S2x2048, .f32⟩ : BufTy).Contents (Elt F) → (⟨S2x2048, .f32⟩ : BufTy).Contents (Elt F) → (⟨S2x2048, .f32⟩ : BufTy).Contents (Elt F)),
    StableHlo.nullary main_while1b_cst_31 (constant S_ .f32 0x00000000#32),
    StableHlo.binary main_while1b_v77 main_while1b_cst_31 main_while1b_v78 ((fun x v => Host.reduceAdd x v reducesTo_S2x2048_S2048_d0 h_S_) : (⟨S2x2048, .f32⟩ : BufTy).Contents (Elt F) → (⟨S_, .f32⟩ : BufTy).Contents (Elt F) → (⟨S2048, .f32⟩ : BufTy).Contents (Elt F)),
    StableHlo.reshape main_while1b_v78 main_while1b_v79 (rfl : (.f32 : EltTy) = .f32) shapeCasts_S2048_S1x2048,
    StableHlo.nullary main_while1b_cst_32 (constant S_ .f32 0x00000000#32),
    StableHlo.binary main_while1b_v79 main_while1b_cst_32 main_while1b_v80 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    StableHlo.binary main_while1b_v62 main_while1b_v80 main_while1b_v81 (addf : (⟨S2048, .f32⟩ : BufTy).Contents (Elt F) → (⟨S2048, .f32⟩ : BufTy).Contents (Elt F) → (⟨S2048, .f32⟩ : BufTy).Contents (Elt F)),
    StableHlo.unary main_v35_3 main_while1b_v82 (broadcastInDim S2x2048 ![0, 1] bcast_S1x2048_S2x2048_0_1 : (⟨S1x2048, .f32⟩ : BufTy).Contents (Elt F) → (⟨S2x2048, .f32⟩ : BufTy).Contents (Elt F)),
    StableHlo.binary main_while1b_v82 main_while1b_v52 main_while1b_v83 (mulf : (⟨S2x2048, .f32⟩ : BufTy).Contents (Elt F) → (⟨S2x2048, .f32⟩ : BufTy).Contents (Elt F) → (⟨S2x2048, .f32⟩ : BufTy).Contents (Elt F)),
    StableHlo.binary main_while1b_v57 main_while1b_v83 main_while1b_v84 (addf : (⟨S2x2048, .f32⟩ : BufTy).Contents (Elt F) → (⟨S2x2048, .f32⟩ : BufTy).Contents (Elt F) → (⟨S2x2048, .f32⟩ : BufTy).Contents (Elt F)),
    StableHlo.binary main_while1b_v52 main_while1b_v46 main_while1b_v85 (mulf : (⟨S2x2048, .f32⟩ : BufTy).Contents (Elt F) → (⟨S2x2048, .f32⟩ : BufTy).Contents (Elt F) → (⟨S2x2048, .f32⟩ : BufTy).Contents (Elt F)),
    StableHlo.nullary main_while1b_cst_33 (constant S_ .f32 0x00000000#32),
    StableHlo.binary main_while1b_v85 main_while1b_cst_33 main_while1b_v86 ((fun x v => Host.reduceAdd x v reducesTo_S2x2048_S2048_d0 h_S_) : (⟨S2x2048, .f32⟩ : BufTy).Contents (Elt F) → (⟨S_, .f32⟩ : BufTy).Contents (Elt F) → (⟨S2048, .f32⟩ : BufTy).Contents (Elt F)),
    StableHlo.reshape main_while1b_v86 main_while1b_v87 (rfl : (.f32 : EltTy) = .f32) shapeCasts_S2048_S1x2048,
    StableHlo.nullary main_while1b_cst_34 (constant S_ .f32 0x00000000#32),
    StableHlo.binary main_while1b_v87 main_while1b_cst_34 main_while1b_v88 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    StableHlo.binary main_while1b_v69 main_while1b_v88 main_while1b_v89 (addf : (⟨S2048, .f32⟩ : BufTy).Contents (Elt F) → (⟨S2048, .f32⟩ : BufTy).Contents (Elt F) → (⟨S2048, .f32⟩ : BufTy).Contents (Elt F)) ]
theorem bwd4_sub : (bwd4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub ..⟩
theorem bwd4_fresh : (bwd4 : List (HloOp τ sig (Elt F))).Forall fun op => op.fresh = ∅ :=
  StableHlo.forall_fresh_of_map rfl
/-- The buffers that `bwd4` writes. -/
abbrev bwd4_W : List (Ref sig .tc) := [main_while1b_v48, main_while1b_v49, main_while1b_v50, main_while1b_v51, main_while1b_v52, main_while1b_v53, main_while1b_v54, main_while1b_cst_25, main_while1b_v55, main_while1b_v56, main_while1b_v57, main_while1b_v58, main_while1b_cst_26, main_while1b_v59, main_while1b_v60, main_while1b_cst_27, main_while1b_v61, main_while1b_v62, main_while1b_v63, main_while1b_v64, main_while1b_v65, main_while1b_cst_28, main_while1b_v66, main_while1b_v67, main_while1b_cst_29, main_while1b_v68, main_while1b_v69, main_while1b_v70, main_while1b_cst_30, main_while1b_v71, main_while1b_v72, main_while1b_v73, main_while1b_v74, main_while1b_v75, main_while1b_v76, main_while1b_v77, main_while1b_cst_31, main_while1b_v78, main_while1b_v79, main_while1b_cst_32, main_while1b_v80, main_while1b_v81, main_while1b_v82, main_while1b_v83, main_while1b_v84, main_while1b_v85, main_while1b_cst_33, main_while1b_v86, main_while1b_v87, main_while1b_cst_34, main_while1b_v88, main_while1b_v89]
theorem bwd4_writes : (bwd4 : List (HloOp τ sig (Elt F))).Forall fun op => op.writes ⊆ (bwd4_W.map (Proc.devRef (τ := τ) .tc)).toFinset :=
  StableHlo.forall_writes_sub_of_map rfl

/-- 5 host operations of the second loop's body, in order. -/
abbrev bwd5 : List (HloOp τ sig (Elt F)) :=
  [ StableHlo.TRef.unary (.of main_while1b_v72 : StableHlo.TRef sig ⟨S2x2x2048, .f32⟩) (.of main_while1b_call7_v0 : StableHlo.TRef sig ⟨S1x2x2x2048, .f32⟩) (broadcastInDim S1x2x2x2048 ![1, 2, 3] bcast_S2x2x2048_S1x2x2x2048_1_2_3),
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.binaryIndexed (.of main_v35_12 : StableHlo.TRef sig ⟨S4096x2x2x2048, .f32⟩) (.of main_while1b_call7_v0 : StableHlo.TRef sig ⟨S1x2x2x2048, .f32⟩) ![(.of main_while1b_v44 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩)] (.of main_while1b_v90 : StableHlo.TRef sig ⟨S4096x2x2x2048, .f32⟩) (fun x u i => Host.dynamicUpdateSlice x u (fun k => (i k (Shape.Idx.first h_S_)).toInt) updateFits_S4096x2x2x2048_S1x2x2x2048) ]
theorem bwd5_sub : (bwd5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd5_fresh : (bwd5 : List (HloOp τ sig (Elt F))).Forall fun op => op.fresh = ∅ :=
  StableHlo.forall_fresh_of_map rfl
/-- The buffers that `bwd5` writes. -/
abbrev bwd5_W : List (Ref sig .tc) := [main_while1b_call7_v0, main_while1b_call7_c, main_while1b_call7_c_0, main_while1b_call7_c_1, main_while1b_v90]
theorem bwd5_writes : (bwd5 : List (HloOp τ sig (Elt F))).Forall fun op => op.writes ⊆ (bwd5_W.map (Proc.devRef (τ := τ) .tc)).toFinset :=
  StableHlo.forall_writes_sub_of_map rfl

/-- 8 host operations of the second loop's body, in order. -/
abbrev bwd6 : List (HloOp τ sig (Elt F)) :=
  [ StableHlo.nullary main_while1b_c_35 (constantI S_ 32 1#32),
    StableHlo.binary main_v35_7 main_while1b_c_35 main_while1b_v91 (addi : (⟨S_, .i32⟩ : BufTy).Contents (Elt F) → (⟨S_, .i32⟩ : BufTy).Contents (Elt F) → (⟨S_, .i32⟩ : BufTy).Contents (Elt F)),
    StableHlo.unary main_while1b_v91 main_v35_7 id,
    StableHlo.unary main_while1b_v89 main_v35_8 id,
    StableHlo.unary main_while1b_v81 main_v35_9 id,
    StableHlo.unary main_while1b_v84 main_v35_10 id,
    StableHlo.unary main_while1b_v76 main_v35_11 id,
    StableHlo.unary main_while1b_v90 main_v35_12 id ]
theorem bwd6_sub : (bwd6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem bwd6_fresh : (bwd6 : List (HloOp τ sig (Elt F))).Forall fun op => op.fresh = ∅ :=
  StableHlo.forall_fresh_of_map rfl
/-- The buffers that `bwd6` writes. -/
abbrev bwd6_W : List (Ref sig .tc) := [main_while1b_c_35, main_while1b_v91, main_v35_7, main_v35_8, main_v35_9, main_v35_10, main_v35_11, main_v35_12]
theorem bwd6_writes : (bwd6 : List (HloOp τ sig (Elt F))).Forall fun op => op.writes ⊆ (bwd6_W.map (Proc.devRef (τ := τ) .tc)).toFinset :=
  StableHlo.forall_writes_sub_of_map rfl

/-- The stretches before the first loop, between the loops, after the second loop, and those of each loop's body. -/
abbrev preI : List (List (HloOp τ sig (Elt F))) := [top0]
abbrev midI : List (List (HloOp τ sig (Elt F))) := [top1, top2]
abbrev postI : List (List (HloOp τ sig (Elt F))) := [top3]
abbrev fwdI : List (List (HloOp τ sig (Elt F))) := [fwd0, fwd1, fwd2, fwd3, fwd4, fwd5]
abbrev bwdI : List (List (HloOp τ sig (Elt F))) := [bwd0, bwd1, bwd2, bwd3, bwd4, bwd5, bwd6]
theorem preI_plain : StableHlo.Plain (preI (F := F)) := .cons top0_sub (hf := List.forall_iff_forall_mem.mp top0_fresh) (.nil)
theorem midI_plain : StableHlo.Plain (midI (F := F)) := .cons top1_sub (hf := List.forall_iff_forall_mem.mp top1_fresh) (.cons top2_sub (hf := List.forall_iff_forall_mem.mp top2_fresh) (.nil))
theorem postI_plain : StableHlo.Plain (postI (F := F)) := .cons top3_sub (hf := List.forall_iff_forall_mem.mp top3_fresh) (.nil)
theorem fwdI_plain : StableHlo.Plain (fwdI (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.cons fwd5_sub (hf := List.forall_iff_forall_mem.mp fwd5_fresh) (.nil))))))
theorem bwdI_plain : StableHlo.Plain (bwdI (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.nil)))))))

/-- The main program is its stretches and its two loops in order. -/
theorem main_items (c : Dev nD) : main (F := F) c = (Pipeline.chain
  [ StableHlo.seq top0,
    HostLoop.enter 0,
    StableHlo.seq top1,
    StableHlo.seq top2,
    HostLoop.enter 1,
    StableHlo.seq top3 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, StableHlo.chain_seq_cons, Pipeline.chain_cons, StableHlo.chain_seq_cons]
  chain_rfl

/-- The first loop's body is its stretches in order. -/
theorem fwd_items : main_while0_body (F := F) = (Pipeline.chain
  [ StableHlo.seq fwd0,
    StableHlo.seq fwd1,
    StableHlo.seq fwd2,
    StableHlo.seq fwd3,
    StableHlo.seq fwd4,
    StableHlo.seq fwd5 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, Pipeline.chain_cons, Pipeline.chain_cons, StableHlo.chain_seq_cons]
  chain_rfl

/-- The second loop's body is its stretches in order. -/
theorem bwd_items : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, StableHlo.chain_seq_cons]
  chain_rfl

end Cert.ReferenceIdeal.Own

end
-- ==== Proof.RefRun.lean ====
module

public import proofs.«01_k».proof.Proof.RefOps

/-! The reference's run.

The reference's two loops have 4096 trips each. Every fair execution ends, and at the end every buffer holds what the
operations leave: those before the first loop, 4096 trips of the recurrence, those between the loops, 4096 trips of its
adjoint and those after. -/

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-- What the first loop's condition computes: the bound, and the comparison of the trip's number with it. -/
abbrev condA : List (HloOp τ sig (Elt F)) :=
  [ StableHlo.nullary main_while0c_c_21 (constantI S_ 32 4096#32),
    StableHlo.binary main_v22_5 main_while0c_c_21 main_while0c_v43 (cmpi .slt) ]
/-- What the second loop's condition computes. -/
abbrev condB : List (HloOp τ sig (Elt F)) :=
  [ StableHlo.nullary main_while1c_c_23 (constantI S_ 32 4096#32),
    StableHlo.binary main_v35_7 main_while1c_c_23 main_while1c_v43 (cmpi .slt) ]

/-- The buffers the two conditions write. -/
abbrev condA_W : List (Ref sig .tc) := [main_while0c_c_21, main_while0c_v43]
abbrev condB_W : List (Ref sig .tc) := [main_while1c_c_23, main_while1c_v43]
theorem condA_writes : (condA : List (HloOp τ sig (Elt F))).Forall fun op => op.writes ⊆ (condA_W.map (Proc.devRef (τ := τ) .tc)).toFinset :=
  StableHlo.forall_writes_sub_of_map rfl
theorem condB_writes : (condB : List (HloOp τ sig (Elt F))).Forall fun op => op.writes ⊆ (condB_W.map (Proc.devRef (τ := τ) .tc)).toFinset :=
  StableHlo.forall_writes_sub_of_map rfl

variable (m : (ℓ : Loc nD τ sig) → Buf (Elt F) ℓ) (ρ : Dev nD → PrngReg)

/-- The contents when the first loop is entered. -/
abbrev X1 (c : Dev nD) : Valuation τ sig (Elt F) := afterL preI (launchContents m c)
/-- The contents before trip `k` of the first loop. -/
abbrev atA (k : ℕ) (c : Dev nD) : Valuation τ sig (Elt F) := atTrip condA fwdI (X1 m) k c
/-- The contents when the first loop is left. -/
abbrev X2 (c : Dev nD) : Valuation τ sig (Elt F) := after condA (atA m 4096 c)
/-- The contents when the second loop is entered. -/
abbrev X3 (c : Dev nD) : Valuation τ sig (Elt F) := afterL midI (X2 m c)
/-- The contents before trip `k` of the second loop. -/
abbrev atB (k : ℕ) (c : Dev nD) : Valuation τ sig (Elt F) := atTrip condB bwdI (X3 m) k c
/-- The contents when the second loop is left. -/
abbrev X4 (c : Dev nD) : Valuation τ sig (Elt F) := after condB (atB m 4096 c)
/-- The contents at the end. -/
abbrev X5 (c : Dev nD) : Valuation τ sig (Elt F) := afterL postI (X4 m c)

/-! ## What a stretch does not write it keeps -/

/-- A buffer that no stretch of a loop's trip writes keeps its contents through the trip. -/
theorem fwd_keep (V : Valuation τ sig (Elt F)) (r : Ref sig .tc) (h : r ∉ condA_W ++ fwd0_W ++ fwd1_W ++ fwd2_W ++ fwd3_W ++ fwd4_W ++ fwd5_W) :
    afterL fwdI (after condA V) (Proc.devRef .tc r) = V (Proc.devRef .tc r) := by
  simp only [List.mem_append, not_or] at h
  obtain ⟨⟨⟨⟨⟨⟨hc, h0⟩, h1⟩, h2⟩, h3⟩, h4⟩, h5⟩ := h
  simp only [afterL_cons, afterL_nil]
  rw [after_of_writes_sub _ _ fwd5_writes h5, after_of_writes_sub _ _ fwd4_writes h4, after_of_writes_sub _ _ fwd3_writes h3,
    after_of_writes_sub _ _ fwd2_writes h2, after_of_writes_sub _ _ fwd1_writes h1, after_of_writes_sub _ _ fwd0_writes h0,
    after_of_writes_sub _ _ condA_writes hc]
theorem bwd_keep (V : Valuation τ sig (Elt F)) (r : Ref sig .tc) (h : r ∉ condB_W ++ bwd0_W ++ bwd1_W ++ bwd2_W ++ bwd3_W ++ bwd4_W ++ bwd5_W ++ bwd6_W) :
    afterL bwdI (after condB V) (Proc.devRef .tc r) = V (Proc.devRef .tc r) := by
  simp only [List.mem_append, not_or] at h
  obtain ⟨⟨⟨⟨⟨⟨⟨hc, h0⟩, h1⟩, h2⟩, h3⟩, h4⟩, h5⟩, h6⟩ := h
  simp only [afterL_cons, afterL_nil]
  rw [after_of_writes_sub _ _ bwd6_writes h6, after_of_writes_sub _ _ bwd5_writes h5, after_of_writes_sub _ _ bwd4_writes h4, after_of_writes_sub _ _ bwd3_writes h3,
    after_of_writes_sub _ _ bwd2_writes h2, after_of_writes_sub _ _ bwd1_writes h1, after_of_writes_sub _ _ bwd0_writes h0,
    after_of_writes_sub _ _ condB_writes hc]

/-- The same through all trips so far. -/
theorem atA_keep (r : Ref sig .tc) (h : r ∉ condA_W ++ fwd0_W ++ fwd1_W ++ fwd2_W ++ fwd3_W ++ fwd4_W ++ fwd5_W) (c : Dev nD) :
    ∀ k, atA m k c (Proc.devRef .tc r) = X1 m c (Proc.devRef .tc r)
  | 0 => rfl
  | k + 1 => (fwd_keep (atA m k c) r h).trans (atA_keep r h c k)
theorem atB_keep (r : Ref sig .tc) (h : r ∉ condB_W ++ bwd0_W ++ bwd1_W ++ bwd2_W ++ bwd3_W ++ bwd4_W ++ bwd5_W ++ bwd6_W) (c : Dev nD) :
    ∀ k, atB m k c (Proc.devRef .tc r) = X3 m c (Proc.devRef .tc r)
  | 0 => rfl
  | k + 1 => (bwd_keep (atB m k c) r h).trans (atB_keep r h c k)
/-- A buffer that the stretches between the loops do not write keeps its contents through them. -/
theorem mid_keep (V : Valuation τ sig (Elt F)) (r : Ref sig .tc) (h : r ∉ top1_W ++ top2_W) :
    afterL midI V (Proc.devRef .tc r) = V (Proc.devRef .tc r) := by
  simp only [List.mem_append, not_or] at h
  simp only [afterL_cons, afterL_nil]
  rw [after_of_writes_sub _ _ top2_writes h.2, after_of_writes_sub _ _ top1_writes h.1]
/-- A buffer that nothing writes ends as it was at the launch. -/
theorem X5_keep (r : Ref sig .tc)
    (h0 : r ∉ top0_W) (h1 : r ∉ condA_W ++ fwd0_W ++ fwd1_W ++ fwd2_W ++ fwd3_W ++ fwd4_W ++ fwd5_W) (h2 : r ∉ top1_W ++ top2_W)
    (h3 : r ∉ condB_W ++ bwd0_W ++ bwd1_W ++ bwd2_W ++ bwd3_W ++ bwd4_W ++ bwd5_W ++ bwd6_W) (h4 : r ∉ top3_W)
    (hc : r ∉ condA_W) (hd : r ∉ condB_W) (c : Dev nD) :
    X5 m c (Proc.devRef .tc r) = launchContents m c (Proc.devRef .tc r) := by
  refine (after_of_writes_sub top3 (X4 m c) top3_writes h4).trans ?_
  refine (after_of_writes_sub condB (atB m 4096 c) condB_writes hd).trans ?_
  refine (atB_keep m r h3 c 4096).trans ?_
  refine (mid_keep (X2 m c) r h2).trans ?_
  refine (after_of_writes_sub condA (atA m 4096 c) condA_writes hc).trans ?_
  exact (atA_keep m r h1 c 4096).trans (after_of_writes_sub top0 (launchContents m c) top0_writes h0)

/-! ## The two counters -/

theorem ctrA_step (V : Valuation τ sig (Elt F)) :
    after fwd5 V (Proc.devRef .tc main_v22_5) = addi (V (Proc.devRef .tc main_v22_5)) (constantI S_ 32 1#32) := by
  after_results
  rfl
theorem ctrB_step (V : Valuation τ sig (Elt F)) :
    after bwd6 V (Proc.devRef .tc main_v35_7) = addi (V (Proc.devRef .tc main_v35_7)) (constantI S_ 32 1#32) := by
  after_results
  rfl
theorem ctrA_entry (c : Dev nD) : X1 m c (Proc.devRef .tc main_v22_5) = fun _ => (0#32 : BitVec 32) := by
  simp only [X1, afterL_cons, afterL_nil]
  after_reads_simp
  rfl
theorem ctrB_entry (c : Dev nD) : X3 m c (Proc.devRef .tc main_v35_7) = fun _ => (0#32 : BitVec 32) := by
  simp only [X3, afterL_cons, afterL_nil]
  after_reads_simp
  rfl
/-- Before trip `k` the first loop's counter is `k`. -/
theorem atA_ctr (c : Dev nD) : ∀ k, atA m k c (Proc.devRef .tc main_v22_5) = fun _ => Scf.iv 0#32 1#32 k
  | 0 => by rw [show atA m 0 c = X1 m c from rfl, ctrA_entry, Scf.iv_zero]
  | k + 1 => by
    rw [show atA m (k + 1) c = afterL fwdI (after condA (atA m k c)) from rfl]
    simp only [afterL_cons, afterL_nil]
    rw [ctrA_step, after_of_writes_sub _ _ fwd4_writes (by decide +kernel), after_of_writes_sub _ _ fwd3_writes (by decide +kernel),
      after_of_writes_sub _ _ fwd2_writes (by decide +kernel), after_of_writes_sub _ _ fwd1_writes (by decide +kernel),
      after_of_writes_sub _ _ fwd0_writes (by decide +kernel), after_of_writes_sub _ _ condA_writes (by decide +kernel), atA_ctr c k, Scf.iv_succ]
    rfl
/-- Before trip `k` the second loop's counter is `k`. -/
theorem atB_ctr (c : Dev nD) : ∀ k, atB m k c (Proc.devRef .tc main_v35_7) = fun _ => Scf.iv 0#32 1#32 k
  | 0 => by rw [show atB m 0 c = X3 m c from rfl, ctrB_entry, Scf.iv_zero]
  | k + 1 => by
    rw [show atB m (k + 1) c = afterL bwdI (after condB (atB m k c)) from rfl]
    simp only [afterL_cons, afterL_nil]
    rw [ctrB_step, after_of_writes_sub _ _ bwd5_writes (by decide +kernel), after_of_writes_sub _ _ bwd4_writes (by decide +kernel), after_of_writes_sub _ _ bwd3_writes (by decide +kernel),
      after_of_writes_sub _ _ bwd2_writes (by decide +kernel), after_of_writes_sub _ _ bwd1_writes (by decide +kernel),
      after_of_writes_sub _ _ bwd0_writes (by decide +kernel), after_of_writes_sub _ _ condB_writes (by decide +kernel), atB_ctr c k, Scf.iv_succ]
    rfl

/-! ## The run -/

-- the ghost state is not used: the program has no kernel
local notation "𝕄" => MT nD τ sig Unit (Elt F) ℕ (Option PUnit) ℕ

/-- No pipeline admits nothing, holds no ticket and has no level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
theorem noCell : Function.Injective (Pipeline.cellOf (nD := nD) (τ := τ) (Pipeline.pin (pcfgs (F := F)) noAdm)) := fun k => k.1.elim0
/-- What rides beside the buffers. -/
abbrev Rd (c : Dev nD) : sProp 𝕄 := iprop(∃ W, owes (c : Thread nD τ) (0 : CellTallies nD τ sig Unit) W)

set_option backward.isDefEq.respectTransparency.types false in
/-- The first loop's condition holds before trips 0 … 4095 and fails before trip 4096. -/
theorem condA_spec : LoopCond (pcfgs (F := F)) defs₀ Variants.none loops Rd (main_while0_cond (F := F)) condA fwdI (X1 m) 4096 := by
  intro k hk c bd
  have hctr := atA_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atA m k c) main_v22_5 HostLoop.idx0)
        (HloOp.result _ (atA m k c) main_while0c_c_21 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

set_option backward.isDefEq.respectTransparency.types false in
/-- The second loop's likewise. -/
theorem condB_spec : LoopCond (pcfgs (F := F)) defs₀ Variants.none loops Rd (main_while1_cond (F := F)) condB bwdI (X3 m) 4096 := by
  intro k hk c bd
  have hctr := atB_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atB m k c) main_v35_7 HostLoop.idx0)
        (HloOp.result _ (atB m k c) main_while1c_c_23 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-- The program's pieces in order: stretches, the recurrence, stretches, its adjoint, a stretch. -/
def pieces : List (CSeg (pcfgs (F := F)) noAdm defs₀ Variants.none noL noLv loops noTk) :=
  segsOf _ _ _ _ _ _ _ _ Rd preI preI_plain (launchContents m)
    ++ loopSeg _ _ _ _ _ _ _ _ 0 main_while0_cond main_while0_body rfl condA fwdI fwdI_plain (by rw [fwd_items]; rfl) 4096 (X1 m) Rd (condA_spec m)
      :: (segsOf _ _ _ _ _ _ _ _ Rd midI midI_plain (X2 m)
        ++ loopSeg _ _ _ _ _ _ _ _ 1 main_while1_cond main_while1_body rfl condB bwdI bwdI_plain (by rw [bwd_items]; rfl) 4096 (X3 m) Rd (condB_spec m)
          :: segsOf _ _ _ _ _ _ _ _ Rd postI postI_plain (X4 m))

theorem pieces_prog : (pieces m).map CSeg.prog
    = (preI.map fun ops => (seq ops : Prog _ PUnit)) ++ HostLoop.enter 0
      :: ((midI.map fun ops => (seq ops : Prog _ PUnit)) ++ HostLoop.enter 1 :: postI.map fun ops => (seq ops : Prog _ PUnit)) := by
  unfold pieces
  rw [List.map_append, List.map_cons, List.map_append, List.map_cons, segsOf_prog, segsOf_prog, segsOf_prog]
  rfl

theorem pieces_chain : CSeg.Chains (fun c => iprop(held (c : Thread nD τ) (ucRefs τ sig) (launchContents m c) ∗ Rd c)) (pieces m)
    (fun c => iprop(iprop(held (c : Thread nD τ) (ucRefs τ sig) (X5 m c)) ∗ ∃ W, owes (c : Thread nD τ) (0 : CellTallies nD τ sig Unit) W)) := by
  unfold pieces
  exact CSeg.Chains.append (segsOf_chains _ _ _ _ _ _ _ _ Rd preI preI_plain _) ⟨fun _ => .rfl,
    CSeg.Chains.append (segsOf_chains _ _ _ _ _ _ _ _ Rd midI midI_plain _) ⟨fun _ => .rfl,
      segsOf_chains _ _ _ _ _ _ _ _ Rd postI postI_plain _⟩⟩

/-- The TensorCore has no semaphore beyond a kernel's own, and the program has no kernel. -/
theorem all_scoped : ∀ sm : SemLoc sig, sm.isScoped .tc = true := by decide

set_option maxRecDepth 100000 in
/-- Every fair execution ends, with every buffer at the last contents and every counter at zero. -/
theorem ends_at : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = X5 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell defs₀ Variants.none noL noLv loops noTk m ρ main (pieces m)
    (fun c Q => by
      rw [main_items c]
      show wp _ _ _ (Pipeline.chain ((pieces m).map CSeg.prog)) Q ⊢ _
      rw [pieces_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rd c))
    (Tₙ := fun c => iprop(held (c : Thread nD τ) (ucRefs τ sig) (X5 m c)))
    (hch := pieces_chain m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = X5 m c b)
    (hfin := fun c s' => by
      unfold held
      iintro ⟨Hh, HSI⟩
      ihave Hr := (pointsTo_read_all (ucRefs τ sig) (fun b => ((c : Dev nD), b)) (fun b => X5 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (all_scoped g.2))⟩)

/-- The last contents of an argument are the first. -/
theorem args_keep (c : Dev nD) (r : Ref sig .tc) (hr : r ∈ [main_arg0, main_arg1, main_arg2, main_arg3, main_arg4, main_arg5, main_arg6]) :
    X5 m c (Proc.devRef .tc r) = launchContents m c (Proc.devRef .tc r) := by
  simp only [List.mem_cons, List.not_mem_nil, or_false] at hr
  rcases hr with rfl | rfl | rfl | rfl | rfl | rfl | rfl <;>
    exact X5_keep m _ (by decide +kernel) (by decide +kernel) (by decide +kernel) (by decide +kernel) (by decide +kernel) (by decide +kernel) (by decide +kernel) c

/-- The arguments end as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run defs _ _).mono (fun r h => ⟨fun c => ?_, h.2⟩) (ends_at m ρ)
  exact ⟨(h.1 c _ rfl).trans (args_keep m c main_arg0 (by simp)), (h.1 c _ rfl).trans (args_keep m c main_arg1 (by simp)), (h.1 c _ rfl).trans (args_keep m c main_arg2 (by simp)),
    (h.1 c _ rfl).trans (args_keep m c main_arg3 (by simp)), (h.1 c _ rfl).trans (args_keep m c main_arg4 (by simp)), (h.1 c _ rfl).trans (args_keep m c main_arg5 (by simp)),
    (h.1 c _ rfl).trans (args_keep m c main_arg6 (by simp))⟩

end Cert.ReferenceIdeal.Own

end
-- ==== Proof.RefStep.lean ====
/-
  One trip of each of the reference's loops, as what it does to the buffers that the loop carries.
-/
module

public import proofs.«01_k».proof.Proof.RefRun
public import Idealize.ShloMosaic.Lib.StableHlo.ReadAt
public import Idealize.ShloMosaic.Lib.Pipeline.ValueKit
public import Idealize.ShloMosaic.Lib.DynamicIndex

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo

theorem iv_toInt (k : ℕ) (hk : k < 4096) : (Scf.iv 0#32 1#32 k : BitVec 32).toInt = (k : ℤ) := by
  unfold Scf.iv
  simp only [BitVec.mul_one, BitVec.zero_add, BitVec.toInt_eq_toNat_cond, BitVec.toNat_ofNat]
  omega

/-! ## Rows read and written at a place -/

theorem slice4 (x : S4096x2x2x2048.Idx → EReal) (start : Fin 4 → ℤ) (h : S4096x2x2x2048.Slices (fun _ => 0) S1x2x2x2048) (h' : S1x2x2x2048.ShapeCasts S2x2x2048)
    (k : ℕ) (hk : k < 4096) (e0 : start 0 = k) (e1 : start 1 = 0) (e2 : start 2 = 0) (e3 : start 3 = 0) (p b : Fin 2) (j : Fin 2048) :
    shapeCast S2x2x2048 (Host.dynamicSlice S1x2x2x2048 x start h) h' (ValueIdx.ix3 p b j) = x (ValueIdx.ix4 ⟨k, hk⟩ p b j) := by
  rw [Host.dynamicSlice_eq_extractStridedSlice S1x2x2x2048 x start (![k, 0, 0, 0] : Fin 4 → ℕ) h
    ⟨rfl, by intro a; fin_cases a <;> simp <;> omega⟩ (by intro a; fin_cases a <;> simp [e0, e1, e2, e3])]
  pointwise
  rfl
theorem slice3 (x : S4096x2x2048.Idx → EReal) (start : Fin 3 → ℤ) (h : S4096x2x2048.Slices (fun _ => 0) S1x2x2048) (h' : S1x2x2048.ShapeCasts S2x2048)
    (k : ℕ) (hk : k < 4096) (e0 : start 0 = k) (e1 : start 1 = 0) (e2 : start 2 = 0) (b : Fin 2) (j : Fin 2048) :
    shapeCast S2x2048 (Host.dynamicSlice S1x2x2048 x start h) h' (ValueIdx.ix2 b j) = x (ValueIdx.ix3 ⟨k, hk⟩ b j) := by
  rw [Host.dynamicSlice_eq_extractStridedSlice S1x2x2048 x start (![k, 0, 0] : Fin 3 → ℕ) h
    ⟨rfl, by intro a; fin_cases a <;> simp <;> omega⟩ (by intro a; fin_cases a <;> simp [e0, e1, e2])]
  pointwise
  rfl
theorem upd4 (x : S4096x2x2x2048.Idx → EReal) (u : S1x2x2x2048.Idx → EReal) (start : Fin 4 → ℤ) (h : S4096x2x2x2048.Slices (fun _ => 0) S1x2x2x2048)
    (k : ℕ) (hk : k < 4096) (e0 : start 0 = k) (e1 : start 1 = 0) (e2 : start 2 = 0) (e3 : start 3 = 0) (t : Fin 4096) (p b : Fin 2) (j : Fin 2048) :
    Host.dynamicUpdateSlice x u start h (ValueIdx.ix4 t p b j) = if t.val = k then u (ValueIdx.ix4 0 p b j) else x (ValueIdx.ix4 t p b j) := by
  rw [Host.dynamicUpdateSlice_eq_updateSlice x u start h (![k, 0, 0, 0] : Fin 4 → ℕ)
    (by intro a; fin_cases a <;> simp [e0, e1, e2, e3] <;> omega) ⟨rfl, by intro a; fin_cases a <;> simp <;> omega⟩]
  pointwise
  by_cases h : t.val = k
  · subst h
    exact (dif_pos ⟨le_refl _, Nat.lt_succ_self _⟩).trans ((congrArg (fun z => u (ValueIdx.ix4 z p b j)) (Fin.ext (Nat.sub_self _))).trans (if_pos rfl).symm)
  · exact (dif_neg fun q => h (Nat.le_antisymm (Nat.le_of_lt_succ q.2) q.1)).trans (if_neg h).symm
theorem upd3 (x : S4096x2x2048.Idx → EReal) (u : S1x2x2048.Idx → EReal) (start : Fin 3 → ℤ) (h : S4096x2x2048.Slices (fun _ => 0) S1x2x2048)
    (k : ℕ) (hk : k < 4096) (e0 : start 0 = k) (e1 : start 1 = 0) (e2 : start 2 = 0) (t : Fin 4096) (b : Fin 2) (j : Fin 2048) :
    Host.dynamicUpdateSlice x u start h (ValueIdx.ix3 t b j) = if t.val = k then u (ValueIdx.ix3 0 b j) else x (ValueIdx.ix3 t b j) := by
  rw [Host.dynamicUpdateSlice_eq_updateSlice x u start h (![k, 0, 0] : Fin 3 → ℕ)
    (by intro a; fin_cases a <;> simp [e0, e1, e2] <;> omega) ⟨rfl, by intro a; fin_cases a <;> simp <;> omega⟩]
  pointwise
  by_cases h : t.val = k
  · subst h
    exact (dif_pos ⟨le_refl _, Nat.lt_succ_self _⟩).trans ((congrArg (fun z => u (ValueIdx.ix3 z b j)) (Fin.ext (Nat.sub_self _))).trans (if_pos rfl).symm)
  · exact (dif_neg fun q => h (Nat.le_antisymm (Nat.le_of_lt_succ q.2) q.1)).trans (if_neg h).symm

variable (V : Valuation τ sig (Elt Ideal)) (k : ℕ) (hk : k < 4096)

/-! ## The first loop's stretches -/

section Fwd
variable (hc : (V (Proc.devRef .tc main_v22_5) (Shape.Idx.first h_S_)).toInt = (k : ℤ))

include hc in
theorem fwd0_v43 (p b : Fin 2) (j : Fin 2048) :
    after fwd0 V (Proc.devRef .tc main_while0b_v43) (ValueIdx.ix3 p b j) = V (Proc.devRef .tc main_v22_0) (ValueIdx.ix4 ⟨k, hk⟩ p b j) := by
  after_reads_simp
  refine slice4 (V (Proc.devRef .tc main_v22_0)) _ sliceFits_S4096x2x2x2048_S1x2x2x2048 shapeCasts_S1x2x2x2048_S2x2x2048 k hk ?_ ?_ ?_ ?_ p b j
  all_goals simp [upto]
  all_goals try after_reads_simp
  · exact hc
  all_goals first | rfl | (pointwise; rfl)

/-- The real part of the next state, as the loop writes it. -/
def fwdRe (lr li : S1x2048.Idx → EReal) (sr si : S2x2048.Idx → EReal) (u : S2x2x2048.Idx → EReal) (b : Fin 2) (j : Fin 2048) : EReal :=
  lr (ValueIdx.ix2 0 j) * sr (ValueIdx.ix2 b j) - li (ValueIdx.ix2 0 j) * si (ValueIdx.ix2 b j) + u (ValueIdx.ix3 0 b j)
/-- The imaginary part of the next state, as the loop writes it. -/
def fwdIm (lr li : S1x2048.Idx → EReal) (sr si : S2x2048.Idx → EReal) (u : S2x2x2048.Idx → EReal) (b : Fin 2) (j : Fin 2048) : EReal :=
  lr (ValueIdx.ix2 0 j) * si (ValueIdx.ix2 b j) + li (ValueIdx.ix2 0 j) * sr (ValueIdx.ix2 b j) + u (ValueIdx.ix3 1 b j)

theorem fwd1_v51 (b : Fin 2) (j : Fin 2048) : after fwd1 V (Proc.devRef .tc main_while0b_v51) (ValueIdx.ix2 b j)
    = fwdRe (V (Proc.devRef .tc main_v22_1)) (V (Proc.devRef .tc main_v22_2)) (V (Proc.devRef .tc main_v22_6)) (V (Proc.devRef .tc main_v22_7))
      (V (Proc.devRef .tc main_while0b_v43)) b j := by
  after_reads_at
  rfl
theorem fwd1_v59 (b : Fin 2) (j : Fin 2048) : after fwd1 V (Proc.devRef .tc main_while0b_v59) (ValueIdx.ix2 b j)
    = fwdIm (V (Proc.devRef .tc main_v22_3)) (V (Proc.devRef .tc main_v22_4)) (V (Proc.devRef .tc main_v22_6)) (V (Proc.devRef .tc main_v22_7))
      (V (Proc.devRef .tc main_while0b_v43)) b j := by
  after_reads_at
  rfl
theorem fwd1_v62_0  (b : Fin 2) (j : Fin 2048) : after fwd1 V (Proc.devRef .tc main_while0b_v62) (ValueIdx.ix3 0 b j)
    = fwdRe (V (Proc.devRef .tc main_v22_1)) (V (Proc.devRef .tc main_v22_2)) (V (Proc.devRef .tc main_v22_6)) (V (Proc.devRef .tc main_v22_7))
      (V (Proc.devRef .tc main_while0b_v43)) b j := by
  after_reads_at
  rfl
theorem fwd1_v62_1  (b : Fin 2) (j : Fin 2048) : after fwd1 V (Proc.devRef .tc main_while0b_v62) (ValueIdx.ix3 1 b j)
    = fwdIm (V (Proc.devRef .tc main_v22_3)) (V (Proc.devRef .tc main_v22_4)) (V (Proc.devRef .tc main_v22_6)) (V (Proc.devRef .tc main_v22_7))
      (V (Proc.devRef .tc main_while0b_v43)) b j := by
  after_reads_at
  rfl

include hk hc in
theorem fwd2_v63 (t : Fin 4096) (p b : Fin 2) (j : Fin 2048) : after fwd2 V (Proc.devRef .tc main_while0b_v63) (ValueIdx.ix4 t p b j)
    = if t.val = k then V (Proc.devRef .tc main_while0b_v62) (ValueIdx.ix3 p b j) else V (Proc.devRef .tc main_v22_8) (ValueIdx.ix4 t p b j) := by
  after_reads_simp
  refine (upd4 (V (Proc.devRef .tc main_v22_8)) _ _ updateFits_S4096x2x2x2048_S1x2x2x2048 k hk ?_ ?_ ?_ ?_ t p b j).trans ?_
  all_goals try simp [upto]
  all_goals try after_reads_simp
  · exact hc
  all_goals first | rfl | (pointwise; rfl)
include hk hc in
theorem fwd3_v64 (t : Fin 4096) (b : Fin 2) (j : Fin 2048) : after fwd3 V (Proc.devRef .tc main_while0b_v64) (ValueIdx.ix3 t b j)
    = if t.val = k then V (Proc.devRef .tc main_v22_6) (ValueIdx.ix2 b j) else V (Proc.devRef .tc main_v22_9) (ValueIdx.ix3 t b j) := by
  after_reads_simp
  refine (upd3 (V (Proc.devRef .tc main_v22_9)) _ _ updateFits_S4096x2x2048_S1x2x2048 k hk ?_ ?_ ?_ t b j).trans ?_
  all_goals try simp [upto]
  all_goals try after_reads_simp
  · exact hc
  all_goals first | rfl | (pointwise; rfl)
include hk hc in
theorem fwd4_v65 (t : Fin 4096) (b : Fin 2) (j : Fin 2048) : after fwd4 V (Proc.devRef .tc main_while0b_v65) (ValueIdx.ix3 t b j)
    = if t.val = k then V (Proc.devRef .tc main_v22_7) (ValueIdx.ix2 b j) else V (Proc.devRef .tc main_v22_10) (ValueIdx.ix3 t b j) := by
  after_reads_simp
  refine (upd3 (V (Proc.devRef .tc main_v22_10)) _ _ updateFits_S4096x2x2048_S1x2x2048 k hk ?_ ?_ ?_ t b j).trans ?_
  all_goals try simp [upto]
  all_goals try after_reads_simp
  · exact hc
  all_goals first | rfl | (pointwise; rfl)

theorem fwd5_v6 : after fwd5 V (Proc.devRef .tc main_v22_6) = V (Proc.devRef .tc main_while0b_v51) := by
  after_reads_simp
  rfl
theorem fwd5_v7 : after fwd5 V (Proc.devRef .tc main_v22_7) = V (Proc.devRef .tc main_while0b_v59) := by
  after_reads_simp
  rfl
theorem fwd5_v8 : after fwd5 V (Proc.devRef .tc main_v22_8) = V (Proc.devRef .tc main_while0b_v63) := by
  after_reads_simp
  rfl
theorem fwd5_v9 : after fwd5 V (Proc.devRef .tc main_v22_9) = V (Proc.devRef .tc main_while0b_v64) := by
  after_reads_simp
  rfl
theorem fwd5_v10 : after fwd5 V (Proc.devRef .tc main_v22_10) = V (Proc.devRef .tc main_while0b_v65) := by
  after_reads_simp
  rfl

theorem fwd_k1 (r : Ref sig .tc) (h : r ∉ fwd1_W) : after fwd1 V (Proc.devRef .tc r) = V (Proc.devRef .tc r) :=
  after_of_writes_sub _ _ fwd1_writes h
theorem fwd_k2 (r : Ref sig .tc) (h : r ∉ fwd2_W) : after fwd2 V (Proc.devRef .tc r) = V (Proc.devRef .tc r) :=
  after_of_writes_sub _ _ fwd2_writes h
theorem fwd_k3 (r : Ref sig .tc) (h : r ∉ fwd3_W) : after fwd3 V (Proc.devRef .tc r) = V (Proc.devRef .tc r) :=
  after_of_writes_sub _ _ fwd3_writes h
theorem fwd_k4 (r : Ref sig .tc) (h : r ∉ fwd4_W) : after fwd4 V (Proc.devRef .tc r) = V (Proc.devRef .tc r) :=
  after_of_writes_sub _ _ fwd4_writes h

/-- Row `k` of an array over the places. -/
def rowOf (x : S4096x2x2x2048.Idx → EReal) (k : Fin 4096) : S2x2x2048.Idx → EReal := fun i => x (ValueIdx.ix4 k (i 0) (i 1) (i 2))

theorem fwd_head (r : Ref sig .tc) (h : r ∉ condA_W ++ fwd0_W) :
    after fwd0 (after condA V) (Proc.devRef .tc r) = V (Proc.devRef .tc r) := by
  simp only [List.mem_append, not_or] at h
  rw [after_of_writes_sub _ _ fwd0_writes h.2, after_of_writes_sub _ _ condA_writes h.1]

include hc in
theorem fwd_row : (after fwd0 (after condA V) (Proc.devRef .tc main_while0b_v43) : S2x2x2048.Idx → EReal)
    = rowOf (V (Proc.devRef .tc main_v22_0)) ⟨k, hk⟩ := by
  refine funext fun i => ?_
  obtain ⟨p, b, j, rfl⟩ : ∃ p b j, i = ValueIdx.ix3 p b j := ⟨_, _, _, ValueIdx.eq_ix3 i⟩
  refine (fwd0_v43 (after condA V) k hk ?_ p b j).trans ?_
  · rw [after_of_writes_sub _ _ condA_writes (by decide +kernel)]; exact hc
  · rw [after_of_writes_sub _ _ condA_writes (by decide +kernel)]; rfl

/-! ## The first loop's trip -/

include hc in
theorem tripA_v6 (b : Fin 2) (j : Fin 2048) : afterL fwdI (after condA V) (Proc.devRef .tc main_v22_6) (ValueIdx.ix2 b j)
    = fwdRe (V (Proc.devRef .tc main_v22_1)) (V (Proc.devRef .tc main_v22_2)) (V (Proc.devRef .tc main_v22_6)) (V (Proc.devRef .tc main_v22_7))
      (rowOf (V (Proc.devRef .tc main_v22_0)) ⟨k, hk⟩) b j := by
  simp only [afterL_cons, afterL_nil]
  rw [fwd5_v6, after_of_writes_sub _ _ fwd4_writes (by decide +kernel), after_of_writes_sub _ _ fwd3_writes (by decide +kernel), after_of_writes_sub _ _ fwd2_writes (by decide +kernel)]
  refine (fwd1_v51 _ b j).trans ?_
  rw [fwd_row V k hk hc, fwd_head V main_v22_1 (by decide +kernel), fwd_head V main_v22_2 (by decide +kernel), fwd_head V main_v22_6 (by decide +kernel), fwd_head V main_v22_7 (by decide +kernel)]
include hc in
theorem tripA_v7 (b : Fin 2) (j : Fin 2048) : afterL fwdI (after condA V) (Proc.devRef .tc main_v22_7) (ValueIdx.ix2 b j)
    = fwdIm (V (Proc.devRef .tc main_v22_3)) (V (Proc.devRef .tc main_v22_4)) (V (Proc.devRef .tc main_v22_6)) (V (Proc.devRef .tc main_v22_7))
      (rowOf (V (Proc.devRef .tc main_v22_0)) ⟨k, hk⟩) b j := by
  simp only [afterL_cons, afterL_nil]
  rw [fwd5_v7, after_of_writes_sub _ _ fwd4_writes (by decide +kernel), after_of_writes_sub _ _ fwd3_writes (by decide +kernel), after_of_writes_sub _ _ fwd2_writes (by decide +kernel)]
  refine (fwd1_v59 _ b j).trans ?_
  rw [fwd_row V k hk hc, fwd_head V main_v22_3 (by decide +kernel), fwd_head V main_v22_4 (by decide +kernel), fwd_head V main_v22_6 (by decide +kernel), fwd_head V main_v22_7 (by decide +kernel)]
include hc in
theorem tripA_v8_0 (t : Fin 4096) (b : Fin 2) (j : Fin 2048) : afterL fwdI (after condA V) (Proc.devRef .tc main_v22_8) (ValueIdx.ix4 t 0 b j)
    = if t.val = k then fwdRe (V (Proc.devRef .tc main_v22_1)) (V (Proc.devRef .tc main_v22_2)) (V (Proc.devRef .tc main_v22_6)) (V (Proc.devRef .tc main_v22_7))
      (rowOf (V (Proc.devRef .tc main_v22_0)) ⟨k, hk⟩) b j else (V (Proc.devRef .tc main_v22_8)) (ValueIdx.ix4 t 0 b j) := by
  simp only [afterL_cons, afterL_nil]
  rw [fwd5_v8, after_of_writes_sub _ _ fwd4_writes (by decide +kernel), after_of_writes_sub _ _ fwd3_writes (by decide +kernel)]
  refine (fwd2_v63 _ k hk ?_ t 0 b j).trans ?_
  · exact (congrArg (fun x : S_.Idx → BitVec 32 => (x (Shape.Idx.first h_S_)).toInt) ((after_of_writes_sub _ _ fwd1_writes (by decide +kernel)).trans ((fwd_head V main_v22_5 (by decide +kernel))))).trans hc
  · rw [fwd_k1 _ main_v22_8 (by decide +kernel), fwd_head V main_v22_8 (by decide +kernel)]
    refine if_congr Iff.rfl ((fwd1_v62_0 _ b j).trans ?_) rfl
    rw [fwd_row V k hk hc, fwd_head V main_v22_1 (by decide +kernel), fwd_head V main_v22_2 (by decide +kernel), fwd_head V main_v22_6 (by decide +kernel), fwd_head V main_v22_7 (by decide +kernel)]
include hc in
theorem tripA_v8_1 (t : Fin 4096) (b : Fin 2) (j : Fin 2048) : afterL fwdI (after condA V) (Proc.devRef .tc main_v22_8) (ValueIdx.ix4 t 1 b j)
    = if t.val = k then fwdIm (V (Proc.devRef .tc main_v22_3)) (V (Proc.devRef .tc main_v22_4)) (V (Proc.devRef .tc main_v22_6)) (V (Proc.devRef .tc main_v22_7))
      (rowOf (V (Proc.devRef .tc main_v22_0)) ⟨k, hk⟩) b j else (V (Proc.devRef .tc main_v22_8)) (ValueIdx.ix4 t 1 b j) := by
  simp only [afterL_cons, afterL_nil]
  rw [fwd5_v8, after_of_writes_sub _ _ fwd4_writes (by decide +kernel), after_of_writes_sub _ _ fwd3_writes (by decide +kernel)]
  refine (fwd2_v63 _ k hk ?_ t 1 b j).trans ?_
  · exact (congrArg (fun x : S_.Idx → BitVec 32 => (x (Shape.Idx.first h_S_)).toInt) ((after_of_writes_sub _ _ fwd1_writes (by decide +kernel)).trans ((fwd_head V main_v22_5 (by decide +kernel))))).trans hc
  · rw [fwd_k1 _ main_v22_8 (by decide +kernel), fwd_head V main_v22_8 (by decide +kernel)]
    refine if_congr Iff.rfl ((fwd1_v62_1 _ b j).trans ?_) rfl
    rw [fwd_row V k hk hc, fwd_head V main_v22_3 (by decide +kernel), fwd_head V main_v22_4 (by decide +kernel), fwd_head V main_v22_6 (by decide +kernel), fwd_head V main_v22_7 (by decide +kernel)]
include hk hc in
theorem tripA_v9 (t : Fin 4096) (b : Fin 2) (j : Fin 2048) : afterL fwdI (after condA V) (Proc.devRef .tc main_v22_9) (ValueIdx.ix3 t b j)
    = if t.val = k then (V (Proc.devRef .tc main_v22_6)) (ValueIdx.ix2 b j) else (V (Proc.devRef .tc main_v22_9)) (ValueIdx.ix3 t b j) := by
  simp only [afterL_cons, afterL_nil]
  rw [fwd5_v9, after_of_writes_sub _ _ fwd4_writes (by decide +kernel)]
  refine (fwd3_v64 _ k hk ?_ t b j).trans ?_
  · exact (congrArg (fun x : S_.Idx → BitVec 32 => (x (Shape.Idx.first h_S_)).toInt) ((after_of_writes_sub _ _ fwd2_writes (by decide +kernel)).trans ((after_of_writes_sub _ _ fwd1_writes (by decide +kernel)).trans ((fwd_head V main_v22_5 (by decide +kernel)))))).trans hc
  · rw [fwd_k2 _ main_v22_9 (by decide +kernel), fwd_k1 _ main_v22_9 (by decide +kernel), fwd_head V main_v22_9 (by decide +kernel), fwd_k2 _ main_v22_6 (by decide +kernel), fwd_k1 _ main_v22_6 (by decide +kernel), fwd_head V main_v22_6 (by decide +kernel)]
include hk hc in
theorem tripA_v10 (t : Fin 4096) (b : Fin 2) (j : Fin 2048) : afterL fwdI (after condA V) (Proc.devRef .tc main_v22_10) (ValueIdx.ix3 t b j)
    = if t.val = k then (V (Proc.devRef .tc main_v22_7)) (ValueIdx.ix2 b j) else (V (Proc.devRef .tc main_v22_10)) (ValueIdx.ix3 t b j) := by
  simp only [afterL_cons, afterL_nil]
  rw [fwd5_v10]
  refine (fwd4_v65 _ k hk ?_ t b j).trans ?_
  · exact (congrArg (fun x : S_.Idx → BitVec 32 => (x (Shape.Idx.first h_S_)).toInt) ((after_of_writes_sub _ _ fwd3_writes (by decide +kernel)).trans ((after_of_writes_sub _ _ fwd2_writes (by decide +kernel)).trans ((after_of_writes_sub _ _ fwd1_writes (by decide +kernel)).trans ((fwd_head V main_v22_5 (by decide +kernel))))))).trans hc
  · rw [fwd_k3 _ main_v22_10 (by decide +kernel), fwd_k2 _ main_v22_10 (by decide +kernel), fwd_k1 _ main_v22_10 (by decide +kernel), fwd_head V main_v22_10 (by decide +kernel), fwd_k3 _ main_v22_7 (by decide +kernel), fwd_k2 _ main_v22_7 (by decide +kernel), fwd_k1 _ main_v22_7 (by decide +kernel), fwd_head V main_v22_7 (by decide +kernel)]

end Fwd

end Cert.ReferenceIdeal.Own
end
-- ==== Proof.RefStepB.lean ====
/-
  One trip of the reference's second loop, as what it does to the buffers that the loop carries.
-/
module

public import proofs.«01_k».proof.Proof.RefStep

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo

/-- The adjoint's real and imaginary part at a place: what is carried and the cotangent of the place. -/
def aRe (cr : S2x2048.Idx → EReal) (u : S2x2x2048.Idx → EReal) (b : Fin 2) (j : Fin 2048) : EReal := cr (ValueIdx.ix2 b j) + u (ValueIdx.ix3 0 b j)
def aIm (ci : S2x2048.Idx → EReal) (u : S2x2x2048.Idx → EReal) (b : Fin 2) (j : Fin 2048) : EReal := ci (ValueIdx.ix2 b j) + u (ValueIdx.ix3 1 b j)
/-- What is carried to the place before. -/
def cRe (lr li : S1x2048.Idx → EReal) (cr ci : S2x2048.Idx → EReal) (u : S2x2x2048.Idx → EReal) (b : Fin 2) (j : Fin 2048) : EReal :=
  li (ValueIdx.ix2 0 j) * aIm ci u b j + lr (ValueIdx.ix2 0 j) * aRe cr u b j
def cIm (lr li : S1x2048.Idx → EReal) (cr ci : S2x2048.Idx → EReal) (u : S2x2x2048.Idx → EReal) (b : Fin 2) (j : Fin 2048) : EReal :=
  lr (ValueIdx.ix2 0 j) * aIm ci u b j + li (ValueIdx.ix2 0 j) * -(aRe cr u b j)
/-- What a place adds to the gradient of the multiplier. -/
def dRe (d : S2048.Idx → EReal) (cr ci : S2x2048.Idx → EReal) (u : S2x2x2048.Idx → EReal) (sr si : S2x2048.Idx → EReal) (j : Fin 2048) : EReal :=
  d (ValueIdx.ix1 j) + (∑ _x : Fin 1, ∑ b : Fin 2, aIm ci u b j * si (ValueIdx.ix2 b j))
    + ∑ _x : Fin 1, ∑ b : Fin 2, aRe cr u b j * sr (ValueIdx.ix2 b j)
def dIm (d : S2048.Idx → EReal) (cr ci : S2x2048.Idx → EReal) (u : S2x2x2048.Idx → EReal) (sr si : S2x2048.Idx → EReal) (j : Fin 2048) : EReal :=
  d (ValueIdx.ix1 j) + (∑ _x : Fin 1, ∑ b : Fin 2, aIm ci u b j * sr (ValueIdx.ix2 b j))
    + ∑ _x : Fin 1, ∑ b : Fin 2, -(aRe cr u b j) * si (ValueIdx.ix2 b j)
/-- Row `k` of an array of states. -/
def rowOf3 (x : S4096x2x2048.Idx → EReal) (k : Fin 4096) : S2x2048.Idx → EReal := fun i => x (ValueIdx.ix3 k (i 0) (i 1))

variable (V : Valuation τ sig (Elt Ideal)) (k : ℕ) (hk : k < 4096)

theorem bwd_k0 (r : Ref sig .tc) (h : r ∉ bwd0_W) : after bwd0 V (Proc.devRef .tc r) = V (Proc.devRef .tc r) :=
  after_of_writes_sub _ _ bwd0_writes h
theorem bwd_k1 (r : Ref sig .tc) (h : r ∉ bwd1_W) : after bwd1 V (Proc.devRef .tc r) = V (Proc.devRef .tc r) :=
  after_of_writes_sub _ _ bwd1_writes h
theorem bwd_k2 (r : Ref sig .tc) (h : r ∉ bwd2_W) : after bwd2 V (Proc.devRef .tc r) = V (Proc.devRef .tc r) :=
  after_of_writes_sub _ _ bwd2_writes h
theorem bwd_k3 (r : Ref sig .tc) (h : r ∉ bwd3_W) : after bwd3 V (Proc.devRef .tc r) = V (Proc.devRef .tc r) :=
  after_of_writes_sub _ _ bwd3_writes h
theorem bwd_k4 (r : Ref sig .tc) (h : r ∉ bwd4_W) : after bwd4 V (Proc.devRef .tc r) = V (Proc.devRef .tc r) :=
  after_of_writes_sub _ _ bwd4_writes h
theorem bwd_k5 (r : Ref sig .tc) (h : r ∉ bwd5_W) : after bwd5 V (Proc.devRef .tc r) = V (Proc.devRef .tc r) :=
  after_of_writes_sub _ _ bwd5_writes h
theorem bwd_k6 (r : Ref sig .tc) (h : r ∉ bwd6_W) : after bwd6 V (Proc.devRef .tc r) = V (Proc.devRef .tc r) :=
  after_of_writes_sub _ _ bwd6_writes h

theorem bwd0_v44 (hc : V (Proc.devRef .tc main_v35_7) = fun _ => Scf.iv 0#32 1#32 k) (hk : k < 4096) :
    (after bwd0 V (Proc.devRef .tc main_while1b_v44) (Shape.Idx.first h_S_)).toInt = ((4095 - k : ℕ) : ℤ) := by
  after_reads_simp
  rw [hc]
  show ((4096#32 - Scf.iv 0#32 1#32 k : BitVec 32) - 1#32).toInt = _
  unfold Scf.iv
  simp only [BitVec.mul_one, BitVec.zero_add, BitVec.toInt_eq_toNat_cond, BitVec.toNat_ofNat, BitVec.toNat_sub]
  omega

section At
variable (hc : (V (Proc.devRef .tc main_while1b_v44) (Shape.Idx.first h_S_)).toInt = (k : ℤ))

include hc in
theorem bwd1_v45 : (after bwd1 V (Proc.devRef .tc main_while1b_v45) : S2x2x2048.Idx → EReal) = rowOf (V (Proc.devRef .tc main_v35_0)) ⟨k, hk⟩ := by
  refine funext fun i => ?_
  obtain ⟨p, b, j, rfl⟩ : ∃ p b j, i = ValueIdx.ix3 p b j := ⟨_, _, _, ValueIdx.eq_ix3 i⟩
  after_reads_simp
  refine slice4 (V (Proc.devRef .tc main_v35_0)) _ sliceFits_S4096x2x2x2048_S1x2x2x2048 shapeCasts_S1x2x2x2048_S2x2x2048 k hk ?_ ?_ ?_ ?_ p b j
  all_goals simp [upto]
  all_goals try after_reads_simp
  · exact hc
  all_goals rfl
include hc in
theorem bwd2_v46 : (after bwd2 V (Proc.devRef .tc main_while1b_v46) : S2x2048.Idx → EReal) = rowOf3 (V (Proc.devRef .tc main_v35_1)) ⟨k, hk⟩ := by
  refine funext fun i => ?_
  obtain ⟨b, j, rfl⟩ : ∃ b j, i = ValueIdx.ix2 b j := ⟨_, _, ValueIdx.eq_ix2 i⟩
  after_reads_simp
  refine slice3 (V (Proc.devRef .tc main_v35_1)) _ sliceFits_S4096x2x2048_S1x2x2048 shapeCasts_S1x2x2048_S2x2048 k hk ?_ ?_ ?_ b j
  all_goals simp [upto]
  all_goals try after_reads_simp
  · exact hc
  all_goals rfl
include hc in
theorem bwd3_v47 : (after bwd3 V (Proc.devRef .tc main_while1b_v47) : S2x2048.Idx → EReal) = rowOf3 (V (Proc.devRef .tc main_v35_2)) ⟨k, hk⟩ := by
  refine funext fun i => ?_
  obtain ⟨b, j, rfl⟩ : ∃ b j, i = ValueIdx.ix2 b j := ⟨_, _, ValueIdx.eq_ix2 i⟩
  after_reads_simp
  refine slice3 (V (Proc.devRef .tc main_v35_2)) _ sliceFits_S4096x2x2048_S1x2x2048 shapeCasts_S1x2x2048_S2x2048 k hk ?_ ?_ ?_ b j
  all_goals simp [upto]
  all_goals try after_reads_simp
  · exact hc
  all_goals rfl
include hk hc in
theorem bwd5_v90 (t : Fin 4096) (p b : Fin 2) (j : Fin 2048) : after bwd5 V (Proc.devRef .tc main_while1b_v90) (ValueIdx.ix4 t p b j)
    = if t.val = k then V (Proc.devRef .tc main_while1b_v72) (ValueIdx.ix3 p b j) else V (Proc.devRef .tc main_v35_12) (ValueIdx.ix4 t p b j) := by
  after_reads_simp
  refine (upd4 (V (Proc.devRef .tc main_v35_12)) _ _ updateFits_S4096x2x2x2048_S1x2x2x2048 k hk ?_ ?_ ?_ ?_ t p b j).trans ?_
  all_goals try simp [upto]
  all_goals try after_reads_simp
  · exact hc
  all_goals first | rfl | (pointwise; rfl)
end At

theorem bwd4_v72_0 (b : Fin 2) (j : Fin 2048) : after bwd4 V (Proc.devRef .tc main_while1b_v72) (ValueIdx.ix3 0 b j) = aRe (V (Proc.devRef .tc main_v35_10)) (V (Proc.devRef .tc main_while1b_v45)) b j := by
  after_reads_at
  rfl
theorem bwd4_v72_1 (b : Fin 2) (j : Fin 2048) : after bwd4 V (Proc.devRef .tc main_while1b_v72) (ValueIdx.ix3 1 b j) = aIm (V (Proc.devRef .tc main_v35_11)) (V (Proc.devRef .tc main_while1b_v45)) b j := by
  after_reads_at
  rfl
theorem bwd4_v84 (b : Fin 2) (j : Fin 2048) : after bwd4 V (Proc.devRef .tc main_while1b_v84) (ValueIdx.ix2 b j)
    = cRe (V (Proc.devRef .tc main_v35_3)) (V (Proc.devRef .tc main_v35_6)) (V (Proc.devRef .tc main_v35_10)) (V (Proc.devRef .tc main_v35_11)) (V (Proc.devRef .tc main_while1b_v45)) b j := by
  after_reads_at
  rfl
theorem bwd4_v76 (b : Fin 2) (j : Fin 2048) : after bwd4 V (Proc.devRef .tc main_while1b_v76) (ValueIdx.ix2 b j)
    = cIm (V (Proc.devRef .tc main_v35_5)) (V (Proc.devRef .tc main_v35_4)) (V (Proc.devRef .tc main_v35_10)) (V (Proc.devRef .tc main_v35_11)) (V (Proc.devRef .tc main_while1b_v45)) b j := by
  after_reads_at
  rfl
theorem bwd4_v89 (j : Fin 2048) : after bwd4 V (Proc.devRef .tc main_while1b_v89) (ValueIdx.ix1 j)
    = dRe (V (Proc.devRef .tc main_v35_8)) (V (Proc.devRef .tc main_v35_10)) (V (Proc.devRef .tc main_v35_11)) (V (Proc.devRef .tc main_while1b_v45)) (V (Proc.devRef .tc main_while1b_v46)) (V (Proc.devRef .tc main_while1b_v47)) j := by
  after_reads_at
  rfl
theorem bwd4_v81 (j : Fin 2048) : after bwd4 V (Proc.devRef .tc main_while1b_v81) (ValueIdx.ix1 j)
    = dIm (V (Proc.devRef .tc main_v35_9)) (V (Proc.devRef .tc main_v35_10)) (V (Proc.devRef .tc main_v35_11)) (V (Proc.devRef .tc main_while1b_v45)) (V (Proc.devRef .tc main_while1b_v46)) (V (Proc.devRef .tc main_while1b_v47)) j := by
  after_reads_at
  rfl

theorem bwd6_v8 : after bwd6 V (Proc.devRef .tc main_v35_8) = V (Proc.devRef .tc main_while1b_v89) := by
  after_reads_simp
  rfl
theorem bwd6_v9 : after bwd6 V (Proc.devRef .tc main_v35_9) = V (Proc.devRef .tc main_while1b_v81) := by
  after_reads_simp
  rfl
theorem bwd6_v10 : after bwd6 V (Proc.devRef .tc main_v35_10) = V (Proc.devRef .tc main_while1b_v84) := by
  after_reads_simp
  rfl
theorem bwd6_v11 : after bwd6 V (Proc.devRef .tc main_v35_11) = V (Proc.devRef .tc main_while1b_v76) := by
  after_reads_simp
  rfl
theorem bwd6_v12 : after bwd6 V (Proc.devRef .tc main_v35_12) = V (Proc.devRef .tc main_while1b_v90) := by
  after_reads_simp
  rfl

/-! ## The second loop's trip -/

section Trip
variable (hc : V (Proc.devRef .tc main_v35_7) = fun _ => Scf.iv 0#32 1#32 k)

/-- The stretches that read the rows. -/
abbrev bhead : Valuation τ sig (Elt Ideal) := after bwd3 (after bwd2 (after bwd1 (after bwd0 (after condB V))))

theorem bwd_head (r : Ref sig .tc) (h : r ∉ condB_W ++ bwd0_W ++ bwd1_W ++ bwd2_W ++ bwd3_W) : bhead V (Proc.devRef .tc r) = V (Proc.devRef .tc r) := by
  simp only [List.mem_append, not_or] at h
  unfold bhead
  rw [bwd_k3 _ r h.2, bwd_k2 _ r h.1.2, bwd_k1 _ r h.1.1.2, bwd_k0 _ r h.1.1.1.2, after_of_writes_sub _ _ condB_writes h.1.1.1.1]

include hc hk in
theorem at44 : (after bwd0 (after condB V) (Proc.devRef .tc main_while1b_v44) (Shape.Idx.first h_S_)).toInt = ((4095 - k : ℕ) : ℤ) :=
  bwd0_v44 _ k ((after_of_writes_sub _ _ condB_writes (by decide +kernel)).trans hc) hk

/-- A buffer read at its only place, as a number. -/
theorem toInt_of_eq {x y : S_.Idx → BitVec 32} (h : x = y) {n : ℤ} (hy : (y (Shape.Idx.first h_S_)).toInt = n) : (x (Shape.Idx.first h_S_)).toInt = n :=
  h ▸ hy

include hc in
theorem head_v45 : (bhead V (Proc.devRef .tc main_while1b_v45) : S2x2x2048.Idx → EReal) = rowOf (V (Proc.devRef .tc main_v35_0)) ⟨4095 - k, by omega⟩ := by
  unfold bhead
  rw [bwd_k3 _ main_while1b_v45 (by decide +kernel), bwd_k2 _ main_while1b_v45 (by decide +kernel), bwd1_v45 _ (4095 - k) (by omega) (at44 V k hk hc)]
  rw [bwd_k0 _ main_v35_0 (by decide +kernel), after_of_writes_sub _ _ condB_writes (by decide +kernel)]
include hc in
theorem head_v46 : (bhead V (Proc.devRef .tc main_while1b_v46) : S2x2048.Idx → EReal) = rowOf3 (V (Proc.devRef .tc main_v35_1)) ⟨4095 - k, by omega⟩ := by
  unfold bhead
  rw [bwd_k3 _ main_while1b_v46 (by decide +kernel), bwd2_v46 _ (4095 - k) (by omega) (toInt_of_eq (bwd_k1 _ main_while1b_v44 (by decide +kernel)) (at44 V k hk hc))]
  rw [bwd_k1 _ main_v35_1 (by decide +kernel), bwd_k0 _ main_v35_1 (by decide +kernel), after_of_writes_sub _ _ condB_writes (by decide +kernel)]
include hc in
theorem head_v47 : (bhead V (Proc.devRef .tc main_while1b_v47) : S2x2048.Idx → EReal) = rowOf3 (V (Proc.devRef .tc main_v35_2)) ⟨4095 - k, by omega⟩ := by
  unfold bhead
  rw [bwd3_v47 _ (4095 - k) (by omega) (toInt_of_eq ((bwd_k2 _ main_while1b_v44 (by decide +kernel)).trans (bwd_k1 _ main_while1b_v44 (by decide +kernel))) (at44 V k hk hc))]
  rw [bwd_k2 _ main_v35_2 (by decide +kernel), bwd_k1 _ main_v35_2 (by decide +kernel), bwd_k0 _ main_v35_2 (by decide +kernel), after_of_writes_sub _ _ condB_writes (by decide +kernel)]
include hc hk in
theorem head_v44 : (after bwd4 (bhead V) (Proc.devRef .tc main_while1b_v44) (Shape.Idx.first h_S_)).toInt = ((4095 - k : ℕ) : ℤ) :=
  toInt_of_eq ((bwd_k4 _ main_while1b_v44 (by decide +kernel)).trans ((bwd_k3 _ main_while1b_v44 (by decide +kernel)).trans ((bwd_k2 _ main_while1b_v44 (by decide +kernel)).trans (bwd_k1 _ main_while1b_v44 (by decide +kernel))))) (at44 V k hk hc)

theorem trip_eq : afterL bwdI (after condB V) = after bwd6 (after bwd5 (after bwd4 (bhead V))) := rfl

include hc in
theorem tripB_v10 (b : Fin 2) (j : Fin 2048) : afterL bwdI (after condB V) (Proc.devRef .tc main_v35_10) (ValueIdx.ix2 b j)
    = cRe (V (Proc.devRef .tc main_v35_3)) (V (Proc.devRef .tc main_v35_6)) (V (Proc.devRef .tc main_v35_10)) (V (Proc.devRef .tc main_v35_11)) (rowOf (V (Proc.devRef .tc main_v35_0)) ⟨4095 - k, by omega⟩) b j := by
  rw [trip_eq, bwd6_v10, bwd_k5 _ main_while1b_v84 (by decide +kernel)]
  refine (bwd4_v84 _ b j).trans ?_
  rw [head_v45 V k hk hc, bwd_head V main_v35_3 (by decide +kernel), bwd_head V main_v35_6 (by decide +kernel), bwd_head V main_v35_10 (by decide +kernel), bwd_head V main_v35_11 (by decide +kernel)]
include hc in
theorem tripB_v11 (b : Fin 2) (j : Fin 2048) : afterL bwdI (after condB V) (Proc.devRef .tc main_v35_11) (ValueIdx.ix2 b j)
    = cIm (V (Proc.devRef .tc main_v35_5)) (V (Proc.devRef .tc main_v35_4)) (V (Proc.devRef .tc main_v35_10)) (V (Proc.devRef .tc main_v35_11)) (rowOf (V (Proc.devRef .tc main_v35_0)) ⟨4095 - k, by omega⟩) b j := by
  rw [trip_eq, bwd6_v11, bwd_k5 _ main_while1b_v76 (by decide +kernel)]
  refine (bwd4_v76 _ b j).trans ?_
  rw [head_v45 V k hk hc, bwd_head V main_v35_5 (by decide +kernel), bwd_head V main_v35_4 (by decide +kernel), bwd_head V main_v35_10 (by decide +kernel), bwd_head V main_v35_11 (by decide +kernel)]
include hc in
theorem tripB_v8 (j : Fin 2048) : afterL bwdI (after condB V) (Proc.devRef .tc main_v35_8) (ValueIdx.ix1 j)
    = dRe (V (Proc.devRef .tc main_v35_8)) (V (Proc.devRef .tc main_v35_10)) (V (Proc.devRef .tc main_v35_11)) (rowOf (V (Proc.devRef .tc main_v35_0)) ⟨4095 - k, by omega⟩) (rowOf3 (V (Proc.devRef .tc main_v35_1)) ⟨4095 - k, by omega⟩) (rowOf3 (V (Proc.devRef .tc main_v35_2)) ⟨4095 - k, by omega⟩) j := by
  rw [trip_eq, bwd6_v8, bwd_k5 _ main_while1b_v89 (by decide +kernel)]
  refine (bwd4_v89 _ j).trans ?_
  rw [head_v45 V k hk hc, head_v46 V k hk hc, head_v47 V k hk hc, bwd_head V main_v35_8 (by decide +kernel), bwd_head V main_v35_10 (by decide +kernel), bwd_head V main_v35_11 (by decide +kernel)]
include hc in
theorem tripB_v9 (j : Fin 2048) : afterL bwdI (after condB V) (Proc.devRef .tc main_v35_9) (ValueIdx.ix1 j)
    = dIm (V (Proc.devRef .tc main_v35_9)) (V (Proc.devRef .tc main_v35_10)) (V (Proc.devRef .tc main_v35_11)) (rowOf (V (Proc.devRef .tc main_v35_0)) ⟨4095 - k, by omega⟩) (rowOf3 (V (Proc.devRef .tc main_v35_1)) ⟨4095 - k, by omega⟩) (rowOf3 (V (Proc.devRef .tc main_v35_2)) ⟨4095 - k, by omega⟩) j := by
  rw [trip_eq, bwd6_v9, bwd_k5 _ main_while1b_v81 (by decide +kernel)]
  refine (bwd4_v81 _ j).trans ?_
  rw [head_v45 V k hk hc, head_v46 V k hk hc, head_v47 V k hk hc, bwd_head V main_v35_9 (by decide +kernel), bwd_head V main_v35_10 (by decide +kernel), bwd_head V main_v35_11 (by decide +kernel)]
include hc in
theorem tripB_v12_0 (t : Fin 4096) (b : Fin 2) (j : Fin 2048) : afterL bwdI (after condB V) (Proc.devRef .tc main_v35_12) (ValueIdx.ix4 t 0 b j)
    = if t.val = 4095 - k then aRe (V (Proc.devRef .tc main_v35_10)) (rowOf (V (Proc.devRef .tc main_v35_0)) ⟨4095 - k, by omega⟩) b j else (V (Proc.devRef .tc main_v35_12)) (ValueIdx.ix4 t 0 b j) := by
  rw [trip_eq, bwd6_v12]
  refine (bwd5_v90 _ (4095 - k) (by omega) (head_v44 V k hk hc) t 0 b j).trans ?_
  rw [bwd_k4 _ main_v35_12 (by decide +kernel), bwd_head V main_v35_12 (by decide +kernel)]
  refine if_congr Iff.rfl ((bwd4_v72_0 _ b j).trans ?_) rfl
  rw [head_v45 V k hk hc, bwd_head V main_v35_10 (by decide +kernel)]
include hc in
theorem tripB_v12_1 (t : Fin 4096) (b : Fin 2) (j : Fin 2048) : afterL bwdI (after condB V) (Proc.devRef .tc main_v35_12) (ValueIdx.ix4 t 1 b j)
    = if t.val = 4095 - k then aIm (V (Proc.devRef .tc main_v35_11)) (rowOf (V (Proc.devRef .tc main_v35_0)) ⟨4095 - k, by omega⟩) b j else (V (Proc.devRef .tc main_v35_12)) (ValueIdx.ix4 t 1 b j) := by
  rw [trip_eq, bwd6_v12]
  refine (bwd5_v90 _ (4095 - k) (by omega) (head_v44 V k hk hc) t 1 b j).trans ?_
  rw [bwd_k4 _ main_v35_12 (by decide +kernel), bwd_head V main_v35_12 (by decide +kernel)]
  refine if_congr Iff.rfl ((bwd4_v72_1 _ b j).trans ?_) rfl
  rw [head_v45 V k hk hc, bwd_head V main_v35_11 (by decide +kernel)]
end Trip

end Cert.ReferenceIdeal.Own
end
-- ==== Proof.RefValue.lean ====
/-
  What the reference's program ends with, as complex numbers: the recurrence's states, the adjoint's, and the gradient of the
  multipliers.
-/
module

public import proofs.«01_k».proof.Proof.RefStepB
public import proofs.«01_k».proof.Proof.KernelResult

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo Cert.Cx
open Cert.KernelIdeal.Own (lamOf muOf stW adW dlW seqOf planes2)

/-! ## The stretches outside the loops -/

section Entry
variable (V : Valuation τ sig (Elt Ideal))

theorem top0_v0 (t : Fin 4096) (p b : Fin 2) (j : Fin 2048) : after top0 V (Proc.devRef .tc main_v22_0) (ValueIdx.ix4 t p b j)
    = V (Proc.devRef .tc main_arg5) (ValueIdx.ix3 p ⟨b.val * 4096 + t.val, by omega⟩ j) := by
  after_reads_at
  simp only [id]
  pointwise
  rfl
theorem mid_v0 (t : Fin 4096) (p b : Fin 2) (j : Fin 2048) : afterL midI V (Proc.devRef .tc main_v35_0) (ValueIdx.ix4 t p b j)
    = V (Proc.devRef .tc main_arg6) (ValueIdx.ix3 p ⟨b.val * 4096 + t.val, by omega⟩ j) := by
  simp only [afterL_cons, afterL_nil]
  after_reads_at
  simp only [id]
  pointwise
  rfl

/-- The multiplier's parts, from the three columns. -/
def lamRe (A B D : S2048x1.Idx → EReal) (j : Fin 2048) : EReal :=
  Ideal.exp (A (ValueIdx.ix2 j 0) * Ideal.exp (D (ValueIdx.ix2 j 0))) * Ideal.cos (B (ValueIdx.ix2 j 0) * Ideal.exp (D (ValueIdx.ix2 j 0)))
def lamIm (A B D : S2048x1.Idx → EReal) (j : Fin 2048) : EReal :=
  Ideal.exp (A (ValueIdx.ix2 j 0) * Ideal.exp (D (ValueIdx.ix2 j 0))) * Ideal.sin (B (ValueIdx.ix2 j 0) * Ideal.exp (D (ValueIdx.ix2 j 0)))

theorem top0_v1 (j : Fin 2048) : after top0 V (Proc.devRef .tc main_v22_1) (ValueIdx.ix2 0 j) = lamRe (V (Proc.devRef .tc main_arg0)) (V (Proc.devRef .tc main_arg1)) (V (Proc.devRef .tc main_arg2)) j := by
  after_reads_at
  simp only [id]
  pointwise
  rfl
theorem top0_v2 (j : Fin 2048) : after top0 V (Proc.devRef .tc main_v22_2) (ValueIdx.ix2 0 j) = lamIm (V (Proc.devRef .tc main_arg0)) (V (Proc.devRef .tc main_arg1)) (V (Proc.devRef .tc main_arg2)) j := by
  after_reads_at
  simp only [id]
  pointwise
  rfl
theorem top0_v3 (j : Fin 2048) : after top0 V (Proc.devRef .tc main_v22_3) (ValueIdx.ix2 0 j) = lamRe (V (Proc.devRef .tc main_arg0)) (V (Proc.devRef .tc main_arg1)) (V (Proc.devRef .tc main_arg2)) j := by
  after_reads_at
  simp only [id]
  pointwise
  rfl
theorem top0_v4 (j : Fin 2048) : after top0 V (Proc.devRef .tc main_v22_4) (ValueIdx.ix2 0 j) = lamIm (V (Proc.devRef .tc main_arg0)) (V (Proc.devRef .tc main_arg1)) (V (Proc.devRef .tc main_arg2)) j := by
  after_reads_at
  simp only [id]
  pointwise
  rfl
theorem top0_v6 (b : Fin 2) (j : Fin 2048) : after top0 V (Proc.devRef .tc main_v22_6) (ValueIdx.ix2 b j) = (0 : EReal) := by
  after_reads_at
  simp only [id]
  pointwise
theorem top0_v7 (b : Fin 2) (j : Fin 2048) : after top0 V (Proc.devRef .tc main_v22_7) (ValueIdx.ix2 b j) = (0 : EReal) := by
  after_reads_at
  simp only [id]
  pointwise
theorem mid_v8 (j : Fin 2048) : afterL midI V (Proc.devRef .tc main_v35_8) (ValueIdx.ix1 j) = (0 : EReal) := by
  simp only [afterL_cons, afterL_nil]
  after_reads_at
  simp only [id]
  pointwise
theorem mid_v9 (j : Fin 2048) : afterL midI V (Proc.devRef .tc main_v35_9) (ValueIdx.ix1 j) = (0 : EReal) := by
  simp only [afterL_cons, afterL_nil]
  after_reads_at
  simp only [id]
  pointwise
theorem mid_v10 (b : Fin 2) (j : Fin 2048) : afterL midI V (Proc.devRef .tc main_v35_10) (ValueIdx.ix2 b j) = (0 : EReal) := by
  simp only [afterL_cons, afterL_nil]
  after_reads_at
  simp only [id]
  pointwise
theorem mid_v11 (b : Fin 2) (j : Fin 2048) : afterL midI V (Proc.devRef .tc main_v35_11) (ValueIdx.ix2 b j) = (0 : EReal) := by
  simp only [afterL_cons, afterL_nil]
  after_reads_at
  simp only [id]
  pointwise
theorem top1_v24 (p : Fin 2) (r : Fin 8192) (j : Fin 2048) : after top1 V (Proc.devRef .tc main_v24) (ValueIdx.ix3 p r j)
    = V (Proc.devRef .tc main_v22_8) (ValueIdx.ix4 ⟨r.val % 4096, by omega⟩ p ⟨r.val / 4096, by omega⟩ j) := by
  after_reads_at
  rfl
theorem top3_v38 (p : Fin 2) (r : Fin 8192) (j : Fin 2048) : after top3 V (Proc.devRef .tc main_v38) (ValueIdx.ix3 p r j)
    = V (Proc.devRef .tc main_v24) (ValueIdx.ix3 p r j) := by
  after_reads_at
theorem top3_v39 (p : Fin 2) (r : Fin 8192) (j : Fin 2048) : after top3 V (Proc.devRef .tc main_v39) (ValueIdx.ix3 p r j)
    = V (Proc.devRef .tc main_v35_12) (ValueIdx.ix4 ⟨r.val % 4096, by omega⟩ p ⟨r.val / 4096, by omega⟩ j) := by
  after_reads_at
  rfl
theorem top3_v42_0 (j : Fin 2048) : after top3 V (Proc.devRef .tc main_v42) (ValueIdx.ix2 0 j) = V (Proc.devRef .tc main_v35_8) (ValueIdx.ix1 j) := by
  after_reads_at
  rfl
theorem top3_v42_1 (j : Fin 2048) : after top3 V (Proc.devRef .tc main_v42) (ValueIdx.ix2 1 j) = V (Proc.devRef .tc main_v35_9) (ValueIdx.ix1 j) := by
  after_reads_at
  rfl
theorem mid_v24 (p : Fin 2) (r : Fin 8192) (j : Fin 2048) : afterL midI V (Proc.devRef .tc main_v24) (ValueIdx.ix3 p r j)
    = V (Proc.devRef .tc main_v22_8) (ValueIdx.ix4 ⟨r.val % 4096, by omega⟩ p ⟨r.val / 4096, by omega⟩ j) := by
  simp only [afterL_cons, afterL_nil]
  rw [after_of_writes_sub _ _ top2_writes (by decide +kernel)]
  exact top1_v24 V p r j
theorem mid_v1 : afterL midI V (Proc.devRef .tc main_v35_1) = V (Proc.devRef .tc main_v22_9) := by
  simp only [afterL_cons, afterL_nil]
  after_reads_simp
  rfl
theorem mid_v2 : afterL midI V (Proc.devRef .tc main_v35_2) = V (Proc.devRef .tc main_v22_10) := by
  simp only [afterL_cons, afterL_nil]
  after_reads_simp
  rfl
theorem mid_v3 : afterL midI V (Proc.devRef .tc main_v35_3) = V (Proc.devRef .tc main_v15) := by
  simp only [afterL_cons, afterL_nil]
  after_reads_simp
  rfl
theorem mid_v4 : afterL midI V (Proc.devRef .tc main_v35_4) = V (Proc.devRef .tc main_v16) := by
  simp only [afterL_cons, afterL_nil]
  after_reads_simp
  rfl
theorem mid_v5 : afterL midI V (Proc.devRef .tc main_v35_5) = V (Proc.devRef .tc main_v17) := by
  simp only [afterL_cons, afterL_nil]
  after_reads_simp
  rfl
theorem mid_v6 : afterL midI V (Proc.devRef .tc main_v35_6) = V (Proc.devRef .tc main_v18) := by
  simp only [afterL_cons, afterL_nil]
  after_reads_simp
  rfl
theorem top0_v15 : after top0 V (Proc.devRef .tc main_v22_1) = after top0 V (Proc.devRef .tc main_v15) := by
  after_reads_simp
  rfl
theorem top0_v16 : after top0 V (Proc.devRef .tc main_v22_2) = after top0 V (Proc.devRef .tc main_v16) := by
  after_reads_simp
  rfl
theorem top0_v17 : after top0 V (Proc.devRef .tc main_v22_3) = after top0 V (Proc.devRef .tc main_v17) := by
  after_reads_simp
  rfl
theorem top0_v18 : after top0 V (Proc.devRef .tc main_v22_4) = after top0 V (Proc.devRef .tc main_v18) := by
  after_reads_simp
  rfl
end Entry

end Cert.ReferenceIdeal.Own
end
-- ==== Proof.RefLoop.lean ====
/-
  The reference's two loops, as complex numbers: what the buffers that they carry hold before each trip.
-/
module

public import proofs.«01_k».proof.Proof.RefValue

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo Cert.Cx
open Cert.KernelIdeal.Own (lamOf muOf stW adW dlW seqOf planes2)

/-- The state of sequence `b` after `k` places. -/
def sT (lam : ℕ → ℂ) (U : ℕ → ℕ → ℂ) (k b j : ℕ) : ℂ := ScanMath.st (lam j) (fun t => U (4096 * b + t) j) k
/-- The adjoint of sequence `b` after its last `k` places. -/
def aT (mu : ℕ → ℂ) (G : ℕ → ℕ → ℂ) (k b j : ℕ) : ℂ := ScanMath.st (mu j) (fun t => G (4096 * b + (4095 - t)) j) k
/-- The gradient of a multiplier after the last `k` places. -/
def dT (mu : ℕ → ℂ) (G : ℕ → ℕ → ℂ) (lam : ℕ → ℂ) (U : ℕ → ℕ → ℂ) (k j : ℕ) : ℂ :=
  ∑ n ∈ Finset.range k, ∑ b : Fin 2, (starRingEnd ℂ) (sT lam U (4095 - n) b.val j) * aT mu G (n + 1) b.val j

/-! ## One step, from extended reals to complex numbers -/

section Step
variable (lr li : S1x2048.Idx → EReal) (cr ci : S2x2048.Idx → EReal) (u : S2x2x2048.Idx → EReal) (b : Fin 2) (j : Fin 2048) (l s w : ℂ)
  (h1 : lr (ValueIdx.ix2 0 j) = (l.re : EReal)) (h2 : li (ValueIdx.ix2 0 j) = (l.im : EReal))
  (h3 : cr (ValueIdx.ix2 b j) = (s.re : EReal)) (h4 : ci (ValueIdx.ix2 b j) = (s.im : EReal))
  (h5 : u (ValueIdx.ix3 0 b j) = (w.re : EReal)) (h6 : u (ValueIdx.ix3 1 b j) = (w.im : EReal))

include h1 h2 h3 h4 h5 in
theorem fwdRe_eq : fwdRe lr li cr ci u b j = ((l * s + w).re : EReal) := by
  unfold fwdRe
  rw [h1, h2, h3, h4, h5, ← EReal.coe_mul, ← EReal.coe_mul, ← EReal.coe_sub, ← EReal.coe_add]
  refine congrArg _ ?_
  rw [Complex.add_re, Complex.mul_re]
include h1 h2 h3 h4 h6 in
theorem fwdIm_eq : fwdIm lr li cr ci u b j = ((l * s + w).im : EReal) := by
  unfold fwdIm
  rw [h1, h2, h3, h4, h6, ← EReal.coe_mul, ← EReal.coe_mul, ← EReal.coe_add, ← EReal.coe_add]
  refine congrArg _ ?_
  rw [Complex.add_im, Complex.mul_im]
include h3 h5 in
theorem aRe_eq : aRe cr u b j = ((s + w).re : EReal) := by
  unfold aRe
  rw [h3, h5, ← EReal.coe_add]
  rfl
include h4 h6 in
theorem aIm_eq : aIm ci u b j = ((s + w).im : EReal) := by
  unfold aIm
  rw [h4, h6, ← EReal.coe_add]
  rfl
include h1 h2 h3 h4 h5 h6 in
theorem cRe_eq : cRe lr li cr ci u b j = (((starRingEnd ℂ) l * (s + w)).re : EReal) := by
  unfold cRe
  rw [aRe_eq cr u b j s w h3 h5, aIm_eq ci u b j s w h4 h6, h1, h2, ← EReal.coe_mul, ← EReal.coe_mul, ← EReal.coe_add]
  refine congrArg _ ?_
  rw [Complex.mul_re, Complex.conj_re, Complex.conj_im]
  ring
include h1 h2 h3 h4 h5 h6 in
theorem cIm_eq : cIm lr li cr ci u b j = (((starRingEnd ℂ) l * (s + w)).im : EReal) := by
  unfold cIm
  rw [aRe_eq cr u b j s w h3 h5, aIm_eq ci u b j s w h4 h6, h1, h2, ← EReal.coe_neg, ← EReal.coe_mul, ← EReal.coe_mul, ← EReal.coe_add]
  refine congrArg _ ?_
  rw [Complex.mul_im, Complex.conj_re, Complex.conj_im]
  ring
end Step

section Grad
variable (d : S2048.Idx → EReal) (cr ci : S2x2048.Idx → EReal) (u : S2x2x2048.Idx → EReal) (sr si : S2x2048.Idx → EReal) (j : Fin 2048)
  (e : ℂ) (s w z : Fin 2 → ℂ)
  (h3 : ∀ b, cr (ValueIdx.ix2 b j) = ((s b).re : EReal)) (h4 : ∀ b, ci (ValueIdx.ix2 b j) = ((s b).im : EReal))
  (h5 : ∀ b, u (ValueIdx.ix3 0 b j) = ((w b).re : EReal)) (h6 : ∀ b, u (ValueIdx.ix3 1 b j) = ((w b).im : EReal))
  (h7 : ∀ b, sr (ValueIdx.ix2 b j) = ((z b).re : EReal)) (h8 : ∀ b, si (ValueIdx.ix2 b j) = ((z b).im : EReal))
include h3 h4 h5 h6 h7 h8
theorem dRe_eq (hd : d (ValueIdx.ix1 j) = (e.re : EReal)) :
    dRe d cr ci u sr si j = ((e + ∑ b : Fin 2, (starRingEnd ℂ) (z b) * (s b + w b)).re : EReal) := by
  unfold dRe
  rw [hd]
  simp only [Fin.sum_univ_two, Fin.sum_univ_one]
  rw [aRe_eq cr u 0 j _ _ (h3 0) (h5 0), aIm_eq ci u 0 j _ _ (h4 0) (h6 0), aRe_eq cr u 1 j _ _ (h3 1) (h5 1), aIm_eq ci u 1 j _ _ (h4 1) (h6 1),
    h7 0, h7 1, h8 0, h8 1]
  simp only [← EReal.coe_mul, ← EReal.coe_add]
  refine congrArg _ ?_
  simp only [Complex.add_re, Complex.mul_re, Complex.conj_re, Complex.conj_im]
  ring
theorem dIm_eq (hd : d (ValueIdx.ix1 j) = (e.im : EReal)) :
    dIm d cr ci u sr si j = ((e + ∑ b : Fin 2, (starRingEnd ℂ) (z b) * (s b + w b)).im : EReal) := by
  unfold dIm
  rw [hd]
  simp only [Fin.sum_univ_two, Fin.sum_univ_one]
  rw [aRe_eq cr u 0 j _ _ (h3 0) (h5 0), aIm_eq ci u 0 j _ _ (h4 0) (h6 0), aRe_eq cr u 1 j _ _ (h3 1) (h5 1), aIm_eq ci u 1 j _ _ (h4 1) (h6 1),
    h7 0, h7 1, h8 0, h8 1]
  simp only [← EReal.coe_mul, ← EReal.coe_neg, ← EReal.coe_add]
  refine congrArg _ ?_
  simp only [Complex.add_im, Complex.mul_im, Complex.conj_re, Complex.conj_im]
  ring
end Grad

/-! ## The first loop -/

variable (m : (ℓ : Loc nD τ sig) → Buf (Elt Ideal) ℓ) (ρ : Dev nD → PrngReg) (c : Dev nD)
variable (A B D : ℕ → ℝ) (U G : ℕ → ℕ → ℂ)
  (ha : (m ((c : Thread nD τ).loc main_arg0) : S2048x1.Idx → EReal) = Cert.KernelIdeal.Own.col A)
  (hb : (m ((c : Thread nD τ).loc main_arg1) : S2048x1.Idx → EReal) = Cert.KernelIdeal.Own.col B)
  (hd : (m ((c : Thread nD τ).loc main_arg2) : S2048x1.Idx → EReal) = Cert.KernelIdeal.Own.col D)
  (hu : (m ((c : Thread nD τ).loc main_arg5) : S2x8192x2048.Idx → EReal) = planes (n := 8192) (m := 2048) U)
  (hg : (m ((c : Thread nD τ).loc main_arg6) : S2x8192x2048.Idx → EReal) = planes (n := 8192) (m := 2048) G)

include ha hb hd in
theorem lamRe_eq (j : Fin 2048) : lamRe (launchContents m c (Proc.devRef .tc main_arg0)) (launchContents m c (Proc.devRef .tc main_arg1))
    (launchContents m c (Proc.devRef .tc main_arg2)) j = ((lamOf A B D j.val).re : EReal) := by
  unfold lamRe
  rw [show launchContents m c (Proc.devRef .tc main_arg0) = _ from ha, show launchContents m c (Proc.devRef .tc main_arg1) = _ from hb,
    show launchContents m c (Proc.devRef .tc main_arg2) = _ from hd]
  show Ideal.exp ((A j.val : EReal) * Ideal.exp (D j.val : EReal)) * Ideal.cos ((B j.val : EReal) * Ideal.exp (D j.val : EReal)) = _
  rw [Ideal.exp_coe, ← EReal.coe_mul, ← EReal.coe_mul, Ideal.exp_coe, Ideal.cos_coe, ← EReal.coe_mul]
  rfl
include ha hb hd in
theorem lamIm_eq (j : Fin 2048) : lamIm (launchContents m c (Proc.devRef .tc main_arg0)) (launchContents m c (Proc.devRef .tc main_arg1))
    (launchContents m c (Proc.devRef .tc main_arg2)) j = ((lamOf A B D j.val).im : EReal) := by
  unfold lamIm
  rw [show launchContents m c (Proc.devRef .tc main_arg0) = _ from ha, show launchContents m c (Proc.devRef .tc main_arg1) = _ from hb,
    show launchContents m c (Proc.devRef .tc main_arg2) = _ from hd]
  show Ideal.exp ((A j.val : EReal) * Ideal.exp (D j.val : EReal)) * Ideal.sin ((B j.val : EReal) * Ideal.exp (D j.val : EReal)) = _
  rw [Ideal.exp_coe, ← EReal.coe_mul, ← EReal.coe_mul, Ideal.exp_coe, Ideal.sin_coe, ← EReal.coe_mul]
  rfl

include ha hb hd in
theorem atA_v1 (k : ℕ) (j : Fin 2048) : atA m k c (Proc.devRef .tc main_v22_1) (ValueIdx.ix2 0 j) = ((lamOf A B D j.val).re : EReal) := by
  rw [atA_keep m main_v22_1 (by decide +kernel) c k]
  exact (top0_v1 _ j).trans (lamRe_eq m c A B D ha hb hd j)
include ha hb hd in
theorem atA_v2 (k : ℕ) (j : Fin 2048) : atA m k c (Proc.devRef .tc main_v22_2) (ValueIdx.ix2 0 j) = ((lamOf A B D j.val).im : EReal) := by
  rw [atA_keep m main_v22_2 (by decide +kernel) c k]
  exact (top0_v2 _ j).trans (lamIm_eq m c A B D ha hb hd j)
include ha hb hd in
theorem atA_v3 (k : ℕ) (j : Fin 2048) : atA m k c (Proc.devRef .tc main_v22_3) (ValueIdx.ix2 0 j) = ((lamOf A B D j.val).re : EReal) := by
  rw [atA_keep m main_v22_3 (by decide +kernel) c k]
  exact (top0_v3 _ j).trans (lamRe_eq m c A B D ha hb hd j)
include ha hb hd in
theorem atA_v4 (k : ℕ) (j : Fin 2048) : atA m k c (Proc.devRef .tc main_v22_4) (ValueIdx.ix2 0 j) = ((lamOf A B D j.val).im : EReal) := by
  rw [atA_keep m main_v22_4 (by decide +kernel) c k]
  exact (top0_v4 _ j).trans (lamIm_eq m c A B D ha hb hd j)
include hu in
theorem atA_row_0 (k : ℕ) (hk : k < 4096) (b : Fin 2) (j : Fin 2048) :
    rowOf (atA m k c (Proc.devRef .tc main_v22_0)) ⟨k, hk⟩ (ValueIdx.ix3 0 b j) = ((U (4096 * b.val + k) j.val).re : EReal) := by
  rw [atA_keep m main_v22_0 (by decide +kernel) c k]
  refine (top0_v0 _ ⟨k, hk⟩ 0 b j).trans ?_
  rw [show launchContents m c (Proc.devRef .tc main_arg5) = _ from hu, Nat.mul_comm 4096 b.val]
  exact if_pos rfl
include hu in
theorem atA_row_1 (k : ℕ) (hk : k < 4096) (b : Fin 2) (j : Fin 2048) :
    rowOf (atA m k c (Proc.devRef .tc main_v22_0)) ⟨k, hk⟩ (ValueIdx.ix3 1 b j) = ((U (4096 * b.val + k) j.val).im : EReal) := by
  rw [atA_keep m main_v22_0 (by decide +kernel) c k]
  refine (top0_v0 _ ⟨k, hk⟩ 1 b j).trans ?_
  rw [show launchContents m c (Proc.devRef .tc main_arg5) = _ from hu, Nat.mul_comm 4096 b.val]
  exact if_neg Nat.one_ne_zero

/-- What the first loop's buffers hold before trip `k`. -/
structure InvA (lam : ℕ → ℂ) (U : ℕ → ℕ → ℂ) (V : Valuation τ sig (Elt Ideal)) (k : ℕ) : Prop where
  v6 : ∀ (b : Fin 2) (j : Fin 2048), V (Proc.devRef .tc main_v22_6) (ValueIdx.ix2 b j) = ((sT lam U k b.val j.val).re : EReal)
  v7 : ∀ (b : Fin 2) (j : Fin 2048), V (Proc.devRef .tc main_v22_7) (ValueIdx.ix2 b j) = ((sT lam U k b.val j.val).im : EReal)
  v8_0 : ∀ (t : Fin 4096) (b : Fin 2) (j : Fin 2048), t.val < k → V (Proc.devRef .tc main_v22_8) (ValueIdx.ix4 t 0 b j) = ((sT lam U (t.val + 1) b.val j.val).re : EReal)
  v8_1 : ∀ (t : Fin 4096) (b : Fin 2) (j : Fin 2048), t.val < k → V (Proc.devRef .tc main_v22_8) (ValueIdx.ix4 t 1 b j) = ((sT lam U (t.val + 1) b.val j.val).im : EReal)
  v9 : ∀ (t : Fin 4096) (b : Fin 2) (j : Fin 2048), t.val < k → V (Proc.devRef .tc main_v22_9) (ValueIdx.ix3 t b j) = ((sT lam U t.val b.val j.val).re : EReal)
  v10 : ∀ (t : Fin 4096) (b : Fin 2) (j : Fin 2048), t.val < k → V (Proc.devRef .tc main_v22_10) (ValueIdx.ix3 t b j) = ((sT lam U t.val b.val j.val).im : EReal)

include ha hb hd hu in
theorem invA : ∀ k, k ≤ 4096 → InvA (lamOf A B D) U (atA m k c) k
  | 0, _ => {
      v6 := fun b j => (top0_v6 _ b j).trans EReal.coe_zero.symm
      v7 := fun b j => (top0_v7 _ b j).trans EReal.coe_zero.symm
      v8_0 := fun t b j h => absurd h (Nat.not_lt_zero _)
      v8_1 := fun t b j h => absurd h (Nat.not_lt_zero _)
      v9 := fun t b j h => absurd h (Nat.not_lt_zero _)
      v10 := fun t b j h => absurd h (Nat.not_lt_zero _) }
  | k + 1, hk => by
    have hk' : k < 4096 := hk
    have ih := invA k (Nat.le_of_lt hk')
    have hc : (atA m k c (Proc.devRef .tc main_v22_5) (Shape.Idx.first h_S_)).toInt = (k : ℤ) := by
      rw [atA_ctr m c k]; exact iv_toInt k hk'
    have hre := fun (b : Fin 2) (j : Fin 2048) => fwdRe_eq _ _ _ _ _ b j _ _ _ (atA_v1 m c A B D ha hb hd k j) (atA_v2 m c A B D ha hb hd k j)
      (ih.v6 b j) (ih.v7 b j) (atA_row_0 m c U hu k hk' b j)
    have him := fun (b : Fin 2) (j : Fin 2048) => fwdIm_eq _ _ _ _ _ b j _ _ _ (atA_v3 m c A B D ha hb hd k j) (atA_v4 m c A B D ha hb hd k j)
      (ih.v6 b j) (ih.v7 b j) (atA_row_1 m c U hu k hk' b j)
    refine ⟨fun b j => (tripA_v6 _ k hk' hc b j).trans (hre b j), fun b j => (tripA_v7 _ k hk' hc b j).trans (him b j),
      fun t b j h => ?_, fun t b j h => ?_, fun t b j h => ?_, fun t b j h => ?_⟩
    · refine (tripA_v8_0 _ k hk' hc t b j).trans ?_
      by_cases ht : t.val = k
      · rw [if_pos ht, ht]; exact hre b j
      · rw [if_neg ht]; exact ih.v8_0 t b j (by omega)
    · refine (tripA_v8_1 _ k hk' hc t b j).trans ?_
      by_cases ht : t.val = k
      · rw [if_pos ht, ht]; exact him b j
      · rw [if_neg ht]; exact ih.v8_1 t b j (by omega)
    · refine (tripA_v9 _ k hk' hc t b j).trans ?_
      by_cases ht : t.val = k
      · rw [if_pos ht, ht]; exact ih.v6 b j
      · rw [if_neg ht]; exact ih.v9 t b j (by omega)
    · refine (tripA_v10 _ k hk' hc t b j).trans ?_
      by_cases ht : t.val = k
      · rw [if_pos ht, ht]; exact ih.v7 b j
      · rw [if_neg ht]; exact ih.v10 t b j (by omega)

/-! ## The second loop -/

theorem X3_keep (r : Ref sig .tc) (h : r ∉ top1_W ++ top2_W) (h' : r ∉ condA_W) : X3 m c (Proc.devRef .tc r) = atA m 4096 c (Proc.devRef .tc r) :=
  (mid_keep (X2 m c) r h).trans (after_of_writes_sub _ _ condA_writes h')
theorem X2_keep (r : Ref sig .tc) (h' : r ∉ condA_W) : X2 m c (Proc.devRef .tc r) = atA m 4096 c (Proc.devRef .tc r) :=
  after_of_writes_sub _ _ condA_writes h'

include ha hb hd in
theorem atB_v3 (k : ℕ) (j : Fin 2048) : atB m k c (Proc.devRef .tc main_v35_3) (ValueIdx.ix2 0 j) = ((lamOf A B D j.val).re : EReal) := by
  rw [atB_keep m main_v35_3 (by decide +kernel) c k, show X3 m c (Proc.devRef .tc main_v35_3) = _ from mid_v3 (X2 m c), X2_keep m c main_v15 (by decide +kernel),
    atA_keep m main_v15 (by decide +kernel) c 4096, show X1 m c (Proc.devRef .tc main_v15) = X1 m c (Proc.devRef .tc main_v22_1) from (top0_v15 _).symm]
  exact (top0_v1 _ j).trans (lamRe_eq m c A B D ha hb hd j)
include ha hb hd in
theorem atB_v4 (k : ℕ) (j : Fin 2048) : atB m k c (Proc.devRef .tc main_v35_4) (ValueIdx.ix2 0 j) = ((lamOf A B D j.val).im : EReal) := by
  rw [atB_keep m main_v35_4 (by decide +kernel) c k, show X3 m c (Proc.devRef .tc main_v35_4) = _ from mid_v4 (X2 m c), X2_keep m c main_v16 (by decide +kernel),
    atA_keep m main_v16 (by decide +kernel) c 4096, show X1 m c (Proc.devRef .tc main_v16) = X1 m c (Proc.devRef .tc main_v22_2) from (top0_v16 _).symm]
  exact (top0_v2 _ j).trans (lamIm_eq m c A B D ha hb hd j)
include ha hb hd in
theorem atB_v5 (k : ℕ) (j : Fin 2048) : atB m k c (Proc.devRef .tc main_v35_5) (ValueIdx.ix2 0 j) = ((lamOf A B D j.val).re : EReal) := by
  rw [atB_keep m main_v35_5 (by decide +kernel) c k, show X3 m c (Proc.devRef .tc main_v35_5) = _ from mid_v5 (X2 m c), X2_keep m c main_v17 (by decide +kernel),
    atA_keep m main_v17 (by decide +kernel) c 4096, show X1 m c (Proc.devRef .tc main_v17) = X1 m c (Proc.devRef .tc main_v22_3) from (top0_v17 _).symm]
  exact (top0_v3 _ j).trans (lamRe_eq m c A B D ha hb hd j)
include ha hb hd in
theorem atB_v6 (k : ℕ) (j : Fin 2048) : atB m k c (Proc.devRef .tc main_v35_6) (ValueIdx.ix2 0 j) = ((lamOf A B D j.val).im : EReal) := by
  rw [atB_keep m main_v35_6 (by decide +kernel) c k, show X3 m c (Proc.devRef .tc main_v35_6) = _ from mid_v6 (X2 m c), X2_keep m c main_v18 (by decide +kernel),
    atA_keep m main_v18 (by decide +kernel) c 4096, show X1 m c (Proc.devRef .tc main_v18) = X1 m c (Proc.devRef .tc main_v22_4) from (top0_v18 _).symm]
  exact (top0_v4 _ j).trans (lamIm_eq m c A B D ha hb hd j)
include hg in
theorem atB_row_0 (k : ℕ) (t : Fin 4096) (b : Fin 2) (j : Fin 2048) :
    rowOf (atB m k c (Proc.devRef .tc main_v35_0)) t (ValueIdx.ix3 0 b j) = ((G (4096 * b.val + t.val) j.val).re : EReal) := by
  rw [atB_keep m main_v35_0 (by decide +kernel) c k]
  refine (mid_v0 _ t 0 b j).trans ?_
  rw [X2_keep m c main_arg6 (by decide +kernel), atA_keep m main_arg6 (by decide +kernel) c 4096, show X1 m c (Proc.devRef .tc main_arg6) = _ from after_of_writes_sub top0 (launchContents m c) top0_writes (by decide +kernel),
    show launchContents m c (Proc.devRef .tc main_arg6) = _ from hg, Nat.mul_comm 4096 b.val]
  exact if_pos rfl
include hg in
theorem atB_row_1 (k : ℕ) (t : Fin 4096) (b : Fin 2) (j : Fin 2048) :
    rowOf (atB m k c (Proc.devRef .tc main_v35_0)) t (ValueIdx.ix3 1 b j) = ((G (4096 * b.val + t.val) j.val).im : EReal) := by
  rw [atB_keep m main_v35_0 (by decide +kernel) c k]
  refine (mid_v0 _ t 1 b j).trans ?_
  rw [X2_keep m c main_arg6 (by decide +kernel), atA_keep m main_arg6 (by decide +kernel) c 4096, show X1 m c (Proc.devRef .tc main_arg6) = _ from after_of_writes_sub top0 (launchContents m c) top0_writes (by decide +kernel),
    show launchContents m c (Proc.devRef .tc main_arg6) = _ from hg, Nat.mul_comm 4096 b.val]
  exact if_neg Nat.one_ne_zero
include ha hb hd hu in
theorem atB_v1 (k : ℕ) (t : Fin 4096) (b : Fin 2) (j : Fin 2048) :
    rowOf3 (atB m k c (Proc.devRef .tc main_v35_1)) t (ValueIdx.ix2 b j) = ((sT (lamOf A B D) U t.val b.val j.val).re : EReal) := by
  rw [atB_keep m main_v35_1 (by decide +kernel) c k, show X3 m c (Proc.devRef .tc main_v35_1) = _ from mid_v1 (X2 m c), X2_keep m c main_v22_9 (by decide +kernel)]
  exact (invA m c A B D U ha hb hd hu 4096 (Nat.le_refl _)).v9 t b j t.isLt
include ha hb hd hu in
theorem atB_v2 (k : ℕ) (t : Fin 4096) (b : Fin 2) (j : Fin 2048) :
    rowOf3 (atB m k c (Proc.devRef .tc main_v35_2)) t (ValueIdx.ix2 b j) = ((sT (lamOf A B D) U t.val b.val j.val).im : EReal) := by
  rw [atB_keep m main_v35_2 (by decide +kernel) c k, show X3 m c (Proc.devRef .tc main_v35_2) = _ from mid_v2 (X2 m c), X2_keep m c main_v22_10 (by decide +kernel)]
  exact (invA m c A B D U ha hb hd hu 4096 (Nat.le_refl _)).v10 t b j t.isLt

/-- What the second loop's buffers hold before trip `k`. -/
structure InvB (lam : ℕ → ℂ) (U : ℕ → ℕ → ℂ) (mu : ℕ → ℂ) (G : ℕ → ℕ → ℂ) (V : Valuation τ sig (Elt Ideal)) (k : ℕ) : Prop where
  v8 : ∀ (j : Fin 2048), V (Proc.devRef .tc main_v35_8) (ValueIdx.ix1 j) = ((dT mu G lam U k j.val).re : EReal)
  v9 : ∀ (j : Fin 2048), V (Proc.devRef .tc main_v35_9) (ValueIdx.ix1 j) = ((dT mu G lam U k j.val).im : EReal)
  v10 : ∀ (b : Fin 2) (j : Fin 2048), V (Proc.devRef .tc main_v35_10) (ValueIdx.ix2 b j) = ((mu j.val * aT mu G k b.val j.val).re : EReal)
  v11 : ∀ (b : Fin 2) (j : Fin 2048), V (Proc.devRef .tc main_v35_11) (ValueIdx.ix2 b j) = ((mu j.val * aT mu G k b.val j.val).im : EReal)
  v12_0 : ∀ (t : Fin 4096) (b : Fin 2) (j : Fin 2048), 4096 - k ≤ t.val → V (Proc.devRef .tc main_v35_12) (ValueIdx.ix4 t 0 b j) = ((aT mu G (4096 - t.val) b.val j.val).re : EReal)
  v12_1 : ∀ (t : Fin 4096) (b : Fin 2) (j : Fin 2048), 4096 - k ≤ t.val → V (Proc.devRef .tc main_v35_12) (ValueIdx.ix4 t 1 b j) = ((aT mu G (4096 - t.val) b.val j.val).im : EReal)

include ha hb hd hu hg in
theorem invB : ∀ k, k ≤ 4096 → InvB (lamOf A B D) U (muOf A B D) G (atB m k c) k
  | 0, _ => {
      v8 := fun j => (mid_v8 _ j).trans EReal.coe_zero.symm
      v9 := fun j => (mid_v9 _ j).trans EReal.coe_zero.symm
      v10 := fun b j => (mid_v10 _ b j).trans (by rw [show aT (muOf A B D) G 0 b.val j.val = 0 from rfl, mul_zero]; exact EReal.coe_zero.symm)
      v11 := fun b j => (mid_v11 _ b j).trans (by rw [show aT (muOf A B D) G 0 b.val j.val = 0 from rfl, mul_zero]; exact EReal.coe_zero.symm)
      v12_0 := fun t b j h => absurd t.isLt (by omega)
      v12_1 := fun t b j h => absurd t.isLt (by omega) }
  | k + 1, hk => by
    have hk' : k < 4096 := hk
    have ih := invB k (Nat.le_of_lt hk')
    have hc := atB_ctr m c k
    have hs : ∀ b j : ℕ, muOf A B D j * aT (muOf A B D) G k b j + G (4096 * b + (4095 - k)) j = aT (muOf A B D) G (k + 1) b j := fun b j => rfl
    have hare := fun (b : Fin 2) (j : Fin 2048) => aRe_eq _ _ b j _ _ (ih.v10 b j) (atB_row_0 m c G hg k ⟨4095 - k, by omega⟩ b j)
    have haim := fun (b : Fin 2) (j : Fin 2048) => aIm_eq _ _ b j _ _ (ih.v11 b j) (atB_row_1 m c G hg k ⟨4095 - k, by omega⟩ b j)
    have hdt : ∀ j : ℕ, dT (muOf A B D) G (lamOf A B D) U (k + 1) j = dT (muOf A B D) G (lamOf A B D) U k j
        + ∑ b : Fin 2, (starRingEnd ℂ) (sT (lamOf A B D) U (4095 - k) b.val j) * aT (muOf A B D) G (k + 1) b.val j := fun j => Finset.sum_range_succ _ _
    refine ⟨fun j => ?_, fun j => ?_, fun b j => ?_, fun b j => ?_, fun t b j h => ?_, fun t b j h => ?_⟩
    · refine (tripB_v8 _ k hk' hc j).trans ?_
      rw [hdt]
      exact dRe_eq _ _ _ _ _ _ j _ _ _ _ (fun b => ih.v10 b j) (fun b => ih.v11 b j) (fun b => atB_row_0 m c G hg k ⟨4095 - k, by omega⟩ b j)
        (fun b => atB_row_1 m c G hg k ⟨4095 - k, by omega⟩ b j) (fun b => atB_v1 m c A B D U ha hb hd hu k ⟨4095 - k, by omega⟩ b j)
        (fun b => atB_v2 m c A B D U ha hb hd hu k ⟨4095 - k, by omega⟩ b j) (ih.v8 j)
    · refine (tripB_v9 _ k hk' hc j).trans ?_
      rw [hdt]
      exact dIm_eq _ _ _ _ _ _ j _ _ _ _ (fun b => ih.v10 b j) (fun b => ih.v11 b j) (fun b => atB_row_0 m c G hg k ⟨4095 - k, by omega⟩ b j)
        (fun b => atB_row_1 m c G hg k ⟨4095 - k, by omega⟩ b j) (fun b => atB_v1 m c A B D U ha hb hd hu k ⟨4095 - k, by omega⟩ b j)
        (fun b => atB_v2 m c A B D U ha hb hd hu k ⟨4095 - k, by omega⟩ b j) (ih.v9 j)
    · exact (tripB_v10 _ k hk' hc b j).trans (cRe_eq _ _ _ _ _ b j _ _ _ (atB_v3 m c A B D ha hb hd k j) (atB_v6 m c A B D ha hb hd k j) (ih.v10 b j) (ih.v11 b j)
        (atB_row_0 m c G hg k ⟨4095 - k, by omega⟩ b j) (atB_row_1 m c G hg k ⟨4095 - k, by omega⟩ b j))
    · exact (tripB_v11 _ k hk' hc b j).trans (cIm_eq _ _ _ _ _ b j _ _ _ (atB_v5 m c A B D ha hb hd k j) (atB_v4 m c A B D ha hb hd k j) (ih.v10 b j) (ih.v11 b j)
        (atB_row_0 m c G hg k ⟨4095 - k, by omega⟩ b j) (atB_row_1 m c G hg k ⟨4095 - k, by omega⟩ b j))
    · refine (tripB_v12_0 _ k hk' hc t b j).trans ?_
      by_cases ht : t.val = 4095 - k
      · rw [if_pos ht, show 4096 - t.val = k + 1 by omega]; exact hare b j
      · rw [if_neg ht]; exact ih.v12_0 t b j (by omega)
    · refine (tripB_v12_1 _ k hk' hc t b j).trans ?_
      by_cases ht : t.val = 4095 - k
      · rw [if_pos ht, show 4096 - t.val = k + 1 by omega]; exact haim b j
      · rw [if_neg ht]; exact ih.v12_1 t b j (by omega)

end Cert.ReferenceIdeal.Own
end
-- ==== Proof.RefResult.lean ====
/-
  What the reference's three results hold at the end, as complex numbers.
-/
module

public import proofs.«01_k».proof.Proof.RefLoop

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo Cert.Cx
open Cert.KernelIdeal.Own (lamOf muOf stW adW dlW seqOf planes2 prd adj prev stR)

/-- The state before place `t` is the saved state of the place before, and zero before the first. -/
theorem prev_eq (lam : ℕ → ℂ) (U : ℕ → ℕ → ℂ) (b t j : ℕ) (h : t < 4096) : prev (seqOf b (stW lam U)) t j = sT lam U t b j := by
  unfold prev
  by_cases h0 : t = 0
  · rw [if_pos h0, h0]; rfl
  · rw [if_neg h0]
    show ScanMath.st (lam j) (fun t' => U (4096 * ((4096 * b + (t - 1)) / 4096) + t') j) ((4096 * b + (t - 1)) % 4096 + 1) = _
    rw [show (4096 * b + (t - 1)) / 4096 = b by omega, show (4096 * b + (t - 1)) % 4096 + 1 = t by omega]
    rfl

theorem prd_eq (mu : ℕ → ℂ) (G : ℕ → ℕ → ℂ) (lam : ℕ → ℂ) (U : ℕ → ℕ → ℂ) (b n j : ℕ) (h : n < 4096) :
    prd mu (seqOf b G) (seqOf b (stW lam U)) (4095 - n) j = (starRingEnd ℂ) (sT lam U (4095 - n) b j) * aT mu G (n + 1) b j := by
  show (starRingEnd ℂ) (prev (seqOf b (stW lam U)) (4095 - n) j) * stR mu (seqOf b G) (4096 - (4095 - n)) j = _
  rw [prev_eq lam U b _ j (by omega), show 4096 - (4095 - n) = n + 1 by omega]
  rfl

/-- The sum from the last place to the first is the sum of the two sequences' sums. -/
theorem dT_eq (mu : ℕ → ℂ) (G : ℕ → ℕ → ℂ) (lam : ℕ → ℂ) (U : ℕ → ℕ → ℂ) (j : ℕ) : dT mu G lam U 4096 j = dlW mu G (stW lam U) j := by
  unfold dT dlW
  simp only [Fin.sum_univ_two]
  rw [Finset.sum_add_distrib, ← Finset.sum_range_reflect (fun t => prd mu (seqOf 0 G) (seqOf 0 (stW lam U)) t j),
    ← Finset.sum_range_reflect (fun t => prd mu (seqOf 1 G) (seqOf 1 (stW lam U)) t j)]
  refine congrArg₂ (· + ·) (Finset.sum_congr rfl fun n hn => ?_) (Finset.sum_congr rfl fun n hn => ?_)
  · rw [show 4096 - 1 - n = 4095 - n by omega]
    exact (prd_eq mu G lam U 0 n j (Finset.mem_range.mp hn)).symm
  · rw [show 4096 - 1 - n = 4095 - n by omega]
    exact (prd_eq mu G lam U 1 n j (Finset.mem_range.mp hn)).symm

theorem ext3 (x y : S2x8192x2048.Idx → EReal) (h : ∀ (p : Fin 2) (r : Fin 8192) (j : Fin 2048), x (ValueIdx.ix3 p r j) = y (ValueIdx.ix3 p r j)) : x = y :=
  funext fun i => by rw [ValueIdx.eq_ix3 i]; exact h _ _ _
theorem ext2 (x y : S2x2048.Idx → EReal) (h : ∀ (p : Fin 2) (j : Fin 2048), x (ValueIdx.ix2 p j) = y (ValueIdx.ix2 p j)) : x = y :=
  funext fun i => by rw [ValueIdx.eq_ix2 i]; exact h _ _

variable (m : (ℓ : Loc nD τ sig) → Buf (Elt Ideal) ℓ) (ρ : Dev nD → PrngReg) (c : Dev nD)
variable (A B D : ℕ → ℝ) (U G : ℕ → ℕ → ℂ)
  (ha : (m ((c : Thread nD τ).loc main_arg0) : S2048x1.Idx → EReal) = Cert.KernelIdeal.Own.col A)
  (hb : (m ((c : Thread nD τ).loc main_arg1) : S2048x1.Idx → EReal) = Cert.KernelIdeal.Own.col B)
  (hd : (m ((c : Thread nD τ).loc main_arg2) : S2048x1.Idx → EReal) = Cert.KernelIdeal.Own.col D)
  (hu : (m ((c : Thread nD τ).loc main_arg5) : S2x8192x2048.Idx → EReal) = planes (n := 8192) (m := 2048) U)
  (hg : (m ((c : Thread nD τ).loc main_arg6) : S2x8192x2048.Idx → EReal) = planes (n := 8192) (m := 2048) G)

theorem X4_keep (r : Ref sig .tc) (h : r ∉ condB_W) : X4 m c (Proc.devRef .tc r) = atB m 4096 c (Proc.devRef .tc r) :=
  after_of_writes_sub _ _ condB_writes h

include ha hb hd hu in
theorem end_v38 : (X5 m c (Proc.devRef .tc main_v38) : S2x8192x2048.Idx → EReal) = planes (n := 8192) (m := 2048) (stW (lamOf A B D) U) := by
  refine ext3 _ _ fun p r j => ?_
  refine (top3_v38 (X4 m c) p r j).trans ?_
  rw [X4_keep m c main_v24 (by decide +kernel), atB_keep m main_v24 (by decide +kernel) c 4096]
  refine (mid_v24 (X2 m c) p r j).trans ?_
  rw [X2_keep m c main_v22_8 (by decide +kernel)]
  have I := invA m c A B D U ha hb hd hu 4096 (Nat.le_refl _)
  match p with
  | 0 => exact (I.v8_0 ⟨r.val % 4096, by omega⟩ ⟨r.val / 4096, by omega⟩ j (by show r.val % 4096 < 4096; omega)).trans (if_pos rfl).symm
  | 1 => exact (I.v8_1 ⟨r.val % 4096, by omega⟩ ⟨r.val / 4096, by omega⟩ j (by show r.val % 4096 < 4096; omega)).trans (if_neg Nat.one_ne_zero).symm

include ha hb hd hu hg in
theorem end_v39 : (X5 m c (Proc.devRef .tc main_v39) : S2x8192x2048.Idx → EReal) = planes (n := 8192) (m := 2048) (adW (muOf A B D) G) := by
  refine ext3 _ _ fun p r j => ?_
  refine (top3_v39 (X4 m c) p r j).trans ?_
  rw [X4_keep m c main_v35_12 (by decide +kernel)]
  have I := invB m c A B D U G ha hb hd hu hg 4096 (Nat.le_refl _)
  match p with
  | 0 => exact (I.v12_0 ⟨r.val % 4096, by omega⟩ ⟨r.val / 4096, by omega⟩ j (by show 4096 - 4096 ≤ r.val % 4096; omega)).trans (if_pos rfl).symm
  | 1 => exact (I.v12_1 ⟨r.val % 4096, by omega⟩ ⟨r.val / 4096, by omega⟩ j (by show 4096 - 4096 ≤ r.val % 4096; omega)).trans (if_neg Nat.one_ne_zero).symm

include ha hb hd hu hg in
theorem end_v42 : (X5 m c (Proc.devRef .tc main_v42) : S2x2048.Idx → EReal) = planes2 (dlW (muOf A B D) G (stW (lamOf A B D) U)) := by
  refine ext2 _ _ fun p j => ?_
  have I := invB m c A B D U G ha hb hd hu hg 4096 (Nat.le_refl _)
  match p with
  | 0 =>
    refine (top3_v42_0 (X4 m c) j).trans ?_
    rw [X4_keep m c main_v35_8 (by decide +kernel)]
    refine (I.v8 j).trans ?_
    rw [dT_eq]
    exact (if_pos rfl).symm
  | 1 =>
    refine (top3_v42_1 (X4 m c) j).trans ?_
    rw [X4_keep m c main_v35_9 (by decide +kernel)]
    refine (I.v9 j).trans ?_
    rw [dT_eq]
    exact (if_neg Nat.one_ne_zero).symm

end Cert.ReferenceIdeal.Own
end
-- ==== Proof.Finite.lean ====
/-
  What the precondition says: every entry of the five floating arguments that the scans read is a real number.
-/
module

public import proofs.«01_k».proof.Defs
public import proofs.«01_k».proof.Proof.KernelResult
public import proofs.«01_k».proof.Proof.RefResult
import Idealize.ShloMosaic.Lib.Pointwise.Select

@[expose] public section

set_option maxRecDepth 16384

noncomputable section

namespace Cert.Own

open Idealize.ShloMosaic Idealize.ShloMosaic.TcCoe Idealize.SL.Sem Cert.Cx
open Cert.KernelIdeal.Own (col)

theorem preFacts : Cert.Pre_finite.Facts := ⟨by decide, by decide, by decide⟩

/-- The word of plus infinity. -/
theorem inf_word : Ideal.ofBits .f32 0x7F800000#32 = (⊤ : EReal) := by simp [Ideal.ofBits, Ideal.ieee]

/-- A number whose absolute value is below plus infinity is real. -/
theorem real_of_lt (x : EReal) (h : Ideal.cmp .olt (max x (-x)) (Ideal.ofBits .f32 0x7F800000#32) = 1#1) : ((x.toReal : ℝ) : EReal) = x := by
  rw [inf_word] at h
  have h' : max x (-x) < ⊤ := (Ideal.cmp_olt_eq_one _ _).mp h
  refine EReal.coe_toReal ?_ ?_
  · rintro rfl
    simp at h'
  · rintro rfl
    simp at h'

/-- A column of real numbers, by their row. -/
def colR (x : Cert.KernelIdeal.S2048x1.Idx → EReal) (j : ℕ) : ℝ := if h : j < 2048 then (x (ValueIdx.ix2 ⟨j, h⟩ 0)).toReal else 0

theorem col_colR (x : Cert.KernelIdeal.S2048x1.Idx → EReal) (h : ∀ i, (((x i).toReal : ℝ) : EReal) = x i) : x = col (colR x) := by
  suffices key : ∀ (j : Fin 2048) (z : Fin 1), x (ValueIdx.ix2 j z) = col (colR x) (ValueIdx.ix2 j z) from
    funext fun i => by rw [ValueIdx.eq_ix2 i]; exact key _ _
  intro j z
  obtain rfl : z = 0 := Subsingleton.elim _ _
  refine (h _).symm.trans ?_
  show _ = ((colR x j.val : ℝ) : EReal)
  refine congrArg _ ?_
  show _ = dite (j.val < 2048) (fun h => (x (ValueIdx.ix2 ⟨j.val, h⟩ 0)).toReal) _
  rw [dif_pos j.isLt]

/-- Two planes of real numbers, as complex numbers. -/
def planesC (x : Cert.KernelIdeal.S2x8192x2048.Idx → EReal) (r j : ℕ) : ℂ :=
  if h : r < 8192 ∧ j < 2048 then ⟨(x (ValueIdx.ix3 0 ⟨r, h.1⟩ ⟨j, h.2⟩)).toReal, (x (ValueIdx.ix3 1 ⟨r, h.1⟩ ⟨j, h.2⟩)).toReal⟩ else 0

theorem planes_planesC (x : Cert.KernelIdeal.S2x8192x2048.Idx → EReal) (h : ∀ i, (((x i).toReal : ℝ) : EReal) = x i) :
    x = planes (n := 8192) (m := 2048) (planesC x) := by
  refine Cert.ReferenceIdeal.Own.ext3 _ _ fun p r j => ?_
  refine (h _).symm.trans ?_
  have e : planesC x r.val j.val = ⟨(x (ValueIdx.ix3 0 r j)).toReal, (x (ValueIdx.ix3 1 r j)).toReal⟩ := dif_pos ⟨r.isLt, j.isLt⟩
  match p with
  | 0 =>
    refine Eq.trans ?_ (if_pos rfl).symm
    show _ = ((planesC x r.val j.val).re : EReal)
    rw [e]
  | 1 =>
    refine Eq.trans ?_ (if_neg Nat.one_ne_zero).symm
    show _ = ((planesC x r.val j.val).im : EReal)
    rw [e]

section
variable (m : (ℓ : Loc Cert.KernelIdeal.nD Cert.KernelIdeal.τ Cert.KernelIdeal.sig) → Buf (Elt Ideal) ℓ) (c : Dev Cert.KernelIdeal.nD)

abbrev xa : Cert.KernelIdeal.S2048x1.Idx → EReal := m ((c.tc : Thread Cert.KernelIdeal.nD Cert.KernelIdeal.τ).loc Cert.KernelIdeal.main_arg0)
abbrev xb : Cert.KernelIdeal.S2048x1.Idx → EReal := m ((c.tc : Thread Cert.KernelIdeal.nD Cert.KernelIdeal.τ).loc Cert.KernelIdeal.main_arg1)
abbrev xd : Cert.KernelIdeal.S2048x1.Idx → EReal := m ((c.tc : Thread Cert.KernelIdeal.nD Cert.KernelIdeal.τ).loc Cert.KernelIdeal.main_arg2)
abbrev xu : Cert.KernelIdeal.S2x8192x2048.Idx → EReal := m ((c.tc : Thread Cert.KernelIdeal.nD Cert.KernelIdeal.τ).loc Cert.KernelIdeal.main_arg5)
abbrev xg : Cert.KernelIdeal.S2x8192x2048.Idx → EReal := m ((c.tc : Thread Cert.KernelIdeal.nD Cert.KernelIdeal.τ).loc Cert.KernelIdeal.main_arg6)

variable (h : @Cert.Pre_KernelIdeal_finite preFacts m)
include h

theorem pre_a : xa m c = col (colR (xa m c)) := col_colR _ fun i => real_of_lt _ (congrFun (h c).1 i)
theorem pre_b : xb m c = col (colR (xb m c)) := col_colR _ fun i => real_of_lt _ (congrFun (h c).2.1 i)
theorem pre_d : xd m c = col (colR (xd m c)) := col_colR _ fun i => real_of_lt _ (congrFun (h c).2.2.1 i)
theorem pre_u : xu m c = planes (n := 8192) (m := 2048) (planesC (xu m c)) := planes_planesC _ fun i => real_of_lt _ (congrFun (h c).2.2.2.1 i)
theorem pre_g : xg m c = planes (n := 8192) (m := 2048) (planesC (xg m c)) := planes_planesC _ fun i => real_of_lt _ (congrFun (h c).2.2.2.2 i)
end

end Cert.Own
end
-- ==== Proof.Mat.lean ====
/-
  Entries of arrays by natural numbers, and sums over columns taken block by block.
-/
module

public import Idealize.ShloMosaic.Lib.Pipeline.ValueKit
public import Idealize.ShloMosaic.Lib.Tactic

@[expose] public section

noncomputable section

namespace Cert.Mat

open Idealize.ShloMosaic

/-- Entry `(r, c)` of an array with two axes, and zero outside it. -/
def at2 {a b : ℕ} (A : (⟨2, ![a, b]⟩ : Shape).Idx → EReal) (r c : ℕ) : EReal :=
  if h : r < a ∧ c < b then A (ValueIdx.ix2 ⟨r, h.1⟩ ⟨c, h.2⟩) else 0

theorem at2_mk {a b : ℕ} (A : (⟨2, ![a, b]⟩ : Shape).Idx → EReal) (r : Fin a) (c : Fin b) :
    A (ValueIdx.ix2 r c) = at2 A r.val c.val := by
  unfold at2; rw [dif_pos ⟨r.isLt, c.isLt⟩]

theorem at2_eq {a b : ℕ} (A : (⟨2, ![a, b]⟩ : Shape).Idx → EReal) (i : (⟨2, ![a, b]⟩ : Shape).Idx) :
    A i = at2 A (i 0).val (i 1).val := by
  obtain ⟨p, q, rfl⟩ : ∃ p q, i = ValueIdx.ix2 p q := ⟨i 0, i 1, ValueIdx.eq_ix2 i⟩
  exact at2_mk A p q

/-- Entry `(s, r, c)` of an array with three axes, and zero outside it. -/
def at3 {d a b : ℕ} (A : (⟨3, ![d, a, b]⟩ : Shape).Idx → EReal) (s r c : ℕ) : EReal :=
  if h : s < d ∧ r < a ∧ c < b then A (ValueIdx.ix3 ⟨s, h.1⟩ ⟨r, h.2.1⟩ ⟨c, h.2.2⟩) else 0

theorem at3_mk {d a b : ℕ} (A : (⟨3, ![d, a, b]⟩ : Shape).Idx → EReal) (s : Fin d) (r : Fin a) (c : Fin b) :
    A (ValueIdx.ix3 s r c) = at3 A s.val r.val c.val := by
  unfold at3; rw [dif_pos ⟨s.isLt, r.isLt, c.isLt⟩]

theorem at3_eq {d a b : ℕ} (A : (⟨3, ![d, a, b]⟩ : Shape).Idx → EReal) (i : (⟨3, ![d, a, b]⟩ : Shape).Idx) :
    A i = at3 A (i 0).val (i 1).val (i 2).val := by
  obtain ⟨p, q, r, rfl⟩ : ∃ p q r, i = ValueIdx.ix3 p q r := ⟨i 0, i 1, i 2, ValueIdx.eq_ix3 i⟩
  exact at3_mk A p q r

/-- A sum over `m * n` indices is a sum over `m` blocks of `n`. -/
theorem sum_blocks (m n N : ℕ) (h : N = m * n) (f : ℕ → EReal) :
    ∑ j : Fin N, f j.val = ∑ s : Fin m, ∑ l : Fin n, f (n * s.val + l.val) := by
  subst h
  rw [← Fintype.sum_prod_type' (f := fun (s : Fin m) (l : Fin n) => f (n * s.val + l.val))]
  refine (Equiv.sum_comp finProdFinEquiv (fun j : Fin (m * n) => f j.val)).symm.trans (Finset.sum_congr rfl fun x _ => ?_)
  show f (x.2.val + n * x.1.val) = _
  rw [Nat.add_comm]

/-- Block `s` of the four column blocks, in the other order: the two middle ones change places. -/
def mid (s : ℕ) : ℕ := s % 2 * 2 + s / 2

theorem sum_mid (f : ℕ → ℕ → EReal) : ∑ s : Fin 4, f s.val (mid s.val) = ∑ s : Fin 4, f (mid s.val) s.val := by
  rw [Fin.sum_univ_four, Fin.sum_univ_four]
  show f 0 0 + f 1 2 + f 2 1 + f 3 3 = f 0 0 + f 2 1 + f 1 2 + f 3 3
  rw [add_right_comm (f 0 0)]

/-- An accumulator that is set at every `K`-th point and added to at the others holds the sum since it was last set. -/
theorem acc_sum {ι : Type} (K N : ℕ) (f : (n : ℕ) → n < N → ι → EReal) (p : ℕ → ι → EReal)
    (h0 : ∀ n h y, n % K = 0 → f n h y = p n y)
    (hs : ∀ n h y, n % K ≠ 0 → f n h y = f (n - 1) (lt_of_le_of_lt (Nat.sub_le n 1) h) y + p n y) :
    ∀ (n : ℕ) (h : n < N) (y : ι), f n h y = ∑ s ∈ Finset.range (n % K + 1), p (n - n % K + s) y := by
  intro n
  induction n with
  | zero =>
    intro h y
    rw [Nat.zero_mod, Finset.sum_range_one]
    exact h0 0 h y (Nat.zero_mod K)
  | succ n ih =>
    intro h y
    by_cases e : (n + 1) % K = 0
    · rw [e, Finset.sum_range_one]
      exact h0 _ h y e
    · have e1 : (n + 1) % K = n % K + 1 := by
        rcases Nat.eq_zero_or_pos K with hK | hK
        · subst hK; rw [Nat.mod_zero, Nat.mod_zero]
        · have ed := Nat.div_add_mod n K
          by_cases h1 : n % K + 1 = K
          · refine absurd ?_ e
            rw [show n + 1 = K * (n / K + 1) from by rw [Nat.mul_add]; omega, Nat.mul_mod_right]
          · have := Nat.mod_lt n hK
            rw [Nat.add_mod, Nat.mod_eq_of_lt (a := 1) (by omega), Nat.mod_eq_of_lt (by omega)]
      rw [hs _ h y e, e1, Finset.sum_range_succ]
      have hm := Nat.mod_le n K
      have e2 : n + 1 - (n % K + 1) = n - n % K := by omega
      have e3 : n - n % K + (n % K + 1) = n + 1 := by omega
      rw [e2, e3]
      exact congrArg (· + p (n + 1) y) (ih (Nat.lt_of_succ_lt h) y)

/-- The word of one half. -/
def half : EReal := FloatOps.ofBits (F := Ideal) .f32 0x3F000000#32

theorem half_eq : half = ((1 / 2 : ℝ) : EReal) := by
  show Ideal.ofBits .f32 0x3F000000#32 = _
  simp [Ideal.ofBits, Ideal.ieee]
  rw [← EReal.coe_mul]
  norm_num

/-- Half of a sum is the sum of the halves. -/
theorem half_mul_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, EReal.left_distrib_of_nonneg_of_ne_top, ih]
    · rw [half_eq]; exact_mod_cast (by norm_num : (0 : ℝ) ≤ 1 / 2)
    · rw [half_eq]; exact EReal.coe_ne_top _

end Cert.Mat
end
-- ==== Proof.FfnMath.lean ====
/-
  The FFN over the reals, entry by entry: the normed rows, the gate and the linear half, the output, and the gradient of the gate.
-/
module

public import proofs.«01_k».proof.Proof.Mat

@[expose] public section

noncomputable section

namespace Cert.Ffn

open Idealize.ShloMosaic Cert.Mat

/-- Entry `j` of an array with one axis, and zero outside it. -/
def at1 {a : ℕ} (A : (⟨1, ![a]⟩ : Shape).Idx → EReal) (j : ℕ) : EReal := if h : j < a then A (ValueIdx.ix1 ⟨j, h⟩) else 0

theorem at1_eq {a : ℕ} (A : (⟨1, ![a]⟩ : Shape).Idx → EReal) (i : (⟨1, ![a]⟩ : Shape).Idx) : A i = at1 A (i 0).val := by
  obtain ⟨p, rfl⟩ : ∃ p, i = ValueIdx.ix1 p := ⟨i 0, ValueIdx.eq_ix1 i⟩
  show _ = at1 A p.val
  unfold at1; rw [dif_pos p.isLt]

/-- The word of 1024, and the word added under the root. -/
def width : EReal := FloatOps.ofBits (F := Ideal) .f32 0x44800000#32
def eps : EReal := FloatOps.ofBits (F := Ideal) .f32 0x358637BD#32

/-- One over the root of the mean square of row `r`. -/
def scl (h : (⟨2, ![8192, 1024]⟩ : Shape).Idx → EReal) (r : ℕ) : EReal :=
  Ideal.rsqrt (Ideal.div (∑ l : Fin 1024, at2 h r l.val * at2 h r l.val) width + eps)

section
variable (h : (⟨2, ![8192, 1024]⟩ : Shape).Idx → EReal) (g : (⟨1, ![1024]⟩ : Shape).Idx → EReal)
  (w : (⟨3, ![4, 1024, 1408]⟩ : Shape).Idx → EReal) (wo : (⟨2, ![2816, 1024]⟩ : Shape).Idx → EReal)
  (d : (⟨2, ![8192, 1024]⟩ : Shape).Idx → EReal)

/-- The row after the norm. -/
def nrm (r j : ℕ) : EReal := at2 h r j * scl h r * at1 g j

/-- Column `j` of shard `s` of the first product. -/
def pre (r s j : ℕ) : EReal := ∑ k : Fin 1024, nrm h g r k.val * at3 w s k.val j

def gate (r j : ℕ) : EReal := pre h g w r (j / 1408) (j % 1408)
def lin (r j : ℕ) : EReal := pre h g w r (2 + j / 1408) (j % 1408)

/-- The activations. -/
def act (r j : ℕ) : EReal := gate h g w r j * Ideal.logistic (gate h g w r j) * lin h g w r j

/-- The output of the block. -/
def out (r c : ℕ) : EReal := at2 h r c + half * ∑ k : Fin 2816, act h g w r k.val * at2 wo k.val c

/-- The cotangent of the activations. -/
def cot (r j : ℕ) : EReal := half * ∑ k : Fin 1024, at2 d r k.val * at2 wo j k.val

/-- The cotangent of the gate, and of the linear half. -/
def dgate (r j : ℕ) : EReal :=
  cot wo d r j * lin h g w r j
    * (Ideal.logistic (gate h g w r j) * (1 + gate h g w r j * (1 - Ideal.logistic (gate h g w r j))))
def dlin (r j : ℕ) : EReal := cot wo d r j * (gate h g w r j * Ideal.logistic (gate h g w r j))

/-- The two, their column blocks alternating. -/
def dgu (r n : ℕ) : EReal :=
  if n / 1408 % 2 = 0 then dgate h g w wo d r (1408 * (n / 2816) + n % 1408)
  else dlin h g w wo d r (1408 * (n / 2816) + n % 1408)

end

end Cert.Ffn
end
-- ==== Proof.FfnReal.lean ====
/-
  Where what enters the FFN is real, so is what it computes, and the two ways of writing the gradient of the gate agree.
-/
module

public import proofs.«01_k».proof.Proof.FfnMath

@[expose] public section

noncomputable section

namespace Cert.Ffn

open Idealize.ShloMosaic Cert.Mat

/-- A real number among the extended ones. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) :=
  Finset.sum_induction f IsReal (fun _ _ => IsReal.add) IsReal.zero fun k _ => h k

theorem IsReal.at1 {a : ℕ} {A : (⟨1, ![a]⟩ : Shape).Idx → EReal} (h : ∀ i, IsReal (A i)) (j : ℕ) : IsReal (at1 A j) := by
  unfold Cert.Ffn.at1
  split
  · exact h _
  · exact IsReal.zero

theorem IsReal.at2 {a b : ℕ} {A : (⟨2, ![a, b]⟩ : Shape).Idx → EReal} (h : ∀ i, IsReal (A i)) (i j : ℕ) : IsReal (at2 A i j) := by
  unfold Cert.Mat.at2
  split
  · exact h _
  · exact IsReal.zero

theorem IsReal.at3 {d a b : ℕ} {A : (⟨3, ![d, a, b]⟩ : Shape).Idx → EReal} (h : ∀ i, IsReal (A i)) (s i j : ℕ) : IsReal (at3 A s i j) := by
  unfold Cert.Mat.at3
  split
  · exact h _
  · exact IsReal.zero

theorem half_real : IsReal half := ⟨1 / 2, half_eq⟩

theorem width_eq : width = ((1024 : ℝ) : EReal) := by
  unfold width
  simp [FloatOps.ofBits, Ideal.ofBits, Ideal.ieee]
  rw [← EReal.coe_mul]
  norm_num

/-- The number under the root is positive. -/
theorem eps_pos : ∃ e : ℝ, 0 < e ∧ eps = (e : EReal) := by
  unfold eps
  simp [FloatOps.ofBits, Ideal.ofBits, Ideal.ieee]
  exact ⟨8796093 * (2 ^ 43)⁻¹, by positivity, by rw [EReal.coe_mul]⟩

/-- One over the root of a mean square and a positive number. -/
theorem rsqrt_real {x : EReal} (h : ∃ r : ℝ, 0 ≤ r ∧ x = (r : EReal)) : IsReal (Ideal.rsqrt (Ideal.div x width + eps)) := by
  obtain ⟨r, hr, rfl⟩ := h
  obtain ⟨e, he, hE⟩ := eps_pos
  have h0 : 0 < r * (1024 : ℝ)⁻¹ + e := by positivity
  have hd : Ideal.div (r : EReal) width + eps = ((r * (1024 : ℝ)⁻¹ + e : ℝ) : EReal) := by
    rw [width_eq, hE]
    unfold Ideal.div
    rw [if_neg (by norm_num), ← EReal.coe_inv, ← EReal.coe_mul, ← EReal.coe_add]
  rw [hd, Ideal.rsqrt_coe, if_neg h0.not_gt, if_neg h0.ne']
  exact ⟨_, rfl⟩

theorem square_sum {n : ℕ} {f : Fin n → EReal} (h : ∀ k, IsReal (f k)) : ∃ r : ℝ, 0 ≤ r ∧ ∑ k, f k * f k = (r : EReal) := by
  refine Finset.sum_induction (fun k => f k * f k) (fun x => ∃ r : ℝ, 0 ≤ r ∧ x = (r : EReal)) ?_ ⟨0, le_refl _, rfl⟩ fun k _ => ?_
  · rintro _ _ ⟨a, ha, rfl⟩ ⟨b, hb, rfl⟩
    exact ⟨a + b, add_nonneg ha hb, (EReal.coe_add a b).symm⟩
  · obtain ⟨a, e⟩ := h k
    refine ⟨a * a, mul_self_nonneg a, ?_⟩
    rw [e, EReal.coe_mul]

section
variable {h : (⟨2, ![8192, 1024]⟩ : Shape).Idx → EReal} {g : (⟨1, ![1024]⟩ : Shape).Idx → EReal}
  {w : (⟨3, ![4, 1024, 1408]⟩ : Shape).Idx → EReal} {wo : (⟨2, ![2816, 1024]⟩ : Shape).Idx → EReal}
  {d : (⟨2, ![8192, 1024]⟩ : Shape).Idx → EReal}
  (hh : ∀ i, IsReal (h i)) (hg : ∀ i, IsReal (g i)) (hw : ∀ i, IsReal (w i)) (hwo : ∀ i, IsReal (wo i)) (hd : ∀ i, IsReal (d i))

include hh hg in
theorem nrm_real (r j : ℕ) : IsReal (nrm h g r j) :=
  ((IsReal.at2 hh r j).mul (rsqrt_real (square_sum fun l => IsReal.at2 hh r l.val))).mul (IsReal.at1 hg j)

include hh hg hw in
theorem pre_real (r s j : ℕ) : IsReal (pre h g w r s j) := IsReal.sum fun k => (nrm_real hh hg r k.val).mul (IsReal.at3 hw s k.val j)

include hwo hd in
theorem cot_real (r j : ℕ) : IsReal (cot wo d r j) :=
  half_real.mul (IsReal.sum fun k => (IsReal.at2 hd r k.val).mul (IsReal.at2 hwo j k.val))

end

/-- The gradient of the gate as a sum of two products, and as one product. -/
theorem gate_grad {x y : EReal} (hx : IsReal x) (hy : IsReal y) :
    y * Ideal.logistic x + x * y * (Ideal.logistic x * (1 - Ideal.logistic x))
      = y * (Ideal.logistic x * (1 + x * (1 - Ideal.logistic x))) := by
  obtain ⟨a, rfl⟩ := hx
  obtain ⟨b, rfl⟩ := hy
  rw [Ideal.logistic_coe]
  generalize (1 + Real.exp (-a))⁻¹ = s
  rw [← EReal.coe_one]
  simp only [← EReal.coe_mul, ← EReal.coe_add, ← EReal.coe_sub]
  congr 1
  ring

end Cert.Ffn
end
-- ==== Proof.FfnKernel.lean ====
/-
  The four calls of the FFN, each block of a result from the blocks it reads.
-/
module

public import proofs.«01_k».proof.Proof.FfnMath
public import proofs.«01_k».proof.Proof.Gen.Kernel2Ideal.Frame
public import Idealize.ShloMosaic.Lib.StableHlo.ReadAt

@[expose] public section

set_option maxRecDepth 16384

noncomputable section

namespace Cert.Kernel2Ideal.Own

open Cert.Kernel2Ideal Cert.Kernel2Ideal.Gen Cert.Mat Cert.Ffn
open Idealize.ShloMosaic Idealize.ShloMosaic.TcCoe Idealize.SL.Sem Idealize.ShloMosaic.StableHlo

theorem hz2 : (![0, 0] : Fin 2 → Nat) = fun _ => 0 := funext fun a => by fin_cases a <;> rfl
theorem hz3 : (![0, 0, 0] : Fin 3 → Nat) = fun _ => 0 := funext fun a => by fin_cases a <;> rfl

theorem out0 (x0 : Vec Ideal S512x1024 .f32) (x1 : Vec Ideal S1x1024 .f32) : out0_2 x0 x1 = k0_pay1 x0 x1 := by
  unfold out0_2
  rw [View.canon_unit_zero hz2, View.ld_unit_zero (S := S512x1024) hz2, View.ld_unit_zero (S := S1x1024) hz2]

theorem out1_g (x0 : Vec Ideal S512x1024 .bf16) (x1 x2 : Vec Ideal S1x1024x1408 .bf16) : out1_3 x0 x1 x2 = k1_pay4 x0 x1 := by
  unfold out1_3
  rw [View.canon_unit_zero hz2, View.ld_unit_zero (S := S512x1024) hz2, View.ld_unit_zero (S := S1x1024x1408) hz3]

theorem out1_u (x0 : Vec Ideal S512x1024 .bf16) (x1 x2 : Vec Ideal S1x1024x1408 .bf16) : out1_4 x0 x1 x2 = k1_pay5 x0 x2 := by
  unfold out1_4
  rw [View.canon_unit_zero hz2, View.ld_unit_zero (S := S512x1024) hz2, View.ld_unit_zero (S := S1x1024x1408) hz3]

theorem out1_a (x0 : Vec Ideal S512x1024 .bf16) (x1 x2 : Vec Ideal S1x1024x1408 .bf16) : out1_5 x0 x1 x2 = k1_pay6 x0 x1 x2 := by
  unfold out1_5
  rw [View.canon_unit_zero hz2, View.ld_unit_zero (S := S512x1024) hz2, View.ld_unit_zero (S := S1x1024x1408) hz3,
    View.ld_unit_zero (S := S1x1024x1408) hz3]

theorem out2 (x0 : Vec Ideal S512x2816 .bf16) (x1 : Vec Ideal S2816x1024 .bf16) (x2 : Vec Ideal S512x1024 .f32) :
    out2_3 x0 x1 x2 = k2_pay1 x0 x1 x2 := by
  unfold out2_3
  rw [View.canon_unit_zero hz2, View.ld_unit_zero (S := S512x2816) hz2, View.ld_unit_zero (S := S2816x1024) hz2,
    View.ld_unit_zero (S := S512x1024) hz2]

theorem out3 (x0 : Vec Ideal S512x1024 .bf16) (x1 : Vec Ideal S1024x1408 .bf16) (x2 x3 : Vec Ideal S512x1408 .bf16) :
    out3_4 x0 x1 x2 x3 = k3_pay1 x0 x1 x2 x3 := by
  unfold out3_4
  rw [View.canon_unit_zero hz2, View.ld_unit_zero (S := S512x1024) hz2, View.ld_unit_zero (S := S1024x1408) hz2,
    View.ld_unit_zero (S := S512x1408) hz2, View.ld_unit_zero (S := S512x1408) hz2]

/-- A block of the norm. -/
theorem pay0_at (x0 : Vec Ideal S512x1024 .f32) (x1 : Vec Ideal S1x1024 .f32) (p : Fin 512) (q : Fin 1024) :
    (k0_pay1 x0 x1 (ValueIdx.ix2 p q) : EReal)
      = at2 (a := 512) (b := 1024) x0 p.val q.val
        * Ideal.rsqrt (Ideal.div (∑ l : Fin 1024, at2 (a := 512) (b := 1024) x0 p.val l.val * at2 (a := 512) (b := 1024) x0 p.val l.val) width + eps)
        * at2 (a := 1) (b := 1024) x1 0 q.val := by
  unfold k0_pay1
  pointwise
  have hs : ∀ l : Fin 1024, at2 (a := 512) (b := 1024) x0 p.val l.val = x0 (ValueIdx.ix2 p l) := fun l => (at2_mk (a := 512) (b := 1024) x0 p l).symm
  have hg : at2 (a := 1) (b := 1024) x1 0 q.val = x1 (ValueIdx.ix2 0 q) := (at2_mk (a := 1) (b := 1024) x1 0 q).symm
  simp only [hs, hg]
  rfl

/-- A block of the gate: the rows times a column of the shard. -/
theorem pay1_g (x0 : Vec Ideal S512x1024 .bf16) (x1 : Vec Ideal S1x1024x1408 .bf16) (p : Fin 512) (q : Fin 1408) :
    (k1_pay2 x0 x1 (ValueIdx.ix2 p q) : EReal)
      = ∑ k : Fin 1024, at2 (a := 512) (b := 1024) x0 p.val k.val * at3 (d := 1) (a := 1024) (b := 1408) x1 0 k.val q.val := by
  unfold k1_pay2 k1_pay1
  pointwise
  exact Finset.sum_congr rfl fun k _ => congrArg₂ (fun u v : EReal => u * v) (at2_mk (a := 512) (b := 1024) x0 p k)
    (at3_mk (d := 1) (a := 1024) (b := 1408) x1 0 k q)

/-- A block of the linear half is the same product, -/
theorem pay1_u (x0 : Vec Ideal S512x1024 .bf16) (x1 : Vec Ideal S1x1024x1408 .bf16) (p : Fin 512) (q : Fin 1408) :
    (k1_pay3 x0 x1 (ValueIdx.ix2 p q) : EReal)
      = ∑ k : Fin 1024, at2 (a := 512) (b := 1024) x0 p.val k.val * at3 (d := 1) (a := 1024) (b := 1408) x1 0 k.val q.val := by
  unfold k1_pay3 k1_pay1
  pointwise
  exact Finset.sum_congr rfl fun k _ => congrArg₂ (fun u v : EReal => u * v) (at2_mk (a := 512) (b := 1024) x0 p k)
    (at3_mk (d := 1) (a := 1024) (b := 1408) x1 0 k q)

/-- and a block of the activations is of the two. -/
theorem pay1_a (x0 : Vec Ideal S512x1024 .bf16) (x1 x2 : Vec Ideal S1x1024x1408 .bf16) (y : S512x1408.Idx) :
    (k1_pay6 x0 x1 x2 y : EReal) = k1_pay2 x0 x1 y * Ideal.logistic (k1_pay2 x0 x1 y) * k1_pay3 x0 x2 y := by
  unfold k1_pay6
  rfl

theorem pay2_at (x0 : Vec Ideal S512x2816 .bf16) (x1 : Vec Ideal S2816x1024 .bf16) (x2 : Vec Ideal S512x1024 .f32) (p : Fin 512) (q : Fin 1024) :
    (k2_pay1 x0 x1 x2 (ValueIdx.ix2 p q) : EReal)
      = at2 (a := 512) (b := 1024) x2 p.val q.val
        + half * ∑ k : Fin 2816, at2 (a := 512) (b := 2816) x0 p.val k.val * at2 (a := 2816) (b := 1024) x1 k.val q.val := by
  unfold k2_pay1
  pointwise
  refine (add_comm _ _).trans (congrArg₂ (fun u v : EReal => u + v) (at2_mk (a := 512) (b := 1024) x2 p q) ((mul_comm _ _).trans
    (congrArg (fun u : EReal => half * u) (Finset.sum_congr rfl fun k _ => congrArg₂ (fun u v : EReal => u * v)
      (at2_mk (a := 512) (b := 2816) x0 p k) (at2_mk (a := 2816) (b := 1024) x1 k q)))))

section
variable (x0 : Vec Ideal S512x1024 .bf16) (x1 : Vec Ideal S1024x1408 .bf16) (x2 x3 : Vec Ideal S512x1408 .bf16)

/-- The cotangent of the activations in a block of the fourth call. -/
def cblk (p q : ℕ) : EReal := half * ∑ k : Fin 1024, at2 (a := 512) (b := 1024) x0 p k.val * at2 (a := 1024) (b := 1408) x1 k.val q

theorem cblk_eq (p : Fin 512) (q : Fin 1408) :
    cblk x0 x1 p.val q.val = half * ∑ k : Fin 1024, (x0 (ValueIdx.ix2 p k) : EReal) * x1 (ValueIdx.ix2 k q) :=
  congrArg (fun u : EReal => half * u) (Finset.sum_congr rfl fun k _ => congrArg₂ (fun u v : EReal => u * v)
    (at2_mk (a := 512) (b := 1024) x0 p k).symm (at2_mk (a := 1024) (b := 1408) x1 k q).symm)

/-- The left half of its block is the cotangent of the gate, -/
theorem pay3_g (p : Fin 512) (q : Fin 1408) :
    (k3_pay1 x0 x1 x2 x3 (ValueIdx.ix2 p ⟨q.val, by omega⟩) : EReal)
      = cblk x0 x1 p.val q.val * at2 (a := 512) (b := 1408) x3 p.val q.val
        * (Ideal.logistic (at2 (a := 512) (b := 1408) x2 p.val q.val)
          * (1 + at2 (a := 512) (b := 1408) x2 p.val q.val * (1 - Ideal.logistic (at2 (a := 512) (b := 1408) x2 p.val q.val)))) := by
  rw [cblk_eq, ← at2_mk (a := 512) (b := 1408) x2 p q, ← at2_mk (a := 512) (b := 1408) x3 p q]
  unfold k3_pay1
  pointwise
  rfl

/-- the right half that of the linear half. -/
theorem pay3_u (p : Fin 512) (q : Fin 1408) :
    (k3_pay1 x0 x1 x2 x3 (ValueIdx.ix2 p ⟨1408 + q.val, by omega⟩) : EReal)
      = cblk x0 x1 p.val q.val
        * (at2 (a := 512) (b := 1408) x2 p.val q.val * Ideal.logistic (at2 (a := 512) (b := 1408) x2 p.val q.val)) := by
  rw [cblk_eq, ← at2_mk (a := 512) (b := 1408) x2 p q]
  unfold k3_pay1
  pointwise
  rfl

end

end Cert.Kernel2Ideal.Own
end
-- ==== Proof.FfnArr.lean ====
/-
  What the four calls of the FFN leave in their results, as entries of the formulas.
-/
module

public import proofs.«01_k».proof.Proof.FfnKernel

@[expose] public section

set_option maxRecDepth 16384

noncomputable section

namespace Cert.Kernel2Ideal.Own

open Cert.Kernel2Ideal Cert.Kernel2Ideal.Gen Cert.Mat Cert.Ffn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the program is given: the rows, the norm's gain, the two weights, the cotangent of the output. -/
def hid : S8192x1024.Idx → EReal := m ((c : Thread nD τ).loc main_arg0)
def gain : S1024.Idx → EReal := m ((c : Thread nD τ).loc main_arg1)
def wi : S4x1024x1408.Idx → EReal := m ((c : Thread nD τ).loc main_arg2)
def wo : S2816x1024.Idx → EReal := m ((c : Thread nD τ).loc main_arg3)
def dout : S8192x1024.Idx → EReal := m ((c : Thread nD τ).loc main_arg4)

section norm

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_o : ∀ t : Fin cfg0.N, win0_2.index t = ![t.val, 0] := (by decide +kernel : ∀ t : Fin grid0.N, _)

/-- The gain, laid out as one row by the host. -/
theorem gain_at (i : S1x1024.Idx) : (V1 m ρ c main_v0 : S1x1024.Idx → EReal) i = at1 (gain m c) (i 1).val := by
  obtain ⟨z, j, rfl⟩ : ∃ z j, i = ValueIdx.ix2 z j := ⟨i 0, i 1, ValueIdx.eq_ix2 i⟩
  refine Eq.trans ?_ (at1_eq (a := 1024) (gain m c) (ValueIdx.ix1 j))
  unfold V1 W1 gain
  after_reads_simp
  pointwise
  rfl

theorem blk0_0 (t : Fin cfg0.N) (p : Fin 512) (l : Fin 1024) :
    at2 (a := 512) (b := 1024) (iblk0 (V1 m ρ) c 0 t) p.val l.val = at2 (hid m c) (512 * t.val + p.val) l.val := by
  rw [← at2_mk]
  blk_simp [iblk0]
  refine (congrFun (W1_args m ρ c main_arg0 (by decide)) _).trans ((at2_eq (a := 8192) (b := 1024) _ _).trans ?_)
  congr 1
  · blk_simp [ix0_0]
    show t.val * 512 + p.val = _
    omega
  · blk_simp [ix0_0]

theorem blk0_1 (t : Fin cfg0.N) (l : Fin 1024) :
    at2 (a := 1) (b := 1024) (iblk0 (V1 m ρ) c 1 t) 0 l.val = at1 (gain m c) l.val := by
  refine (at2_mk (a := 1) (b := 1024) (iblk0 (V1 m ρ) c 1 t) 0 l).symm.trans ?_
  blk_simp [iblk0]
  refine (gain_at m ρ c _).trans ?_
  congr 1
  blk_simp [ix0_1]

theorem W2_nrm : W2 m ρ c (Proc.devRef .tc main_v1) = fun i => nrm (hid m c) (gain m c) (i 0).val (i 1).val := by
  refine (W2_arr m ρ c 2).trans ((dat0 (V1 m ρ) c).arrAt_eq_of_covers 2 _ (by decide +kernel) fun t hf y => ?_)
  rw [after0_2, out0]
  obtain ⟨p, q, rfl⟩ : ∃ p q, y = ValueIdx.ix2 p q := ⟨_, _, ValueIdx.eq_ix2 y⟩
  refine (pay0_at _ _ _ _).trans ?_
  blk_simp [ix0_o]
  have e : ∀ l : Fin 1024, _ := fun l => blk0_0 m ρ c t p l
  have er : t.val * 512 + p.val = 512 * t.val + p.val := by omega
  show _ = nrm (hid m c) (gain m c) (t.val * 512 + p.val) q.val
  rw [er]
  unfold nrm scl
  refine congrArg₂ (fun u v : EReal => u * v) (congrArg₂ (fun u v : EReal => u * v) (e q) ?_) (blk0_1 m ρ c t q)
  refine congrArg (fun u : EReal => Ideal.rsqrt (Ideal.div u width + eps)) (Finset.sum_congr rfl fun l _ => ?_)
  exact congrArg₂ (fun u v : EReal => u * v) (e l) (e l)

end norm

section ffnIn

theorem ix1_0 : ∀ t : Fin cfg1.N, win1_0.index t = ![t.val / 2, 0] := (by decide +kernel : ∀ t : Fin grid1.N, _)
theorem ix1_1 : ∀ t : Fin cfg1.N, win1_1.index t = ![t.val % 2, 0, 0] := (by decide +kernel : ∀ t : Fin grid1.N, _)
theorem ix1_2 : ∀ t : Fin cfg1.N, win1_2.index t = ![2 + t.val % 2, 0, 0] := (by decide +kernel : ∀ t : Fin grid1.N, _)
theorem ix1_3 : ∀ t : Fin cfg1.N, win1_3.index t = ![t.val / 2, t.val % 2] := (by decide +kernel : ∀ t : Fin grid1.N, _)
theorem ix1_4 : ∀ t : Fin cfg1.N, win1_4.index t = ![t.val / 2, t.val % 2] := (by decide +kernel : ∀ t : Fin grid1.N, _)
theorem ix1_5 : ∀ t : Fin cfg1.N, win1_5.index t = ![t.val / 2, t.val % 2] := (by decide +kernel : ∀ t : Fin grid1.N, _)

theorem blk1_0 (t : Fin cfg1.N) (p : Fin 512) (l : Fin 1024) :
    at2 (a := 512) (b := 1024) (iblk1 (V2 m ρ) c 0 t) p.val l.val = nrm (hid m c) (gain m c) (512 * (t.val / 2) + p.val) l.val := by
  rw [← at2_mk]
  blk_simp [iblk1]
  refine (congrFun (W2_nrm m ρ c) _).trans ?_
  dsimp only
  congr 1
  · blk_simp [ix1_0]
    show t.val / 2 * 512 + p.val = _
    omega
  · blk_simp [ix1_0]
    rfl

theorem blk1_1 (t : Fin cfg1.N) (k : Fin 1024) (q : Fin 1408) :
    at3 (d := 1) (a := 1024) (b := 1408) (iblk1 (V2 m ρ) c 1 t) 0 k.val q.val = at3 (wi m c) (t.val % 2) k.val q.val := by
  refine (at3_mk (d := 1) (a := 1024) (b := 1408) (iblk1 (V2 m ρ) c 1 t) 0 k q).symm.trans ?_
  blk_simp [iblk1]
  refine (congrFun (W2_args m ρ c main_arg2 (by decide)) _).trans ((at3_eq (d := 4) (a := 1024) (b := 1408) _ _).trans ?_)
  congr 1
  · blk_simp [ix1_1]
  · blk_simp [ix1_1]
  · blk_simp [ix1_1]

theorem blk1_2 (t : Fin cfg1.N) (k : Fin 1024) (q : Fin 1408) :
    at3 (d := 1) (a := 1024) (b := 1408) (iblk1 (V2 m ρ) c 2 t) 0 k.val q.val = at3 (wi m c) (2 + t.val % 2) k.val q.val := by
  refine (at3_mk (d := 1) (a := 1024) (b := 1408) (iblk1 (V2 m ρ) c 2 t) 0 k q).symm.trans ?_
  blk_simp [iblk1]
  refine (congrFun (W2_args m ρ c main_arg2 (by decide)) _).trans ((at3_eq (d := 4) (a := 1024) (b := 1408) _ _).trans ?_)
  congr 1
  · blk_simp [ix1_2]
  · blk_simp [ix1_2]
  · blk_simp [ix1_2]

/-- A point's block of the gate, -/
theorem gate_blk (t : Fin cfg1.N) (p : Fin 512) (q : Fin 1408) :
    (k1_pay2 (iblk1 (V2 m ρ) c 0 t) (iblk1 (V2 m ρ) c 1 t) (ValueIdx.ix2 p q) : EReal)
      = gate (hid m c) (gain m c) (wi m c) (512 * (t.val / 2) + p.val) (1408 * (t.val % 2) + q.val) := by
  refine (pay1_g _ _ _ _).trans ?_
  unfold gate pre
  rw [show (1408 * (t.val % 2) + q.val) / 1408 = t.val % 2 by omega, show (1408 * (t.val % 2) + q.val) % 1408 = q.val by omega]
  exact Finset.sum_congr rfl fun k _ => congrArg₂ (fun u v : EReal => u * v) (blk1_0 m ρ c t p k) (blk1_1 m ρ c t k q)

/-- and of the linear half. -/
theorem lin_blk (t : Fin cfg1.N) (p : Fin 512) (q : Fin 1408) :
    (k1_pay3 (iblk1 (V2 m ρ) c 0 t) (iblk1 (V2 m ρ) c 2 t) (ValueIdx.ix2 p q) : EReal)
      = lin (hid m c) (gain m c) (wi m c) (512 * (t.val / 2) + p.val) (1408 * (t.val % 2) + q.val) := by
  refine (pay1_u _ _ _ _).trans ?_
  unfold lin pre
  rw [show (1408 * (t.val % 2) + q.val) / 1408 = t.val % 2 by omega, show (1408 * (t.val % 2) + q.val) % 1408 = q.val by omega]
  exact Finset.sum_congr rfl fun k _ => congrArg₂ (fun u v : EReal => u * v) (blk1_0 m ρ c t p k) (blk1_2 m ρ c t k q)

theorem W3_gate : W3 m ρ c (Proc.devRef .tc main_v2_0) = fun i => gate (hid m c) (gain m c) (wi m c) (i 0).val (i 1).val := by
  refine (W3_arr m ρ c 3).trans ((dat1 (V2 m ρ) c).arrAt_eq_of_covers 3 _ (by decide +kernel) fun t hf y => ?_)
  rw [after1_3, out1_g]
  obtain ⟨p, q, rfl⟩ : ∃ p q, y = ValueIdx.ix2 p q := ⟨_, _, ValueIdx.eq_ix2 y⟩
  refine (gate_blk m ρ c t p q).trans ?_
  blk_simp [ix1_3]
  congr 1
  · show _ = t.val / 2 * 512 + p.val
    omega
  · show _ = t.val % 2 * 1408 + q.val
    omega

theorem W3_lin : W3 m ρ c (Proc.devRef .tc main_v2_1) = fun i => lin (hid m c) (gain m c) (wi m c) (i 0).val (i 1).val := by
  refine (W3_arr m ρ c 4).trans ((dat1 (V2 m ρ) c).arrAt_eq_of_covers 4 _ (by decide +kernel) fun t hf y => ?_)
  rw [after1_4, out1_u]
  obtain ⟨p, q, rfl⟩ : ∃ p q, y = ValueIdx.ix2 p q := ⟨_, _, ValueIdx.eq_ix2 y⟩
  refine (lin_blk m ρ c t p q).trans ?_
  blk_simp [ix1_4]
  congr 1
  · show _ = t.val / 2 * 512 + p.val
    omega
  · show _ = t.val % 2 * 1408 + q.val
    omega

theorem W3_act : W3 m ρ c (Proc.devRef .tc main_v2_2) = fun i => act (hid m c) (gain m c) (wi m c) (i 0).val (i 1).val := by
  refine (W3_arr m ρ c 5).trans ((dat1 (V2 m ρ) c).arrAt_eq_of_covers 5 _ (by decide +kernel) fun t hf y => ?_)
  rw [after1_5, out1_a]
  obtain ⟨p, q, rfl⟩ : ∃ p q, y = ValueIdx.ix2 p q := ⟨_, _, ValueIdx.eq_ix2 y⟩
  refine (pay1_a _ _ _ _).trans ?_
  have eg := gate_blk m ρ c t p q
  have el := lin_blk m ρ c t p q
  refine (congrArg₂ (fun u v : EReal => u * Ideal.logistic u * v) eg el).trans ?_
  blk_simp [ix1_5]
  show _ = act (hid m c) (gain m c) (wi m c) (t.val / 2 * 512 + p.val) (t.val % 2 * 1408 + q.val)
  rw [Nat.mul_comm (t.val / 2) 512, Nat.mul_comm (t.val % 2) 1408]
  rfl

end ffnIn

section ffnOut

theorem ix2_0 : ∀ t : Fin cfg2.N, win2_0.index t = ![t.val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![t.val, 0] := (by decide +kernel : ∀ t : Fin grid2.N, _)
theorem ix2_3 : ∀ t : Fin cfg2.N, win2_3.index t = ![t.val, 0] := (by decide +kernel : ∀ t : Fin grid2.N, _)

theorem blk2_0 (t : Fin cfg2.N) (p : Fin 512) (l : Fin 2816) :
    at2 (a := 512) (b := 2816) (iblk2 (V3 m ρ) c 0 t) p.val l.val = act (hid m c) (gain m c) (wi m c) (512 * t.val + p.val) l.val := by
  rw [← at2_mk]
  blk_simp [iblk2]
  refine (congrFun (W3_act m ρ c) _).trans ?_
  dsimp only
  congr 1
  · blk_simp [ix2_0]
    show t.val * 512 + p.val = _
    omega
  · blk_simp [ix2_0]
    rfl

theorem blk2_1 (t : Fin cfg2.N) (k : Fin 2816) (q : Fin 1024) :
    at2 (a := 2816) (b := 1024) (iblk2 (V3 m ρ) c 1 t) k.val q.val = at2 (wo m c) k.val q.val := by
  rw [← at2_mk]
  blk_simp [iblk2]
  refine (congrFun (W3_args m ρ c main_arg3 (by decide)) _).trans ((at2_eq (a := 2816) (b := 1024) _ _).trans ?_)
  congr 1
  · blk_simp [ix2_1]
  · blk_simp [ix2_1]

theorem blk2_2 (t : Fin cfg2.N) (p : Fin 512) (q : Fin 1024) :
    at2 (a := 512) (b := 1024) (iblk2 (V3 m ρ) c 2 t) p.val q.val = at2 (hid m c) (512 * t.val + p.val) q.val := by
  rw [← at2_mk]
  blk_simp [iblk2]
  refine (congrFun (W3_args m ρ c main_arg0 (by decide)) _).trans ((at2_eq (a := 8192) (b := 1024) _ _).trans ?_)
  congr 1
  · blk_simp [ix2_2]
    show t.val * 512 + p.val = _
    omega
  · blk_simp [ix2_2]

theorem W4_out :
    W4 m ρ c (Proc.devRef .tc main_v3) = fun i => out (hid m c) (gain m c) (wi m c) (wo m c) (i 0).val (i 1).val := by
  refine (W4_arr m ρ c 3).trans ((dat2 (V3 m ρ) c).arrAt_eq_of_covers 3 _ (by decide +kernel) fun t hf y => ?_)
  rw [after2_3, out2]
  obtain ⟨p, q, rfl⟩ : ∃ p q, y = ValueIdx.ix2 p q := ⟨_, _, ValueIdx.eq_ix2 y⟩
  refine (pay2_at _ _ _ _ _).trans ?_
  blk_simp [ix2_3]
  show _ = out (hid m c) (gain m c) (wi m c) (wo m c) (t.val * 512 + p.val) q.val
  rw [Nat.mul_comm t.val 512]
  exact congrArg₂ (fun u v : EReal => u + half * v) (blk2_2 m ρ c t p q)
    (Finset.sum_congr rfl fun k _ => congrArg₂ (fun u v : EReal => u * v) (blk2_0 m ρ c t p k) (blk2_1 m ρ c t k q))

theorem W6_out :
    W6 m ρ c (Proc.devRef .tc main_v3) = fun i => out (hid m c) (gain m c) (wi m c) (wo m c) (i 0).val (i 1).val :=
  ((W6_of m ρ c main_v3 (by decide)).trans (W5_of m ρ c main_v3 (by decide))).trans (W4_out m ρ c)

end ffnOut

section dact

theorem ix3_0 : ∀ t : Fin cfg3.N, win3_0.index t = ![t.val / 2, 0] := (by decide +kernel : ∀ t : Fin grid3.N, _)
theorem ix3_1 : ∀ t : Fin cfg3.N, win3_1.index t = ![0, t.val % 2] := (by decide +kernel : ∀ t : Fin grid3.N, _)
theorem ix3_2 : ∀ t : Fin cfg3.N, win3_2.index t = ![t.val / 2, t.val % 2] := (by decide +kernel : ∀ t : Fin grid3.N, _)
theorem ix3_3 : ∀ t : Fin cfg3.N, win3_3.index t = ![t.val / 2, t.val % 2] := (by decide +kernel : ∀ t : Fin grid3.N, _)
theorem ix3_4 : ∀ t : Fin cfg3.N, win3_4.index t = ![t.val / 2, t.val % 2] := (by decide +kernel : ∀ t : Fin grid3.N, _)

/-- The second weight, transposed by the host. -/
theorem wot_at (i : S1024x2816.Idx) : (V5 m ρ c main_v4 : S1024x2816.Idx → EReal) i = at2 (wo m c) (i 1).val (i 0).val := by
  obtain ⟨k, j, rfl⟩ : ∃ k j, i = ValueIdx.ix2 k j := ⟨i 0, i 1, ValueIdx.eq_ix2 i⟩
  refine Eq.trans ?_ (at2_mk (a := 2816) (b := 1024) (wo m c) j k)
  have e : W4 m ρ c (Proc.devRef .tc main_arg3) = wo m c := W4_args m ρ c main_arg3 (by decide)
  rw [← e]
  unfold V5 W5
  after_reads_simp
  pointwise
  rfl

theorem blk3_0 (t : Fin cfg3.N) (p : Fin 512) (l : Fin 1024) :
    at2 (a := 512) (b := 1024) (iblk3 (V5 m ρ) c 0 t) p.val l.val = at2 (dout m c) (512 * (t.val / 2) + p.val) l.val := by
  rw [← at2_mk]
  blk_simp [iblk3]
  refine (congrFun (W5_args m ρ c main_arg4 (by decide)) _).trans ((at2_eq (a := 8192) (b := 1024) _ _).trans ?_)
  congr 1
  · blk_simp [ix3_0]
    show t.val / 2 * 512 + p.val = _
    omega
  · blk_simp [ix3_0]

theorem blk3_1 (t : Fin cfg3.N) (k : Fin 1024) (q : Fin 1408) :
    at2 (a := 1024) (b := 1408) (iblk3 (V5 m ρ) c 1 t) k.val q.val = at2 (wo m c) (1408 * (t.val % 2) + q.val) k.val := by
  rw [← at2_mk]
  blk_simp [iblk3]
  refine (wot_at m ρ c _).trans ?_
  congr 1
  · blk_simp [ix3_1]
    show t.val % 2 * 1408 + q.val = _
    omega
  · blk_simp [ix3_1]

theorem V5_gate : W5 m ρ c (Proc.devRef .tc main_v2_0) = fun i => gate (hid m c) (gain m c) (wi m c) (i 0).val (i 1).val :=
  ((W5_of m ρ c main_v2_0 (by decide)).trans (W4_of m ρ c main_v2_0 (by decide))).trans (W3_gate m ρ c)

theorem V5_lin : W5 m ρ c (Proc.devRef .tc main_v2_1) = fun i => lin (hid m c) (gain m c) (wi m c) (i 0).val (i 1).val :=
  ((W5_of m ρ c main_v2_1 (by decide)).trans (W4_of m ρ c main_v2_1 (by decide))).trans (W3_lin m ρ c)

theorem blk3_2 (t : Fin cfg3.N) (p : Fin 512) (q : Fin 1408) :
    at2 (a := 512) (b := 1408) (iblk3 (V5 m ρ) c 2 t) p.val q.val
      = gate (hid m c) (gain m c) (wi m c) (512 * (t.val / 2) + p.val) (1408 * (t.val % 2) + q.val) := by
  rw [← at2_mk]
  blk_simp [iblk3]
  refine (congrFun (V5_gate m ρ c) _).trans ?_
  dsimp only
  congr 1
  · blk_simp [ix3_2]
    show t.val / 2 * 512 + p.val = _
    omega
  · blk_simp [ix3_2]
    show t.val % 2 * 1408 + q.val = _
    omega

theorem blk3_3 (t : Fin cfg3.N) (p : Fin 512) (q : Fin 1408) :
    at2 (a := 512) (b := 1408) (iblk3 (V5 m ρ) c 3 t) p.val q.val
      = lin (hid m c) (gain m c) (wi m c) (512 * (t.val / 2) + p.val) (1408 * (t.val % 2) + q.val) := by
  rw [← at2_mk]
  blk_simp [iblk3]
  refine (congrFun (V5_lin m ρ c) _).trans ?_
  dsimp only
  congr 1
  · blk_simp [ix3_3]
    show t.val / 2 * 512 + p.val = _
    omega
  · blk_simp [ix3_3]
    show t.val % 2 * 1408 + q.val = _
    omega

theorem cot_blk (t : Fin cfg3.N) (p : Fin 512) (q : Fin 1408) :
    cblk (iblk3 (V5 m ρ) c 0 t) (iblk3 (V5 m ρ) c 1 t) p.val q.val
      = cot (wo m c) (dout m c) (512 * (t.val / 2) + p.val) (1408 * (t.val % 2) + q.val) :=
  congrArg (fun u : EReal => half * u) (Finset.sum_congr rfl fun k _ =>
    congrArg₂ (fun u v : EReal => u * v) (blk3_0 m ρ c t p k) (blk3_1 m ρ c t k q))

theorem W6_dgu :
    W6 m ρ c (Proc.devRef .tc main_v5) = fun i => dgu (hid m c) (gain m c) (wi m c) (wo m c) (dout m c) (i 0).val (i 1).val := by
  refine (W6_arr m ρ c 4).trans ((dat3 (V5 m ρ) c).arrAt_eq_of_covers 4 _ (by decide +kernel) fun t hf y => ?_)
  rw [after3_4, out3]
  obtain ⟨p, n, rfl⟩ : ∃ p n, y = ValueIdx.ix2 p n := ⟨_, _, ValueIdx.eq_ix2 y⟩
  blk_simp [ix3_4]
  show _ = dgu (hid m c) (gain m c) (wi m c) (wo m c) (dout m c) (t.val / 2 * 512 + p.val) (t.val % 2 * 2816 + n.val)
  rw [Nat.mul_comm (t.val / 2) 512]
  unfold dgu
  have hn : n.val < 2816 := n.isLt
  by_cases h : n.val < 1408
  · rw [if_pos (by omega)]
    rw [show 1408 * ((t.val % 2 * 2816 + n.val) / 2816) + (t.val % 2 * 2816 + n.val) % 1408 = 1408 * (t.val % 2) + n.val by omega]
    refine (pay3_g _ _ _ _ p ⟨n.val, h⟩).trans ?_
    rw [cot_blk m ρ c t p ⟨n.val, h⟩, blk3_2 m ρ c t p ⟨n.val, h⟩, blk3_3 m ρ c t p ⟨n.val, h⟩]
    rfl
  · have hq : n.val - 1408 < 1408 := by omega
    rw [if_neg (by omega)]
    rw [show 1408 * ((t.val % 2 * 2816 + n.val) / 2816) + (t.val % 2 * 2816 + n.val) % 1408 = 1408 * (t.val % 2) + (n.val - 1408) by omega]
    have e : n = ⟨1408 + (n.val - 1408), by omega⟩ := Fin.ext (by dsimp only; omega)
    refine (congrArg (fun z => (k3_pay1 (iblk3 (V5 m ρ) c 0 t) (iblk3 (V5 m ρ) c 1 t) (iblk3 (V5 m ρ) c 2 t) (iblk3 (V5 m ρ) c 3 t)
      (ValueIdx.ix2 p z) : EReal)) e).trans ?_
    refine (pay3_u _ _ _ _ p ⟨n.val - 1408, hq⟩).trans ?_
    rw [cot_blk m ρ c t p ⟨n.val - 1408, hq⟩, blk3_2 m ρ c t p ⟨n.val - 1408, hq⟩]
    rfl

end dact

end Cert.Kernel2Ideal.Own
end
-- ==== Proof.FfnFinite.lean ====
/-
  What the precondition of the FFN says: every entry of its five arguments is a real number.
-/
module

public import proofs.«01_k».proof.Proof.Finite
public import proofs.«01_k».proof.Proof.FfnReal
public import proofs.«01_k».proof.Proof.FfnArr

@[expose] public section

set_option maxRecDepth 16384

noncomputable section

namespace Cert.Own

open Idealize.ShloMosaic Idealize.ShloMosaic.TcCoe Idealize.SL.Sem Cert.Ffn
open Cert.Kernel2Ideal.Own (hid gain wi wo dout)

theorem preFacts2 : Cert.Pre_finite2.Facts := ⟨by decide, by decide, by decide, by decide, by decide⟩

theorem isReal_of_lt (x : EReal) (h : Ideal.cmp .olt (max x (-x)) (Ideal.ofBits .f32 0x7F800000#32) = 1#1) : IsReal x :=
  ⟨x.toReal, (real_of_lt x h).symm⟩

variable (m : (ℓ : Loc Cert.Kernel2Ideal.nD Cert.Kernel2Ideal.τ Cert.Kernel2Ideal.sig) → Buf (Elt Ideal) ℓ) (c : Dev Cert.Kernel2Ideal.nD)
  (h : @Cert.Pre_Kernel2Ideal_finite2 preFacts2 m)
include h

theorem hid_real (i : Cert.Kernel2Ideal.S8192x1024.Idx) : IsReal (hid m c i) := isReal_of_lt _ (congrFun (h c).1 i)
theorem gain_real (i : Cert.Kernel2Ideal.S1024.Idx) : IsReal (gain m c i) := isReal_of_lt _ (congrFun (h c).2.1 i)
theorem wi_real (i : Cert.Kernel2Ideal.S4x1024x1408.Idx) : IsReal (wi m c i) := isReal_of_lt _ (congrFun (h c).2.2.1 i)
theorem wo_real (i : Cert.Kernel2Ideal.S2816x1024.Idx) : IsReal (wo m c i) := isReal_of_lt _ (congrFun (h c).2.2.2.1 i)
theorem dout_real (i : Cert.Kernel2Ideal.S8192x1024.Idx) : IsReal (dout m c i) := isReal_of_lt _ (congrFun (h c).2.2.2.2 i)

end Cert.Own
end
-- ==== Proof.NormBwd.lean ====
/-
  The gradient of a root-mean-square norm by its rows, added to the cotangent that bypasses the norm, as the kernel computes it, and
  why the chain rule's own arrangement of the same gradient is the same number.
-/
module

public import proofs.«01_k».proof.Proof.FfnReal

@[expose] public section

noncomputable section

namespace Cert.NormBwd

open Idealize.ShloMosaic Cert.Mat Cert.Ffn

/-- The word of minus one half. -/
def mhalf : EReal := FloatOps.ofBits (F := Ideal) .f32 0xBF000000#32

theorem mhalf_eq : mhalf = ((-(1 / 2) : ℝ) : EReal) := by
  unfold mhalf
  simp [FloatOps.ofBits, Ideal.ofBits, Ideal.ieee]
  rw [← EReal.coe_mul]
  norm_num

/-- What stands under the root. -/
def under (h : (⟨2, ![8192, 1024]⟩ : Shape).Idx → EReal) (r : ℕ) : EReal :=
  Ideal.div (∑ l : Fin 1024, at2 h r l.val * at2 h r l.val) width + eps

section
variable (y h : (⟨2, ![8192, 1024]⟩ : Shape).Idx → EReal) (g : (⟨1, ![1024]⟩ : Shape).Idx → EReal)
  (d : (⟨2, ![8192, 1024]⟩ : Shape).Idx → EReal)

/-- The cotangent of the rows divided by their root mean square. -/
def cotn (r j : ℕ) : EReal := at2 y r j * at1 g j

/-- The mean over a row of that cotangent times the row divided by its root mean square. -/
def proj (r : ℕ) : EReal := Ideal.div (∑ k : Fin 1024, cotn y g r k.val * (at2 h r k.val * scl h r)) width

/-- The gradient by the rows. -/
def grad (r j : ℕ) : EReal := at2 d r j + scl h r * (cotn y g r j - at2 h r j * scl h r * proj y h g r)

/-- The gradient of the mean square, over twice the entry of the row: the chain rule through the root. -/
def back (r : ℕ) : EReal :=
  Ideal.div ((∑ k : Fin 1024, at2 h r k.val * cotn y g r k.val) * (mhalf * Ideal.div (scl h r) (under h r))) width

end

/-- Division by a real number that isn't zero. -/
theorem div_coe (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

theorem sum_coe {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

section
variable {y h : (⟨2, ![8192, 1024]⟩ : Shape).Idx → EReal} {g : (⟨1, ![1024]⟩ : Shape).Idx → EReal}
  (d : (⟨2, ![8192, 1024]⟩ : Shape).Idx → EReal)
  (hy : ∀ i, IsReal (y i)) (hh : ∀ i, IsReal (h i)) (hg : ∀ i, IsReal (g i))

include hh in
/-- What stands under the root is a positive number, and the factor of the row is one over its root. -/
theorem under_real (r : ℕ) : ∃ v : ℝ, 0 < v ∧ under h r = (v : EReal) ∧ scl h r = (((Real.sqrt v)⁻¹ : ℝ) : EReal) := by
  obtain ⟨s, hs, e⟩ := square_sum (f := fun l : Fin 1024 => at2 h r l.val) fun l => IsReal.at2 hh r l.val
  obtain ⟨p, hp, E⟩ := eps_pos
  have hv : 0 < s * (1024 : ℝ)⁻¹ + p := by positivity
  have hu : under h r = ((s * (1024 : ℝ)⁻¹ + p : ℝ) : EReal) := by
    unfold under
    rw [e, width_eq, E, div_coe _ _ (by norm_num), ← EReal.coe_add]
  refine ⟨_, hv, hu, ?_⟩
  show Ideal.rsqrt (under h r) = _
  rw [hu, Ideal.rsqrt_coe, if_neg hv.not_gt, if_neg hv.ne']

include hy hh hg in
/-- The chain rule's arrangement of the gradient is the kernel's. -/
theorem back_eq (r j : ℕ) :
    at2 d r j + cotn y g r j * scl h r + at2 h r j * back y h g r + back y h g r * at2 h r j = grad y h g d r j := by
  obtain ⟨v, hv, hu, hs⟩ := under_real hh r
  have hx : ∀ k : ℕ, ∃ x : ℝ, at2 h r k = (x : EReal) := fun k => IsReal.at2 hh r k
  have hc : ∀ k : ℕ, ∃ x : ℝ, cotn y g r k = (x : EReal) := fun k => (IsReal.at2 hy r k).mul (IsReal.at1 hg k)
  choose x ex using hx
  choose a ea using hc
  have hw : Real.sqrt v * Real.sqrt v = v := Real.mul_self_sqrt hv.le
  have hq : 0 < Real.sqrt v := Real.sqrt_pos.mpr hv
  unfold grad proj back
  rw [add_assoc, add_assoc]
  refine congrArg (fun u : EReal => at2 d r j + u) ?_
  simp only [hu, hs, ex, ea, mhalf_eq, width_eq, ← EReal.coe_mul, sum_coe]
  rw [div_coe _ _ hv.ne', ← EReal.coe_mul, ← EReal.coe_mul, div_coe _ _ (by norm_num), div_coe _ _ (by norm_num)]
  simp only [← EReal.coe_mul, ← EReal.coe_add, ← EReal.coe_sub]
  refine congrArg (fun u : ℝ => (u : EReal)) ?_
  have hsum : ∑ k : Fin 1024, a k.val * (x k.val * (Real.sqrt v)⁻¹) = (∑ k : Fin 1024, x k.val * a k.val) * (Real.sqrt v)⁻¹ := by
    rw [Finset.sum_mul]
    exact Finset.sum_congr rfl fun k _ => by ring
  rw [hsum]
  generalize (∑ k : Fin 1024, x k.val * a k.val) = T
  have hi : v⁻¹ = (Real.sqrt v)⁻¹ * (Real.sqrt v)⁻¹ := by rw [← mul_inv, hw]
  rw [hi]
  ring

end

end Cert.NormBwd
end
-- ==== Proof.NormBwdArr.lean ====
/-
  The rows the norm's backward call leaves: each block of 512 rows holds the gradient of its rows, at the first point and at every later
  one.
-/
module

public import proofs.«01_k».proof.Proof.NormBwd
public import proofs.«01_k».proof.Proof.Gen.Kernel12Ideal.Value
public import Idealize.ShloMosaic.Lib.StableHlo.ReadAt

@[expose] public section

set_option maxRecDepth 16384

noncomputable section

namespace Cert.Kernel12Ideal.Own

open Cert.Kernel12Ideal Cert.Kernel12Ideal.Gen Cert.Mat Cert.Ffn Cert.NormBwd
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 x1 x2 : Vec Ideal S512x1024 .f32) (x3 xs : Vec Ideal S1x1024 .f32)

/-- The first point stores the gradient of its rows, -/
theorem out_A (hc : cond0_0 i) :
    out0_A_4 c i a1 h1 a2 h2 a3 h3 a4 h4 a5 h5 a6 h6 a7 h7 hc x0 x1 x2 x3 = k0_pay6 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz2]
  simp only [View.readAt_eq_ld, h1.read_unread, h2.read_unread, h3.read_unread, h4.read_unread,
    View.ld_unit_zero (S := S512x1024) hz2, View.ld_unit_zero (S := S1x1024) hz2]

/-- and so do the later ones. -/
theorem out_B (hc : ¬cond0_0 i) :
    out0_B_4 c i a1 h1 a2 h2 a3 h3 a4 h4 a5 h5 a6 h6 a7 h7 hc x0 x1 x2 x3 xs = k0_pay6 x0 x1 x2 x3 := by
  unfold out0_B_4
  rw [View.read_writes_eq_canon _ _ _ (cover0_B_4 c i a1 h1 a2 h2 a3 h3 a4 h4 a5 h5 a6 h6 a7 h7 hc x0 x1 x2 x3 xs)]
  unfold kernelRun0_B
  dsimp only
  sl_unfold_words
  rw [View.canon_unit_zero hz2]
  simp only [View.readAt_eq_ld, h1.read_unread, h2.read_unread, h3.read_unread, h4.read_unread,
    View.ld_unit_zero (S := S512x1024) hz2, View.ld_unit_zero (S := S1x1024) hz2]

/-- One over the root of the mean square of a row of a block. -/
def bscl (p : ℕ) : EReal :=
  Ideal.rsqrt (Ideal.div (∑ l : Fin 1024, at2 (a := 512) (b := 1024) x1 p l.val * at2 (a := 512) (b := 1024) x1 p l.val) width + eps)

theorem scl_blk (p : Fin 512) (z : Fin 1) : (k0_pay3 x1 (ValueIdx.ix2 p z) : EReal) = bscl x1 p.val := by
  unfold k0_pay3 bscl
  pointwise
  have hs : ∀ l : Fin 1024, at2 (a := 512) (b := 1024) x1 p.val l.val = x1 (ValueIdx.ix2 p l) := fun l => (at2_mk (a := 512) (b := 1024) x1 p l).symm
  simp only [hs]
  rfl

/-- A row of a block divided by its root mean square. -/
theorem div_blk (p : Fin 512) (q : Fin 1024) :
    (k0_pay4 x1 (ValueIdx.ix2 p q) : EReal) = at2 (a := 512) (b := 1024) x1 p.val q.val * bscl x1 p.val := by
  unfold k0_pay4
  pointwise
  exact congrArg₂ (fun u v : EReal => u * v) (at2_mk (a := 512) (b := 1024) x1 p q) (scl_blk x1 p _)

/-- The gradient of the rows of a block. -/
theorem grad_blk (p : Fin 512) (q : Fin 1024) :
    (k0_pay6 x0 x1 x2 x3 (ValueIdx.ix2 p q) : EReal)
      = at2 (a := 512) (b := 1024) x2 p.val q.val
        + bscl x1 p.val * (at2 (a := 512) (b := 1024) x0 p.val q.val * at2 (a := 1) (b := 1024) x3 0 q.val
          - at2 (a := 512) (b := 1024) x1 p.val q.val * bscl x1 p.val
            * Ideal.div (∑ k : Fin 1024, at2 (a := 512) (b := 1024) x0 p.val k.val * at2 (a := 1) (b := 1024) x3 0 k.val
              * (at2 (a := 512) (b := 1024) x1 p.val k.val * bscl x1 p.val)) width) := by
  have hs : ∀ l : Fin 1024, at2 (a := 512) (b := 1024) x0 p.val l.val = x0 (ValueIdx.ix2 p l) := fun l => (at2_mk (a := 512) (b := 1024) x0 p l).symm
  have ht : at2 (a := 512) (b := 1024) x2 p.val q.val = x2 (ValueIdx.ix2 p q) := (at2_mk (a := 512) (b := 1024) x2 p q).symm
  have hg : ∀ l : Fin 1024, at2 (a := 1) (b := 1024) x3 0 l.val = x3 (ValueIdx.ix2 0 l) := fun l => (at2_mk (a := 1) (b := 1024) x3 0 l).symm
  have hd : ∀ l : Fin 1024, at2 (a := 512) (b := 1024) x1 p.val l.val * bscl x1 p.val = k0_pay4 x1 (ValueIdx.ix2 p l) := fun l => (div_blk x1 p l).symm
  have hr : bscl x1 p.val = k0_pay3 x1 (ValueIdx.ix2 p 0) := (scl_blk x1 p 0).symm
  simp only [hd, hs, ht, hg]
  rw [hr]
  unfold k0_pay6
  pointwise
  rfl

end point

variable (m : (ℓ : Loc nD τ sig) → Buf (Elt Ideal) ℓ) (c : Dev nD)

/-- What the program is given: the cotangent of the norm, the rows before it, its gain, the cotangent that bypasses it. -/
def dxn : S8192x1024.Idx → EReal := m ((c : Thread nD τ).loc main_arg0)
def hid : S8192x1024.Idx → EReal := m ((c : Thread nD τ).loc main_arg1)
def gain : S1024.Idx → EReal := m ((c : Thread nD τ).loc main_arg2)
def res : S8192x1024.Idx → EReal := m ((c : Thread nD τ).loc main_arg3)

theorem ixs : ∀ t : Fin cfg0.N, win0_0.index t = ![t.val, 0] ∧ win0_1.index t = ![t.val, 0] ∧ win0_2.index t = ![t.val, 0]
    ∧ win0_3.index t = ![0, 0] ∧ win0_4.index t = ![t.val, 0] := (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![0, 0] := (ixs t).2.2.2.1
theorem ix4 (t : Fin cfg0.N) : win0_4.index t = ![t.val, 0] := (ixs t).2.2.2.2

theorem V0 : (V m c main_arg0 : S8192x1024.Idx → EReal) = dxn m c := V_main_arg0 m c
theorem V1 : (V m c main_arg1 : S8192x1024.Idx → EReal) = hid m c := V_main_arg1 m c
theorem V2 : (V m c main_arg3 : S8192x1024.Idx → EReal) = res m c := V_main_arg3 m c

/-- The gain, laid out as one row by the host. -/
theorem V3 : (V m c main_v0 : S1x1024.Idx → EReal) = shapeCast S1x1024 (gain m c) shapeCasts_S1024_S1x1024 := by
  show StableHlo.after hostOps0 (fun b => m (c, b)) _ = _
  after_results
  rfl

theorem gain_at (i : S1x1024.Idx) : (V m c main_v0 : S1x1024.Idx → EReal) i = at1 (gain m c) (i 1).val := by
  obtain ⟨z, j, rfl⟩ : ∃ z j, i = ValueIdx.ix2 z j := ⟨i 0, i 1, ValueIdx.eq_ix2 i⟩
  refine Eq.trans ?_ (at1_eq (a := 1024) (gain m c) (ValueIdx.ix1 j))
  rw [V3]
  pointwise
  rfl

theorem blk0 (t : Fin cfg0.N) (p : Fin 512) (q : Fin 1024) :
    at2 (a := 512) (b := 1024) (iblk m c 0 t) p.val q.val = at2 (dxn m c) (512 * t.val + p.val) q.val := by
  rw [← at2_mk]
  blk_simp [iblk]
  refine (congrFun (V0 m c) _).trans ((at2_eq (a := 8192) (b := 1024) _ _).trans ?_)
  congr 1
  · blk_simp [ix0]
    show t.val * 512 + p.val = _
    omega
  · blk_simp [ix0]

theorem blk1 (t : Fin cfg0.N) (p : Fin 512) (q : Fin 1024) :
    at2 (a := 512) (b := 1024) (iblk m c 1 t) p.val q.val = at2 (hid m c) (512 * t.val + p.val) q.val := by
  rw [← at2_mk]
  blk_simp [iblk]
  refine (congrFun (V1 m c) _).trans ((at2_eq (a := 8192) (b := 1024) _ _).trans ?_)
  congr 1
  · blk_simp [ix1]
    show t.val * 512 + p.val = _
    omega
  · blk_simp [ix1]

theorem blk2 (t : Fin cfg0.N) (p : Fin 512) (q : Fin 1024) :
    at2 (a := 512) (b := 1024) (iblk m c 2 t) p.val q.val = at2 (res m c) (512 * t.val + p.val) q.val := by
  rw [← at2_mk]
  blk_simp [iblk]
  refine (congrFun (V2 m c) _).trans ((at2_eq (a := 8192) (b := 1024) _ _).trans ?_)
  congr 1
  · blk_simp [ix2]
    show t.val * 512 + p.val = _
    omega
  · blk_simp [ix2]

theorem blk3 (t : Fin cfg0.N) (l : Fin 1024) :
    at2 (a := 1) (b := 1024) (iblk m c 3 t) 0 l.val = at1 (gain m c) l.val := by
  refine (at2_mk (a := 1) (b := 1024) (iblk m c 3 t) 0 l).symm.trans ?_
  blk_simp [iblk]
  refine (gain_at m c _).trans ?_
  congr 1
  blk_simp [ix3]

/-- What point `t` leaves in the block of the result. -/
theorem pt (t : Fin cfg0.N) : (outsAt0 m c t.val t.isLt).1 = k0_pay6 (iblk m c 0 t) (iblk m c 1 t) (iblk m c 2 t) (iblk m c 3 t) := by
  by_cases h : t.val % 16 = 0
  · rw [outsAt0_A m c t h]
    dsimp only
    rw [out_A]
  · rw [outsAt0_B m c t h]
    dsimp only
    rw [out_B]

theorem bscl_eq (t : Fin cfg0.N) (p : Fin 512) : bscl (iblk m c 1 t) p.val = scl (hid m c) (512 * t.val + p.val) := by
  unfold bscl scl
  refine congrArg (fun u : EReal => Ideal.rsqrt (Ideal.div u width + eps)) (Finset.sum_congr rfl fun l _ => ?_)
  exact congrArg₂ (fun u v : EReal => u * v) (blk1 m c t p l) (blk1 m c t p l)

theorem grad_pt (t : Fin cfg0.N) (y : S512x1024.Idx) :
    ((outsAt0 m c t.val t.isLt).1 y : EReal) = grad (dxn m c) (hid m c) (gain m c) (res m c) (512 * t.val + (y 0).val) (y 1).val := by
  obtain ⟨p, q, rfl⟩ : ∃ p q, y = ValueIdx.ix2 p q := ⟨y 0, y 1, ValueIdx.eq_ix2 y⟩
  rw [pt]
  refine (grad_blk _ _ _ _ p q).trans ?_
  rw [bscl_eq]
  simp only [blk0 m c t, blk1 m c t, blk2 m c t, blk3 m c t]
  rfl

/-- The result: the gradient by the rows. -/
theorem result_eq : (dats m 0 c).arrAt 4 cfg0.N
    = fun i => grad (dxn m c) (hid m c) (gain m c) (res m c) (i 0).val (i 1).val := by
  refine (dats m 0 c).arrAt_eq_of_covers 4 _ (by decide +kernel) fun t hf y => ?_
  rw [after0_4]
  blk_simp
  refine (grad_pt m c t y).trans ?_
  have h0 : 512 * t.val + (y 0).val = t.val * 512 + (y 0).val := by omega
  rw [h0]
  blk_simp [ix4]

end Cert.Kernel12Ideal.Own
end
-- ==== Proof.NormBwdFinite.lean ====
/-
  What the precondition of the norm's gradient says: every entry of the cotangent, of the rows and of the gain is a real number.
-/
module

public import proofs.«01_k».proof.Proof.FfnFinite
public import proofs.«01_k».proof.Proof.NormBwdArr

@[expose] public section

set_option maxRecDepth 16384

noncomputable section

namespace Cert.Own12

open Idealize.ShloMosaic Idealize.ShloMosaic.TcCoe Idealize.SL.Sem Cert.Ffn Cert.Own
open Cert.Kernel12Ideal.Own (dxn hid gain)

theorem preFacts12 : Cert.Pre_finite12.Facts := ⟨by decide, by decide⟩

variable (m : (ℓ : Loc Cert.Kernel12Ideal.nD Cert.Kernel12Ideal.τ Cert.Kernel12Ideal.sig) → Buf (Elt Ideal) ℓ) (c : Dev Cert.Kernel12Ideal.nD)
  (h : @Cert.Pre_Kernel12Ideal_finite12 preFacts12 m)
include h

theorem dxn_real (i : Cert.Kernel12Ideal.S8192x1024.Idx) : IsReal (dxn m c i) := isReal_of_lt _ (congrFun (h c).1 i)
theorem hid_real (i : Cert.Kernel12Ideal.S8192x1024.Idx) : IsReal (hid m c i) := isReal_of_lt _ (congrFun (h c).2.1 i)
theorem gain_real (i : Cert.Kernel12Ideal.S1024.Idx) : IsReal (gain m c i) := isReal_of_lt _ (congrFun (h c).2.2 i)

end Cert.Own12
end
-- ==== Proof.NormBwdRef.lean ====
/-
  The reference's gradient of the norm by its rows, line by line, is the kernel's where the arrays hold real numbers.
-/
module

public import proofs.«01_k».proof.Proof.NormBwd
public import proofs.«01_k».proof.Proof.Gen.Reference12Ideal.Read

@[expose] public section

set_option maxRecDepth 16384

noncomputable section

namespace Cert.Reference12Ideal.Own

open Cert.Reference12Ideal Cert.Reference12Ideal.Gen Cert.Reference12Ideal.Read Cert.Mat Cert.Ffn Cert.NormBwd
open Idealize.ShloMosaic Idealize.ShloMosaic.TcCoe

variable (x0 x1 : (⟨S8192x1024, .f32⟩ : BufTy).Contents (Elt Ideal)) (x2 : (⟨S1024, .f32⟩ : BufTy).Contents (Elt Ideal))
  (x3 : (⟨S8192x1024, .f32⟩ : BufTy).Contents (Elt Ideal))

/-- What stands under the root of a row, and one over that root. -/
theorem under_at (i : S8192x1.Idx) : (val_main_v6 (F := Ideal) x1 i : EReal) = under x1 (i 0).val := by
  rw [val_main_v6_apply, val_main_v4_apply, val_main_v2_apply, val_main_v1_apply, val_main_v3_apply, val_main_v5_apply]
  have e : ∀ k : Fin 1024, (val_main_v0 (F := Ideal) x1 (idx_main_v1 (idx_main_v2 i) k) : EReal)
      = at2 (a := 8192) (b := 1024) x1 (i 0).val k.val * at2 (a := 8192) (b := 1024) x1 (i 0).val k.val := fun k => by
    rw [val_main_v0_apply]
    exact congrArg₂ (fun u v : EReal => u * v) (at2_eq (a := 8192) (b := 1024) x1 _) (at2_eq (a := 8192) (b := 1024) x1 _)
  have z : (val_main_cst (F := Ideal) (Shape.Idx.first h_S_) : EReal) = 0 := Ideal.ofBits_zero_f32
  refine Eq.trans (congrArg (fun u : EReal => Ideal.div u width + eps) ?_) rfl
  refine (congrArg₂ (fun u v : EReal => u + v) z (Finset.sum_congr rfl fun k _ => e k)).trans (zero_add _)

theorem scl_at (i : S8192x1.Idx) : (val_main_v7 (F := Ideal) x1 i : EReal) = scl x1 (i 0).val := by
  rw [val_main_v7_apply]
  exact congrArg Ideal.rsqrt (under_at x1 i)

/-- The cotangent times the gain. -/
theorem cotn_at (i : S8192x1024.Idx) : (val_main_v17 (F := Ideal) x0 x2 i : EReal) = cotn x0 x2 (i 0).val (i 1).val := by
  rw [val_main_v17_apply, val_main_v16_apply, val_main_v13_apply]
  exact congrArg₂ (fun u v : EReal => u * v) (at2_eq (a := 8192) (b := 1024) x0 i) (at1_eq (a := 1024) x2 _)

/-- The sum over a row of the row times that cotangent. -/
theorem sum_at (i : S8192x1.Idx) : (val_main_v20 (F := Ideal) x0 x1 x2 i : EReal)
    = ∑ k : Fin 1024, at2 (a := 8192) (b := 1024) x1 (i 0).val k.val * cotn x0 x2 (i 0).val k.val := by
  have h1 : (i 1).val < 1 := (i 1).isLt
  rw [val_main_v20_apply, val_main_v19_apply]
  have z : (val_main_cst_3 (F := Ideal) (Shape.Idx.first h_S_) : EReal) = 0 := Ideal.ofBits_zero_f32
  refine (congrArg₂ (fun u v : EReal => u + v) z (Finset.sum_congr rfl fun k _ => ?_)).trans (zero_add _)
  rw [val_main_v18_apply]
  refine congrArg₂ (fun u v : EReal => u * v) ((at2_eq (a := 8192) (b := 1024) x1 _).trans ?_) ((cotn_at x0 x2 _).trans ?_)
  · congr 1
    show (i 0).val * 1 + (i 1).val = _
    omega
  · congr 1
    show (i 0).val * 1 + (i 1).val = _
    omega

/-- The gradient through the mean square. -/
theorem back_at (i : S8192x1.Idx) : (val_main_v26 (F := Ideal) x0 x1 x2 i : EReal) = back x0 x1 x2 (i 0).val := by
  rw [val_main_v26_apply, val_main_v24_apply, val_main_v10_apply, val_main_v8_apply, val_main_v9_apply, val_main_v25_apply]
  refine Eq.trans (congrArg₂ (fun u v : EReal => Ideal.div (u * v) width) (sum_at x0 x1 x2 i)
    (congrArg₂ (fun u v : EReal => mhalf * Ideal.div u v) (scl_at x1 i) (under_at x1 i))) rfl

theorem back_row (i : S8192x1024.Idx) : (val_main_v28 (F := Ideal) x0 x1 x2 i : EReal) = back x0 x1 x2 (i 0).val := by
  rw [val_main_v28_apply, val_main_v27_apply]
  have z : (val_main_cst_5 (F := Ideal) (Shape.Idx.first h_S_) : EReal) = 0 := Ideal.ofBits_zero_f32
  refine (congrArg₂ (fun u v : EReal => u + v) z (Finset.sum_congr rfl fun k _ => back_at x0 x1 x2 _)).trans ((zero_add _).trans ?_)
  exact Fintype.sum_unique _

/-- The reference's result. -/
theorem grad_at (hy : ∀ i, IsReal (x0 i)) (hh : ∀ i, IsReal (x1 i)) (hg : ∀ i, IsReal (x2 i)) (i : S8192x1024.Idx) :
    (val_main_v32 (F := Ideal) x0 x1 x2 x3 i : EReal) = grad x0 x1 x2 x3 (i 0).val (i 1).val := by
  rw [val_main_v32_apply, val_main_v31_apply, val_main_v30_apply, val_main_v29_apply, val_main_v23_apply, val_main_v22_apply, val_main_v21_apply]
  refine Eq.trans ?_ (back_eq x3 hy hh hg (i 0).val (i 1).val)
  have e1 : (x1 i : EReal) = at2 (a := 8192) (b := 1024) x1 (i 0).val (i 1).val := at2_eq (a := 8192) (b := 1024) x1 i
  have e3 : (x3 i : EReal) = at2 (a := 8192) (b := 1024) x3 (i 0).val (i 1).val := at2_eq (a := 8192) (b := 1024) x3 i
  have eb := back_row x0 x1 x2 i
  refine congrArg₂ (fun u v : EReal => u + v) (congrArg₂ (fun u v : EReal => u + v) (congrArg₂ (fun u v : EReal => u + v) e3
    (congrArg₂ (fun u v : EReal => u * v) (cotn_at x0 x2 i) (scl_at x1 _))) (congrArg₂ (fun u v : EReal => u * v) e1 eb))
    (congrArg₂ (fun u v : EReal => u * v) eb e1)

end Cert.Reference12Ideal.Own
end
-- ==== Proof.Adam.lean ====
/-
  One step of AdamW, entry by entry: the two moments' running means and the change of the weight.
-/
module

public import Idealize.ShloMosaic.Lib.Pipeline.ValueKit
public import Idealize.ShloMosaic.Lib.Tactic

@[expose] public section

noncomputable section

namespace Cert.Adam

open Idealize.ShloMosaic

/-- The number that a 32-bit word stands for. -/
def num (b : BitVec 32) : EReal := FloatOps.ofBits (F := Ideal) .f32 b

/-- The running mean of the gradient: nine tenths of the old one and a tenth of the gradient. -/
def mom (g m : EReal) : EReal := num 0x3F666666#32 * m + num 0x3DCCCCCD#32 * g

/-- The running mean of the gradient's square: 0.999 of the old one and 0.001 of the square. -/
def var (g v : EReal) : EReal := num 0x3F7FBE77#32 * v + num 0x3A83126F#32 * (g * g)

/-- The change of the weight: the first mean, scaled up for its start from zero, over the root of the second and a small
number, and a hundredth of the weight; all that times minus a thousandth. -/
def step (w g m v : EReal) : EReal :=
  num 0xBA83126F#32 * (Ideal.div (Ideal.div (mom g m) (num 0x3F26BD02#32))
    (Ideal.sqrt (Ideal.div (var g v) (num 0x3C231ACC#32)) + num 0x322BCC77#32) + num 0x3C23D70A#32 * w)

/-- The same three for whole arrays. -/
def moms {ι : Type} (g m : ι → EReal) : ι → EReal := fun i => mom (g i) (m i)
def vars {ι : Type} (g v : ι → EReal) : ι → EReal := fun i => var (g i) (v i)
def steps {ι : Type} (w g m v : ι → EReal) : ι → EReal := fun i => step (w i) (g i) (m i) (v i)

theorem moms_congr {ι : Type} {g g' m m' : ι → EReal} (hg : g = g') (hm : m = m') : moms g m = moms g' m' := by
  rw [hg, hm]
theorem vars_congr {ι : Type} {g g' v v' : ι → EReal} (hg : g = g') (hv : v = v') : vars g v = vars g' v' := by
  rw [hg, hv]
theorem steps_congr {ι : Type} {w w' g g' m m' v v' : ι → EReal} (hw : w = w') (hg : g = g') (hm : m = m') (hv : v = v') :
    steps w g m v = steps w' g' m' v' := by rw [hw, hg, hm, hv]

end Cert.Adam
end
-- ==== Proof.AdamWi.lean ====
/-
  The AdamW call of an FFN's first weight: what it leaves in its three results.
-/
module

public import proofs.«01_k».proof.Proof.Adam
public import proofs.«01_k».proof.Proof.Mat
public import proofs.«01_k».proof.Proof.Gen.Kernel6Ideal.Value
public import proofs.«01_k».proof.Proof.Gen.Reference6Ideal.Read
public import Idealize.ShloMosaic.Lib.StableHlo.ReadAt

@[expose] public section

set_option maxRecDepth 16384

noncomputable section

namespace Cert.Kernel6Ideal.Own

open Cert.Kernel6Ideal Cert.Kernel6Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S128x1408 .f32) (y : S128x1408.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S128x1408) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S128x1408) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S128x1408) hz2]
  unfold k0_pay4 k0_pay3 k0_pay2 k0_pay1
  pointwise
  rfl

end point

variable (m : (ℓ : Loc nD τ sig) → Buf (Elt Ideal) ℓ) (c : Dev nD)

/-- The weight, its gradient and the two moments, with all axes but the last made one. -/
def flat (x : S4x1024x1408.Idx → EReal) : S4096x1408.Idx → EReal :=
  shapeCast S4096x1408 x shapeCasts_S4x1024x1408_S4096x1408

def wgt : S4096x1408.Idx → EReal := flat (m ((c : Thread nD τ).loc main_arg0))
def grd : S4096x1408.Idx → EReal := flat (m ((c : Thread nD τ).loc main_arg1))
def fst : S4096x1408.Idx → EReal := flat (m ((c : Thread nD τ).loc main_arg2))
def snd : S4096x1408.Idx → EReal := flat (m ((c : Thread nD τ).loc main_arg3))

theorem V0 : (V m c main_v0 : S4096x1408.Idx → EReal) = wgt m c := by
  show StableHlo.after hostOps0 (fun b => m (c, b)) _ = _
  after_results
  rfl
theorem V1 : (V m c main_v1 : S4096x1408.Idx → EReal) = grd m c := by
  show StableHlo.after hostOps0 (fun b => m (c, b)) _ = _
  after_results
  rfl
theorem V2 : (V m c main_v2 : S4096x1408.Idx → EReal) = fst m c := by
  show StableHlo.after hostOps0 (fun b => m (c, b)) _ = _
  after_results
  rfl
theorem V3 : (V m c main_v3 : S4096x1408.Idx → EReal) = snd m c := by
  show StableHlo.after hostOps0 (fun b => m (c, b)) _ = _
  after_results
  rfl

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 128) (q : Fin 1408) :
    at2 (a := 128) (b := 1408) (iblk m c 0 t) p.val q.val = at2 (wgt m c) (128 * t.val + p.val) q.val := by
  rw [← at2_mk]
  blk_simp [iblk]
  refine (congrFun (V0 m c) _).trans ((at2_eq (a := 4096) (b := 1408) _ _).trans ?_)
  congr 1
  · blk_simp [ix0]
    show t.val * 128 + p.val = _
    omega
  · blk_simp [ix0]

theorem blk1 (t : Fin cfg0.N) (p : Fin 128) (q : Fin 1408) :
    at2 (a := 128) (b := 1408) (iblk m c 1 t) p.val q.val = at2 (grd m c) (128 * t.val + p.val) q.val := by
  rw [← at2_mk]
  blk_simp [iblk]
  refine (congrFun (V1 m c) _).trans ((at2_eq (a := 4096) (b := 1408) _ _).trans ?_)
  congr 1
  · blk_simp [ix1]
    show t.val * 128 + p.val = _
    omega
  · blk_simp [ix1]

theorem blk2 (t : Fin cfg0.N) (p : Fin 128) (q : Fin 1408) :
    at2 (a := 128) (b := 1408) (iblk m c 2 t) p.val q.val = at2 (fst m c) (128 * t.val + p.val) q.val := by
  rw [← at2_mk]
  blk_simp [iblk]
  refine (congrFun (V2 m c) _).trans ((at2_eq (a := 4096) (b := 1408) _ _).trans ?_)
  congr 1
  · blk_simp [ix2]
    show t.val * 128 + p.val = _
    omega
  · blk_simp [ix2]

theorem blk3 (t : Fin cfg0.N) (p : Fin 128) (q : Fin 1408) :
    at2 (a := 128) (b := 1408) (iblk m c 3 t) p.val q.val = at2 (snd m c) (128 * t.val + p.val) q.val := by
  rw [← at2_mk]
  blk_simp [iblk]
  refine (congrFun (V3 m c) _).trans ((at2_eq (a := 4096) (b := 1408) _ _).trans ?_)
  congr 1
  · blk_simp [ix3]
    show t.val * 128 + p.val = _
    omega
  · blk_simp [ix3]

/-- The three results of the call. -/
theorem step_blk (t : Fin cfg0.N) (y : S128x1408.Idx) :
    (out0_4 (iblk m c 0 t) (iblk m c 1 t) (iblk m c 2 t) (iblk m c 3 t) y : EReal) = step (at2 (wgt m c) (128 * t.val + (y 0).val) (y 1).val) (at2 (grd m c) (128 * t.val + (y 0).val) (y 1).val) (at2 (fst m c) (128 * t.val + (y 0).val) (y 1).val) (at2 (snd m c) (128 * t.val + (y 0).val) (y 1).val) := by
  refine (step_at (iblk m c 0 t) (iblk m c 1 t) (iblk m c 2 t) (iblk m c 3 t) y).trans ?_
  rw [at2_eq (a := 128) (b := 1408) (iblk m c 0 t) y, at2_eq (a := 128) (b := 1408) (iblk m c 1 t) y, at2_eq (a := 128) (b := 1408) (iblk m c 2 t) y, at2_eq (a := 128) (b := 1408) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S4096x1408.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 128 * t.val + (y 0).val = t.val * 128 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S128x1408.Idx) :
    (out0_5 (iblk m c 0 t) (iblk m c 1 t) (iblk m c 2 t) (iblk m c 3 t) y : EReal) = mom (at2 (grd m c) (128 * t.val + (y 0).val) (y 1).val) (at2 (fst m c) (128 * t.val + (y 0).val) (y 1).val) := by
  refine (mom_at (iblk m c 0 t) (iblk m c 1 t) (iblk m c 2 t) (iblk m c 3 t) y).trans ?_
  rw [at2_eq (a := 128) (b := 1408) (iblk m c 1 t) y, at2_eq (a := 128) (b := 1408) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S4096x1408.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 128 * t.val + (y 0).val = t.val * 128 + (y 0).val := by omega
    rw [h0]
    blk_simp [ix5]
  refine e.trans (funext fun i => ?_)
  rw [at2_eq (grd m c) i, at2_eq (fst m c) i]

theorem var_blk (t : Fin cfg0.N) (y : S128x1408.Idx) :
    (out0_6 (iblk m c 0 t) (iblk m c 1 t) (iblk m c 2 t) (iblk m c 3 t) y : EReal) = var (at2 (grd m c) (128 * t.val + (y 0).val) (y 1).val) (at2 (snd m c) (128 * t.val + (y 0).val) (y 1).val) := by
  refine (var_at (iblk m c 0 t) (iblk m c 1 t) (iblk m c 2 t) (iblk m c 3 t) y).trans ?_
  rw [at2_eq (a := 128) (b := 1408) (iblk m c 1 t) y, at2_eq (a := 128) (b := 1408) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S4096x1408.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 128 * t.val + (y 0).val = t.val * 128 + (y 0).val := by omega
    rw [h0]
    blk_simp [ix6]
  refine e.trans (funext fun i => ?_)
  rw [at2_eq (grd m c) i, at2_eq (snd m c) i]

/-- The reference's three results are the same formulas. -/
theorem ref_step (w g f s : S4x1024x1408.Idx → EReal) :
    Cert.Reference6Ideal.Read.val_main_v24 (F := Ideal) w g f s = fun i => step (flat w i) (flat g i) (flat f i) (flat s i) :=
  funext fun i => rfl

theorem ref_mom (g f : S4x1024x1408.Idx → EReal) :
    Cert.Reference6Ideal.Read.val_main_v25 (F := Ideal) g f = fun i => mom (flat g i) (flat f i) :=
  funext fun i => rfl

theorem ref_var (g s : S4x1024x1408.Idx → EReal) :
    Cert.Reference6Ideal.Read.val_main_v26 (F := Ideal) g s = fun i => var (flat g i) (flat s i) :=
  funext fun i => rfl

end Cert.Kernel6Ideal.Own
end
-- ==== Proof.AdamWo.lean ====
/-
  The AdamW call of an FFN's second weight: what it leaves in its three results.
-/
module

public import proofs.«01_k».proof.Proof.Adam
public import proofs.«01_k».proof.Proof.Mat
public import proofs.«01_k».proof.Proof.Gen.Kernel7Ideal.Value
public import proofs.«01_k».proof.Proof.Gen.Reference7Ideal.Read
public import Idealize.ShloMosaic.Lib.StableHlo.ReadAt

@[expose] public section

set_option maxRecDepth 16384

noncomputable section

namespace Cert.Kernel7Ideal.Own

open Cert.Kernel7Ideal Cert.Kernel7Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S256x1024 .f32) (y : S256x1024.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S256x1024) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S256x1024) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S256x1024) hz2]
  unfold k0_pay4 k0_pay3 k0_pay2 k0_pay1
  pointwise
  rfl

end point

variable (m : (ℓ : Loc nD τ sig) → Buf (Elt Ideal) ℓ) (c : Dev nD)

/-- The weight, its gradient and the two moments, with all axes but the last made one. -/
def flat (x : S4x704x1024.Idx → EReal) : S2816x1024.Idx → EReal :=
  shapeCast S2816x1024 x shapeCasts_S4x704x1024_S2816x1024

def wgt : S2816x1024.Idx → EReal := flat (m ((c : Thread nD τ).loc main_arg0))
def grd : S2816x1024.Idx → EReal := flat (m ((c : Thread nD τ).loc main_arg1))
def fst : S2816x1024.Idx → EReal := flat (m ((c : Thread nD τ).loc main_arg2))
def snd : S2816x1024.Idx → EReal := flat (m ((c : Thread nD τ).loc main_arg3))

theorem V0 : (V m c main_v0 : S2816x1024.Idx → EReal) = wgt m c := by
  show StableHlo.after hostOps0 (fun b => m (c, b)) _ = _
  after_results
  rfl
theorem V1 : (V m c main_v1 : S2816x1024.Idx → EReal) = grd m c := by
  show StableHlo.after hostOps0 (fun b => m (c, b)) _ = _
  after_results
  rfl
theorem V2 : (V m c main_v2 : S2816x1024.Idx → EReal) = fst m c := by
  show StableHlo.after hostOps0 (fun b => m (c, b)) _ = _
  after_results
  rfl
theorem V3 : (V m c main_v3 : S2816x1024.Idx → EReal) = snd m c := by
  show StableHlo.after hostOps0 (fun b => m (c, b)) _ = _
  after_results
  rfl

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 256) (q : Fin 1024) :
    at2 (a := 256) (b := 1024) (iblk m c 0 t) p.val q.val = at2 (wgt m c) (256 * t.val + p.val) q.val := by
  rw [← at2_mk]
  blk_simp [iblk]
  refine (congrFun (V0 m c) _).trans ((at2_eq (a := 2816) (b := 1024) _ _).trans ?_)
  congr 1
  · blk_simp [ix0]
    show t.val * 256 + p.val = _
    omega
  · blk_simp [ix0]

theorem blk1 (t : Fin cfg0.N) (p : Fin 256) (q : Fin 1024) :
    at2 (a := 256) (b := 1024) (iblk m c 1 t) p.val q.val = at2 (grd m c) (256 * t.val + p.val) q.val := by
  rw [← at2_mk]
  blk_simp [iblk]
  refine (congrFun (V1 m c) _).trans ((at2_eq (a := 2816) (b := 1024) _ _).trans ?_)
  congr 1
  · blk_simp [ix1]
    show t.val * 256 + p.val = _
    omega
  · blk_simp [ix1]

theorem blk2 (t : Fin cfg0.N) (p : Fin 256) (q : Fin 1024) :
    at2 (a := 256) (b := 1024) (iblk m c 2 t) p.val q.val = at2 (fst m c) (256 * t.val + p.val) q.val := by
  rw [← at2_mk]
  blk_simp [iblk]
  refine (congrFun (V2 m c) _).trans ((at2_eq (a := 2816) (b := 1024) _ _).trans ?_)
  congr 1
  · blk_simp [ix2]
    show t.val * 256 + p.val = _
    omega
  · blk_simp [ix2]

theorem blk3 (t : Fin cfg0.N) (p : Fin 256) (q : Fin 1024) :
    at2 (a := 256) (b := 1024) (iblk m c 3 t) p.val q.val = at2 (snd m c) (256 * t.val + p.val) q.val := by
  rw [← at2_mk]
  blk_simp [iblk]
  refine (congrFun (V3 m c) _).trans ((at2_eq (a := 2816) (b := 1024) _ _).trans ?_)
  congr 1
  · blk_simp [ix3]
    show t.val * 256 + p.val = _
    omega
  · blk_simp [ix3]

/-- The three results of the call. -/
theorem step_blk (t : Fin cfg0.N) (y : S256x1024.Idx) :
    (out0_4 (iblk m c 0 t) (iblk m c 1 t) (iblk m c 2 t) (iblk m c 3 t) y : EReal) = step (at2 (wgt m c) (256 * t.val + (y 0).val) (y 1).val) (at2 (grd m c) (256 * t.val + (y 0).val) (y 1).val) (at2 (fst m c) (256 * t.val + (y 0).val) (y 1).val) (at2 (snd m c) (256 * t.val + (y 0).val) (y 1).val) := by
  refine (step_at (iblk m c 0 t) (iblk m c 1 t) (iblk m c 2 t) (iblk m c 3 t) y).trans ?_
  rw [at2_eq (a := 256) (b := 1024) (iblk m c 0 t) y, at2_eq (a := 256) (b := 1024) (iblk m c 1 t) y, at2_eq (a := 256) (b := 1024) (iblk m c 2 t) y, at2_eq (a := 256) (b := 1024) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S2816x1024.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 256 * t.val + (y 0).val = t.val * 256 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S256x1024.Idx) :
    (out0_5 (iblk m c 0 t) (iblk m c 1 t) (iblk m c 2 t) (iblk m c 3 t) y : EReal) = mom (at2 (grd m c) (256 * t.val + (y 0).val) (y 1).val) (at2 (fst m c) (256 * t.val + (y 0).val) (y 1).val) := by
  refine (mom_at (iblk m c 0 t) (iblk m c 1 t) (iblk m c 2 t) (iblk m c 3 t) y).trans ?_
  rw [at2_eq (a := 256) (b := 1024) (iblk m c 1 t) y, at2_eq (a := 256) (b := 1024) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S2816x1024.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 256 * t.val + (y 0).val = t.val * 256 + (y 0).val := by omega
    rw [h0]
    blk_simp [ix5]
  refine e.trans (funext fun i => ?_)
  rw [at2_eq (grd m c) i, at2_eq (fst m c) i]

theorem var_blk (t : Fin cfg0.N) (y : S256x1024.Idx) :
    (out0_6 (iblk m c 0 t) (iblk m c 1 t) (iblk m c 2 t) (iblk m c 3 t) y : EReal) = var (at2 (grd m c) (256 * t.val + (y 0).val) (y 1).val) (at2 (snd m c) (256 * t.val + (y 0).val) (y 1).val) := by
  refine (var_at (iblk m c 0 t) (iblk m c 1 t) (iblk m c 2 t) (iblk m c 3 t) y).trans ?_
  rw [at2_eq (a := 256) (b := 1024) (iblk m c 1 t) y, at2_eq (a := 256) (b := 1024) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S2816x1024.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 256 * t.val + (y 0).val = t.val * 256 + (y 0).val := by omega
    rw [h0]
    blk_simp [ix6]
  refine e.trans (funext fun i => ?_)
  rw [at2_eq (grd m c) i, at2_eq (snd m c) i]

/-- The reference's three results are the same formulas. -/
theorem ref_step (w g f s : S4x704x1024.Idx → EReal) :
    Cert.Reference7Ideal.Read.val_main_v24 (F := Ideal) w g f s = fun i => step (flat w i) (flat g i) (flat f i) (flat s i) :=
  funext fun i => rfl

theorem ref_mom (g f : S4x704x1024.Idx → EReal) :
    Cert.Reference7Ideal.Read.val_main_v25 (F := Ideal) g f = fun i => mom (flat g i) (flat f i) :=
  funext fun i => rfl

theorem ref_var (g s : S4x704x1024.Idx → EReal) :
    Cert.Reference7Ideal.Read.val_main_v26 (F := Ideal) g s = fun i => var (flat g i) (flat s i) :=
  funext fun i => rfl

end Cert.Kernel7Ideal.Own
end
-- ==== Proof.AdamSquare.lean ====
/-
  The AdamW call of the mixer's two weights and the gate's weight: what it leaves in its three results.
-/
module

public import proofs.«01_k».proof.Proof.Adam
public import proofs.«01_k».proof.Proof.Mat
public import proofs.«01_k».proof.Proof.Gen.Kernel8Ideal.Value
public import proofs.«01_k».proof.Proof.Gen.Reference8Ideal.Read
public import Idealize.ShloMosaic.Lib.StableHlo.ReadAt

@[expose] public section

set_option maxRecDepth 16384

noncomputable section

namespace Cert.Kernel8Ideal.Own

open Cert.Kernel8Ideal Cert.Kernel8Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S256x1024 .f32) (y : S256x1024.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S256x1024) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S256x1024) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S256x1024) hz2]
  unfold k0_pay4 k0_pay3 k0_pay2 k0_pay1
  pointwise
  rfl

end point

variable (m : (ℓ : Loc nD τ sig) → Buf (Elt Ideal) ℓ) (c : Dev nD)

/-- The weight, its gradient and the two moments, with all axes but the last made one. -/
def flat (x : S4x256x1024.Idx → EReal) : S1024x1024.Idx → EReal :=
  shapeCast S1024x1024 x shapeCasts_S4x256x1024_S1024x1024

def wgt : S1024x1024.Idx → EReal := flat (m ((c : Thread nD τ).loc main_arg0))
def grd : S1024x1024.Idx → EReal := flat (m ((c : Thread nD τ).loc main_arg1))
def fst : S1024x1024.Idx → EReal := flat (m ((c : Thread nD τ).loc main_arg2))
def snd : S1024x1024.Idx → EReal := flat (m ((c : Thread nD τ).loc main_arg3))

theorem V0 : (V m c main_v0 : S1024x1024.Idx → EReal) = wgt m c := by
  show StableHlo.after hostOps0 (fun b => m (c, b)) _ = _
  after_results
  rfl
theorem V1 : (V m c main_v1 : S1024x1024.Idx → EReal) = grd m c := by
  show StableHlo.after hostOps0 (fun b => m (c, b)) _ = _
  after_results
  rfl
theorem V2 : (V m c main_v2 : S1024x1024.Idx → EReal) = fst m c := by
  show StableHlo.after hostOps0 (fun b => m (c, b)) _ = _
  after_results
  rfl
theorem V3 : (V m c main_v3 : S1024x1024.Idx → EReal) = snd m c := by
  show StableHlo.after hostOps0 (fun b => m (c, b)) _ = _
  after_results
  rfl

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 256) (q : Fin 1024) :
    at2 (a := 256) (b := 1024) (iblk m c 0 t) p.val q.val = at2 (wgt m c) (256 * t.val + p.val) q.val := by
  rw [← at2_mk]
  blk_simp [iblk]
  refine (congrFun (V0 m c) _).trans ((at2_eq (a := 1024) (b := 1024) _ _).trans ?_)
  congr 1
  · blk_simp [ix0]
    show t.val * 256 + p.val = _
    omega
  · blk_simp [ix0]

theorem blk1 (t : Fin cfg0.N) (p : Fin 256) (q : Fin 1024) :
    at2 (a := 256) (b := 1024) (iblk m c 1 t) p.val q.val = at2 (grd m c) (256 * t.val + p.val) q.val := by
  rw [← at2_mk]
  blk_simp [iblk]
  refine (congrFun (V1 m c) _).trans ((at2_eq (a := 1024) (b := 1024) _ _).trans ?_)
  congr 1
  · blk_simp [ix1]
    show t.val * 256 + p.val = _
    omega
  · blk_simp [ix1]

theorem blk2 (t : Fin cfg0.N) (p : Fin 256) (q : Fin 1024) :
    at2 (a := 256) (b := 1024) (iblk m c 2 t) p.val q.val = at2 (fst m c) (256 * t.val + p.val) q.val := by
  rw [← at2_mk]
  blk_simp [iblk]
  refine (congrFun (V2 m c) _).trans ((at2_eq (a := 1024) (b := 1024) _ _).trans ?_)
  congr 1
  · blk_simp [ix2]
    show t.val * 256 + p.val = _
    omega
  · blk_simp [ix2]

theorem blk3 (t : Fin cfg0.N) (p : Fin 256) (q : Fin 1024) :
    at2 (a := 256) (b := 1024) (iblk m c 3 t) p.val q.val = at2 (snd m c) (256 * t.val + p.val) q.val := by
  rw [← at2_mk]
  blk_simp [iblk]
  refine (congrFun (V3 m c) _).trans ((at2_eq (a := 1024) (b := 1024) _ _).trans ?_)
  congr 1
  · blk_simp [ix3]
    show t.val * 256 + p.val = _
    omega
  · blk_simp [ix3]

/-- The three results of the call. -/
theorem step_blk (t : Fin cfg0.N) (y : S256x1024.Idx) :
    (out0_4 (iblk m c 0 t) (iblk m c 1 t) (iblk m c 2 t) (iblk m c 3 t) y : EReal) = step (at2 (wgt m c) (256 * t.val + (y 0).val) (y 1).val) (at2 (grd m c) (256 * t.val + (y 0).val) (y 1).val) (at2 (fst m c) (256 * t.val + (y 0).val) (y 1).val) (at2 (snd m c) (256 * t.val + (y 0).val) (y 1).val) := by
  refine (step_at (iblk m c 0 t) (iblk m c 1 t) (iblk m c 2 t) (iblk m c 3 t) y).trans ?_
  rw [at2_eq (a := 256) (b := 1024) (iblk m c 0 t) y, at2_eq (a := 256) (b := 1024) (iblk m c 1 t) y, at2_eq (a := 256) (b := 1024) (iblk m c 2 t) y, at2_eq (a := 256) (b := 1024) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S1024x1024.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 256 * t.val + (y 0).val = t.val * 256 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S256x1024.Idx) :
    (out0_5 (iblk m c 0 t) (iblk m c 1 t) (iblk m c 2 t) (iblk m c 3 t) y : EReal) = mom (at2 (grd m c) (256 * t.val + (y 0).val) (y 1).val) (at2 (fst m c) (256 * t.val + (y 0).val) (y 1).val) := by
  refine (mom_at (iblk m c 0 t) (iblk m c 1 t) (iblk m c 2 t) (iblk m c 3 t) y).trans ?_
  rw [at2_eq (a := 256) (b := 1024) (iblk m c 1 t) y, at2_eq (a := 256) (b := 1024) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S1024x1024.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 256 * t.val + (y 0).val = t.val * 256 + (y 0).val := by omega
    rw [h0]
    blk_simp [ix5]
  refine e.trans (funext fun i => ?_)
  rw [at2_eq (grd m c) i, at2_eq (fst m c) i]

theorem var_blk (t : Fin cfg0.N) (y : S256x1024.Idx) :
    (out0_6 (iblk m c 0 t) (iblk m c 1 t) (iblk m c 2 t) (iblk m c 3 t) y : EReal) = var (at2 (grd m c) (256 * t.val + (y 0).val) (y 1).val) (at2 (snd m c) (256 * t.val + (y 0).val) (y 1).val) := by
  refine (var_at (iblk m c 0 t) (iblk m c 1 t) (iblk m c 2 t) (iblk m c 3 t) y).trans ?_
  rw [at2_eq (a := 256) (b := 1024) (iblk m c 1 t) y, at2_eq (a := 256) (b := 1024) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S1024x1024.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 256 * t.val + (y 0).val = t.val * 256 + (y 0).val := by omega
    rw [h0]
    blk_simp [ix6]
  refine e.trans (funext fun i => ?_)
  rw [at2_eq (grd m c) i, at2_eq (snd m c) i]

/-- The reference's three results are the same formulas. -/
theorem ref_step (w g f s : S4x256x1024.Idx → EReal) :
    Cert.Reference8Ideal.Read.val_main_v24 (F := Ideal) w g f s = fun i => step (flat w i) (flat g i) (flat f i) (flat s i) :=
  funext fun i => rfl

theorem ref_mom (g f : S4x256x1024.Idx → EReal) :
    Cert.Reference8Ideal.Read.val_main_v25 (F := Ideal) g f = fun i => mom (flat g i) (flat f i) :=
  funext fun i => rfl

theorem ref_var (g s : S4x256x1024.Idx → EReal) :
    Cert.Reference8Ideal.Read.val_main_v26 (F := Ideal) g s = fun i => var (flat g i) (flat s i) :=
  funext fun i => rfl

end Cert.Kernel8Ideal.Own
end
-- ==== Proof.AdamGlu.lean ====
/-
  The AdamW call of the gated unit's weight in the mixer: what it leaves in its three results.
-/
module

public import proofs.«01_k».proof.Proof.Adam
public import proofs.«01_k».proof.Proof.Mat
public import proofs.«01_k».proof.Proof.Gen.Kernel9Ideal.Value
public import proofs.«01_k».proof.Proof.Gen.Reference9Ideal.Read
public import Idealize.ShloMosaic.Lib.StableHlo.ReadAt

@[expose] public section

set_option maxRecDepth 16384

noncomputable section

namespace Cert.Kernel9Ideal.Own

open Cert.Kernel9Ideal Cert.Kernel9Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S512x512 .f32) (y : S512x512.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S512x512) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S512x512) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S512x512) hz2]
  unfold k0_pay4 k0_pay3 k0_pay2 k0_pay1
  pointwise
  rfl

end point

variable (m : (ℓ : Loc nD τ sig) → Buf (Elt Ideal) ℓ) (c : Dev nD)

/-- The weight, its gradient and the two moments, with all axes but the last made one. -/
def flat (x : S4x128x512.Idx → EReal) : S512x512.Idx → EReal :=
  shapeCast S512x512 x shapeCasts_S4x128x512_S512x512

def wgt : S512x512.Idx → EReal := flat (m ((c : Thread nD τ).loc main_arg0))
def grd : S512x512.Idx → EReal := flat (m ((c : Thread nD τ).loc main_arg1))
def fst : S512x512.Idx → EReal := flat (m ((c : Thread nD τ).loc main_arg2))
def snd : S512x512.Idx → EReal := flat (m ((c : Thread nD τ).loc main_arg3))

theorem V0 : (V m c main_v0 : S512x512.Idx → EReal) = wgt m c := by
  show StableHlo.after hostOps0 (fun b => m (c, b)) _ = _
  after_results
  rfl
theorem V1 : (V m c main_v1 : S512x512.Idx → EReal) = grd m c := by
  show StableHlo.after hostOps0 (fun b => m (c, b)) _ = _
  after_results
  rfl
theorem V2 : (V m c main_v2 : S512x512.Idx → EReal) = fst m c := by
  show StableHlo.after hostOps0 (fun b => m (c, b)) _ = _
  after_results
  rfl
theorem V3 : (V m c main_v3 : S512x512.Idx → EReal) = snd m c := by
  show StableHlo.after hostOps0 (fun b => m (c, b)) _ = _
  after_results
  rfl

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 512) (q : Fin 512) :
    at2 (a := 512) (b := 512) (iblk m c 0 t) p.val q.val = at2 (wgt m c) (512 * t.val + p.val) q.val := by
  rw [← at2_mk]
  blk_simp [iblk]
  refine (congrFun (V0 m c) _).trans ((at2_eq (a := 512) (b := 512) _ _).trans ?_)
  congr 1
  · blk_simp [ix0]
    show p.val = 512 * 0 + p.val
    omega
  · blk_simp [ix0]

theorem blk1 (t : Fin cfg0.N) (p : Fin 512) (q : Fin 512) :
    at2 (a := 512) (b := 512) (iblk m c 1 t) p.val q.val = at2 (grd m c) (512 * t.val + p.val) q.val := by
  rw [← at2_mk]
  blk_simp [iblk]
  refine (congrFun (V1 m c) _).trans ((at2_eq (a := 512) (b := 512) _ _).trans ?_)
  congr 1
  · blk_simp [ix1]
    show p.val = 512 * 0 + p.val
    omega
  · blk_simp [ix1]

theorem blk2 (t : Fin cfg0.N) (p : Fin 512) (q : Fin 512) :
    at2 (a := 512) (b := 512) (iblk m c 2 t) p.val q.val = at2 (fst m c) (512 * t.val + p.val) q.val := by
  rw [← at2_mk]
  blk_simp [iblk]
  refine (congrFun (V2 m c) _).trans ((at2_eq (a := 512) (b := 512) _ _).trans ?_)
  congr 1
  · blk_simp [ix2]
    show p.val = 512 * 0 + p.val
    omega
  · blk_simp [ix2]

theorem blk3 (t : Fin cfg0.N) (p : Fin 512) (q : Fin 512) :
    at2 (a := 512) (b := 512) (iblk m c 3 t) p.val q.val = at2 (snd m c) (512 * t.val + p.val) q.val := by
  rw [← at2_mk]
  blk_simp [iblk]
  refine (congrFun (V3 m c) _).trans ((at2_eq (a := 512) (b := 512) _ _).trans ?_)
  congr 1
  · blk_simp [ix3]
    show p.val = 512 * 0 + p.val
    omega
  · blk_simp [ix3]

/-- The three results of the call. -/
theorem step_blk (t : Fin cfg0.N) (y : S512x512.Idx) :
    (out0_4 (iblk m c 0 t) (iblk m c 1 t) (iblk m c 2 t) (iblk m c 3 t) y : EReal) = step (at2 (wgt m c) (512 * t.val + (y 0).val) (y 1).val) (at2 (grd m c) (512 * t.val + (y 0).val) (y 1).val) (at2 (fst m c) (512 * t.val + (y 0).val) (y 1).val) (at2 (snd m c) (512 * t.val + (y 0).val) (y 1).val) := by
  refine (step_at (iblk m c 0 t) (iblk m c 1 t) (iblk m c 2 t) (iblk m c 3 t) y).trans ?_
  rw [at2_eq (a := 512) (b := 512) (iblk m c 0 t) y, at2_eq (a := 512) (b := 512) (iblk m c 1 t) y, at2_eq (a := 512) (b := 512) (iblk m c 2 t) y, at2_eq (a := 512) (b := 512) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S512x512.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 512 * t.val + (y 0).val = t.val * 512 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S512x512.Idx) :
    (out0_5 (iblk m c 0 t) (iblk m c 1 t) (iblk m c 2 t) (iblk m c 3 t) y : EReal) = mom (at2 (grd m c) (512 * t.val + (y 0).val) (y 1).val) (at2 (fst m c) (512 * t.val + (y 0).val) (y 1).val) := by
  refine (mom_at (iblk m c 0 t) (iblk m c 1 t) (iblk m c 2 t) (iblk m c 3 t) y).trans ?_
  rw [at2_eq (a := 512) (b := 512) (iblk m c 1 t) y, at2_eq (a := 512) (b := 512) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S512x512.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 512 * t.val + (y 0).val = t.val * 512 + (y 0).val := by omega
    rw [h0]
    blk_simp [ix5]
  refine e.trans (funext fun i => ?_)
  rw [at2_eq (grd m c) i, at2_eq (fst m c) i]

theorem var_blk (t : Fin cfg0.N) (y : S512x512.Idx) :
    (out0_6 (iblk m c 0 t) (iblk m c 1 t) (iblk m c 2 t) (iblk m c 3 t) y : EReal) = var (at2 (grd m c) (512 * t.val + (y 0).val) (y 1).val) (at2 (snd m c) (512 * t.val + (y 0).val) (y 1).val) := by
  refine (var_at (iblk m c 0 t) (iblk m c 1 t) (iblk m c 2 t) (iblk m c 3 t) y).trans ?_
  rw [at2_eq (a := 512) (b := 512) (iblk m c 1 t) y, at2_eq (a := 512) (b := 512) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S512x512.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 512 * t.val + (y 0).val = t.val * 512 + (y 0).val := by omega
    rw [h0]
    blk_simp [ix6]
  refine e.trans (funext fun i => ?_)
  rw [at2_eq (grd m c) i, at2_eq (snd m c) i]

/-- The reference's three results are the same formulas. -/
theorem ref_step (w g f s : S4x128x512.Idx → EReal) :
    Cert.Reference9Ideal.Read.val_main_v24 (F := Ideal) w g f s = fun i => step (flat w i) (flat g i) (flat f i) (flat s i) :=
  funext fun i => rfl

theorem ref_mom (g f : S4x128x512.Idx → EReal) :
    Cert.Reference9Ideal.Read.val_main_v25 (F := Ideal) g f = fun i => mom (flat g i) (flat f i) :=
  funext fun i => rfl

theorem ref_var (g s : S4x128x512.Idx → EReal) :
    Cert.Reference9Ideal.Read.val_main_v26 (F := Ideal) g s = fun i => var (flat g i) (flat s i) :=
  funext fun i => rfl

end Cert.Kernel9Ideal.Own
end
-- ==== Proof.AdamProj.lean ====
/-
  The AdamW call of the projection's weight beside the gate: what it leaves in its three results.
-/
module

public import proofs.«01_k».proof.Proof.Adam
public import proofs.«01_k».proof.Proof.Mat
public import proofs.«01_k».proof.Proof.Gen.Kernel10Ideal.Value
public import proofs.«01_k».proof.Proof.Gen.Reference10Ideal.Read
public import Idealize.ShloMosaic.Lib.StableHlo.ReadAt

@[expose] public section

set_option maxRecDepth 16384

noncomputable section

namespace Cert.Kernel10Ideal.Own

open Cert.Kernel10Ideal Cert.Kernel10Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S1024x256 .f32) (y : S1024x256.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S1024x256) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S1024x256) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S1024x256) hz2]
  unfold k0_pay4 k0_pay3 k0_pay2 k0_pay1
  pointwise
  rfl

end point

variable (m : (ℓ : Loc nD τ sig) → Buf (Elt Ideal) ℓ) (c : Dev nD)

/-- The weight, its gradient and the two moments, with all axes but the last made one. -/
def flat (x : S4x256x256.Idx → EReal) : S1024x256.Idx → EReal :=
  shapeCast S1024x256 x shapeCasts_S4x256x256_S1024x256

def wgt : S1024x256.Idx → EReal := flat (m ((c : Thread nD τ).loc main_arg0))
def grd : S1024x256.Idx → EReal := flat (m ((c : Thread nD τ).loc main_arg1))
def fst : S1024x256.Idx → EReal := flat (m ((c : Thread nD τ).loc main_arg2))
def snd : S1024x256.Idx → EReal := flat (m ((c : Thread nD τ).loc main_arg3))

theorem V0 : (V m c main_v0 : S1024x256.Idx → EReal) = wgt m c := by
  show StableHlo.after hostOps0 (fun b => m (c, b)) _ = _
  after_results
  rfl
theorem V1 : (V m c main_v1 : S1024x256.Idx → EReal) = grd m c := by
  show StableHlo.after hostOps0 (fun b => m (c, b)) _ = _
  after_results
  rfl
theorem V2 : (V m c main_v2 : S1024x256.Idx → EReal) = fst m c := by
  show StableHlo.after hostOps0 (fun b => m (c, b)) _ = _
  after_results
  rfl
theorem V3 : (V m c main_v3 : S1024x256.Idx → EReal) = snd m c := by
  show StableHlo.after hostOps0 (fun b => m (c, b)) _ = _
  after_results
  rfl

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 1024) (q : Fin 256) :
    at2 (a := 1024) (b := 256) (iblk m c 0 t) p.val q.val = at2 (wgt m c) (1024 * t.val + p.val) q.val := by
  rw [← at2_mk]
  blk_simp [iblk]
  refine (congrFun (V0 m c) _).trans ((at2_eq (a := 1024) (b := 256) _ _).trans ?_)
  congr 1
  · blk_simp [ix0]
    show p.val = 1024 * 0 + p.val
    omega
  · blk_simp [ix0]

theorem blk1 (t : Fin cfg0.N) (p : Fin 1024) (q : Fin 256) :
    at2 (a := 1024) (b := 256) (iblk m c 1 t) p.val q.val = at2 (grd m c) (1024 * t.val + p.val) q.val := by
  rw [← at2_mk]
  blk_simp [iblk]
  refine (congrFun (V1 m c) _).trans ((at2_eq (a := 1024) (b := 256) _ _).trans ?_)
  congr 1
  · blk_simp [ix1]
    show p.val = 1024 * 0 + p.val
    omega
  · blk_simp [ix1]

theorem blk2 (t : Fin cfg0.N) (p : Fin 1024) (q : Fin 256) :
    at2 (a := 1024) (b := 256) (iblk m c 2 t) p.val q.val = at2 (fst m c) (1024 * t.val + p.val) q.val := by
  rw [← at2_mk]
  blk_simp [iblk]
  refine (congrFun (V2 m c) _).trans ((at2_eq (a := 1024) (b := 256) _ _).trans ?_)
  congr 1
  · blk_simp [ix2]
    show p.val = 1024 * 0 + p.val
    omega
  · blk_simp [ix2]

theorem blk3 (t : Fin cfg0.N) (p : Fin 1024) (q : Fin 256) :
    at2 (a := 1024) (b := 256) (iblk m c 3 t) p.val q.val = at2 (snd m c) (1024 * t.val + p.val) q.val := by
  rw [← at2_mk]
  blk_simp [iblk]
  refine (congrFun (V3 m c) _).trans ((at2_eq (a := 1024) (b := 256) _ _).trans ?_)
  congr 1
  · blk_simp [ix3]
    show p.val = 1024 * 0 + p.val
    omega
  · blk_simp [ix3]

/-- The three results of the call. -/
theorem step_blk (t : Fin cfg0.N) (y : S1024x256.Idx) :
    (out0_4 (iblk m c 0 t) (iblk m c 1 t) (iblk m c 2 t) (iblk m c 3 t) y : EReal) = step (at2 (wgt m c) (1024 * t.val + (y 0).val) (y 1).val) (at2 (grd m c) (1024 * t.val + (y 0).val) (y 1).val) (at2 (fst m c) (1024 * t.val + (y 0).val) (y 1).val) (at2 (snd m c) (1024 * t.val + (y 0).val) (y 1).val) := by
  refine (step_at (iblk m c 0 t) (iblk m c 1 t) (iblk m c 2 t) (iblk m c 3 t) y).trans ?_
  rw [at2_eq (a := 1024) (b := 256) (iblk m c 0 t) y, at2_eq (a := 1024) (b := 256) (iblk m c 1 t) y, at2_eq (a := 1024) (b := 256) (iblk m c 2 t) y, at2_eq (a := 1024) (b := 256) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S1024x256.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 1024 * t.val + (y 0).val = t.val * 1024 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S1024x256.Idx) :
    (out0_5 (iblk m c 0 t) (iblk m c 1 t) (iblk m c 2 t) (iblk m c 3 t) y : EReal) = mom (at2 (grd m c) (1024 * t.val + (y 0).val) (y 1).val) (at2 (fst m c) (1024 * t.val + (y 0).val) (y 1).val) := by
  refine (mom_at (iblk m c 0 t) (iblk m c 1 t) (iblk m c 2 t) (iblk m c 3 t) y).trans ?_
  rw [at2_eq (a := 1024) (b := 256) (iblk m c 1 t) y, at2_eq (a := 1024) (b := 256) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S1024x256.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 1024 * t.val + (y 0).val = t.val * 1024 + (y 0).val := by omega
    rw [h0]
    blk_simp [ix5]
  refine e.trans (funext fun i => ?_)
  rw [at2_eq (grd m c) i, at2_eq (fst m c) i]

theorem var_blk (t : Fin cfg0.N) (y : S1024x256.Idx) :
    (out0_6 (iblk m c 0 t) (iblk m c 1 t) (iblk m c 2 t) (iblk m c 3 t) y : EReal) = var (at2 (grd m c) (1024 * t.val + (y 0).val) (y 1).val) (at2 (snd m c) (1024 * t.val + (y 0).val) (y 1).val) := by
  refine (var_at (iblk m c 0 t) (iblk m c 1 t) (iblk m c 2 t) (iblk m c 3 t) y).trans ?_
  rw [at2_eq (a := 1024) (b := 256) (iblk m c 1 t) y, at2_eq (a := 1024) (b := 256) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S1024x256.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 1024 * t.val + (y 0).val = t.val * 1024 + (y 0).val := by omega
    rw [h0]
    blk_simp [ix6]
  refine e.trans (funext fun i => ?_)
  rw [at2_eq (grd m c) i, at2_eq (snd m c) i]

/-- The reference's three results are the same formulas. -/
theorem ref_step (w g f s : S4x256x256.Idx → EReal) :
    Cert.Reference10Ideal.Read.val_main_v24 (F := Ideal) w g f s = fun i => step (flat w i) (flat g i) (flat f i) (flat s i) :=
  funext fun i => rfl

theorem ref_mom (g f : S4x256x256.Idx → EReal) :
    Cert.Reference10Ideal.Read.val_main_v25 (F := Ideal) g f = fun i => mom (flat g i) (flat f i) :=
  funext fun i => rfl

theorem ref_var (g s : S4x256x256.Idx → EReal) :
    Cert.Reference10Ideal.Read.val_main_v26 (F := Ideal) g s = fun i => var (flat g i) (flat s i) :=
  funext fun i => rfl

end Cert.Kernel10Ideal.Own
end
-- ==== Proof.SmallPack.lean ====
/-
  The small weights packed end to end into one array of rows of 128, and each cut out again.
-/
module

public import proofs.«01_k».proof.Kernel11Ideal
public import Idealize.ShloMosaic.Lib.Pipeline.ValueKit
public import Idealize.ShloMosaic.Lib.KernelVsHost
public import Idealize.ShloMosaic.Lib.Tactic
public import proofs.«01_k».proof.Proof.Gen.Kernel11Ideal.Frame

@[expose] public section

set_option maxRecDepth 16384

noncomputable section

namespace Cert.Kernel11Ideal.Own

open Cert.Kernel11Ideal Cert.Kernel11Ideal.Gen
open Idealize.ShloMosaic

/-- The part of a padded concatenation that starts where piece `k` starts, and is as long, is piece `k`. -/
theorem part_eq (xs : List ((s : Shape) × (s.Idx → EReal))) (h : Shape.Concatenates (xs.map (·.1)) S824448 0)
    (k : ℕ) (hk : k < xs.length) (n : ℕ) (x : (⟨1, ![n]⟩ : Shape).Idx → EReal) (hx : xs[k] = ⟨⟨1, ![n]⟩, x⟩) (o : ℕ)
    (ho : (((xs.take k).map (·.1)).map fun s => if h : s.rank = S824448.rank then s.size (Fin.cast h.symm 0) else 0).sum = o)
    (hn : o + n ≤ 824448) (v : S_.Idx → EReal) (hp : S824448.Pads ![0] ![896] ![0] S825344) (hu : 0 < S_.numel)
    (hs : S825344.Slices ![o] ⟨1, ![n]⟩) :
    extractStridedSlice ⟨1, ![n]⟩ ![o] (pad S825344 ![0] ![896] ![0] (concatenate S824448 0 xs h) v hp hu) hs = x := by
  funext j
  have hj : (j 0).val < n := (j 0).isLt
  refine (pad_apply_of_inside ![0] ![896] ![0] (concatenate S824448 0 xs h) v hp hu _
    (ValueIdx.ix1 (n := 824448) ⟨o + (j 0).val, by omega⟩) fun a => ?_).trans ?_
  · obtain rfl : a = 0 := Subsingleton.elim (α := Fin 1) a 0
    show o + (j 0).val = 0 + (o + (j 0).val) * (0 + 1)
    omega
  · exact concatenate_apply_piece 0 xs h _ k hk ⟨1, ![n]⟩ x hx rfl o ho j
      (fun b hb => absurd (Subsingleton.elim (α := Fin 1) _ _) hb) rfl

/-- The packed array: the small weights flattened, one after the other, and filled up to whole rows. -/
def pack (v : S_.Idx → EReal) (t0 : S4x1024.Idx → EReal) (t1 : S4x1024.Idx → EReal) (t2 : S4x32x64.Idx → EReal) (t3 : S4x32x64.Idx → EReal) (t4 : S4x32.Idx → EReal) (t5 : S4x32x64x16.Idx → EReal) (t6 : S4x32x64x16.Idx → EReal) (t7 : S4x32x16x64.Idx → EReal) (t8 : S4x32x16x64.Idx → EReal) (t9 : S4x512.Idx → EReal) (t10 : S4x4x128x128.Idx → EReal) (t11 : S4x512.Idx → EReal) (t12 : S4x1024.Idx → EReal) (t13 : S4x1024.Idx → EReal) (t14 : S1024.Idx → EReal) : S6448x128.Idx → EReal :=
  shapeCast S6448x128 (pad S825344 ![0] ![896] ![0] (concatenate S824448 0 [⟨S4096, (shapeCast S4096 t0 shapeCasts_S4x1024_S4096 : S4096.Idx → EReal)⟩, ⟨S4096, (shapeCast S4096 t1 shapeCasts_S4x1024_S4096 : S4096.Idx → EReal)⟩, ⟨S8192, (shapeCast S8192 t2 shapeCasts_S4x32x64_S8192 : S8192.Idx → EReal)⟩, ⟨S8192, (shapeCast S8192 t3 shapeCasts_S4x32x64_S8192 : S8192.Idx → EReal)⟩, ⟨S128, (shapeCast S128 t4 shapeCasts_S4x32_S128 : S128.Idx → EReal)⟩, ⟨S131072, (shapeCast S131072 t5 shapeCasts_S4x32x64x16_S131072 : S131072.Idx → EReal)⟩, ⟨S131072, (shapeCast S131072 t6 shapeCasts_S4x32x64x16_S131072 : S131072.Idx → EReal)⟩, ⟨S131072, (shapeCast S131072 t7 shapeCasts_S4x32x16x64_S131072 : S131072.Idx → EReal)⟩, ⟨S131072, (shapeCast S131072 t8 shapeCasts_S4x32x16x64_S131072 : S131072.Idx → EReal)⟩, ⟨S2048, (shapeCast S2048 t9 shapeCasts_S4x512_S2048 : S2048.Idx → EReal)⟩, ⟨S262144, (shapeCast S262144 t10 shapeCasts_S4x4x128x128_S262144 : S262144.Idx → EReal)⟩, ⟨S2048, (shapeCast S2048 t11 shapeCasts_S4x512_S2048 : S2048.Idx → EReal)⟩, ⟨S4096, (shapeCast S4096 t12 shapeCasts_S4x1024_S4096 : S4096.Idx → EReal)⟩, ⟨S4096, (shapeCast S4096 t13 shapeCasts_S4x1024_S4096 : S4096.Idx → EReal)⟩, ⟨S1024, (t14 : S1024.Idx → EReal)⟩]
    concatenates_S4096_S4096_S8192_S8192_S128_S131072_S131072_S131072_S131072_S2048_S262144_S2048_S4096_S4096_S1024_S824448_d0)
    v pads_S824448_S825344_08960 h_S_) shapeCasts_S825344_S6448x128

/-- `ffn1_norm`, cut out of a packed array. -/
def cut0 {α : Type} (p : S6448x128.Idx → α) : S4x1024.Idx → α :=
  shapeCast S4x1024 (extractStridedSlice S4096 ![0] (shapeCast S825344 p shapeCasts_S6448x128_S825344) slices_S825344_S4096_0) shapeCasts_S4096_S4x1024

/-- `mix_norm`, cut out of a packed array. -/
def cut1 {α : Type} (p : S6448x128.Idx → α) : S4x1024.Idx → α :=
  shapeCast S4x1024 (extractStridedSlice S4096 ![4096] (shapeCast S825344 p shapeCasts_S6448x128_S825344) slices_S825344_S4096_4096) shapeCasts_S4096_S4x1024

/-- `ssm_lambda_re`, cut out of a packed array. -/
def cut2 {α : Type} (p : S6448x128.Idx → α) : S4x32x64.Idx → α :=
  shapeCast S4x32x64 (extractStridedSlice S8192 ![8192] (shapeCast S825344 p shapeCasts_S6448x128_S825344) slices_S825344_S8192_8192) shapeCasts_S8192_S4x32x64

/-- `ssm_lambda_im`, cut out of a packed array. -/
def cut3 {α : Type} (p : S6448x128.Idx → α) : S4x32x64.Idx → α :=
  shapeCast S4x32x64 (extractStridedSlice S8192 ![16384] (shapeCast S825344 p shapeCasts_S6448x128_S825344) slices_S825344_S8192_16384) shapeCasts_S8192_S4x32x64

/-- `ssm_log_dt`, cut out of a packed array. -/
def cut4 {α : Type} (p : S6448x128.Idx → α) : S4x32.Idx → α :=
  shapeCast S4x32 (extractStridedSlice S128 ![24576] (shapeCast S825344 p shapeCasts_S6448x128_S825344) slices_S825344_S128_24576) shapeCasts_S128_S4x32

/-- `ssm_b_re`, cut out of a packed array. -/
def cut5 {α : Type} (p : S6448x128.Idx → α) : S4x32x64x16.Idx → α :=
  shapeCast S4x32x64x16 (extractStridedSlice S131072 ![24704] (shapeCast S825344 p shapeCasts_S6448x128_S825344) slices_S825344_S131072_24704) shapeCasts_S131072_S4x32x64x16

/-- `ssm_b_im`, cut out of a packed array. -/
def cut6 {α : Type} (p : S6448x128.Idx → α) : S4x32x64x16.Idx → α :=
  shapeCast S4x32x64x16 (extractStridedSlice S131072 ![155776] (shapeCast S825344 p shapeCasts_S6448x128_S825344) slices_S825344_S131072_155776) shapeCasts_S131072_S4x32x64x16

/-- `ssm_c_re`, cut out of a packed array. -/
def cut7 {α : Type} (p : S6448x128.Idx → α) : S4x32x16x64.Idx → α :=
  shapeCast S4x32x16x64 (extractStridedSlice S131072 ![286848] (shapeCast S825344 p shapeCasts_S6448x128_S825344) slices_S825344_S131072_286848) shapeCasts_S131072_S4x32x16x64

/-- `ssm_c_im`, cut out of a packed array. -/
def cut8 {α : Type} (p : S6448x128.Idx → α) : S4x32x16x64.Idx → α :=
  shapeCast S4x32x16x64 (extractStridedSlice S131072 ![417920] (shapeCast S825344 p shapeCasts_S6448x128_S825344) slices_S825344_S131072_417920) shapeCasts_S131072_S4x32x16x64

/-- `ssm_d`, cut out of a packed array. -/
def cut9 {α : Type} (p : S6448x128.Idx → α) : S4x512.Idx → α :=
  shapeCast S4x512 (extractStridedSlice S2048 ![548992] (shapeCast S825344 p shapeCasts_S6448x128_S825344) slices_S825344_S2048_548992) shapeCasts_S2048_S4x512

/-- `pool_w`, cut out of a packed array. -/
def cut10 {α : Type} (p : S6448x128.Idx → α) : S4x4x128x128.Idx → α :=
  shapeCast S4x4x128x128 (extractStridedSlice S262144 ![551040] (shapeCast S825344 p shapeCasts_S6448x128_S825344) slices_S825344_S262144_551040) shapeCasts_S262144_S4x4x128x128

/-- `pool_scale`, cut out of a packed array. -/
def cut11 {α : Type} (p : S6448x128.Idx → α) : S4x512.Idx → α :=
  shapeCast S4x512 (extractStridedSlice S2048 ![813184] (shapeCast S825344 p shapeCasts_S6448x128_S825344) slices_S825344_S2048_813184) shapeCasts_S2048_S4x512

/-- `ffn2_norm`, cut out of a packed array. -/
def cut12 {α : Type} (p : S6448x128.Idx → α) : S4x1024.Idx → α :=
  shapeCast S4x1024 (extractStridedSlice S4096 ![815232] (shapeCast S825344 p shapeCasts_S6448x128_S825344) slices_S825344_S4096_815232) shapeCasts_S4096_S4x1024

/-- `ple_norm`, cut out of a packed array. -/
def cut13 {α : Type} (p : S6448x128.Idx → α) : S4x1024.Idx → α :=
  shapeCast S4x1024 (extractStridedSlice S4096 ![819328] (shapeCast S825344 p shapeCasts_S6448x128_S825344) slices_S825344_S4096_819328) shapeCasts_S4096_S4x1024

/-- `final_norm`, cut out of a packed array. -/
def cut14 {α : Type} (p : S6448x128.Idx → α) : S1024.Idx → α :=
  extractStridedSlice S1024 ![823424] (shapeCast S825344 p shapeCasts_S6448x128_S825344) slices_S825344_S1024_823424

variable (v : S_.Idx → EReal) (t0 : S4x1024.Idx → EReal) (t1 : S4x1024.Idx → EReal) (t2 : S4x32x64.Idx → EReal) (t3 : S4x32x64.Idx → EReal) (t4 : S4x32.Idx → EReal) (t5 : S4x32x64x16.Idx → EReal) (t6 : S4x32x64x16.Idx → EReal) (t7 : S4x32x16x64.Idx → EReal) (t8 : S4x32x16x64.Idx → EReal) (t9 : S4x512.Idx → EReal) (t10 : S4x4x128x128.Idx → EReal) (t11 : S4x512.Idx → EReal) (t12 : S4x1024.Idx → EReal) (t13 : S4x1024.Idx → EReal) (t14 : S1024.Idx → EReal)

theorem cut_pack0 : cut0 (pack v t0 t1 t2 t3 t4 t5 t6 t7 t8 t9 t10 t11 t12 t13 t14) = t0 := by
  unfold cut0 pack
  rw [shapeCast_shapeCast, part_eq _ _ 0 (by simp) 4096 (shapeCast S4096 t0 shapeCasts_S4x1024_S4096) rfl 0 (by simp) (by omega)]
  exact shapeCast_shapeCast _ _ _

theorem cut_pack1 : cut1 (pack v t0 t1 t2 t3 t4 t5 t6 t7 t8 t9 t10 t11 t12 t13 t14) = t1 := by
  unfold cut1 pack
  rw [shapeCast_shapeCast, part_eq _ _ 1 (by simp) 4096 (shapeCast S4096 t1 shapeCasts_S4x1024_S4096) rfl 4096 (by simp) (by omega)]
  exact shapeCast_shapeCast _ _ _

theorem cut_pack2 : cut2 (pack v t0 t1 t2 t3 t4 t5 t6 t7 t8 t9 t10 t11 t12 t13 t14) = t2 := by
  unfold cut2 pack
  rw [shapeCast_shapeCast, part_eq _ _ 2 (by simp) 8192 (shapeCast S8192 t2 shapeCasts_S4x32x64_S8192) rfl 8192 (by simp) (by omega)]
  exact shapeCast_shapeCast _ _ _

theorem cut_pack3 : cut3 (pack v t0 t1 t2 t3 t4 t5 t6 t7 t8 t9 t10 t11 t12 t13 t14) = t3 := by
  unfold cut3 pack
  rw [shapeCast_shapeCast, part_eq _ _ 3 (by simp) 8192 (shapeCast S8192 t3 shapeCasts_S4x32x64_S8192) rfl 16384 (by simp) (by omega)]
  exact shapeCast_shapeCast _ _ _

theorem cut_pack4 : cut4 (pack v t0 t1 t2 t3 t4 t5 t6 t7 t8 t9 t10 t11 t12 t13 t14) = t4 := by
  unfold cut4 pack
  rw [shapeCast_shapeCast, part_eq _ _ 4 (by simp) 128 (shapeCast S128 t4 shapeCasts_S4x32_S128) rfl 24576 (by simp) (by omega)]
  exact shapeCast_shapeCast _ _ _

theorem cut_pack5 : cut5 (pack v t0 t1 t2 t3 t4 t5 t6 t7 t8 t9 t10 t11 t12 t13 t14) = t5 := by
  unfold cut5 pack
  rw [shapeCast_shapeCast, part_eq _ _ 5 (by simp) 131072 (shapeCast S131072 t5 shapeCasts_S4x32x64x16_S131072) rfl 24704 (by simp) (by omega)]
  exact shapeCast_shapeCast _ _ _

theorem cut_pack6 : cut6 (pack v t0 t1 t2 t3 t4 t5 t6 t7 t8 t9 t10 t11 t12 t13 t14) = t6 := by
  unfold cut6 pack
  rw [shapeCast_shapeCast, part_eq _ _ 6 (by simp) 131072 (shapeCast S131072 t6 shapeCasts_S4x32x64x16_S131072) rfl 155776 (by simp) (by omega)]
  exact shapeCast_shapeCast _ _ _

theorem cut_pack7 : cut7 (pack v t0 t1 t2 t3 t4 t5 t6 t7 t8 t9 t10 t11 t12 t13 t14) = t7 := by
  unfold cut7 pack
  rw [shapeCast_shapeCast, part_eq _ _ 7 (by simp) 131072 (shapeCast S131072 t7 shapeCasts_S4x32x16x64_S131072) rfl 286848 (by simp) (by omega)]
  exact shapeCast_shapeCast _ _ _

theorem cut_pack8 : cut8 (pack v t0 t1 t2 t3 t4 t5 t6 t7 t8 t9 t10 t11 t12 t13 t14) = t8 := by
  unfold cut8 pack
  rw [shapeCast_shapeCast, part_eq _ _ 8 (by simp) 131072 (shapeCast S131072 t8 shapeCasts_S4x32x16x64_S131072) rfl 417920 (by simp) (by omega)]
  exact shapeCast_shapeCast _ _ _

theorem cut_pack9 : cut9 (pack v t0 t1 t2 t3 t4 t5 t6 t7 t8 t9 t10 t11 t12 t13 t14) = t9 := by
  unfold cut9 pack
  rw [shapeCast_shapeCast, part_eq _ _ 9 (by simp) 2048 (shapeCast S2048 t9 shapeCasts_S4x512_S2048) rfl 548992 (by simp) (by omega)]
  exact shapeCast_shapeCast _ _ _

theorem cut_pack10 : cut10 (pack v t0 t1 t2 t3 t4 t5 t6 t7 t8 t9 t10 t11 t12 t13 t14) = t10 := by
  unfold cut10 pack
  rw [shapeCast_shapeCast, part_eq _ _ 10 (by simp) 262144 (shapeCast S262144 t10 shapeCasts_S4x4x128x128_S262144) rfl 551040 (by simp) (by omega)]
  exact shapeCast_shapeCast _ _ _

theorem cut_pack11 : cut11 (pack v t0 t1 t2 t3 t4 t5 t6 t7 t8 t9 t10 t11 t12 t13 t14) = t11 := by
  unfold cut11 pack
  rw [shapeCast_shapeCast, part_eq _ _ 11 (by simp) 2048 (shapeCast S2048 t11 shapeCasts_S4x512_S2048) rfl 813184 (by simp) (by omega)]
  exact shapeCast_shapeCast _ _ _

theorem cut_pack12 : cut12 (pack v t0 t1 t2 t3 t4 t5 t6 t7 t8 t9 t10 t11 t12 t13 t14) = t12 := by
  unfold cut12 pack
  rw [shapeCast_shapeCast, part_eq _ _ 12 (by simp) 4096 (shapeCast S4096 t12 shapeCasts_S4x1024_S4096) rfl 815232 (by simp) (by omega)]
  exact shapeCast_shapeCast _ _ _

theorem cut_pack13 : cut13 (pack v t0 t1 t2 t3 t4 t5 t6 t7 t8 t9 t10 t11 t12 t13 t14) = t13 := by
  unfold cut13 pack
  rw [shapeCast_shapeCast, part_eq _ _ 13 (by simp) 4096 (shapeCast S4096 t13 shapeCasts_S4x1024_S4096) rfl 819328 (by simp) (by omega)]
  exact shapeCast_shapeCast _ _ _

theorem cut_pack14 : cut14 (pack v t0 t1 t2 t3 t4 t5 t6 t7 t8 t9 t10 t11 t12 t13 t14) = t14 := by
  unfold cut14 pack
  rw [shapeCast_shapeCast, part_eq _ _ 14 (by simp) 1024 t14 rfl 823424 (by simp) (by omega)]

end Cert.Kernel11Ideal.Own
end
-- ==== Proof.SmallIn.lean ====
/-
  The four packed arrays that the AdamW call of the small weights reads.
-/
module

public import proofs.«01_k».proof.Proof.SmallPack
public import Idealize.ShloMosaic.Lib.StableHlo.ReadAt

@[expose] public section

set_option maxRecDepth 16384

noncomputable section

namespace Cert.Kernel11Ideal.Own

open Cert.Kernel11Ideal Cert.Kernel11Ideal.Gen
open Idealize.ShloMosaic Idealize.ShloMosaic.TcCoe Idealize.SL.Sem

variable (m : (ℓ : Loc nD τ sig) → Buf (Elt Ideal) ℓ) (c : Dev nD)

/-- An argument of the program. -/
def arg (b : Ref sig .tc) : b.ty.shape.Idx → Elt Ideal b.ty.elt := m ((c : Thread nD τ).loc b)

/-- What fills up the last row: zero. -/
def fill : S_.Idx → EReal := (sitofp (F := Ideal) .f32 (constantI S_ 32 0#32) : FVec Ideal S_ .f32)

/-- The weights, their gradients and the two moments, packed. -/
def wgt : S6448x128.Idx → EReal := pack fill (arg m c main_arg0) (arg m c main_arg1) (arg m c main_arg2) (arg m c main_arg3) (arg m c main_arg4)
    (arg m c main_arg5) (arg m c main_arg6) (arg m c main_arg7) (arg m c main_arg8) (arg m c main_arg9)
    (arg m c main_arg10) (arg m c main_arg11) (arg m c main_arg12) (arg m c main_arg13) (arg m c main_arg14)
def grd : S6448x128.Idx → EReal := pack fill (arg m c main_arg15) (arg m c main_arg16) (arg m c main_arg17) (arg m c main_arg18) (arg m c main_arg19)
    (arg m c main_arg20) (arg m c main_arg21) (arg m c main_arg22) (arg m c main_arg23) (arg m c main_arg24)
    (arg m c main_arg25) (arg m c main_arg26) (arg m c main_arg27) (arg m c main_arg28) (arg m c main_arg29)
def fst : S6448x128.Idx → EReal := pack fill (arg m c main_arg30) (arg m c main_arg31) (arg m c main_arg32) (arg m c main_arg33) (arg m c main_arg34)
    (arg m c main_arg35) (arg m c main_arg36) (arg m c main_arg37) (arg m c main_arg38) (arg m c main_arg39)
    (arg m c main_arg40) (arg m c main_arg41) (arg m c main_arg42) (arg m c main_arg43) (arg m c main_arg44)
def snd : S6448x128.Idx → EReal := pack fill (arg m c main_arg45) (arg m c main_arg46) (arg m c main_arg47) (arg m c main_arg48) (arg m c main_arg49)
    (arg m c main_arg50) (arg m c main_arg51) (arg m c main_arg52) (arg m c main_arg53) (arg m c main_arg54)
    (arg m c main_arg55) (arg m c main_arg56) (arg m c main_arg57) (arg m c main_arg58) (arg m c main_arg59)

theorem V0 : (V m c main_v16 : S6448x128.Idx → EReal) = wgt m c := by
  unfold wgt
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results
  rfl

theorem V1 : (V m c main_v33 : S6448x128.Idx → EReal) = grd m c := by
  unfold grd
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results
  rfl

theorem V2 : (V m c main_v50 : S6448x128.Idx → EReal) = fst m c := by
  unfold fst
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results
  rfl

theorem V3 : (V m c main_v67 : S6448x128.Idx → EReal) = snd m c := by
  unfold snd
  show StableHlo.after (List.flatten [hostOps0, hostOps0_1, hostOps0_2, hostOps0_3, hostOps0_4, hostOps0_5, hostOps0_6, hostOps0_7, hostOps0_8]) (fun b => m (c, b)) _ = _
  simp only [List.flatten_cons, List.flatten_nil, List.append_nil, List.cons_append, List.nil_append]
  after_results
  rfl

end Cert.Kernel11Ideal.Own
end
-- ==== Proof.SmallArr.lean ====
/-
  The AdamW call of the small weights: what it leaves in its three packed results.
-/
module

public import proofs.«01_k».proof.Proof.Adam
public import proofs.«01_k».proof.Proof.Mat
public import proofs.«01_k».proof.Proof.SmallIn

@[expose] public section

set_option maxRecDepth 16384

noncomputable section

namespace Cert.Kernel11Ideal.Own

open Cert.Kernel11Ideal Cert.Kernel11Ideal.Gen Cert.Adam Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

section point

variable (x0 x1 x2 x3 : Vec Ideal S496x128 .f32) (y : S496x128.Idx)

/-- The three blocks a point stores, entry by entry. -/
theorem mom_at : (out0_5 x0 x1 x2 x3 y : EReal) = mom (x1 y) (x2 y) := by
  obtain ⟨p, q, rfl⟩ : ∃ p q, y = ValueIdx.ix2 p q := ⟨y 0, y 1, ValueIdx.eq_ix2 y⟩
  unfold out0_5
  rw [View.canon_unit_zero hz2]
  simp only [View.ld_unit_zero (S := S496x128) hz2]
  unfold k0_pay2 k0_pay1
  pointwise
  rfl

theorem var_at : (out0_6 x0 x1 x2 x3 y : EReal) = var (x1 y) (x3 y) := by
  obtain ⟨p, q, rfl⟩ : ∃ p q, y = ValueIdx.ix2 p q := ⟨y 0, y 1, ValueIdx.eq_ix2 y⟩
  unfold out0_6
  rw [View.canon_unit_zero hz2]
  simp only [View.ld_unit_zero (S := S496x128) hz2]
  unfold k0_pay3 k0_pay1
  pointwise
  rfl

theorem step_at : (out0_4 x0 x1 x2 x3 y : EReal) = step (x0 y) (x1 y) (x2 y) (x3 y) := by
  obtain ⟨p, q, rfl⟩ : ∃ p q, y = ValueIdx.ix2 p q := ⟨y 0, y 1, ValueIdx.eq_ix2 y⟩
  unfold out0_4
  rw [View.canon_unit_zero hz2]
  simp only [View.ld_unit_zero (S := S496x128) hz2]
  unfold k0_pay4 k0_pay3 k0_pay2 k0_pay1
  pointwise
  rfl

end point

variable (m : (ℓ : Loc nD τ sig) → Buf (Elt Ideal) ℓ) (c : Dev nD)

theorem ixs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem ix0 (t : Fin cfg0.N) : win0_0.index t = ![t.val, 0] := (ixs t).1
theorem ix1 (t : Fin cfg0.N) : win0_1.index t = ![t.val, 0] := (ixs t).2.1
theorem ix2 (t : Fin cfg0.N) : win0_2.index t = ![t.val, 0] := (ixs t).2.2.1
theorem ix3 (t : Fin cfg0.N) : win0_3.index t = ![t.val, 0] := (ixs t).2.2.2.1
theorem ix4 (t : Fin cfg0.N) : win0_4.index t = ![t.val, 0] := (ixs t).2.2.2.2.1
theorem ix5 (t : Fin cfg0.N) : win0_5.index t = ![t.val, 0] := (ixs t).2.2.2.2.2.1
theorem ix6 (t : Fin cfg0.N) : win0_6.index t = ![t.val, 0] := (ixs t).2.2.2.2.2.2

theorem blk0 (t : Fin cfg0.N) (p : Fin 496) (q : Fin 128) :
    at2 (a := 496) (b := 128) (iblk m c 0 t) p.val q.val = at2 (wgt m c) (496 * t.val + p.val) q.val := by
  rw [← at2_mk]
  blk_simp [iblk]
  refine (congrFun (V0 m c) _).trans ((at2_eq (a := 6448) (b := 128) _ _).trans ?_)
  congr 1
  · blk_simp [ix0]
    show t.val * 496 + p.val = _
    omega
  · blk_simp [ix0]

theorem blk1 (t : Fin cfg0.N) (p : Fin 496) (q : Fin 128) :
    at2 (a := 496) (b := 128) (iblk m c 1 t) p.val q.val = at2 (grd m c) (496 * t.val + p.val) q.val := by
  rw [← at2_mk]
  blk_simp [iblk]
  refine (congrFun (V1 m c) _).trans ((at2_eq (a := 6448) (b := 128) _ _).trans ?_)
  congr 1
  · blk_simp [ix1]
    show t.val * 496 + p.val = _
    omega
  · blk_simp [ix1]

theorem blk2 (t : Fin cfg0.N) (p : Fin 496) (q : Fin 128) :
    at2 (a := 496) (b := 128) (iblk m c 2 t) p.val q.val = at2 (fst m c) (496 * t.val + p.val) q.val := by
  rw [← at2_mk]
  blk_simp [iblk]
  refine (congrFun (V2 m c) _).trans ((at2_eq (a := 6448) (b := 128) _ _).trans ?_)
  congr 1
  · blk_simp [ix2]
    show t.val * 496 + p.val = _
    omega
  · blk_simp [ix2]

theorem blk3 (t : Fin cfg0.N) (p : Fin 496) (q : Fin 128) :
    at2 (a := 496) (b := 128) (iblk m c 3 t) p.val q.val = at2 (snd m c) (496 * t.val + p.val) q.val := by
  rw [← at2_mk]
  blk_simp [iblk]
  refine (congrFun (V3 m c) _).trans ((at2_eq (a := 6448) (b := 128) _ _).trans ?_)
  congr 1
  · blk_simp [ix3]
    show t.val * 496 + p.val = _
    omega
  · blk_simp [ix3]

/-- The three results of the call. -/
theorem step_blk (t : Fin cfg0.N) (y : S496x128.Idx) :
    (out0_4 (iblk m c 0 t) (iblk m c 1 t) (iblk m c 2 t) (iblk m c 3 t) y : EReal) = step (at2 (wgt m c) (496 * t.val + (y 0).val) (y 1).val) (at2 (grd m c) (496 * t.val + (y 0).val) (y 1).val) (at2 (fst m c) (496 * t.val + (y 0).val) (y 1).val) (at2 (snd m c) (496 * t.val + (y 0).val) (y 1).val) := by
  refine (step_at (iblk m c 0 t) (iblk m c 1 t) (iblk m c 2 t) (iblk m c 3 t) y).trans ?_
  rw [at2_eq (a := 496) (b := 128) (iblk m c 0 t) y, at2_eq (a := 496) (b := 128) (iblk m c 1 t) y, at2_eq (a := 496) (b := 128) (iblk m c 2 t) y, at2_eq (a := 496) (b := 128) (iblk m c 3 t) y, blk0 m c t (y 0) (y 1), blk1 m c t (y 0) (y 1), blk2 m c t (y 0) (y 1), blk3 m c t (y 0) (y 1)]

theorem step_eq : (dats m 0 c).arrAt 4 cfg0.N = fun i => step (wgt m c i) (grd m c i) (fst m c i) (snd m c i) := by
  have e : (dats m 0 c).arrAt 4 cfg0.N = fun i : S6448x128.Idx => step (at2 (wgt m c) (i 0).val (i 1).val) (at2 (grd m c) (i 0).val (i 1).val) (at2 (fst m c) (i 0).val (i 1).val) (at2 (snd m c) (i 0).val (i 1).val) := by
    refine (dats m 0 c).arrAt_eq_of_covers 4 _ (by decide +kernel) fun t hf y => ?_
    rw [after0_4]
    blk_simp
    refine (step_blk m c t y).trans ?_
    have h0 : 496 * t.val + (y 0).val = t.val * 496 + (y 0).val := by omega
    rw [h0]
    blk_simp [ix4]
  refine e.trans (funext fun i => ?_)
  rw [at2_eq (wgt m c) i, at2_eq (grd m c) i, at2_eq (fst m c) i, at2_eq (snd m c) i]

theorem mom_blk (t : Fin cfg0.N) (y : S496x128.Idx) :
    (out0_5 (iblk m c 0 t) (iblk m c 1 t) (iblk m c 2 t) (iblk m c 3 t) y : EReal) = mom (at2 (grd m c) (496 * t.val + (y 0).val) (y 1).val) (at2 (fst m c) (496 * t.val + (y 0).val) (y 1).val) := by
  refine (mom_at (iblk m c 0 t) (iblk m c 1 t) (iblk m c 2 t) (iblk m c 3 t) y).trans ?_
  rw [at2_eq (a := 496) (b := 128) (iblk m c 1 t) y, at2_eq (a := 496) (b := 128) (iblk m c 2 t) y, blk1 m c t (y 0) (y 1), blk2 m c t (y 0) (y 1)]

theorem mom_eq : (dats m 0 c).arrAt 5 cfg0.N = fun i => mom (grd m c i) (fst m c i) := by
  have e : (dats m 0 c).arrAt 5 cfg0.N = fun i : S6448x128.Idx => mom (at2 (grd m c) (i 0).val (i 1).val) (at2 (fst m c) (i 0).val (i 1).val) := by
    refine (dats m 0 c).arrAt_eq_of_covers 5 _ (by decide +kernel) fun t hf y => ?_
    rw [after0_5]
    blk_simp
    refine (mom_blk m c t y).trans ?_
    have h0 : 496 * t.val + (y 0).val = t.val * 496 + (y 0).val := by omega
    rw [h0]
    blk_simp [ix5]
  refine e.trans (funext fun i => ?_)
  rw [at2_eq (grd m c) i, at2_eq (fst m c) i]

theorem var_blk (t : Fin cfg0.N) (y : S496x128.Idx) :
    (out0_6 (iblk m c 0 t) (iblk m c 1 t) (iblk m c 2 t) (iblk m c 3 t) y : EReal) = var (at2 (grd m c) (496 * t.val + (y 0).val) (y 1).val) (at2 (snd m c) (496 * t.val + (y 0).val) (y 1).val) := by
  refine (var_at (iblk m c 0 t) (iblk m c 1 t) (iblk m c 2 t) (iblk m c 3 t) y).trans ?_
  rw [at2_eq (a := 496) (b := 128) (iblk m c 1 t) y, at2_eq (a := 496) (b := 128) (iblk m c 3 t) y, blk1 m c t (y 0) (y 1), blk3 m c t (y 0) (y 1)]

theorem var_eq : (dats m 0 c).arrAt 6 cfg0.N = fun i => var (grd m c i) (snd m c i) := by
  have e : (dats m 0 c).arrAt 6 cfg0.N = fun i : S6448x128.Idx => var (at2 (grd m c) (i 0).val (i 1).val) (at2 (snd m c) (i 0).val (i 1).val) := by
    refine (dats m 0 c).arrAt_eq_of_covers 6 _ (by decide +kernel) fun t hf y => ?_
    rw [after0_6]
    blk_simp
    refine (var_blk m c t y).trans ?_
    have h0 : 496 * t.val + (y 0).val = t.val * 496 + (y 0).val := by omega
    rw [h0]
    blk_simp [ix6]
  refine e.trans (funext fun i => ?_)
  rw [at2_eq (grd m c) i, at2_eq (snd m c) i]

end Cert.Kernel11Ideal.Own
end
-- ==== Proof.SmallStep.lean ====
/-
  The changes of the small weights, cut out of the packed result.
-/
module

public import proofs.«01_k».proof.Proof.SmallArr

@[expose] public section

set_option maxRecDepth 16384

noncomputable section

namespace Cert.Kernel11Ideal.Own

open Cert.Kernel11Ideal Cert.Kernel11Ideal.Gen Cert.Adam
open Idealize.ShloMosaic Idealize.ShloMosaic.TcCoe Idealize.SL.Sem

variable (m : (ℓ : Loc nD τ sig) → Buf (Elt Ideal) ℓ) (c : Dev nD)

theorem arr4 : Pipeline.withArrays (cfgs 0).spec c (Gen.V0 m c) (fun w => (dats m 0 c).arrAt w (cfgs 0).N) (Proc.devRef .tc main_v68_0)
    = steps (wgt m c) (grd m c) (fst m c) (snd m c) :=
  (Pipeline.withArrays_arr spec0 launch0.win.arr_inj c _ _ 4).trans (step_eq m c)

/-- `ffn1_norm`. -/
theorem res0 : Pipeline.afterTail₀ cfgs (dats m) 0 (Gen.V0 m) [hostOps1] c main_v71 = steps (arg m c main_arg0) (arg m c main_arg15) (arg m c main_arg30) (arg m c main_arg45) := by
  have h : Pipeline.afterTail₀ cfgs (dats m) 0 (Gen.V0 m) [hostOps1] c main_v71 = cut0 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x1024.Idx) (cut_pack0 ..) (cut_pack0 ..) (cut_pack0 ..) (cut_pack0 ..))

/-- `mix_norm`. -/
theorem res1 : Pipeline.afterTail₀ cfgs (dats m) 0 (Gen.V0 m) [hostOps1] c main_v73 = steps (arg m c main_arg1) (arg m c main_arg16) (arg m c main_arg31) (arg m c main_arg46) := by
  have h : Pipeline.afterTail₀ cfgs (dats m) 0 (Gen.V0 m) [hostOps1] c main_v73 = cut1 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x1024.Idx) (cut_pack1 ..) (cut_pack1 ..) (cut_pack1 ..) (cut_pack1 ..))

/-- `ssm_lambda_re`. -/
theorem res2 : Pipeline.afterTail₀ cfgs (dats m) 0 (Gen.V0 m) [hostOps1] c main_v75 = steps (arg m c main_arg2) (arg m c main_arg17) (arg m c main_arg32) (arg m c main_arg47) := by
  have h : Pipeline.afterTail₀ cfgs (dats m) 0 (Gen.V0 m) [hostOps1] c main_v75 = cut2 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x64.Idx) (cut_pack2 ..) (cut_pack2 ..) (cut_pack2 ..) (cut_pack2 ..))

/-- `ssm_lambda_im`. -/
theorem res3 : Pipeline.afterTail₀ cfgs (dats m) 0 (Gen.V0 m) [hostOps1] c main_v77 = steps (arg m c main_arg3) (arg m c main_arg18) (arg m c main_arg33) (arg m c main_arg48) := by
  have h : Pipeline.afterTail₀ cfgs (dats m) 0 (Gen.V0 m) [hostOps1] c main_v77 = cut3 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x64.Idx) (cut_pack3 ..) (cut_pack3 ..) (cut_pack3 ..) (cut_pack3 ..))

/-- `ssm_log_dt`. -/
theorem res4 : Pipeline.afterTail₀ cfgs (dats m) 0 (Gen.V0 m) [hostOps1] c main_v79 = steps (arg m c main_arg4) (arg m c main_arg19) (arg m c main_arg34) (arg m c main_arg49) := by
  have h : Pipeline.afterTail₀ cfgs (dats m) 0 (Gen.V0 m) [hostOps1] c main_v79 = cut4 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32.Idx) (cut_pack4 ..) (cut_pack4 ..) (cut_pack4 ..) (cut_pack4 ..))

/-- `ssm_b_re`. -/
theorem res5 : Pipeline.afterTail₀ cfgs (dats m) 0 (Gen.V0 m) [hostOps1] c main_v81 = steps (arg m c main_arg5) (arg m c main_arg20) (arg m c main_arg35) (arg m c main_arg50) := by
  have h : Pipeline.afterTail₀ cfgs (dats m) 0 (Gen.V0 m) [hostOps1] c main_v81 = cut5 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x64x16.Idx) (cut_pack5 ..) (cut_pack5 ..) (cut_pack5 ..) (cut_pack5 ..))

/-- `ssm_b_im`. -/
theorem res6 : Pipeline.afterTail₀ cfgs (dats m) 0 (Gen.V0 m) [hostOps1] c main_v83 = steps (arg m c main_arg6) (arg m c main_arg21) (arg m c main_arg36) (arg m c main_arg51) := by
  have h : Pipeline.afterTail₀ cfgs (dats m) 0 (Gen.V0 m) [hostOps1] c main_v83 = cut6 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x64x16.Idx) (cut_pack6 ..) (cut_pack6 ..) (cut_pack6 ..) (cut_pack6 ..))

/-- `ssm_c_re`. -/
theorem res7 : Pipeline.afterTail₀ cfgs (dats m) 0 (Gen.V0 m) [hostOps1] c main_v85 = steps (arg m c main_arg7) (arg m c main_arg22) (arg m c main_arg37) (arg m c main_arg52) := by
  have h : Pipeline.afterTail₀ cfgs (dats m) 0 (Gen.V0 m) [hostOps1] c main_v85 = cut7 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x16x64.Idx) (cut_pack7 ..) (cut_pack7 ..) (cut_pack7 ..) (cut_pack7 ..))

/-- `ssm_c_im`. -/
theorem res8 : Pipeline.afterTail₀ cfgs (dats m) 0 (Gen.V0 m) [hostOps1] c main_v87 = steps (arg m c main_arg8) (arg m c main_arg23) (arg m c main_arg38) (arg m c main_arg53) := by
  have h : Pipeline.afterTail₀ cfgs (dats m) 0 (Gen.V0 m) [hostOps1] c main_v87 = cut8 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x32x16x64.Idx) (cut_pack8 ..) (cut_pack8 ..) (cut_pack8 ..) (cut_pack8 ..))

/-- `ssm_d`. -/
theorem res9 : Pipeline.afterTail₀ cfgs (dats m) 0 (Gen.V0 m) [hostOps1] c main_v89 = steps (arg m c main_arg9) (arg m c main_arg24) (arg m c main_arg39) (arg m c main_arg54) := by
  have h : Pipeline.afterTail₀ cfgs (dats m) 0 (Gen.V0 m) [hostOps1] c main_v89 = cut9 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x512.Idx) (cut_pack9 ..) (cut_pack9 ..) (cut_pack9 ..) (cut_pack9 ..))

/-- `pool_w`. -/
theorem res10 : Pipeline.afterTail₀ cfgs (dats m) 0 (Gen.V0 m) [hostOps1] c main_v91 = steps (arg m c main_arg10) (arg m c main_arg25) (arg m c main_arg40) (arg m c main_arg55) := by
  have h : Pipeline.afterTail₀ cfgs (dats m) 0 (Gen.V0 m) [hostOps1] c main_v91 = cut10 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x4x128x128.Idx) (cut_pack10 ..) (cut_pack10 ..) (cut_pack10 ..) (cut_pack10 ..))

/-- `pool_scale`. -/
theorem res11 : Pipeline.afterTail₀ cfgs (dats m) 0 (Gen.V0 m) [hostOps1] c main_v93 = steps (arg m c main_arg11) (arg m c main_arg26) (arg m c main_arg41) (arg m c main_arg56) := by
  have h : Pipeline.afterTail₀ cfgs (dats m) 0 (Gen.V0 m) [hostOps1] c main_v93 = cut11 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x512.Idx) (cut_pack11 ..) (cut_pack11 ..) (cut_pack11 ..) (cut_pack11 ..))

/-- `ffn2_norm`. -/
theorem res12 : Pipeline.afterTail₀ cfgs (dats m) 0 (Gen.V0 m) [hostOps1] c main_v95 = steps (arg m c main_arg12) (arg m c main_arg27) (arg m c main_arg42) (arg m c main_arg57) := by
  have h : Pipeline.afterTail₀ cfgs (dats m) 0 (Gen.V0 m) [hostOps1] c main_v95 = cut12 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x1024.Idx) (cut_pack12 ..) (cut_pack12 ..) (cut_pack12 ..) (cut_pack12 ..))

/-- `ple_norm`. -/
theorem res13 : Pipeline.afterTail₀ cfgs (dats m) 0 (Gen.V0 m) [hostOps1] c main_v97 = steps (arg m c main_arg13) (arg m c main_arg28) (arg m c main_arg43) (arg m c main_arg58) := by
  have h : Pipeline.afterTail₀ cfgs (dats m) 0 (Gen.V0 m) [hostOps1] c main_v97 = cut13 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S4x1024.Idx) (cut_pack13 ..) (cut_pack13 ..) (cut_pack13 ..) (cut_pack13 ..))

/-- `final_norm`. -/
theorem res14 : Pipeline.afterTail₀ cfgs (dats m) 0 (Gen.V0 m) [hostOps1] c main_v98 = steps (arg m c main_arg14) (arg m c main_arg29) (arg m c main_arg44) (arg m c main_arg59) := by
  have h : Pipeline.afterTail₀ cfgs (dats m) 0 (Gen.V0 m) [hostOps1] c main_v98 = cut14 (steps (wgt m c) (grd m c) (fst m c) (snd m c)) := by
    rw [← arr4]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (steps_congr (ι := S1024.Idx) (cut_pack14 ..) (cut_pack14 ..) (cut_pack14 ..) (cut_pack14 ..))

end Cert.Kernel11Ideal.Own
end
-- ==== Proof.SmallMom.lean ====
/-
  The first moments of the small weights, cut out of the packed result.
-/
module

public import proofs.«01_k».proof.Proof.SmallArr

@[expose] public section

set_option maxRecDepth 16384

noncomputable section

namespace Cert.Kernel11Ideal.Own

open Cert.Kernel11Ideal Cert.Kernel11Ideal.Gen Cert.Adam
open Idealize.ShloMosaic Idealize.ShloMosaic.TcCoe Idealize.SL.Sem

variable (m : (ℓ : Loc nD τ sig) → Buf (Elt Ideal) ℓ) (c : Dev nD)

theorem arr5 : Pipeline.withArrays (cfgs 0).spec c (Gen.V0 m c) (fun w => (dats m 0 c).arrAt w (cfgs 0).N) (Proc.devRef .tc main_v68_1)
    = moms (grd m c) (fst m c) :=
  (Pipeline.withArrays_arr spec0 launch0.win.arr_inj c _ _ 5).trans (mom_eq m c)

/-- `ffn1_norm`. -/
theorem res15 : Pipeline.afterTail₀ cfgs (dats m) 0 (Gen.V0 m) [hostOps1] c main_v101 = moms (arg m c main_arg15) (arg m c main_arg30) := by
  have h : Pipeline.afterTail₀ cfgs (dats m) 0 (Gen.V0 m) [hostOps1] c main_v101 = cut0 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x1024.Idx) (cut_pack0 ..) (cut_pack0 ..))

/-- `mix_norm`. -/
theorem res16 : Pipeline.afterTail₀ cfgs (dats m) 0 (Gen.V0 m) [hostOps1] c main_v103 = moms (arg m c main_arg16) (arg m c main_arg31) := by
  have h : Pipeline.afterTail₀ cfgs (dats m) 0 (Gen.V0 m) [hostOps1] c main_v103 = cut1 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x1024.Idx) (cut_pack1 ..) (cut_pack1 ..))

/-- `ssm_lambda_re`. -/
theorem res17 : Pipeline.afterTail₀ cfgs (dats m) 0 (Gen.V0 m) [hostOps1] c main_v105 = moms (arg m c main_arg17) (arg m c main_arg32) := by
  have h : Pipeline.afterTail₀ cfgs (dats m) 0 (Gen.V0 m) [hostOps1] c main_v105 = cut2 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x64.Idx) (cut_pack2 ..) (cut_pack2 ..))

/-- `ssm_lambda_im`. -/
theorem res18 : Pipeline.afterTail₀ cfgs (dats m) 0 (Gen.V0 m) [hostOps1] c main_v107 = moms (arg m c main_arg18) (arg m c main_arg33) := by
  have h : Pipeline.afterTail₀ cfgs (dats m) 0 (Gen.V0 m) [hostOps1] c main_v107 = cut3 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x64.Idx) (cut_pack3 ..) (cut_pack3 ..))

/-- `ssm_log_dt`. -/
theorem res19 : Pipeline.afterTail₀ cfgs (dats m) 0 (Gen.V0 m) [hostOps1] c main_v109 = moms (arg m c main_arg19) (arg m c main_arg34) := by
  have h : Pipeline.afterTail₀ cfgs (dats m) 0 (Gen.V0 m) [hostOps1] c main_v109 = cut4 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32.Idx) (cut_pack4 ..) (cut_pack4 ..))

/-- `ssm_b_re`. -/
theorem res20 : Pipeline.afterTail₀ cfgs (dats m) 0 (Gen.V0 m) [hostOps1] c main_v111 = moms (arg m c main_arg20) (arg m c main_arg35) := by
  have h : Pipeline.afterTail₀ cfgs (dats m) 0 (Gen.V0 m) [hostOps1] c main_v111 = cut5 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x64x16.Idx) (cut_pack5 ..) (cut_pack5 ..))

/-- `ssm_b_im`. -/
theorem res21 : Pipeline.afterTail₀ cfgs (dats m) 0 (Gen.V0 m) [hostOps1] c main_v113 = moms (arg m c main_arg21) (arg m c main_arg36) := by
  have h : Pipeline.afterTail₀ cfgs (dats m) 0 (Gen.V0 m) [hostOps1] c main_v113 = cut6 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x64x16.Idx) (cut_pack6 ..) (cut_pack6 ..))

/-- `ssm_c_re`. -/
theorem res22 : Pipeline.afterTail₀ cfgs (dats m) 0 (Gen.V0 m) [hostOps1] c main_v115 = moms (arg m c main_arg22) (arg m c main_arg37) := by
  have h : Pipeline.afterTail₀ cfgs (dats m) 0 (Gen.V0 m) [hostOps1] c main_v115 = cut7 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x16x64.Idx) (cut_pack7 ..) (cut_pack7 ..))

/-- `ssm_c_im`. -/
theorem res23 : Pipeline.afterTail₀ cfgs (dats m) 0 (Gen.V0 m) [hostOps1] c main_v117 = moms (arg m c main_arg23) (arg m c main_arg38) := by
  have h : Pipeline.afterTail₀ cfgs (dats m) 0 (Gen.V0 m) [hostOps1] c main_v117 = cut8 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x32x16x64.Idx) (cut_pack8 ..) (cut_pack8 ..))

/-- `ssm_d`. -/
theorem res24 : Pipeline.afterTail₀ cfgs (dats m) 0 (Gen.V0 m) [hostOps1] c main_v119 = moms (arg m c main_arg24) (arg m c main_arg39) := by
  have h : Pipeline.afterTail₀ cfgs (dats m) 0 (Gen.V0 m) [hostOps1] c main_v119 = cut9 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x512.Idx) (cut_pack9 ..) (cut_pack9 ..))

/-- `pool_w`. -/
theorem res25 : Pipeline.afterTail₀ cfgs (dats m) 0 (Gen.V0 m) [hostOps1] c main_v121 = moms (arg m c main_arg25) (arg m c main_arg40) := by
  have h : Pipeline.afterTail₀ cfgs (dats m) 0 (Gen.V0 m) [hostOps1] c main_v121 = cut10 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x4x128x128.Idx) (cut_pack10 ..) (cut_pack10 ..))

/-- `pool_scale`. -/
theorem res26 : Pipeline.afterTail₀ cfgs (dats m) 0 (Gen.V0 m) [hostOps1] c main_v123 = moms (arg m c main_arg26) (arg m c main_arg41) := by
  have h : Pipeline.afterTail₀ cfgs (dats m) 0 (Gen.V0 m) [hostOps1] c main_v123 = cut11 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x512.Idx) (cut_pack11 ..) (cut_pack11 ..))

/-- `ffn2_norm`. -/
theorem res27 : Pipeline.afterTail₀ cfgs (dats m) 0 (Gen.V0 m) [hostOps1] c main_v125 = moms (arg m c main_arg27) (arg m c main_arg42) := by
  have h : Pipeline.afterTail₀ cfgs (dats m) 0 (Gen.V0 m) [hostOps1] c main_v125 = cut12 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x1024.Idx) (cut_pack12 ..) (cut_pack12 ..))

/-- `ple_norm`. -/
theorem res28 : Pipeline.afterTail₀ cfgs (dats m) 0 (Gen.V0 m) [hostOps1] c main_v127 = moms (arg m c main_arg28) (arg m c main_arg43) := by
  have h : Pipeline.afterTail₀ cfgs (dats m) 0 (Gen.V0 m) [hostOps1] c main_v127 = cut13 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S4x1024.Idx) (cut_pack13 ..) (cut_pack13 ..))

/-- `final_norm`. -/
theorem res29 : Pipeline.afterTail₀ cfgs (dats m) 0 (Gen.V0 m) [hostOps1] c main_v128 = moms (arg m c main_arg29) (arg m c main_arg44) := by
  have h : Pipeline.afterTail₀ cfgs (dats m) 0 (Gen.V0 m) [hostOps1] c main_v128 = cut14 (moms (grd m c) (fst m c)) := by
    rw [← arr5]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (moms_congr (ι := S1024.Idx) (cut_pack14 ..) (cut_pack14 ..))

end Cert.Kernel11Ideal.Own
end
-- ==== Proof.SmallVar.lean ====
/-
  The second moments of the small weights, cut out of the packed result.
-/
module

public import proofs.«01_k».proof.Proof.SmallArr

@[expose] public section

set_option maxRecDepth 16384

noncomputable section

namespace Cert.Kernel11Ideal.Own

open Cert.Kernel11Ideal Cert.Kernel11Ideal.Gen Cert.Adam
open Idealize.ShloMosaic Idealize.ShloMosaic.TcCoe Idealize.SL.Sem

variable (m : (ℓ : Loc nD τ sig) → Buf (Elt Ideal) ℓ) (c : Dev nD)

theorem arr6 : Pipeline.withArrays (cfgs 0).spec c (Gen.V0 m c) (fun w => (dats m 0 c).arrAt w (cfgs 0).N) (Proc.devRef .tc main_v68_2)
    = vars (grd m c) (snd m c) :=
  (Pipeline.withArrays_arr spec0 launch0.win.arr_inj c _ _ 6).trans (var_eq m c)

/-- `ffn1_norm`. -/
theorem res30 : Pipeline.afterTail₀ cfgs (dats m) 0 (Gen.V0 m) [hostOps1] c main_v131 = vars (arg m c main_arg15) (arg m c main_arg45) := by
  have h : Pipeline.afterTail₀ cfgs (dats m) 0 (Gen.V0 m) [hostOps1] c main_v131 = cut0 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x1024.Idx) (cut_pack0 ..) (cut_pack0 ..))

/-- `mix_norm`. -/
theorem res31 : Pipeline.afterTail₀ cfgs (dats m) 0 (Gen.V0 m) [hostOps1] c main_v133 = vars (arg m c main_arg16) (arg m c main_arg46) := by
  have h : Pipeline.afterTail₀ cfgs (dats m) 0 (Gen.V0 m) [hostOps1] c main_v133 = cut1 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x1024.Idx) (cut_pack1 ..) (cut_pack1 ..))

/-- `ssm_lambda_re`. -/
theorem res32 : Pipeline.afterTail₀ cfgs (dats m) 0 (Gen.V0 m) [hostOps1] c main_v135 = vars (arg m c main_arg17) (arg m c main_arg47) := by
  have h : Pipeline.afterTail₀ cfgs (dats m) 0 (Gen.V0 m) [hostOps1] c main_v135 = cut2 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x64.Idx) (cut_pack2 ..) (cut_pack2 ..))

/-- `ssm_lambda_im`. -/
theorem res33 : Pipeline.afterTail₀ cfgs (dats m) 0 (Gen.V0 m) [hostOps1] c main_v137 = vars (arg m c main_arg18) (arg m c main_arg48) := by
  have h : Pipeline.afterTail₀ cfgs (dats m) 0 (Gen.V0 m) [hostOps1] c main_v137 = cut3 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x64.Idx) (cut_pack3 ..) (cut_pack3 ..))

/-- `ssm_log_dt`. -/
theorem res34 : Pipeline.afterTail₀ cfgs (dats m) 0 (Gen.V0 m) [hostOps1] c main_v139 = vars (arg m c main_arg19) (arg m c main_arg49) := by
  have h : Pipeline.afterTail₀ cfgs (dats m) 0 (Gen.V0 m) [hostOps1] c main_v139 = cut4 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32.Idx) (cut_pack4 ..) (cut_pack4 ..))

/-- `ssm_b_re`. -/
theorem res35 : Pipeline.afterTail₀ cfgs (dats m) 0 (Gen.V0 m) [hostOps1] c main_v141 = vars (arg m c main_arg20) (arg m c main_arg50) := by
  have h : Pipeline.afterTail₀ cfgs (dats m) 0 (Gen.V0 m) [hostOps1] c main_v141 = cut5 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x64x16.Idx) (cut_pack5 ..) (cut_pack5 ..))

/-- `ssm_b_im`. -/
theorem res36 : Pipeline.afterTail₀ cfgs (dats m) 0 (Gen.V0 m) [hostOps1] c main_v143 = vars (arg m c main_arg21) (arg m c main_arg51) := by
  have h : Pipeline.afterTail₀ cfgs (dats m) 0 (Gen.V0 m) [hostOps1] c main_v143 = cut6 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x64x16.Idx) (cut_pack6 ..) (cut_pack6 ..))

/-- `ssm_c_re`. -/
theorem res37 : Pipeline.afterTail₀ cfgs (dats m) 0 (Gen.V0 m) [hostOps1] c main_v145 = vars (arg m c main_arg22) (arg m c main_arg52) := by
  have h : Pipeline.afterTail₀ cfgs (dats m) 0 (Gen.V0 m) [hostOps1] c main_v145 = cut7 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x16x64.Idx) (cut_pack7 ..) (cut_pack7 ..))

/-- `ssm_c_im`. -/
theorem res38 : Pipeline.afterTail₀ cfgs (dats m) 0 (Gen.V0 m) [hostOps1] c main_v147 = vars (arg m c main_arg23) (arg m c main_arg53) := by
  have h : Pipeline.afterTail₀ cfgs (dats m) 0 (Gen.V0 m) [hostOps1] c main_v147 = cut8 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x32x16x64.Idx) (cut_pack8 ..) (cut_pack8 ..))

/-- `ssm_d`. -/
theorem res39 : Pipeline.afterTail₀ cfgs (dats m) 0 (Gen.V0 m) [hostOps1] c main_v149 = vars (arg m c main_arg24) (arg m c main_arg54) := by
  have h : Pipeline.afterTail₀ cfgs (dats m) 0 (Gen.V0 m) [hostOps1] c main_v149 = cut9 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x512.Idx) (cut_pack9 ..) (cut_pack9 ..))

/-- `pool_w`. -/
theorem res40 : Pipeline.afterTail₀ cfgs (dats m) 0 (Gen.V0 m) [hostOps1] c main_v151 = vars (arg m c main_arg25) (arg m c main_arg55) := by
  have h : Pipeline.afterTail₀ cfgs (dats m) 0 (Gen.V0 m) [hostOps1] c main_v151 = cut10 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x4x128x128.Idx) (cut_pack10 ..) (cut_pack10 ..))

/-- `pool_scale`. -/
theorem res41 : Pipeline.afterTail₀ cfgs (dats m) 0 (Gen.V0 m) [hostOps1] c main_v153 = vars (arg m c main_arg26) (arg m c main_arg56) := by
  have h : Pipeline.afterTail₀ cfgs (dats m) 0 (Gen.V0 m) [hostOps1] c main_v153 = cut11 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x512.Idx) (cut_pack11 ..) (cut_pack11 ..))

/-- `ffn2_norm`. -/
theorem res42 : Pipeline.afterTail₀ cfgs (dats m) 0 (Gen.V0 m) [hostOps1] c main_v155 = vars (arg m c main_arg27) (arg m c main_arg57) := by
  have h : Pipeline.afterTail₀ cfgs (dats m) 0 (Gen.V0 m) [hostOps1] c main_v155 = cut12 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x1024.Idx) (cut_pack12 ..) (cut_pack12 ..))

/-- `ple_norm`. -/
theorem res43 : Pipeline.afterTail₀ cfgs (dats m) 0 (Gen.V0 m) [hostOps1] c main_v157 = vars (arg m c main_arg28) (arg m c main_arg58) := by
  have h : Pipeline.afterTail₀ cfgs (dats m) 0 (Gen.V0 m) [hostOps1] c main_v157 = cut13 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S4x1024.Idx) (cut_pack13 ..) (cut_pack13 ..))

/-- `final_norm`. -/
theorem res44 : Pipeline.afterTail₀ cfgs (dats m) 0 (Gen.V0 m) [hostOps1] c main_v158 = vars (arg m c main_arg29) (arg m c main_arg59) := by
  have h : Pipeline.afterTail₀ cfgs (dats m) 0 (Gen.V0 m) [hostOps1] c main_v158 = cut14 (vars (grd m c) (snd m c)) := by
    rw [← arr6]
    unfold Pipeline.afterTail₀
    generalize Pipeline.withArrays (cfgs 0).spec c (Gen.V0 m c) (fun w => (dats m 0 c).arrAt w (cfgs 0).N) = W
    show StableHlo.after hostOps1 W _ = _
    after_results
    rfl
  exact h.trans (vars_congr (ι := S1024.Idx) (cut_pack14 ..) (cut_pack14 ..))

end Cert.Kernel11Ideal.Own
end
-- ==== Proof.SmallRun.lean ====
/-
  The AdamW call of the small weights: its run and its forty-five results.
-/
module

public import proofs.«01_k».proof.Proof.SmallStep
public import proofs.«01_k».proof.Proof.SmallMom
public import proofs.«01_k».proof.Proof.SmallVar

@[expose] public section

set_option maxRecDepth 16384

noncomputable section

namespace Cert.Kernel11Ideal.Own

open Cert.Kernel11Ideal Cert.Kernel11Ideal.Gen Cert.Adam
open Idealize.ShloMosaic Idealize.ShloMosaic.TcCoe Idealize.SL.Sem

variable (m : (ℓ : Loc nD τ sig) → Buf (Elt Ideal) ℓ)

/-- The results and the arguments at the end of every run. -/
theorem run (ρ : Dev nD → PrngReg) : θ_run defs (onTc (τ := τ) (main (F := Ideal))) ⟨m, fun _ => 0, ρ⟩ (fun r => ∀ c : Dev nD,
      r.2.mem ((c.tc : Thread nD τ).loc main_v71) = steps (arg m c main_arg0) (arg m c main_arg15) (arg m c main_arg30) (arg m c main_arg45) ∧
      r.2.mem ((c.tc : Thread nD τ).loc main_v73) = steps (arg m c main_arg1) (arg m c main_arg16) (arg m c main_arg31) (arg m c main_arg46) ∧
      r.2.mem ((c.tc : Thread nD τ).loc main_v75) = steps (arg m c main_arg2) (arg m c main_arg17) (arg m c main_arg32) (arg m c main_arg47) ∧
      r.2.mem ((c.tc : Thread nD τ).loc main_v77) = steps (arg m c main_arg3) (arg m c main_arg18) (arg m c main_arg33) (arg m c main_arg48) ∧
      r.2.mem ((c.tc : Thread nD τ).loc main_v79) = steps (arg m c main_arg4) (arg m c main_arg19) (arg m c main_arg34) (arg m c main_arg49) ∧
      r.2.mem ((c.tc : Thread nD τ).loc main_v81) = steps (arg m c main_arg5) (arg m c main_arg20) (arg m c main_arg35) (arg m c main_arg50) ∧
      r.2.mem ((c.tc : Thread nD τ).loc main_v83) = steps (arg m c main_arg6) (arg m c main_arg21) (arg m c main_arg36) (arg m c main_arg51) ∧
      r.2.mem ((c.tc : Thread nD τ).loc main_v85) = steps (arg m c main_arg7) (arg m c main_arg22) (arg m c main_arg37) (arg m c main_arg52) ∧
      r.2.mem ((c.tc : Thread nD τ).loc main_v87) = steps (arg m c main_arg8) (arg m c main_arg23) (arg m c main_arg38) (arg m c main_arg53) ∧
      r.2.mem ((c.tc : Thread nD τ).loc main_v89) = steps (arg m c main_arg9) (arg m c main_arg24) (arg m c main_arg39) (arg m c main_arg54) ∧
      r.2.mem ((c.tc : Thread nD τ).loc main_v91) = steps (arg m c main_arg10) (arg m c main_arg25) (arg m c main_arg40) (arg m c main_arg55) ∧
      r.2.mem ((c.tc : Thread nD τ).loc main_v93) = steps (arg m c main_arg11) (arg m c main_arg26) (arg m c main_arg41) (arg m c main_arg56) ∧
      r.2.mem ((c.tc : Thread nD τ).loc main_v95) = steps (arg m c main_arg12) (arg m c main_arg27) (arg m c main_arg42) (arg m c main_arg57) ∧
      r.2.mem ((c.tc : Thread nD τ).loc main_v97) = steps (arg m c main_arg13) (arg m c main_arg28) (arg m c main_arg43) (arg m c main_arg58) ∧
      r.2.mem ((c.tc : Thread nD τ).loc main_v98) = steps (arg m c main_arg14) (arg m c main_arg29) (arg m c main_arg44) (arg m c main_arg59) ∧
      r.2.mem ((c.tc : Thread nD τ).loc main_v101) = moms (arg m c main_arg15) (arg m c main_arg30) ∧
      r.2.mem ((c.tc : Thread nD τ).loc main_v103) = moms (arg m c main_arg16) (arg m c main_arg31) ∧
      r.2.mem ((c.tc : Thread nD τ).loc main_v105) = moms (arg m c main_arg17) (arg m c main_arg32) ∧
      r.2.mem ((c.tc : Thread nD τ).loc main_v107) = moms (arg m c main_arg18) (arg m c main_arg33) ∧
      r.2.mem ((c.tc : Thread nD τ).loc main_v109) = moms (arg m c main_arg19) (arg m c main_arg34) ∧
      r.2.mem ((c.tc : Thread nD τ).loc main_v111) = moms (arg m c main_arg20) (arg m c main_arg35) ∧
      r.2.mem ((c.tc : Thread nD τ).loc main_v113) = moms (arg m c main_arg21) (arg m c main_arg36) ∧
      r.2.mem ((c.tc : Thread nD τ).loc main_v115) = moms (arg m c main_arg22) (arg m c main_arg37) ∧
      r.2.mem ((c.tc : Thread nD τ).loc main_v117) = moms (arg m c main_arg23) (arg m c main_arg38) ∧
      r.2.mem ((c.tc : Thread nD τ).loc main_v119) = moms (arg m c main_arg24) (arg m c main_arg39) ∧
      r.2.mem ((c.tc : Thread nD τ).loc main_v121) = moms (arg m c main_arg25) (arg m c main_arg40) ∧
      r.2.mem ((c.tc : Thread nD τ).loc main_v123) = moms (arg m c main_arg26) (arg m c main_arg41) ∧
      r.2.mem ((c.tc : Thread nD τ).loc main_v125) = moms (arg m c main_arg27) (arg m c main_arg42) ∧
      r.2.mem ((c.tc : Thread nD τ).loc main_v127) = moms (arg m c main_arg28) (arg m c main_arg43) ∧
      r.2.mem ((c.tc : Thread nD τ).loc main_v128) = moms (arg m c main_arg29) (arg m c main_arg44) ∧
      r.2.mem ((c.tc : Thread nD τ).loc main_v131) = vars (arg m c main_arg15) (arg m c main_arg45) ∧
      r.2.mem ((c.tc : Thread nD τ).loc main_v133) = vars (arg m c main_arg16) (arg m c main_arg46) ∧
      r.2.mem ((c.tc : Thread nD τ).loc main_v135) = vars (arg m c main_arg17) (arg m c main_arg47) ∧
      r.2.mem ((c.tc : Thread nD τ).loc main_v137) = vars (arg m c main_arg18) (arg m c main_arg48) ∧
      r.2.mem ((c.tc : Thread nD τ).loc main_v139) = vars (arg m c main_arg19) (arg m c main_arg49) ∧
      r.2.mem ((c.tc : Thread nD τ).loc main_v141) = vars (arg m c main_arg20) (arg m c main_arg50) ∧
      r.2.mem ((c.tc : Thread nD τ).loc main_v143) = vars (arg m c main_arg21) (arg m c main_arg51) ∧
      r.2.mem ((c.tc : Thread nD τ).loc main_v145) = vars (arg m c main_arg22) (arg m c main_arg52) ∧
      r.2.mem ((c.tc : Thread nD τ).loc main_v147) = vars (arg m c main_arg23) (arg m c main_arg53) ∧
      r.2.mem ((c.tc : Thread nD τ).loc main_v149) = vars (arg m c main_arg24) (arg m c main_arg54) ∧
      r.2.mem ((c.tc : Thread nD τ).loc main_v151) = vars (arg m c main_arg25) (arg m c main_arg55) ∧
      r.2.mem ((c.tc : Thread nD τ).loc main_v153) = vars (arg m c main_arg26) (arg m c main_arg56) ∧
      r.2.mem ((c.tc : Thread nD τ).loc main_v155) = vars (arg m c main_arg27) (arg m c main_arg57) ∧
      r.2.mem ((c.tc : Thread nD τ).loc main_v157) = vars (arg m c main_arg28) (arg m c main_arg58) ∧
      r.2.mem ((c.tc : Thread nD τ).loc main_v158) = vars (arg m c main_arg29) (arg m c main_arg59) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31) ∧
      r.2.mem ((c.tc : Thread nD τ).loc main_arg32) = m ((c.tc : Thread nD τ).loc main_arg32) ∧
      r.2.mem ((c.tc : Thread nD τ).loc main_arg33) = m ((c.tc : Thread nD τ).loc main_arg33) ∧
      r.2.mem ((c.tc : Thread nD τ).loc main_arg34) = m ((c.tc : Thread nD τ).loc main_arg34) ∧
      r.2.mem ((c.tc : Thread nD τ).loc main_arg35) = m ((c.tc : Thread nD τ).loc main_arg35) ∧
      r.2.mem ((c.tc : Thread nD τ).loc main_arg36) = m ((c.tc : Thread nD τ).loc main_arg36) ∧
      r.2.mem ((c.tc : Thread nD τ).loc main_arg37) = m ((c.tc : Thread nD τ).loc main_arg37) ∧
      r.2.mem ((c.tc : Thread nD τ).loc main_arg38) = m ((c.tc : Thread nD τ).loc main_arg38) ∧
      r.2.mem ((c.tc : Thread nD τ).loc main_arg39) = m ((c.tc : Thread nD τ).loc main_arg39) ∧
      r.2.mem ((c.tc : Thread nD τ).loc main_arg40) = m ((c.tc : Thread nD τ).loc main_arg40) ∧
      r.2.mem ((c.tc : Thread nD τ).loc main_arg41) = m ((c.tc : Thread nD τ).loc main_arg41) ∧
      r.2.mem ((c.tc : Thread nD τ).loc main_arg42) = m ((c.tc : Thread nD τ).loc main_arg42) ∧
      r.2.mem ((c.tc : Thread nD τ).loc main_arg43) = m ((c.tc : Thread nD τ).loc main_arg43) ∧
      r.2.mem ((c.tc : Thread nD τ).loc main_arg44) = m ((c.tc : Thread nD τ).loc main_arg44) ∧
      r.2.mem ((c.tc : Thread nD τ).loc main_arg45) = m ((c.tc : Thread nD τ).loc main_arg45) ∧
      r.2.mem ((c.tc : Thread nD τ).loc main_arg46) = m ((c.tc : Thread nD τ).loc main_arg46) ∧
      r.2.mem ((c.tc : Thread nD τ).loc main_arg47) = m ((c.tc : Thread nD τ).loc main_arg47) ∧
      r.2.mem ((c.tc : Thread nD τ).loc main_arg48) = m ((c.tc : Thread nD τ).loc main_arg48) ∧
      r.2.mem ((c.tc : Thread nD τ).loc main_arg49) = m ((c.tc : Thread nD τ).loc main_arg49) ∧
      r.2.mem ((c.tc : Thread nD τ).loc main_arg50) = m ((c.tc : Thread nD τ).loc main_arg50) ∧
      r.2.mem ((c.tc : Thread nD τ).loc main_arg51) = m ((c.tc : Thread nD τ).loc main_arg51) ∧
      r.2.mem ((c.tc : Thread nD τ).loc main_arg52) = m ((c.tc : Thread nD τ).loc main_arg52) ∧
      r.2.mem ((c.tc : Thread nD τ).loc main_arg53) = m ((c.tc : Thread nD τ).loc main_arg53) ∧
      r.2.mem ((c.tc : Thread nD τ).loc main_arg54) = m ((c.tc : Thread nD τ).loc main_arg54) ∧
      r.2.mem ((c.tc : Thread nD τ).loc main_arg55) = m ((c.tc : Thread nD τ).loc main_arg55) ∧
      r.2.mem ((c.tc : Thread nD τ).loc main_arg56) = m ((c.tc : Thread nD τ).loc main_arg56) ∧
      r.2.mem ((c.tc : Thread nD τ).loc main_arg57) = m ((c.tc : Thread nD τ).loc main_arg57) ∧
      r.2.mem ((c.tc : Thread nD τ).loc main_arg58) = m ((c.tc : Thread nD τ).loc main_arg58) ∧
      r.2.mem ((c.tc : Thread nD τ).loc main_arg59) = m ((c.tc : Thread nD τ).loc main_arg59)) :=
  (θ_run defs _ _).mono (fun r h c => ⟨
    ((h.1 c).2 main_v71 (Pipeline.mem_restRefs_of main_v71 (by decide) (by decide))).trans (res0 m c),
    ((h.1 c).2 main_v73 (Pipeline.mem_restRefs_of main_v73 (by decide) (by decide))).trans (res1 m c),
    ((h.1 c).2 main_v75 (Pipeline.mem_restRefs_of main_v75 (by decide) (by decide))).trans (res2 m c),
    ((h.1 c).2 main_v77 (Pipeline.mem_restRefs_of main_v77 (by decide) (by decide))).trans (res3 m c),
    ((h.1 c).2 main_v79 (Pipeline.mem_restRefs_of main_v79 (by decide) (by decide))).trans (res4 m c),
    ((h.1 c).2 main_v81 (Pipeline.mem_restRefs_of main_v81 (by decide) (by decide))).trans (res5 m c),
    ((h.1 c).2 main_v83 (Pipeline.mem_restRefs_of main_v83 (by decide) (by decide))).trans (res6 m c),
    ((h.1 c).2 main_v85 (Pipeline.mem_restRefs_of main_v85 (by decide) (by decide))).trans (res7 m c),
    ((h.1 c).2 main_v87 (Pipeline.mem_restRefs_of main_v87 (by decide) (by decide))).trans (res8 m c),
    ((h.1 c).2 main_v89 (Pipeline.mem_restRefs_of main_v89 (by decide) (by decide))).trans (res9 m c),
    ((h.1 c).2 main_v91 (Pipeline.mem_restRefs_of main_v91 (by decide) (by decide))).trans (res10 m c),
    ((h.1 c).2 main_v93 (Pipeline.mem_restRefs_of main_v93 (by decide) (by decide))).trans (res11 m c),
    ((h.1 c).2 main_v95 (Pipeline.mem_restRefs_of main_v95 (by decide) (by decide))).trans (res12 m c),
    ((h.1 c).2 main_v97 (Pipeline.mem_restRefs_of main_v97 (by decide) (by decide))).trans (res13 m c),
    ((h.1 c).2 main_v98 (Pipeline.mem_restRefs_of main_v98 (by decide) (by decide))).trans (res14 m c),
    ((h.1 c).2 main_v101 (Pipeline.mem_restRefs_of main_v101 (by decide) (by decide))).trans (res15 m c),
    ((h.1 c).2 main_v103 (Pipeline.mem_restRefs_of main_v103 (by decide) (by decide))).trans (res16 m c),
    ((h.1 c).2 main_v105 (Pipeline.mem_restRefs_of main_v105 (by decide) (by decide))).trans (res17 m c),
    ((h.1 c).2 main_v107 (Pipeline.mem_restRefs_of main_v107 (by decide) (by decide))).trans (res18 m c),
    ((h.1 c).2 main_v109 (Pipeline.mem_restRefs_of main_v109 (by decide) (by decide))).trans (res19 m c),
    ((h.1 c).2 main_v111 (Pipeline.mem_restRefs_of main_v111 (by decide) (by decide))).trans (res20 m c),
    ((h.1 c).2 main_v113 (Pipeline.mem_restRefs_of main_v113 (by decide) (by decide))).trans (res21 m c),
    ((h.1 c).2 main_v115 (Pipeline.mem_restRefs_of main_v115 (by decide) (by decide))).trans (res22 m c),
    ((h.1 c).2 main_v117 (Pipeline.mem_restRefs_of main_v117 (by decide) (by decide))).trans (res23 m c),
    ((h.1 c).2 main_v119 (Pipeline.mem_restRefs_of main_v119 (by decide) (by decide))).trans (res24 m c),
    ((h.1 c).2 main_v121 (Pipeline.mem_restRefs_of main_v121 (by decide) (by decide))).trans (res25 m c),
    ((h.1 c).2 main_v123 (Pipeline.mem_restRefs_of main_v123 (by decide) (by decide))).trans (res26 m c),
    ((h.1 c).2 main_v125 (Pipeline.mem_restRefs_of main_v125 (by decide) (by decide))).trans (res27 m c),
    ((h.1 c).2 main_v127 (Pipeline.mem_restRefs_of main_v127 (by decide) (by decide))).trans (res28 m c),
    ((h.1 c).2 main_v128 (Pipeline.mem_restRefs_of main_v128 (by decide) (by decide))).trans (res29 m c),
    ((h.1 c).2 main_v131 (Pipeline.mem_restRefs_of main_v131 (by decide) (by decide))).trans (res30 m c),
    ((h.1 c).2 main_v133 (Pipeline.mem_restRefs_of main_v133 (by decide) (by decide))).trans (res31 m c),
    ((h.1 c).2 main_v135 (Pipeline.mem_restRefs_of main_v135 (by decide) (by decide))).trans (res32 m c),
    ((h.1 c).2 main_v137 (Pipeline.mem_restRefs_of main_v137 (by decide) (by decide))).trans (res33 m c),
    ((h.1 c).2 main_v139 (Pipeline.mem_restRefs_of main_v139 (by decide) (by decide))).trans (res34 m c),
    ((h.1 c).2 main_v141 (Pipeline.mem_restRefs_of main_v141 (by decide) (by decide))).trans (res35 m c),
    ((h.1 c).2 main_v143 (Pipeline.mem_restRefs_of main_v143 (by decide) (by decide))).trans (res36 m c),
    ((h.1 c).2 main_v145 (Pipeline.mem_restRefs_of main_v145 (by decide) (by decide))).trans (res37 m c),
    ((h.1 c).2 main_v147 (Pipeline.mem_restRefs_of main_v147 (by decide) (by decide))).trans (res38 m c),
    ((h.1 c).2 main_v149 (Pipeline.mem_restRefs_of main_v149 (by decide) (by decide))).trans (res39 m c),
    ((h.1 c).2 main_v151 (Pipeline.mem_restRefs_of main_v151 (by decide) (by decide))).trans (res40 m c),
    ((h.1 c).2 main_v153 (Pipeline.mem_restRefs_of main_v153 (by decide) (by decide))).trans (res41 m c),
    ((h.1 c).2 main_v155 (Pipeline.mem_restRefs_of main_v155 (by decide) (by decide))).trans (res42 m c),
    ((h.1 c).2 main_v157 (Pipeline.mem_restRefs_of main_v157 (by decide) (by decide))).trans (res43 m c),
    ((h.1 c).2 main_v158 (Pipeline.mem_restRefs_of main_v158 (by decide) (by decide))).trans (res44 m c),
    h.2 c⟩)
    (θ_run_and (run_main m ρ) (unchanged m ρ))

end Cert.Kernel11Ideal.Own
end
-- ==== Proof.SmallRef.lean ====
/-
  The reference of the small weights' AdamW: its run and its forty-five results.
-/
module

public import proofs.«01_k».proof.Proof.Adam
public import proofs.«01_k».proof.Proof.Gen.Reference11Ideal.Run
public import proofs.«01_k».proof.Proof.Gen.Reference11Ideal.Read

@[expose] public section

set_option maxRecDepth 16384

noncomputable section

namespace Cert.Reference11Ideal.Own

open Cert.Reference11Ideal Cert.Adam
open Idealize.ShloMosaic Idealize.ShloMosaic.TcCoe Idealize.SL.Sem

variable (m : (ℓ : Loc nD τ sig) → Buf (Elt Ideal) ℓ)

/-- An argument of the program. -/
def arg (c : Dev nD) (b : Ref sig .tc) : b.ty.shape.Idx → Elt Ideal b.ty.elt := m ((c : Thread nD τ).loc b)

theorem val0 (w g f s : S4x1024.Idx → EReal) : Read.val_main_v23 (F := Ideal) w g f s = steps w g f s := funext fun i => rfl
theorem val1 (w g f s : S4x1024.Idx → EReal) : Read.val_main_v47 (F := Ideal) w g f s = steps w g f s := funext fun i => rfl
theorem val2 (w g f s : S4x32x64.Idx → EReal) : Read.val_main_v71 (F := Ideal) w g f s = steps w g f s := funext fun i => rfl
theorem val3 (w g f s : S4x32x64.Idx → EReal) : Read.val_main_v95 (F := Ideal) w g f s = steps w g f s := funext fun i => rfl
theorem val4 (w g f s : S4x32.Idx → EReal) : Read.val_main_v119 (F := Ideal) w g f s = steps w g f s := funext fun i => rfl
theorem val5 (w g f s : S4x32x64x16.Idx → EReal) : Read.val_main_v143 (F := Ideal) w g f s = steps w g f s := funext fun i => rfl
theorem val6 (w g f s : S4x32x64x16.Idx → EReal) : Read.val_main_v167 (F := Ideal) w g f s = steps w g f s := funext fun i => rfl
theorem val7 (w g f s : S4x32x16x64.Idx → EReal) : Read.val_main_v191 (F := Ideal) w g f s = steps w g f s := funext fun i => rfl
theorem val8 (w g f s : S4x32x16x64.Idx → EReal) : Read.val_main_v215 (F := Ideal) w g f s = steps w g f s := funext fun i => rfl
theorem val9 (w g f s : S4x512.Idx → EReal) : Read.val_main_v239 (F := Ideal) w g f s = steps w g f s := funext fun i => rfl
theorem val10 (w g f s : S4x4x128x128.Idx → EReal) : Read.val_main_v263 (F := Ideal) w g f s = steps w g f s := funext fun i => rfl
theorem val11 (w g f s : S4x512.Idx → EReal) : Read.val_main_v287 (F := Ideal) w g f s = steps w g f s := funext fun i => rfl
theorem val12 (w g f s : S4x1024.Idx → EReal) : Read.val_main_v311 (F := Ideal) w g f s = steps w g f s := funext fun i => rfl
theorem val13 (w g f s : S4x1024.Idx → EReal) : Read.val_main_v335 (F := Ideal) w g f s = steps w g f s := funext fun i => rfl
theorem val14 (w g f s : S1024.Idx → EReal) : Read.val_main_v359 (F := Ideal) w g f s = steps w g f s := funext fun i => rfl
theorem val15 (g f : S4x1024.Idx → EReal) : Read.val_main_v4 (F := Ideal) g f = moms g f := funext fun i => rfl
theorem val16 (g f : S4x1024.Idx → EReal) : Read.val_main_v28 (F := Ideal) g f = moms g f := funext fun i => rfl
theorem val17 (g f : S4x32x64.Idx → EReal) : Read.val_main_v52 (F := Ideal) g f = moms g f := funext fun i => rfl
theorem val18 (g f : S4x32x64.Idx → EReal) : Read.val_main_v76 (F := Ideal) g f = moms g f := funext fun i => rfl
theorem val19 (g f : S4x32.Idx → EReal) : Read.val_main_v100 (F := Ideal) g f = moms g f := funext fun i => rfl
theorem val20 (g f : S4x32x64x16.Idx → EReal) : Read.val_main_v124 (F := Ideal) g f = moms g f := funext fun i => rfl
theorem val21 (g f : S4x32x64x16.Idx → EReal) : Read.val_main_v148 (F := Ideal) g f = moms g f := funext fun i => rfl
theorem val22 (g f : S4x32x16x64.Idx → EReal) : Read.val_main_v172 (F := Ideal) g f = moms g f := funext fun i => rfl
theorem val23 (g f : S4x32x16x64.Idx → EReal) : Read.val_main_v196 (F := Ideal) g f = moms g f := funext fun i => rfl
theorem val24 (g f : S4x512.Idx → EReal) : Read.val_main_v220 (F := Ideal) g f = moms g f := funext fun i => rfl
theorem val25 (g f : S4x4x128x128.Idx → EReal) : Read.val_main_v244 (F := Ideal) g f = moms g f := funext fun i => rfl
theorem val26 (g f : S4x512.Idx → EReal) : Read.val_main_v268 (F := Ideal) g f = moms g f := funext fun i => rfl
theorem val27 (g f : S4x1024.Idx → EReal) : Read.val_main_v292 (F := Ideal) g f = moms g f := funext fun i => rfl
theorem val28 (g f : S4x1024.Idx → EReal) : Read.val_main_v316 (F := Ideal) g f = moms g f := funext fun i => rfl
theorem val29 (g f : S1024.Idx → EReal) : Read.val_main_v340 (F := Ideal) g f = moms g f := funext fun i => rfl
theorem val30 (g s : S4x1024.Idx → EReal) : Read.val_main_v10 (F := Ideal) g s = vars g s := funext fun i => rfl
theorem val31 (g s : S4x1024.Idx → EReal) : Read.val_main_v34 (F := Ideal) g s = vars g s := funext fun i => rfl
theorem val32 (g s : S4x32x64.Idx → EReal) : Read.val_main_v58 (F := Ideal) g s = vars g s := funext fun i => rfl
theorem val33 (g s : S4x32x64.Idx → EReal) : Read.val_main_v82 (F := Ideal) g s = vars g s := funext fun i => rfl
theorem val34 (g s : S4x32.Idx → EReal) : Read.val_main_v106 (F := Ideal) g s = vars g s := funext fun i => rfl
theorem val35 (g s : S4x32x64x16.Idx → EReal) : Read.val_main_v130 (F := Ideal) g s = vars g s := funext fun i => rfl
theorem val36 (g s : S4x32x64x16.Idx → EReal) : Read.val_main_v154 (F := Ideal) g s = vars g s := funext fun i => rfl
theorem val37 (g s : S4x32x16x64.Idx → EReal) : Read.val_main_v178 (F := Ideal) g s = vars g s := funext fun i => rfl
theorem val38 (g s : S4x32x16x64.Idx → EReal) : Read.val_main_v202 (F := Ideal) g s = vars g s := funext fun i => rfl
theorem val39 (g s : S4x512.Idx → EReal) : Read.val_main_v226 (F := Ideal) g s = vars g s := funext fun i => rfl
theorem val40 (g s : S4x4x128x128.Idx → EReal) : Read.val_main_v250 (F := Ideal) g s = vars g s := funext fun i => rfl
theorem val41 (g s : S4x512.Idx → EReal) : Read.val_main_v274 (F := Ideal) g s = vars g s := funext fun i => rfl
theorem val42 (g s : S4x1024.Idx → EReal) : Read.val_main_v298 (F := Ideal) g s = vars g s := funext fun i => rfl
theorem val43 (g s : S4x1024.Idx → EReal) : Read.val_main_v322 (F := Ideal) g s = vars g s := funext fun i => rfl
theorem val44 (g s : S1024.Idx → EReal) : Read.val_main_v346 (F := Ideal) g s = vars g s := funext fun i => rfl

/-- The results and the arguments at the end of every run. -/
theorem run (ρ : Dev nD → PrngReg) : θ_run defs (onTc (τ := τ) (main (F := Ideal))) ⟨m, fun _ => 0, ρ⟩ (fun r => ∀ c : Dev nD,
      r.2.mem ((c.tc : Thread nD τ).loc main_v23) = steps (arg m c main_arg0) (arg m c main_arg15) (arg m c main_arg30) (arg m c main_arg45) ∧
      r.2.mem ((c.tc : Thread nD τ).loc main_v47) = steps (arg m c main_arg1) (arg m c main_arg16) (arg m c main_arg31) (arg m c main_arg46) ∧
      r.2.mem ((c.tc : Thread nD τ).loc main_v71) = steps (arg m c main_arg2) (arg m c main_arg17) (arg m c main_arg32) (arg m c main_arg47) ∧
      r.2.mem ((c.tc : Thread nD τ).loc main_v95) = steps (arg m c main_arg3) (arg m c main_arg18) (arg m c main_arg33) (arg m c main_arg48) ∧
      r.2.mem ((c.tc : Thread nD τ).loc main_v119) = steps (arg m c main_arg4) (arg m c main_arg19) (arg m c main_arg34) (arg m c main_arg49) ∧
      r.2.mem ((c.tc : Thread nD τ).loc main_v143) = steps (arg m c main_arg5) (arg m c main_arg20) (arg m c main_arg35) (arg m c main_arg50) ∧
      r.2.mem ((c.tc : Thread nD τ).loc main_v167) = steps (arg m c main_arg6) (arg m c main_arg21) (arg m c main_arg36) (arg m c main_arg51) ∧
      r.2.mem ((c.tc : Thread nD τ).loc main_v191) = steps (arg m c main_arg7) (arg m c main_arg22) (arg m c main_arg37) (arg m c main_arg52) ∧
      r.2.mem ((c.tc : Thread nD τ).loc main_v215) = steps (arg m c main_arg8) (arg m c main_arg23) (arg m c main_arg38) (arg m c main_arg53) ∧
      r.2.mem ((c.tc : Thread nD τ).loc main_v239) = steps (arg m c main_arg9) (arg m c main_arg24) (arg m c main_arg39) (arg m c main_arg54) ∧
      r.2.mem ((c.tc : Thread nD τ).loc main_v263) = steps (arg m c main_arg10) (arg m c main_arg25) (arg m c main_arg40) (arg m c main_arg55) ∧
      r.2.mem ((c.tc : Thread nD τ).loc main_v287) = steps (arg m c main_arg11) (arg m c main_arg26) (arg m c main_arg41) (arg m c main_arg56) ∧
      r.2.mem ((c.tc : Thread nD τ).loc main_v311) = steps (arg m c main_arg12) (arg m c main_arg27) (arg m c main_arg42) (arg m c main_arg57) ∧
      r.2.mem ((c.tc : Thread nD τ).loc main_v335) = steps (arg m c main_arg13) (arg m c main_arg28) (arg m c main_arg43) (arg m c main_arg58) ∧
      r.2.mem ((c.tc : Thread nD τ).loc main_v359) = steps (arg m c main_arg14) (arg m c main_arg29) (arg m c main_arg44) (arg m c main_arg59) ∧
      r.2.mem ((c.tc : Thread nD τ).loc main_v4) = moms (arg m c main_arg15) (arg m c main_arg30) ∧
      r.2.mem ((c.tc : Thread nD τ).loc main_v28) = moms (arg m c main_arg16) (arg m c main_arg31) ∧
      r.2.mem ((c.tc : Thread nD τ).loc main_v52) = moms (arg m c main_arg17) (arg m c main_arg32) ∧
      r.2.mem ((c.tc : Thread nD τ).loc main_v76) = moms (arg m c main_arg18) (arg m c main_arg33) ∧
      r.2.mem ((c.tc : Thread nD τ).loc main_v100) = moms (arg m c main_arg19) (arg m c main_arg34) ∧
      r.2.mem ((c.tc : Thread nD τ).loc main_v124) = moms (arg m c main_arg20) (arg m c main_arg35) ∧
      r.2.mem ((c.tc : Thread nD τ).loc main_v148) = moms (arg m c main_arg21) (arg m c main_arg36) ∧
      r.2.mem ((c.tc : Thread nD τ).loc main_v172) = moms (arg m c main_arg22) (arg m c main_arg37) ∧
      r.2.mem ((c.tc : Thread nD τ).loc main_v196) = moms (arg m c main_arg23) (arg m c main_arg38) ∧
      r.2.mem ((c.tc : Thread nD τ).loc main_v220) = moms (arg m c main_arg24) (arg m c main_arg39) ∧
      r.2.mem ((c.tc : Thread nD τ).loc main_v244) = moms (arg m c main_arg25) (arg m c main_arg40) ∧
      r.2.mem ((c.tc : Thread nD τ).loc main_v268) = moms (arg m c main_arg26) (arg m c main_arg41) ∧
      r.2.mem ((c.tc : Thread nD τ).loc main_v292) = moms (arg m c main_arg27) (arg m c main_arg42) ∧
      r.2.mem ((c.tc : Thread nD τ).loc main_v316) = moms (arg m c main_arg28) (arg m c main_arg43) ∧
      r.2.mem ((c.tc : Thread nD τ).loc main_v340) = moms (arg m c main_arg29) (arg m c main_arg44) ∧
      r.2.mem ((c.tc : Thread nD τ).loc main_v10) = vars (arg m c main_arg15) (arg m c main_arg45) ∧
      r.2.mem ((c.tc : Thread nD τ).loc main_v34) = vars (arg m c main_arg16) (arg m c main_arg46) ∧
      r.2.mem ((c.tc : Thread nD τ).loc main_v58) = vars (arg m c main_arg17) (arg m c main_arg47) ∧
      r.2.mem ((c.tc : Thread nD τ).loc main_v82) = vars (arg m c main_arg18) (arg m c main_arg48) ∧
      r.2.mem ((c.tc : Thread nD τ).loc main_v106) = vars (arg m c main_arg19) (arg m c main_arg49) ∧
      r.2.mem ((c.tc : Thread nD τ).loc main_v130) = vars (arg m c main_arg20) (arg m c main_arg50) ∧
      r.2.mem ((c.tc : Thread nD τ).loc main_v154) = vars (arg m c main_arg21) (arg m c main_arg51) ∧
      r.2.mem ((c.tc : Thread nD τ).loc main_v178) = vars (arg m c main_arg22) (arg m c main_arg52) ∧
      r.2.mem ((c.tc : Thread nD τ).loc main_v202) = vars (arg m c main_arg23) (arg m c main_arg53) ∧
      r.2.mem ((c.tc : Thread nD τ).loc main_v226) = vars (arg m c main_arg24) (arg m c main_arg54) ∧
      r.2.mem ((c.tc : Thread nD τ).loc main_v250) = vars (arg m c main_arg25) (arg m c main_arg55) ∧
      r.2.mem ((c.tc : Thread nD τ).loc main_v274) = vars (arg m c main_arg26) (arg m c main_arg56) ∧
      r.2.mem ((c.tc : Thread nD τ).loc main_v298) = vars (arg m c main_arg27) (arg m c main_arg57) ∧
      r.2.mem ((c.tc : Thread nD τ).loc main_v322) = vars (arg m c main_arg28) (arg m c main_arg58) ∧
      r.2.mem ((c.tc : Thread nD τ).loc main_v346) = vars (arg m c main_arg29) (arg m c main_arg59) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31) ∧
      r.2.mem ((c.tc : Thread nD τ).loc main_arg32) = m ((c.tc : Thread nD τ).loc main_arg32) ∧
      r.2.mem ((c.tc : Thread nD τ).loc main_arg33) = m ((c.tc : Thread nD τ).loc main_arg33) ∧
      r.2.mem ((c.tc : Thread nD τ).loc main_arg34) = m ((c.tc : Thread nD τ).loc main_arg34) ∧
      r.2.mem ((c.tc : Thread nD τ).loc main_arg35) = m ((c.tc : Thread nD τ).loc main_arg35) ∧
      r.2.mem ((c.tc : Thread nD τ).loc main_arg36) = m ((c.tc : Thread nD τ).loc main_arg36) ∧
      r.2.mem ((c.tc : Thread nD τ).loc main_arg37) = m ((c.tc : Thread nD τ).loc main_arg37) ∧
      r.2.mem ((c.tc : Thread nD τ).loc main_arg38) = m ((c.tc : Thread nD τ).loc main_arg38) ∧
      r.2.mem ((c.tc : Thread nD τ).loc main_arg39) = m ((c.tc : Thread nD τ).loc main_arg39) ∧
      r.2.mem ((c.tc : Thread nD τ).loc main_arg40) = m ((c.tc : Thread nD τ).loc main_arg40) ∧
      r.2.mem ((c.tc : Thread nD τ).loc main_arg41) = m ((c.tc : Thread nD τ).loc main_arg41) ∧
      r.2.mem ((c.tc : Thread nD τ).loc main_arg42) = m ((c.tc : Thread nD τ).loc main_arg42) ∧
      r.2.mem ((c.tc : Thread nD τ).loc main_arg43) = m ((c.tc : Thread nD τ).loc main_arg43) ∧
      r.2.mem ((c.tc : Thread nD τ).loc main_arg44) = m ((c.tc : Thread nD τ).loc main_arg44) ∧
      r.2.mem ((c.tc : Thread nD τ).loc main_arg45) = m ((c.tc : Thread nD τ).loc main_arg45) ∧
      r.2.mem ((c.tc : Thread nD τ).loc main_arg46) = m ((c.tc : Thread nD τ).loc main_arg46) ∧
      r.2.mem ((c.tc : Thread nD τ).loc main_arg47) = m ((c.tc : Thread nD τ).loc main_arg47) ∧
      r.2.mem ((c.tc : Thread nD τ).loc main_arg48) = m ((c.tc : Thread nD τ).loc main_arg48) ∧
      r.2.mem ((c.tc : Thread nD τ).loc main_arg49) = m ((c.tc : Thread nD τ).loc main_arg49) ∧
      r.2.mem ((c.tc : Thread nD τ).loc main_arg50) = m ((c.tc : Thread nD τ).loc main_arg50) ∧
      r.2.mem ((c.tc : Thread nD τ).loc main_arg51) = m ((c.tc : Thread nD τ).loc main_arg51) ∧
      r.2.mem ((c.tc : Thread nD τ).loc main_arg52) = m ((c.tc : Thread nD τ).loc main_arg52) ∧
      r.2.mem ((c.tc : Thread nD τ).loc main_arg53) = m ((c.tc : Thread nD τ).loc main_arg53) ∧
      r.2.mem ((c.tc : Thread nD τ).loc main_arg54) = m ((c.tc : Thread nD τ).loc main_arg54) ∧
      r.2.mem ((c.tc : Thread nD τ).loc main_arg55) = m ((c.tc : Thread nD τ).loc main_arg55) ∧
      r.2.mem ((c.tc : Thread nD τ).loc main_arg56) = m ((c.tc : Thread nD τ).loc main_arg56) ∧
      r.2.mem ((c.tc : Thread nD τ).loc main_arg57) = m ((c.tc : Thread nD τ).loc main_arg57) ∧
      r.2.mem ((c.tc : Thread nD τ).loc main_arg58) = m ((c.tc : Thread nD τ).loc main_arg58) ∧
      r.2.mem ((c.tc : Thread nD τ).loc main_arg59) = m ((c.tc : Thread nD τ).loc main_arg59)) := by
  refine (θ_run defs _ _).mono (fun r h c => ?_) (Value.run m ρ)
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, ra⟩ := h c
  exact ⟨
    r0.trans ((Read.val_main_v23_eq fun b => m (c, b)).trans (val0 ..)),
    r1.trans ((Read.val_main_v47_eq fun b => m (c, b)).trans (val1 ..)),
    r2.trans ((Read.val_main_v71_eq fun b => m (c, b)).trans (val2 ..)),
    r3.trans ((Read.val_main_v95_eq fun b => m (c, b)).trans (val3 ..)),
    r4.trans ((Read.val_main_v119_eq fun b => m (c, b)).trans (val4 ..)),
    r5.trans ((Read.val_main_v143_eq fun b => m (c, b)).trans (val5 ..)),
    r6.trans ((Read.val_main_v167_eq fun b => m (c, b)).trans (val6 ..)),
    r7.trans ((Read.val_main_v191_eq fun b => m (c, b)).trans (val7 ..)),
    r8.trans ((Read.val_main_v215_eq fun b => m (c, b)).trans (val8 ..)),
    r9.trans ((Read.val_main_v239_eq fun b => m (c, b)).trans (val9 ..)),
    r10.trans ((Read.val_main_v263_eq fun b => m (c, b)).trans (val10 ..)),
    r11.trans ((Read.val_main_v287_eq fun b => m (c, b)).trans (val11 ..)),
    r12.trans ((Read.val_main_v311_eq fun b => m (c, b)).trans (val12 ..)),
    r13.trans ((Read.val_main_v335_eq fun b => m (c, b)).trans (val13 ..)),
    r14.trans ((Read.val_main_v359_eq fun b => m (c, b)).trans (val14 ..)),
    r15.trans ((Read.val_main_v4_eq fun b => m (c, b)).trans (val15 ..)),
    r16.trans ((Read.val_main_v28_eq fun b => m (c, b)).trans (val16 ..)),
    r17.trans ((Read.val_main_v52_eq fun b => m (c, b)).trans (val17 ..)),
    r18.trans ((Read.val_main_v76_eq fun b => m (c, b)).trans (val18 ..)),
    r19.trans ((Read.val_main_v100_eq fun b => m (c, b)).trans (val19 ..)),
    r20.trans ((Read.val_main_v124_eq fun b => m (c, b)).trans (val20 ..)),
    r21.trans ((Read.val_main_v148_eq fun b => m (c, b)).trans (val21 ..)),
    r22.trans ((Read.val_main_v172_eq fun b => m (c, b)).trans (val22 ..)),
    r23.trans ((Read.val_main_v196_eq fun b => m (c, b)).trans (val23 ..)),
    r24.trans ((Read.val_main_v220_eq fun b => m (c, b)).trans (val24 ..)),
    r25.trans ((Read.val_main_v244_eq fun b => m (c, b)).trans (val25 ..)),
    r26.trans ((Read.val_main_v268_eq fun b => m (c, b)).trans (val26 ..)),
    r27.trans ((Read.val_main_v292_eq fun b => m (c, b)).trans (val27 ..)),
    r28.trans ((Read.val_main_v316_eq fun b => m (c, b)).trans (val28 ..)),
    r29.trans ((Read.val_main_v340_eq fun b => m (c, b)).trans (val29 ..)),
    r30.trans ((Read.val_main_v10_eq fun b => m (c, b)).trans (val30 ..)),
    r31.trans ((Read.val_main_v34_eq fun b => m (c, b)).trans (val31 ..)),
    r32.trans ((Read.val_main_v58_eq fun b => m (c, b)).trans (val32 ..)),
    r33.trans ((Read.val_main_v82_eq fun b => m (c, b)).trans (val33 ..)),
    r34.trans ((Read.val_main_v106_eq fun b => m (c, b)).trans (val34 ..)),
    r35.trans ((Read.val_main_v130_eq fun b => m (c, b)).trans (val35 ..)),
    r36.trans ((Read.val_main_v154_eq fun b => m (c, b)).trans (val36 ..)),
    r37.trans ((Read.val_main_v178_eq fun b => m (c, b)).trans (val37 ..)),
    r38.trans ((Read.val_main_v202_eq fun b => m (c, b)).trans (val38 ..)),
    r39.trans ((Read.val_main_v226_eq fun b => m (c, b)).trans (val39 ..)),
    r40.trans ((Read.val_main_v250_eq fun b => m (c, b)).trans (val40 ..)),
    r41.trans ((Read.val_main_v274_eq fun b => m (c, b)).trans (val41 ..)),
    r42.trans ((Read.val_main_v298_eq fun b => m (c, b)).trans (val42 ..)),
    r43.trans ((Read.val_main_v322_eq fun b => m (c, b)).trans (val43 ..)),
    r44.trans ((Read.val_main_v346_eq fun b => m (c, b)).trans (val44 ..)),
    ra⟩

end Cert.Reference11Ideal.Own
end
-- ==== Proof.Dwo.lean ====
/-
  The gradient of the second FFN product by its weight, as its call leaves it: for each half of the rows of the weight, half the sum over
  the eight row blocks of the transposed activations times the cotangent.
-/
module

public import proofs.«01_k».proof.Proof.Mat
public import proofs.«01_k».proof.Proof.Gen.Kernel3Ideal.Value
public import proofs.«01_k».proof.Proof.Gen.Reference3Ideal.Read
public import Idealize.ShloMosaic.Lib.StableHlo.ReadAt

@[expose] public section

set_option maxRecDepth 16384

noncomputable section

namespace Cert.Kernel3Ideal.Own

open Cert.Kernel3Ideal Cert.Kernel3Ideal.Gen Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .f32) (h5 : a5.IsWhole)
  (a6 : Memref sig .tc .vmem S1408x1024 .f32) (h6 : a6.IsWhole)
  (x0 : Vec Ideal S1024x1408 .bf16) (x1 : Vec Ideal S1024x1024 .bf16) (xs : Vec Ideal S1408x1024 .f32)

/-- The first point of a row block starts the accumulator. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x1408) hz2, View.ld_unit_zero (S := S1024x1024) hz2, View.ld_unit_zero (S := S1408x1024) hz2]

/-- A point between adds to the accumulator. -/
theorem acc_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x1408) hz2, View.ld_unit_zero (S := S1024x1024) hz2,
    View.ld_unit_zero (S := S1408x1024) hz2]

/-- So does the last, -/
theorem acc_C (hc0 : ¬cond0_0 i) (hc1 : cond0_1 i) (hc2 : cond0_2 i) :
    sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  simp only [View.readAt_eq_ld, h3.read_unread, h4.read_unread, h6.read_unread, View.ld_unit_zero (S := S1024x1408) hz2, View.ld_unit_zero (S := S1024x1024) hz2,
    View.ld_unit_zero (S := S1408x1024) hz2]

/-- which also stores the accumulator in the block of the result. -/
theorem out_C (hc0 : ¬cond0_0 i) (hc1 : cond0_1 i) (hc2 : cond0_2 i) :
    out0_C_2 c i a3 h3 a4 h4 a5 h5 a6 h6 hc0 hc1 hc2 x0 x1 xs = k0_pay3 (k0_pay2 xs x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero _ hz2]
  simp only [View.readAt_eq_ld, h3.read_unread, h4.read_unread, h6.read_unread, View.ld_unit_zero (S := S1024x1408) hz2, View.ld_unit_zero (S := S1024x1024) hz2,
    View.ld_unit_zero (S := S1408x1024) hz2]

/-- One product of the transposed rows and the columns of a block, at an entry. -/
theorem pay1_at (y : S1408x1024.Idx) :
    (k0_pay1 x0 x1 y : EReal) = ∑ l : Fin 1024, at2 x0 l.val (y 0).val * at2 x1 l.val (y 1).val := by
  obtain ⟨p, q, rfl⟩ : ∃ p q, y = ValueIdx.ix2 p q := ⟨y 0, y 1, ValueIdx.eq_ix2 y⟩
  unfold k0_pay1
  pointwise
  exact Finset.sum_congr rfl fun l _ => congrArg₂ (fun u v : EReal => u * v) (at2_mk (a := 1024) (b := 1408) x0 l p) (at2_mk (a := 1024) (b := 1024) x1 l q)

theorem pay2_at (y : S1408x1024.Idx) : (k0_pay2 xs x0 x1 y : EReal) = xs y + k0_pay1 x0 x1 y := by
  obtain ⟨p, q, rfl⟩ : ∃ p q, y = ValueIdx.ix2 p q := ⟨y 0, y 1, ValueIdx.eq_ix2 y⟩
  unfold k0_pay2 k0_pay1
  pointwise

theorem pay3_at (y : S1408x1024.Idx) : (k0_pay3 xs y : EReal) = half * xs y := by
  unfold k0_pay3
  pointwise
  exact mul_comm _ _

omit c
variable (m : (ℓ : Loc nD τ sig) → Buf (Elt Ideal) ℓ) (c : Dev nD)

/-- What the program is given: the rows before the norm, the norm's gain, the first weight, the cotangent. -/
def hid : S8192x1024.Idx → EReal := m ((c : Thread nD τ).loc main_arg0)
def gain : S1024.Idx → EReal := m ((c : Thread nD τ).loc main_arg1)
def wi : S4x1024x1408.Idx → EReal := m ((c : Thread nD τ).loc main_arg2)
def cot : S8192x1024.Idx → EReal := m ((c : Thread nD τ).loc main_arg3)

/-- The activations: the reference's lines. -/
def act : S8192x2816.Idx → EReal := Cert.Reference3Ideal.Read.val_main_v21 (F := Ideal) (hid m c) (gain m c) (wi m c)

theorem ix0 : ∀ t : Fin cfg0.N, win0_0.index t = ![t.val % 8, t.val / 8] := (by decide +kernel : ∀ t : Fin grid0.N, _)
theorem ix1 : ∀ t : Fin cfg0.N, win0_1.index t = ![t.val % 8, 0] := (by decide +kernel : ∀ t : Fin grid0.N, _)

theorem ixO : ∀ t : Fin cfg0.N, win0_2.index t = ![t.val / 8, 0] := (by decide +kernel : ∀ t : Fin grid0.N, _)

theorem act_eq : (V m c main_v21 : S8192x2816.Idx → EReal) = act m c := by
  show StableHlo.after (List.flatten [hostOps0, hostOps0_1, hostOps0_2]) (fun b => m (c, b)) _ = _
  simp only [List.flatten_cons, List.flatten_nil, List.append_nil, List.cons_append, List.nil_append]
  after_results
  rfl

theorem blk0_at (t : Fin cfg0.N) (p : Fin 1024) (l : Fin 1408) :
    at2 (a := 1024) (b := 1408) (iblk m c 0 t) p.val l.val = at2 (act m c) (1024 * (t.val % 8) + p.val) (1408 * (t.val / 8) + l.val) := by
  rw [← at2_mk]
  blk_simp [iblk]
  refine (congrFun (act_eq m c) _).trans ((at2_eq (a := 8192) (b := 2816) _ _).trans ?_)
  congr 1
  · blk_simp [ix0]
    show t.val % 8 * 1024 + p.val = _
    omega
  · blk_simp [ix0]
    show t.val / 8 * 1408 + l.val = _
    omega

theorem blk1_at (t : Fin cfg0.N) (p : Fin 1024) (l : Fin 1024) :
    at2 (a := 1024) (b := 1024) (iblk m c 1 t) p.val l.val = at2 (cot m c) (1024 * (t.val % 8) + p.val) l.val := by
  have e : V m c main_arg3 = cot m c := V_main_arg3 m c
  rw [← at2_mk]
  blk_simp [iblk]
  refine (congrFun e _).trans ((at2_eq (a := 8192) (b := 1024) _ _).trans ?_)
  congr 1
  · blk_simp [ix1]
    show t.val % 8 * 1024 + p.val = _
    omega
  · blk_simp [ix1]

/-- What point `k` of row half `q` adds at an entry of the block. -/
def prt (q k r j : ℕ) : EReal :=
  ∑ l : Fin 1024, at2 (act m c) (1024 * k + l.val) (1408 * q + r) * at2 (cot m c) (1024 * k + l.val) j

theorem step_at (t : Fin cfg0.N) (y : S1408x1024.Idx) :
    (k0_pay1 (iblk m c 0 t) (iblk m c 1 t) y : EReal) = prt m c (t.val / 8) (t.val % 8) (y 0).val (y 1).val := by
  obtain ⟨p, q, rfl⟩ : ∃ p q, y = ValueIdx.ix2 p q := ⟨y 0, y 1, ValueIdx.eq_ix2 y⟩
  refine (pay1_at _ _ _).trans (Finset.sum_congr rfl fun l _ => ?_)
  exact congrArg₂ (fun u v : EReal => u * v) (blk0_at m c t l p) (blk1_at m c t l q)

theorem rec_A (t : Fin cfg0.N) (h0 : t.val % 8 = 0) :
    (outsAt0 m c t.val t.isLt).2 = k0_pay1 (iblk m c 0 t) (iblk m c 1 t) := by
  rw [outsAt0_A m c t h0 (by omega) (by omega)]
  dsimp only
  rw [acc_A]

theorem rec_S (t : Fin cfg0.N) (h0 : t.val % 8 ≠ 0) :
    (outsAt0 m c t.val t.isLt).2
      = k0_pay2 (outsAt0 m c (t.val - 1) (lt_of_le_of_lt (Nat.sub_le t.val 1) t.isLt)).2 (iblk m c 0 t) (iblk m c 1 t) := by
  by_cases h2 : t.val % 8 = 7
  · rw [outsAt0_C m c t h0 (by omega) h2]
    dsimp only
    rw [acc_C]
  · rw [outsAt0_B m c t h0 (by omega) h2]
    dsimp only
    rw [acc_B]

theorem rec_R (t : Fin cfg0.N) (h2 : t.val % 8 = 7) : (outsAt0 m c t.val t.isLt).1 = k0_pay3 (outsAt0 m c t.val t.isLt).2 := by
  rw [outsAt0_C m c t (by omega) (by omega) h2]
  dsimp only
  rw [acc_C, out_C]

/-- The accumulator after a point. -/
theorem scr_at (n : ℕ) (h : n < cfg0.N) (y : S1408x1024.Idx) :
    ((outsAt0 m c n h).2 y : EReal)
      = ∑ s ∈ Finset.range (n % 8 + 1), prt m c ((n - n % 8 + s) / 8) ((n - n % 8 + s) % 8) (y 0).val (y 1).val :=
  acc_sum 8 cfg0.N (fun n h y => (outsAt0 m c n h).2 y) (fun n (y : S1408x1024.Idx) => prt m c (n / 8) (n % 8) (y 0).val (y 1).val)
    (fun n h y h0 => (congrFun (rec_A m c ⟨n, h⟩ h0) y).trans (step_at m c ⟨n, h⟩ y))
    (fun n h y h0 => (congrFun (rec_S m c ⟨n, h⟩ h0) y).trans ((pay2_at _ _ _ y).trans
      (congrArg (fun v : EReal => _ + v) (step_at m c ⟨n, h⟩ y)))) n h y

/-- The block of the result after the last point of a row half. -/
theorem res_at (n : ℕ) (h : n < cfg0.N) (h2 : n % 8 = 7) (y : S1408x1024.Idx) :
    ((outsAt0 m c n h).1 y : EReal) = half * ∑ k : Fin 8, prt m c (n / 8) k.val (y 0).val (y 1).val := by
  refine (congrFun (rec_R m c ⟨n, h⟩ h2) y).trans ((pay3_at _ y).trans (congrArg (fun v : EReal => half * v) ((scr_at m c n h y).trans ?_)))
  rw [h2, Finset.sum_range]
  refine Finset.sum_congr rfl fun k _ => ?_
  have := k.isLt
  congr 1 <;> omega

/-- The gradient of the weight: at each entry, half the sum over the eight row blocks. -/
def grad : S2816x1024.Idx → EReal := fun i => half * ∑ k : Fin 8, ∑ l : Fin 1024,
  at2 (act m c) (1024 * k.val + l.val) (i 0).val * at2 (cot m c) (1024 * k.val + l.val) (i 1).val

/-- The result of the call. -/
theorem result_eq : (dats m 0 c).arrAt 2 cfg0.N = grad m c := by
  refine (dats m 0 c).arrAt_eq_of_covers 2 _ (by decide +kernel) fun t hf y => ?_
  have ht : t.val < 16 := t.isLt.trans_eq N_0
  have h7 := (flush0_2 t).mp hf
  rw [after0_2]
  blk_simp
  refine (res_at m c t.val t.isLt h7 y).trans ?_
  unfold grad prt
  refine congrArg (fun v : EReal => half * v) (Finset.sum_congr rfl fun k _ => Finset.sum_congr rfl fun l _ => ?_)
  congr 2
  · blk_simp [ixO]
    omega
  · blk_simp [ixO]

end Cert.Kernel3Ideal.Own
end
-- ==== Proof.DwoRef.lean ====
/-
  The gradient of the second FFN product by its weight, in the reference: one product over all the rows, taken row block by row block,
  the half brought outside.
-/
module

public import proofs.«01_k».proof.Proof.Mat
public import proofs.«01_k».proof.Proof.Gen.Reference3Ideal.Read

@[expose] public section

set_option maxRecDepth 16384

noncomputable section

namespace Cert.Reference3Ideal.Own

open Cert.Reference3Ideal Cert.Reference3Ideal.Gen Cert.Reference3Ideal.Read Cert.Mat
open Idealize.ShloMosaic Idealize.ShloMosaic.TcCoe Idealize.SL.Sem Idealize.ShloMosaic.StableHlo

variable (x0 : (⟨S8192x1024, .f32⟩ : BufTy).Contents (Elt Ideal)) (x1 : (⟨S1024, .f32⟩ : BufTy).Contents (Elt Ideal))
  (x2 : (⟨S4x1024x1408, .bf16⟩ : BufTy).Contents (Elt Ideal)) (x3 : (⟨S8192x1024, .bf16⟩ : BufTy).Contents (Elt Ideal))

/-- The activations. -/
def act : S8192x2816.Idx → EReal := val_main_v21 (F := Ideal) x0 x1 x2

theorem d_at (i : S8192x1024.Idx) :
    (val_main_v27 (F := Ideal) x3 i : EReal) = half * at2 (a := 8192) (b := 1024) x3 (i 0).val (i 1).val := by
  rw [val_main_v27_apply, val_main_v26_apply, val_main_v25_apply]
  exact congrArg (fun v : EReal => half * v) (at2_eq (a := 8192) (b := 1024) x3 i)

theorem result_at (i : S2816x1024.Idx) :
    (val_main_v29 (F := Ideal) x0 x1 x2 x3 i : EReal)
      = half * ∑ k : Fin 8, ∑ r : Fin 1024, at2 (act x0 x1 x2) (1024 * k.val + r.val) (i 0).val
          * at2 (a := 8192) (b := 1024) x3 (1024 * k.val + r.val) (i 1).val := by
  rw [val_main_v29_apply, val_main_v28_apply]
  refine (Finset.sum_congr rfl fun k _ => congrArg₂ (fun u v : EReal => u * v) (d_at x3 _) (at2_eq (act x0 x1 x2) _)).trans ?_
  refine Eq.trans ?_ (congrArg (fun v : EReal => half * v) (sum_blocks 8 1024 8192 rfl (fun r => at2 (act x0 x1 x2) r (i 0).val
    * at2 (a := 8192) (b := 1024) x3 r (i 1).val)))
  rw [half_mul_sum]
  refine Finset.sum_congr rfl fun r _ => ?_
  refine (mul_assoc _ _ _).trans (congrArg (fun v : EReal => half * v) ((mul_comm _ _).trans ?_))
  rfl

end Cert.Reference3Ideal.Own
end
-- ==== Proof.Dwi.lean ====
/-
  The gradient of the first FFN product by its weight, as its call leaves it: for each shard, the sum over the eight row blocks of the
  transposed rows times the columns of the cotangent.
-/
module

public import proofs.«01_k».proof.Proof.Mat
public import proofs.«01_k».proof.Proof.Gen.Kernel4Ideal.Value
public import proofs.«01_k».proof.Proof.Gen.Reference4Ideal.Read
public import Idealize.ShloMosaic.Lib.StableHlo.ReadAt

@[expose] public section

set_option maxRecDepth 16384

noncomputable section

namespace Cert.Kernel4Ideal.Own

open Cert.Kernel4Ideal Cert.Kernel4Ideal.Gen Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1x1024x1408 .f32) (h5 : a5.IsWhole)
  (a6 : Memref sig .tc .vmem S1024x1408 .f32) (h6 : a6.IsWhole)
  (x0 : Vec Ideal S1024x1024 .bf16) (x1 : Vec Ideal S1024x1408 .bf16) (xs : Vec Ideal S1024x1408 .f32)

/-- The first point of a row block starts the accumulator. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x1024) hz2, View.ld_unit_zero (S := S1024x1408) hz2]

/-- A point between adds to the accumulator. -/
theorem acc_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x1024) hz2,
    View.ld_unit_zero (S := S1024x1408) hz2]

/-- So does the last, -/
theorem acc_C (hc0 : ¬cond0_0 i) (hc1 : cond0_1 i) (hc2 : cond0_2 i) :
    sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  simp only [View.readAt_eq_ld, h3.read_unread, h4.read_unread, h6.read_unread, View.ld_unit_zero (S := S1024x1024) hz2,
    View.ld_unit_zero (S := S1024x1408) hz2]

/-- which also stores the accumulator in the block of the result. -/
theorem out_C (hc0 : ¬cond0_0 i) (hc1 : cond0_1 i) (hc2 : cond0_2 i) :
    out0_C_2 c i a3 h3 a4 h4 a5 h5 a6 h6 hc0 hc1 hc2 x0 x1 xs = k0_pay3 (k0_pay2 xs x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3, View.readCov_unit_zero _ hz2]
  simp only [View.readAt_eq_ld, h3.read_unread, h4.read_unread, h6.read_unread, View.ld_unit_zero (S := S1024x1024) hz2,
    View.ld_unit_zero (S := S1024x1408) hz2]

/-- One product of the transposed rows and the columns of a block, at an entry. -/
theorem pay1_at (y : S1024x1408.Idx) :
    (k0_pay1 x0 x1 y : EReal) = ∑ l : Fin 1024, at2 x0 l.val (y 0).val * at2 x1 l.val (y 1).val := by
  obtain ⟨p, q, rfl⟩ : ∃ p q, y = ValueIdx.ix2 p q := ⟨y 0, y 1, ValueIdx.eq_ix2 y⟩
  unfold k0_pay1
  pointwise
  exact Finset.sum_congr rfl fun l _ => congrArg₂ (fun u v : EReal => u * v) (at2_mk (a := 1024) (b := 1024) x0 l p) (at2_mk (a := 1024) (b := 1408) x1 l q)

theorem pay2_at (y : S1024x1408.Idx) : (k0_pay2 xs x0 x1 y : EReal) = xs y + k0_pay1 x0 x1 y := by
  obtain ⟨p, q, rfl⟩ : ∃ p q, y = ValueIdx.ix2 p q := ⟨y 0, y 1, ValueIdx.eq_ix2 y⟩
  unfold k0_pay2 k0_pay1
  pointwise

theorem pay3_at (y : S1x1024x1408.Idx) : (k0_pay3 xs y : EReal) = xs (ValueIdx.ix2 (y 1) (y 2)) := by
  obtain ⟨p, q, r, rfl⟩ : ∃ p q r, y = ValueIdx.ix3 p q r := ⟨y 0, y 1, y 2, ValueIdx.eq_ix3 y⟩
  unfold k0_pay3
  pointwise
  rfl

omit c
variable (m : (ℓ : Loc nD τ sig) → Buf (Elt Ideal) ℓ) (c : Dev nD)

/-- The cotangent, the rows before the norm and the norm's gain as the program is given them. -/
def dgu : S8192x5632.Idx → EReal := m ((c : Thread nD τ).loc main_arg2)
def hid : S8192x1024.Idx → EReal := m ((c : Thread nD τ).loc main_arg0)
def gain : S1024.Idx → EReal := m ((c : Thread nD τ).loc main_arg1)

/-- The rows after the norm: the reference's lines. -/
def xn : S8192x1024.Idx → EReal := Cert.Reference4Ideal.Read.val_main_v13 (F := Ideal) (hid m c) (gain m c)

theorem ix0 : ∀ t : Fin cfg0.N, win0_0.index t = ![t.val % 8, 0] := (by decide +kernel : ∀ t : Fin grid0.N, _)
theorem ix1 : ∀ t : Fin cfg0.N, win0_1.index t = ![t.val % 8, t.val / 8] := (by decide +kernel : ∀ t : Fin grid0.N, _)
theorem ixO : ∀ t : Fin cfg0.N, win0_2.index t = ![mid (t.val / 8), 0, 0] := (by decide +kernel : ∀ t : Fin grid0.N, _)

theorem xn_eq : (V m c main_v13 : S8192x1024.Idx → EReal) = xn m c := by
  show StableHlo.after hostOps0 (fun b => m (c, b)) _ = _
  after_results
  rfl

theorem blk0_at (t : Fin cfg0.N) (p : Fin 1024) (l : Fin 1024) :
    at2 (a := 1024) (b := 1024) (iblk m c 0 t) p.val l.val = at2 (xn m c) (1024 * (t.val % 8) + p.val) l.val := by
  rw [← at2_mk]
  blk_simp [iblk]
  refine (congrFun (xn_eq m c) _).trans ((at2_eq (a := 8192) (b := 1024) _ _).trans ?_)
  congr 1
  · blk_simp [ix0]
    show t.val % 8 * 1024 + p.val = _
    omega
  · blk_simp [ix0]

theorem blk1_at (t : Fin cfg0.N) (p : Fin 1024) (l : Fin 1408) :
    at2 (a := 1024) (b := 1408) (iblk m c 1 t) p.val l.val = at2 (dgu m c) (1024 * (t.val % 8) + p.val) (1408 * (t.val / 8) + l.val) := by
  have e : V m c main_arg2 = dgu m c := V_main_arg2 m c
  rw [← at2_mk]
  blk_simp [iblk]
  refine (congrFun e _).trans ((at2_eq (a := 8192) (b := 5632) _ _).trans ?_)
  congr 1
  · blk_simp [ix1]
    show t.val % 8 * 1024 + p.val = _
    omega
  · blk_simp [ix1]
    show t.val / 8 * 1408 + l.val = _
    omega

/-- What point `k` of column block `q` adds at an entry of the block. -/
def prt (q k r j : ℕ) : EReal :=
  ∑ l : Fin 1024, at2 (xn m c) (1024 * k + l.val) r * at2 (dgu m c) (1024 * k + l.val) (1408 * q + j)

theorem step_at (t : Fin cfg0.N) (y : S1024x1408.Idx) :
    (k0_pay1 (iblk m c 0 t) (iblk m c 1 t) y : EReal) = prt m c (t.val / 8) (t.val % 8) (y 0).val (y 1).val := by
  obtain ⟨p, q, rfl⟩ : ∃ p q, y = ValueIdx.ix2 p q := ⟨y 0, y 1, ValueIdx.eq_ix2 y⟩
  refine (pay1_at _ _ _).trans (Finset.sum_congr rfl fun l _ => ?_)
  exact congrArg₂ (fun u v : EReal => u * v) (blk0_at m c t l p) (blk1_at m c t l q)

theorem rec_A (t : Fin cfg0.N) (h0 : t.val % 8 = 0) :
    (outsAt0 m c t.val t.isLt).2 = k0_pay1 (iblk m c 0 t) (iblk m c 1 t) := by
  rw [outsAt0_A m c t h0 (by omega) (by omega)]
  dsimp only
  rw [acc_A]

theorem rec_S (t : Fin cfg0.N) (h0 : t.val % 8 ≠ 0) :
    (outsAt0 m c t.val t.isLt).2
      = k0_pay2 (outsAt0 m c (t.val - 1) (lt_of_le_of_lt (Nat.sub_le t.val 1) t.isLt)).2 (iblk m c 0 t) (iblk m c 1 t) := by
  by_cases h2 : t.val % 8 = 7
  · rw [outsAt0_C m c t h0 (by omega) h2]
    dsimp only
    rw [acc_C]
  · rw [outsAt0_B m c t h0 (by omega) h2]
    dsimp only
    rw [acc_B]

theorem rec_R (t : Fin cfg0.N) (h2 : t.val % 8 = 7) : (outsAt0 m c t.val t.isLt).1 = k0_pay3 (outsAt0 m c t.val t.isLt).2 := by
  rw [outsAt0_C m c t (by omega) (by omega) h2]
  dsimp only
  rw [acc_C, out_C]

/-- The accumulator after a point. -/
theorem scr_at (n : ℕ) (h : n < cfg0.N) (y : S1024x1408.Idx) :
    ((outsAt0 m c n h).2 y : EReal)
      = ∑ s ∈ Finset.range (n % 8 + 1), prt m c ((n - n % 8 + s) / 8) ((n - n % 8 + s) % 8) (y 0).val (y 1).val :=
  acc_sum 8 cfg0.N (fun n h y => (outsAt0 m c n h).2 y) (fun n (y : S1024x1408.Idx) => prt m c (n / 8) (n % 8) (y 0).val (y 1).val)
    (fun n h y h0 => (congrFun (rec_A m c ⟨n, h⟩ h0) y).trans (step_at m c ⟨n, h⟩ y))
    (fun n h y h0 => (congrFun (rec_S m c ⟨n, h⟩ h0) y).trans ((pay2_at _ _ _ y).trans
      (congrArg (fun v : EReal => _ + v) (step_at m c ⟨n, h⟩ y)))) n h y

/-- The block of the result after the last point of a column block. -/
theorem res_at (n : ℕ) (h : n < cfg0.N) (h2 : n % 8 = 7) (y : S1x1024x1408.Idx) :
    ((outsAt0 m c n h).1 y : EReal) = ∑ k : Fin 8, prt m c (n / 8) k.val (y 1).val (y 2).val := by
  refine (congrFun (rec_R m c ⟨n, h⟩ h2) y).trans ((pay3_at _ y).trans ((scr_at m c n h _).trans ?_))
  rw [h2, Finset.sum_range]
  refine Finset.sum_congr rfl fun k _ => ?_
  have := k.isLt
  show prt m c _ _ (y 1).val (y 2).val = _
  congr 1 <;> omega

/-- The gradient of the weight: at each entry, the sum over the eight row blocks. -/
def grad : S4x1024x1408.Idx → EReal := fun i => ∑ k : Fin 8, prt m c (mid (i 0).val) k.val (i 1).val (i 2).val

/-- The result of the call. -/
theorem result_eq : (dats m 0 c).arrAt 2 cfg0.N = grad m c := by
  refine (dats m 0 c).arrAt_eq_of_covers 2 _ (by decide +kernel) fun t hf y => ?_
  have ht : t.val < 32 := t.isLt.trans_eq N_0
  have h7 := (flush0_2 t).mp hf
  rw [after0_2]
  blk_simp
  refine (res_at m c t.val t.isLt h7 y).trans ?_
  unfold grad
  have h0 : (y 0).val = 0 := by have : (y 0).val < 1 := (y 0).isLt; omega
  refine Finset.sum_congr rfl fun k _ => ?_
  congr 1
  · blk_simp [ixO]
    unfold mid
    omega
  · blk_simp [ixO]
  · blk_simp [ixO]

end Cert.Kernel4Ideal.Own
end
-- ==== Proof.DwiRef.lean ====
/-
  The gradient of the first FFN product by its weight, in the reference: one product over all the rows, taken row block by row block.
-/
module

public import proofs.«01_k».proof.Proof.Mat
public import proofs.«01_k».proof.Proof.Gen.Reference4Ideal.Read

@[expose] public section

set_option maxRecDepth 16384

noncomputable section

namespace Cert.Reference4Ideal.Own

open Cert.Reference4Ideal Cert.Reference4Ideal.Gen Cert.Reference4Ideal.Read Cert.Mat
open Idealize.ShloMosaic Idealize.ShloMosaic.TcCoe Idealize.SL.Sem Idealize.ShloMosaic.StableHlo

variable (x0 : (⟨S8192x1024, .f32⟩ : BufTy).Contents (Elt Ideal)) (x1 : (⟨S1024, .f32⟩ : BufTy).Contents (Elt Ideal))
  (x2 : (⟨S8192x5632, .bf16⟩ : BufTy).Contents (Elt Ideal))

/-- The cotangent, its column blocks in the order of the shards. -/
theorem g_at (i : S8192x5632.Idx) :
    (val_main_v20 (F := Ideal) x2 i : EReal)
      = at2 (a := 8192) (b := 5632) x2 (i 0).val (1408 * mid ((i 1).val / 1408) + (i 1).val % 1408) := by
  have h0 : (i 0).val < 8192 := (i 0).isLt
  have h1 : (i 1).val < 5632 := (i 1).isLt
  rw [val_main_v20_apply, val_main_v19_apply, val_main_v18_apply, val_main_v17_apply]
  refine (at2_eq (a := 8192) (b := 5632) x2 _).trans ?_
  unfold mid
  have e0 : ((i 0).val * 5632 + (i 1).val) / 5632 = (i 0).val := by omega
  have e1 : ((i 0).val * 5632 + (i 1).val) / 2816 % 2 = (i 1).val / 1408 / 2 := by omega
  have e2 : ((i 0).val * 5632 + (i 1).val) / 1408 % 2 = (i 1).val / 1408 % 2 := by omega
  have e3 : ((i 0).val * 5632 + (i 1).val) % 1408 = (i 1).val % 1408 := by omega
  have b1 : (i 1).val / 1408 / 2 < 2 := by omega
  have b2 : (i 1).val / 1408 % 2 < 2 := by omega
  have b3 : (i 1).val % 1408 < 1408 := by omega
  congr 1
  · show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) / 5632 = _
    rw [e0, e1, e2, e3]; omega
  · show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) % 5632 = _
    rw [e0, e1, e2, e3]; omega

/-- The rows after the norm. -/
def xn : S8192x1024.Idx → EReal := val_main_v13 (F := Ideal) x0 x1

theorem result_at (i : S4x1024x1408.Idx) :
    (val_main_v24 (F := Ideal) x0 x1 x2 i : EReal)
      = ∑ k : Fin 8, ∑ r : Fin 1024, at2 (xn x0 x1) (1024 * k.val + r.val) (i 1).val
          * at2 (a := 8192) (b := 5632) x2 (1024 * k.val + r.val) (1408 * mid (i 0).val + (i 2).val) := by
  have h0 : (i 0).val < 4 := (i 0).isLt
  have h1 : (i 1).val < 1024 := (i 1).isLt
  have h2 : (i 2).val < 1408 := (i 2).isLt
  rw [val_main_v24_apply, val_main_v23_apply, val_main_v22_apply, val_main_v21_apply]
  refine (Finset.sum_congr rfl fun k _ => congrArg₂ (fun u v : EReal => u * v) (g_at x2 _) (at2_eq (xn x0 x1) _)).trans ?_
  refine Eq.trans ?_ (sum_blocks 8 1024 8192 rfl (fun r => at2 (xn x0 x1) r (i 1).val
    * at2 (a := 8192) (b := 5632) x2 r (1408 * mid (i 0).val + (i 2).val)))
  refine Finset.sum_congr rfl fun r _ => ?_
  have e0 : (((i 1).val * 4 + (i 0).val) * 1408 + (i 2).val) / 5632 = (i 1).val := by omega
  have e1 : (((i 1).val * 4 + (i 0).val) * 1408 + (i 2).val) % 5632 = 1408 * (i 0).val + (i 2).val := by omega
  refine (mul_comm _ _).trans ?_
  show at2 (xn x0 x1) r.val ((((i 1).val * 4 + (i 0).val) * 1408 + (i 2).val) / 5632)
    * at2 (a := 8192) (b := 5632) x2 r.val (1408 * mid ((((i 1).val * 4 + (i 0).val) * 1408 + (i 2).val) % 5632 / 1408)
        + (((i 1).val * 4 + (i 0).val) * 1408 + (i 2).val) % 5632 % 1408) = _
  rw [e0, e1, show (1408 * (i 0).val + (i 2).val) / 1408 = (i 0).val from by omega,
    show (1408 * (i 0).val + (i 2).val) % 1408 = (i 2).val from by omega]

end Cert.Reference4Ideal.Own
end
-- ==== Proof.Dxn.lean ====
/-
  The gradient of the first FFN product by its rows, as its call leaves it: the sum over the four column blocks of the cotangent of block
  times shard.
-/
module

public import proofs.«01_k».proof.Proof.Mat
public import proofs.«01_k».proof.Proof.Gen.Kernel5Ideal.Value
public import Idealize.ShloMosaic.Lib.StableHlo.ReadAt

@[expose] public section

set_option maxRecDepth 16384

noncomputable section

namespace Cert.Kernel5Ideal.Own

open Cert.Kernel5Ideal Cert.Kernel5Ideal.Gen Cert.Mat
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a3 : Memref sig .tc .vmem S1024x1408 .bf16) (h3 : a3.IsWhole)
  (a4 : Memref sig .tc .vmem S1x1408x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x1408 .bf16) (x1 : Vec Ideal S1x1408x1024 .bf16) (xs : Vec Ideal S1024x1024 .f32)

/-- The first point of a row block starts the accumulator. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x1408) hz2, View.ld_unit_zero (S := S1x1408x1024) hz3]

/-- A point between adds to the accumulator. -/
theorem acc_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x1408) hz2,
    View.ld_unit_zero (S := S1x1408x1024) hz3, View.ld_unit_zero (S := S1024x1024) hz2]

/-- So does the last, -/
theorem acc_C (hc0 : ¬cond0_0 i) (hc1 : cond0_1 i) (hc2 : cond0_2 i) :
    sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz2]
  simp only [View.readAt_eq_ld, h3.read_unread, h4.read_unread, h6.read_unread, View.ld_unit_zero (S := S1024x1408) hz2,
    View.ld_unit_zero (S := S1x1408x1024) hz3, View.ld_unit_zero (S := S1024x1024) hz2]

/-- which also stores the accumulator in the block of the result. -/
theorem out_C (hc0 : ¬cond0_0 i) (hc1 : cond0_1 i) (hc2 : cond0_2 i) :
    out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero _ hz2]
  simp only [View.readAt_eq_ld, h3.read_unread, h4.read_unread, h6.read_unread, View.ld_unit_zero (S := S1024x1408) hz2,
    View.ld_unit_zero (S := S1x1408x1024) hz3, View.ld_unit_zero (S := S1024x1024) hz2]

/-- One product of a block of the cotangent and a shard, at an entry. -/
theorem pay1_at (y : S1024x1024.Idx) :
    (k0_pay1 x0 x1 y : EReal) = ∑ l : Fin 1408, at2 x0 (y 0).val l.val * at3 x1 0 l.val (y 1).val := by
  obtain ⟨p, q, rfl⟩ : ∃ p q, y = ValueIdx.ix2 p q := ⟨y 0, y 1, ValueIdx.eq_ix2 y⟩
  unfold k0_pay1
  pointwise
  exact Finset.sum_congr rfl fun l _ => congrArg₂ (fun u v : EReal => u * v) (at2_mk (a := 1024) (b := 1408) x0 p l) (at3_mk (d := 1) (a := 1408) (b := 1024) x1 0 l q)

theorem pay2_at (y : S1024x1024.Idx) : (k0_pay2 xs x0 x1 y : EReal) = xs y + k0_pay1 x0 x1 y := by
  obtain ⟨p, q, rfl⟩ : ∃ p q, y = ValueIdx.ix2 p q := ⟨y 0, y 1, ValueIdx.eq_ix2 y⟩
  unfold k0_pay2 k0_pay1
  pointwise

omit c
variable (m : (ℓ : Loc nD τ sig) → Buf (Elt Ideal) ℓ) (c : Dev nD)

/-- The cotangent and the weight as the call is given them. -/
def dgu : S8192x5632.Idx → EReal := m ((c : Thread nD τ).loc main_arg1)
def wi : S4x1024x1408.Idx → EReal := m ((c : Thread nD τ).loc main_arg0)

theorem ix0 : ∀ t : Fin cfg0.N, win0_0.index t = ![t.val / 4, t.val % 4] := (by decide +kernel : ∀ t : Fin grid0.N, _)
theorem ix1 : ∀ t : Fin cfg0.N, win0_1.index t = ![mid (t.val % 4), 0, 0] := (by decide +kernel : ∀ t : Fin grid0.N, _)

/-- The weight's shards, transposed by the host before the call. -/
theorem wt_at (i : S4x1408x1024.Idx) :
    (V m c main_v0 : S4x1408x1024.Idx → EReal) i = at3 (wi m c) (i 0).val (i 2).val (i 1).val := by
  obtain ⟨s, k, j, rfl⟩ : ∃ s k j, i = ValueIdx.ix3 s k j := ⟨i 0, i 1, i 2, ValueIdx.eq_ix3 i⟩
  refine Eq.trans ?_ (at3_mk (d := 4) (a := 1024) (b := 1408) (wi m c) s j k)
  unfold V wi
  after_reads_simp
  pointwise
  rfl

theorem blk0_at (t : Fin cfg0.N) (p : Fin 1024) (l : Fin 1408) :
    at2 (a := 1024) (b := 1408) (iblk m c 0 t) p.val l.val = at2 (dgu m c) (1024 * (t.val / 4) + p.val) (1408 * (t.val % 4) + l.val) := by
  have e : V m c main_arg1 = dgu m c := V_main_arg1 m c
  rw [← at2_mk]
  blk_simp [iblk]
  refine (congrFun e _).trans ((at2_eq (a := 8192) (b := 5632) _ _).trans ?_)
  congr 1
  · blk_simp [ix0]
    show t.val / 4 * 1024 + p.val = _
    omega
  · blk_simp [ix0]
    show t.val % 4 * 1408 + l.val = _
    omega

theorem blk1_at (t : Fin cfg0.N) (l : Fin 1408) (q : Fin 1024) :
    at3 (d := 1) (a := 1408) (b := 1024) (iblk m c 1 t) 0 l.val q.val = at3 (wi m c) (mid (t.val % 4)) q.val l.val := by
  refine (at3_mk (d := 1) (a := 1408) (b := 1024) (iblk m c 1 t) 0 l q).symm.trans ?_
  blk_simp [iblk]
  refine (wt_at m c _).trans ?_
  congr 1
  · blk_simp [ix1]
  · blk_simp [ix1]
  · blk_simp [ix1]

/-- What point `k` of row block `q` adds at an entry of the block. -/
def prt (q k r j : ℕ) : EReal :=
  ∑ l : Fin 1408, at2 (dgu m c) (1024 * q + r) (1408 * k + l.val) * at3 (wi m c) (mid k) j l.val

theorem step_at (t : Fin cfg0.N) (y : S1024x1024.Idx) :
    (k0_pay1 (iblk m c 0 t) (iblk m c 1 t) y : EReal) = prt m c (t.val / 4) (t.val % 4) (y 0).val (y 1).val := by
  obtain ⟨p, q, rfl⟩ : ∃ p q, y = ValueIdx.ix2 p q := ⟨y 0, y 1, ValueIdx.eq_ix2 y⟩
  refine (pay1_at _ _ _).trans (Finset.sum_congr rfl fun l _ => ?_)
  exact congrArg₂ (fun u v : EReal => u * v) (blk0_at m c t p l) (blk1_at m c t l q)

theorem rec_A (t : Fin cfg0.N) (h0 : t.val % 4 = 0) :
    (outsAt0 m c t.val t.isLt).2 = k0_pay1 (iblk m c 0 t) (iblk m c 1 t) := by
  rw [outsAt0_A m c t h0 (by omega) (by omega)]
  dsimp only
  rw [acc_A]

theorem rec_S (t : Fin cfg0.N) (h0 : t.val % 4 ≠ 0) :
    (outsAt0 m c t.val t.isLt).2
      = k0_pay2 (outsAt0 m c (t.val - 1) (lt_of_le_of_lt (Nat.sub_le t.val 1) t.isLt)).2 (iblk m c 0 t) (iblk m c 1 t) := by
  by_cases h2 : t.val % 4 = 3
  · rw [outsAt0_C m c t h0 (by omega) h2]
    dsimp only
    rw [acc_C]
  · rw [outsAt0_B m c t h0 (by omega) h2]
    dsimp only
    rw [acc_B]

theorem rec_R (t : Fin cfg0.N) (h2 : t.val % 4 = 3) : (outsAt0 m c t.val t.isLt).1 = (outsAt0 m c t.val t.isLt).2 := by
  rw [outsAt0_C m c t (by omega) (by omega) h2]
  dsimp only
  rw [acc_C, out_C]

/-- The accumulator after a point. -/
theorem scr_at (n : ℕ) (h : n < cfg0.N) (y : S1024x1024.Idx) :
    ((outsAt0 m c n h).2 y : EReal)
      = ∑ s ∈ Finset.range (n % 4 + 1), prt m c ((n - n % 4 + s) / 4) ((n - n % 4 + s) % 4) (y 0).val (y 1).val :=
  acc_sum 4 cfg0.N (fun n h y => (outsAt0 m c n h).2 y) (fun n (y : S1024x1024.Idx) => prt m c (n / 4) (n % 4) (y 0).val (y 1).val)
    (fun n h y h0 => (congrFun (rec_A m c ⟨n, h⟩ h0) y).trans (step_at m c ⟨n, h⟩ y))
    (fun n h y h0 => (congrFun (rec_S m c ⟨n, h⟩ h0) y).trans ((pay2_at _ _ _ y).trans
      (congrArg (fun v : EReal => _ + v) (step_at m c ⟨n, h⟩ y)))) n h y

/-- The block of the result after the last point of a row block. -/
theorem res_at (n : ℕ) (h : n < cfg0.N) (h2 : n % 4 = 3) (y : S1024x1024.Idx) :
    ((outsAt0 m c n h).1 y : EReal) = ∑ k : Fin 4, prt m c (n / 4) k.val (y 0).val (y 1).val := by
  refine (congrFun (rec_R m c ⟨n, h⟩ h2) y).trans ((scr_at m c n h y).trans ?_)
  rw [h2, Finset.sum_range]
  refine Finset.sum_congr rfl fun k _ => ?_
  have := k.isLt
  congr 1 <;> omega

/-- The result of the call, at an entry. -/
theorem result_at (i : S8192x1024.Idx) :
    (Cert.Kernel5Ideal.Value.G2 m c i : EReal)
      = ∑ k : Fin 4, ∑ l : Fin 1408, at2 (dgu m c) (i 0).val (1408 * k.val + l.val) * at3 (wi m c) (mid k.val) (i 1).val l.val := by
  have hi0 : (i 0).val < 8192 := (i 0).isLt
  have hi1 : (i 1).val < 1024 := (i 1).isLt
  have hp : Cert.Kernel5Ideal.Value.pt2Of i < cfg0.N := by
    rw [show cfg0.N = 32 from N_0]
    show 4 * (1 * ((i 0).val / 1024 - 0) + 1 * ((i 1).val / 1024 - 0)) + 3 < 32
    omega
  have eq : Cert.Kernel5Ideal.Value.pt2Of i / 4 = (i 0).val / 1024 := by
    show (4 * (1 * ((i 0).val / 1024 - 0) + 1 * ((i 1).val / 1024 - 0)) + 3) / 4 = _
    omega
  have er : Cert.Kernel5Ideal.Value.pt2Of i % 4 = 3 := by
    show (4 * (1 * ((i 0).val / 1024 - 0) + 1 * ((i 1).val / 1024 - 0)) + 3) % 4 = _
    omega
  have e := res_at m c _ hp er (Cert.Kernel5Ideal.Value.loc2Of i)
  rw [Cert.Kernel5Ideal.Value.outsAt0_sweep] at e
  unfold Cert.Kernel5Ideal.Value.G2
  rw [dif_pos hp]
  refine e.trans ?_
  rw [eq]
  unfold prt
  refine Finset.sum_congr rfl fun k _ => Finset.sum_congr rfl fun l _ => ?_
  show at2 _ (1024 * ((i 0).val / 1024) + (i 0).val % 1024) _ * at3 _ _ ((i 1).val % 1024) _ = _
  rw [Nat.div_add_mod, Nat.mod_eq_of_lt hi1]

end Cert.Kernel5Ideal.Own
end
-- ==== Proof.DxnRef.lean ====
/-
  The gradient of the first FFN product by its rows, in the reference: one product over all the columns, taken shard by shard.
-/
module

public import proofs.«01_k».proof.Proof.Mat
public import proofs.«01_k».proof.Proof.Gen.Reference5Ideal.Read

@[expose] public section

set_option maxRecDepth 16384

noncomputable section

namespace Cert.Reference5Ideal.Own

open Cert.Reference5Ideal Cert.Reference5Ideal.Gen Cert.Reference5Ideal.Read Cert.Mat
open Idealize.ShloMosaic Idealize.ShloMosaic.TcCoe Idealize.SL.Sem Idealize.ShloMosaic.StableHlo

variable (x0 : (⟨S4x1024x1408, .bf16⟩ : BufTy).Contents (Elt Ideal)) (x1 : (⟨S8192x5632, .bf16⟩ : BufTy).Contents (Elt Ideal))

/-- The weight, its shards side by side. -/
theorem w_at (i : S1024x5632.Idx) :
    (val_main_v3 (F := Ideal) x0 i : EReal) = at3 (d := 4) (a := 1024) (b := 1408) x0 ((i 1).val / 1408) (i 0).val ((i 1).val % 1408) := by
  have h0 : (i 0).val < 1024 := (i 0).isLt
  have h1 : (i 1).val < 5632 := (i 1).isLt
  rw [val_main_v3_apply, val_main_v2_apply, val_main_v1_apply]
  refine (at3_eq (d := 4) (a := 1024) (b := 1408) x0 _).trans ?_
  congr 1
  · show ((i 0).val * 5632 + (i 1).val) / 1408 % 4 = _; omega
  · show ((i 0).val * 5632 + (i 1).val) / 5632 = _; omega
  · show ((i 0).val * 5632 + (i 1).val) % 1408 = _; omega

/-- The cotangent, its column blocks in the order of the shards. -/
theorem g_at (i : S8192x5632.Idx) :
    (val_main_v8 (F := Ideal) x1 i : EReal)
      = at2 (a := 8192) (b := 5632) x1 (i 0).val (1408 * mid ((i 1).val / 1408) + (i 1).val % 1408) := by
  have h0 : (i 0).val < 8192 := (i 0).isLt
  have h1 : (i 1).val < 5632 := (i 1).isLt
  rw [val_main_v8_apply, val_main_v7_apply, val_main_v6_apply, val_main_v5_apply]
  refine (at2_eq (a := 8192) (b := 5632) x1 _).trans ?_
  unfold mid
  have e0 : ((i 0).val * 5632 + (i 1).val) / 5632 = (i 0).val := by omega
  have e1 : ((i 0).val * 5632 + (i 1).val) / 2816 % 2 = (i 1).val / 1408 / 2 := by omega
  have e2 : ((i 0).val * 5632 + (i 1).val) / 1408 % 2 = (i 1).val / 1408 % 2 := by omega
  have e3 : ((i 0).val * 5632 + (i 1).val) % 1408 = (i 1).val % 1408 := by omega
  have b1 : (i 1).val / 1408 / 2 < 2 := by omega
  have b2 : (i 1).val / 1408 % 2 < 2 := by omega
  have b3 : (i 1).val % 1408 < 1408 := by omega
  congr 1
  · show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) / 5632 = _
    rw [e0, e1, e2, e3]; omega
  · show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) % 5632 = _
    rw [e0, e1, e2, e3]; omega

theorem result_at (i : S8192x1024.Idx) :
    (val_main_v9 (F := Ideal) x0 x1 i : EReal)
      = ∑ k : Fin 4, ∑ l : Fin 1408, at2 (a := 8192) (b := 5632) x1 (i 0).val (1408 * k.val + l.val)
          * at3 (d := 4) (a := 1024) (b := 1408) x0 (mid k.val) (i 1).val l.val := by
  rw [val_main_v9_apply]
  refine (Finset.sum_congr rfl fun k _ => congrArg₂ (fun u v : EReal => u * v) (g_at x1 _) (w_at x0 _)).trans ?_
  refine (sum_blocks 4 1408 5632 rfl (fun k => at2 (a := 8192) (b := 5632) x1 (i 0).val (1408 * mid (k / 1408) + k % 1408)
    * at3 (d := 4) (a := 1024) (b := 1408) x0 (k / 1408) (i 1).val (k % 1408))).trans ?_
  refine Eq.trans ?_ (sum_mid fun a b => ∑ l : Fin 1408, at2 (a := 8192) (b := 5632) x1 (i 0).val (1408 * a + l.val)
    * at3 (d := 4) (a := 1024) (b := 1408) x0 b (i 1).val l.val).symm
  refine Finset.sum_congr rfl fun s _ => Finset.sum_congr rfl fun l _ => ?_
  have hl := l.isLt
  rw [show (1408 * s.val + l.val) / 1408 = s.val from by omega, show (1408 * s.val + l.val) % 1408 = l.val from by omega]

end Cert.Reference5Ideal.Own
end
-- ==== Proof.FfnRun.lean ====
module

public import proofs.«01_k».proof.Proof.Gen.Kernel2Ideal.Frame

/-! The run of the FFN's program, with every buffer named.

The generated frame says that the arguments end unchanged. The same launch says more: when the program ends, every
buffer it allocates holds the contents that the fold through its host operations and its four kernel calls leaves. -/

@[expose] public section

set_option maxRecDepth 16384

noncomputable section

namespace Cert.Kernel2Ideal.Own

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends, with every buffer that is not scratch at the last boundary's contents. -/
theorem ends_at : θ_run defs (onTc (τ := τ) (main (F := F))) ⟨m, fun _ => 0, ρ⟩ (fun r =>
      ∀ (c : Dev nD) (b : Ref sig .tc), (Proc.devRef .tc b : DevRef τ sig).isScoped = false →
        r.2.mem ((c.tc : Thread nD τ).loc b) = W6 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c b hb => h c _ (mem_uc b (by simp [hb])))

end Cert.Kernel2Ideal.Own

end
-- ==== Proof.FfnRef.lean ====
/-
  The reference of the FFN, entry by entry.
-/
module

public import proofs.«01_k».proof.Proof.FfnReal
public import proofs.«01_k».proof.Proof.Gen.Reference2Ideal.Read

@[expose] public section

set_option maxRecDepth 16384

noncomputable section

namespace Cert.Reference2Ideal.Own

open Cert.Reference2Ideal Cert.Reference2Ideal.Gen Cert.Reference2Ideal.Read Cert.Mat Cert.Ffn
open Idealize.ShloMosaic Idealize.ShloMosaic.TcCoe Idealize.SL.Sem Idealize.ShloMosaic.StableHlo

variable (x0 : (⟨S8192x1024, .f32⟩ : BufTy).Contents (Elt Ideal)) (x1 : (⟨S1024, .f32⟩ : BufTy).Contents (Elt Ideal))
  (x2 : (⟨S4x1024x1408, .bf16⟩ : BufTy).Contents (Elt Ideal)) (x3 : (⟨S2816x1024, .bf16⟩ : BufTy).Contents (Elt Ideal))
  (x4 : (⟨S8192x1024, .bf16⟩ : BufTy).Contents (Elt Ideal))

/-- One over the root of a row's mean square. -/
theorem scl_at (i : S8192x1.Idx) : (val_main_v7 (F := Ideal) x0 i : EReal) = scl x0 (i 0).val := by
  rw [val_main_v7_apply, val_main_v6_apply, val_main_v4_apply, val_main_v2_apply, val_main_v1_apply, val_main_v3_apply, val_main_v5_apply]
  have e : ∀ k : Fin 1024, (val_main_v0 (F := Ideal) x0 (idx_main_v1 (idx_main_v2 i) k) : EReal)
      = at2 (a := 8192) (b := 1024) x0 (i 0).val k.val * at2 (a := 8192) (b := 1024) x0 (i 0).val k.val := fun k => by
    rw [val_main_v0_apply]
    exact congrArg₂ (fun u v : EReal => u * v) (at2_eq (a := 8192) (b := 1024) x0 _) (at2_eq (a := 8192) (b := 1024) x0 _)
  have z : (val_main_cst (F := Ideal) (Shape.Idx.first h_S_) : EReal) = 0 := Ideal.ofBits_zero_f32
  refine Eq.trans (congrArg (fun u : EReal => Ideal.rsqrt (Ideal.div u width + eps)) ?_) rfl
  refine (congrArg₂ (fun u v : EReal => u + v) z (Finset.sum_congr rfl fun k _ => e k)).trans (zero_add _)

/-- The rows after the norm. -/
theorem nrm_at (i : S8192x1024.Idx) : (val_main_v12 (F := Ideal) x0 x1 i : EReal) = nrm x0 x1 (i 0).val (i 1).val := by
  rw [val_main_v12_apply, val_main_v9_apply, val_main_v8_apply, val_main_v11_apply, val_main_v10_apply]
  refine congrArg₂ (fun u v : EReal => u * v) (congrArg₂ (fun u v : EReal => u * v) (at2_eq (a := 8192) (b := 1024) x0 i) (scl_at x0 _)) ?_
  exact at1_eq (a := 1024) x1 _

/-- The first weight, its shards side by side. -/
theorem w_at (i : S1024x5632.Idx) :
    (val_main_v15 (F := Ideal) x2 i : EReal) = at3 (d := 4) (a := 1024) (b := 1408) x2 ((i 1).val / 1408) (i 0).val ((i 1).val % 1408) := by
  have h0 : (i 0).val < 1024 := (i 0).isLt
  have h1 : (i 1).val < 5632 := (i 1).isLt
  rw [val_main_v15_apply, val_main_v14_apply, val_main_v13_apply]
  refine (at3_eq (d := 4) (a := 1024) (b := 1408) x2 _).trans ?_
  congr 1
  · show ((i 0).val * 5632 + (i 1).val) / 1408 % 4 = _
    omega
  · show ((i 0).val * 5632 + (i 1).val) / 5632 = _
    omega
  · show ((i 0).val * 5632 + (i 1).val) % 1408 = _
    omega

/-- The first product. -/
theorem pre_at (i : S8192x5632.Idx) :
    (val_main_v16 (F := Ideal) x0 x1 x2 i : EReal) = pre x0 x1 x2 (i 0).val ((i 1).val / 1408) ((i 1).val % 1408) := by
  rw [val_main_v16_apply]
  exact Finset.sum_congr rfl fun k _ => congrArg₂ (fun u v : EReal => u * v) (nrm_at x0 x1 _) (w_at x2 _)

theorem gate_at (i : S8192x2816.Idx) : (val_main_v18 (F := Ideal) x0 x1 x2 i : EReal) = gate x0 x1 x2 (i 0).val (i 1).val := by
  rw [val_main_v18_apply, pre_at]
  rfl

theorem lin_at (i : S8192x2816.Idx) : (val_main_v19 (F := Ideal) x0 x1 x2 i : EReal) = lin x0 x1 x2 (i 0).val (i 1).val := by
  rw [val_main_v19_apply, pre_at]
  have b : (i 1).val < 2816 := (i 1).isLt
  show pre x0 x1 x2 (i 0).val ((2816 + (i 1).val) / 1408) ((2816 + (i 1).val) % 1408) = _
  rw [show (2816 + (i 1).val) / 1408 = 2 + (i 1).val / 1408 by omega, show (2816 + (i 1).val) % 1408 = (i 1).val % 1408 by omega]
  rfl

/-- The sigmoid of the gate. -/
theorem sig_at (i : S8192x2816.Idx) :
    (val_main_v20_2 (F := Ideal) x0 x1 x2 i : EReal) = Ideal.logistic (gate x0 x1 x2 (i 0).val (i 1).val) := by
  rw [val_main_v20_2_apply, val_main_call0_v4_apply, val_main_call0_v3_apply, val_main_call0_v2_apply, val_main_call0_v1_apply,
    val_main_call0_v0_apply]
  have o : (FloatOps.ofBits (F := Ideal) .f32 0x3F800000#32 : EReal) = 1 := Ideal.ofBits_one_f32
  rw [val_main_call0_cst_apply, val_main_call0_cst_0_apply]
  exact congrArg₂ (fun u v : EReal => Ideal.div u (u + Ideal.exp (-v))) o (gate_at x0 x1 x2 i)

theorem act_at (i : S8192x2816.Idx) : (val_main_v21 (F := Ideal) x0 x1 x2 i : EReal) = act x0 x1 x2 (i 0).val (i 1).val := by
  rw [val_main_v21_apply, val_main_v20_0_apply]
  exact congrArg₂ (fun u v : EReal => u * v) (congrArg₂ (fun u v : EReal => u * v) (gate_at x0 x1 x2 i) (sig_at x0 x1 x2 i)) (lin_at x0 x1 x2 i)

/-- The output. -/
theorem out_at (i : S8192x1024.Idx) : (val_main_v25 (F := Ideal) x0 x1 x2 x3 i : EReal) = out x0 x1 x2 x3 (i 0).val (i 1).val := by
  rw [val_main_v25_apply, val_main_v24_apply, val_main_v23_apply, val_main_v22_apply]
  refine congrArg₂ (fun u v : EReal => u + half * v) (at2_eq (a := 8192) (b := 1024) x0 i) (Finset.sum_congr rfl fun k _ => ?_)
  refine congrArg₂ (fun u v : EReal => u * v) (act_at x0 x1 x2 _) ?_
  rw [val_main_v17_apply]
  exact at2_eq (a := 2816) (b := 1024) x3 _

/-- The cotangent of the activations: the half goes in front of the sum. -/
theorem cot_at (i : S8192x2816.Idx) : (val_main_v29 (F := Ideal) x3 x4 i : EReal) = cot x3 x4 (i 0).val (i 1).val := by
  rw [val_main_v29_apply]
  refine Eq.trans ?_ (half_mul_sum _ _).symm
  refine Finset.sum_congr rfl fun k _ => ?_
  rw [val_main_v28_apply, val_main_v27_apply, val_main_v26_apply, val_main_v17_apply]
  refine (mul_assoc _ _ _).trans ?_
  exact congrArg (fun u : EReal => half * u) (congrArg₂ (fun u v : EReal => u * v) (at2_eq (a := 8192) (b := 1024) x4 _) (at2_eq (a := 2816) (b := 1024) x3 _))

/-- The cotangent of the linear half, -/
theorem dlin_at (i : S8192x2816.Idx) : (val_main_v30 (F := Ideal) x0 x1 x2 x3 x4 i : EReal) = dlin x0 x1 x2 x3 x4 (i 0).val (i 1).val := by
  rw [val_main_v30_apply, val_main_v20_0_apply]
  refine (mul_comm _ _).trans ?_
  exact congrArg₂ (fun u v : EReal => u * v) (cot_at x3 x4 i) (congrArg₂ (fun u v : EReal => u * v) (gate_at x0 x1 x2 i) (sig_at x0 x1 x2 i))

section
variable (h0 : ∀ i, IsReal (x0 i)) (h1 : ∀ i, IsReal (x1 i)) (h2 : ∀ i, IsReal (x2 i)) (h3 : ∀ i, IsReal (x3 i)) (h4 : ∀ i, IsReal (x4 i))
include h0 h1 h2 h3 h4

/-- and of the gate. -/
theorem dgate_at (i : S8192x2816.Idx) : (val_main_v32 (F := Ideal) x0 x1 x2 x3 x4 i : EReal) = dgate x0 x1 x2 x3 x4 (i 0).val (i 1).val := by
  rw [val_main_v32_apply, val_main_call1_v1_apply, val_main_call1_v2_apply, val_main_call1_v0_apply, val_main_v31_apply, val_main_v20_1_apply,
    val_main_call0_v7_apply, val_main_call0_v6_apply, val_main_call0_cst_1_apply]
  have o : (FloatOps.ofBits (F := Ideal) .f32 0x3F800000#32 : EReal) = 1 := Ideal.ofBits_one_f32
  have eg := gate_at x0 x1 x2 i
  have el := lin_at x0 x1 x2 i
  have es := sig_at x0 x1 x2 i
  have ec := cot_at x3 x4 i
  rw [o, eg, el, es, ec]
  exact gate_grad (pre_real h0 h1 h2 _ _ _) ((cot_real h3 h4 _ _).mul (pre_real h0 h1 h2 _ _ _))

theorem halves_at (i : S8192x5632.Idx) :
    (val_main_v33 (F := Ideal) x0 x1 x2 x3 x4 i : EReal)
      = if (i 1).val < 2816 then dgate x0 x1 x2 x3 x4 (i 0).val (i 1).val else dlin x0 x1 x2 x3 x4 (i 0).val ((i 1).val - 2816) := by
  have b : (i 1).val < 5632 := (i 1).isLt
  obtain ⟨r, n, rfl⟩ : ∃ r n, i = ValueIdx.ix2 r n := ⟨i 0, i 1, ValueIdx.eq_ix2 i⟩
  by_cases h : n.val < 2816
  · rw [show ((ValueIdx.ix2 r n : S8192x5632.Idx) 1).val = n.val from rfl, if_pos h]
    refine Eq.trans ?_ (dgate_at x0 x1 x2 x3 x4 h0 h1 h2 h3 h4 (ValueIdx.ix2 r ⟨n.val, h⟩))
    unfold val_main_v33
    exact concatenate_pair_apply_left (s₁ := S8192x2816) (s₂ := S8192x2816) (t := S8192x5632) 1 _ _ _ _ rfl (ValueIdx.ix2 r ⟨n.val, h⟩)
      fun b => by fin_cases b <;> rfl
  · rw [show ((ValueIdx.ix2 r n : S8192x5632.Idx) 1).val = n.val from rfl, if_neg h]
    have hn : n.val - 2816 < 2816 := by have := n.isLt; omega
    refine Eq.trans ?_ (dlin_at x0 x1 x2 x3 x4 (ValueIdx.ix2 r ⟨n.val - 2816, hn⟩))
    unfold val_main_v33
    refine concatenate_pair_apply_right (s₁ := S8192x2816) (s₂ := S8192x2816) (t := S8192x5632) 1 _ _ _ _ rfl rfl
      (ValueIdx.ix2 r ⟨n.val - 2816, hn⟩) (fun b hb => ?_) ?_
    · fin_cases b
      · rfl
      · exact absurd rfl hb
    · show n.val - 2816 + 2816 = n.val
      omega

/-- The gradient that leaves the block. -/
theorem dgu_at (i : S8192x5632.Idx) : (val_main_v37 (F := Ideal) x0 x1 x2 x3 x4 i : EReal) = dgu x0 x1 x2 x3 x4 (i 0).val (i 1).val := by
  have b0 : (i 0).val < 8192 := (i 0).isLt
  have b1 : (i 1).val < 5632 := (i 1).isLt
  rw [val_main_v37_apply, val_main_v36_apply, val_main_v35_apply, val_main_v34_apply]
  refine (halves_at x0 x1 x2 x3 x4 h0 h1 h2 h3 h4 _).trans ?_
  generalize hr : (i 0).val = r at b0 ⊢
  generalize hn : (i 1).val = n at b1 ⊢
  have e0 : (r * 5632 + n) / 5632 = r := by omega
  have e1 : (r * 5632 + n) / 2816 % 2 = n / 2816 := by omega
  have e2 : (r * 5632 + n) / 1408 % 2 = n / 1408 % 2 := by omega
  have e3 : (r * 5632 + n) % 1408 = n % 1408 := by omega
  have b2 : n / 2816 < 2 := by omega
  have b3 : n / 1408 % 2 < 2 := by omega
  have b4 : n % 1408 < 1408 := by omega
  have k0 : (idx_main_v34 (idx_main_v35 (idx_main_v36 i)) 0).val = r := by
    show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) / 5632 = _
    rw [hr, hn, e0, e1, e2, e3]; omega
  have k1 : (idx_main_v34 (idx_main_v35 (idx_main_v36 i)) 1).val = 2816 * (n / 1408 % 2) + 1408 * (n / 2816) + n % 1408 := by
    show (((((i 0).val * 5632 + (i 1).val) / 5632 * 2 + ((i 0).val * 5632 + (i 1).val) / 1408 % 2) * 2 + ((i 0).val * 5632 + (i 1).val) / 2816 % 2) * 1408 + ((i 0).val * 5632 + (i 1).val) % 1408) % 5632 = _
    rw [hr, hn, e0, e1, e2, e3]; omega
  rw [k0, k1]
  unfold dgu
  by_cases h : n / 1408 % 2 = 0
  · rw [if_pos (by omega), if_pos h, h, Nat.mul_zero, Nat.zero_add]
  · rw [if_neg (by omega), if_neg h, show 2816 * (n / 1408 % 2) + 1408 * (n / 2816) + n % 1408 - 2816 = 1408 * (n / 2816) + n % 1408 by omega]

end

end Cert.Reference2Ideal.Own
end
-- ==== Proof.lean ====
/-
  The proof of `Cert.Claim`: for each program its frames, that the kernel's two texts are the same, and that its results are the
  reference's.
-/
module

public import proofs.«01_k».proof.Defs
public import proofs.«01_k».proof.Proof.Gen.Kernel.Frame
public import proofs.«01_k».proof.Proof.Gen.KernelIdeal.Frame
public import proofs.«01_k».proof.Proof.KernelResult
public import proofs.«01_k».proof.Proof.RefResult
public import proofs.«01_k».proof.Proof.Finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.NormBwdFinite
public import proofs.«01_k».proof.Proof.NormBwdRef
public import proofs.«01_k».proof.Proof.AdamWi
public import proofs.«01_k».proof.Proof.AdamWo
public import proofs.«01_k».proof.Proof.AdamSquare
public import proofs.«01_k».proof.Proof.AdamGlu
public import proofs.«01_k».proof.Proof.AdamProj
public import proofs.«01_k».proof.Proof.SmallRun
public import proofs.«01_k».proof.Proof.SmallRef
public import proofs.«01_k».proof.Proof.Dwo
public import proofs.«01_k».proof.Proof.DwoRef
public import proofs.«01_k».proof.Proof.Dwi
public import proofs.«01_k».proof.Proof.DwiRef
public import proofs.«01_k».proof.Proof.Dxn
public import proofs.«01_k».proof.Proof.DxnRef
public import proofs.«01_k».proof.Proof.FfnArr
public import proofs.«01_k».proof.Proof.FfnRun
public import proofs.«01_k».proof.Proof.FfnRef
public import proofs.«01_k».proof.Proof.FfnFinite

@[expose] public section

namespace Cert.Proof

open Idealize.ShloMosaic Idealize.ShloMosaic.TcCoe Idealize.SL.Sem
open Cert.Own (xa xb xd xu xg colR planesC preFacts preFacts2)

/-- The kernel's results are the states, the adjoints and the gradient of the multipliers; so are the reference's. -/
theorem values : letI := Cert.KernelIdeal.Gen.facts; letI := Cert.ReferenceIdeal.Gen.facts; letI := preFacts
    Cert.algebraic_KernelIdeal_ReferenceIdeal_pre_finite := by
  intro m g m' g' hp hm
  have ea : ∀ c, xa m c = Cert.KernelIdeal.Own.col (colR (xa m c)) := fun c => Cert.Own.pre_a m c hp
  have eb : ∀ c, xb m c = Cert.KernelIdeal.Own.col (colR (xb m c)) := fun c => Cert.Own.pre_b m c hp
  have ed : ∀ c, xd m c = Cert.KernelIdeal.Own.col (colR (xd m c)) := fun c => Cert.Own.pre_d m c hp
  have eu : ∀ c, xu m c = Cert.Cx.planes (n := 8192) (m := 2048) (planesC (xu m c)) := fun c => Cert.Own.pre_u m c hp
  have eg : ∀ c, xg m c = Cert.Cx.planes (n := 8192) (m := 2048) (planesC (xg m c)) := fun c => Cert.Own.pre_g m c hp
  refine ⟨fun c => Cert.KernelIdeal.Gen.W30 m g c (Proc.devRef .tc Cert.KernelIdeal.main_v44),
    fun c => Cert.KernelIdeal.Gen.W30 m g c (Proc.devRef .tc Cert.KernelIdeal.main_v91_0),
    fun c => Cert.KernelIdeal.Gen.W30 m g c (Proc.devRef .tc Cert.KernelIdeal.main_v92), ?_, ?_⟩
  · refine (θ_run Cert.KernelIdeal.defs _ _).mono (fun r h c => ?_) (Cert.KernelIdeal.Own.ends_at m g)
    exact ⟨h c _ rfl, h c _ rfl, h c _ rfl, (h c _ rfl).trans (Cert.KernelIdeal.Gen.W30_main_arg0 m g c), (h c _ rfl).trans (Cert.KernelIdeal.Gen.W30_main_arg1 m g c),
      (h c _ rfl).trans (Cert.KernelIdeal.Gen.W30_main_arg2 m g c), (h c _ rfl).trans (Cert.KernelIdeal.Gen.W30_main_arg3 m g c),
      (h c _ rfl).trans (Cert.KernelIdeal.Gen.W30_main_arg4 m g c), (h c _ rfl).trans (Cert.KernelIdeal.Gen.W30_main_arg5 m g c),
      (h c _ rfl).trans (Cert.KernelIdeal.Gen.W30_main_arg6 m g c)⟩
  · refine (θ_run Cert.ReferenceIdeal.defs _ _).mono (fun r h c => ?_) (Cert.ReferenceIdeal.Own.ends_at m' g')
    have fa := (hm c).1.trans (ea c)
    have fb := (hm c).2.1.trans (eb c)
    have fd := (hm c).2.2.1.trans (ed c)
    have fu := (hm c).2.2.2.2.2.1.trans (eu c)
    have fg := (hm c).2.2.2.2.2.2.trans (eg c)
    refine ⟨?_, ?_, ?_, (h.1 c _ rfl).trans (Cert.ReferenceIdeal.Own.args_keep m' c Cert.ReferenceIdeal.main_arg0 (by simp)),
      (h.1 c _ rfl).trans (Cert.ReferenceIdeal.Own.args_keep m' c Cert.ReferenceIdeal.main_arg1 (by simp)),
      (h.1 c _ rfl).trans (Cert.ReferenceIdeal.Own.args_keep m' c Cert.ReferenceIdeal.main_arg2 (by simp)),
      (h.1 c _ rfl).trans (Cert.ReferenceIdeal.Own.args_keep m' c Cert.ReferenceIdeal.main_arg3 (by simp)),
      (h.1 c _ rfl).trans (Cert.ReferenceIdeal.Own.args_keep m' c Cert.ReferenceIdeal.main_arg4 (by simp)),
      (h.1 c _ rfl).trans (Cert.ReferenceIdeal.Own.args_keep m' c Cert.ReferenceIdeal.main_arg5 (by simp)),
      (h.1 c _ rfl).trans (Cert.ReferenceIdeal.Own.args_keep m' c Cert.ReferenceIdeal.main_arg6 (by simp))⟩
    · exact (h.1 c _ rfl).trans ((Cert.ReferenceIdeal.Own.end_v38 m' c _ _ _ _ fa fb fd fu).trans
        (Cert.KernelIdeal.Own.end_v44 m g c _ _ _ _ (ea c) (eb c) (ed c) (eu c)).symm)
    · exact (h.1 c _ rfl).trans ((Cert.ReferenceIdeal.Own.end_v39 m' c _ _ _ _ _ fa fb fd fu fg).trans
        (Cert.KernelIdeal.Own.end_v91_0 m g c _ _ _ _ _ (ea c) (eb c) (ed c) (eu c) (eg c)).symm)
    · exact (h.1 c _ rfl).trans ((Cert.ReferenceIdeal.Own.end_v42 m' c _ _ _ _ _ fa fb fd fu fg).trans
        (Cert.KernelIdeal.Own.end_v92 m g c _ _ _ _ _ (ea c) (eb c) (ed c) (eu c) (eg c)).symm)

/-- The output of the FFN, and the gradient of its gate and of its linear half. -/
theorem values2 : letI := Cert.Kernel2Ideal.Gen.facts; letI := Cert.Reference2Ideal.Gen.facts; letI := preFacts2
    Cert.algebraic_Kernel2Ideal_Reference2Ideal_pre_finite2 := by
  intro m g m' g' hp hm
  refine ⟨fun c i => Cert.Ffn.out (Cert.Kernel2Ideal.Own.hid m c) (Cert.Kernel2Ideal.Own.gain m c) (Cert.Kernel2Ideal.Own.wi m c)
      (Cert.Kernel2Ideal.Own.wo m c) (i 0).val (i 1).val,
    fun c i => Cert.Ffn.dgu (Cert.Kernel2Ideal.Own.hid m c) (Cert.Kernel2Ideal.Own.gain m c) (Cert.Kernel2Ideal.Own.wi m c)
      (Cert.Kernel2Ideal.Own.wo m c) (Cert.Kernel2Ideal.Own.dout m c) (i 0).val (i 1).val, ?_, ?_⟩
  · refine (θ_run Cert.Kernel2Ideal.defs _ _).mono (fun r h c => ?_) (Cert.Kernel2Ideal.Own.ends_at m g)
    exact ⟨(h c _ rfl).trans (Cert.Kernel2Ideal.Own.W6_out m g c), (h c _ rfl).trans (Cert.Kernel2Ideal.Own.W6_dgu m g c),
      (h c _ rfl).trans (Cert.Kernel2Ideal.Gen.W6_main_arg0 m g c), (h c _ rfl).trans (Cert.Kernel2Ideal.Gen.W6_main_arg1 m g c),
      (h c _ rfl).trans (Cert.Kernel2Ideal.Gen.W6_main_arg2 m g c), (h c _ rfl).trans (Cert.Kernel2Ideal.Gen.W6_main_arg3 m g c),
      (h c _ rfl).trans (Cert.Kernel2Ideal.Gen.W6_main_arg4 m g c)⟩
  · refine (θ_run Cert.Reference2Ideal.defs _ _).mono (fun r h c => ⟨(h c).1.trans ?_, (h c).2.1.trans ?_, (h c).2.2⟩) (Cert.Reference2Ideal.Value.run m' g')
    · refine (Cert.Reference2Ideal.Read.val_main_v25_eq _ _ _ _).trans (funext fun i => ?_)
      rw [(hm c).1, (hm c).2.1, (hm c).2.2.1, (hm c).2.2.2.1]
      exact Cert.Reference2Ideal.Own.out_at _ _ _ _ i
    · refine (Cert.Reference2Ideal.Read.val_main_v37_eq _ _).trans (funext fun i => ?_)
      rw [(hm c).1, (hm c).2.1, (hm c).2.2.1, (hm c).2.2.2.1, (hm c).2.2.2.2]
      exact Cert.Reference2Ideal.Own.dgu_at _ _ _ _ _ (Cert.Own.hid_real m c hp) (Cert.Own.gain_real m c hp) (Cert.Own.wi_real m c hp)
        (Cert.Own.wo_real m c hp) (Cert.Own.dout_real m c hp) i

/-- The gradient of the FFN's second weight. -/
theorem values3 : letI := Cert.Kernel3Ideal.Gen.facts; letI := Cert.Reference3Ideal.Gen.facts
    Cert.algebraic_Kernel3Ideal_Reference3Ideal := by
  intro m g m' g' _ hm
  refine ⟨fun c => Cert.Kernel3Ideal.Own.grad m c, ?_, ?_⟩
  · refine (θ_run Cert.Kernel3Ideal.defs _ _).mono (fun r h c => ?_) (Cert.Kernel3Ideal.Value.run_blocks m g)
    exact ⟨(h c).1.trans (Cert.Kernel3Ideal.Own.result_eq m c), (h c).2⟩
  · refine (θ_run Cert.Reference3Ideal.defs _ _).mono (fun r h c => ⟨(h c).1.trans ?_, (h c).2⟩) (Cert.Reference3Ideal.Value.run m' g')
    refine (Cert.Reference3Ideal.Read.val_main_v29_eq _ _ _ _).trans (funext fun i => ?_)
    refine (Cert.Reference3Ideal.Own.result_at _ _ _ _ i).trans ?_
    rw [(hm c).1, (hm c).2.1, (hm c).2.2.1, (hm c).2.2.2]
    rfl

/-- The gradient of the FFN's first weight. -/
theorem values4 : letI := Cert.Kernel4Ideal.Gen.facts; letI := Cert.Reference4Ideal.Gen.facts
    Cert.algebraic_Kernel4Ideal_Reference4Ideal := by
  intro m g m' g' _ hm
  refine ⟨fun c => Cert.Kernel4Ideal.Own.grad m c, ?_, ?_⟩
  · refine (θ_run Cert.Kernel4Ideal.defs _ _).mono (fun r h c => ?_) (Cert.Kernel4Ideal.Value.run_blocks m g)
    exact ⟨(h c).1.trans (Cert.Kernel4Ideal.Own.result_eq m c), (h c).2⟩
  · refine (θ_run Cert.Reference4Ideal.defs _ _).mono (fun r h c => ⟨(h c).1.trans ?_, (h c).2⟩) (Cert.Reference4Ideal.Value.run m' g')
    refine (Cert.Reference4Ideal.Read.val_main_v24_eq _ _ _).trans (funext fun i => ?_)
    refine (Cert.Reference4Ideal.Own.result_at _ _ _ i).trans ?_
    rw [(hm c).1, (hm c).2.1, (hm c).2.2]
    rfl

/-- The gradient of the FFN's rows after the norm. -/
theorem values5 : letI := Cert.Kernel5Ideal.Gen.facts; letI := Cert.Reference5Ideal.Gen.facts
    Cert.algebraic_Kernel5Ideal_Reference5Ideal := by
  intro m g m' g' _ hm
  refine ⟨fun c => Cert.Kernel5Ideal.Value.G2 m c, ?_, ?_⟩
  · exact (θ_run Cert.Kernel5Ideal.defs _ _).mono (fun r h c => h c) (Cert.Kernel5Ideal.Value.run m g)
  · refine (θ_run Cert.Reference5Ideal.defs _ _).mono (fun r h c => ⟨(h c).1.trans ?_, (h c).2⟩) (Cert.Reference5Ideal.Value.run m' g')
    refine (Cert.Reference5Ideal.Read.val_main_v9_eq _ _).trans (funext fun i => ?_)
    refine (Cert.Reference5Ideal.Own.result_at _ _ i).trans (Eq.trans ?_ (Cert.Kernel5Ideal.Own.result_at m c i).symm)
    rw [(hm c).1, (hm c).2]
    rfl

/-- AdamW of an FFN's first weight. -/
theorem values6 : letI := Cert.Kernel6Ideal.Gen.facts; letI := Cert.Reference6Ideal.Gen.facts
    Cert.algebraic_Kernel6Ideal_Reference6Ideal := by
  intro m g m' g' _ hm
  refine ⟨fun c => Adam.steps (Cert.Kernel6Ideal.Own.wgt m c) (Cert.Kernel6Ideal.Own.grd m c) (Cert.Kernel6Ideal.Own.fst m c) (Cert.Kernel6Ideal.Own.snd m c),
    fun c => Adam.moms (Cert.Kernel6Ideal.Own.grd m c) (Cert.Kernel6Ideal.Own.fst m c), fun c => Adam.vars (Cert.Kernel6Ideal.Own.grd m c) (Cert.Kernel6Ideal.Own.snd m c), ?_, ?_⟩
  · refine (θ_run Cert.Kernel6Ideal.defs _ _).mono (fun r h c => ?_) (Cert.Kernel6Ideal.Value.run_blocks m g)
    obtain ⟨r0, r1, r2, ra⟩ := h c
    exact ⟨r0.trans (Cert.Kernel6Ideal.Own.step_eq m c), r1.trans (Cert.Kernel6Ideal.Own.mom_eq m c), r2.trans (Cert.Kernel6Ideal.Own.var_eq m c), ra⟩
  · refine (θ_run Cert.Reference6Ideal.defs _ _).mono (fun r h c => ?_) (Cert.Reference6Ideal.Value.run m' g')
    obtain ⟨r0, r1, r2, ra⟩ := h c
    obtain ⟨a0, a1, a2, a3⟩ := hm c
    exact ⟨r0.trans ((Cert.Reference6Ideal.Read.val_main_v24_eq _ _ _ _).trans ((Cert.Kernel6Ideal.Own.ref_step _ _ _ _).trans
        (Adam.steps_congr (congrArg Cert.Kernel6Ideal.Own.flat a0) (congrArg Cert.Kernel6Ideal.Own.flat a1) (congrArg Cert.Kernel6Ideal.Own.flat a2) (congrArg Cert.Kernel6Ideal.Own.flat a3)))),
      r1.trans ((Cert.Reference6Ideal.Read.val_main_v25_eq _ _).trans ((Cert.Kernel6Ideal.Own.ref_mom _ _).trans
        (Adam.moms_congr (congrArg Cert.Kernel6Ideal.Own.flat a1) (congrArg Cert.Kernel6Ideal.Own.flat a2)))),
      r2.trans ((Cert.Reference6Ideal.Read.val_main_v26_eq _ _).trans ((Cert.Kernel6Ideal.Own.ref_var _ _).trans
        (Adam.vars_congr (congrArg Cert.Kernel6Ideal.Own.flat a1) (congrArg Cert.Kernel6Ideal.Own.flat a3)))), ra⟩

/-- AdamW of an FFN's second weight. -/
theorem values7 : letI := Cert.Kernel7Ideal.Gen.facts; letI := Cert.Reference7Ideal.Gen.facts
    Cert.algebraic_Kernel7Ideal_Reference7Ideal := by
  intro m g m' g' _ hm
  refine ⟨fun c => Adam.steps (Cert.Kernel7Ideal.Own.wgt m c) (Cert.Kernel7Ideal.Own.grd m c) (Cert.Kernel7Ideal.Own.fst m c) (Cert.Kernel7Ideal.Own.snd m c),
    fun c => Adam.moms (Cert.Kernel7Ideal.Own.grd m c) (Cert.Kernel7Ideal.Own.fst m c), fun c => Adam.vars (Cert.Kernel7Ideal.Own.grd m c) (Cert.Kernel7Ideal.Own.snd m c), ?_, ?_⟩
  · refine (θ_run Cert.Kernel7Ideal.defs _ _).mono (fun r h c => ?_) (Cert.Kernel7Ideal.Value.run_blocks m g)
    obtain ⟨r0, r1, r2, ra⟩ := h c
    exact ⟨r0.trans (Cert.Kernel7Ideal.Own.step_eq m c), r1.trans (Cert.Kernel7Ideal.Own.mom_eq m c), r2.trans (Cert.Kernel7Ideal.Own.var_eq m c), ra⟩
  · refine (θ_run Cert.Reference7Ideal.defs _ _).mono (fun r h c => ?_) (Cert.Reference7Ideal.Value.run m' g')
    obtain ⟨r0, r1, r2, ra⟩ := h c
    obtain ⟨a0, a1, a2, a3⟩ := hm c
    exact ⟨r0.trans ((Cert.Reference7Ideal.Read.val_main_v24_eq _ _ _ _).trans ((Cert.Kernel7Ideal.Own.ref_step _ _ _ _).trans
        (Adam.steps_congr (congrArg Cert.Kernel7Ideal.Own.flat a0) (congrArg Cert.Kernel7Ideal.Own.flat a1) (congrArg Cert.Kernel7Ideal.Own.flat a2) (congrArg Cert.Kernel7Ideal.Own.flat a3)))),
      r1.trans ((Cert.Reference7Ideal.Read.val_main_v25_eq _ _).trans ((Cert.Kernel7Ideal.Own.ref_mom _ _).trans
        (Adam.moms_congr (congrArg Cert.Kernel7Ideal.Own.flat a1) (congrArg Cert.Kernel7Ideal.Own.flat a2)))),
      r2.trans ((Cert.Reference7Ideal.Read.val_main_v26_eq _ _).trans ((Cert.Kernel7Ideal.Own.ref_var _ _).trans
        (Adam.vars_congr (congrArg Cert.Kernel7Ideal.Own.flat a1) (congrArg Cert.Kernel7Ideal.Own.flat a3)))), ra⟩

/-- AdamW of the mixer's two square weights and the gate's. -/
theorem values8 : letI := Cert.Kernel8Ideal.Gen.facts; letI := Cert.Reference8Ideal.Gen.facts
    Cert.algebraic_Kernel8Ideal_Reference8Ideal := by
  intro m g m' g' _ hm
  refine ⟨fun c => Adam.steps (Cert.Kernel8Ideal.Own.wgt m c) (Cert.Kernel8Ideal.Own.grd m c) (Cert.Kernel8Ideal.Own.fst m c) (Cert.Kernel8Ideal.Own.snd m c),
    fun c => Adam.moms (Cert.Kernel8Ideal.Own.grd m c) (Cert.Kernel8Ideal.Own.fst m c), fun c => Adam.vars (Cert.Kernel8Ideal.Own.grd m c) (Cert.Kernel8Ideal.Own.snd m c), ?_, ?_⟩
  · refine (θ_run Cert.Kernel8Ideal.defs _ _).mono (fun r h c => ?_) (Cert.Kernel8Ideal.Value.run_blocks m g)
    obtain ⟨r0, r1, r2, ra⟩ := h c
    exact ⟨r0.trans (Cert.Kernel8Ideal.Own.step_eq m c), r1.trans (Cert.Kernel8Ideal.Own.mom_eq m c), r2.trans (Cert.Kernel8Ideal.Own.var_eq m c), ra⟩
  · refine (θ_run Cert.Reference8Ideal.defs _ _).mono (fun r h c => ?_) (Cert.Reference8Ideal.Value.run m' g')
    obtain ⟨r0, r1, r2, ra⟩ := h c
    obtain ⟨a0, a1, a2, a3⟩ := hm c
    exact ⟨r0.trans ((Cert.Reference8Ideal.Read.val_main_v24_eq _ _ _ _).trans ((Cert.Kernel8Ideal.Own.ref_step _ _ _ _).trans
        (Adam.steps_congr (congrArg Cert.Kernel8Ideal.Own.flat a0) (congrArg Cert.Kernel8Ideal.Own.flat a1) (congrArg Cert.Kernel8Ideal.Own.flat a2) (congrArg Cert.Kernel8Ideal.Own.flat a3)))),
      r1.trans ((Cert.Reference8Ideal.Read.val_main_v25_eq _ _).trans ((Cert.Kernel8Ideal.Own.ref_mom _ _).trans
        (Adam.moms_congr (congrArg Cert.Kernel8Ideal.Own.flat a1) (congrArg Cert.Kernel8Ideal.Own.flat a2)))),
      r2.trans ((Cert.Reference8Ideal.Read.val_main_v26_eq _ _).trans ((Cert.Kernel8Ideal.Own.ref_var _ _).trans
        (Adam.vars_congr (congrArg Cert.Kernel8Ideal.Own.flat a1) (congrArg Cert.Kernel8Ideal.Own.flat a3)))), ra⟩

/-- AdamW of the gated unit's weight. -/
theorem values9 : letI := Cert.Kernel9Ideal.Gen.facts; letI := Cert.Reference9Ideal.Gen.facts
    Cert.algebraic_Kernel9Ideal_Reference9Ideal := by
  intro m g m' g' _ hm
  refine ⟨fun c => Adam.steps (Cert.Kernel9Ideal.Own.wgt m c) (Cert.Kernel9Ideal.Own.grd m c) (Cert.Kernel9Ideal.Own.fst m c) (Cert.Kernel9Ideal.Own.snd m c),
    fun c => Adam.moms (Cert.Kernel9Ideal.Own.grd m c) (Cert.Kernel9Ideal.Own.fst m c), fun c => Adam.vars (Cert.Kernel9Ideal.Own.grd m c) (Cert.Kernel9Ideal.Own.snd m c), ?_, ?_⟩
  · refine (θ_run Cert.Kernel9Ideal.defs _ _).mono (fun r h c => ?_) (Cert.Kernel9Ideal.Value.run_blocks m g)
    obtain ⟨r0, r1, r2, ra⟩ := h c
    exact ⟨r0.trans (Cert.Kernel9Ideal.Own.step_eq m c), r1.trans (Cert.Kernel9Ideal.Own.mom_eq m c), r2.trans (Cert.Kernel9Ideal.Own.var_eq m c), ra⟩
  · refine (θ_run Cert.Reference9Ideal.defs _ _).mono (fun r h c => ?_) (Cert.Reference9Ideal.Value.run m' g')
    obtain ⟨r0, r1, r2, ra⟩ := h c
    obtain ⟨a0, a1, a2, a3⟩ := hm c
    exact ⟨r0.trans ((Cert.Reference9Ideal.Read.val_main_v24_eq _ _ _ _).trans ((Cert.Kernel9Ideal.Own.ref_step _ _ _ _).trans
        (Adam.steps_congr (congrArg Cert.Kernel9Ideal.Own.flat a0) (congrArg Cert.Kernel9Ideal.Own.flat a1) (congrArg Cert.Kernel9Ideal.Own.flat a2) (congrArg Cert.Kernel9Ideal.Own.flat a3)))),
      r1.trans ((Cert.Reference9Ideal.Read.val_main_v25_eq _ _).trans ((Cert.Kernel9Ideal.Own.ref_mom _ _).trans
        (Adam.moms_congr (congrArg Cert.Kernel9Ideal.Own.flat a1) (congrArg Cert.Kernel9Ideal.Own.flat a2)))),
      r2.trans ((Cert.Reference9Ideal.Read.val_main_v26_eq _ _).trans ((Cert.Kernel9Ideal.Own.ref_var _ _).trans
        (Adam.vars_congr (congrArg Cert.Kernel9Ideal.Own.flat a1) (congrArg Cert.Kernel9Ideal.Own.flat a3)))), ra⟩

/-- AdamW of the projection's weight. -/
theorem values10 : letI := Cert.Kernel10Ideal.Gen.facts; letI := Cert.Reference10Ideal.Gen.facts
    Cert.algebraic_Kernel10Ideal_Reference10Ideal := by
  intro m g m' g' _ hm
  refine ⟨fun c => Adam.steps (Cert.Kernel10Ideal.Own.wgt m c) (Cert.Kernel10Ideal.Own.grd m c) (Cert.Kernel10Ideal.Own.fst m c) (Cert.Kernel10Ideal.Own.snd m c),
    fun c => Adam.moms (Cert.Kernel10Ideal.Own.grd m c) (Cert.Kernel10Ideal.Own.fst m c), fun c => Adam.vars (Cert.Kernel10Ideal.Own.grd m c) (Cert.Kernel10Ideal.Own.snd m c), ?_, ?_⟩
  · refine (θ_run Cert.Kernel10Ideal.defs _ _).mono (fun r h c => ?_) (Cert.Kernel10Ideal.Value.run_blocks m g)
    obtain ⟨r0, r1, r2, ra⟩ := h c
    exact ⟨r0.trans (Cert.Kernel10Ideal.Own.step_eq m c), r1.trans (Cert.Kernel10Ideal.Own.mom_eq m c), r2.trans (Cert.Kernel10Ideal.Own.var_eq m c), ra⟩
  · refine (θ_run Cert.Reference10Ideal.defs _ _).mono (fun r h c => ?_) (Cert.Reference10Ideal.Value.run m' g')
    obtain ⟨r0, r1, r2, ra⟩ := h c
    obtain ⟨a0, a1, a2, a3⟩ := hm c
    exact ⟨r0.trans ((Cert.Reference10Ideal.Read.val_main_v24_eq _ _ _ _).trans ((Cert.Kernel10Ideal.Own.ref_step _ _ _ _).trans
        (Adam.steps_congr (congrArg Cert.Kernel10Ideal.Own.flat a0) (congrArg Cert.Kernel10Ideal.Own.flat a1) (congrArg Cert.Kernel10Ideal.Own.flat a2) (congrArg Cert.Kernel10Ideal.Own.flat a3)))),
      r1.trans ((Cert.Reference10Ideal.Read.val_main_v25_eq _ _).trans ((Cert.Kernel10Ideal.Own.ref_mom _ _).trans
        (Adam.moms_congr (congrArg Cert.Kernel10Ideal.Own.flat a1) (congrArg Cert.Kernel10Ideal.Own.flat a2)))),
      r2.trans ((Cert.Reference10Ideal.Read.val_main_v26_eq _ _).trans ((Cert.Kernel10Ideal.Own.ref_var _ _).trans
        (Adam.vars_congr (congrArg Cert.Kernel10Ideal.Own.flat a1) (congrArg Cert.Kernel10Ideal.Own.flat a3)))), ra⟩

/-- AdamW of the small weights. -/
theorem values11 :
    letI := Cert.Kernel11Ideal.Gen.facts
    letI := Cert.Reference11Ideal.Gen.facts
    Cert.algebraic_Kernel11Ideal_Reference11Ideal := by
  intro m g m' g' _ hm
  refine ⟨fun c => Adam.steps (Kernel11Ideal.Own.arg m c Kernel11Ideal.main_arg0) (Kernel11Ideal.Own.arg m c Kernel11Ideal.main_arg15) (Kernel11Ideal.Own.arg m c Kernel11Ideal.main_arg30) (Kernel11Ideal.Own.arg m c Kernel11Ideal.main_arg45),
    fun c => Adam.steps (Kernel11Ideal.Own.arg m c Kernel11Ideal.main_arg1) (Kernel11Ideal.Own.arg m c Kernel11Ideal.main_arg16) (Kernel11Ideal.Own.arg m c Kernel11Ideal.main_arg31) (Kernel11Ideal.Own.arg m c Kernel11Ideal.main_arg46),
    fun c => Adam.steps (Kernel11Ideal.Own.arg m c Kernel11Ideal.main_arg2) (Kernel11Ideal.Own.arg m c Kernel11Ideal.main_arg17) (Kernel11Ideal.Own.arg m c Kernel11Ideal.main_arg32) (Kernel11Ideal.Own.arg m c Kernel11Ideal.main_arg47),
    fun c => Adam.steps (Kernel11Ideal.Own.arg m c Kernel11Ideal.main_arg3) (Kernel11Ideal.Own.arg m c Kernel11Ideal.main_arg18) (Kernel11Ideal.Own.arg m c Kernel11Ideal.main_arg33) (Kernel11Ideal.Own.arg m c Kernel11Ideal.main_arg48),
    fun c => Adam.steps (Kernel11Ideal.Own.arg m c Kernel11Ideal.main_arg4) (Kernel11Ideal.Own.arg m c Kernel11Ideal.main_arg19) (Kernel11Ideal.Own.arg m c Kernel11Ideal.main_arg34) (Kernel11Ideal.Own.arg m c Kernel11Ideal.main_arg49),
    fun c => Adam.steps (Kernel11Ideal.Own.arg m c Kernel11Ideal.main_arg5) (Kernel11Ideal.Own.arg m c Kernel11Ideal.main_arg20) (Kernel11Ideal.Own.arg m c Kernel11Ideal.main_arg35) (Kernel11Ideal.Own.arg m c Kernel11Ideal.main_arg50),
    fun c => Adam.steps (Kernel11Ideal.Own.arg m c Kernel11Ideal.main_arg6) (Kernel11Ideal.Own.arg m c Kernel11Ideal.main_arg21) (Kernel11Ideal.Own.arg m c Kernel11Ideal.main_arg36) (Kernel11Ideal.Own.arg m c Kernel11Ideal.main_arg51),
    fun c => Adam.steps (Kernel11Ideal.Own.arg m c Kernel11Ideal.main_arg7) (Kernel11Ideal.Own.arg m c Kernel11Ideal.main_arg22) (Kernel11Ideal.Own.arg m c Kernel11Ideal.main_arg37) (Kernel11Ideal.Own.arg m c Kernel11Ideal.main_arg52),
    fun c => Adam.steps (Kernel11Ideal.Own.arg m c Kernel11Ideal.main_arg8) (Kernel11Ideal.Own.arg m c Kernel11Ideal.main_arg23) (Kernel11Ideal.Own.arg m c Kernel11Ideal.main_arg38) (Kernel11Ideal.Own.arg m c Kernel11Ideal.main_arg53),
    fun c => Adam.steps (Kernel11Ideal.Own.arg m c Kernel11Ideal.main_arg9) (Kernel11Ideal.Own.arg m c Kernel11Ideal.main_arg24) (Kernel11Ideal.Own.arg m c Kernel11Ideal.main_arg39) (Kernel11Ideal.Own.arg m c Kernel11Ideal.main_arg54),
    fun c => Adam.steps (Kernel11Ideal.Own.arg m c Kernel11Ideal.main_arg10) (Kernel11Ideal.Own.arg m c Kernel11Ideal.main_arg25) (Kernel11Ideal.Own.arg m c Kernel11Ideal.main_arg40) (Kernel11Ideal.Own.arg m c Kernel11Ideal.main_arg55),
    fun c => Adam.steps (Kernel11Ideal.Own.arg m c Kernel11Ideal.main_arg11) (Kernel11Ideal.Own.arg m c Kernel11Ideal.main_arg26) (Kernel11Ideal.Own.arg m c Kernel11Ideal.main_arg41) (Kernel11Ideal.Own.arg m c Kernel11Ideal.main_arg56),
    fun c => Adam.steps (Kernel11Ideal.Own.arg m c Kernel11Ideal.main_arg12) (Kernel11Ideal.Own.arg m c Kernel11Ideal.main_arg27) (Kernel11Ideal.Own.arg m c Kernel11Ideal.main_arg42) (Kernel11Ideal.Own.arg m c Kernel11Ideal.main_arg57),
    fun c => Adam.steps (Kernel11Ideal.Own.arg m c Kernel11Ideal.main_arg13) (Kernel11Ideal.Own.arg m c Kernel11Ideal.main_arg28) (Kernel11Ideal.Own.arg m c Kernel11Ideal.main_arg43) (Kernel11Ideal.Own.arg m c Kernel11Ideal.main_arg58),
    fun c => Adam.steps (Kernel11Ideal.Own.arg m c Kernel11Ideal.main_arg14) (Kernel11Ideal.Own.arg m c Kernel11Ideal.main_arg29) (Kernel11Ideal.Own.arg m c Kernel11Ideal.main_arg44) (Kernel11Ideal.Own.arg m c Kernel11Ideal.main_arg59),
    fun c => Adam.moms (Kernel11Ideal.Own.arg m c Kernel11Ideal.main_arg15) (Kernel11Ideal.Own.arg m c Kernel11Ideal.main_arg30),
    fun c => Adam.moms (Kernel11Ideal.Own.arg m c Kernel11Ideal.main_arg16) (Kernel11Ideal.Own.arg m c Kernel11Ideal.main_arg31),
    fun c => Adam.moms (Kernel11Ideal.Own.arg m c Kernel11Ideal.main_arg17) (Kernel11Ideal.Own.arg m c Kernel11Ideal.main_arg32),
    fun c => Adam.moms (Kernel11Ideal.Own.arg m c Kernel11Ideal.main_arg18) (Kernel11Ideal.Own.arg m c Kernel11Ideal.main_arg33),
    fun c => Adam.moms (Kernel11Ideal.Own.arg m c Kernel11Ideal.main_arg19) (Kernel11Ideal.Own.arg m c Kernel11Ideal.main_arg34),
    fun c => Adam.moms (Kernel11Ideal.Own.arg m c Kernel11Ideal.main_arg20) (Kernel11Ideal.Own.arg m c Kernel11Ideal.main_arg35),
    fun c => Adam.moms (Kernel11Ideal.Own.arg m c Kernel11Ideal.main_arg21) (Kernel11Ideal.Own.arg m c Kernel11Ideal.main_arg36),
    fun c => Adam.moms (Kernel11Ideal.Own.arg m c Kernel11Ideal.main_arg22) (Kernel11Ideal.Own.arg m c Kernel11Ideal.main_arg37),
    fun c => Adam.moms (Kernel11Ideal.Own.arg m c Kernel11Ideal.main_arg23) (Kernel11Ideal.Own.arg m c Kernel11Ideal.main_arg38),
    fun c => Adam.moms (Kernel11Ideal.Own.arg m c Kernel11Ideal.main_arg24) (Kernel11Ideal.Own.arg m c Kernel11Ideal.main_arg39),
    fun c => Adam.moms (Kernel11Ideal.Own.arg m c Kernel11Ideal.main_arg25) (Kernel11Ideal.Own.arg m c Kernel11Ideal.main_arg40),
    fun c => Adam.moms (Kernel11Ideal.Own.arg m c Kernel11Ideal.main_arg26) (Kernel11Ideal.Own.arg m c Kernel11Ideal.main_arg41),
    fun c => Adam.moms (Kernel11Ideal.Own.arg m c Kernel11Ideal.main_arg27) (Kernel11Ideal.Own.arg m c Kernel11Ideal.main_arg42),
    fun c => Adam.moms (Kernel11Ideal.Own.arg m c Kernel11Ideal.main_arg28) (Kernel11Ideal.Own.arg m c Kernel11Ideal.main_arg43),
    fun c => Adam.moms (Kernel11Ideal.Own.arg m c Kernel11Ideal.main_arg29) (Kernel11Ideal.Own.arg m c Kernel11Ideal.main_arg44),
    fun c => Adam.vars (Kernel11Ideal.Own.arg m c Kernel11Ideal.main_arg15) (Kernel11Ideal.Own.arg m c Kernel11Ideal.main_arg45),
    fun c => Adam.vars (Kernel11Ideal.Own.arg m c Kernel11Ideal.main_arg16) (Kernel11Ideal.Own.arg m c Kernel11Ideal.main_arg46),
    fun c => Adam.vars (Kernel11Ideal.Own.arg m c Kernel11Ideal.main_arg17) (Kernel11Ideal.Own.arg m c Kernel11Ideal.main_arg47),
    fun c => Adam.vars (Kernel11Ideal.Own.arg m c Kernel11Ideal.main_arg18) (Kernel11Ideal.Own.arg m c Kernel11Ideal.main_arg48),
    fun c => Adam.vars (Kernel11Ideal.Own.arg m c Kernel11Ideal.main_arg19) (Kernel11Ideal.Own.arg m c Kernel11Ideal.main_arg49),
    fun c => Adam.vars (Kernel11Ideal.Own.arg m c Kernel11Ideal.main_arg20) (Kernel11Ideal.Own.arg m c Kernel11Ideal.main_arg50),
    fun c => Adam.vars (Kernel11Ideal.Own.arg m c Kernel11Ideal.main_arg21) (Kernel11Ideal.Own.arg m c Kernel11Ideal.main_arg51),
    fun c => Adam.vars (Kernel11Ideal.Own.arg m c Kernel11Ideal.main_arg22) (Kernel11Ideal.Own.arg m c Kernel11Ideal.main_arg52),
    fun c => Adam.vars (Kernel11Ideal.Own.arg m c Kernel11Ideal.main_arg23) (Kernel11Ideal.Own.arg m c Kernel11Ideal.main_arg53),
    fun c => Adam.vars (Kernel11Ideal.Own.arg m c Kernel11Ideal.main_arg24) (Kernel11Ideal.Own.arg m c Kernel11Ideal.main_arg54),
    fun c => Adam.vars (Kernel11Ideal.Own.arg m c Kernel11Ideal.main_arg25) (Kernel11Ideal.Own.arg m c Kernel11Ideal.main_arg55),
    fun c => Adam.vars (Kernel11Ideal.Own.arg m c Kernel11Ideal.main_arg26) (Kernel11Ideal.Own.arg m c Kernel11Ideal.main_arg56),
    fun c => Adam.vars (Kernel11Ideal.Own.arg m c Kernel11Ideal.main_arg27) (Kernel11Ideal.Own.arg m c Kernel11Ideal.main_arg57),
    fun c => Adam.vars (Kernel11Ideal.Own.arg m c Kernel11Ideal.main_arg28) (Kernel11Ideal.Own.arg m c Kernel11Ideal.main_arg58),
    fun c => Adam.vars (Kernel11Ideal.Own.arg m c Kernel11Ideal.main_arg29) (Kernel11Ideal.Own.arg m c Kernel11Ideal.main_arg59), Kernel11Ideal.Own.run m g, ?_⟩
  refine (θ_run Cert.Reference11Ideal.defs _ _).mono (fun r h c => ?_) (Reference11Ideal.Own.run m' g')
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59⟩ := hm c
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, ra⟩ := h c
  exact ⟨r0.trans (Adam.steps_congr a0 a15 a30 a45),
    r1.trans (Adam.steps_congr a1 a16 a31 a46),
    r2.trans (Adam.steps_congr a2 a17 a32 a47),
    r3.trans (Adam.steps_congr a3 a18 a33 a48),
    r4.trans (Adam.steps_congr a4 a19 a34 a49),
    r5.trans (Adam.steps_congr a5 a20 a35 a50),
    r6.trans (Adam.steps_congr a6 a21 a36 a51),
    r7.trans (Adam.steps_congr a7 a22 a37 a52),
    r8.trans (Adam.steps_congr a8 a23 a38 a53),
    r9.trans (Adam.steps_congr a9 a24 a39 a54),
    r10.trans (Adam.steps_congr a10 a25 a40 a55),
    r11.trans (Adam.steps_congr a11 a26 a41 a56),
    r12.trans (Adam.steps_congr a12 a27 a42 a57),
    r13.trans (Adam.steps_congr a13 a28 a43 a58),
    r14.trans (Adam.steps_congr a14 a29 a44 a59),
    r15.trans (Adam.moms_congr a15 a30),
    r16.trans (Adam.moms_congr a16 a31),
    r17.trans (Adam.moms_congr a17 a32),
    r18.trans (Adam.moms_congr a18 a33),
    r19.trans (Adam.moms_congr a19 a34),
    r20.trans (Adam.moms_congr a20 a35),
    r21.trans (Adam.moms_congr a21 a36),
    r22.trans (Adam.moms_congr a22 a37),
    r23.trans (Adam.moms_congr a23 a38),
    r24.trans (Adam.moms_congr a24 a39),
    r25.trans (Adam.moms_congr a25 a40),
    r26.trans (Adam.moms_congr a26 a41),
    r27.trans (Adam.moms_congr a27 a42),
    r28.trans (Adam.moms_congr a28 a43),
    r29.trans (Adam.moms_congr a29 a44),
    r30.trans (Adam.vars_congr a15 a45),
    r31.trans (Adam.vars_congr a16 a46),
    r32.trans (Adam.vars_congr a17 a47),
    r33.trans (Adam.vars_congr a18 a48),
    r34.trans (Adam.vars_congr a19 a49),
    r35.trans (Adam.vars_congr a20 a50),
    r36.trans (Adam.vars_congr a21 a51),
    r37.trans (Adam.vars_congr a22 a52),
    r38.trans (Adam.vars_congr a23 a53),
    r39.trans (Adam.vars_congr a24 a54),
    r40.trans (Adam.vars_congr a25 a55),
    r41.trans (Adam.vars_congr a26 a56),
    r42.trans (Adam.vars_congr a27 a57),
    r43.trans (Adam.vars_congr a28 a58),
    r44.trans (Adam.vars_congr a29 a59), ra⟩

/-- The gradient by the rows before the first norm. -/
theorem values12 : letI := Cert.Kernel12Ideal.Gen.facts; letI := Cert.Reference12Ideal.Gen.facts; letI := Cert.Own12.preFacts12
    Cert.algebraic_Kernel12Ideal_Reference12Ideal_pre_finite12 := by
  intro m g m' g' hp hm
  refine ⟨fun c i => Cert.NormBwd.grad (Cert.Kernel12Ideal.Own.dxn m c) (Cert.Kernel12Ideal.Own.hid m c) (Cert.Kernel12Ideal.Own.gain m c)
      (Cert.Kernel12Ideal.Own.res m c) (i 0).val (i 1).val, ?_, ?_⟩
  · refine (θ_run Cert.Kernel12Ideal.defs _ _).mono (fun r h c => ?_) (Cert.Kernel12Ideal.Value.run_blocks m g)
    exact ⟨(h c).1.trans (Cert.Kernel12Ideal.Own.result_eq m c), (h c).2.2.2⟩
  · refine (θ_run Cert.Reference12Ideal.defs _ _).mono (fun r h c => ⟨(h c).1.trans ?_, (h c).2⟩) (Cert.Reference12Ideal.Value.run m' g')
    refine (Cert.Reference12Ideal.Read.val_main_v32_eq _ _ _ _).trans (funext fun i => ?_)
    rw [(hm c).1, (hm c).2.1, (hm c).2.2.1, (hm c).2.2.2]
    exact Cert.Reference12Ideal.Own.grad_at _ _ _ _ (Cert.Own12.dxn_real m c hp) (Cert.Own12.hid_real m c hp) (Cert.Own12.gain_real m c hp) i

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    preFacts,
    preFacts2,
    Cert.Own12.preFacts12,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Own.frame m ρ,
    fun m ρ _ => Cert.ReferenceIdeal.Own.frame m ρ,
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono (fun r h => ⟨fun c => (h c).2.2, sem_eq_zero_of_no_sems rfl r.2⟩) (Cert.Reference2Ideal.Value.run m ρ),
    fun m ρ _ => (θ_run Cert.Reference2Ideal.defs _ _).mono (fun r h => ⟨fun c => (h c).2.2, sem_eq_zero_of_no_sems rfl r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems rfl r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems rfl r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems rfl r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2.2, sem_eq_zero_of_no_sems rfl r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2.2.2, sem_eq_zero_of_no_sems rfl r.2⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2.2.2, sem_eq_zero_of_no_sems rfl r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2.2.2, sem_eq_zero_of_no_sems rfl r.2⟩) (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono (fun r h => ⟨fun c => (h c).2.2.2, sem_eq_zero_of_no_sems rfl r.2⟩) (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono (fun r h => ⟨fun c => (h c).2.2.2.2.2.2.2.2.2.2.2.2.2.2.2.2.2.2.2.2.2.2.2.2.2.2.2.2.2.2.2.2.2.2.2.2.2.2.2.2.2.2.2.2.2, sem_eq_zero_of_no_sems rfl r.2⟩) (Cert.Reference11Ideal.Own.run m ρ),
    fun m ρ _ => Cert.Kernel12.Gen.frame m ρ,
    fun m ρ _ => Cert.Kernel12Ideal.Gen.frame m ρ,
    fun m ρ _ => Cert.Kernel12Ideal.Gen.frame m ρ,
    fun m ρ _ => (θ_run Cert.Reference12Ideal.defs _ _).mono (fun r h => ⟨fun c => (h c).2, sem_eq_zero_of_no_sems rfl r.2⟩) (Cert.Reference12Ideal.Value.run m ρ),
    fun m ρ _ => (θ_run Cert.Reference12Ideal.defs _ _).mono (fun r h => ⟨fun c => (h c).2, sem_eq_zero_of_no_sems rfl r.2⟩) (Cert.Reference12Ideal.Value.run m ρ),
    trivial,
    values,
    trivial,
    values2,
    trivial,
    values3,
    trivial,
    values4,
    trivial,
    values5,
    trivial,
    values6,
    trivial,
    values7,
    trivial,
    values8,
    trivial,
    values9,
    trivial,
    values10,
    trivial,
    values11,
    trivial,
    values12⟩

end Cert.Proof
